-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_NormDy (m : (ℓ : Loc Cert.NormDy.nD Cert.NormDy.τ Cert.NormDy.sig) → Buf (Elt Bits) ℓ) : Prop :=
  True

def Pre_NormDyIdeal (m : (ℓ : Loc Cert.NormDyIdeal.nD Cert.NormDyIdeal.τ Cert.NormDyIdeal.sig) → Buf (Elt Ideal) ℓ) : Prop :=
  True

def Pre_NormDyIdeal_normdy_finite [hPre_normdy_finite : Cert.Pre_normdy_finite.Facts] (m : (ℓ : Loc Cert.NormDyIdeal.nD Cert.NormDyIdeal.τ Cert.NormDyIdeal.sig) → Buf (Elt Ideal) ℓ) : Prop :=
  ∀ c : Dev Cert.NormDyIdeal.nD,
    (Cert.Pre_normdy_finite.fn (F := Ideal) (m ((c.tc : Thread Cert.NormDyIdeal.nD Cert.NormDyIdeal.τ).loc Cert.NormDyIdeal.main_arg0)) (m ((c.tc : Thread Cert.NormDyIdeal.nD Cert.NormDyIdeal.τ).loc Cert.NormDyIdeal.main_arg1)) (m ((c.tc : Thread Cert.NormDyIdeal.nD Cert.NormDyIdeal.τ).loc Cert.NormDyIdeal.main_arg2)) (m ((c.tc : Thread Cert.NormDyIdeal.nD Cert.NormDyIdeal.τ).loc Cert.NormDyIdeal.main_arg3)) (m ((c.tc : Thread Cert.NormDyIdeal.nD Cert.NormDyIdeal.τ).loc Cert.NormDyIdeal.main_arg4))) = (fun _ => 1#1)

def Pre_NormDyRefIdeal (m : (ℓ : Loc Cert.NormDyRefIdeal.nD Cert.NormDyRefIdeal.τ Cert.NormDyRefIdeal.sig) → Buf (Elt Ideal) ℓ) : Prop :=
  True

def Pre_NormDyRefIdeal_normdy_finite [hPre_normdy_finite : Cert.Pre_normdy_finite.Facts] (m : (ℓ : Loc Cert.NormDyRefIdeal.nD Cert.NormDyRefIdeal.τ Cert.NormDyRefIdeal.sig) → Buf (Elt Ideal) ℓ) : Prop :=
  ∀ c : Dev Cert.NormDyRefIdeal.nD,
    (Cert.Pre_normdy_finite.fn (F := Ideal) (m ((c.tc : Thread Cert.NormDyRefIdeal.nD Cert.NormDyRefIdeal.τ).loc Cert.NormDyRefIdeal.main_arg0)) (m ((c.tc : Thread Cert.NormDyRefIdeal.nD Cert.NormDyRefIdeal.τ).loc Cert.NormDyRefIdeal.main_arg1)) (m ((c.tc : Thread Cert.NormDyRefIdeal.nD Cert.NormDyRefIdeal.τ).loc Cert.NormDyRefIdeal.main_arg2)) (m ((c.tc : Thread Cert.NormDyRefIdeal.nD Cert.NormDyRefIdeal.τ).loc Cert.NormDyRefIdeal.main_arg3)) (m ((c.tc : Thread Cert.NormDyRefIdeal.nD Cert.NormDyRefIdeal.τ).loc Cert.NormDyRefIdeal.main_arg4))) = (fun _ => 1#1)

def Pre_Dff2 (m : (ℓ : Loc Cert.Dff2.nD Cert.Dff2.τ Cert.Dff2.sig) → Buf (Elt Bits) ℓ) : Prop :=
  True

def Pre_Dff2Ideal (m : (ℓ : Loc Cert.Dff2Ideal.nD Cert.Dff2Ideal.τ Cert.Dff2Ideal.sig) → Buf (Elt Ideal) ℓ) : Prop :=
  True

def Pre_Dff2RefIdeal (m : (ℓ : Loc Cert.Dff2RefIdeal.nD Cert.Dff2RefIdeal.τ Cert.Dff2RefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_mixer_finite [hPre_mixer_finite : Cert.Pre_mixer_finite.Facts] (m : (ℓ : Loc Cert.MixerIdeal.nD Cert.MixerIdeal.τ Cert.MixerIdeal.sig) → Buf (Elt Ideal) ℓ) : Prop :=
  ∀ c : Dev Cert.MixerIdeal.nD,
    (Cert.Pre_mixer_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_mixer_finite [hPre_mixer_finite : Cert.Pre_mixer_finite.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_mixer_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6))) = (fun _ => 1#1)

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_SumParts (m : (ℓ : Loc Cert.SumParts.nD Cert.SumParts.τ Cert.SumParts.sig) → Buf (Elt Bits) ℓ) : Prop :=
  True

def Pre_SumPartsIdeal (m : (ℓ : Loc Cert.SumPartsIdeal.nD Cert.SumPartsIdeal.τ Cert.SumPartsIdeal.sig) → Buf (Elt Ideal) ℓ) : Prop :=
  True

def Pre_SumPartsRefIdeal (m : (ℓ : Loc Cert.SumPartsRefIdeal.nD Cert.SumPartsRefIdeal.τ Cert.SumPartsRefIdeal.sig) → Buf (Elt Ideal) ℓ) : Prop :=
  True

def Pre_ToCols (m : (ℓ : Loc Cert.ToCols.nD Cert.ToCols.τ Cert.ToCols.sig) → Buf (Elt Bits) ℓ) : Prop :=
  True

def Pre_ToColsIdeal (m : (ℓ : Loc Cert.ToColsIdeal.nD Cert.ToColsIdeal.τ Cert.ToColsIdeal.sig) → Buf (Elt Ideal) ℓ) : Prop :=
  True

def Pre_ToColsRefIdeal (m : (ℓ : Loc Cert.ToColsRefIdeal.nD Cert.ToColsRefIdeal.τ Cert.ToColsRefIdeal.sig) → Buf (Elt Ideal) ℓ) : Prop :=
  True

def Pre_ToShards (m : (ℓ : Loc Cert.ToShards.nD Cert.ToShards.τ Cert.ToShards.sig) → Buf (Elt Bits) ℓ) : Prop :=
  True

def Pre_ToShardsIdeal (m : (ℓ : Loc Cert.ToShardsIdeal.nD Cert.ToShardsIdeal.τ Cert.ToShardsIdeal.sig) → Buf (Elt Ideal) ℓ) : Prop :=
  True

def Pre_ToShardsRefIdeal (m : (ℓ : Loc Cert.ToShardsRefIdeal.nD Cert.ToShardsRefIdeal.τ Cert.ToShardsRefIdeal.sig) → Buf (Elt Ideal) ℓ) : Prop :=
  True

def Pre_AdamSmallA (m : (ℓ : Loc Cert.AdamSmallA.nD Cert.AdamSmallA.τ Cert.AdamSmallA.sig) → Buf (Elt Bits) ℓ) : Prop :=
  True

def Pre_AdamSmallAIdeal (m : (ℓ : Loc Cert.AdamSmallAIdeal.nD Cert.AdamSmallAIdeal.τ Cert.AdamSmallAIdeal.sig) → Buf (Elt Ideal) ℓ) : Prop :=
  True

def Pre_AdamSmallARefIdeal (m : (ℓ : Loc Cert.AdamSmallARefIdeal.nD Cert.AdamSmallARefIdeal.τ Cert.AdamSmallARefIdeal.sig) → Buf (Elt Ideal) ℓ) : Prop :=
  True

def Pre_AdamSmallB (m : (ℓ : Loc Cert.AdamSmallB.nD Cert.AdamSmallB.τ Cert.AdamSmallB.sig) → Buf (Elt Bits) ℓ) : Prop :=
  True

def Pre_AdamSmallBIdeal (m : (ℓ : Loc Cert.AdamSmallBIdeal.nD Cert.AdamSmallBIdeal.τ Cert.AdamSmallBIdeal.sig) → Buf (Elt Ideal) ℓ) : Prop :=
  True

def Pre_AdamSmallBRefIdeal (m : (ℓ : Loc Cert.AdamSmallBRefIdeal.nD Cert.AdamSmallBRefIdeal.τ Cert.AdamSmallBRefIdeal.sig) → Buf (Elt Ideal) ℓ) : Prop :=
  True

def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuRefIdeal (m : (ℓ : Loc Cert.DuRefIdeal.nD Cert.DuRefIdeal.τ Cert.DuRefIdeal.sig) → Buf (Elt Ideal) ℓ) : Prop :=
  True

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_NormDy [hNormDy : Cert.NormDy.Facts] : Prop :=
  ∀ (m : (ℓ : Loc Cert.NormDy.nD Cert.NormDy.τ Cert.NormDy.sig) → Buf (Elt Bits) ℓ) (g : Dev Cert.NormDy.nD → PrngReg), Pre_NormDy m →
    θ_run (Cert.NormDy.defs (F := Bits)) (onTc (τ := Cert.NormDy.τ) (Cert.NormDy.main (F := Bits))) ⟨m, fun _ => 0, g⟩ (fun r => (∀ c : Dev Cert.NormDy.nD,
      r.2.mem ((c.tc : Thread Cert.NormDy.nD Cert.NormDy.τ).loc Cert.NormDy.main_arg0) = m ((c.tc : Thread Cert.NormDy.nD Cert.NormDy.τ).loc Cert.NormDy.main_arg0)
      ∧ r.2.mem ((c.tc : Thread Cert.NormDy.nD Cert.NormDy.τ).loc Cert.NormDy.main_arg1) = m ((c.tc : Thread Cert.NormDy.nD Cert.NormDy.τ).loc Cert.NormDy.main_arg1)
      ∧ r.2.mem ((c.tc : Thread Cert.NormDy.nD Cert.NormDy.τ).loc Cert.NormDy.main_arg2) = m ((c.tc : Thread Cert.NormDy.nD Cert.NormDy.τ).loc Cert.NormDy.main_arg2)
      ∧ r.2.mem ((c.tc : Thread Cert.NormDy.nD Cert.NormDy.τ).loc Cert.NormDy.main_arg3) = m ((c.tc : Thread Cert.NormDy.nD Cert.NormDy.τ).loc Cert.NormDy.main_arg3)
      ∧ r.2.mem ((c.tc : Thread Cert.NormDy.nD Cert.NormDy.τ).loc Cert.NormDy.main_arg4) = m ((c.tc : Thread Cert.NormDy.nD Cert.NormDy.τ).loc Cert.NormDy.main_arg4))
      ∧ r.2.sem = fun _ => 0)

def quiescent_NormDyIdeal [hNormDyIdeal : Cert.NormDyIdeal.Facts] : Prop :=
  ∀ (m : (ℓ : Loc Cert.NormDyIdeal.nD Cert.NormDyIdeal.τ Cert.NormDyIdeal.sig) → Buf (Elt Ideal) ℓ) (g : Dev Cert.NormDyIdeal.nD → PrngReg), Pre_NormDyIdeal m →
    θ_run (Cert.NormDyIdeal.defs (F := Ideal)) (onTc (τ := Cert.NormDyIdeal.τ) (Cert.NormDyIdeal.main (F := Ideal))) ⟨m, fun _ => 0, g⟩ (fun r => (∀ c : Dev Cert.NormDyIdeal.nD,
      r.2.mem ((c.tc : Thread Cert.NormDyIdeal.nD Cert.NormDyIdeal.τ).loc Cert.NormDyIdeal.main_arg0) = m ((c.tc : Thread Cert.NormDyIdeal.nD Cert.NormDyIdeal.τ).loc Cert.NormDyIdeal.main_arg0)
      ∧ r.2.mem ((c.tc : Thread Cert.NormDyIdeal.nD Cert.NormDyIdeal.τ).loc Cert.NormDyIdeal.main_arg1) = m ((c.tc : Thread Cert.NormDyIdeal.nD Cert.NormDyIdeal.τ).loc Cert.NormDyIdeal.main_arg1)
      ∧ r.2.mem ((c.tc : Thread Cert.NormDyIdeal.nD Cert.NormDyIdeal.τ).loc Cert.NormDyIdeal.main_arg2) = m ((c.tc : Thread Cert.NormDyIdeal.nD Cert.NormDyIdeal.τ).loc Cert.NormDyIdeal.main_arg2)
      ∧ r.2.mem ((c.tc : Thread Cert.NormDyIdeal.nD Cert.NormDyIdeal.τ).loc Cert.NormDyIdeal.main_arg3) = m ((c.tc : Thread Cert.NormDyIdeal.nD Cert.NormDyIdeal.τ).loc Cert.NormDyIdeal.main_arg3)
      ∧ r.2.mem ((c.tc : Thread Cert.NormDyIdeal.nD Cert.NormDyIdeal.τ).loc Cert.NormDyIdeal.main_arg4) = m ((c.tc : Thread Cert.NormDyIdeal.nD Cert.NormDyIdeal.τ).loc Cert.NormDyIdeal.main_arg4))
      ∧ r.2.sem = fun _ => 0)

def quiescent_NormDyIdeal_pre_normdy_finite [hNormDyIdeal : Cert.NormDyIdeal.Facts] [hPre_normdy_finite : Cert.Pre_normdy_finite.Facts] : Prop :=
  ∀ (m : (ℓ : Loc Cert.NormDyIdeal.nD Cert.NormDyIdeal.τ Cert.NormDyIdeal.sig) → Buf (Elt Ideal) ℓ) (g : Dev Cert.NormDyIdeal.nD → PrngReg), Pre_NormDyIdeal_normdy_finite m →
    θ_run (Cert.NormDyIdeal.defs (F := Ideal)) (onTc (τ := Cert.NormDyIdeal.τ) (Cert.NormDyIdeal.main (F := Ideal))) ⟨m, fun _ => 0, g⟩ (fun r => (∀ c : Dev Cert.NormDyIdeal.nD,
      r.2.mem ((c.tc : Thread Cert.NormDyIdeal.nD Cert.NormDyIdeal.τ).loc Cert.NormDyIdeal.main_arg0) = m ((c.tc : Thread Cert.NormDyIdeal.nD Cert.NormDyIdeal.τ).loc Cert.NormDyIdeal.main_arg0)
      ∧ r.2.mem ((c.tc : Thread Cert.NormDyIdeal.nD Cert.NormDyIdeal.τ).loc Cert.NormDyIdeal.main_arg1) = m ((c.tc : Thread Cert.NormDyIdeal.nD Cert.NormDyIdeal.τ).loc Cert.NormDyIdeal.main_arg1)
      ∧ r.2.mem ((c.tc : Thread Cert.NormDyIdeal.nD Cert.NormDyIdeal.τ).loc Cert.NormDyIdeal.main_arg2) = m ((c.tc : Thread Cert.NormDyIdeal.nD Cert.NormDyIdeal.τ).loc Cert.NormDyIdeal.main_arg2)
      ∧ r.2.mem ((c.tc : Thread Cert.NormDyIdeal.nD Cert.NormDyIdeal.τ).loc Cert.NormDyIdeal.main_arg3) = m ((c.tc : Thread Cert.NormDyIdeal.nD Cert.NormDyIdeal.τ).loc Cert.NormDyIdeal.main_arg3)
      ∧ r.2.mem ((c.tc : Thread Cert.NormDyIdeal.nD Cert.NormDyIdeal.τ).loc Cert.NormDyIdeal.main_arg4) = m ((c.tc : Thread Cert.NormDyIdeal.nD Cert.NormDyIdeal.τ).loc Cert.NormDyIdeal.main_arg4))
      ∧ r.2.sem = fun _ => 0)

def quiescent_NormDyRefIdeal [hNormDyRefIdeal : Cert.NormDyRefIdeal.Facts] : Prop :=
  ∀ (m : (ℓ : Loc Cert.NormDyRefIdeal.nD Cert.NormDyRefIdeal.τ Cert.NormDyRefIdeal.sig) → Buf (Elt Ideal) ℓ) (g : Dev Cert.NormDyRefIdeal.nD → PrngReg), Pre_NormDyRefIdeal m →
    θ_run (Cert.NormDyRefIdeal.defs (F := Ideal)) (onTc (τ := Cert.NormDyRefIdeal.τ) (Cert.NormDyRefIdeal.main (F := Ideal))) ⟨m, fun _ => 0, g⟩ (fun r => (∀ c : Dev Cert.NormDyRefIdeal.nD,
      r.2.mem ((c.tc : Thread Cert.NormDyRefIdeal.nD Cert.NormDyRefIdeal.τ).loc Cert.NormDyRefIdeal.main_arg0) = m ((c.tc : Thread Cert.NormDyRefIdeal.nD Cert.NormDyRefIdeal.τ).loc Cert.NormDyRefIdeal.main_arg0)
      ∧ r.2.mem ((c.tc : Thread Cert.NormDyRefIdeal.nD Cert.NormDyRefIdeal.τ).loc Cert.NormDyRefIdeal.main_arg1) = m ((c.tc : Thread Cert.NormDyRefIdeal.nD Cert.NormDyRefIdeal.τ).loc Cert.NormDyRefIdeal.main_arg1)
      ∧ r.2.mem ((c.tc : Thread Cert.NormDyRefIdeal.nD Cert.NormDyRefIdeal.τ).loc Cert.NormDyRefIdeal.main_arg2) = m ((c.tc : Thread Cert.NormDyRefIdeal.nD Cert.NormDyRefIdeal.τ).loc Cert.NormDyRefIdeal.main_arg2)
      ∧ r.2.mem ((c.tc : Thread Cert.NormDyRefIdeal.nD Cert.NormDyRefIdeal.τ).loc Cert.NormDyRefIdeal.main_arg3) = m ((c.tc : Thread Cert.NormDyRefIdeal.nD Cert.NormDyRefIdeal.τ).loc Cert.NormDyRefIdeal.main_arg3)
      ∧ r.2.mem ((c.tc : Thread Cert.NormDyRefIdeal.nD Cert.NormDyRefIdeal.τ).loc Cert.NormDyRefIdeal.main_arg4) = m ((c.tc : Thread Cert.NormDyRefIdeal.nD Cert.NormDyRefIdeal.τ).loc Cert.NormDyRefIdeal.main_arg4))
      ∧ r.2.sem = fun _ => 0)

def quiescent_NormDyRefIdeal_pre_normdy_finite [hNormDyRefIdeal : Cert.NormDyRefIdeal.Facts] [hPre_normdy_finite : Cert.Pre_normdy_finite.Facts] : Prop :=
  ∀ (m : (ℓ : Loc Cert.NormDyRefIdeal.nD Cert.NormDyRefIdeal.τ Cert.NormDyRefIdeal.sig) → Buf (Elt Ideal) ℓ) (g : Dev Cert.NormDyRefIdeal.nD → PrngReg), Pre_NormDyRefIdeal_normdy_finite m →
    θ_run (Cert.NormDyRefIdeal.defs (F := Ideal)) (onTc (τ := Cert.NormDyRefIdeal.τ) (Cert.NormDyRefIdeal.main (F := Ideal))) ⟨m, fun _ => 0, g⟩ (fun r => (∀ c : Dev Cert.NormDyRefIdeal.nD,
      r.2.mem ((c.tc : Thread Cert.NormDyRefIdeal.nD Cert.NormDyRefIdeal.τ).loc Cert.NormDyRefIdeal.main_arg0) = m ((c.tc : Thread Cert.NormDyRefIdeal.nD Cert.NormDyRefIdeal.τ).loc Cert.NormDyRefIdeal.main_arg0)
      ∧ r.2.mem ((c.tc : Thread Cert.NormDyRefIdeal.nD Cert.NormDyRefIdeal.τ).loc Cert.NormDyRefIdeal.main_arg1) = m ((c.tc : Thread Cert.NormDyRefIdeal.nD Cert.NormDyRefIdeal.τ).loc Cert.NormDyRefIdeal.main_arg1)
      ∧ r.2.mem ((c.tc : Thread Cert.NormDyRefIdeal.nD Cert.NormDyRefIdeal.τ).loc Cert.NormDyRefIdeal.main_arg2) = m ((c.tc : Thread Cert.NormDyRefIdeal.nD Cert.NormDyRefIdeal.τ).loc Cert.NormDyRefIdeal.main_arg2)
      ∧ r.2.mem ((c.tc : Thread Cert.NormDyRefIdeal.nD Cert.NormDyRefIdeal.τ).loc Cert.NormDyRefIdeal.main_arg3) = m ((c.tc : Thread Cert.NormDyRefIdeal.nD Cert.NormDyRefIdeal.τ).loc Cert.NormDyRefIdeal.main_arg3)
      ∧ r.2.mem ((c.tc : Thread Cert.NormDyRefIdeal.nD Cert.NormDyRefIdeal.τ).loc Cert.NormDyRefIdeal.main_arg4) = m ((c.tc : Thread Cert.NormDyRefIdeal.nD Cert.NormDyRefIdeal.τ).loc Cert.NormDyRefIdeal.main_arg4))
      ∧ r.2.sem = fun _ => 0)

def quiescent_Dff2 [hDff2 : Cert.Dff2.Facts] : Prop :=
  ∀ (m : (ℓ : Loc Cert.Dff2.nD Cert.Dff2.τ Cert.Dff2.sig) → Buf (Elt Bits) ℓ) (g : Dev Cert.Dff2.nD → PrngReg), Pre_Dff2 m →
    θ_run (Cert.Dff2.defs (F := Bits)) (onTc (τ := Cert.Dff2.τ) (Cert.Dff2.main (F := Bits))) ⟨m, fun _ => 0, g⟩ (fun r => (∀ c : Dev Cert.Dff2.nD,
      r.2.mem ((c.tc : Thread Cert.Dff2.nD Cert.Dff2.τ).loc Cert.Dff2.main_arg0) = m ((c.tc : Thread Cert.Dff2.nD Cert.Dff2.τ).loc Cert.Dff2.main_arg0)
      ∧ r.2.mem ((c.tc : Thread Cert.Dff2.nD Cert.Dff2.τ).loc Cert.Dff2.main_arg1) = m ((c.tc : Thread Cert.Dff2.nD Cert.Dff2.τ).loc Cert.Dff2.main_arg1)
      ∧ r.2.mem ((c.tc : Thread Cert.Dff2.nD Cert.Dff2.τ).loc Cert.Dff2.main_arg2) = m ((c.tc : Thread Cert.Dff2.nD Cert.Dff2.τ).loc Cert.Dff2.main_arg2))
      ∧ r.2.sem = fun _ => 0)

def quiescent_Dff2Ideal [hDff2Ideal : Cert.Dff2Ideal.Facts] : Prop :=
  ∀ (m : (ℓ : Loc Cert.Dff2Ideal.nD Cert.Dff2Ideal.τ Cert.Dff2Ideal.sig) → Buf (Elt Ideal) ℓ) (g : Dev Cert.Dff2Ideal.nD → PrngReg), Pre_Dff2Ideal m →
    θ_run (Cert.Dff2Ideal.defs (F := Ideal)) (onTc (τ := Cert.Dff2Ideal.τ) (Cert.Dff2Ideal.main (F := Ideal))) ⟨m, fun _ => 0, g⟩ (fun r => (∀ c : Dev Cert.Dff2Ideal.nD,
      r.2.mem ((c.tc : Thread Cert.Dff2Ideal.nD Cert.Dff2Ideal.τ).loc Cert.Dff2Ideal.main_arg0) = m ((c.tc : Thread Cert.Dff2Ideal.nD Cert.Dff2Ideal.τ).loc Cert.Dff2Ideal.main_arg0)
      ∧ r.2.mem ((c.tc : Thread Cert.Dff2Ideal.nD Cert.Dff2Ideal.τ).loc Cert.Dff2Ideal.main_arg1) = m ((c.tc : Thread Cert.Dff2Ideal.nD Cert.Dff2Ideal.τ).loc Cert.Dff2Ideal.main_arg1)
      ∧ r.2.mem ((c.tc : Thread Cert.Dff2Ideal.nD Cert.Dff2Ideal.τ).loc Cert.Dff2Ideal.main_arg2) = m ((c.tc : Thread Cert.Dff2Ideal.nD Cert.Dff2Ideal.τ).loc Cert.Dff2Ideal.main_arg2))
      ∧ r.2.sem = fun _ => 0)

def quiescent_Dff2RefIdeal [hDff2RefIdeal : Cert.Dff2RefIdeal.Facts] : Prop :=
  ∀ (m : (ℓ : Loc Cert.Dff2RefIdeal.nD Cert.Dff2RefIdeal.τ Cert.Dff2RefIdeal.sig) → Buf (Elt Ideal) ℓ) (g : Dev Cert.Dff2RefIdeal.nD → PrngReg), Pre_Dff2RefIdeal m →
    θ_run (Cert.Dff2RefIdeal.defs (F := Ideal)) (onTc (τ := Cert.Dff2RefIdeal.τ) (Cert.Dff2RefIdeal.main (F := Ideal))) ⟨m, fun _ => 0, g⟩ (fun r => (∀ c : Dev Cert.Dff2RefIdeal.nD,
      r.2.mem ((c.tc : Thread Cert.Dff2RefIdeal.nD Cert.Dff2RefIdeal.τ).loc Cert.Dff2RefIdeal.main_arg0) = m ((c.tc : Thread Cert.Dff2RefIdeal.nD Cert.Dff2RefIdeal.τ).loc Cert.Dff2RefIdeal.main_arg0)
      ∧ r.2.mem ((c.tc : Thread Cert.Dff2RefIdeal.nD Cert.Dff2RefIdeal.τ).loc Cert.Dff2RefIdeal.main_arg1) = m ((c.tc : Thread Cert.Dff2RefIdeal.nD Cert.Dff2RefIdeal.τ).loc Cert.Dff2RefIdeal.main_arg1)
      ∧ r.2.mem ((c.tc : Thread Cert.Dff2RefIdeal.nD Cert.Dff2RefIdeal.τ).loc Cert.Dff2RefIdeal.main_arg2) = m ((c.tc : Thread Cert.Dff2RefIdeal.nD Cert.Dff2RefIdeal.τ).loc Cert.Dff2RefIdeal.main_arg2))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ r.2.sem = fun _ => 0)

def quiescent_MixerIdeal_pre_mixer_finite [hMixerIdeal : Cert.MixerIdeal.Facts] [hPre_mixer_finite : Cert.Pre_mixer_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_mixer_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6))
      ∧ r.2.sem = fun _ => 0)

def quiescent_MixerRefIdeal_pre_mixer_finite [hMixerRefIdeal : Cert.MixerRefIdeal.Facts] [hPre_mixer_finite : Cert.Pre_mixer_finite.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_mixer_finite m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1)
      ∧ r.2.mem ((c.tc : Thread Cert.Ff2RefIdeal.nD Cert.Ff2RefIdeal.τ).loc Cert.Ff2RefIdeal.main_arg2) = m ((c.tc : Thread Cert.Ff2RefIdeal.nD Cert.Ff2RefIdeal.τ).loc Cert.Ff2RefIdeal.main_arg2))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_SumParts [hSumParts : Cert.SumParts.Facts] : Prop :=
  ∀ (m : (ℓ : Loc Cert.SumParts.nD Cert.SumParts.τ Cert.SumParts.sig) → Buf (Elt Bits) ℓ) (g : Dev Cert.SumParts.nD → PrngReg), Pre_SumParts m →
    θ_run (Cert.SumParts.defs (F := Bits)) (onTc (τ := Cert.SumParts.τ) (Cert.SumParts.main (F := Bits))) ⟨m, fun _ => 0, g⟩ (fun r => (∀ c : Dev Cert.SumParts.nD,
      r.2.mem ((c.tc : Thread Cert.SumParts.nD Cert.SumParts.τ).loc Cert.SumParts.main_arg0) = m ((c.tc : Thread Cert.SumParts.nD Cert.SumParts.τ).loc Cert.SumParts.main_arg0))
      ∧ r.2.sem = fun _ => 0)

def quiescent_SumPartsIdeal [hSumPartsIdeal : Cert.SumPartsIdeal.Facts] : Prop :=
  ∀ (m : (ℓ : Loc Cert.SumPartsIdeal.nD Cert.SumPartsIdeal.τ Cert.SumPartsIdeal.sig) → Buf (Elt Ideal) ℓ) (g : Dev Cert.SumPartsIdeal.nD → PrngReg), Pre_SumPartsIdeal m →
    θ_run (Cert.SumPartsIdeal.defs (F := Ideal)) (onTc (τ := Cert.SumPartsIdeal.τ) (Cert.SumPartsIdeal.main (F := Ideal))) ⟨m, fun _ => 0, g⟩ (fun r => (∀ c : Dev Cert.SumPartsIdeal.nD,
      r.2.mem ((c.tc : Thread Cert.SumPartsIdeal.nD Cert.SumPartsIdeal.τ).loc Cert.SumPartsIdeal.main_arg0) = m ((c.tc : Thread Cert.SumPartsIdeal.nD Cert.SumPartsIdeal.τ).loc Cert.SumPartsIdeal.main_arg0))
      ∧ r.2.sem = fun _ => 0)

def quiescent_SumPartsRefIdeal [hSumPartsRefIdeal : Cert.SumPartsRefIdeal.Facts] : Prop :=
  ∀ (m : (ℓ : Loc Cert.SumPartsRefIdeal.nD Cert.SumPartsRefIdeal.τ Cert.SumPartsRefIdeal.sig) → Buf (Elt Ideal) ℓ) (g : Dev Cert.SumPartsRefIdeal.nD → PrngReg), Pre_SumPartsRefIdeal m →
    θ_run (Cert.SumPartsRefIdeal.defs (F := Ideal)) (onTc (τ := Cert.SumPartsRefIdeal.τ) (Cert.SumPartsRefIdeal.main (F := Ideal))) ⟨m, fun _ => 0, g⟩ (fun r => (∀ c : Dev Cert.SumPartsRefIdeal.nD,
      r.2.mem ((c.tc : Thread Cert.SumPartsRefIdeal.nD Cert.SumPartsRefIdeal.τ).loc Cert.SumPartsRefIdeal.main_arg0) = m ((c.tc : Thread Cert.SumPartsRefIdeal.nD Cert.SumPartsRefIdeal.τ).loc Cert.SumPartsRefIdeal.main_arg0))
      ∧ r.2.sem = fun _ => 0)

def quiescent_ToCols [hToCols : Cert.ToCols.Facts] : Prop :=
  ∀ (m : (ℓ : Loc Cert.ToCols.nD Cert.ToCols.τ Cert.ToCols.sig) → Buf (Elt Bits) ℓ) (g : Dev Cert.ToCols.nD → PrngReg), Pre_ToCols m →
    θ_run (Cert.ToCols.defs (F := Bits)) (onTc (τ := Cert.ToCols.τ) (Cert.ToCols.main (F := Bits))) ⟨m, fun _ => 0, g⟩ (fun r => (∀ c : Dev Cert.ToCols.nD,
      r.2.mem ((c.tc : Thread Cert.ToCols.nD Cert.ToCols.τ).loc Cert.ToCols.main_arg0) = m ((c.tc : Thread Cert.ToCols.nD Cert.ToCols.τ).loc Cert.ToCols.main_arg0))
      ∧ r.2.sem = fun _ => 0)

def quiescent_ToColsIdeal [hToColsIdeal : Cert.ToColsIdeal.Facts] : Prop :=
  ∀ (m : (ℓ : Loc Cert.ToColsIdeal.nD Cert.ToColsIdeal.τ Cert.ToColsIdeal.sig) → Buf (Elt Ideal) ℓ) (g : Dev Cert.ToColsIdeal.nD → PrngReg), Pre_ToColsIdeal m →
    θ_run (Cert.ToColsIdeal.defs (F := Ideal)) (onTc (τ := Cert.ToColsIdeal.τ) (Cert.ToColsIdeal.main (F := Ideal))) ⟨m, fun _ => 0, g⟩ (fun r => (∀ c : Dev Cert.ToColsIdeal.nD,
      r.2.mem ((c.tc : Thread Cert.ToColsIdeal.nD Cert.ToColsIdeal.τ).loc Cert.ToColsIdeal.main_arg0) = m ((c.tc : Thread Cert.ToColsIdeal.nD Cert.ToColsIdeal.τ).loc Cert.ToColsIdeal.main_arg0))
      ∧ r.2.sem = fun _ => 0)

def quiescent_ToColsRefIdeal [hToColsRefIdeal : Cert.ToColsRefIdeal.Facts] : Prop :=
  ∀ (m : (ℓ : Loc Cert.ToColsRefIdeal.nD Cert.ToColsRefIdeal.τ Cert.ToColsRefIdeal.sig) → Buf (Elt Ideal) ℓ) (g : Dev Cert.ToColsRefIdeal.nD → PrngReg), Pre_ToColsRefIdeal m →
    θ_run (Cert.ToColsRefIdeal.defs (F := Ideal)) (onTc (τ := Cert.ToColsRefIdeal.τ) (Cert.ToColsRefIdeal.main (F := Ideal))) ⟨m, fun _ => 0, g⟩ (fun r => (∀ c : Dev Cert.ToColsRefIdeal.nD,
      r.2.mem ((c.tc : Thread Cert.ToColsRefIdeal.nD Cert.ToColsRefIdeal.τ).loc Cert.ToColsRefIdeal.main_arg0) = m ((c.tc : Thread Cert.ToColsRefIdeal.nD Cert.ToColsRefIdeal.τ).loc Cert.ToColsRefIdeal.main_arg0))
      ∧ r.2.sem = fun _ => 0)

def quiescent_ToShards [hToShards : Cert.ToShards.Facts] : Prop :=
  ∀ (m : (ℓ : Loc Cert.ToShards.nD Cert.ToShards.τ Cert.ToShards.sig) → Buf (Elt Bits) ℓ) (g : Dev Cert.ToShards.nD → PrngReg), Pre_ToShards m →
    θ_run (Cert.ToShards.defs (F := Bits)) (onTc (τ := Cert.ToShards.τ) (Cert.ToShards.main (F := Bits))) ⟨m, fun _ => 0, g⟩ (fun r => (∀ c : Dev Cert.ToShards.nD,
      r.2.mem ((c.tc : Thread Cert.ToShards.nD Cert.ToShards.τ).loc Cert.ToShards.main_arg0) = m ((c.tc : Thread Cert.ToShards.nD Cert.ToShards.τ).loc Cert.ToShards.main_arg0))
      ∧ r.2.sem = fun _ => 0)

def quiescent_ToShardsIdeal [hToShardsIdeal : Cert.ToShardsIdeal.Facts] : Prop :=
  ∀ (m : (ℓ : Loc Cert.ToShardsIdeal.nD Cert.ToShardsIdeal.τ Cert.ToShardsIdeal.sig) → Buf (Elt Ideal) ℓ) (g : Dev Cert.ToShardsIdeal.nD → PrngReg), Pre_ToShardsIdeal m →
    θ_run (Cert.ToShardsIdeal.defs (F := Ideal)) (onTc (τ := Cert.ToShardsIdeal.τ) (Cert.ToShardsIdeal.main (F := Ideal))) ⟨m, fun _ => 0, g⟩ (fun r => (∀ c : Dev Cert.ToShardsIdeal.nD,
      r.2.mem ((c.tc : Thread Cert.ToShardsIdeal.nD Cert.ToShardsIdeal.τ).loc Cert.ToShardsIdeal.main_arg0) = m ((c.tc : Thread Cert.ToShardsIdeal.nD Cert.ToShardsIdeal.τ).loc Cert.ToShardsIdeal.main_arg0))
      ∧ r.2.sem = fun _ => 0)

def quiescent_ToShardsRefIdeal [hToShardsRefIdeal : Cert.ToShardsRefIdeal.Facts] : Prop :=
  ∀ (m : (ℓ : Loc Cert.ToShardsRefIdeal.nD Cert.ToShardsRefIdeal.τ Cert.ToShardsRefIdeal.sig) → Buf (Elt Ideal) ℓ) (g : Dev Cert.ToShardsRefIdeal.nD → PrngReg), Pre_ToShardsRefIdeal m →
    θ_run (Cert.ToShardsRefIdeal.defs (F := Ideal)) (onTc (τ := Cert.ToShardsRefIdeal.τ) (Cert.ToShardsRefIdeal.main (F := Ideal))) ⟨m, fun _ => 0, g⟩ (fun r => (∀ c : Dev Cert.ToShardsRefIdeal.nD,
      r.2.mem ((c.tc : Thread Cert.ToShardsRefIdeal.nD Cert.ToShardsRefIdeal.τ).loc Cert.ToShardsRefIdeal.main_arg0) = m ((c.tc : Thread Cert.ToShardsRefIdeal.nD Cert.ToShardsRefIdeal.τ).loc Cert.ToShardsRefIdeal.main_arg0))
      ∧ r.2.sem = fun _ => 0)

def quiescent_AdamSmallA [hAdamSmallA : Cert.AdamSmallA.Facts] : Prop :=
  ∀ (m : (ℓ : Loc Cert.AdamSmallA.nD Cert.AdamSmallA.τ Cert.AdamSmallA.sig) → Buf (Elt Bits) ℓ) (g : Dev Cert.AdamSmallA.nD → PrngReg), Pre_AdamSmallA m →
    θ_run (Cert.AdamSmallA.defs (F := Bits)) (onTc (τ := Cert.AdamSmallA.τ) (Cert.AdamSmallA.main (F := Bits))) ⟨m, fun _ => 0, g⟩ (fun r => (∀ c : Dev Cert.AdamSmallA.nD,
      r.2.mem ((c.tc : Thread Cert.AdamSmallA.nD Cert.AdamSmallA.τ).loc Cert.AdamSmallA.main_arg0) = m ((c.tc : Thread Cert.AdamSmallA.nD Cert.AdamSmallA.τ).loc Cert.AdamSmallA.main_arg0)
      ∧ r.2.mem ((c.tc : Thread Cert.AdamSmallA.nD Cert.AdamSmallA.τ).loc Cert.AdamSmallA.main_arg1) = m ((c.tc : Thread Cert.AdamSmallA.nD Cert.AdamSmallA.τ).loc Cert.AdamSmallA.main_arg1)
      ∧ r.2.mem ((c.tc : Thread Cert.AdamSmallA.nD Cert.AdamSmallA.τ).loc Cert.AdamSmallA.main_arg2) = m ((c.tc : Thread Cert.AdamSmallA.nD Cert.AdamSmallA.τ).loc Cert.AdamSmallA.main_arg2)
      ∧ r.2.mem ((c.tc : Thread Cert.AdamSmallA.nD Cert.AdamSmallA.τ).loc Cert.AdamSmallA.main_arg3) = m ((c.tc : Thread Cert.AdamSmallA.nD Cert.AdamSmallA.τ).loc Cert.AdamSmallA.main_arg3)
      ∧ r.2.mem ((c.tc : Thread Cert.AdamSmallA.nD Cert.AdamSmallA.τ).loc Cert.AdamSmallA.main_arg4) = m ((c.tc : Thread Cert.AdamSmallA.nD Cert.AdamSmallA.τ).loc Cert.AdamSmallA.main_arg4)
      ∧ r.2.mem ((c.tc : Thread Cert.AdamSmallA.nD Cert.AdamSmallA.τ).loc Cert.AdamSmallA.main_arg5) = m ((c.tc : Thread Cert.AdamSmallA.nD Cert.AdamSmallA.τ).loc Cert.AdamSmallA.main_arg5)
      ∧ r.2.mem ((c.tc : Thread Cert.AdamSmallA.nD Cert.AdamSmallA.τ).loc Cert.AdamSmallA.main_arg6) = m ((c.tc : Thread Cert.AdamSmallA.nD Cert.AdamSmallA.τ).loc Cert.AdamSmallA.main_arg6)
      ∧ r.2.mem ((c.tc : Thread Cert.AdamSmallA.nD Cert.AdamSmallA.τ).loc Cert.AdamSmallA.main_arg7) = m ((c.tc : Thread Cert.AdamSmallA.nD Cert.AdamSmallA.τ).loc Cert.AdamSmallA.main_arg7)
      ∧ r.2.mem ((c.tc : Thread Cert.AdamSmallA.nD Cert.AdamSmallA.τ).loc Cert.AdamSmallA.main_arg8) = m ((c.tc : Thread Cert.AdamSmallA.nD Cert.AdamSmallA.τ).loc Cert.AdamSmallA.main_arg8)
      ∧ r.2.mem ((c.tc : Thread Cert.AdamSmallA.nD Cert.AdamSmallA.τ).loc Cert.AdamSmallA.main_arg9) = m ((c.tc : Thread Cert.AdamSmallA.nD Cert.AdamSmallA.τ).loc Cert.AdamSmallA.main_arg9)
      ∧ r.2.mem ((c.tc : Thread Cert.AdamSmallA.nD Cert.AdamSmallA.τ).loc Cert.AdamSmallA.main_arg10) = m ((c.tc : Thread Cert.AdamSmallA.nD Cert.AdamSmallA.τ).loc Cert.AdamSmallA.main_arg10)
      ∧ r.2.mem ((c.tc : Thread Cert.AdamSmallA.nD Cert.AdamSmallA.τ).loc Cert.AdamSmallA.main_arg11) = m ((c.tc : Thread Cert.AdamSmallA.nD Cert.AdamSmallA.τ).loc Cert.AdamSmallA.main_arg11)
      ∧ r.2.mem ((c.tc : Thread Cert.AdamSmallA.nD Cert.AdamSmallA.τ).loc Cert.AdamSmallA.main_arg12) = m ((c.tc : Thread Cert.AdamSmallA.nD Cert.AdamSmallA.τ).loc Cert.AdamSmallA.main_arg12)
      ∧ r.2.mem ((c.tc : Thread Cert.AdamSmallA.nD Cert.AdamSmallA.τ).loc Cert.AdamSmallA.main_arg13) = m ((c.tc : Thread Cert.AdamSmallA.nD Cert.AdamSmallA.τ).loc Cert.AdamSmallA.main_arg13)
      ∧ r.2.mem ((c.tc : Thread Cert.AdamSmallA.nD Cert.AdamSmallA.τ).loc Cert.AdamSmallA.main_arg14) = m ((c.tc : Thread Cert.AdamSmallA.nD Cert.AdamSmallA.τ).loc Cert.AdamSmallA.main_arg14)
      ∧ r.2.mem ((c.tc : Thread Cert.AdamSmallA.nD Cert.AdamSmallA.τ).loc Cert.AdamSmallA.main_arg15) = m ((c.tc : Thread Cert.AdamSmallA.nD Cert.AdamSmallA.τ).loc Cert.AdamSmallA.main_arg15))
      ∧ r.2.sem = fun _ => 0)

def quiescent_AdamSmallAIdeal [hAdamSmallAIdeal : Cert.AdamSmallAIdeal.Facts] : Prop :=
  ∀ (m : (ℓ : Loc Cert.AdamSmallAIdeal.nD Cert.AdamSmallAIdeal.τ Cert.AdamSmallAIdeal.sig) → Buf (Elt Ideal) ℓ) (g : Dev Cert.AdamSmallAIdeal.nD → PrngReg), Pre_AdamSmallAIdeal m →
    θ_run (Cert.AdamSmallAIdeal.defs (F := Ideal)) (onTc (τ := Cert.AdamSmallAIdeal.τ) (Cert.AdamSmallAIdeal.main (F := Ideal))) ⟨m, fun _ => 0, g⟩ (fun r => (∀ c : Dev Cert.AdamSmallAIdeal.nD,
      r.2.mem ((c.tc : Thread Cert.AdamSmallAIdeal.nD Cert.AdamSmallAIdeal.τ).loc Cert.AdamSmallAIdeal.main_arg0) = m ((c.tc : Thread Cert.AdamSmallAIdeal.nD Cert.AdamSmallAIdeal.τ).loc Cert.AdamSmallAIdeal.main_arg0)
      ∧ r.2.mem ((c.tc : Thread Cert.AdamSmallAIdeal.nD Cert.AdamSmallAIdeal.τ).loc Cert.AdamSmallAIdeal.main_arg1) = m ((c.tc : Thread Cert.AdamSmallAIdeal.nD Cert.AdamSmallAIdeal.τ).loc Cert.AdamSmallAIdeal.main_arg1)
      ∧ r.2.mem ((c.tc : Thread Cert.AdamSmallAIdeal.nD Cert.AdamSmallAIdeal.τ).loc Cert.AdamSmallAIdeal.main_arg2) = m ((c.tc : Thread Cert.AdamSmallAIdeal.nD Cert.AdamSmallAIdeal.τ).loc Cert.AdamSmallAIdeal.main_arg2)
      ∧ r.2.mem ((c.tc : Thread Cert.AdamSmallAIdeal.nD Cert.AdamSmallAIdeal.τ).loc Cert.AdamSmallAIdeal.main_arg3) = m ((c.tc : Thread Cert.AdamSmallAIdeal.nD Cert.AdamSmallAIdeal.τ).loc Cert.AdamSmallAIdeal.main_arg3)
      ∧ r.2.mem ((c.tc : Thread Cert.AdamSmallAIdeal.nD Cert.AdamSmallAIdeal.τ).loc Cert.AdamSmallAIdeal.main_arg4) = m ((c.tc : Thread Cert.AdamSmallAIdeal.nD Cert.AdamSmallAIdeal.τ).loc Cert.AdamSmallAIdeal.main_arg4)
      ∧ r.2.mem ((c.tc : Thread Cert.AdamSmallAIdeal.nD Cert.AdamSmallAIdeal.τ).loc Cert.AdamSmallAIdeal.main_arg5) = m ((c.tc : Thread Cert.AdamSmallAIdeal.nD Cert.AdamSmallAIdeal.τ).loc Cert.AdamSmallAIdeal.main_arg5)
      ∧ r.2.mem ((c.tc : Thread Cert.AdamSmallAIdeal.nD Cert.AdamSmallAIdeal.τ).loc Cert.AdamSmallAIdeal.main_arg6) = m ((c.tc : Thread Cert.AdamSmallAIdeal.nD Cert.AdamSmallAIdeal.τ).loc Cert.AdamSmallAIdeal.main_arg6)
      ∧ r.2.mem ((c.tc : Thread Cert.AdamSmallAIdeal.nD Cert.AdamSmallAIdeal.τ).loc Cert.AdamSmallAIdeal.main_arg7) = m ((c.tc : Thread Cert.AdamSmallAIdeal.nD Cert.AdamSmallAIdeal.τ).loc Cert.AdamSmallAIdeal.main_arg7)
      ∧ r.2.mem ((c.tc : Thread Cert.AdamSmallAIdeal.nD Cert.AdamSmallAIdeal.τ).loc Cert.AdamSmallAIdeal.main_arg8) = m ((c.tc : Thread Cert.AdamSmallAIdeal.nD Cert.AdamSmallAIdeal.τ).loc Cert.AdamSmallAIdeal.main_arg8)
      ∧ r.2.mem ((c.tc : Thread Cert.AdamSmallAIdeal.nD Cert.AdamSmallAIdeal.τ).loc Cert.AdamSmallAIdeal.main_arg9) = m ((c.tc : Thread Cert.AdamSmallAIdeal.nD Cert.AdamSmallAIdeal.τ).loc Cert.AdamSmallAIdeal.main_arg9)
      ∧ r.2.mem ((c.tc : Thread Cert.AdamSmallAIdeal.nD Cert.AdamSmallAIdeal.τ).loc Cert.AdamSmallAIdeal.main_arg10) = m ((c.tc : Thread Cert.AdamSmallAIdeal.nD Cert.AdamSmallAIdeal.τ).loc Cert.AdamSmallAIdeal.main_arg10)
      ∧ r.2.mem ((c.tc : Thread Cert.AdamSmallAIdeal.nD Cert.AdamSmallAIdeal.τ).loc Cert.AdamSmallAIdeal.main_arg11) = m ((c.tc : Thread Cert.AdamSmallAIdeal.nD Cert.AdamSmallAIdeal.τ).loc Cert.AdamSmallAIdeal.main_arg11)
      ∧ r.2.mem ((c.tc : Thread Cert.AdamSmallAIdeal.nD Cert.AdamSmallAIdeal.τ).loc Cert.AdamSmallAIdeal.main_arg12) = m ((c.tc : Thread Cert.AdamSmallAIdeal.nD Cert.AdamSmallAIdeal.τ).loc Cert.AdamSmallAIdeal.main_arg12)
      ∧ r.2.mem ((c.tc : Thread Cert.AdamSmallAIdeal.nD Cert.AdamSmallAIdeal.τ).loc Cert.AdamSmallAIdeal.main_arg13) = m ((c.tc : Thread Cert.AdamSmallAIdeal.nD Cert.AdamSmallAIdeal.τ).loc Cert.AdamSmallAIdeal.main_arg13)
      ∧ r.2.mem ((c.tc : Thread Cert.AdamSmallAIdeal.nD Cert.AdamSmallAIdeal.τ).loc Cert.AdamSmallAIdeal.main_arg14) = m ((c.tc : Thread Cert.AdamSmallAIdeal.nD Cert.AdamSmallAIdeal.τ).loc Cert.AdamSmallAIdeal.main_arg14)
      ∧ r.2.mem ((c.tc : Thread Cert.AdamSmallAIdeal.nD Cert.AdamSmallAIdeal.τ).loc Cert.AdamSmallAIdeal.main_arg15) = m ((c.tc : Thread Cert.AdamSmallAIdeal.nD Cert.AdamSmallAIdeal.τ).loc Cert.AdamSmallAIdeal.main_arg15))
      ∧ r.2.sem = fun _ => 0)

def quiescent_AdamSmallARefIdeal [hAdamSmallARefIdeal : Cert.AdamSmallARefIdeal.Facts] : Prop :=
  ∀ (m : (ℓ : Loc Cert.AdamSmallARefIdeal.nD Cert.AdamSmallARefIdeal.τ Cert.AdamSmallARefIdeal.sig) → Buf (Elt Ideal) ℓ) (g : Dev Cert.AdamSmallARefIdeal.nD → PrngReg), Pre_AdamSmallARefIdeal m →
    θ_run (Cert.AdamSmallARefIdeal.defs (F := Ideal)) (onTc (τ := Cert.AdamSmallARefIdeal.τ) (Cert.AdamSmallARefIdeal.main (F := Ideal))) ⟨m, fun _ => 0, g⟩ (fun r => (∀ c : Dev Cert.AdamSmallARefIdeal.nD,
      r.2.mem ((c.tc : Thread Cert.AdamSmallARefIdeal.nD Cert.AdamSmallARefIdeal.τ).loc Cert.AdamSmallARefIdeal.main_arg0) = m ((c.tc : Thread Cert.AdamSmallARefIdeal.nD Cert.AdamSmallARefIdeal.τ).loc Cert.AdamSmallARefIdeal.main_arg0)
      ∧ r.2.mem ((c.tc : Thread Cert.AdamSmallARefIdeal.nD Cert.AdamSmallARefIdeal.τ).loc Cert.AdamSmallARefIdeal.main_arg1) = m ((c.tc : Thread Cert.AdamSmallARefIdeal.nD Cert.AdamSmallARefIdeal.τ).loc Cert.AdamSmallARefIdeal.main_arg1)
      ∧ r.2.mem ((c.tc : Thread Cert.AdamSmallARefIdeal.nD Cert.AdamSmallARefIdeal.τ).loc Cert.AdamSmallARefIdeal.main_arg2) = m ((c.tc : Thread Cert.AdamSmallARefIdeal.nD Cert.AdamSmallARefIdeal.τ).loc Cert.AdamSmallARefIdeal.main_arg2)
      ∧ r.2.mem ((c.tc : Thread Cert.AdamSmallARefIdeal.nD Cert.AdamSmallARefIdeal.τ).loc Cert.AdamSmallARefIdeal.main_arg3) = m ((c.tc : Thread Cert.AdamSmallARefIdeal.nD Cert.AdamSmallARefIdeal.τ).loc Cert.AdamSmallARefIdeal.main_arg3)
      ∧ r.2.mem ((c.tc : Thread Cert.AdamSmallARefIdeal.nD Cert.AdamSmallARefIdeal.τ).loc Cert.AdamSmallARefIdeal.main_arg4) = m ((c.tc : Thread Cert.AdamSmallARefIdeal.nD Cert.AdamSmallARefIdeal.τ).loc Cert.AdamSmallARefIdeal.main_arg4)
      ∧ r.2.mem ((c.tc : Thread Cert.AdamSmallARefIdeal.nD Cert.AdamSmallARefIdeal.τ).loc Cert.AdamSmallARefIdeal.main_arg5) = m ((c.tc : Thread Cert.AdamSmallARefIdeal.nD Cert.AdamSmallARefIdeal.τ).loc Cert.AdamSmallARefIdeal.main_arg5)
      ∧ r.2.mem ((c.tc : Thread Cert.AdamSmallARefIdeal.nD Cert.AdamSmallARefIdeal.τ).loc Cert.AdamSmallARefIdeal.main_arg6) = m ((c.tc : Thread Cert.AdamSmallARefIdeal.nD Cert.AdamSmallARefIdeal.τ).loc Cert.AdamSmallARefIdeal.main_arg6)
      ∧ r.2.mem ((c.tc : Thread Cert.AdamSmallARefIdeal.nD Cert.AdamSmallARefIdeal.τ).loc Cert.AdamSmallARefIdeal.main_arg7) = m ((c.tc : Thread Cert.AdamSmallARefIdeal.nD Cert.AdamSmallARefIdeal.τ).loc Cert.AdamSmallARefIdeal.main_arg7)
      ∧ r.2.mem ((c.tc : Thread Cert.AdamSmallARefIdeal.nD Cert.AdamSmallARefIdeal.τ).loc Cert.AdamSmallARefIdeal.main_arg8) = m ((c.tc : Thread Cert.AdamSmallARefIdeal.nD Cert.AdamSmallARefIdeal.τ).loc Cert.AdamSmallARefIdeal.main_arg8)
      ∧ r.2.mem ((c.tc : Thread Cert.AdamSmallARefIdeal.nD Cert.AdamSmallARefIdeal.τ).loc Cert.AdamSmallARefIdeal.main_arg9) = m ((c.tc : Thread Cert.AdamSmallARefIdeal.nD Cert.AdamSmallARefIdeal.τ).loc Cert.AdamSmallARefIdeal.main_arg9)
      ∧ r.2.mem ((c.tc : Thread Cert.AdamSmallARefIdeal.nD Cert.AdamSmallARefIdeal.τ).loc Cert.AdamSmallARefIdeal.main_arg10) = m ((c.tc : Thread Cert.AdamSmallARefIdeal.nD Cert.AdamSmallARefIdeal.τ).loc Cert.AdamSmallARefIdeal.main_arg10)
      ∧ r.2.mem ((c.tc : Thread Cert.AdamSmallARefIdeal.nD Cert.AdamSmallARefIdeal.τ).loc Cert.AdamSmallARefIdeal.main_arg11) = m ((c.tc : Thread Cert.AdamSmallARefIdeal.nD Cert.AdamSmallARefIdeal.τ).loc Cert.AdamSmallARefIdeal.main_arg11)
      ∧ r.2.mem ((c.tc : Thread Cert.AdamSmallARefIdeal.nD Cert.AdamSmallARefIdeal.τ).loc Cert.AdamSmallARefIdeal.main_arg12) = m ((c.tc : Thread Cert.AdamSmallARefIdeal.nD Cert.AdamSmallARefIdeal.τ).loc Cert.AdamSmallARefIdeal.main_arg12)
      ∧ r.2.mem ((c.tc : Thread Cert.AdamSmallARefIdeal.nD Cert.AdamSmallARefIdeal.τ).loc Cert.AdamSmallARefIdeal.main_arg13) = m ((c.tc : Thread Cert.AdamSmallARefIdeal.nD Cert.AdamSmallARefIdeal.τ).loc Cert.AdamSmallARefIdeal.main_arg13)
      ∧ r.2.mem ((c.tc : Thread Cert.AdamSmallARefIdeal.nD Cert.AdamSmallARefIdeal.τ).loc Cert.AdamSmallARefIdeal.main_arg14) = m ((c.tc : Thread Cert.AdamSmallARefIdeal.nD Cert.AdamSmallARefIdeal.τ).loc Cert.AdamSmallARefIdeal.main_arg14)
      ∧ r.2.mem ((c.tc : Thread Cert.AdamSmallARefIdeal.nD Cert.AdamSmallARefIdeal.τ).loc Cert.AdamSmallARefIdeal.main_arg15) = m ((c.tc : Thread Cert.AdamSmallARefIdeal.nD Cert.AdamSmallARefIdeal.τ).loc Cert.AdamSmallARefIdeal.main_arg15))
      ∧ r.2.sem = fun _ => 0)

def quiescent_AdamSmallB [hAdamSmallB : Cert.AdamSmallB.Facts] : Prop :=
  ∀ (m : (ℓ : Loc Cert.AdamSmallB.nD Cert.AdamSmallB.τ Cert.AdamSmallB.sig) → Buf (Elt Bits) ℓ) (g : Dev Cert.AdamSmallB.nD → PrngReg), Pre_AdamSmallB m →
    θ_run (Cert.AdamSmallB.defs (F := Bits)) (onTc (τ := Cert.AdamSmallB.τ) (Cert.AdamSmallB.main (F := Bits))) ⟨m, fun _ => 0, g⟩ (fun r => (∀ c : Dev Cert.AdamSmallB.nD,
      r.2.mem ((c.tc : Thread Cert.AdamSmallB.nD Cert.AdamSmallB.τ).loc Cert.AdamSmallB.main_arg0) = m ((c.tc : Thread Cert.AdamSmallB.nD Cert.AdamSmallB.τ).loc Cert.AdamSmallB.main_arg0)
      ∧ r.2.mem ((c.tc : Thread Cert.AdamSmallB.nD Cert.AdamSmallB.τ).loc Cert.AdamSmallB.main_arg1) = m ((c.tc : Thread Cert.AdamSmallB.nD Cert.AdamSmallB.τ).loc Cert.AdamSmallB.main_arg1)
      ∧ r.2.mem ((c.tc : Thread Cert.AdamSmallB.nD Cert.AdamSmallB.τ).loc Cert.AdamSmallB.main_arg2) = m ((c.tc : Thread Cert.AdamSmallB.nD Cert.AdamSmallB.τ).loc Cert.AdamSmallB.main_arg2)
      ∧ r.2.mem ((c.tc : Thread Cert.AdamSmallB.nD Cert.AdamSmallB.τ).loc Cert.AdamSmallB.main_arg3) = m ((c.tc : Thread Cert.AdamSmallB.nD Cert.AdamSmallB.τ).loc Cert.AdamSmallB.main_arg3)
      ∧ r.2.mem ((c.tc : Thread Cert.AdamSmallB.nD Cert.AdamSmallB.τ).loc Cert.AdamSmallB.main_arg4) = m ((c.tc : Thread Cert.AdamSmallB.nD Cert.AdamSmallB.τ).loc Cert.AdamSmallB.main_arg4)
      ∧ r.2.mem ((c.tc : Thread Cert.AdamSmallB.nD Cert.AdamSmallB.τ).loc Cert.AdamSmallB.main_arg5) = m ((c.tc : Thread Cert.AdamSmallB.nD Cert.AdamSmallB.τ).loc Cert.AdamSmallB.main_arg5)
      ∧ r.2.mem ((c.tc : Thread Cert.AdamSmallB.nD Cert.AdamSmallB.τ).loc Cert.AdamSmallB.main_arg6) = m ((c.tc : Thread Cert.AdamSmallB.nD Cert.AdamSmallB.τ).loc Cert.AdamSmallB.main_arg6)
      ∧ r.2.mem ((c.tc : Thread Cert.AdamSmallB.nD Cert.AdamSmallB.τ).loc Cert.AdamSmallB.main_arg7) = m ((c.tc : Thread Cert.AdamSmallB.nD Cert.AdamSmallB.τ).loc Cert.AdamSmallB.main_arg7)
      ∧ r.2.mem ((c.tc : Thread Cert.AdamSmallB.nD Cert.AdamSmallB.τ).loc Cert.AdamSmallB.main_arg8) = m ((c.tc : Thread Cert.AdamSmallB.nD Cert.AdamSmallB.τ).loc Cert.AdamSmallB.main_arg8)
      ∧ r.2.mem ((c.tc : Thread Cert.AdamSmallB.nD Cert.AdamSmallB.τ).loc Cert.AdamSmallB.main_arg9) = m ((c.tc : Thread Cert.AdamSmallB.nD Cert.AdamSmallB.τ).loc Cert.AdamSmallB.main_arg9)
      ∧ r.2.mem ((c.tc : Thread Cert.AdamSmallB.nD Cert.AdamSmallB.τ).loc Cert.AdamSmallB.main_arg10) = m ((c.tc : Thread Cert.AdamSmallB.nD Cert.AdamSmallB.τ).loc Cert.AdamSmallB.main_arg10)
      ∧ r.2.mem ((c.tc : Thread Cert.AdamSmallB.nD Cert.AdamSmallB.τ).loc Cert.AdamSmallB.main_arg11) = m ((c.tc : Thread Cert.AdamSmallB.nD Cert.AdamSmallB.τ).loc Cert.AdamSmallB.main_arg11)
      ∧ r.2.mem ((c.tc : Thread Cert.AdamSmallB.nD Cert.AdamSmallB.τ).loc Cert.AdamSmallB.main_arg12) = m ((c.tc : Thread Cert.AdamSmallB.nD Cert.AdamSmallB.τ).loc Cert.AdamSmallB.main_arg12)
      ∧ r.2.mem ((c.tc : Thread Cert.AdamSmallB.nD Cert.AdamSmallB.τ).loc Cert.AdamSmallB.main_arg13) = m ((c.tc : Thread Cert.AdamSmallB.nD Cert.AdamSmallB.τ).loc Cert.AdamSmallB.main_arg13)
      ∧ r.2.mem ((c.tc : Thread Cert.AdamSmallB.nD Cert.AdamSmallB.τ).loc Cert.AdamSmallB.main_arg14) = m ((c.tc : Thread Cert.AdamSmallB.nD Cert.AdamSmallB.τ).loc Cert.AdamSmallB.main_arg14)
      ∧ r.2.mem ((c.tc : Thread Cert.AdamSmallB.nD Cert.AdamSmallB.τ).loc Cert.AdamSmallB.main_arg15) = m ((c.tc : Thread Cert.AdamSmallB.nD Cert.AdamSmallB.τ).loc Cert.AdamSmallB.main_arg15))
      ∧ r.2.sem = fun _ => 0)

def quiescent_AdamSmallBIdeal [hAdamSmallBIdeal : Cert.AdamSmallBIdeal.Facts] : Prop :=
  ∀ (m : (ℓ : Loc Cert.AdamSmallBIdeal.nD Cert.AdamSmallBIdeal.τ Cert.AdamSmallBIdeal.sig) → Buf (Elt Ideal) ℓ) (g : Dev Cert.AdamSmallBIdeal.nD → PrngReg), Pre_AdamSmallBIdeal m →
    θ_run (Cert.AdamSmallBIdeal.defs (F := Ideal)) (onTc (τ := Cert.AdamSmallBIdeal.τ) (Cert.AdamSmallBIdeal.main (F := Ideal))) ⟨m, fun _ => 0, g⟩ (fun r => (∀ c : Dev Cert.AdamSmallBIdeal.nD,
      r.2.mem ((c.tc : Thread Cert.AdamSmallBIdeal.nD Cert.AdamSmallBIdeal.τ).loc Cert.AdamSmallBIdeal.main_arg0) = m ((c.tc : Thread Cert.AdamSmallBIdeal.nD Cert.AdamSmallBIdeal.τ).loc Cert.AdamSmallBIdeal.main_arg0)
      ∧ r.2.mem ((c.tc : Thread Cert.AdamSmallBIdeal.nD Cert.AdamSmallBIdeal.τ).loc Cert.AdamSmallBIdeal.main_arg1) = m ((c.tc : Thread Cert.AdamSmallBIdeal.nD Cert.AdamSmallBIdeal.τ).loc Cert.AdamSmallBIdeal.main_arg1)
      ∧ r.2.mem ((c.tc : Thread Cert.AdamSmallBIdeal.nD Cert.AdamSmallBIdeal.τ).loc Cert.AdamSmallBIdeal.main_arg2) = m ((c.tc : Thread Cert.AdamSmallBIdeal.nD Cert.AdamSmallBIdeal.τ).loc Cert.AdamSmallBIdeal.main_arg2)
      ∧ r.2.mem ((c.tc : Thread Cert.AdamSmallBIdeal.nD Cert.AdamSmallBIdeal.τ).loc Cert.AdamSmallBIdeal.main_arg3) = m ((c.tc : Thread Cert.AdamSmallBIdeal.nD Cert.AdamSmallBIdeal.τ).loc Cert.AdamSmallBIdeal.main_arg3)
      ∧ r.2.mem ((c.tc : Thread Cert.AdamSmallBIdeal.nD Cert.AdamSmallBIdeal.τ).loc Cert.AdamSmallBIdeal.main_arg4) = m ((c.tc : Thread Cert.AdamSmallBIdeal.nD Cert.AdamSmallBIdeal.τ).loc Cert.AdamSmallBIdeal.main_arg4)
      ∧ r.2.mem ((c.tc : Thread Cert.AdamSmallBIdeal.nD Cert.AdamSmallBIdeal.τ).loc Cert.AdamSmallBIdeal.main_arg5) = m ((c.tc : Thread Cert.AdamSmallBIdeal.nD Cert.AdamSmallBIdeal.τ).loc Cert.AdamSmallBIdeal.main_arg5)
      ∧ r.2.mem ((c.tc : Thread Cert.AdamSmallBIdeal.nD Cert.AdamSmallBIdeal.τ).loc Cert.AdamSmallBIdeal.main_arg6) = m ((c.tc : Thread Cert.AdamSmallBIdeal.nD Cert.AdamSmallBIdeal.τ).loc Cert.AdamSmallBIdeal.main_arg6)
      ∧ r.2.mem ((c.tc : Thread Cert.AdamSmallBIdeal.nD Cert.AdamSmallBIdeal.τ).loc Cert.AdamSmallBIdeal.main_arg7) = m ((c.tc : Thread Cert.AdamSmallBIdeal.nD Cert.AdamSmallBIdeal.τ).loc Cert.AdamSmallBIdeal.main_arg7)
      ∧ r.2.mem ((c.tc : Thread Cert.AdamSmallBIdeal.nD Cert.AdamSmallBIdeal.τ).loc Cert.AdamSmallBIdeal.main_arg8) = m ((c.tc : Thread Cert.AdamSmallBIdeal.nD Cert.AdamSmallBIdeal.τ).loc Cert.AdamSmallBIdeal.main_arg8)
      ∧ r.2.mem ((c.tc : Thread Cert.AdamSmallBIdeal.nD Cert.AdamSmallBIdeal.τ).loc Cert.AdamSmallBIdeal.main_arg9) = m ((c.tc : Thread Cert.AdamSmallBIdeal.nD Cert.AdamSmallBIdeal.τ).loc Cert.AdamSmallBIdeal.main_arg9)
      ∧ r.2.mem ((c.tc : Thread Cert.AdamSmallBIdeal.nD Cert.AdamSmallBIdeal.τ).loc Cert.AdamSmallBIdeal.main_arg10) = m ((c.tc : Thread Cert.AdamSmallBIdeal.nD Cert.AdamSmallBIdeal.τ).loc Cert.AdamSmallBIdeal.main_arg10)
      ∧ r.2.mem ((c.tc : Thread Cert.AdamSmallBIdeal.nD Cert.AdamSmallBIdeal.τ).loc Cert.AdamSmallBIdeal.main_arg11) = m ((c.tc : Thread Cert.AdamSmallBIdeal.nD Cert.AdamSmallBIdeal.τ).loc Cert.AdamSmallBIdeal.main_arg11)
      ∧ r.2.mem ((c.tc : Thread Cert.AdamSmallBIdeal.nD Cert.AdamSmallBIdeal.τ).loc Cert.AdamSmallBIdeal.main_arg12) = m ((c.tc : Thread Cert.AdamSmallBIdeal.nD Cert.AdamSmallBIdeal.τ).loc Cert.AdamSmallBIdeal.main_arg12)
      ∧ r.2.mem ((c.tc : Thread Cert.AdamSmallBIdeal.nD Cert.AdamSmallBIdeal.τ).loc Cert.AdamSmallBIdeal.main_arg13) = m ((c.tc : Thread Cert.AdamSmallBIdeal.nD Cert.AdamSmallBIdeal.τ).loc Cert.AdamSmallBIdeal.main_arg13)
      ∧ r.2.mem ((c.tc : Thread Cert.AdamSmallBIdeal.nD Cert.AdamSmallBIdeal.τ).loc Cert.AdamSmallBIdeal.main_arg14) = m ((c.tc : Thread Cert.AdamSmallBIdeal.nD Cert.AdamSmallBIdeal.τ).loc Cert.AdamSmallBIdeal.main_arg14)
      ∧ r.2.mem ((c.tc : Thread Cert.AdamSmallBIdeal.nD Cert.AdamSmallBIdeal.τ).loc Cert.AdamSmallBIdeal.main_arg15) = m ((c.tc : Thread Cert.AdamSmallBIdeal.nD Cert.AdamSmallBIdeal.τ).loc Cert.AdamSmallBIdeal.main_arg15))
      ∧ r.2.sem = fun _ => 0)

def quiescent_AdamSmallBRefIdeal [hAdamSmallBRefIdeal : Cert.AdamSmallBRefIdeal.Facts] : Prop :=
  ∀ (m : (ℓ : Loc Cert.AdamSmallBRefIdeal.nD Cert.AdamSmallBRefIdeal.τ Cert.AdamSmallBRefIdeal.sig) → Buf (Elt Ideal) ℓ) (g : Dev Cert.AdamSmallBRefIdeal.nD → PrngReg), Pre_AdamSmallBRefIdeal m →
    θ_run (Cert.AdamSmallBRefIdeal.defs (F := Ideal)) (onTc (τ := Cert.AdamSmallBRefIdeal.τ) (Cert.AdamSmallBRefIdeal.main (F := Ideal))) ⟨m, fun _ => 0, g⟩ (fun r => (∀ c : Dev Cert.AdamSmallBRefIdeal.nD,
      r.2.mem ((c.tc : Thread Cert.AdamSmallBRefIdeal.nD Cert.AdamSmallBRefIdeal.τ).loc Cert.AdamSmallBRefIdeal.main_arg0) = m ((c.tc : Thread Cert.AdamSmallBRefIdeal.nD Cert.AdamSmallBRefIdeal.τ).loc Cert.AdamSmallBRefIdeal.main_arg0)
      ∧ r.2.mem ((c.tc : Thread Cert.AdamSmallBRefIdeal.nD Cert.AdamSmallBRefIdeal.τ).loc Cert.AdamSmallBRefIdeal.main_arg1) = m ((c.tc : Thread Cert.AdamSmallBRefIdeal.nD Cert.AdamSmallBRefIdeal.τ).loc Cert.AdamSmallBRefIdeal.main_arg1)
      ∧ r.2.mem ((c.tc : Thread Cert.AdamSmallBRefIdeal.nD Cert.AdamSmallBRefIdeal.τ).loc Cert.AdamSmallBRefIdeal.main_arg2) = m ((c.tc : Thread Cert.AdamSmallBRefIdeal.nD Cert.AdamSmallBRefIdeal.τ).loc Cert.AdamSmallBRefIdeal.main_arg2)
      ∧ r.2.mem ((c.tc : Thread Cert.AdamSmallBRefIdeal.nD Cert.AdamSmallBRefIdeal.τ).loc Cert.AdamSmallBRefIdeal.main_arg3) = m ((c.tc : Thread Cert.AdamSmallBRefIdeal.nD Cert.AdamSmallBRefIdeal.τ).loc Cert.AdamSmallBRefIdeal.main_arg3)
      ∧ r.2.mem ((c.tc : Thread Cert.AdamSmallBRefIdeal.nD Cert.AdamSmallBRefIdeal.τ).loc Cert.AdamSmallBRefIdeal.main_arg4) = m ((c.tc : Thread Cert.AdamSmallBRefIdeal.nD Cert.AdamSmallBRefIdeal.τ).loc Cert.AdamSmallBRefIdeal.main_arg4)
      ∧ r.2.mem ((c.tc : Thread Cert.AdamSmallBRefIdeal.nD Cert.AdamSmallBRefIdeal.τ).loc Cert.AdamSmallBRefIdeal.main_arg5) = m ((c.tc : Thread Cert.AdamSmallBRefIdeal.nD Cert.AdamSmallBRefIdeal.τ).loc Cert.AdamSmallBRefIdeal.main_arg5)
      ∧ r.2.mem ((c.tc : Thread Cert.AdamSmallBRefIdeal.nD Cert.AdamSmallBRefIdeal.τ).loc Cert.AdamSmallBRefIdeal.main_arg6) = m ((c.tc : Thread Cert.AdamSmallBRefIdeal.nD Cert.AdamSmallBRefIdeal.τ).loc Cert.AdamSmallBRefIdeal.main_arg6)
      ∧ r.2.mem ((c.tc : Thread Cert.AdamSmallBRefIdeal.nD Cert.AdamSmallBRefIdeal.τ).loc Cert.AdamSmallBRefIdeal.main_arg7) = m ((c.tc : Thread Cert.AdamSmallBRefIdeal.nD Cert.AdamSmallBRefIdeal.τ).loc Cert.AdamSmallBRefIdeal.main_arg7)
      ∧ r.2.mem ((c.tc : Thread Cert.AdamSmallBRefIdeal.nD Cert.AdamSmallBRefIdeal.τ).loc Cert.AdamSmallBRefIdeal.main_arg8) = m ((c.tc : Thread Cert.AdamSmallBRefIdeal.nD Cert.AdamSmallBRefIdeal.τ).loc Cert.AdamSmallBRefIdeal.main_arg8)
      ∧ r.2.mem ((c.tc : Thread Cert.AdamSmallBRefIdeal.nD Cert.AdamSmallBRefIdeal.τ).loc Cert.AdamSmallBRefIdeal.main_arg9) = m ((c.tc : Thread Cert.AdamSmallBRefIdeal.nD Cert.AdamSmallBRefIdeal.τ).loc Cert.AdamSmallBRefIdeal.main_arg9)
      ∧ r.2.mem ((c.tc : Thread Cert.AdamSmallBRefIdeal.nD Cert.AdamSmallBRefIdeal.τ).loc Cert.AdamSmallBRefIdeal.main_arg10) = m ((c.tc : Thread Cert.AdamSmallBRefIdeal.nD Cert.AdamSmallBRefIdeal.τ).loc Cert.AdamSmallBRefIdeal.main_arg10)
      ∧ r.2.mem ((c.tc : Thread Cert.AdamSmallBRefIdeal.nD Cert.AdamSmallBRefIdeal.τ).loc Cert.AdamSmallBRefIdeal.main_arg11) = m ((c.tc : Thread Cert.AdamSmallBRefIdeal.nD Cert.AdamSmallBRefIdeal.τ).loc Cert.AdamSmallBRefIdeal.main_arg11)
      ∧ r.2.mem ((c.tc : Thread Cert.AdamSmallBRefIdeal.nD Cert.AdamSmallBRefIdeal.τ).loc Cert.AdamSmallBRefIdeal.main_arg12) = m ((c.tc : Thread Cert.AdamSmallBRefIdeal.nD Cert.AdamSmallBRefIdeal.τ).loc Cert.AdamSmallBRefIdeal.main_arg12)
      ∧ r.2.mem ((c.tc : Thread Cert.AdamSmallBRefIdeal.nD Cert.AdamSmallBRefIdeal.τ).loc Cert.AdamSmallBRefIdeal.main_arg13) = m ((c.tc : Thread Cert.AdamSmallBRefIdeal.nD Cert.AdamSmallBRefIdeal.τ).loc Cert.AdamSmallBRefIdeal.main_arg13)
      ∧ r.2.mem ((c.tc : Thread Cert.AdamSmallBRefIdeal.nD Cert.AdamSmallBRefIdeal.τ).loc Cert.AdamSmallBRefIdeal.main_arg14) = m ((c.tc : Thread Cert.AdamSmallBRefIdeal.nD Cert.AdamSmallBRefIdeal.τ).loc Cert.AdamSmallBRefIdeal.main_arg14)
      ∧ r.2.mem ((c.tc : Thread Cert.AdamSmallBRefIdeal.nD Cert.AdamSmallBRefIdeal.τ).loc Cert.AdamSmallBRefIdeal.main_arg15) = m ((c.tc : Thread Cert.AdamSmallBRefIdeal.nD Cert.AdamSmallBRefIdeal.τ).loc Cert.AdamSmallBRefIdeal.main_arg15))
      ∧ r.2.sem = fun _ => 0)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1)
      ∧ r.2.mem ((c.tc : Thread Cert.Du.nD Cert.Du.τ).loc Cert.Du.main_arg2) = m ((c.tc : Thread Cert.Du.nD Cert.Du.τ).loc Cert.Du.main_arg2)
      ∧ r.2.mem ((c.tc : Thread Cert.Du.nD Cert.Du.τ).loc Cert.Du.main_arg3) = m ((c.tc : Thread Cert.Du.nD Cert.Du.τ).loc Cert.Du.main_arg3)
      ∧ r.2.mem ((c.tc : Thread Cert.Du.nD Cert.Du.τ).loc Cert.Du.main_arg4) = m ((c.tc : Thread Cert.Du.nD Cert.Du.τ).loc Cert.Du.main_arg4)
      ∧ r.2.mem ((c.tc : Thread Cert.Du.nD Cert.Du.τ).loc Cert.Du.main_arg5) = m ((c.tc : Thread Cert.Du.nD Cert.Du.τ).loc Cert.Du.main_arg5)
      ∧ r.2.mem ((c.tc : Thread Cert.Du.nD Cert.Du.τ).loc Cert.Du.main_arg6) = m ((c.tc : Thread Cert.Du.nD Cert.Du.τ).loc Cert.Du.main_arg6)
      ∧ r.2.mem ((c.tc : Thread Cert.Du.nD Cert.Du.τ).loc Cert.Du.main_arg7) = m ((c.tc : Thread Cert.Du.nD Cert.Du.τ).loc Cert.Du.main_arg7)
      ∧ r.2.mem ((c.tc : Thread Cert.Du.nD Cert.Du.τ).loc Cert.Du.main_arg8) = m ((c.tc : Thread Cert.Du.nD Cert.Du.τ).loc Cert.Du.main_arg8)
      ∧ r.2.mem ((c.tc : Thread Cert.Du.nD Cert.Du.τ).loc Cert.Du.main_arg9) = m ((c.tc : Thread Cert.Du.nD Cert.Du.τ).loc Cert.Du.main_arg9))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
      ∧ r.2.mem ((c.tc : Thread Cert.DuIdeal.nD Cert.DuIdeal.τ).loc Cert.DuIdeal.main_arg2) = m ((c.tc : Thread Cert.DuIdeal.nD Cert.DuIdeal.τ).loc Cert.DuIdeal.main_arg2)
      ∧ r.2.mem ((c.tc : Thread Cert.DuIdeal.nD Cert.DuIdeal.τ).loc Cert.DuIdeal.main_arg3) = m ((c.tc : Thread Cert.DuIdeal.nD Cert.DuIdeal.τ).loc Cert.DuIdeal.main_arg3)
      ∧ r.2.mem ((c.tc : Thread Cert.DuIdeal.nD Cert.DuIdeal.τ).loc Cert.DuIdeal.main_arg4) = m ((c.tc : Thread Cert.DuIdeal.nD Cert.DuIdeal.τ).loc Cert.DuIdeal.main_arg4)
      ∧ r.2.mem ((c.tc : Thread Cert.DuIdeal.nD Cert.DuIdeal.τ).loc Cert.DuIdeal.main_arg5) = m ((c.tc : Thread Cert.DuIdeal.nD Cert.DuIdeal.τ).loc Cert.DuIdeal.main_arg5)
      ∧ r.2.mem ((c.tc : Thread Cert.DuIdeal.nD Cert.DuIdeal.τ).loc Cert.DuIdeal.main_arg6) = m ((c.tc : Thread Cert.DuIdeal.nD Cert.DuIdeal.τ).loc Cert.DuIdeal.main_arg6)
      ∧ r.2.mem ((c.tc : Thread Cert.DuIdeal.nD Cert.DuIdeal.τ).loc Cert.DuIdeal.main_arg7) = m ((c.tc : Thread Cert.DuIdeal.nD Cert.DuIdeal.τ).loc Cert.DuIdeal.main_arg7)
      ∧ r.2.mem ((c.tc : Thread Cert.DuIdeal.nD Cert.DuIdeal.τ).loc Cert.DuIdeal.main_arg8) = m ((c.tc : Thread Cert.DuIdeal.nD Cert.DuIdeal.τ).loc Cert.DuIdeal.main_arg8)
      ∧ r.2.mem ((c.tc : Thread Cert.DuIdeal.nD Cert.DuIdeal.τ).loc Cert.DuIdeal.main_arg9) = m ((c.tc : Thread Cert.DuIdeal.nD Cert.DuIdeal.τ).loc Cert.DuIdeal.main_arg9))
      ∧ r.2.sem = fun _ => 0)

def quiescent_DuRefIdeal [hDuRefIdeal : Cert.DuRefIdeal.Facts] : Prop :=
  ∀ (m : (ℓ : Loc Cert.DuRefIdeal.nD Cert.DuRefIdeal.τ Cert.DuRefIdeal.sig) → Buf (Elt Ideal) ℓ) (g : Dev Cert.DuRefIdeal.nD → PrngReg), Pre_DuRefIdeal m →
    θ_run (Cert.DuRefIdeal.defs (F := Ideal)) (onTc (τ := Cert.DuRefIdeal.τ) (Cert.DuRefIdeal.main (F := Ideal))) ⟨m, fun _ => 0, g⟩ (fun r => (∀ c : Dev Cert.DuRefIdeal.nD,
      r.2.mem ((c.tc : Thread Cert.DuRefIdeal.nD Cert.DuRefIdeal.τ).loc Cert.DuRefIdeal.main_arg0) = m ((c.tc : Thread Cert.DuRefIdeal.nD Cert.DuRefIdeal.τ).loc Cert.DuRefIdeal.main_arg0)
      ∧ r.2.mem ((c.tc : Thread Cert.DuRefIdeal.nD Cert.DuRefIdeal.τ).loc Cert.DuRefIdeal.main_arg1) = m ((c.tc : Thread Cert.DuRefIdeal.nD Cert.DuRefIdeal.τ).loc Cert.DuRefIdeal.main_arg1)
      ∧ r.2.mem ((c.tc : Thread Cert.DuRefIdeal.nD Cert.DuRefIdeal.τ).loc Cert.DuRefIdeal.main_arg2) = m ((c.tc : Thread Cert.DuRefIdeal.nD Cert.DuRefIdeal.τ).loc Cert.DuRefIdeal.main_arg2)
      ∧ r.2.mem ((c.tc : Thread Cert.DuRefIdeal.nD Cert.DuRefIdeal.τ).loc Cert.DuRefIdeal.main_arg3) = m ((c.tc : Thread Cert.DuRefIdeal.nD Cert.DuRefIdeal.τ).loc Cert.DuRefIdeal.main_arg3)
      ∧ r.2.mem ((c.tc : Thread Cert.DuRefIdeal.nD Cert.DuRefIdeal.τ).loc Cert.DuRefIdeal.main_arg4) = m ((c.tc : Thread Cert.DuRefIdeal.nD Cert.DuRefIdeal.τ).loc Cert.DuRefIdeal.main_arg4)
      ∧ r.2.mem ((c.tc : Thread Cert.DuRefIdeal.nD Cert.DuRefIdeal.τ).loc Cert.DuRefIdeal.main_arg5) = m ((c.tc : Thread Cert.DuRefIdeal.nD Cert.DuRefIdeal.τ).loc Cert.DuRefIdeal.main_arg5)
      ∧ r.2.mem ((c.tc : Thread Cert.DuRefIdeal.nD Cert.DuRefIdeal.τ).loc Cert.DuRefIdeal.main_arg6) = m ((c.tc : Thread Cert.DuRefIdeal.nD Cert.DuRefIdeal.τ).loc Cert.DuRefIdeal.main_arg6)
      ∧ r.2.mem ((c.tc : Thread Cert.DuRefIdeal.nD Cert.DuRefIdeal.τ).loc Cert.DuRefIdeal.main_arg7) = m ((c.tc : Thread Cert.DuRefIdeal.nD Cert.DuRefIdeal.τ).loc Cert.DuRefIdeal.main_arg7)
      ∧ r.2.mem ((c.tc : Thread Cert.DuRefIdeal.nD Cert.DuRefIdeal.τ).loc Cert.DuRefIdeal.main_arg8) = m ((c.tc : Thread Cert.DuRefIdeal.nD Cert.DuRefIdeal.τ).loc Cert.DuRefIdeal.main_arg8)
      ∧ r.2.mem ((c.tc : Thread Cert.DuRefIdeal.nD Cert.DuRefIdeal.τ).loc Cert.DuRefIdeal.main_arg9) = m ((c.tc : Thread Cert.DuRefIdeal.nD Cert.DuRefIdeal.τ).loc Cert.DuRefIdeal.main_arg9))
      ∧ r.2.sem = fun _ => 0)

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v38) = v0 c
          ∧ r.2.mem ((c.tc : Thread Cert.NormRefIdeal.nD Cert.NormRefIdeal.τ).loc Cert.NormRefIdeal.main_v23) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_NormDy_NormDyIdeal : Prop :=
  True

def algebraic_NormDyIdeal_NormDyRefIdeal_pre_normdy_finite [hNormDyIdeal : Cert.NormDyIdeal.Facts] [hNormDyRefIdeal : Cert.NormDyRefIdeal.Facts] [hPre_normdy_finite : Cert.Pre_normdy_finite.Facts] : Prop :=
  ∀ (m : (ℓ : Loc Cert.NormDyIdeal.nD Cert.NormDyIdeal.τ Cert.NormDyIdeal.sig) → Buf (Elt Ideal) ℓ) (g : Dev Cert.NormDyIdeal.nD → PrngReg)
    (m' : (ℓ : Loc Cert.NormDyRefIdeal.nD Cert.NormDyRefIdeal.τ Cert.NormDyRefIdeal.sig) → Buf (Elt Ideal) ℓ) (g' : Dev Cert.NormDyRefIdeal.nD → PrngReg), Pre_NormDyIdeal_normdy_finite m →
    (∀ c : Dev Cert.NormDyIdeal.nD,
      m' ((c.tc : Thread Cert.NormDyRefIdeal.nD Cert.NormDyRefIdeal.τ).loc Cert.NormDyRefIdeal.main_arg0) = m ((c.tc : Thread Cert.NormDyIdeal.nD Cert.NormDyIdeal.τ).loc Cert.NormDyIdeal.main_arg0)
      ∧ m' ((c.tc : Thread Cert.NormDyRefIdeal.nD Cert.NormDyRefIdeal.τ).loc Cert.NormDyRefIdeal.main_arg1) = m ((c.tc : Thread Cert.NormDyIdeal.nD Cert.NormDyIdeal.τ).loc Cert.NormDyIdeal.main_arg1)
      ∧ m' ((c.tc : Thread Cert.NormDyRefIdeal.nD Cert.NormDyRefIdeal.τ).loc Cert.NormDyRefIdeal.main_arg2) = m ((c.tc : Thread Cert.NormDyIdeal.nD Cert.NormDyIdeal.τ).loc Cert.NormDyIdeal.main_arg2)
      ∧ m' ((c.tc : Thread Cert.NormDyRefIdeal.nD Cert.NormDyRefIdeal.τ).loc Cert.NormDyRefIdeal.main_arg3) = m ((c.tc : Thread Cert.NormDyIdeal.nD Cert.NormDyIdeal.τ).loc Cert.NormDyIdeal.main_arg3)
      ∧ m' ((c.tc : Thread Cert.NormDyRefIdeal.nD Cert.NormDyRefIdeal.τ).loc Cert.NormDyRefIdeal.main_arg4) = m ((c.tc : Thread Cert.NormDyIdeal.nD Cert.NormDyIdeal.τ).loc Cert.NormDyIdeal.main_arg4)) →
    ∃ (v0 : (c : Dev Cert.NormDyIdeal.nD) → Buf (Elt Ideal) ((c.tc : Thread Cert.NormDyIdeal.nD Cert.NormDyIdeal.τ).loc Cert.NormDyIdeal.main_v1_0)) (v1 : (c : Dev Cert.NormDyIdeal.nD) → Buf (Elt Ideal) ((c.tc : Thread Cert.NormDyIdeal.nD Cert.NormDyIdeal.τ).loc Cert.NormDyIdeal.main_v1_1)) (v2 : (c : Dev Cert.NormDyIdeal.nD) → Buf (Elt Ideal) ((c.tc : Thread Cert.NormDyIdeal.nD Cert.NormDyIdeal.τ).loc Cert.NormDyIdeal.main_v1_2)) (v3 : (c : Dev Cert.NormDyIdeal.nD) → Buf (Elt Ideal) ((c.tc : Thread Cert.NormDyIdeal.nD Cert.NormDyIdeal.τ).loc Cert.NormDyIdeal.main_v1_3)),
      θ_run (Cert.NormDyIdeal.defs (F := Ideal)) (onTc (τ := Cert.NormDyIdeal.τ) (Cert.NormDyIdeal.main (F := Ideal))) ⟨m, fun _ => 0, g⟩ (fun r => ∀ c : Dev Cert.NormDyIdeal.nD,
          r.2.mem ((c.tc : Thread Cert.NormDyIdeal.nD Cert.NormDyIdeal.τ).loc Cert.NormDyIdeal.main_v1_0) = v0 c
          ∧ r.2.mem ((c.tc : Thread Cert.NormDyIdeal.nD Cert.NormDyIdeal.τ).loc Cert.NormDyIdeal.main_v1_1) = v1 c
          ∧ r.2.mem ((c.tc : Thread Cert.NormDyIdeal.nD Cert.NormDyIdeal.τ).loc Cert.NormDyIdeal.main_v1_2) = v2 c
          ∧ r.2.mem ((c.tc : Thread Cert.NormDyIdeal.nD Cert.NormDyIdeal.τ).loc Cert.NormDyIdeal.main_v1_3) = v3 c
          ∧ r.2.mem ((c.tc : Thread Cert.NormDyIdeal.nD Cert.NormDyIdeal.τ).loc Cert.NormDyIdeal.main_arg0) = m ((c.tc : Thread Cert.NormDyIdeal.nD Cert.NormDyIdeal.τ).loc Cert.NormDyIdeal.main_arg0)
          ∧ r.2.mem ((c.tc : Thread Cert.NormDyIdeal.nD Cert.NormDyIdeal.τ).loc Cert.NormDyIdeal.main_arg1) = m ((c.tc : Thread Cert.NormDyIdeal.nD Cert.NormDyIdeal.τ).loc Cert.NormDyIdeal.main_arg1)
          ∧ r.2.mem ((c.tc : Thread Cert.NormDyIdeal.nD Cert.NormDyIdeal.τ).loc Cert.NormDyIdeal.main_arg2) = m ((c.tc : Thread Cert.NormDyIdeal.nD Cert.NormDyIdeal.τ).loc Cert.NormDyIdeal.main_arg2)
          ∧ r.2.mem ((c.tc : Thread Cert.NormDyIdeal.nD Cert.NormDyIdeal.τ).loc Cert.NormDyIdeal.main_arg3) = m ((c.tc : Thread Cert.NormDyIdeal.nD Cert.NormDyIdeal.τ).loc Cert.NormDyIdeal.main_arg3)
          ∧ r.2.mem ((c.tc : Thread Cert.NormDyIdeal.nD Cert.NormDyIdeal.τ).loc Cert.NormDyIdeal.main_arg4) = m ((c.tc : Thread Cert.NormDyIdeal.nD Cert.NormDyIdeal.τ).loc Cert.NormDyIdeal.main_arg4))
      ∧ θ_run (Cert.NormDyRefIdeal.defs (F := Ideal)) (onTc (τ := Cert.NormDyRefIdeal.τ) (Cert.NormDyRefIdeal.main (F := Ideal))) ⟨m', fun _ => 0, g'⟩ (fun r => ∀ c : Dev Cert.NormDyRefIdeal.nD,
          r.2.mem ((c.tc : Thread Cert.NormDyRefIdeal.nD Cert.NormDyRefIdeal.τ).loc Cert.NormDyRefIdeal.main_v38) = v0 c
          ∧ r.2.mem ((c.tc : Thread Cert.NormDyRefIdeal.nD Cert.NormDyRefIdeal.τ).loc Cert.NormDyRefIdeal.main_v39) = v1 c
          ∧ r.2.mem ((c.tc : Thread Cert.NormDyRefIdeal.nD Cert.NormDyRefIdeal.τ).loc Cert.NormDyRefIdeal.main_v23) = v2 c
          ∧ r.2.mem ((c.tc : Thread Cert.NormDyRefIdeal.nD Cert.NormDyRefIdeal.τ).loc Cert.NormDyRefIdeal.main_v41) = v3 c
          ∧ r.2.mem ((c.tc : Thread Cert.NormDyRefIdeal.nD Cert.NormDyRefIdeal.τ).loc Cert.NormDyRefIdeal.main_arg0) = m' ((c.tc : Thread Cert.NormDyRefIdeal.nD Cert.NormDyRefIdeal.τ).loc Cert.NormDyRefIdeal.main_arg0)
          ∧ r.2.mem ((c.tc : Thread Cert.NormDyRefIdeal.nD Cert.NormDyRefIdeal.τ).loc Cert.NormDyRefIdeal.main_arg1) = m' ((c.tc : Thread Cert.NormDyRefIdeal.nD Cert.NormDyRefIdeal.τ).loc Cert.NormDyRefIdeal.main_arg1)
          ∧ r.2.mem ((c.tc : Thread Cert.NormDyRefIdeal.nD Cert.NormDyRefIdeal.τ).loc Cert.NormDyRefIdeal.main_arg2) = m' ((c.tc : Thread Cert.NormDyRefIdeal.nD Cert.NormDyRefIdeal.τ).loc Cert.NormDyRefIdeal.main_arg2)
          ∧ r.2.mem ((c.tc : Thread Cert.NormDyRefIdeal.nD Cert.NormDyRefIdeal.τ).loc Cert.NormDyRefIdeal.main_arg3) = m' ((c.tc : Thread Cert.NormDyRefIdeal.nD Cert.NormDyRefIdeal.τ).loc Cert.NormDyRefIdeal.main_arg3)
          ∧ r.2.mem ((c.tc : Thread Cert.NormDyRefIdeal.nD Cert.NormDyRefIdeal.τ).loc Cert.NormDyRefIdeal.main_arg4) = m' ((c.tc : Thread Cert.NormDyRefIdeal.nD Cert.NormDyRefIdeal.τ).loc Cert.NormDyRefIdeal.main_arg4))

def preserves_Dff2_Dff2Ideal : Prop :=
  True

def algebraic_Dff2Ideal_Dff2RefIdeal [hDff2Ideal : Cert.Dff2Ideal.Facts] [hDff2RefIdeal : Cert.Dff2RefIdeal.Facts] : Prop :=
  ∀ (m : (ℓ : Loc Cert.Dff2Ideal.nD Cert.Dff2Ideal.τ Cert.Dff2Ideal.sig) → Buf (Elt Ideal) ℓ) (g : Dev Cert.Dff2Ideal.nD → PrngReg)
    (m' : (ℓ : Loc Cert.Dff2RefIdeal.nD Cert.Dff2RefIdeal.τ Cert.Dff2RefIdeal.sig) → Buf (Elt Ideal) ℓ) (g' : Dev Cert.Dff2RefIdeal.nD → PrngReg), Pre_Dff2Ideal m →
    (∀ c : Dev Cert.Dff2Ideal.nD,
      m' ((c.tc : Thread Cert.Dff2RefIdeal.nD Cert.Dff2RefIdeal.τ).loc Cert.Dff2RefIdeal.main_arg0) = m ((c.tc : Thread Cert.Dff2Ideal.nD Cert.Dff2Ideal.τ).loc Cert.Dff2Ideal.main_arg0)
      ∧ m' ((c.tc : Thread Cert.Dff2RefIdeal.nD Cert.Dff2RefIdeal.τ).loc Cert.Dff2RefIdeal.main_arg1) = m ((c.tc : Thread Cert.Dff2Ideal.nD Cert.Dff2Ideal.τ).loc Cert.Dff2Ideal.main_arg1)
      ∧ m' ((c.tc : Thread Cert.Dff2RefIdeal.nD Cert.Dff2RefIdeal.τ).loc Cert.Dff2RefIdeal.main_arg2) = m ((c.tc : Thread Cert.Dff2Ideal.nD Cert.Dff2Ideal.τ).loc Cert.Dff2Ideal.main_arg2)) →
    ∃ (v0 : (c : Dev Cert.Dff2Ideal.nD) → Buf (Elt Ideal) ((c.tc : Thread Cert.Dff2Ideal.nD Cert.Dff2Ideal.τ).loc Cert.Dff2Ideal.main_v3)),
      θ_run (Cert.Dff2Ideal.defs (F := Ideal)) (onTc (τ := Cert.Dff2Ideal.τ) (Cert.Dff2Ideal.main (F := Ideal))) ⟨m, fun _ => 0, g⟩ (fun r => ∀ c : Dev Cert.Dff2Ideal.nD,
          r.2.mem ((c.tc : Thread Cert.Dff2Ideal.nD Cert.Dff2Ideal.τ).loc Cert.Dff2Ideal.main_v3) = v0 c
          ∧ r.2.mem ((c.tc : Thread Cert.Dff2Ideal.nD Cert.Dff2Ideal.τ).loc Cert.Dff2Ideal.main_arg0) = m ((c.tc : Thread Cert.Dff2Ideal.nD Cert.Dff2Ideal.τ).loc Cert.Dff2Ideal.main_arg0)
          ∧ r.2.mem ((c.tc : Thread Cert.Dff2Ideal.nD Cert.Dff2Ideal.τ).loc Cert.Dff2Ideal.main_arg1) = m ((c.tc : Thread Cert.Dff2Ideal.nD Cert.Dff2Ideal.τ).loc Cert.Dff2Ideal.main_arg1)
          ∧ r.2.mem ((c.tc : Thread Cert.Dff2Ideal.nD Cert.Dff2Ideal.τ).loc Cert.Dff2Ideal.main_arg2) = m ((c.tc : Thread Cert.Dff2Ideal.nD Cert.Dff2Ideal.τ).loc Cert.Dff2Ideal.main_arg2))
      ∧ θ_run (Cert.Dff2RefIdeal.defs (F := Ideal)) (onTc (τ := Cert.Dff2RefIdeal.τ) (Cert.Dff2RefIdeal.main (F := Ideal))) ⟨m', fun _ => 0, g'⟩ (fun r => ∀ c : Dev Cert.Dff2RefIdeal.nD,
          r.2.mem ((c.tc : Thread Cert.Dff2RefIdeal.nD Cert.Dff2RefIdeal.τ).loc Cert.Dff2RefIdeal.main_v12) = v0 c
          ∧ r.2.mem ((c.tc : Thread Cert.Dff2RefIdeal.nD Cert.Dff2RefIdeal.τ).loc Cert.Dff2RefIdeal.main_arg0) = m' ((c.tc : Thread Cert.Dff2RefIdeal.nD Cert.Dff2RefIdeal.τ).loc Cert.Dff2RefIdeal.main_arg0)
          ∧ r.2.mem ((c.tc : Thread Cert.Dff2RefIdeal.nD Cert.Dff2RefIdeal.τ).loc Cert.Dff2RefIdeal.main_arg1) = m' ((c.tc : Thread Cert.Dff2RefIdeal.nD Cert.Dff2RefIdeal.τ).loc Cert.Dff2RefIdeal.main_arg1)
          ∧ r.2.mem ((c.tc : Thread Cert.Dff2RefIdeal.nD Cert.Dff2RefIdeal.τ).loc Cert.Dff2RefIdeal.main_arg2) = m' ((c.tc : Thread Cert.Dff2RefIdeal.nD Cert.Dff2RefIdeal.τ).loc Cert.Dff2RefIdeal.main_arg2))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)) →
    ∃ (v0 : (c : Dev Cert.Dw2Ideal.nD) → Buf (Elt Ideal) ((c.tc : Thread Cert.Dw2Ideal.nD Cert.Dw2Ideal.τ).loc Cert.Dw2Ideal.main_v2)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v2) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v6) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1))

def preserves_Mixer_MixerIdeal : Prop :=
  True

def algebraic_MixerIdeal_MixerRefIdeal_pre_mixer_finite [hMixerIdeal : Cert.MixerIdeal.Facts] [hMixerRefIdeal : Cert.MixerRefIdeal.Facts] [hPre_mixer_finite : Cert.Pre_mixer_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_mixer_finite m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)) →
    ∃ (v0 : (c : Dev Cert.MixerIdeal.nD) → Buf (Elt Ideal) ((c.tc : Thread Cert.MixerIdeal.nD Cert.MixerIdeal.τ).loc Cert.MixerIdeal.main_v7_0)) (v1 : (c : Dev Cert.MixerIdeal.nD) → Buf (Elt Ideal) ((c.tc : Thread Cert.MixerIdeal.nD Cert.MixerIdeal.τ).loc Cert.MixerIdeal.main_v8_0)) (v2 : (c : Dev Cert.MixerIdeal.nD) → Buf (Elt Ideal) ((c.tc : Thread Cert.MixerIdeal.nD Cert.MixerIdeal.τ).loc Cert.MixerIdeal.main_v8_1)) (v3 : (c : Dev Cert.MixerIdeal.nD) → Buf (Elt Ideal) ((c.tc : Thread Cert.MixerIdeal.nD Cert.MixerIdeal.τ).loc Cert.MixerIdeal.main_v8_2)) (v4 : (c : Dev Cert.MixerIdeal.nD) → Buf (Elt Ideal) ((c.tc : Thread Cert.MixerIdeal.nD Cert.MixerIdeal.τ).loc Cert.MixerIdeal.main_v8_3)) (v5 : (c : Dev Cert.MixerIdeal.nD) → Buf (Elt Ideal) ((c.tc : Thread Cert.MixerIdeal.nD Cert.MixerIdeal.τ).loc Cert.MixerIdeal.main_v8_4)) (v6 : (c : Dev Cert.MixerIdeal.nD) → Buf (Elt Ideal) ((c.tc : Thread Cert.MixerIdeal.nD Cert.MixerIdeal.τ).loc Cert.MixerIdeal.main_v8_5)) (v7 : (c : Dev Cert.MixerIdeal.nD) → Buf (Elt Ideal) ((c.tc : Thread Cert.MixerIdeal.nD Cert.MixerIdeal.τ).loc Cert.MixerIdeal.main_v8_6)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v7_0) = v0 c
          ∧ r.2.mem ((c.tc : Thread Cert.MixerIdeal.nD Cert.MixerIdeal.τ).loc Cert.MixerIdeal.main_v8_0) = v1 c
          ∧ r.2.mem ((c.tc : Thread Cert.MixerIdeal.nD Cert.MixerIdeal.τ).loc Cert.MixerIdeal.main_v8_1) = v2 c
          ∧ r.2.mem ((c.tc : Thread Cert.MixerIdeal.nD Cert.MixerIdeal.τ).loc Cert.MixerIdeal.main_v8_2) = v3 c
          ∧ r.2.mem ((c.tc : Thread Cert.MixerIdeal.nD Cert.MixerIdeal.τ).loc Cert.MixerIdeal.main_v8_3) = v4 c
          ∧ r.2.mem ((c.tc : Thread Cert.MixerIdeal.nD Cert.MixerIdeal.τ).loc Cert.MixerIdeal.main_v8_4) = v5 c
          ∧ r.2.mem ((c.tc : Thread Cert.MixerIdeal.nD Cert.MixerIdeal.τ).loc Cert.MixerIdeal.main_v8_5) = v6 c
          ∧ r.2.mem ((c.tc : Thread Cert.MixerIdeal.nD Cert.MixerIdeal.τ).loc Cert.MixerIdeal.main_v8_6) = v7 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v275) = v0 c
          ∧ r.2.mem ((c.tc : Thread Cert.MixerRefIdeal.nD Cert.MixerRefIdeal.τ).loc Cert.MixerRefIdeal.main_v277) = v1 c
          ∧ r.2.mem ((c.tc : Thread Cert.MixerRefIdeal.nD Cert.MixerRefIdeal.τ).loc Cert.MixerRefIdeal.main_v280) = v2 c
          ∧ r.2.mem ((c.tc : Thread Cert.MixerRefIdeal.nD Cert.MixerRefIdeal.τ).loc Cert.MixerRefIdeal.main_v282) = v3 c
          ∧ r.2.mem ((c.tc : Thread Cert.MixerRefIdeal.nD Cert.MixerRefIdeal.τ).loc Cert.MixerRefIdeal.main_v206) = v4 c
          ∧ r.2.mem ((c.tc : Thread Cert.MixerRefIdeal.nD Cert.MixerRefIdeal.τ).loc Cert.MixerRefIdeal.main_v132) = v5 c
          ∧ r.2.mem ((c.tc : Thread Cert.MixerRefIdeal.nD Cert.MixerRefIdeal.τ).loc Cert.MixerRefIdeal.main_v196) = v6 c
          ∧ r.2.mem ((c.tc : Thread Cert.MixerRefIdeal.nD Cert.MixerRefIdeal.τ).loc Cert.MixerRefIdeal.main_v283) = v7 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v0)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v14) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_v16) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)
      ∧ m' ((c.tc : Thread Cert.Ff2RefIdeal.nD Cert.Ff2RefIdeal.τ).loc Cert.Ff2RefIdeal.main_arg2) = m ((c.tc : Thread Cert.Ff2Ideal.nD Cert.Ff2Ideal.τ).loc Cert.Ff2Ideal.main_arg2)) →
    ∃ (v0 : (c : Dev Cert.Ff2Ideal.nD) → Buf (Elt Ideal) ((c.tc : Thread Cert.Ff2Ideal.nD Cert.Ff2Ideal.τ).loc Cert.Ff2Ideal.main_v2)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v2) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v3) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1)
          ∧ r.2.mem ((c.tc : Thread Cert.Ff2RefIdeal.nD Cert.Ff2RefIdeal.τ).loc Cert.Ff2RefIdeal.main_arg2) = m' ((c.tc : Thread Cert.Ff2RefIdeal.nD Cert.Ff2RefIdeal.τ).loc Cert.Ff2RefIdeal.main_arg2))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v4)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v4) = v0 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v1) = v0 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v4)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v4) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v2) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v1_0)) (v1 : (c : Dev Cert.AdamWInIdeal.nD) → Buf (Elt Ideal) ((c.tc : Thread Cert.AdamWInIdeal.nD Cert.AdamWInIdeal.τ).loc Cert.AdamWInIdeal.main_v1_1)) (v2 : (c : Dev Cert.AdamWInIdeal.nD) → Buf (Elt Ideal) ((c.tc : Thread Cert.AdamWInIdeal.nD Cert.AdamWInIdeal.τ).loc Cert.AdamWInIdeal.main_v1_2)) (v3 : (c : Dev Cert.AdamWInIdeal.nD) → Buf (Elt Ideal) ((c.tc : Thread Cert.AdamWInIdeal.nD Cert.AdamWInIdeal.τ).loc Cert.AdamWInIdeal.main_v1_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v1_0) = v0 c
          ∧ r.2.mem ((c.tc : Thread Cert.AdamWInIdeal.nD Cert.AdamWInIdeal.τ).loc Cert.AdamWInIdeal.main_v1_1) = v1 c
          ∧ r.2.mem ((c.tc : Thread Cert.AdamWInIdeal.nD Cert.AdamWInIdeal.τ).loc Cert.AdamWInIdeal.main_v1_2) = v2 c
          ∧ r.2.mem ((c.tc : Thread Cert.AdamWInIdeal.nD Cert.AdamWInIdeal.τ).loc Cert.AdamWInIdeal.main_v1_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v0) = v0 c
          ∧ r.2.mem ((c.tc : Thread Cert.AdamWInRefIdeal.nD Cert.AdamWInRefIdeal.τ).loc Cert.AdamWInRefIdeal.main_v24) = v1 c
          ∧ r.2.mem ((c.tc : Thread Cert.AdamWInRefIdeal.nD Cert.AdamWInRefIdeal.τ).loc Cert.AdamWInRefIdeal.main_v5) = v2 c
          ∧ r.2.mem ((c.tc : Thread Cert.AdamWInRefIdeal.nD Cert.AdamWInRefIdeal.τ).loc Cert.AdamWInRefIdeal.main_v11) = v3 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_SumParts_SumPartsIdeal : Prop :=
  True

def algebraic_SumPartsIdeal_SumPartsRefIdeal [hSumPartsIdeal : Cert.SumPartsIdeal.Facts] [hSumPartsRefIdeal : Cert.SumPartsRefIdeal.Facts] : Prop :=
  ∀ (m : (ℓ : Loc Cert.SumPartsIdeal.nD Cert.SumPartsIdeal.τ Cert.SumPartsIdeal.sig) → Buf (Elt Ideal) ℓ) (g : Dev Cert.SumPartsIdeal.nD → PrngReg)
    (m' : (ℓ : Loc Cert.SumPartsRefIdeal.nD Cert.SumPartsRefIdeal.τ Cert.SumPartsRefIdeal.sig) → Buf (Elt Ideal) ℓ) (g' : Dev Cert.SumPartsRefIdeal.nD → PrngReg), Pre_SumPartsIdeal m →
    (∀ c : Dev Cert.SumPartsIdeal.nD,
      m' ((c.tc : Thread Cert.SumPartsRefIdeal.nD Cert.SumPartsRefIdeal.τ).loc Cert.SumPartsRefIdeal.main_arg0) = m ((c.tc : Thread Cert.SumPartsIdeal.nD Cert.SumPartsIdeal.τ).loc Cert.SumPartsIdeal.main_arg0)) →
    ∃ (v0 : (c : Dev Cert.SumPartsIdeal.nD) → Buf (Elt Ideal) ((c.tc : Thread Cert.SumPartsIdeal.nD Cert.SumPartsIdeal.τ).loc Cert.SumPartsIdeal.main_v0)),
      θ_run (Cert.SumPartsIdeal.defs (F := Ideal)) (onTc (τ := Cert.SumPartsIdeal.τ) (Cert.SumPartsIdeal.main (F := Ideal))) ⟨m, fun _ => 0, g⟩ (fun r => ∀ c : Dev Cert.SumPartsIdeal.nD,
          r.2.mem ((c.tc : Thread Cert.SumPartsIdeal.nD Cert.SumPartsIdeal.τ).loc Cert.SumPartsIdeal.main_v0) = v0 c
          ∧ r.2.mem ((c.tc : Thread Cert.SumPartsIdeal.nD Cert.SumPartsIdeal.τ).loc Cert.SumPartsIdeal.main_arg0) = m ((c.tc : Thread Cert.SumPartsIdeal.nD Cert.SumPartsIdeal.τ).loc Cert.SumPartsIdeal.main_arg0))
      ∧ θ_run (Cert.SumPartsRefIdeal.defs (F := Ideal)) (onTc (τ := Cert.SumPartsRefIdeal.τ) (Cert.SumPartsRefIdeal.main (F := Ideal))) ⟨m', fun _ => 0, g'⟩ (fun r => ∀ c : Dev Cert.SumPartsRefIdeal.nD,
          r.2.mem ((c.tc : Thread Cert.SumPartsRefIdeal.nD Cert.SumPartsRefIdeal.τ).loc Cert.SumPartsRefIdeal.main_v0) = v0 c
          ∧ r.2.mem ((c.tc : Thread Cert.SumPartsRefIdeal.nD Cert.SumPartsRefIdeal.τ).loc Cert.SumPartsRefIdeal.main_arg0) = m' ((c.tc : Thread Cert.SumPartsRefIdeal.nD Cert.SumPartsRefIdeal.τ).loc Cert.SumPartsRefIdeal.main_arg0))

def preserves_ToCols_ToColsIdeal : Prop :=
  True

def algebraic_ToColsIdeal_ToColsRefIdeal [hToColsIdeal : Cert.ToColsIdeal.Facts] [hToColsRefIdeal : Cert.ToColsRefIdeal.Facts] : Prop :=
  ∀ (m : (ℓ : Loc Cert.ToColsIdeal.nD Cert.ToColsIdeal.τ Cert.ToColsIdeal.sig) → Buf (Elt Ideal) ℓ) (g : Dev Cert.ToColsIdeal.nD → PrngReg)
    (m' : (ℓ : Loc Cert.ToColsRefIdeal.nD Cert.ToColsRefIdeal.τ Cert.ToColsRefIdeal.sig) → Buf (Elt Ideal) ℓ) (g' : Dev Cert.ToColsRefIdeal.nD → PrngReg), Pre_ToColsIdeal m →
    (∀ c : Dev Cert.ToColsIdeal.nD,
      m' ((c.tc : Thread Cert.ToColsRefIdeal.nD Cert.ToColsRefIdeal.τ).loc Cert.ToColsRefIdeal.main_arg0) = m ((c.tc : Thread Cert.ToColsIdeal.nD Cert.ToColsIdeal.τ).loc Cert.ToColsIdeal.main_arg0)) →
    ∃ (v0 : (c : Dev Cert.ToColsIdeal.nD) → Buf (Elt Ideal) ((c.tc : Thread Cert.ToColsIdeal.nD Cert.ToColsIdeal.τ).loc Cert.ToColsIdeal.main_v1_0)) (v1 : (c : Dev Cert.ToColsIdeal.nD) → Buf (Elt Ideal) ((c.tc : Thread Cert.ToColsIdeal.nD Cert.ToColsIdeal.τ).loc Cert.ToColsIdeal.main_v1_1)),
      θ_run (Cert.ToColsIdeal.defs (F := Ideal)) (onTc (τ := Cert.ToColsIdeal.τ) (Cert.ToColsIdeal.main (F := Ideal))) ⟨m, fun _ => 0, g⟩ (fun r => ∀ c : Dev Cert.ToColsIdeal.nD,
          r.2.mem ((c.tc : Thread Cert.ToColsIdeal.nD Cert.ToColsIdeal.τ).loc Cert.ToColsIdeal.main_v1_0) = v0 c
          ∧ r.2.mem ((c.tc : Thread Cert.ToColsIdeal.nD Cert.ToColsIdeal.τ).loc Cert.ToColsIdeal.main_v1_1) = v1 c
          ∧ r.2.mem ((c.tc : Thread Cert.ToColsIdeal.nD Cert.ToColsIdeal.τ).loc Cert.ToColsIdeal.main_arg0) = m ((c.tc : Thread Cert.ToColsIdeal.nD Cert.ToColsIdeal.τ).loc Cert.ToColsIdeal.main_arg0))
      ∧ θ_run (Cert.ToColsRefIdeal.defs (F := Ideal)) (onTc (τ := Cert.ToColsRefIdeal.τ) (Cert.ToColsRefIdeal.main (F := Ideal))) ⟨m', fun _ => 0, g'⟩ (fun r => ∀ c : Dev Cert.ToColsRefIdeal.nD,
          r.2.mem ((c.tc : Thread Cert.ToColsRefIdeal.nD Cert.ToColsRefIdeal.τ).loc Cert.ToColsRefIdeal.main_v3) = v0 c
          ∧ r.2.mem ((c.tc : Thread Cert.ToColsRefIdeal.nD Cert.ToColsRefIdeal.τ).loc Cert.ToColsRefIdeal.main_v5) = v1 c
          ∧ r.2.mem ((c.tc : Thread Cert.ToColsRefIdeal.nD Cert.ToColsRefIdeal.τ).loc Cert.ToColsRefIdeal.main_arg0) = m' ((c.tc : Thread Cert.ToColsRefIdeal.nD Cert.ToColsRefIdeal.τ).loc Cert.ToColsRefIdeal.main_arg0))

def preserves_ToShards_ToShardsIdeal : Prop :=
  True

def algebraic_ToShardsIdeal_ToShardsRefIdeal [hToShardsIdeal : Cert.ToShardsIdeal.Facts] [hToShardsRefIdeal : Cert.ToShardsRefIdeal.Facts] : Prop :=
  ∀ (m : (ℓ : Loc Cert.ToShardsIdeal.nD Cert.ToShardsIdeal.τ Cert.ToShardsIdeal.sig) → Buf (Elt Ideal) ℓ) (g : Dev Cert.ToShardsIdeal.nD → PrngReg)
    (m' : (ℓ : Loc Cert.ToShardsRefIdeal.nD Cert.ToShardsRefIdeal.τ Cert.ToShardsRefIdeal.sig) → Buf (Elt Ideal) ℓ) (g' : Dev Cert.ToShardsRefIdeal.nD → PrngReg), Pre_ToShardsIdeal m →
    (∀ c : Dev Cert.ToShardsIdeal.nD,
      m' ((c.tc : Thread Cert.ToShardsRefIdeal.nD Cert.ToShardsRefIdeal.τ).loc Cert.ToShardsRefIdeal.main_arg0) = m ((c.tc : Thread Cert.ToShardsIdeal.nD Cert.ToShardsIdeal.τ).loc Cert.ToShardsIdeal.main_arg0)) →
    ∃ (v0 : (c : Dev Cert.ToShardsIdeal.nD) → Buf (Elt Ideal) ((c.tc : Thread Cert.ToShardsIdeal.nD Cert.ToShardsIdeal.τ).loc Cert.ToShardsIdeal.main_v4)),
      θ_run (Cert.ToShardsIdeal.defs (F := Ideal)) (onTc (τ := Cert.ToShardsIdeal.τ) (Cert.ToShardsIdeal.main (F := Ideal))) ⟨m, fun _ => 0, g⟩ (fun r => ∀ c : Dev Cert.ToShardsIdeal.nD,
          r.2.mem ((c.tc : Thread Cert.ToShardsIdeal.nD Cert.ToShardsIdeal.τ).loc Cert.ToShardsIdeal.main_v4) = v0 c
          ∧ r.2.mem ((c.tc : Thread Cert.ToShardsIdeal.nD Cert.ToShardsIdeal.τ).loc Cert.ToShardsIdeal.main_arg0) = m ((c.tc : Thread Cert.ToShardsIdeal.nD Cert.ToShardsIdeal.τ).loc Cert.ToShardsIdeal.main_arg0))
      ∧ θ_run (Cert.ToShardsRefIdeal.defs (F := Ideal)) (onTc (τ := Cert.ToShardsRefIdeal.τ) (Cert.ToShardsRefIdeal.main (F := Ideal))) ⟨m', fun _ => 0, g'⟩ (fun r => ∀ c : Dev Cert.ToShardsRefIdeal.nD,
          r.2.mem ((c.tc : Thread Cert.ToShardsRefIdeal.nD Cert.ToShardsRefIdeal.τ).loc Cert.ToShardsRefIdeal.main_v2) = v0 c
          ∧ r.2.mem ((c.tc : Thread Cert.ToShardsRefIdeal.nD Cert.ToShardsRefIdeal.τ).loc Cert.ToShardsRefIdeal.main_arg0) = m' ((c.tc : Thread Cert.ToShardsRefIdeal.nD Cert.ToShardsRefIdeal.τ).loc Cert.ToShardsRefIdeal.main_arg0))

def preserves_AdamSmallA_AdamSmallAIdeal : Prop :=
  True

def algebraic_AdamSmallAIdeal_AdamSmallARefIdeal [hAdamSmallAIdeal : Cert.AdamSmallAIdeal.Facts] [hAdamSmallARefIdeal : Cert.AdamSmallARefIdeal.Facts] : Prop :=
  ∀ (m : (ℓ : Loc Cert.AdamSmallAIdeal.nD Cert.AdamSmallAIdeal.τ Cert.AdamSmallAIdeal.sig) → Buf (Elt Ideal) ℓ) (g : Dev Cert.AdamSmallAIdeal.nD → PrngReg)
    (m' : (ℓ : Loc Cert.AdamSmallARefIdeal.nD Cert.AdamSmallARefIdeal.τ Cert.AdamSmallARefIdeal.sig) → Buf (Elt Ideal) ℓ) (g' : Dev Cert.AdamSmallARefIdeal.nD → PrngReg), Pre_AdamSmallAIdeal m →
    (∀ c : Dev Cert.AdamSmallAIdeal.nD,
      m' ((c.tc : Thread Cert.AdamSmallARefIdeal.nD Cert.AdamSmallARefIdeal.τ).loc Cert.AdamSmallARefIdeal.main_arg0) = m ((c.tc : Thread Cert.AdamSmallAIdeal.nD Cert.AdamSmallAIdeal.τ).loc Cert.AdamSmallAIdeal.main_arg0)
      ∧ m' ((c.tc : Thread Cert.AdamSmallARefIdeal.nD Cert.AdamSmallARefIdeal.τ).loc Cert.AdamSmallARefIdeal.main_arg1) = m ((c.tc : Thread Cert.AdamSmallAIdeal.nD Cert.AdamSmallAIdeal.τ).loc Cert.AdamSmallAIdeal.main_arg1)
      ∧ m' ((c.tc : Thread Cert.AdamSmallARefIdeal.nD Cert.AdamSmallARefIdeal.τ).loc Cert.AdamSmallARefIdeal.main_arg2) = m ((c.tc : Thread Cert.AdamSmallAIdeal.nD Cert.AdamSmallAIdeal.τ).loc Cert.AdamSmallAIdeal.main_arg2)
      ∧ m' ((c.tc : Thread Cert.AdamSmallARefIdeal.nD Cert.AdamSmallARefIdeal.τ).loc Cert.AdamSmallARefIdeal.main_arg3) = m ((c.tc : Thread Cert.AdamSmallAIdeal.nD Cert.AdamSmallAIdeal.τ).loc Cert.AdamSmallAIdeal.main_arg3)
      ∧ m' ((c.tc : Thread Cert.AdamSmallARefIdeal.nD Cert.AdamSmallARefIdeal.τ).loc Cert.AdamSmallARefIdeal.main_arg4) = m ((c.tc : Thread Cert.AdamSmallAIdeal.nD Cert.AdamSmallAIdeal.τ).loc Cert.AdamSmallAIdeal.main_arg4)
      ∧ m' ((c.tc : Thread Cert.AdamSmallARefIdeal.nD Cert.AdamSmallARefIdeal.τ).loc Cert.AdamSmallARefIdeal.main_arg5) = m ((c.tc : Thread Cert.AdamSmallAIdeal.nD Cert.AdamSmallAIdeal.τ).loc Cert.AdamSmallAIdeal.main_arg5)
      ∧ m' ((c.tc : Thread Cert.AdamSmallARefIdeal.nD Cert.AdamSmallARefIdeal.τ).loc Cert.AdamSmallARefIdeal.main_arg6) = m ((c.tc : Thread Cert.AdamSmallAIdeal.nD Cert.AdamSmallAIdeal.τ).loc Cert.AdamSmallAIdeal.main_arg6)
      ∧ m' ((c.tc : Thread Cert.AdamSmallARefIdeal.nD Cert.AdamSmallARefIdeal.τ).loc Cert.AdamSmallARefIdeal.main_arg7) = m ((c.tc : Thread Cert.AdamSmallAIdeal.nD Cert.AdamSmallAIdeal.τ).loc Cert.AdamSmallAIdeal.main_arg7)
      ∧ m' ((c.tc : Thread Cert.AdamSmallARefIdeal.nD Cert.AdamSmallARefIdeal.τ).loc Cert.AdamSmallARefIdeal.main_arg8) = m ((c.tc : Thread Cert.AdamSmallAIdeal.nD Cert.AdamSmallAIdeal.τ).loc Cert.AdamSmallAIdeal.main_arg8)
      ∧ m' ((c.tc : Thread Cert.AdamSmallARefIdeal.nD Cert.AdamSmallARefIdeal.τ).loc Cert.AdamSmallARefIdeal.main_arg9) = m ((c.tc : Thread Cert.AdamSmallAIdeal.nD Cert.AdamSmallAIdeal.τ).loc Cert.AdamSmallAIdeal.main_arg9)
      ∧ m' ((c.tc : Thread Cert.AdamSmallARefIdeal.nD Cert.AdamSmallARefIdeal.τ).loc Cert.AdamSmallARefIdeal.main_arg10) = m ((c.tc : Thread Cert.AdamSmallAIdeal.nD Cert.AdamSmallAIdeal.τ).loc Cert.AdamSmallAIdeal.main_arg10)
      ∧ m' ((c.tc : Thread Cert.AdamSmallARefIdeal.nD Cert.AdamSmallARefIdeal.τ).loc Cert.AdamSmallARefIdeal.main_arg11) = m ((c.tc : Thread Cert.AdamSmallAIdeal.nD Cert.AdamSmallAIdeal.τ).loc Cert.AdamSmallAIdeal.main_arg11)
      ∧ m' ((c.tc : Thread Cert.AdamSmallARefIdeal.nD Cert.AdamSmallARefIdeal.τ).loc Cert.AdamSmallARefIdeal.main_arg12) = m ((c.tc : Thread Cert.AdamSmallAIdeal.nD Cert.AdamSmallAIdeal.τ).loc Cert.AdamSmallAIdeal.main_arg12)
      ∧ m' ((c.tc : Thread Cert.AdamSmallARefIdeal.nD Cert.AdamSmallARefIdeal.τ).loc Cert.AdamSmallARefIdeal.main_arg13) = m ((c.tc : Thread Cert.AdamSmallAIdeal.nD Cert.AdamSmallAIdeal.τ).loc Cert.AdamSmallAIdeal.main_arg13)
      ∧ m' ((c.tc : Thread Cert.AdamSmallARefIdeal.nD Cert.AdamSmallARefIdeal.τ).loc Cert.AdamSmallARefIdeal.main_arg14) = m ((c.tc : Thread Cert.AdamSmallAIdeal.nD Cert.AdamSmallAIdeal.τ).loc Cert.AdamSmallAIdeal.main_arg14)
      ∧ m' ((c.tc : Thread Cert.AdamSmallARefIdeal.nD Cert.AdamSmallARefIdeal.τ).loc Cert.AdamSmallARefIdeal.main_arg15) = m ((c.tc : Thread Cert.AdamSmallAIdeal.nD Cert.AdamSmallAIdeal.τ).loc Cert.AdamSmallAIdeal.main_arg15)) →
    ∃ (v0 : (c : Dev Cert.AdamSmallAIdeal.nD) → Buf (Elt Ideal) ((c.tc : Thread Cert.AdamSmallAIdeal.nD Cert.AdamSmallAIdeal.τ).loc Cert.AdamSmallAIdeal.main_v0_0)) (v1 : (c : Dev Cert.AdamSmallAIdeal.nD) → Buf (Elt Ideal) ((c.tc : Thread Cert.AdamSmallAIdeal.nD Cert.AdamSmallAIdeal.τ).loc Cert.AdamSmallAIdeal.main_v0_1)) (v2 : (c : Dev Cert.AdamSmallAIdeal.nD) → Buf (Elt Ideal) ((c.tc : Thread Cert.AdamSmallAIdeal.nD Cert.AdamSmallAIdeal.τ).loc Cert.AdamSmallAIdeal.main_v0_2)) (v3 : (c : Dev Cert.AdamSmallAIdeal.nD) → Buf (Elt Ideal) ((c.tc : Thread Cert.AdamSmallAIdeal.nD Cert.AdamSmallAIdeal.τ).loc Cert.AdamSmallAIdeal.main_v0_3)) (v4 : (c : Dev Cert.AdamSmallAIdeal.nD) → Buf (Elt Ideal) ((c.tc : Thread Cert.AdamSmallAIdeal.nD Cert.AdamSmallAIdeal.τ).loc Cert.AdamSmallAIdeal.main_v0_4)) (v5 : (c : Dev Cert.AdamSmallAIdeal.nD) → Buf (Elt Ideal) ((c.tc : Thread Cert.AdamSmallAIdeal.nD Cert.AdamSmallAIdeal.τ).loc Cert.AdamSmallAIdeal.main_v0_5)) (v6 : (c : Dev Cert.AdamSmallAIdeal.nD) → Buf (Elt Ideal) ((c.tc : Thread Cert.AdamSmallAIdeal.nD Cert.AdamSmallAIdeal.τ).loc Cert.AdamSmallAIdeal.main_v0_6)) (v7 : (c : Dev Cert.AdamSmallAIdeal.nD) → Buf (Elt Ideal) ((c.tc : Thread Cert.AdamSmallAIdeal.nD Cert.AdamSmallAIdeal.τ).loc Cert.AdamSmallAIdeal.main_v0_7)) (v8 : (c : Dev Cert.AdamSmallAIdeal.nD) → Buf (Elt Ideal) ((c.tc : Thread Cert.AdamSmallAIdeal.nD Cert.AdamSmallAIdeal.τ).loc Cert.AdamSmallAIdeal.main_v0_8)) (v9 : (c : Dev Cert.AdamSmallAIdeal.nD) → Buf (Elt Ideal) ((c.tc : Thread Cert.AdamSmallAIdeal.nD Cert.AdamSmallAIdeal.τ).loc Cert.AdamSmallAIdeal.main_v0_9)) (v10 : (c : Dev Cert.AdamSmallAIdeal.nD) → Buf (Elt Ideal) ((c.tc : Thread Cert.AdamSmallAIdeal.nD Cert.AdamSmallAIdeal.τ).loc Cert.AdamSmallAIdeal.main_v0_10)) (v11 : (c : Dev Cert.AdamSmallAIdeal.nD) → Buf (Elt Ideal) ((c.tc : Thread Cert.AdamSmallAIdeal.nD Cert.AdamSmallAIdeal.τ).loc Cert.AdamSmallAIdeal.main_v0_11)),
      θ_run (Cert.AdamSmallAIdeal.defs (F := Ideal)) (onTc (τ := Cert.AdamSmallAIdeal.τ) (Cert.AdamSmallAIdeal.main (F := Ideal))) ⟨m, fun _ => 0, g⟩ (fun r => ∀ c : Dev Cert.AdamSmallAIdeal.nD,
          r.2.mem ((c.tc : Thread Cert.AdamSmallAIdeal.nD Cert.AdamSmallAIdeal.τ).loc Cert.AdamSmallAIdeal.main_v0_0) = v0 c
          ∧ r.2.mem ((c.tc : Thread Cert.AdamSmallAIdeal.nD Cert.AdamSmallAIdeal.τ).loc Cert.AdamSmallAIdeal.main_v0_1) = v1 c
          ∧ r.2.mem ((c.tc : Thread Cert.AdamSmallAIdeal.nD Cert.AdamSmallAIdeal.τ).loc Cert.AdamSmallAIdeal.main_v0_2) = v2 c
          ∧ r.2.mem ((c.tc : Thread Cert.AdamSmallAIdeal.nD Cert.AdamSmallAIdeal.τ).loc Cert.AdamSmallAIdeal.main_v0_3) = v3 c
          ∧ r.2.mem ((c.tc : Thread Cert.AdamSmallAIdeal.nD Cert.AdamSmallAIdeal.τ).loc Cert.AdamSmallAIdeal.main_v0_4) = v4 c
          ∧ r.2.mem ((c.tc : Thread Cert.AdamSmallAIdeal.nD Cert.AdamSmallAIdeal.τ).loc Cert.AdamSmallAIdeal.main_v0_5) = v5 c
          ∧ r.2.mem ((c.tc : Thread Cert.AdamSmallAIdeal.nD Cert.AdamSmallAIdeal.τ).loc Cert.AdamSmallAIdeal.main_v0_6) = v6 c
          ∧ r.2.mem ((c.tc : Thread Cert.AdamSmallAIdeal.nD Cert.AdamSmallAIdeal.τ).loc Cert.AdamSmallAIdeal.main_v0_7) = v7 c
          ∧ r.2.mem ((c.tc : Thread Cert.AdamSmallAIdeal.nD Cert.AdamSmallAIdeal.τ).loc Cert.AdamSmallAIdeal.main_v0_8) = v8 c
          ∧ r.2.mem ((c.tc : Thread Cert.AdamSmallAIdeal.nD Cert.AdamSmallAIdeal.τ).loc Cert.AdamSmallAIdeal.main_v0_9) = v9 c
          ∧ r.2.mem ((c.tc : Thread Cert.AdamSmallAIdeal.nD Cert.AdamSmallAIdeal.τ).loc Cert.AdamSmallAIdeal.main_v0_10) = v10 c
          ∧ r.2.mem ((c.tc : Thread Cert.AdamSmallAIdeal.nD Cert.AdamSmallAIdeal.τ).loc Cert.AdamSmallAIdeal.main_v0_11) = v11 c
          ∧ r.2.mem ((c.tc : Thread Cert.AdamSmallAIdeal.nD Cert.AdamSmallAIdeal.τ).loc Cert.AdamSmallAIdeal.main_arg0) = m ((c.tc : Thread Cert.AdamSmallAIdeal.nD Cert.AdamSmallAIdeal.τ).loc Cert.AdamSmallAIdeal.main_arg0)
          ∧ r.2.mem ((c.tc : Thread Cert.AdamSmallAIdeal.nD Cert.AdamSmallAIdeal.τ).loc Cert.AdamSmallAIdeal.main_arg1) = m ((c.tc : Thread Cert.AdamSmallAIdeal.nD Cert.AdamSmallAIdeal.τ).loc Cert.AdamSmallAIdeal.main_arg1)
          ∧ r.2.mem ((c.tc : Thread Cert.AdamSmallAIdeal.nD Cert.AdamSmallAIdeal.τ).loc Cert.AdamSmallAIdeal.main_arg2) = m ((c.tc : Thread Cert.AdamSmallAIdeal.nD Cert.AdamSmallAIdeal.τ).loc Cert.AdamSmallAIdeal.main_arg2)
          ∧ r.2.mem ((c.tc : Thread Cert.AdamSmallAIdeal.nD Cert.AdamSmallAIdeal.τ).loc Cert.AdamSmallAIdeal.main_arg3) = m ((c.tc : Thread Cert.AdamSmallAIdeal.nD Cert.AdamSmallAIdeal.τ).loc Cert.AdamSmallAIdeal.main_arg3)
          ∧ r.2.mem ((c.tc : Thread Cert.AdamSmallAIdeal.nD Cert.AdamSmallAIdeal.τ).loc Cert.AdamSmallAIdeal.main_arg4) = m ((c.tc : Thread Cert.AdamSmallAIdeal.nD Cert.AdamSmallAIdeal.τ).loc Cert.AdamSmallAIdeal.main_arg4)
          ∧ r.2.mem ((c.tc : Thread Cert.AdamSmallAIdeal.nD Cert.AdamSmallAIdeal.τ).loc Cert.AdamSmallAIdeal.main_arg5) = m ((c.tc : Thread Cert.AdamSmallAIdeal.nD Cert.AdamSmallAIdeal.τ).loc Cert.AdamSmallAIdeal.main_arg5)
          ∧ r.2.mem ((c.tc : Thread Cert.AdamSmallAIdeal.nD Cert.AdamSmallAIdeal.τ).loc Cert.AdamSmallAIdeal.main_arg6) = m ((c.tc : Thread Cert.AdamSmallAIdeal.nD Cert.AdamSmallAIdeal.τ).loc Cert.AdamSmallAIdeal.main_arg6)
          ∧ r.2.mem ((c.tc : Thread Cert.AdamSmallAIdeal.nD Cert.AdamSmallAIdeal.τ).loc Cert.AdamSmallAIdeal.main_arg7) = m ((c.tc : Thread Cert.AdamSmallAIdeal.nD Cert.AdamSmallAIdeal.τ).loc Cert.AdamSmallAIdeal.main_arg7)
          ∧ r.2.mem ((c.tc : Thread Cert.AdamSmallAIdeal.nD Cert.AdamSmallAIdeal.τ).loc Cert.AdamSmallAIdeal.main_arg8) = m ((c.tc : Thread Cert.AdamSmallAIdeal.nD Cert.AdamSmallAIdeal.τ).loc Cert.AdamSmallAIdeal.main_arg8)
          ∧ r.2.mem ((c.tc : Thread Cert.AdamSmallAIdeal.nD Cert.AdamSmallAIdeal.τ).loc Cert.AdamSmallAIdeal.main_arg9) = m ((c.tc : Thread Cert.AdamSmallAIdeal.nD Cert.AdamSmallAIdeal.τ).loc Cert.AdamSmallAIdeal.main_arg9)
          ∧ r.2.mem ((c.tc : Thread Cert.AdamSmallAIdeal.nD Cert.AdamSmallAIdeal.τ).loc Cert.AdamSmallAIdeal.main_arg10) = m ((c.tc : Thread Cert.AdamSmallAIdeal.nD Cert.AdamSmallAIdeal.τ).loc Cert.AdamSmallAIdeal.main_arg10)
          ∧ r.2.mem ((c.tc : Thread Cert.AdamSmallAIdeal.nD Cert.AdamSmallAIdeal.τ).loc Cert.AdamSmallAIdeal.main_arg11) = m ((c.tc : Thread Cert.AdamSmallAIdeal.nD Cert.AdamSmallAIdeal.τ).loc Cert.AdamSmallAIdeal.main_arg11)
          ∧ r.2.mem ((c.tc : Thread Cert.AdamSmallAIdeal.nD Cert.AdamSmallAIdeal.τ).loc Cert.AdamSmallAIdeal.main_arg12) = m ((c.tc : Thread Cert.AdamSmallAIdeal.nD Cert.AdamSmallAIdeal.τ).loc Cert.AdamSmallAIdeal.main_arg12)
          ∧ r.2.mem ((c.tc : Thread Cert.AdamSmallAIdeal.nD Cert.AdamSmallAIdeal.τ).loc Cert.AdamSmallAIdeal.main_arg13) = m ((c.tc : Thread Cert.AdamSmallAIdeal.nD Cert.AdamSmallAIdeal.τ).loc Cert.AdamSmallAIdeal.main_arg13)
          ∧ r.2.mem ((c.tc : Thread Cert.AdamSmallAIdeal.nD Cert.AdamSmallAIdeal.τ).loc Cert.AdamSmallAIdeal.main_arg14) = m ((c.tc : Thread Cert.AdamSmallAIdeal.nD Cert.AdamSmallAIdeal.τ).loc Cert.AdamSmallAIdeal.main_arg14)
          ∧ r.2.mem ((c.tc : Thread Cert.AdamSmallAIdeal.nD Cert.AdamSmallAIdeal.τ).loc Cert.AdamSmallAIdeal.main_arg15) = m ((c.tc : Thread Cert.AdamSmallAIdeal.nD Cert.AdamSmallAIdeal.τ).loc Cert.AdamSmallAIdeal.main_arg15))
      ∧ θ_run (Cert.AdamSmallARefIdeal.defs (F := Ideal)) (onTc (τ := Cert.AdamSmallARefIdeal.τ) (Cert.AdamSmallARefIdeal.main (F := Ideal))) ⟨m', fun _ => 0, g'⟩ (fun r => ∀ c : Dev Cert.AdamSmallARefIdeal.nD,
          r.2.mem ((c.tc : Thread Cert.AdamSmallARefIdeal.nD Cert.AdamSmallARefIdeal.τ).loc Cert.AdamSmallARefIdeal.main_v23) = v0 c
          ∧ r.2.mem ((c.tc : Thread Cert.AdamSmallARefIdeal.nD Cert.AdamSmallARefIdeal.τ).loc Cert.AdamSmallARefIdeal.main_v47) = v1 c
          ∧ r.2.mem ((c.tc : Thread Cert.AdamSmallARefIdeal.nD Cert.AdamSmallARefIdeal.τ).loc Cert.AdamSmallARefIdeal.main_v71) = v2 c
          ∧ r.2.mem ((c.tc : Thread Cert.AdamSmallARefIdeal.nD Cert.AdamSmallARefIdeal.τ).loc Cert.AdamSmallARefIdeal.main_v95) = v3 c
          ∧ r.2.mem ((c.tc : Thread Cert.AdamSmallARefIdeal.nD Cert.AdamSmallARefIdeal.τ).loc Cert.AdamSmallARefIdeal.main_v4) = v4 c
          ∧ r.2.mem ((c.tc : Thread Cert.AdamSmallARefIdeal.nD Cert.AdamSmallARefIdeal.τ).loc Cert.AdamSmallARefIdeal.main_v28) = v5 c
          ∧ r.2.mem ((c.tc : Thread Cert.AdamSmallARefIdeal.nD Cert.AdamSmallARefIdeal.τ).loc Cert.AdamSmallARefIdeal.main_v52) = v6 c
          ∧ r.2.mem ((c.tc : Thread Cert.AdamSmallARefIdeal.nD Cert.AdamSmallARefIdeal.τ).loc Cert.AdamSmallARefIdeal.main_v76) = v7 c
          ∧ r.2.mem ((c.tc : Thread Cert.AdamSmallARefIdeal.nD Cert.AdamSmallARefIdeal.τ).loc Cert.AdamSmallARefIdeal.main_v10) = v8 c
          ∧ r.2.mem ((c.tc : Thread Cert.AdamSmallARefIdeal.nD Cert.AdamSmallARefIdeal.τ).loc Cert.AdamSmallARefIdeal.main_v34) = v9 c
          ∧ r.2.mem ((c.tc : Thread Cert.AdamSmallARefIdeal.nD Cert.AdamSmallARefIdeal.τ).loc Cert.AdamSmallARefIdeal.main_v58) = v10 c
          ∧ r.2.mem ((c.tc : Thread Cert.AdamSmallARefIdeal.nD Cert.AdamSmallARefIdeal.τ).loc Cert.AdamSmallARefIdeal.main_v82) = v11 c
          ∧ r.2.mem ((c.tc : Thread Cert.AdamSmallARefIdeal.nD Cert.AdamSmallARefIdeal.τ).loc Cert.AdamSmallARefIdeal.main_arg0) = m' ((c.tc : Thread Cert.AdamSmallARefIdeal.nD Cert.AdamSmallARefIdeal.τ).loc Cert.AdamSmallARefIdeal.main_arg0)
          ∧ r.2.mem ((c.tc : Thread Cert.AdamSmallARefIdeal.nD Cert.AdamSmallARefIdeal.τ).loc Cert.AdamSmallARefIdeal.main_arg1) = m' ((c.tc : Thread Cert.AdamSmallARefIdeal.nD Cert.AdamSmallARefIdeal.τ).loc Cert.AdamSmallARefIdeal.main_arg1)
          ∧ r.2.mem ((c.tc : Thread Cert.AdamSmallARefIdeal.nD Cert.AdamSmallARefIdeal.τ).loc Cert.AdamSmallARefIdeal.main_arg2) = m' ((c.tc : Thread Cert.AdamSmallARefIdeal.nD Cert.AdamSmallARefIdeal.τ).loc Cert.AdamSmallARefIdeal.main_arg2)
          ∧ r.2.mem ((c.tc : Thread Cert.AdamSmallARefIdeal.nD Cert.AdamSmallARefIdeal.τ).loc Cert.AdamSmallARefIdeal.main_arg3) = m' ((c.tc : Thread Cert.AdamSmallARefIdeal.nD Cert.AdamSmallARefIdeal.τ).loc Cert.AdamSmallARefIdeal.main_arg3)
          ∧ r.2.mem ((c.tc : Thread Cert.AdamSmallARefIdeal.nD Cert.AdamSmallARefIdeal.τ).loc Cert.AdamSmallARefIdeal.main_arg4) = m' ((c.tc : Thread Cert.AdamSmallARefIdeal.nD Cert.AdamSmallARefIdeal.τ).loc Cert.AdamSmallARefIdeal.main_arg4)
          ∧ r.2.mem ((c.tc : Thread Cert.AdamSmallARefIdeal.nD Cert.AdamSmallARefIdeal.τ).loc Cert.AdamSmallARefIdeal.main_arg5) = m' ((c.tc : Thread Cert.AdamSmallARefIdeal.nD Cert.AdamSmallARefIdeal.τ).loc Cert.AdamSmallARefIdeal.main_arg5)
          ∧ r.2.mem ((c.tc : Thread Cert.AdamSmallARefIdeal.nD Cert.AdamSmallARefIdeal.τ).loc Cert.AdamSmallARefIdeal.main_arg6) = m' ((c.tc : Thread Cert.AdamSmallARefIdeal.nD Cert.AdamSmallARefIdeal.τ).loc Cert.AdamSmallARefIdeal.main_arg6)
          ∧ r.2.mem ((c.tc : Thread Cert.AdamSmallARefIdeal.nD Cert.AdamSmallARefIdeal.τ).loc Cert.AdamSmallARefIdeal.main_arg7) = m' ((c.tc : Thread Cert.AdamSmallARefIdeal.nD Cert.AdamSmallARefIdeal.τ).loc Cert.AdamSmallARefIdeal.main_arg7)
          ∧ r.2.mem ((c.tc : Thread Cert.AdamSmallARefIdeal.nD Cert.AdamSmallARefIdeal.τ).loc Cert.AdamSmallARefIdeal.main_arg8) = m' ((c.tc : Thread Cert.AdamSmallARefIdeal.nD Cert.AdamSmallARefIdeal.τ).loc Cert.AdamSmallARefIdeal.main_arg8)
          ∧ r.2.mem ((c.tc : Thread Cert.AdamSmallARefIdeal.nD Cert.AdamSmallARefIdeal.τ).loc Cert.AdamSmallARefIdeal.main_arg9) = m' ((c.tc : Thread Cert.AdamSmallARefIdeal.nD Cert.AdamSmallARefIdeal.τ).loc Cert.AdamSmallARefIdeal.main_arg9)
          ∧ r.2.mem ((c.tc : Thread Cert.AdamSmallARefIdeal.nD Cert.AdamSmallARefIdeal.τ).loc Cert.AdamSmallARefIdeal.main_arg10) = m' ((c.tc : Thread Cert.AdamSmallARefIdeal.nD Cert.AdamSmallARefIdeal.τ).loc Cert.AdamSmallARefIdeal.main_arg10)
          ∧ r.2.mem ((c.tc : Thread Cert.AdamSmallARefIdeal.nD Cert.AdamSmallARefIdeal.τ).loc Cert.AdamSmallARefIdeal.main_arg11) = m' ((c.tc : Thread Cert.AdamSmallARefIdeal.nD Cert.AdamSmallARefIdeal.τ).loc Cert.AdamSmallARefIdeal.main_arg11)
          ∧ r.2.mem ((c.tc : Thread Cert.AdamSmallARefIdeal.nD Cert.AdamSmallARefIdeal.τ).loc Cert.AdamSmallARefIdeal.main_arg12) = m' ((c.tc : Thread Cert.AdamSmallARefIdeal.nD Cert.AdamSmallARefIdeal.τ).loc Cert.AdamSmallARefIdeal.main_arg12)
          ∧ r.2.mem ((c.tc : Thread Cert.AdamSmallARefIdeal.nD Cert.AdamSmallARefIdeal.τ).loc Cert.AdamSmallARefIdeal.main_arg13) = m' ((c.tc : Thread Cert.AdamSmallARefIdeal.nD Cert.AdamSmallARefIdeal.τ).loc Cert.AdamSmallARefIdeal.main_arg13)
          ∧ r.2.mem ((c.tc : Thread Cert.AdamSmallARefIdeal.nD Cert.AdamSmallARefIdeal.τ).loc Cert.AdamSmallARefIdeal.main_arg14) = m' ((c.tc : Thread Cert.AdamSmallARefIdeal.nD Cert.AdamSmallARefIdeal.τ).loc Cert.AdamSmallARefIdeal.main_arg14)
          ∧ r.2.mem ((c.tc : Thread Cert.AdamSmallARefIdeal.nD Cert.AdamSmallARefIdeal.τ).loc Cert.AdamSmallARefIdeal.main_arg15) = m' ((c.tc : Thread Cert.AdamSmallARefIdeal.nD Cert.AdamSmallARefIdeal.τ).loc Cert.AdamSmallARefIdeal.main_arg15))

def preserves_AdamSmallB_AdamSmallBIdeal : Prop :=
  True

def algebraic_AdamSmallBIdeal_AdamSmallBRefIdeal [hAdamSmallBIdeal : Cert.AdamSmallBIdeal.Facts] [hAdamSmallBRefIdeal : Cert.AdamSmallBRefIdeal.Facts] : Prop :=
  ∀ (m : (ℓ : Loc Cert.AdamSmallBIdeal.nD Cert.AdamSmallBIdeal.τ Cert.AdamSmallBIdeal.sig) → Buf (Elt Ideal) ℓ) (g : Dev Cert.AdamSmallBIdeal.nD → PrngReg)
    (m' : (ℓ : Loc Cert.AdamSmallBRefIdeal.nD Cert.AdamSmallBRefIdeal.τ Cert.AdamSmallBRefIdeal.sig) → Buf (Elt Ideal) ℓ) (g' : Dev Cert.AdamSmallBRefIdeal.nD → PrngReg), Pre_AdamSmallBIdeal m →
    (∀ c : Dev Cert.AdamSmallBIdeal.nD,
      m' ((c.tc : Thread Cert.AdamSmallBRefIdeal.nD Cert.AdamSmallBRefIdeal.τ).loc Cert.AdamSmallBRefIdeal.main_arg0) = m ((c.tc : Thread Cert.AdamSmallBIdeal.nD Cert.AdamSmallBIdeal.τ).loc Cert.AdamSmallBIdeal.main_arg0)
      ∧ m' ((c.tc : Thread Cert.AdamSmallBRefIdeal.nD Cert.AdamSmallBRefIdeal.τ).loc Cert.AdamSmallBRefIdeal.main_arg1) = m ((c.tc : Thread Cert.AdamSmallBIdeal.nD Cert.AdamSmallBIdeal.τ).loc Cert.AdamSmallBIdeal.main_arg1)
      ∧ m' ((c.tc : Thread Cert.AdamSmallBRefIdeal.nD Cert.AdamSmallBRefIdeal.τ).loc Cert.AdamSmallBRefIdeal.main_arg2) = m ((c.tc : Thread Cert.AdamSmallBIdeal.nD Cert.AdamSmallBIdeal.τ).loc Cert.AdamSmallBIdeal.main_arg2)
      ∧ m' ((c.tc : Thread Cert.AdamSmallBRefIdeal.nD Cert.AdamSmallBRefIdeal.τ).loc Cert.AdamSmallBRefIdeal.main_arg3) = m ((c.tc : Thread Cert.AdamSmallBIdeal.nD Cert.AdamSmallBIdeal.τ).loc Cert.AdamSmallBIdeal.main_arg3)
      ∧ m' ((c.tc : Thread Cert.AdamSmallBRefIdeal.nD Cert.AdamSmallBRefIdeal.τ).loc Cert.AdamSmallBRefIdeal.main_arg4) = m ((c.tc : Thread Cert.AdamSmallBIdeal.nD Cert.AdamSmallBIdeal.τ).loc Cert.AdamSmallBIdeal.main_arg4)
      ∧ m' ((c.tc : Thread Cert.AdamSmallBRefIdeal.nD Cert.AdamSmallBRefIdeal.τ).loc Cert.AdamSmallBRefIdeal.main_arg5) = m ((c.tc : Thread Cert.AdamSmallBIdeal.nD Cert.AdamSmallBIdeal.τ).loc Cert.AdamSmallBIdeal.main_arg5)
      ∧ m' ((c.tc : Thread Cert.AdamSmallBRefIdeal.nD Cert.AdamSmallBRefIdeal.τ).loc Cert.AdamSmallBRefIdeal.main_arg6) = m ((c.tc : Thread Cert.AdamSmallBIdeal.nD Cert.AdamSmallBIdeal.τ).loc Cert.AdamSmallBIdeal.main_arg6)
      ∧ m' ((c.tc : Thread Cert.AdamSmallBRefIdeal.nD Cert.AdamSmallBRefIdeal.τ).loc Cert.AdamSmallBRefIdeal.main_arg7) = m ((c.tc : Thread Cert.AdamSmallBIdeal.nD Cert.AdamSmallBIdeal.τ).loc Cert.AdamSmallBIdeal.main_arg7)
      ∧ m' ((c.tc : Thread Cert.AdamSmallBRefIdeal.nD Cert.AdamSmallBRefIdeal.τ).loc Cert.AdamSmallBRefIdeal.main_arg8) = m ((c.tc : Thread Cert.AdamSmallBIdeal.nD Cert.AdamSmallBIdeal.τ).loc Cert.AdamSmallBIdeal.main_arg8)
      ∧ m' ((c.tc : Thread Cert.AdamSmallBRefIdeal.nD Cert.AdamSmallBRefIdeal.τ).loc Cert.AdamSmallBRefIdeal.main_arg9) = m ((c.tc : Thread Cert.AdamSmallBIdeal.nD Cert.AdamSmallBIdeal.τ).loc Cert.AdamSmallBIdeal.main_arg9)
      ∧ m' ((c.tc : Thread Cert.AdamSmallBRefIdeal.nD Cert.AdamSmallBRefIdeal.τ).loc Cert.AdamSmallBRefIdeal.main_arg10) = m ((c.tc : Thread Cert.AdamSmallBIdeal.nD Cert.AdamSmallBIdeal.τ).loc Cert.AdamSmallBIdeal.main_arg10)
      ∧ m' ((c.tc : Thread Cert.AdamSmallBRefIdeal.nD Cert.AdamSmallBRefIdeal.τ).loc Cert.AdamSmallBRefIdeal.main_arg11) = m ((c.tc : Thread Cert.AdamSmallBIdeal.nD Cert.AdamSmallBIdeal.τ).loc Cert.AdamSmallBIdeal.main_arg11)
      ∧ m' ((c.tc : Thread Cert.AdamSmallBRefIdeal.nD Cert.AdamSmallBRefIdeal.τ).loc Cert.AdamSmallBRefIdeal.main_arg12) = m ((c.tc : Thread Cert.AdamSmallBIdeal.nD Cert.AdamSmallBIdeal.τ).loc Cert.AdamSmallBIdeal.main_arg12)
      ∧ m' ((c.tc : Thread Cert.AdamSmallBRefIdeal.nD Cert.AdamSmallBRefIdeal.τ).loc Cert.AdamSmallBRefIdeal.main_arg13) = m ((c.tc : Thread Cert.AdamSmallBIdeal.nD Cert.AdamSmallBIdeal.τ).loc Cert.AdamSmallBIdeal.main_arg13)
      ∧ m' ((c.tc : Thread Cert.AdamSmallBRefIdeal.nD Cert.AdamSmallBRefIdeal.τ).loc Cert.AdamSmallBRefIdeal.main_arg14) = m ((c.tc : Thread Cert.AdamSmallBIdeal.nD Cert.AdamSmallBIdeal.τ).loc Cert.AdamSmallBIdeal.main_arg14)
      ∧ m' ((c.tc : Thread Cert.AdamSmallBRefIdeal.nD Cert.AdamSmallBRefIdeal.τ).loc Cert.AdamSmallBRefIdeal.main_arg15) = m ((c.tc : Thread Cert.AdamSmallBIdeal.nD Cert.AdamSmallBIdeal.τ).loc Cert.AdamSmallBIdeal.main_arg15)) →
    ∃ (v0 : (c : Dev Cert.AdamSmallBIdeal.nD) → Buf (Elt Ideal) ((c.tc : Thread Cert.AdamSmallBIdeal.nD Cert.AdamSmallBIdeal.τ).loc Cert.AdamSmallBIdeal.main_v0_0)) (v1 : (c : Dev Cert.AdamSmallBIdeal.nD) → Buf (Elt Ideal) ((c.tc : Thread Cert.AdamSmallBIdeal.nD Cert.AdamSmallBIdeal.τ).loc Cert.AdamSmallBIdeal.main_v0_1)) (v2 : (c : Dev Cert.AdamSmallBIdeal.nD) → Buf (Elt Ideal) ((c.tc : Thread Cert.AdamSmallBIdeal.nD Cert.AdamSmallBIdeal.τ).loc Cert.AdamSmallBIdeal.main_v0_2)) (v3 : (c : Dev Cert.AdamSmallBIdeal.nD) → Buf (Elt Ideal) ((c.tc : Thread Cert.AdamSmallBIdeal.nD Cert.AdamSmallBIdeal.τ).loc Cert.AdamSmallBIdeal.main_v0_3)) (v4 : (c : Dev Cert.AdamSmallBIdeal.nD) → Buf (Elt Ideal) ((c.tc : Thread Cert.AdamSmallBIdeal.nD Cert.AdamSmallBIdeal.τ).loc Cert.AdamSmallBIdeal.main_v0_4)) (v5 : (c : Dev Cert.AdamSmallBIdeal.nD) → Buf (Elt Ideal) ((c.tc : Thread Cert.AdamSmallBIdeal.nD Cert.AdamSmallBIdeal.τ).loc Cert.AdamSmallBIdeal.main_v0_5)) (v6 : (c : Dev Cert.AdamSmallBIdeal.nD) → Buf (Elt Ideal) ((c.tc : Thread Cert.AdamSmallBIdeal.nD Cert.AdamSmallBIdeal.τ).loc Cert.AdamSmallBIdeal.main_v0_6)) (v7 : (c : Dev Cert.AdamSmallBIdeal.nD) → Buf (Elt Ideal) ((c.tc : Thread Cert.AdamSmallBIdeal.nD Cert.AdamSmallBIdeal.τ).loc Cert.AdamSmallBIdeal.main_v0_7)) (v8 : (c : Dev Cert.AdamSmallBIdeal.nD) → Buf (Elt Ideal) ((c.tc : Thread Cert.AdamSmallBIdeal.nD Cert.AdamSmallBIdeal.τ).loc Cert.AdamSmallBIdeal.main_v0_8)) (v9 : (c : Dev Cert.AdamSmallBIdeal.nD) → Buf (Elt Ideal) ((c.tc : Thread Cert.AdamSmallBIdeal.nD Cert.AdamSmallBIdeal.τ).loc Cert.AdamSmallBIdeal.main_v0_9)) (v10 : (c : Dev Cert.AdamSmallBIdeal.nD) → Buf (Elt Ideal) ((c.tc : Thread Cert.AdamSmallBIdeal.nD Cert.AdamSmallBIdeal.τ).loc Cert.AdamSmallBIdeal.main_v0_10)) (v11 : (c : Dev Cert.AdamSmallBIdeal.nD) → Buf (Elt Ideal) ((c.tc : Thread Cert.AdamSmallBIdeal.nD Cert.AdamSmallBIdeal.τ).loc Cert.AdamSmallBIdeal.main_v0_11)),
      θ_run (Cert.AdamSmallBIdeal.defs (F := Ideal)) (onTc (τ := Cert.AdamSmallBIdeal.τ) (Cert.AdamSmallBIdeal.main (F := Ideal))) ⟨m, fun _ => 0, g⟩ (fun r => ∀ c : Dev Cert.AdamSmallBIdeal.nD,
          r.2.mem ((c.tc : Thread Cert.AdamSmallBIdeal.nD Cert.AdamSmallBIdeal.τ).loc Cert.AdamSmallBIdeal.main_v0_0) = v0 c
          ∧ r.2.mem ((c.tc : Thread Cert.AdamSmallBIdeal.nD Cert.AdamSmallBIdeal.τ).loc Cert.AdamSmallBIdeal.main_v0_1) = v1 c
          ∧ r.2.mem ((c.tc : Thread Cert.AdamSmallBIdeal.nD Cert.AdamSmallBIdeal.τ).loc Cert.AdamSmallBIdeal.main_v0_2) = v2 c
          ∧ r.2.mem ((c.tc : Thread Cert.AdamSmallBIdeal.nD Cert.AdamSmallBIdeal.τ).loc Cert.AdamSmallBIdeal.main_v0_3) = v3 c
          ∧ r.2.mem ((c.tc : Thread Cert.AdamSmallBIdeal.nD Cert.AdamSmallBIdeal.τ).loc Cert.AdamSmallBIdeal.main_v0_4) = v4 c
          ∧ r.2.mem ((c.tc : Thread Cert.AdamSmallBIdeal.nD Cert.AdamSmallBIdeal.τ).loc Cert.AdamSmallBIdeal.main_v0_5) = v5 c
          ∧ r.2.mem ((c.tc : Thread Cert.AdamSmallBIdeal.nD Cert.AdamSmallBIdeal.τ).loc Cert.AdamSmallBIdeal.main_v0_6) = v6 c
          ∧ r.2.mem ((c.tc : Thread Cert.AdamSmallBIdeal.nD Cert.AdamSmallBIdeal.τ).loc Cert.AdamSmallBIdeal.main_v0_7) = v7 c
          ∧ r.2.mem ((c.tc : Thread Cert.AdamSmallBIdeal.nD Cert.AdamSmallBIdeal.τ).loc Cert.AdamSmallBIdeal.main_v0_8) = v8 c
          ∧ r.2.mem ((c.tc : Thread Cert.AdamSmallBIdeal.nD Cert.AdamSmallBIdeal.τ).loc Cert.AdamSmallBIdeal.main_v0_9) = v9 c
          ∧ r.2.mem ((c.tc : Thread Cert.AdamSmallBIdeal.nD Cert.AdamSmallBIdeal.τ).loc Cert.AdamSmallBIdeal.main_v0_10) = v10 c
          ∧ r.2.mem ((c.tc : Thread Cert.AdamSmallBIdeal.nD Cert.AdamSmallBIdeal.τ).loc Cert.AdamSmallBIdeal.main_v0_11) = v11 c
          ∧ r.2.mem ((c.tc : Thread Cert.AdamSmallBIdeal.nD Cert.AdamSmallBIdeal.τ).loc Cert.AdamSmallBIdeal.main_arg0) = m ((c.tc : Thread Cert.AdamSmallBIdeal.nD Cert.AdamSmallBIdeal.τ).loc Cert.AdamSmallBIdeal.main_arg0)
          ∧ r.2.mem ((c.tc : Thread Cert.AdamSmallBIdeal.nD Cert.AdamSmallBIdeal.τ).loc Cert.AdamSmallBIdeal.main_arg1) = m ((c.tc : Thread Cert.AdamSmallBIdeal.nD Cert.AdamSmallBIdeal.τ).loc Cert.AdamSmallBIdeal.main_arg1)
          ∧ r.2.mem ((c.tc : Thread Cert.AdamSmallBIdeal.nD Cert.AdamSmallBIdeal.τ).loc Cert.AdamSmallBIdeal.main_arg2) = m ((c.tc : Thread Cert.AdamSmallBIdeal.nD Cert.AdamSmallBIdeal.τ).loc Cert.AdamSmallBIdeal.main_arg2)
          ∧ r.2.mem ((c.tc : Thread Cert.AdamSmallBIdeal.nD Cert.AdamSmallBIdeal.τ).loc Cert.AdamSmallBIdeal.main_arg3) = m ((c.tc : Thread Cert.AdamSmallBIdeal.nD Cert.AdamSmallBIdeal.τ).loc Cert.AdamSmallBIdeal.main_arg3)
          ∧ r.2.mem ((c.tc : Thread Cert.AdamSmallBIdeal.nD Cert.AdamSmallBIdeal.τ).loc Cert.AdamSmallBIdeal.main_arg4) = m ((c.tc : Thread Cert.AdamSmallBIdeal.nD Cert.AdamSmallBIdeal.τ).loc Cert.AdamSmallBIdeal.main_arg4)
          ∧ r.2.mem ((c.tc : Thread Cert.AdamSmallBIdeal.nD Cert.AdamSmallBIdeal.τ).loc Cert.AdamSmallBIdeal.main_arg5) = m ((c.tc : Thread Cert.AdamSmallBIdeal.nD Cert.AdamSmallBIdeal.τ).loc Cert.AdamSmallBIdeal.main_arg5)
          ∧ r.2.mem ((c.tc : Thread Cert.AdamSmallBIdeal.nD Cert.AdamSmallBIdeal.τ).loc Cert.AdamSmallBIdeal.main_arg6) = m ((c.tc : Thread Cert.AdamSmallBIdeal.nD Cert.AdamSmallBIdeal.τ).loc Cert.AdamSmallBIdeal.main_arg6)
          ∧ r.2.mem ((c.tc : Thread Cert.AdamSmallBIdeal.nD Cert.AdamSmallBIdeal.τ).loc Cert.AdamSmallBIdeal.main_arg7) = m ((c.tc : Thread Cert.AdamSmallBIdeal.nD Cert.AdamSmallBIdeal.τ).loc Cert.AdamSmallBIdeal.main_arg7)
          ∧ r.2.mem ((c.tc : Thread Cert.AdamSmallBIdeal.nD Cert.AdamSmallBIdeal.τ).loc Cert.AdamSmallBIdeal.main_arg8) = m ((c.tc : Thread Cert.AdamSmallBIdeal.nD Cert.AdamSmallBIdeal.τ).loc Cert.AdamSmallBIdeal.main_arg8)
          ∧ r.2.mem ((c.tc : Thread Cert.AdamSmallBIdeal.nD Cert.AdamSmallBIdeal.τ).loc Cert.AdamSmallBIdeal.main_arg9) = m ((c.tc : Thread Cert.AdamSmallBIdeal.nD Cert.AdamSmallBIdeal.τ).loc Cert.AdamSmallBIdeal.main_arg9)
          ∧ r.2.mem ((c.tc : Thread Cert.AdamSmallBIdeal.nD Cert.AdamSmallBIdeal.τ).loc Cert.AdamSmallBIdeal.main_arg10) = m ((c.tc : Thread Cert.AdamSmallBIdeal.nD Cert.AdamSmallBIdeal.τ).loc Cert.AdamSmallBIdeal.main_arg10)
          ∧ r.2.mem ((c.tc : Thread Cert.AdamSmallBIdeal.nD Cert.AdamSmallBIdeal.τ).loc Cert.AdamSmallBIdeal.main_arg11) = m ((c.tc : Thread Cert.AdamSmallBIdeal.nD Cert.AdamSmallBIdeal.τ).loc Cert.AdamSmallBIdeal.main_arg11)
          ∧ r.2.mem ((c.tc : Thread Cert.AdamSmallBIdeal.nD Cert.AdamSmallBIdeal.τ).loc Cert.AdamSmallBIdeal.main_arg12) = m ((c.tc : Thread Cert.AdamSmallBIdeal.nD Cert.AdamSmallBIdeal.τ).loc Cert.AdamSmallBIdeal.main_arg12)
          ∧ r.2.mem ((c.tc : Thread Cert.AdamSmallBIdeal.nD Cert.AdamSmallBIdeal.τ).loc Cert.AdamSmallBIdeal.main_arg13) = m ((c.tc : Thread Cert.AdamSmallBIdeal.nD Cert.AdamSmallBIdeal.τ).loc Cert.AdamSmallBIdeal.main_arg13)
          ∧ r.2.mem ((c.tc : Thread Cert.AdamSmallBIdeal.nD Cert.AdamSmallBIdeal.τ).loc Cert.AdamSmallBIdeal.main_arg14) = m ((c.tc : Thread Cert.AdamSmallBIdeal.nD Cert.AdamSmallBIdeal.τ).loc Cert.AdamSmallBIdeal.main_arg14)
          ∧ r.2.mem ((c.tc : Thread Cert.AdamSmallBIdeal.nD Cert.AdamSmallBIdeal.τ).loc Cert.AdamSmallBIdeal.main_arg15) = m ((c.tc : Thread Cert.AdamSmallBIdeal.nD Cert.AdamSmallBIdeal.τ).loc Cert.AdamSmallBIdeal.main_arg15))
      ∧ θ_run (Cert.AdamSmallBRefIdeal.defs (F := Ideal)) (onTc (τ := Cert.AdamSmallBRefIdeal.τ) (Cert.AdamSmallBRefIdeal.main (F := Ideal))) ⟨m', fun _ => 0, g'⟩ (fun r => ∀ c : Dev Cert.AdamSmallBRefIdeal.nD,
          r.2.mem ((c.tc : Thread Cert.AdamSmallBRefIdeal.nD Cert.AdamSmallBRefIdeal.τ).loc Cert.AdamSmallBRefIdeal.main_v23) = v0 c
          ∧ r.2.mem ((c.tc : Thread Cert.AdamSmallBRefIdeal.nD Cert.AdamSmallBRefIdeal.τ).loc Cert.AdamSmallBRefIdeal.main_v47) = v1 c
          ∧ r.2.mem ((c.tc : Thread Cert.AdamSmallBRefIdeal.nD Cert.AdamSmallBRefIdeal.τ).loc Cert.AdamSmallBRefIdeal.main_v71) = v2 c
          ∧ r.2.mem ((c.tc : Thread Cert.AdamSmallBRefIdeal.nD Cert.AdamSmallBRefIdeal.τ).loc Cert.AdamSmallBRefIdeal.main_v95) = v3 c
          ∧ r.2.mem ((c.tc : Thread Cert.AdamSmallBRefIdeal.nD Cert.AdamSmallBRefIdeal.τ).loc Cert.AdamSmallBRefIdeal.main_v4) = v4 c
          ∧ r.2.mem ((c.tc : Thread Cert.AdamSmallBRefIdeal.nD Cert.AdamSmallBRefIdeal.τ).loc Cert.AdamSmallBRefIdeal.main_v28) = v5 c
          ∧ r.2.mem ((c.tc : Thread Cert.AdamSmallBRefIdeal.nD Cert.AdamSmallBRefIdeal.τ).loc Cert.AdamSmallBRefIdeal.main_v52) = v6 c
          ∧ r.2.mem ((c.tc : Thread Cert.AdamSmallBRefIdeal.nD Cert.AdamSmallBRefIdeal.τ).loc Cert.AdamSmallBRefIdeal.main_v76) = v7 c
          ∧ r.2.mem ((c.tc : Thread Cert.AdamSmallBRefIdeal.nD Cert.AdamSmallBRefIdeal.τ).loc Cert.AdamSmallBRefIdeal.main_v10) = v8 c
          ∧ r.2.mem ((c.tc : Thread Cert.AdamSmallBRefIdeal.nD Cert.AdamSmallBRefIdeal.τ).loc Cert.AdamSmallBRefIdeal.main_v34) = v9 c
          ∧ r.2.mem ((c.tc : Thread Cert.AdamSmallBRefIdeal.nD Cert.AdamSmallBRefIdeal.τ).loc Cert.AdamSmallBRefIdeal.main_v58) = v10 c
          ∧ r.2.mem ((c.tc : Thread Cert.AdamSmallBRefIdeal.nD Cert.AdamSmallBRefIdeal.τ).loc Cert.AdamSmallBRefIdeal.main_v82) = v11 c
          ∧ r.2.mem ((c.tc : Thread Cert.AdamSmallBRefIdeal.nD Cert.AdamSmallBRefIdeal.τ).loc Cert.AdamSmallBRefIdeal.main_arg0) = m' ((c.tc : Thread Cert.AdamSmallBRefIdeal.nD Cert.AdamSmallBRefIdeal.τ).loc Cert.AdamSmallBRefIdeal.main_arg0)
          ∧ r.2.mem ((c.tc : Thread Cert.AdamSmallBRefIdeal.nD Cert.AdamSmallBRefIdeal.τ).loc Cert.AdamSmallBRefIdeal.main_arg1) = m' ((c.tc : Thread Cert.AdamSmallBRefIdeal.nD Cert.AdamSmallBRefIdeal.τ).loc Cert.AdamSmallBRefIdeal.main_arg1)
          ∧ r.2.mem ((c.tc : Thread Cert.AdamSmallBRefIdeal.nD Cert.AdamSmallBRefIdeal.τ).loc Cert.AdamSmallBRefIdeal.main_arg2) = m' ((c.tc : Thread Cert.AdamSmallBRefIdeal.nD Cert.AdamSmallBRefIdeal.τ).loc Cert.AdamSmallBRefIdeal.main_arg2)
          ∧ r.2.mem ((c.tc : Thread Cert.AdamSmallBRefIdeal.nD Cert.AdamSmallBRefIdeal.τ).loc Cert.AdamSmallBRefIdeal.main_arg3) = m' ((c.tc : Thread Cert.AdamSmallBRefIdeal.nD Cert.AdamSmallBRefIdeal.τ).loc Cert.AdamSmallBRefIdeal.main_arg3)
          ∧ r.2.mem ((c.tc : Thread Cert.AdamSmallBRefIdeal.nD Cert.AdamSmallBRefIdeal.τ).loc Cert.AdamSmallBRefIdeal.main_arg4) = m' ((c.tc : Thread Cert.AdamSmallBRefIdeal.nD Cert.AdamSmallBRefIdeal.τ).loc Cert.AdamSmallBRefIdeal.main_arg4)
          ∧ r.2.mem ((c.tc : Thread Cert.AdamSmallBRefIdeal.nD Cert.AdamSmallBRefIdeal.τ).loc Cert.AdamSmallBRefIdeal.main_arg5) = m' ((c.tc : Thread Cert.AdamSmallBRefIdeal.nD Cert.AdamSmallBRefIdeal.τ).loc Cert.AdamSmallBRefIdeal.main_arg5)
          ∧ r.2.mem ((c.tc : Thread Cert.AdamSmallBRefIdeal.nD Cert.AdamSmallBRefIdeal.τ).loc Cert.AdamSmallBRefIdeal.main_arg6) = m' ((c.tc : Thread Cert.AdamSmallBRefIdeal.nD Cert.AdamSmallBRefIdeal.τ).loc Cert.AdamSmallBRefIdeal.main_arg6)
          ∧ r.2.mem ((c.tc : Thread Cert.AdamSmallBRefIdeal.nD Cert.AdamSmallBRefIdeal.τ).loc Cert.AdamSmallBRefIdeal.main_arg7) = m' ((c.tc : Thread Cert.AdamSmallBRefIdeal.nD Cert.AdamSmallBRefIdeal.τ).loc Cert.AdamSmallBRefIdeal.main_arg7)
          ∧ r.2.mem ((c.tc : Thread Cert.AdamSmallBRefIdeal.nD Cert.AdamSmallBRefIdeal.τ).loc Cert.AdamSmallBRefIdeal.main_arg8) = m' ((c.tc : Thread Cert.AdamSmallBRefIdeal.nD Cert.AdamSmallBRefIdeal.τ).loc Cert.AdamSmallBRefIdeal.main_arg8)
          ∧ r.2.mem ((c.tc : Thread Cert.AdamSmallBRefIdeal.nD Cert.AdamSmallBRefIdeal.τ).loc Cert.AdamSmallBRefIdeal.main_arg9) = m' ((c.tc : Thread Cert.AdamSmallBRefIdeal.nD Cert.AdamSmallBRefIdeal.τ).loc Cert.AdamSmallBRefIdeal.main_arg9)
          ∧ r.2.mem ((c.tc : Thread Cert.AdamSmallBRefIdeal.nD Cert.AdamSmallBRefIdeal.τ).loc Cert.AdamSmallBRefIdeal.main_arg10) = m' ((c.tc : Thread Cert.AdamSmallBRefIdeal.nD Cert.AdamSmallBRefIdeal.τ).loc Cert.AdamSmallBRefIdeal.main_arg10)
          ∧ r.2.mem ((c.tc : Thread Cert.AdamSmallBRefIdeal.nD Cert.AdamSmallBRefIdeal.τ).loc Cert.AdamSmallBRefIdeal.main_arg11) = m' ((c.tc : Thread Cert.AdamSmallBRefIdeal.nD Cert.AdamSmallBRefIdeal.τ).loc Cert.AdamSmallBRefIdeal.main_arg11)
          ∧ r.2.mem ((c.tc : Thread Cert.AdamSmallBRefIdeal.nD Cert.AdamSmallBRefIdeal.τ).loc Cert.AdamSmallBRefIdeal.main_arg12) = m' ((c.tc : Thread Cert.AdamSmallBRefIdeal.nD Cert.AdamSmallBRefIdeal.τ).loc Cert.AdamSmallBRefIdeal.main_arg12)
          ∧ r.2.mem ((c.tc : Thread Cert.AdamSmallBRefIdeal.nD Cert.AdamSmallBRefIdeal.τ).loc Cert.AdamSmallBRefIdeal.main_arg13) = m' ((c.tc : Thread Cert.AdamSmallBRefIdeal.nD Cert.AdamSmallBRefIdeal.τ).loc Cert.AdamSmallBRefIdeal.main_arg13)
          ∧ r.2.mem ((c.tc : Thread Cert.AdamSmallBRefIdeal.nD Cert.AdamSmallBRefIdeal.τ).loc Cert.AdamSmallBRefIdeal.main_arg14) = m' ((c.tc : Thread Cert.AdamSmallBRefIdeal.nD Cert.AdamSmallBRefIdeal.τ).loc Cert.AdamSmallBRefIdeal.main_arg14)
          ∧ r.2.mem ((c.tc : Thread Cert.AdamSmallBRefIdeal.nD Cert.AdamSmallBRefIdeal.τ).loc Cert.AdamSmallBRefIdeal.main_arg15) = m' ((c.tc : Thread Cert.AdamSmallBRefIdeal.nD Cert.AdamSmallBRefIdeal.τ).loc Cert.AdamSmallBRefIdeal.main_arg15))

def preserves_Du_DuIdeal : Prop :=
  True

def algebraic_DuIdeal_DuRefIdeal [hDuIdeal : Cert.DuIdeal.Facts] [hDuRefIdeal : Cert.DuRefIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuRefIdeal.nD Cert.DuRefIdeal.τ Cert.DuRefIdeal.sig) → Buf (Elt Ideal) ℓ) (g' : Dev Cert.DuRefIdeal.nD → PrngReg), Pre_DuIdeal m →
    (∀ c : Dev Cert.DuIdeal.nD,
      m' ((c.tc : Thread Cert.DuRefIdeal.nD Cert.DuRefIdeal.τ).loc Cert.DuRefIdeal.main_arg0) = m ((c.tc : Thread Cert.DuIdeal.nD Cert.DuIdeal.τ).loc Cert.DuIdeal.main_arg0)
      ∧ m' ((c.tc : Thread Cert.DuRefIdeal.nD Cert.DuRefIdeal.τ).loc Cert.DuRefIdeal.main_arg1) = m ((c.tc : Thread Cert.DuIdeal.nD Cert.DuIdeal.τ).loc Cert.DuIdeal.main_arg1)
      ∧ m' ((c.tc : Thread Cert.DuRefIdeal.nD Cert.DuRefIdeal.τ).loc Cert.DuRefIdeal.main_arg2) = m ((c.tc : Thread Cert.DuIdeal.nD Cert.DuIdeal.τ).loc Cert.DuIdeal.main_arg2)
      ∧ m' ((c.tc : Thread Cert.DuRefIdeal.nD Cert.DuRefIdeal.τ).loc Cert.DuRefIdeal.main_arg3) = m ((c.tc : Thread Cert.DuIdeal.nD Cert.DuIdeal.τ).loc Cert.DuIdeal.main_arg3)
      ∧ m' ((c.tc : Thread Cert.DuRefIdeal.nD Cert.DuRefIdeal.τ).loc Cert.DuRefIdeal.main_arg4) = m ((c.tc : Thread Cert.DuIdeal.nD Cert.DuIdeal.τ).loc Cert.DuIdeal.main_arg4)
      ∧ m' ((c.tc : Thread Cert.DuRefIdeal.nD Cert.DuRefIdeal.τ).loc Cert.DuRefIdeal.main_arg5) = m ((c.tc : Thread Cert.DuIdeal.nD Cert.DuIdeal.τ).loc Cert.DuIdeal.main_arg5)
      ∧ m' ((c.tc : Thread Cert.DuRefIdeal.nD Cert.DuRefIdeal.τ).loc Cert.DuRefIdeal.main_arg6) = m ((c.tc : Thread Cert.DuIdeal.nD Cert.DuIdeal.τ).loc Cert.DuIdeal.main_arg6)
      ∧ m' ((c.tc : Thread Cert.DuRefIdeal.nD Cert.DuRefIdeal.τ).loc Cert.DuRefIdeal.main_arg7) = m ((c.tc : Thread Cert.DuIdeal.nD Cert.DuIdeal.τ).loc Cert.DuIdeal.main_arg7)
      ∧ m' ((c.tc : Thread Cert.DuRefIdeal.nD Cert.DuRefIdeal.τ).loc Cert.DuRefIdeal.main_arg8) = m ((c.tc : Thread Cert.DuIdeal.nD Cert.DuIdeal.τ).loc Cert.DuIdeal.main_arg8)
      ∧ m' ((c.tc : Thread Cert.DuRefIdeal.nD Cert.DuRefIdeal.τ).loc Cert.DuRefIdeal.main_arg9) = m ((c.tc : Thread Cert.DuIdeal.nD Cert.DuIdeal.τ).loc Cert.DuIdeal.main_arg9)) →
    ∃ (v0 : (c : Dev Cert.DuIdeal.nD) → Buf (Elt Ideal) ((c.tc : Thread Cert.DuIdeal.nD Cert.DuIdeal.τ).loc Cert.DuIdeal.main_v10_0)) (v1 : (c : Dev Cert.DuIdeal.nD) → Buf (Elt Ideal) ((c.tc : Thread Cert.DuIdeal.nD Cert.DuIdeal.τ).loc Cert.DuIdeal.main_v10_1)) (v2 : (c : Dev Cert.DuIdeal.nD) → Buf (Elt Ideal) ((c.tc : Thread Cert.DuIdeal.nD Cert.DuIdeal.τ).loc Cert.DuIdeal.main_v10_2)) (v3 : (c : Dev Cert.DuIdeal.nD) → Buf (Elt Ideal) ((c.tc : Thread Cert.DuIdeal.nD Cert.DuIdeal.τ).loc Cert.DuIdeal.main_v10_3)) (v4 : (c : Dev Cert.DuIdeal.nD) → Buf (Elt Ideal) ((c.tc : Thread Cert.DuIdeal.nD Cert.DuIdeal.τ).loc Cert.DuIdeal.main_v10_4)) (v5 : (c : Dev Cert.DuIdeal.nD) → Buf (Elt Ideal) ((c.tc : Thread Cert.DuIdeal.nD Cert.DuIdeal.τ).loc Cert.DuIdeal.main_v10_5)) (v6 : (c : Dev Cert.DuIdeal.nD) → Buf (Elt Ideal) ((c.tc : Thread Cert.DuIdeal.nD Cert.DuIdeal.τ).loc Cert.DuIdeal.main_v10_6)) (v7 : (c : Dev Cert.DuIdeal.nD) → Buf (Elt Ideal) ((c.tc : Thread Cert.DuIdeal.nD Cert.DuIdeal.τ).loc Cert.DuIdeal.main_v10_7)) (v8 : (c : Dev Cert.DuIdeal.nD) → Buf (Elt Ideal) ((c.tc : Thread Cert.DuIdeal.nD Cert.DuIdeal.τ).loc Cert.DuIdeal.main_v10_8)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v10_0) = v0 c
          ∧ r.2.mem ((c.tc : Thread Cert.DuIdeal.nD Cert.DuIdeal.τ).loc Cert.DuIdeal.main_v10_1) = v1 c
          ∧ r.2.mem ((c.tc : Thread Cert.DuIdeal.nD Cert.DuIdeal.τ).loc Cert.DuIdeal.main_v10_2) = v2 c
          ∧ r.2.mem ((c.tc : Thread Cert.DuIdeal.nD Cert.DuIdeal.τ).loc Cert.DuIdeal.main_v10_3) = v3 c
          ∧ r.2.mem ((c.tc : Thread Cert.DuIdeal.nD Cert.DuIdeal.τ).loc Cert.DuIdeal.main_v10_4) = v4 c
          ∧ r.2.mem ((c.tc : Thread Cert.DuIdeal.nD Cert.DuIdeal.τ).loc Cert.DuIdeal.main_v10_5) = v5 c
          ∧ r.2.mem ((c.tc : Thread Cert.DuIdeal.nD Cert.DuIdeal.τ).loc Cert.DuIdeal.main_v10_6) = v6 c
          ∧ r.2.mem ((c.tc : Thread Cert.DuIdeal.nD Cert.DuIdeal.τ).loc Cert.DuIdeal.main_v10_7) = v7 c
          ∧ r.2.mem ((c.tc : Thread Cert.DuIdeal.nD Cert.DuIdeal.τ).loc Cert.DuIdeal.main_v10_8) = v8 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
          ∧ r.2.mem ((c.tc : Thread Cert.DuIdeal.nD Cert.DuIdeal.τ).loc Cert.DuIdeal.main_arg2) = m ((c.tc : Thread Cert.DuIdeal.nD Cert.DuIdeal.τ).loc Cert.DuIdeal.main_arg2)
          ∧ r.2.mem ((c.tc : Thread Cert.DuIdeal.nD Cert.DuIdeal.τ).loc Cert.DuIdeal.main_arg3) = m ((c.tc : Thread Cert.DuIdeal.nD Cert.DuIdeal.τ).loc Cert.DuIdeal.main_arg3)
          ∧ r.2.mem ((c.tc : Thread Cert.DuIdeal.nD Cert.DuIdeal.τ).loc Cert.DuIdeal.main_arg4) = m ((c.tc : Thread Cert.DuIdeal.nD Cert.DuIdeal.τ).loc Cert.DuIdeal.main_arg4)
          ∧ r.2.mem ((c.tc : Thread Cert.DuIdeal.nD Cert.DuIdeal.τ).loc Cert.DuIdeal.main_arg5) = m ((c.tc : Thread Cert.DuIdeal.nD Cert.DuIdeal.τ).loc Cert.DuIdeal.main_arg5)
          ∧ r.2.mem ((c.tc : Thread Cert.DuIdeal.nD Cert.DuIdeal.τ).loc Cert.DuIdeal.main_arg6) = m ((c.tc : Thread Cert.DuIdeal.nD Cert.DuIdeal.τ).loc Cert.DuIdeal.main_arg6)
          ∧ r.2.mem ((c.tc : Thread Cert.DuIdeal.nD Cert.DuIdeal.τ).loc Cert.DuIdeal.main_arg7) = m ((c.tc : Thread Cert.DuIdeal.nD Cert.DuIdeal.τ).loc Cert.DuIdeal.main_arg7)
          ∧ r.2.mem ((c.tc : Thread Cert.DuIdeal.nD Cert.DuIdeal.τ).loc Cert.DuIdeal.main_arg8) = m ((c.tc : Thread Cert.DuIdeal.nD Cert.DuIdeal.τ).loc Cert.DuIdeal.main_arg8)
          ∧ r.2.mem ((c.tc : Thread Cert.DuIdeal.nD Cert.DuIdeal.τ).loc Cert.DuIdeal.main_arg9) = m ((c.tc : Thread Cert.DuIdeal.nD Cert.DuIdeal.τ).loc Cert.DuIdeal.main_arg9))
      ∧ θ_run (Cert.DuRefIdeal.defs (F := Ideal)) (onTc (τ := Cert.DuRefIdeal.τ) (Cert.DuRefIdeal.main (F := Ideal))) ⟨m', fun _ => 0, g'⟩ (fun r => ∀ c : Dev Cert.DuRefIdeal.nD,
          r.2.mem ((c.tc : Thread Cert.DuRefIdeal.nD Cert.DuRefIdeal.τ).loc Cert.DuRefIdeal.main_v2) = v0 c
          ∧ r.2.mem ((c.tc : Thread Cert.DuRefIdeal.nD Cert.DuRefIdeal.τ).loc Cert.DuRefIdeal.main_v3) = v1 c
          ∧ r.2.mem ((c.tc : Thread Cert.DuRefIdeal.nD Cert.DuRefIdeal.τ).loc Cert.DuRefIdeal.main_v28) = v2 c
          ∧ r.2.mem ((c.tc : Thread Cert.DuRefIdeal.nD Cert.DuRefIdeal.τ).loc Cert.DuRefIdeal.main_v9) = v3 c
          ∧ r.2.mem ((c.tc : Thread Cert.DuRefIdeal.nD Cert.DuRefIdeal.τ).loc Cert.DuRefIdeal.main_v15) = v4 c
          ∧ r.2.mem ((c.tc : Thread Cert.DuRefIdeal.nD Cert.DuRefIdeal.τ).loc Cert.DuRefIdeal.main_v4) = v5 c
          ∧ r.2.mem ((c.tc : Thread Cert.DuRefIdeal.nD Cert.DuRefIdeal.τ).loc Cert.DuRefIdeal.main_v52) = v6 c
          ∧ r.2.mem ((c.tc : Thread Cert.DuRefIdeal.nD Cert.DuRefIdeal.τ).loc Cert.DuRefIdeal.main_v33) = v7 c
          ∧ r.2.mem ((c.tc : Thread Cert.DuRefIdeal.nD Cert.DuRefIdeal.τ).loc Cert.DuRefIdeal.main_v39) = v8 c
          ∧ r.2.mem ((c.tc : Thread Cert.DuRefIdeal.nD Cert.DuRefIdeal.τ).loc Cert.DuRefIdeal.main_arg0) = m' ((c.tc : Thread Cert.DuRefIdeal.nD Cert.DuRefIdeal.τ).loc Cert.DuRefIdeal.main_arg0)
          ∧ r.2.mem ((c.tc : Thread Cert.DuRefIdeal.nD Cert.DuRefIdeal.τ).loc Cert.DuRefIdeal.main_arg1) = m' ((c.tc : Thread Cert.DuRefIdeal.nD Cert.DuRefIdeal.τ).loc Cert.DuRefIdeal.main_arg1)
          ∧ r.2.mem ((c.tc : Thread Cert.DuRefIdeal.nD Cert.DuRefIdeal.τ).loc Cert.DuRefIdeal.main_arg2) = m' ((c.tc : Thread Cert.DuRefIdeal.nD Cert.DuRefIdeal.τ).loc Cert.DuRefIdeal.main_arg2)
          ∧ r.2.mem ((c.tc : Thread Cert.DuRefIdeal.nD Cert.DuRefIdeal.τ).loc Cert.DuRefIdeal.main_arg3) = m' ((c.tc : Thread Cert.DuRefIdeal.nD Cert.DuRefIdeal.τ).loc Cert.DuRefIdeal.main_arg3)
          ∧ r.2.mem ((c.tc : Thread Cert.DuRefIdeal.nD Cert.DuRefIdeal.τ).loc Cert.DuRefIdeal.main_arg4) = m' ((c.tc : Thread Cert.DuRefIdeal.nD Cert.DuRefIdeal.τ).loc Cert.DuRefIdeal.main_arg4)
          ∧ r.2.mem ((c.tc : Thread Cert.DuRefIdeal.nD Cert.DuRefIdeal.τ).loc Cert.DuRefIdeal.main_arg5) = m' ((c.tc : Thread Cert.DuRefIdeal.nD Cert.DuRefIdeal.τ).loc Cert.DuRefIdeal.main_arg5)
          ∧ r.2.mem ((c.tc : Thread Cert.DuRefIdeal.nD Cert.DuRefIdeal.τ).loc Cert.DuRefIdeal.main_arg6) = m' ((c.tc : Thread Cert.DuRefIdeal.nD Cert.DuRefIdeal.τ).loc Cert.DuRefIdeal.main_arg6)
          ∧ r.2.mem ((c.tc : Thread Cert.DuRefIdeal.nD Cert.DuRefIdeal.τ).loc Cert.DuRefIdeal.main_arg7) = m' ((c.tc : Thread Cert.DuRefIdeal.nD Cert.DuRefIdeal.τ).loc Cert.DuRefIdeal.main_arg7)
          ∧ r.2.mem ((c.tc : Thread Cert.DuRefIdeal.nD Cert.DuRefIdeal.τ).loc Cert.DuRefIdeal.main_arg8) = m' ((c.tc : Thread Cert.DuRefIdeal.nD Cert.DuRefIdeal.τ).loc Cert.DuRefIdeal.main_arg8)
          ∧ r.2.mem ((c.tc : Thread Cert.DuRefIdeal.nD Cert.DuRefIdeal.τ).loc Cert.DuRefIdeal.main_arg9) = m' ((c.tc : Thread Cert.DuRefIdeal.nD Cert.DuRefIdeal.τ).loc Cert.DuRefIdeal.main_arg9))

def Claim : Prop :=
  ∃ (hNorm : Cert.Norm.Facts) (hNormIdeal : Cert.NormIdeal.Facts) (hNormRefIdeal : Cert.NormRefIdeal.Facts) (hLoss : Cert.Loss.Facts) (hLossIdeal : Cert.LossIdeal.Facts) (hLossRefIdeal : Cert.LossRefIdeal.Facts) (hNormDy : Cert.NormDy.Facts) (hNormDyIdeal : Cert.NormDyIdeal.Facts) (hNormDyRefIdeal : Cert.NormDyRefIdeal.Facts) (hDff2 : Cert.Dff2.Facts) (hDff2Ideal : Cert.Dff2Ideal.Facts) (hDff2RefIdeal : Cert.Dff2RefIdeal.Facts) (hDw2 : Cert.Dw2.Facts) (hDw2Ideal : Cert.Dw2Ideal.Facts) (hDw2RefIdeal : Cert.Dw2RefIdeal.Facts) (hMixer : Cert.Mixer.Facts) (hMixerIdeal : Cert.MixerIdeal.Facts) (hMixerRefIdeal : Cert.MixerRefIdeal.Facts) (hRms : Cert.Rms.Facts) (hRmsIdeal : Cert.RmsIdeal.Facts) (hRmsRefIdeal : Cert.RmsRefIdeal.Facts) (hOutProj : Cert.OutProj.Facts) (hOutProjIdeal : Cert.OutProjIdeal.Facts) (hOutProjRefIdeal : Cert.OutProjRefIdeal.Facts) (hFf2 : Cert.Ff2.Facts) (hFf2Ideal : Cert.Ff2Ideal.Facts) (hFf2RefIdeal : Cert.Ff2RefIdeal.Facts) (hFf1 : Cert.Ff1.Facts) (hFf1Ideal : Cert.Ff1Ideal.Facts) (hFf1RefIdeal : Cert.Ff1RefIdeal.Facts) (hDh : Cert.Dh.Facts) (hDhIdeal : Cert.DhIdeal.Facts) (hDhRefIdeal : Cert.DhRefIdeal.Facts) (hAdamWIn : Cert.AdamWIn.Facts) (hAdamWInIdeal : Cert.AdamWInIdeal.Facts) (hAdamWInRefIdeal : Cert.AdamWInRefIdeal.Facts) (hSumParts : Cert.SumParts.Facts) (hSumPartsIdeal : Cert.SumPartsIdeal.Facts) (hSumPartsRefIdeal : Cert.SumPartsRefIdeal.Facts) (hToCols : Cert.ToCols.Facts) (hToColsIdeal : Cert.ToColsIdeal.Facts) (hToColsRefIdeal : Cert.ToColsRefIdeal.Facts) (hToShards : Cert.ToShards.Facts) (hToShardsIdeal : Cert.ToShardsIdeal.Facts) (hToShardsRefIdeal : Cert.ToShardsRefIdeal.Facts) (hAdamSmallA : Cert.AdamSmallA.Facts) (hAdamSmallAIdeal : Cert.AdamSmallAIdeal.Facts) (hAdamSmallARefIdeal : Cert.AdamSmallARefIdeal.Facts) (hAdamSmallB : Cert.AdamSmallB.Facts) (hAdamSmallBIdeal : Cert.AdamSmallBIdeal.Facts) (hAdamSmallBRefIdeal : Cert.AdamSmallBRefIdeal.Facts) (hDu : Cert.Du.Facts) (hDuIdeal : Cert.DuIdeal.Facts) (hDuRefIdeal : Cert.DuRefIdeal.Facts) (hPre_norm_finite : Cert.Pre_norm_finite.Facts) (hPre_loss_finite : Cert.Pre_loss_finite.Facts) (hPre_normdy_finite : Cert.Pre_normdy_finite.Facts) (hPre_mixer_finite : Cert.Pre_mixer_finite.Facts),
    quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_NormDy (hNormDy := hNormDy)
    ∧ quiescent_NormDyIdeal (hNormDyIdeal := hNormDyIdeal)
    ∧ quiescent_NormDyIdeal_pre_normdy_finite (hNormDyIdeal := hNormDyIdeal) (hPre_normdy_finite := hPre_normdy_finite)
    ∧ quiescent_NormDyRefIdeal (hNormDyRefIdeal := hNormDyRefIdeal)
    ∧ quiescent_NormDyRefIdeal_pre_normdy_finite (hNormDyRefIdeal := hNormDyRefIdeal) (hPre_normdy_finite := hPre_normdy_finite)
    ∧ quiescent_Dff2 (hDff2 := hDff2)
    ∧ quiescent_Dff2Ideal (hDff2Ideal := hDff2Ideal)
    ∧ quiescent_Dff2RefIdeal (hDff2RefIdeal := hDff2RefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_Mixer (hMixer := hMixer)
    ∧ quiescent_MixerIdeal (hMixerIdeal := hMixerIdeal)
    ∧ quiescent_MixerIdeal_pre_mixer_finite (hMixerIdeal := hMixerIdeal) (hPre_mixer_finite := hPre_mixer_finite)
    ∧ quiescent_MixerRefIdeal (hMixerRefIdeal := hMixerRefIdeal)
    ∧ quiescent_MixerRefIdeal_pre_mixer_finite (hMixerRefIdeal := hMixerRefIdeal) (hPre_mixer_finite := hPre_mixer_finite)
    ∧ quiescent_Rms (hRms := hRms)
    ∧ quiescent_RmsIdeal (hRmsIdeal := hRmsIdeal)
    ∧ quiescent_RmsRefIdeal (hRmsRefIdeal := hRmsRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_Dh (hDh := hDh)
    ∧ quiescent_DhIdeal (hDhIdeal := hDhIdeal)
    ∧ quiescent_DhRefIdeal (hDhRefIdeal := hDhRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_SumParts (hSumParts := hSumParts)
    ∧ quiescent_SumPartsIdeal (hSumPartsIdeal := hSumPartsIdeal)
    ∧ quiescent_SumPartsRefIdeal (hSumPartsRefIdeal := hSumPartsRefIdeal)
    ∧ quiescent_ToCols (hToCols := hToCols)
    ∧ quiescent_ToColsIdeal (hToColsIdeal := hToColsIdeal)
    ∧ quiescent_ToColsRefIdeal (hToColsRefIdeal := hToColsRefIdeal)
    ∧ quiescent_ToShards (hToShards := hToShards)
    ∧ quiescent_ToShardsIdeal (hToShardsIdeal := hToShardsIdeal)
    ∧ quiescent_ToShardsRefIdeal (hToShardsRefIdeal := hToShardsRefIdeal)
    ∧ quiescent_AdamSmallA (hAdamSmallA := hAdamSmallA)
    ∧ quiescent_AdamSmallAIdeal (hAdamSmallAIdeal := hAdamSmallAIdeal)
    ∧ quiescent_AdamSmallARefIdeal (hAdamSmallARefIdeal := hAdamSmallARefIdeal)
    ∧ quiescent_AdamSmallB (hAdamSmallB := hAdamSmallB)
    ∧ quiescent_AdamSmallBIdeal (hAdamSmallBIdeal := hAdamSmallBIdeal)
    ∧ quiescent_AdamSmallBRefIdeal (hAdamSmallBRefIdeal := hAdamSmallBRefIdeal)
    ∧ quiescent_Du (hDu := hDu)
    ∧ quiescent_DuIdeal (hDuIdeal := hDuIdeal)
    ∧ quiescent_DuRefIdeal (hDuRefIdeal := hDuRefIdeal)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_NormDy_NormDyIdeal
    ∧ algebraic_NormDyIdeal_NormDyRefIdeal_pre_normdy_finite (hNormDyIdeal := hNormDyIdeal) (hNormDyRefIdeal := hNormDyRefIdeal) (hPre_normdy_finite := hPre_normdy_finite)
    ∧ preserves_Dff2_Dff2Ideal
    ∧ algebraic_Dff2Ideal_Dff2RefIdeal (hDff2Ideal := hDff2Ideal) (hDff2RefIdeal := hDff2RefIdeal)
    ∧ preserves_Dw2_Dw2Ideal
    ∧ algebraic_Dw2Ideal_Dw2RefIdeal (hDw2Ideal := hDw2Ideal) (hDw2RefIdeal := hDw2RefIdeal)
    ∧ preserves_Mixer_MixerIdeal
    ∧ algebraic_MixerIdeal_MixerRefIdeal_pre_mixer_finite (hMixerIdeal := hMixerIdeal) (hMixerRefIdeal := hMixerRefIdeal) (hPre_mixer_finite := hPre_mixer_finite)
    ∧ preserves_Rms_RmsIdeal
    ∧ algebraic_RmsIdeal_RmsRefIdeal (hRmsIdeal := hRmsIdeal) (hRmsRefIdeal := hRmsRefIdeal)
    ∧ preserves_OutProj_OutProjIdeal
    ∧ algebraic_OutProjIdeal_OutProjRefIdeal (hOutProjIdeal := hOutProjIdeal) (hOutProjRefIdeal := hOutProjRefIdeal)
    ∧ preserves_Ff2_Ff2Ideal
    ∧ algebraic_Ff2Ideal_Ff2RefIdeal (hFf2Ideal := hFf2Ideal) (hFf2RefIdeal := hFf2RefIdeal)
    ∧ preserves_Ff1_Ff1Ideal
    ∧ algebraic_Ff1Ideal_Ff1RefIdeal (hFf1Ideal := hFf1Ideal) (hFf1RefIdeal := hFf1RefIdeal)
    ∧ preserves_Dh_DhIdeal
    ∧ algebraic_DhIdeal_DhRefIdeal (hDhIdeal := hDhIdeal) (hDhRefIdeal := hDhRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_SumParts_SumPartsIdeal
    ∧ algebraic_SumPartsIdeal_SumPartsRefIdeal (hSumPartsIdeal := hSumPartsIdeal) (hSumPartsRefIdeal := hSumPartsRefIdeal)
    ∧ preserves_ToCols_ToColsIdeal
    ∧ algebraic_ToColsIdeal_ToColsRefIdeal (hToColsIdeal := hToColsIdeal) (hToColsRefIdeal := hToColsRefIdeal)
    ∧ preserves_ToShards_ToShardsIdeal
    ∧ algebraic_ToShardsIdeal_ToShardsRefIdeal (hToShardsIdeal := hToShardsIdeal) (hToShardsRefIdeal := hToShardsRefIdeal)
    ∧ preserves_AdamSmallA_AdamSmallAIdeal
    ∧ algebraic_AdamSmallAIdeal_AdamSmallARefIdeal (hAdamSmallAIdeal := hAdamSmallAIdeal) (hAdamSmallARefIdeal := hAdamSmallARefIdeal)
    ∧ preserves_AdamSmallB_AdamSmallBIdeal
    ∧ algebraic_AdamSmallBIdeal_AdamSmallBRefIdeal (hAdamSmallBIdeal := hAdamSmallBIdeal) (hAdamSmallBRefIdeal := hAdamSmallBRefIdeal)
    ∧ preserves_Du_DuIdeal
    ∧ algebraic_DuIdeal_DuRefIdeal (hDuIdeal := hDuIdeal) (hDuRefIdeal := hDuRefIdeal)
-- ==== Pre_loss_finite.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048 .f32) (main_arg2 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  main_v13
-- ==== Pre_mixer_finite.lean ====
abbrev S8192x6160 : Shape := ⟨2, ![8192, 6160]⟩
abbrev S16x512 : Shape := ⟨2, ![16, 512]⟩
abbrev S1x512 : Shape := ⟨2, ![1, 512]⟩
abbrev S1024x3 : Shape := ⟨2, ![1024, 3]⟩
abbrev S1x1024 : Shape := ⟨2, ![1, 1024]⟩
abbrev S1x256 : Shape := ⟨2, ![1, 256]⟩
abbrev S8192x2048 : Shape := ⟨2, ![8192, 2048]⟩
abbrev S_ : Shape := ⟨0, ![]⟩

class Facts : Prop where
  bcast_S_S8192x6160 : S_.BroadcastsInDim S8192x6160 (![] : Fin 0 → Fin S8192x6160.rank)
  reducesTo_S8192x6160_S_d0_1 : S8192x6160.ReducesTo [0, 1] S_
  h_S_ : 0 < S_.numel
  bcast_S_S16x512 : S_.BroadcastsInDim S16x512 (![] : Fin 0 → Fin S16x512.rank)
  reducesTo_S16x512_S_d0_1 : S16x512.ReducesTo [0, 1] S_
  bcast_S_S1x512 : S_.BroadcastsInDim S1x512 (![] : Fin 0 → Fin S1x512.rank)
  reducesTo_S1x512_S_d0_1 : S1x512.ReducesTo [0, 1] S_
  bcast_S_S1024x3 : S_.BroadcastsInDim S1024x3 (![] : Fin 0 → Fin S1024x3.rank)
  reducesTo_S1024x3_S_d0_1 : S1024x3.ReducesTo [0, 1] S_
  bcast_S_S1x1024 : S_.BroadcastsInDim S1x1024 (![] : Fin 0 → Fin S1x1024.rank)
  reducesTo_S1x1024_S_d0_1 : S1x1024.ReducesTo [0, 1] S_
  bcast_S_S1x256 : S_.BroadcastsInDim S1x256 (![] : Fin 0 → Fin S1x256.rank)
  reducesTo_S1x256_S_d0_1 : S1x256.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_arg4 : FVec F S1x1024 .f32) (main_arg5 : FVec F S1x256 .f32) (main_arg6 : FVec F S8192x2048 .f32) (main_v13 : IVec S_ 1) (main_v16 : IVec S1024x3 1) : IVec S_ 1 :=
  let main_c_5 : IVec S_ 1 := constantI S_ 1 1#1
  let main_v17 : IVec S_ 1 := (fun x v => Host.reduce IntOp.andi x v reducesTo_S1024x3_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x256 .f32 := Host.absf main_arg5
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S8192x2048 .f32 := Host.absf main_arg6
  let main_cst_10 : FVec F S_ .f32 := constant S_ .f32 0x7F800000#32
  let main_v30 : FVec F S8192x2048 .f32 := broadcastInDim S8192x2048 ![] bcast_S_S8192x2048 main_cst_10
  let main_v31 : IVec S8192x2048 1 := cmpf .olt main_v29 main_v30
  let main_c_11 : IVec S_ 1 := constantI S_ 1 1#1
  let main_v32 : IVec S_ 1 := (fun x v => Host.reduce IntOp.andi x v reducesTo_S8192x2048_S_d0_1 h_S_) main_v31 main_c_11
  let main_v33 : IVec S_ 1 := andi main_v28 main_v32
  main_v33

def fn {F : FTy → Type} [FloatOps F] (main_arg0 : FVec F S8192x6160 .f32) (main_arg1 : FVec F S16x512 .f32) (main_arg2 : FVec F S1x512 .f32) (main_arg3 : FVec F S1024x3 .f32) (main_arg4 : FVec F S1x1024 .f32) (main_arg5 : FVec F S1x256 .f32) (main_arg6 : FVec F S8192x2048 .f32) : IVec S_ 1 :=
  let main_v0 : FVec F S8192x6160 .f32 := Host.absf main_arg0
  let main_cst : FVec F S_ .f32 := constant S_ .f32 0x7F800000#32
  let main_v1 : FVec F S8192x6160 .f32 := broadcastInDim S8192x6160 ![] bcast_S_S8192x6160 main_cst
  let main_v2 : IVec S8192x6160 1 := cmpf .olt main_v0 main_v1
  let main_c : IVec S_ 1 := constantI S_ 1 1#1
  let main_v3 : IVec S_ 1 := (fun x v => Host.reduce IntOp.andi x v reducesTo_S8192x6160_S_d0_1 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1024x3 .f32 := Host.absf main_arg3
  let main_cst_4 : FVec F S_ .f32 := constant S_ .f32 0x7F800000#32
  let main_v15 : FVec F S1024x3 .f32 := broadcastInDim S1024x3 ![] bcast_S_S1024x3 main_cst_4
  let main_v16 : IVec S1024x3 1 := cmpf .olt main_v14 main_v15
  fn_part1 (F := F) main_arg4 main_arg5 main_arg6 main_v13 main_v16
-- ==== Pre_norm_finite.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S8192x2048 .f32) (main_arg1 : FVec F S8192x2048 .f32) (main_arg2 : FVec F S1x2048 .f32) (main_arg3 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  main_v13
-- ==== Pre_normdy_finite.lean ====
abbrev S8192x2048 : Shape := ⟨2, ![8192, 2048]⟩
abbrev S1x2048 : Shape := ⟨2, ![1, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S8192x2048 .f32) (main_arg1 : FVec F S8192x2048 .f32) (main_arg2 : FVec F S1x2048 .f32) (main_arg3 : FVec F S8192x2048 .f32) (main_arg4 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  main_v13
-- ==== Norm.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Loss.lean ====
abbrev S8192x2048 : Shape := ⟨2, ![8192, 2048]⟩
abbrev S2048 : Shape := ⟨1, ![2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S8x128, .f32⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S8x128, .f32⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .bf16⟩
  | .hbm, ⟨72, _⟩ => ⟨S8x128, .f32⟩
  | .hbm, ⟨73, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== NormDy.lean ====
abbrev S8192x2048 : Shape := ⟨2, ![8192, 2048]⟩
abbrev S1x2048 : Shape := ⟨2, ![1, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S2048x2048, .f32⟩
  | .hbm, ⟨5, _⟩ => ⟨S2048x2048, .bf16⟩
  | .hbm, ⟨6, _⟩ => ⟨S8192x2048, .f32⟩
  | .hbm, ⟨7, _⟩ => ⟨S8192x2048, .bf16⟩
  | .hbm, ⟨8, _⟩ => ⟨S1x2048, .f32⟩
  | .hbm, ⟨9, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S2048x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S256x2048, .f32⟩
  | .local _ .vmem, ⟨14, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NormDyRefIdeal.lean ====
abbrev S8192x2048 : Shape := ⟨2, ![8192, 2048]⟩
abbrev S1x2048 : Shape := ⟨2, ![1, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .bf16⟩
  | .hbm, ⟨54, _⟩ => ⟨S2048x2048, .f32⟩
  | .hbm, ⟨55, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Dff2.lean ====
abbrev S8192x2048 : Shape := ⟨2, ![8192, 2048]⟩
abbrev S8192x8192 : Shape := ⟨2, ![8192, 8192]⟩
abbrev S1024x2048 : Shape := ⟨2, ![1024, 2048]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x8192, .f32⟩
  | .hbm, ⟨3, _⟩ => ⟨S8192x2048, .bf16⟩
  | .hbm, ⟨4, _⟩ => ⟨S8192x2048, .bf16⟩
  | .hbm, ⟨5, _⟩ => ⟨S8192x8192, .bf16⟩
  | .hbm, ⟨6, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Dff2RefIdeal.lean ====
abbrev S8192x2048 : Shape := ⟨2, ![8192, 2048]⟩
abbrev S8192x8192 : Shape := ⟨2, ![8192, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Dw2.lean ====
abbrev S8192x8192 : Shape := ⟨2, ![8192, 8192]⟩
abbrev S8192x2048 : Shape := ⟨2, ![8192, 2048]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x8192, .bf16⟩
  | .hbm, ⟨3, _⟩ => ⟨S8192x2048, .bf16⟩
  | .hbm, ⟨4, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw2RefIdeal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x2048, .f32⟩
  | .hbm, ⟨9, _⟩ => ⟨S2048x8192, .f32⟩
  | .hbm, ⟨10, _⟩ => ⟨S8192x2048, .f32⟩
  | .hbm, ⟨11, _⟩ => ⟨S8192x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Mixer.lean ====
abbrev S8192x6160 : Shape := ⟨2, ![8192, 6160]⟩
abbrev S16x512 : Shape := ⟨2, ![16, 512]⟩
abbrev S1x512 : Shape := ⟨2, ![1, 512]⟩
abbrev S1024x3 : Shape := ⟨2, ![1024, 3]⟩
abbrev S1x1024 : Shape := ⟨2, ![1, 1024]⟩
abbrev S1x256 : Shape := ⟨2, ![1, 256]⟩
abbrev S8192x2048 : Shape := ⟨2, ![8192, 2048]⟩
abbrev S8192x6144 : Shape := ⟨2, ![8192, 6144]⟩
abbrev S8192x16 : Shape := ⟨2, ![8192, 16]⟩
abbrev S_ : Shape := ⟨0, ![]⟩
abbrev S8192x128 : Shape := ⟨2, ![8192, 128]⟩
abbrev S128x512 : Shape := ⟨2, ![128, 512]⟩
abbrev S3x1024 : Shape := ⟨2, ![3, 1024]⟩
abbrev S8x1024 : Shape := ⟨2, ![8, 1024]⟩
abbrev S128x4x256x128 : Shape := ⟨4, ![128, 4, 256, 128]⟩
abbrev S256x1024 : Shape := ⟨2, ![256, 1024]⟩
abbrev S256x512 : Shape := ⟨2, ![256, 512]⟩
abbrev S256x128 : Shape := ⟨2, ![256, 128]⟩
abbrev S256x2048 : Shape := ⟨2, ![256, 2048]⟩
abbrev S4x4x256x128 : Shape := ⟨4, ![4, 4, 256, 128]⟩
abbrev S4x256x128 : Shape := ⟨3, ![4, 256, 128]⟩
abbrev S264x1024 : Shape := ⟨2, ![264, 1024]⟩
abbrev S256 : Shape := ⟨1, ![256]⟩
abbrev S256x1 : Shape := ⟨2, ![256, 1]⟩
abbrev S1x128 : Shape := ⟨2, ![1, 128]⟩
abbrev S256x256 : Shape := ⟨2, ![256, 256]⟩
abbrev S512x256 : Shape := ⟨2, ![512, 256]⟩
abbrev S512x512 : Shape := ⟨2, ![512, 512]⟩
abbrev S64x256 : Shape := ⟨2, ![64, 256]⟩
abbrev S64x128 : Shape := ⟨2, ![64, 128]⟩
abbrev S1x256x128 : Shape := ⟨3, ![1, 256, 128]⟩
abbrev S1x1x256x128 : Shape := ⟨4, ![1, 1, 256, 128]⟩
abbrev S1x4x256x128 : Shape := ⟨4, ![1, 4, 256, 128]⟩
abbrev S256x6144 : Shape := ⟨2, ![256, 6144]⟩
abbrev S128 : Shape := ⟨1, ![128]⟩
abbrev S1024 : Shape := ⟨1, ![1024]⟩
abbrev S64x512 : Shape := ⟨2, ![64, 512]⟩
abbrev S512 : Shape := ⟨1, ![512]⟩

abbrev nBuf : Space → Nat
  | .hbm => 29
  | .vmem => 69
  | .smem => 0
  | _ => 0

abbrev bufTy : (tb : Table) → Fin (tcTables nBuf tb) → BufTy
  | .hbm, ⟨0, _⟩ => ⟨S8192x6160, .f32⟩
  | .hbm, ⟨1, _⟩ => ⟨S16x512, .f32⟩
  | .hbm, ⟨2, _⟩ => ⟨S1x512, .f32⟩
  | .hbm, ⟨3, _⟩ => ⟨S1024x3, .f32⟩
  | .hbm, ⟨4, _⟩ => ⟨S1x1024, .f32⟩
  | .hbm, ⟨5, _⟩ => ⟨S1x256, .f32⟩
  | .hbm, ⟨6, _⟩ => ⟨S8192x2048, .f32⟩
  | .hbm, ⟨7, _⟩ => ⟨S8192x6144, .f32⟩
  | .hbm, ⟨8, _⟩ => ⟨S8192x16, .f32⟩
  | .hbm, ⟨9, _⟩ => ⟨S_, .i32⟩
  | .hbm, ⟨10, _⟩ => ⟨S_, .f32⟩
  | .hbm, ⟨11, _⟩ => ⟨S8192x128, .f32⟩
  | .hbm, ⟨12, _⟩ => ⟨S_, .i32⟩
  | .hbm, ⟨13, _⟩ => ⟨S_, .f32⟩
  | .hbm, ⟨14, _⟩ => ⟨S128x512, .f32⟩
  | .hbm, ⟨15, _⟩ => ⟨S128x512, .bf16⟩
  | .hbm, ⟨16, _⟩ => ⟨S3x1024, .f32⟩
  | .hbm, ⟨17, _⟩ => ⟨S_, .i32⟩
  | .hbm, ⟨18, _⟩ => ⟨S_, .f32⟩
  | .hbm, ⟨19, _⟩ => ⟨S8x1024, .f32⟩
  | .hbm, ⟨20, _⟩ => ⟨S8192x2048, .bf16⟩
  | .hbm, ⟨21, _⟩ => ⟨S128x4x256x128, .f32⟩
  | .hbm, ⟨22, _⟩ => ⟨S8192x6144, .bf16⟩
  | .hbm, ⟨23, _⟩ => ⟨S8192x128, .bf16⟩
  | .hbm, ⟨24, _⟩ => ⟨S8x1024, .f32⟩
  | .hbm, ⟨25, _⟩ => ⟨S1x1024, .f32⟩
  | .hbm, ⟨26, _⟩ => ⟨S1x256, .f32⟩
  | .hbm, ⟨27, _⟩ => ⟨S1x512, .f32⟩
  | .hbm, ⟨28, _⟩ => ⟨S128x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x128, .f32⟩
  | .local _ .vmem, ⟨15, _⟩ => ⟨S256x128, .f32⟩
  | .local _ .vmem, ⟨16, _⟩ => ⟨S128x512, .bf16⟩
  | .local _ .vmem, ⟨17, _⟩ => ⟨S1x512, .f32⟩
  | .local _ .vmem, ⟨18, _⟩ => ⟨S8x1024, .f32⟩
  | .local _ .vmem, ⟨19, _⟩ => ⟨S1x1024, .f32⟩
  | .local _ .vmem, ⟨20, _⟩ => ⟨S1x256, .f32⟩
  | .local _ .vmem, ⟨21, _⟩ => ⟨S256x2048, .bf16⟩
  | .local _ .vmem, ⟨22, _⟩ => ⟨S256x2048, .bf16⟩
  | .local _ .vmem, ⟨23, _⟩ => ⟨S4x4x256x128, .f32⟩
  | .local _ .vmem, ⟨24, _⟩ => ⟨S4x4x256x128, .f32⟩
  | .local _ .vmem, ⟨25, _⟩ => ⟨S8x1024, .f32⟩
  | .local _ .vmem, ⟨26, _⟩ => ⟨S4x256x128, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S8x1024, .f32⟩
  | .local _ .vmem, ⟨42, _⟩ => ⟨S8x1024, .f32⟩
  | .local _ .vmem, ⟨43, _⟩ => ⟨S8x1024, .f32⟩
  | .local _ .vmem, ⟨44, _⟩ => ⟨S8x1024, .f32⟩
  | .local _ .vmem, ⟨45, _⟩ => ⟨S256x128, .f32⟩
  | .local _ .vmem, ⟨46, _⟩ => ⟨S256x128, .f32⟩
  | .local _ .vmem, ⟨47, _⟩ => ⟨S256x2048, .f32⟩
  | .local _ .vmem, ⟨48, _⟩ => ⟨S256x2048, .f32⟩
  | .local _ .vmem, ⟨49, _⟩ => ⟨S4x4x256x128, .f32⟩
  | .local _ .vmem, ⟨50, _⟩ => ⟨S4x4x256x128, .f32⟩
  | .local _ .vmem, ⟨51, _⟩ => ⟨S1x4x256x128, .f32⟩
  | .local _ .vmem, ⟨52, _⟩ => ⟨S1x4x256x128, .f32⟩
  | .local _ .vmem, ⟨53, _⟩ => ⟨S128x512, .bf16⟩
  | .local _ .vmem, ⟨54, _⟩ => ⟨S1x512, .f32⟩
  | .local _ .vmem, ⟨55, _⟩ => ⟨S8x1024, .f32⟩
  | .local _ .vmem, ⟨56, _⟩ => ⟨S1x1024, .f32⟩
  | .local _ .vmem, ⟨57, _⟩ => ⟨S1x256, .f32⟩
  | .local _ .vmem, ⟨58, _⟩ => ⟨S256x6144, .bf16⟩
  | .local _ .vmem, ⟨59, _⟩ => ⟨S256x6144, .bf16⟩
  | .local _ .vmem, ⟨60, _⟩ => ⟨S256x128, .bf16⟩
  | .local _ .vmem, ⟨61, _⟩ => ⟨S256x128, .bf16⟩
  | .local _ .vmem, ⟨62, _⟩ => ⟨S8x1024, .f32⟩
  | .local _ .vmem, ⟨63, _⟩ => ⟨S1x1024, .f32⟩
  | .local _ .vmem, ⟨64, _⟩ => ⟨S1x256, .f32⟩
  | .local _ .vmem, ⟨65, _⟩ => ⟨S1x512, .f32⟩
  | .local _ .vmem, ⟨66, _⟩ => ⟨S128x512, .f32⟩
  | .local _ .vmem, ⟨67, _⟩ => ⟨S8x1024, .f32⟩
  | .local _ .vmem, ⟨68, _⟩ => ⟨S4x256x128, .f32⟩
  | _, _ => ⟨S8192x6160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_call2_v0 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v8_4 : Ref sig .tc := ⟨.hbm, 26, rfl⟩
abbrev main_v8_5 : Ref sig .tc := ⟨.hbm, 27, rfl⟩
abbrev main_v8_6 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_scratch1 : Ref sig .tc := ⟨.vmem, 26, rfl⟩
abbrev cc1_stg0_0 : Ref sig .tc := ⟨.vmem, 27, rfl⟩
abbrev cc1_stg0_1 : Ref sig .tc := ⟨.vmem, 28, rfl⟩
abbrev cc1_stg1_0 : Ref sig .tc := ⟨.vmem, 29, rfl⟩
abbrev cc1_stg1_1 : Ref sig .tc := ⟨.vmem, 30, rfl⟩
abbrev cc1_stg2_0 : Ref sig .tc := ⟨.vmem, 31, rfl⟩
abbrev cc1_stg2_1 : Ref sig .tc := ⟨.vmem, 32, rfl⟩
abbrev cc1_stg3_0 : Ref sig .tc := ⟨.vmem, 33, rfl⟩
abbrev cc1_stg3_1 : Ref sig .tc := ⟨.vmem, 34, rfl⟩
abbrev cc1_stg4_0 : Ref sig .tc := ⟨.vmem, 35, rfl⟩
abbrev cc1_stg4_1 : Ref sig .tc := ⟨.vmem, 36, rfl⟩
abbrev cc1_stg5_0 : Ref sig .tc := ⟨.vmem, 37, rfl⟩
abbrev cc1_stg5_1 : Ref sig .tc := ⟨.vmem, 38, rfl⟩
abbrev cc1_stg6_0 : Ref sig .tc := ⟨.vmem, 39, rfl⟩
abbrev cc1_stg6_1 : Ref sig .tc := ⟨.vmem, 40, rfl⟩
abbrev cc1_stg7_0 : Ref sig .tc := ⟨.vmem, 41, rfl⟩
abbrev cc1_stg7_1 : Ref sig .tc := ⟨.vmem, 42, rfl⟩
abbrev cc1_stg8_0 : Ref sig .tc := ⟨.vmem, 43, rfl⟩
abbrev cc1_stg8_1 : Ref sig .tc := ⟨.vmem, 44, rfl⟩
abbrev cc1_stg9_0 : Ref sig .tc := ⟨.vmem, 45, rfl⟩
abbrev cc1_stg9_1 : Ref sig .tc := ⟨.vmem, 46, rfl⟩
abbrev cc1_stg10_0 : Ref sig .tc := ⟨.vmem, 47, rfl⟩
abbrev cc1_stg10_1 : Ref sig .tc := ⟨.vmem, 48, rfl⟩
abbrev cc1_stg11_0 : Ref sig .tc := ⟨.vmem, 49, rfl⟩
abbrev cc1_stg11_1 : Ref sig .tc := ⟨.vmem, 50, rfl⟩
abbrev cc1_stg12_0 : Ref sig .tc := ⟨.vmem, 51, rfl⟩
abbrev cc1_stg12_1 : Ref sig .tc := ⟨.vmem, 52, rfl⟩
abbrev cc1_stg13_0 : Ref sig .tc := ⟨.vmem, 53, rfl⟩
abbrev cc1_stg14_0 : Ref sig .tc := ⟨.vmem, 54, rfl⟩
abbrev cc1_stg15_0 : Ref sig .tc := ⟨.vmem, 55, rfl⟩
abbrev cc1_stg16_0 : Ref sig .tc := ⟨.vmem, 56, rfl⟩
abbrev cc1_stg17_0 : Ref sig .tc := ⟨.vmem, 57, rfl⟩
abbrev cc1_stg18_0 : Ref sig .tc := ⟨.vmem, 58, rfl⟩
abbrev cc1_stg18_1 : Ref sig .tc := ⟨.vmem, 59, rfl⟩
abbrev cc1_stg19_0 : Ref sig .tc := ⟨.vmem, 60, rfl⟩
abbrev cc1_stg19_1 : Ref sig .tc := ⟨.vmem, 61, rfl⟩
abbrev cc1_stg20_0 : Ref sig .tc := ⟨.vmem, 62, rfl⟩
abbrev cc1_stg21_0 : Ref sig .tc := ⟨.vmem, 63, rfl⟩
abbrev cc1_stg22_0 : Ref sig .tc := ⟨.vmem, 64, rfl⟩
abbrev cc1_stg23_0 : Ref sig .tc := ⟨.vmem, 65, rfl⟩
abbrev cc1_stg24_0 : Ref sig .tc := ⟨.vmem, 66, rfl⟩
abbrev cc1_scratch0 : Ref sig .tc := ⟨.vmem, 67, rfl⟩
abbrev cc1_scratch1 : Ref sig .tc := ⟨.vmem, 68, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc1_sem0_0 : DmaSem sig := 25
abbrev cc1_sem0_1 : DmaSem sig := 26
abbrev cc1_sem1_0 : DmaSem sig := 27
abbrev cc1_sem1_1 : DmaSem sig := 28
abbrev cc1_sem2_0 : DmaSem sig := 29
abbrev cc1_sem2_1 : DmaSem sig := 30
abbrev cc1_sem3_0 : DmaSem sig := 31
abbrev cc1_sem3_1 : DmaSem sig := 32
abbrev cc1_sem4_0 : DmaSem sig := 33
abbrev cc1_sem4_1 : DmaSem sig := 34
abbrev cc1_sem5_0 : DmaSem sig := 35
abbrev cc1_sem5_1 : DmaSem sig := 36
abbrev cc1_sem6_0 : DmaSem sig := 37
abbrev cc1_sem6_1 : DmaSem sig := 38
abbrev cc1_sem7_0 : DmaSem sig := 39
abbrev cc1_sem7_1 : DmaSem sig := 40
abbrev cc1_sem8_0 : DmaSem sig := 41
abbrev cc1_sem8_1 : DmaSem sig := 42
abbrev cc1_sem9_0 : DmaSem sig := 43
abbrev cc1_sem9_1 : DmaSem sig := 44
abbrev cc1_sem10_0 : DmaSem sig := 45
abbrev cc1_sem10_1 : DmaSem sig := 46
abbrev cc1_sem11_0 : DmaSem sig := 47
abbrev cc1_sem11_1 : DmaSem sig := 48
abbrev cc1_sem12_0 : DmaSem sig := 49
abbrev cc1_sem12_1 : DmaSem sig := 50
abbrev cc1_sem13_0 : DmaSem sig := 51
abbrev cc1_sem14_0 : DmaSem sig := 52
abbrev cc1_sem15_0 : DmaSem sig := 53
abbrev cc1_sem16_0 : DmaSem sig := 54
abbrev cc1_sem17_0 : DmaSem sig := 55
abbrev cc1_sem18_0 : DmaSem sig := 56
abbrev cc1_sem18_1 : DmaSem sig := 57
abbrev cc1_sem19_0 : DmaSem sig := 58
abbrev cc1_sem19_1 : DmaSem sig := 59
abbrev cc1_sem20_0 : DmaSem sig := 60
abbrev cc1_sem21_0 : DmaSem sig := 61
abbrev cc1_sem22_0 : DmaSem sig := 62
abbrev cc1_sem23_0 : DmaSem sig := 63
abbrev cc1_sem24_0 : DmaSem sig := 64

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x4x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc1_transform_2 (i : grid1.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc1_transform_3 (i : grid1.Coords) : Fin 2 → Nat :=
  let arg0 : BitVec 32 := BitVec.ofNat 32 (i 0).val
  let c31_i32 : BitVec 32 := 31#32
  let v0 : BitVec 32 := Scalar.subi c31_i32 arg0
  let c6_i32 : BitVec 32 := 6#32
  let c0_i32 : BitVec 32 := 0#32
  ![v0.toNat, c6_i32.toNat]

def cc1_transform_4 (i : grid1.Coords) : Fin 2 → Nat :=
  let arg0 : BitVec 32 := BitVec.ofNat 32 (i 0).val
  let c31_i32 : BitVec 32 := 31#32
  let v0 : BitVec 32 := Scalar.subi c31_i32 arg0
  let c7_i32 : BitVec 32 := 7#32
  let c0_i32 : BitVec 32 := 0#32
  ![v0.toNat, c7_i32.toNat]

def cc1_transform_5 (i : grid1.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc1_transform_6 (i : grid1.Coords) : Fin 2 → Nat :=
  let arg0 : BitVec 32 := BitVec.ofNat 32 (i 0).val
  let c31_i32 : BitVec 32 := 31#32
  let v0 : BitVec 32 := Scalar.subi c31_i32 arg0
  let c5_i32 : BitVec 32 := 5#32
  let c0_i32 : BitVec 32 := 0#32
  ![v0.toNat, c5_i32.toNat]

def cc1_transform_7 (i : grid1.Coords) : Fin 2 → Nat :=
  let arg0 : BitVec 32 := BitVec.ofNat 32 (i 0).val
  let c31_i32 : BitVec 32 := 31#32
  let v0 : BitVec 32 := Scalar.subi c31_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc1_transform_8 (i : grid1.Coords) : Fin 2 → Nat :=
  let arg0 : BitVec 32 := BitVec.ofNat 32 (i 0).val
  let c31_i32 : BitVec 32 := 31#32
  let v0 : BitVec 32 := Scalar.subi c31_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc1_transform_9 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_11 (i : grid1.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_12 (i : grid1.Coords) : Fin 4 → Nat :=
  let arg0 : BitVec 32 := BitVec.ofNat 32 (i 0).val
  let c31_i32 : BitVec 32 := 31#32
  let v0 : BitVec 32 := Scalar.subi c31_i32 arg0
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_19 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S4x4x256x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x4x256x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S128x512 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S8x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x256 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 2 → Memref sig .tc .vmem S256x6144 .bf16 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S256x128 .bf16 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 1 → Memref sig .tc .vmem S8x1024 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S1x1024 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S1x256 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S1x512 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 1 → Memref sig .tc .vmem S128x512 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]
-- ==== MixerRefIdeal.lean ====
abbrev S8192x6160 : Shape := ⟨2, ![8192, 6160]⟩
abbrev S16x512 : Shape := ⟨2, ![16, 512]⟩
abbrev S1x512 : Shape := ⟨2, ![1, 512]⟩
abbrev S1024x3 : Shape := ⟨2, ![1024, 3]⟩
abbrev S1x1024 : Shape := ⟨2, ![1, 1024]⟩
abbrev S1x256 : Shape := ⟨2, ![1, 256]⟩
abbrev S8192x2048 : Shape := ⟨2, ![8192, 2048]⟩
abbrev S8192x1024 : Shape := ⟨2, ![8192, 1024]⟩
abbrev S8192x512 : Shape := ⟨2, ![8192, 512]⟩
abbrev S8192x16 : Shape := ⟨2, ![8192, 16]⟩
abbrev S_ : Shape := ⟨0, ![]⟩
abbrev S2x1024 : Shape := ⟨2, ![2, 1024]⟩
abbrev S8194x1024 : Shape := ⟨2, ![8194, 1024]⟩
abbrev S1024x1 : Shape := ⟨2, ![1024, 1]⟩
abbrev S1024 : Shape := ⟨1, ![1024]⟩
abbrev S8192x8x128 : Shape := ⟨3, ![8192, 8, 128]⟩
abbrev S8192x8 : Shape := ⟨2, ![8192, 8]⟩
abbrev S8192x8x1 : Shape := ⟨3, ![8192, 8, 1]⟩
abbrev S512 : Shape := ⟨1, ![512]⟩
abbrev S128x64x4x128 : Shape := ⟨4, ![128, 64, 4, 128]⟩
abbrev S128x64x4x256 : Shape := ⟨4, ![128, 64, 4, 256]⟩
abbrev S128x1x4x128 : Shape := ⟨4, ![128, 1, 4, 128]⟩
abbrev S128x4x128x256 : Shape := ⟨4, ![128, 4, 128, 256]⟩
abbrev S128x4x128 : Shape := ⟨3, ![128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x128x1x1 : Shape := ⟨4, ![128, 128, 1, 1]⟩
abbrev S1x128x4x128 : Shape := ⟨4, ![1, 128, 4, 128]⟩
abbrev S128x128x4x128 : Shape := ⟨4, ![128, 128, 4, 128]⟩
abbrev S4x128x256x128 : Shape := ⟨4, ![4, 128, 256, 128]⟩
abbrev S128x4x256x64 : Shape := ⟨4, ![128, 4, 256, 64]⟩
abbrev S8192x4x256 : Shape := ⟨3, ![8192, 4, 256]⟩
abbrev S8192x4 : Shape := ⟨2, ![8192, 4]⟩
abbrev S8192x4x1 : Shape := ⟨3, ![8192, 4, 1]⟩
abbrev S256 : Shape := ⟨1, ![256]⟩
abbrev S1x1x256 : Shape := ⟨3, ![1, 1, 256]⟩
abbrev S128x4x64x128 : Shape := ⟨4, ![128, 4, 64, 128]⟩
abbrev S128x4x256x128 : Shape := ⟨4, ![128, 4, 256, 128]⟩
abbrev S4x128x128x128 : Shape := ⟨4, ![4, 128, 128, 128]⟩
abbrev S128x4x128x64 : Shape := ⟨4, ![128, 4, 128, 64]⟩
abbrev S512x16 : Shape := ⟨2, ![512, 16]⟩
abbrev S8192x6144 : Shape := ⟨2, ![8192, 6144]⟩
abbrev S8192x128 : Shape := ⟨2, ![8192, 128]⟩
abbrev S3x1024 : Shape := ⟨2, ![3, 1024]⟩
abbrev S8x1024 : Shape := ⟨2, ![8, 1024]⟩
abbrev S128x512 : Shape := ⟨2, ![128, 512]⟩

abbrev nBuf : Space → Nat
  | .hbm => 430
  | .vmem => 0
  | .smem => 0
  | _ => 0

abbrev hbmTy0_0 (i : Nat) : BufTy := match i % 128 with
  | 0 => ⟨S8192x6160, .f32⟩
  | 1 => ⟨S16x512, .f32⟩
  | 2 => ⟨S1x512, .f32⟩
  | 3 => ⟨S1024x3, .f32⟩
  | 4 => ⟨S1x1024, .f32⟩
  | 5 => ⟨S1x256, .f32⟩
  | 6 => ⟨S8192x2048, .f32⟩
  | 7 => ⟨S8192x1024, .f32⟩
  | 8 => ⟨S8192x1024, .f32⟩
  | 9 => ⟨S8192x1024, .f32⟩
  | 10 => ⟨S8192x512, .f32⟩
  | 11 => ⟨S8192x512, .f32⟩
  | 12 => ⟨S8192x1024, .f32⟩
  | 13 => ⟨S8192x1024, .f32⟩
  | 14 => ⟨S8192x16, .f32⟩
  | 15 => ⟨S8192x1024, .f32⟩
  | 16 => ⟨S_, .f32⟩
  | 17 => ⟨S2x1024, .f32⟩
  | 18 => ⟨S8194x1024, .f32⟩
  | 19 => ⟨S_, .f32⟩
  | 20 => ⟨S2x1024, .f32⟩
  | 21 => ⟨S8192x1024, .f32⟩
  | 22 => ⟨S1024x1, .f32⟩
  | 23 => ⟨S1024, .f32⟩
  | 24 => ⟨S1x1024, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S8192x1024, .f32⟩
  | 31 => ⟨S1024x1, .f32⟩
  | 32 => ⟨S1024, .f32⟩
  | 33 => ⟨S1x1024, .f32⟩
  | 34 => ⟨S8192x1024, .f32⟩
  | 35 => ⟨S8192x1024, .f32⟩
  | 36 => ⟨S8192x1024, .f32⟩
  | 37 => ⟨S8192x1024, .f32⟩
  | 38 => ⟨S1024x1, .f32⟩
  | 39 => ⟨S1024, .f32⟩
  | 40 => ⟨S1x1024, .f32⟩
  | 41 => ⟨S8192x1024, .f32⟩
  | 42 => ⟨S8192x1024, .f32⟩
  | 43 => ⟨S8192x1024, .f32⟩
  | 44 => ⟨S8192x1024, .f32⟩
  | 45 => ⟨S8192x8x128, .f32⟩
  | 46 => ⟨S8192x8x128, .f32⟩
  | 47 => ⟨S_, .f32⟩
  | 48 => ⟨S8192x8, .f32⟩
  | 49 => ⟨S8192x8x1, .f32⟩
  | 50 => ⟨S_, .f32⟩
  | 51 => ⟨S8192x8x1, .f32⟩
  | 52 => ⟨S8192x8x1, .f32⟩
  | 53 => ⟨S_, .f32⟩
  | 54 => ⟨S8192x8x1, .f32⟩
  | 55 => ⟨S8192x8x1, .f32⟩
  | 56 => ⟨S8192x8x1, .f32⟩
  | 57 => ⟨S8192x8x1, .f32⟩
  | 58 => ⟨S_, .f32⟩
  | 59 => ⟨S8192x8x1, .f32⟩
  | 60 => ⟨S8192x8x1, .f32⟩
  | 61 => ⟨S8192x8x128, .f32⟩
  | 62 => ⟨S8192x8x128, .f32⟩
  | 63 => ⟨S8192x1024, .f32⟩
  | 64 => ⟨S1024, .f32⟩
  | 65 => ⟨S1x1024, .f32⟩
  | 66 => ⟨S8192x1024, .f32⟩
  | 67 => ⟨S8192x1024, .f32⟩
  | 68 => ⟨S8192x512, .f32⟩
  | 69 => ⟨S512, .f32⟩
  | 70 => ⟨S1x512, .f32⟩
  | 71 => ⟨S8192x512, .f32⟩
  | 72 => ⟨S8192x512, .f32⟩
  | 73 => ⟨S8192x512, .f32⟩
  | 74 => ⟨S_, .f32⟩
  | 75 => ⟨S8192x512, .f32⟩
  | 76 => ⟨S8192x512, .f32⟩
  | 77 => ⟨S8192x512, .f32⟩
  | 78 => ⟨S8192x512, .f32⟩
  | 79 => ⟨S8192x512, .i1⟩
  | 80 => ⟨S8192x512, .f32⟩
  | 81 => ⟨S8192x512, .f32⟩
  | 82 => ⟨S8192x512, .f32⟩
  | 83 => ⟨S8192x512, .f32⟩
  | 84 => ⟨S8192x512, .f32⟩
  | 85 => ⟨S8192x512, .f32⟩
  | 86 => ⟨S8192x512, .f32⟩
  | 87 => ⟨S8192x512, .f32⟩
  | 88 => ⟨S_, .f32⟩
  | 89 => ⟨S8192x512, .f32⟩
  | 90 => ⟨S8192x512, .i1⟩
  | 91 => ⟨S_, .f32⟩
  | 92 => ⟨S8192x512, .f32⟩
  | 93 => ⟨S8192x512, .f32⟩
  | 94 => ⟨S_, .f32⟩
  | 95 => ⟨S8192x512, .f32⟩
  | 96 => ⟨S8192x512, .i1⟩
  | 97 => ⟨S_, .f32⟩
  | 98 => ⟨S8192x512, .f32⟩
  | 99 => ⟨S8192x512, .f32⟩
  | 100 => ⟨S8192x512, .f32⟩
  | 101 => ⟨S8192x512, .f32⟩
  | 102 => ⟨S_, .f32⟩
  | 103 => ⟨S_, .f32⟩
  | 104 => ⟨S_, .i1⟩
  | 105 => ⟨S_, .f32⟩
  | 106 => ⟨S_, .f32⟩
  | 107 => ⟨S_, .f32⟩
  | 108 => ⟨S_, .f32⟩
  | 109 => ⟨S8192x512, .f32⟩
  | 110 => ⟨S8192x512, .i1⟩
  | 111 => ⟨S_, .f32⟩
  | 112 => ⟨S8192x512, .f32⟩
  | 113 => ⟨S8192x512, .f32⟩
  | 114 => ⟨S8192x512, .f32⟩
  | 115 => ⟨S8192x512, .f32⟩
  | 116 => ⟨S8192x512, .f32⟩
  | 117 => ⟨S_, .f32⟩
  | 118 => ⟨S8192x512, .f32⟩
  | 119 => ⟨S8192x512, .f32⟩
  | 120 => ⟨S8192x512, .f32⟩
  | 121 => ⟨S_, .f32⟩
  | 122 => ⟨S8192x512, .f32⟩
  | 123 => ⟨S8192x512, .f32⟩
  | 124 => ⟨S128x64x4x128, .f32⟩
  | 125 => ⟨S_, .f32⟩
  | 126 => ⟨S128x64x4x128, .f32⟩
  | 127 => ⟨S128x64x4x128, .f32⟩
  | _ => ⟨S8192x6160, .f32⟩

abbrev hbmTy0_1 (i : Nat) : BufTy := match i % 128 with
  | 0 => ⟨S128x64x4x128, .f32⟩
  | 1 => ⟨S128x64x4x256, .f32⟩
  | 2 => ⟨S128x64x4x128, .f32⟩
  | 3 => ⟨S_, .f32⟩
  | 4 => ⟨S_, .f32⟩
  | 5 => ⟨S128x64x4x128, .f32⟩
  | 6 => ⟨S128x1x4x128, .f32⟩
  | 7 => ⟨S128x64x4x128, .f32⟩
  | 8 => ⟨S128x64x4x128, .f32⟩
  | 9 => ⟨S128x64x4x128, .f32⟩
  | 10 => ⟨S128x64x4x128, .f32⟩
  | 11 => ⟨S128x4x128x256, .f32⟩
  | 12 => ⟨S128x4x128, .f32⟩
  | 13 => ⟨S_, .f32⟩
  | 14 => ⟨S_, .f32⟩
  | 15 => ⟨S128x4x128, .f32⟩
  | 16 => ⟨S128, .i32⟩
  | 17 => ⟨S128x1, .i32⟩
  | 18 => ⟨S128, .i32⟩
  | 19 => ⟨S1x128, .i32⟩
  | 20 => ⟨S128x128, .i32⟩
  | 21 => ⟨S128x128, .i32⟩
  | 22 => ⟨S128x128, .i1⟩
  | 23 => ⟨S128x128x1x1, .i1⟩
  | 24 => ⟨S128x1x4x128, .f32⟩
  | 25 => ⟨S1x128x4x128, .f32⟩
  | 26 => ⟨S128x128x4x128, .f32⟩
  | 27 => ⟨S128x128x4x128, .f32⟩
  | 28 => ⟨S128x128x4x128, .f32⟩
  | 29 => ⟨S_, .f32⟩
  | 30 => ⟨S_, .f32⟩
  | 31 => ⟨S128x128x4x128, .i1⟩
  | 32 => ⟨S128x128x4x128, .f32⟩
  | 33 => ⟨S128x128x4x128, .f32⟩
  | 34 => ⟨S_, .f32⟩
  | 35 => ⟨S128x128x4x128, .f32⟩
  | 36 => ⟨S128x128x4x128, .f32⟩
  | 37 => ⟨S4x128x256x128, .f32⟩
  | 38 => ⟨S128x4x128x256, .f32⟩
  | 39 => ⟨S128x4x256x64, .f32⟩
  | 40 => ⟨S128x64x4x256, .f32⟩
  | 41 => ⟨S8192x4x256, .f32⟩
  | 42 => ⟨S8192x4x256, .f32⟩
  | 43 => ⟨S_, .f32⟩
  | 44 => ⟨S8192x4, .f32⟩
  | 45 => ⟨S8192x4x1, .f32⟩
  | 46 => ⟨S_, .f32⟩
  | 47 => ⟨S8192x4x1, .f32⟩
  | 48 => ⟨S8192x4x1, .f32⟩
  | 49 => ⟨S_, .f32⟩
  | 50 => ⟨S8192x4x1, .f32⟩
  | 51 => ⟨S8192x4x1, .f32⟩
  | 52 => ⟨S8192x4x1, .f32⟩
  | 53 => ⟨S8192x4x1, .f32⟩
  | 54 => ⟨S_, .f32⟩
  | 55 => ⟨S8192x4x1, .f32⟩
  | 56 => ⟨S8192x4x1, .f32⟩
  | 57 => ⟨S8192x4x256, .f32⟩
  | 58 => ⟨S8192x4x256, .f32⟩
  | 59 => ⟨S256, .f32⟩
  | 60 => ⟨S1x1x256, .f32⟩
  | 61 => ⟨S8192x4x256, .f32⟩
  | 62 => ⟨S8192x4x256, .f32⟩
  | 63 => ⟨S8192x4x256, .f32⟩
  | 64 => ⟨S8192x4x256, .f32⟩
  | 65 => ⟨S8192x4x256, .f32⟩
  | 66 => ⟨S_, .f32⟩
  | 67 => ⟨S8192x4x256, .f32⟩
  | 68 => ⟨S8192x4x256, .f32⟩
  | 69 => ⟨S_, .f32⟩
  | 70 => ⟨S8192x4x256, .f32⟩
  | 71 => ⟨S8192x4x256, .f32⟩
  | 72 => ⟨S_, .f32⟩
  | 73 => ⟨S8192x4x256, .f32⟩
  | 74 => ⟨S8192x4x256, .f32⟩
  | 75 => ⟨S8192x4x256, .f32⟩
  | 76 => ⟨S8192x4x256, .f32⟩
  | 77 => ⟨S8192x4x256, .f32⟩
  | 78 => ⟨S8192x1024, .f32⟩
  | 79 => ⟨S8192x2048, .f32⟩
  | 80 => ⟨S8192x1024, .f32⟩
  | 81 => ⟨S8192x1024, .f32⟩
  | 82 => ⟨S8192x4x256, .f32⟩
  | 83 => ⟨S8192x4x256, .f32⟩
  | 84 => ⟨S8192x4x256, .f32⟩
  | 85 => ⟨S8192x4x256, .f32⟩
  | 86 => ⟨S8192x4x256, .f32⟩
  | 87 => ⟨S8192x4x256, .f32⟩
  | 88 => ⟨S8192x4x256, .f32⟩
  | 89 => ⟨S8192x1024, .f32⟩
  | 90 => ⟨S8192x4x256, .f32⟩
  | 91 => ⟨S_, .f32⟩
  | 92 => ⟨S256, .f32⟩
  | 93 => ⟨S1x1x256, .f32⟩
  | 94 => ⟨S8192x4x256, .f32⟩
  | 95 => ⟨S8192x4x256, .f32⟩
  | 96 => ⟨S_, .f32⟩
  | 97 => ⟨S256, .f32⟩
  | 98 => ⟨S1x256, .f32⟩
  | 99 => ⟨S8192x4x256, .f32⟩
  | 100 => ⟨S_, .f32⟩
  | 101 => ⟨S8192x4, .f32⟩
  | 102 => ⟨S8192x4x1, .f32⟩
  | 103 => ⟨S8192x4x256, .f32⟩
  | 104 => ⟨S8192x4x256, .f32⟩
  | 105 => ⟨S8192x4x1, .f32⟩
  | 106 => ⟨S_, .f32⟩
  | 107 => ⟨S8192x4x1, .f32⟩
  | 108 => ⟨S8192x4x1, .f32⟩
  | 109 => ⟨S_, .f32⟩
  | 110 => ⟨S8192x4, .f32⟩
  | 111 => ⟨S8192x4x256, .f32⟩
  | 112 => ⟨S8192x4x256, .f32⟩
  | 113 => ⟨S8192x4x256, .f32⟩
  | 114 => ⟨S8192x4x256, .f32⟩
  | 115 => ⟨S8192x4x256, .f32⟩
  | 116 => ⟨S128x64x4x256, .f32⟩
  | 117 => ⟨S128x4x256x64, .f32⟩
  | 118 => ⟨S128x4x64x128, .f32⟩
  | 119 => ⟨S128x64x4x128, .f32⟩
  | 120 => ⟨S128x4x256x128, .f32⟩
  | 121 => ⟨S128x4x128x256, .f32⟩
  | 122 => ⟨S4x128x256x128, .f32⟩
  | 123 => ⟨S4x128x128x128, .f32⟩
  | 124 => ⟨S128x128x4x128, .f32⟩
  | 125 => ⟨S4x128x256x128, .f32⟩
  | 126 => ⟨S128x4x128x256, .f32⟩
  | 127 => ⟨S128x128x4x128, .f32⟩
  | _ => ⟨S8192x6160, .f32⟩

abbrev hbmTy0_2 (i : Nat) : BufTy := match i % 128 with
  | 0 => ⟨S_, .f32⟩
  | 1 => ⟨S128x128x4x128, .f32⟩
  | 2 => ⟨S128x128x4x128, .f32⟩
  | 3 => ⟨S_, .f32⟩
  | 4 => ⟨S128x4x128, .f32⟩
  | 5 => ⟨S128x1x4x128, .f32⟩
  | 6 => ⟨S128x128x4x128, .f32⟩
  | 7 => ⟨S_, .f32⟩
  | 8 => ⟨S128x4x128, .f32⟩
  | 9 => ⟨S1x128x4x128, .f32⟩
  | 10 => ⟨S_, .f32⟩
  | 11 => ⟨S128x4x128, .f32⟩
  | 12 => ⟨S_, .f32⟩
  | 13 => ⟨S128x4x128, .f32⟩
  | 14 => ⟨S128x4x128, .f32⟩
  | 15 => ⟨S_, .f32⟩
  | 16 => ⟨S_, .f32⟩
  | 17 => ⟨S128x4x128, .f32⟩
  | 18 => ⟨S128x1x4x128, .f32⟩
  | 19 => ⟨S128x4x256x64, .f32⟩
  | 20 => ⟨S128x64x4x256, .f32⟩
  | 21 => ⟨S128x4x128x64, .f32⟩
  | 22 => ⟨S128x64x4x128, .f32⟩
  | 23 => ⟨S128x64x4x128, .f32⟩
  | 24 => ⟨S128x64x4x128, .f32⟩
  | 25 => ⟨S128x64x4x128, .f32⟩
  | 26 => ⟨S_, .f32⟩
  | 27 => ⟨S128x4x128, .f32⟩
  | 28 => ⟨S128x1x4x128, .f32⟩
  | 29 => ⟨S128x64x4x128, .f32⟩
  | 30 => ⟨S128x1x4x128, .f32⟩
  | 31 => ⟨S_, .f32⟩
  | 32 => ⟨S128x64x4x128, .f32⟩
  | 33 => ⟨S128x64x4x128, .f32⟩
  | 34 => ⟨S_, .f32⟩
  | 35 => ⟨S_, .f32⟩
  | 36 => ⟨S128x64x4x128, .f32⟩
  | 37 => ⟨S8192x512, .f32⟩
  | 38 => ⟨S8192x1024, .f32⟩
  | 39 => ⟨S8192x512, .f32⟩
  | 40 => ⟨S_, .f32⟩
  | 41 => ⟨S128x64x4x128, .f32⟩
  | 42 => ⟨S128x64x4x128, .f32⟩
  | 43 => ⟨S8192x512, .f32⟩
  | 44 => ⟨S_, .f32⟩
  | 45 => ⟨S8192x512, .f32⟩
  | 46 => ⟨S8192x512, .f32⟩
  | 47 => ⟨S8192x512, .f32⟩
  | 48 => ⟨S8192x512, .f32⟩
  | 49 => ⟨S8192x512, .f32⟩
  | 50 => ⟨S_, .f32⟩
  | 51 => ⟨S512, .f32⟩
  | 52 => ⟨S1x512, .f32⟩
  | 53 => ⟨S_, .f32⟩
  | 54 => ⟨S512, .f32⟩
  | 55 => ⟨S1x512, .f32⟩
  | 56 => ⟨S512x16, .f32⟩
  | 57 => ⟨S16x512, .f32⟩
  | 58 => ⟨S8192x16, .f32⟩
  | 59 => ⟨S8192x1024, .f32⟩
  | 60 => ⟨S_, .f32⟩
  | 61 => ⟨S1024, .f32⟩
  | 62 => ⟨S1x1024, .f32⟩
  | 63 => ⟨S8192x1024, .f32⟩
  | 64 => ⟨S8192x1024, .f32⟩
  | 65 => ⟨S_, .f32⟩
  | 66 => ⟨S1024, .f32⟩
  | 67 => ⟨S1x1024, .f32⟩
  | 68 => ⟨S8192x8x128, .f32⟩
  | 69 => ⟨S8192x8x128, .f32⟩
  | 70 => ⟨S_, .f32⟩
  | 71 => ⟨S8192x8, .f32⟩
  | 72 => ⟨S8192x8x1, .f32⟩
  | 73 => ⟨S8192x8x128, .f32⟩
  | 74 => ⟨S8192x8x128, .f32⟩
  | 75 => ⟨S8192x8x1, .f32⟩
  | 76 => ⟨S_, .f32⟩
  | 77 => ⟨S8192x8x1, .f32⟩
  | 78 => ⟨S8192x8x1, .f32⟩
  | 79 => ⟨S_, .f32⟩
  | 80 => ⟨S8192x8, .f32⟩
  | 81 => ⟨S8192x8x128, .f32⟩
  | 82 => ⟨S8192x8x128, .f32⟩
  | 83 => ⟨S8192x8x128, .f32⟩
  | 84 => ⟨S8192x8x128, .f32⟩
  | 85 => ⟨S8192x8x128, .f32⟩
  | 86 => ⟨S8192x1024, .f32⟩
  | 87 => ⟨S8192x1024, .f32⟩
  | 88 => ⟨S8192x1024, .f32⟩
  | 89 => ⟨S8192x1024, .f32⟩
  | 90 => ⟨S_, .f32⟩
  | 91 => ⟨S1024, .f32⟩
  | 92 => ⟨S1x1024, .f32⟩
  | 93 => ⟨S8192x1024, .f32⟩
  | 94 => ⟨S8192x1024, .f32⟩
  | 95 => ⟨S_, .f32⟩
  | 96 => ⟨S1024, .f32⟩
  | 97 => ⟨S1024x1, .f32⟩
  | 98 => ⟨S_, .f32⟩
  | 99 => ⟨S1024x3, .f32⟩
  | 100 => ⟨S_, .f32⟩
  | 101 => ⟨S8194x1024, .f32⟩
  | 102 => ⟨S8192x1024, .f32⟩
  | 103 => ⟨S_, .f32⟩
  | 104 => ⟨S1024, .f32⟩
  | 105 => ⟨S1x1024, .f32⟩
  | 106 => ⟨S8192x1024, .f32⟩
  | 107 => ⟨S8192x1024, .f32⟩
  | 108 => ⟨S_, .f32⟩
  | 109 => ⟨S1024, .f32⟩
  | 110 => ⟨S1024x1, .f32⟩
  | 111 => ⟨S_, .f32⟩
  | 112 => ⟨S1024x3, .f32⟩
  | 113 => ⟨S1024x3, .f32⟩
  | 114 => ⟨S_, .f32⟩
  | 115 => ⟨S8194x1024, .f32⟩
  | 116 => ⟨S8194x1024, .f32⟩
  | 117 => ⟨S8192x1024, .f32⟩
  | 118 => ⟨S_, .f32⟩
  | 119 => ⟨S1024, .f32⟩
  | 120 => ⟨S1x1024, .f32⟩
  | 121 => ⟨S8192x1024, .f32⟩
  | 122 => ⟨S8192x1024, .f32⟩
  | 123 => ⟨S_, .f32⟩
  | 124 => ⟨S1024, .f32⟩
  | 125 => ⟨S1024x1, .f32⟩
  | 126 => ⟨S_, .f32⟩
  | 127 => ⟨S1024x3, .f32⟩
  | _ => ⟨S8192x6160, .f32⟩

abbrev hbmTy0_3 (i : Nat) : BufTy := match i % 128 with
  | 0 => ⟨S1024x3, .f32⟩
  | 1 => ⟨S_, .f32⟩
  | 2 => ⟨S8194x1024, .f32⟩
  | 3 => ⟨S8194x1024, .f32⟩
  | 4 => ⟨S2x1024, .f32⟩
  | 5 => ⟨S8192x1024, .f32⟩
  | 6 => ⟨S8192x1024, .f32⟩
  | 7 => ⟨S8192x1024, .f32⟩
  | 8 => ⟨S_, .f32⟩
  | 9 => ⟨S8192x6160, .f32⟩
  | 10 => ⟨S_, .f32⟩
  | 11 => ⟨S8192x6160, .f32⟩
  | 12 => ⟨S8192x6160, .f32⟩
  | 13 => ⟨S_, .f32⟩
  | 14 => ⟨S8192x6160, .f32⟩
  | 15 => ⟨S8192x6160, .f32⟩
  | 16 => ⟨S_, .f32⟩
  | 17 => ⟨S8192x6160, .f32⟩
  | 18 => ⟨S8192x6160, .f32⟩
  | 19 => ⟨S_, .f32⟩
  | 20 => ⟨S8192x6160, .f32⟩
  | 21 => ⟨S8192x6160, .f32⟩
  | 22 => ⟨S_, .f32⟩
  | 23 => ⟨S8192x6160, .f32⟩
  | 24 => ⟨S8192x6160, .f32⟩
  | 25 => ⟨S_, .f32⟩
  | 26 => ⟨S8192x6160, .f32⟩
  | 27 => ⟨S8192x6160, .f32⟩
  | 28 => ⟨S_, .f32⟩
  | 29 => ⟨S8192x6160, .f32⟩
  | 30 => ⟨S8192x6160, .f32⟩
  | 31 => ⟨S8192x2048, .bf16⟩
  | 32 => ⟨S8192x6144, .f32⟩
  | 33 => ⟨S8192x6144, .bf16⟩
  | 34 => ⟨S8192x16, .f32⟩
  | 35 => ⟨S8192x16, .bf16⟩
  | 36 => ⟨S_, .i32⟩
  | 37 => ⟨S_, .bf16⟩
  | 38 => ⟨S8192x128, .bf16⟩
  | 39 => ⟨S3x1024, .f32⟩
  | 40 => ⟨S_, .i32⟩
  | 41 => ⟨S_, .f32⟩
  | 42 => ⟨S8x1024, .f32⟩
  | 43 => ⟨S_, .i32⟩
  | 44 => ⟨S_, .f32⟩
  | 45 => ⟨S128x512, .f32⟩
  | _ => ⟨S8192x6160, .f32⟩

abbrev hbmTy (i : Nat) : BufTy := match i / 128 with
  | 0 => hbmTy0_0 i
  | 1 => hbmTy0_1 i
  | 2 => hbmTy0_2 i
  | 3 => hbmTy0_3 i
  | _ => ⟨S8192x6160, .f32⟩

abbrev bufTy : (tb : Table) → Fin (tcTables nBuf tb) → BufTy
  | .hbm, ⟨i, _⟩ => hbmTy i
  | _, _ => ⟨S8192x6160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_call0_v0 : Ref sig .tc := ⟨.hbm, 73, rfl⟩
abbrev main_call0_call0_cst : Ref sig .tc := ⟨.hbm, 74, rfl⟩
abbrev main_call0_call0_v0 : Ref sig .tc := ⟨.hbm, 75, rfl⟩
abbrev main_call0_call0_v1 : Ref sig .tc := ⟨.hbm, 76, rfl⟩
abbrev main_call0_call0_v2 : Ref sig .tc := ⟨.hbm, 77, rfl⟩
abbrev main_call0_call0_v3 : Ref sig .tc := ⟨.hbm, 78, rfl⟩
abbrev main_call0_call0_v4 : Ref sig .tc := ⟨.hbm, 79, rfl⟩
abbrev main_call0_call0_v5 : Ref sig .tc := ⟨.hbm, 80, rfl⟩
abbrev main_call0_call0_v6 : Ref sig .tc := ⟨.hbm, 81, rfl⟩
abbrev main_call0_call0_v7 : Ref sig .tc := ⟨.hbm, 82, rfl⟩
abbrev main_call0_call0_v8 : Ref sig .tc := ⟨.hbm, 83, rfl⟩
abbrev main_call0_call0_v9 : Ref sig .tc := ⟨.hbm, 84, rfl⟩
abbrev main_call0_call0_v10 : Ref sig .tc := ⟨.hbm, 85, rfl⟩
abbrev main_call0_call0_v11 : Ref sig .tc := ⟨.hbm, 86, rfl⟩
abbrev main_call0_v1_0 : Ref sig .tc := ⟨.hbm, 87, rfl⟩
abbrev main_call0_call0_cst_0 : Ref sig .tc := ⟨.hbm, 88, rfl⟩
abbrev main_call0_call0_v13 : Ref sig .tc := ⟨.hbm, 89, rfl⟩
abbrev main_call0_call0_v14 : Ref sig .tc := ⟨.hbm, 90, rfl⟩
abbrev main_call0_call0_cst_1 : Ref sig .tc := ⟨.hbm, 91, rfl⟩
abbrev main_call0_call0_v15 : Ref sig .tc := ⟨.hbm, 92, rfl⟩
abbrev main_call0_call0_v16 : Ref sig .tc := ⟨.hbm, 93, rfl⟩
abbrev main_call0_call0_cst_2 : Ref sig .tc := ⟨.hbm, 94, rfl⟩
abbrev main_call0_call0_v17 : Ref sig .tc := ⟨.hbm, 95, rfl⟩
abbrev main_call0_call0_v18 : Ref sig .tc := ⟨.hbm, 96, rfl⟩
abbrev main_call0_call0_cst_3 : Ref sig .tc := ⟨.hbm, 97, rfl⟩
abbrev main_call0_call0_v19 : Ref sig .tc := ⟨.hbm, 98, rfl⟩
abbrev main_call0_call0_v20 : Ref sig .tc := ⟨.hbm, 99, rfl⟩
abbrev main_call0_call0_v21 : Ref sig .tc := ⟨.hbm, 100, rfl⟩
abbrev main_v59_1 : Ref sig .tc := ⟨.hbm, 101, rfl⟩
abbrev main_call0_call0_cst_4 : Ref sig .tc := ⟨.hbm, 102, rfl⟩
abbrev main_call0_call0_cst_5 : Ref sig .tc := ⟨.hbm, 103, rfl⟩
abbrev main_call0_call0_v23 : Ref sig .tc := ⟨.hbm, 104, rfl⟩
abbrev main_call0_call0_cst_6 : Ref sig .tc := ⟨.hbm, 105, rfl⟩
abbrev main_call0_call0_cst_7 : Ref sig .tc := ⟨.hbm, 106, rfl⟩
abbrev main_call0_call0_v24 : Ref sig .tc := ⟨.hbm, 107, rfl⟩
abbrev main_call0_call0_cst_8 : Ref sig .tc := ⟨.hbm, 108, rfl⟩
abbrev main_call0_call0_v25 : Ref sig .tc := ⟨.hbm, 109, rfl⟩
abbrev main_call0_call0_v26 : Ref sig .tc := ⟨.hbm, 110, rfl⟩
abbrev main_call0_call0_cst_9 : Ref sig .tc := ⟨.hbm, 111, rfl⟩
abbrev main_call0_call0_v27 : Ref sig .tc := ⟨.hbm, 112, rfl⟩
abbrev main_call0_call0_v28 : Ref sig .tc := ⟨.hbm, 113, rfl⟩
abbrev main_call0_call0_v29 : Ref sig .tc := ⟨.hbm, 114, rfl⟩
abbrev main_call0_call0_v30 : Ref sig .tc := ⟨.hbm, 115, rfl⟩
abbrev main_call0_call0_v31 : Ref sig .tc := ⟨.hbm, 116, rfl⟩
abbrev main_call0_call0_cst_10 : Ref sig .tc := ⟨.hbm, 117, rfl⟩
abbrev main_call0_call0_v32 : Ref sig .tc := ⟨.hbm, 118, rfl⟩
abbrev main_v59_2 : Ref sig .tc := ⟨.hbm, 119, rfl⟩
abbrev main_v59_0 : Ref sig .tc := ⟨.hbm, 120, rfl⟩
abbrev main_cst_6 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_cst_7 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_call1_call0_cst : Ref sig .tc := ⟨.hbm, 131, rfl⟩
abbrev main_call1_call0_v0 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_call2_call0_cst : Ref sig .tc := ⟨.hbm, 141, rfl⟩
abbrev main_call2_call0_v0 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_cst_8 : Ref sig .tc := ⟨.hbm, 157, rfl⟩
abbrev main_call3_v0 : Ref sig .tc := ⟨.hbm, 158, rfl⟩
abbrev main_v90_1 : Ref sig .tc := ⟨.hbm, 159, rfl⟩
abbrev main_call3_v2 : Ref sig .tc := ⟨.hbm, 160, rfl⟩
abbrev main_v90_0 : Ref sig .tc := ⟨.hbm, 161, rfl⟩
abbrev main_call3_cst : Ref sig .tc := ⟨.hbm, 162, rfl⟩
abbrev main_v90_2 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_cst_9 : Ref sig .tc := ⟨.hbm, 171, rfl⟩
abbrev main_v98 : Ref sig .tc := ⟨.hbm, 172, rfl⟩
abbrev main_v99 : Ref sig .tc := ⟨.hbm, 173, rfl⟩
abbrev main_cst_10 : Ref sig .tc := ⟨.hbm, 174, rfl⟩
abbrev main_v100 : Ref sig .tc := ⟨.hbm, 175, rfl⟩
abbrev main_v101 : Ref sig .tc := ⟨.hbm, 176, rfl⟩
abbrev main_cst_11 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_cst_12 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_call4_v0 : Ref sig .tc := ⟨.hbm, 192, rfl⟩
abbrev main_call4_v1 : Ref sig .tc := ⟨.hbm, 193, rfl⟩
abbrev main_call4_cst : Ref sig .tc := ⟨.hbm, 194, rfl⟩
abbrev main_call4_v2 : Ref sig .tc := ⟨.hbm, 195, rfl⟩
abbrev main_call4_v3 : Ref sig .tc := ⟨.hbm, 196, rfl⟩
abbrev main_call4_cst_0 : Ref sig .tc := ⟨.hbm, 197, rfl⟩
abbrev main_call4_v4 : Ref sig .tc := ⟨.hbm, 198, rfl⟩
abbrev main_v115_2 : Ref sig .tc := ⟨.hbm, 199, rfl⟩
abbrev main_call4_cst_1 : Ref sig .tc := ⟨.hbm, 200, rfl⟩
abbrev main_call4_v6 : Ref sig .tc := ⟨.hbm, 201, rfl⟩
abbrev main_call4_v7 : Ref sig .tc := ⟨.hbm, 202, rfl⟩
abbrev main_v115_1 : Ref sig .tc := ⟨.hbm, 203, rfl⟩
abbrev main_v115_0 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_call5_v0 : Ref sig .tc := ⟨.hbm, 213, rfl⟩
abbrev main_call5_v1 : Ref sig .tc := ⟨.hbm, 214, rfl⟩
abbrev main_call5_v2 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_cst_13 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_14 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_cst_15 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_cst_16 : Ref sig .tc := ⟨.hbm, 234, rfl⟩
abbrev main_v139 : Ref sig .tc := ⟨.hbm, 235, rfl⟩
abbrev main_v140 : Ref sig .tc := ⟨.hbm, 236, rfl⟩
abbrev main_cst_17 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_call6_cst : Ref sig .tc := ⟨.hbm, 256, rfl⟩
abbrev main_call6_v0 : Ref sig .tc := ⟨.hbm, 257, rfl⟩
abbrev main_v159 : Ref sig .tc := ⟨.hbm, 258, rfl⟩
abbrev main_cst_18 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_cst_19 : Ref sig .tc := ⟨.hbm, 263, rfl⟩
abbrev main_v163 : Ref sig .tc := ⟨.hbm, 264, rfl⟩
abbrev main_v164 : Ref sig .tc := ⟨.hbm, 265, rfl⟩
abbrev main_cst_20 : Ref sig .tc := ⟨.hbm, 266, rfl⟩
abbrev main_v165 : Ref sig .tc := ⟨.hbm, 267, rfl⟩
abbrev main_cst_21 : Ref sig .tc := ⟨.hbm, 268, rfl⟩
abbrev main_v166 : Ref sig .tc := ⟨.hbm, 269, rfl⟩
abbrev main_v167 : Ref sig .tc := ⟨.hbm, 270, rfl⟩
abbrev main_call7_call0_cst : Ref sig .tc := ⟨.hbm, 271, rfl⟩
abbrev main_call7_call0_v0 : Ref sig .tc := ⟨.hbm, 272, rfl⟩
abbrev main_v168 : Ref sig .tc := ⟨.hbm, 273, rfl⟩
abbrev main_v169 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_v173 : Ref sig .tc := ⟨.hbm, 278, rfl⟩
abbrev main_v174 : Ref sig .tc := ⟨.hbm, 279, rfl⟩
abbrev main_v175 : Ref sig .tc := ⟨.hbm, 280, rfl⟩
abbrev main_v176 : Ref sig .tc := ⟨.hbm, 281, rfl⟩
abbrev main_cst_22 : Ref sig .tc := ⟨.hbm, 282, rfl⟩
abbrev main_v177 : Ref sig .tc := ⟨.hbm, 283, rfl⟩
abbrev main_v178 : Ref sig .tc := ⟨.hbm, 284, rfl⟩
abbrev main_v179 : Ref sig .tc := ⟨.hbm, 285, rfl⟩
abbrev main_v180 : Ref sig .tc := ⟨.hbm, 286, rfl⟩
abbrev main_cst_23 : Ref sig .tc := ⟨.hbm, 287, rfl⟩
abbrev main_v181 : Ref sig .tc := ⟨.hbm, 288, rfl⟩
abbrev main_v182 : Ref sig .tc := ⟨.hbm, 289, rfl⟩
abbrev main_call8_call0_cst : Ref sig .tc := ⟨.hbm, 290, rfl⟩
abbrev main_call8_call0_v0 : Ref sig .tc := ⟨.hbm, 291, rfl⟩
abbrev main_v183 : Ref sig .tc := ⟨.hbm, 292, rfl⟩
abbrev main_v184 : Ref sig .tc := ⟨.hbm, 293, rfl⟩
abbrev main_v185 : Ref sig .tc := ⟨.hbm, 294, rfl⟩
abbrev main_v186 : Ref sig .tc := ⟨.hbm, 295, rfl⟩
abbrev main_cst_24 : Ref sig .tc := ⟨.hbm, 296, rfl⟩
abbrev main_v187 : Ref sig .tc := ⟨.hbm, 297, rfl⟩
abbrev main_v188 : Ref sig .tc := ⟨.hbm, 298, rfl⟩
abbrev main_v189 : Ref sig .tc := ⟨.hbm, 299, rfl⟩
abbrev main_cst_25 : Ref sig .tc := ⟨.hbm, 300, rfl⟩
abbrev main_v190 : Ref sig .tc := ⟨.hbm, 301, rfl⟩
abbrev main_v191 : Ref sig .tc := ⟨.hbm, 302, rfl⟩
abbrev main_call9_v0 : Ref sig .tc := ⟨.hbm, 303, rfl⟩
abbrev main_call9_v1 : Ref sig .tc := ⟨.hbm, 304, rfl⟩
abbrev main_v192 : Ref sig .tc := ⟨.hbm, 305, rfl⟩
abbrev main_cst_26 : Ref sig .tc := ⟨.hbm, 306, rfl⟩
abbrev main_v193 : Ref sig .tc := ⟨.hbm, 307, rfl⟩
abbrev main_v194 : Ref sig .tc := ⟨.hbm, 308, rfl⟩
abbrev main_cst_27 : Ref sig .tc := ⟨.hbm, 309, rfl⟩
abbrev main_v195 : Ref sig .tc := ⟨.hbm, 310, rfl⟩
abbrev main_v196 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_v200 : Ref sig .tc := ⟨.hbm, 315, rfl⟩
abbrev main_cst_28 : Ref sig .tc := ⟨.hbm, 316, rfl⟩
abbrev main_v201 : Ref sig .tc := ⟨.hbm, 317, rfl⟩
abbrev main_v202 : Ref sig .tc := ⟨.hbm, 318, rfl⟩
abbrev main_v203 : Ref sig .tc := ⟨.hbm, 319, rfl⟩
abbrev main_v204 : Ref sig .tc := ⟨.hbm, 320, rfl⟩
abbrev main_cst_29 : Ref sig .tc := ⟨.hbm, 321, rfl⟩
abbrev main_v205 : Ref sig .tc := ⟨.hbm, 322, rfl⟩
abbrev main_v206 : Ref sig .tc := ⟨.hbm, 323, rfl⟩
abbrev main_v207 : Ref sig .tc := ⟨.hbm, 324, rfl⟩
abbrev main_v208 : Ref sig .tc := ⟨.hbm, 325, rfl⟩
abbrev main_cst_30 : Ref sig .tc := ⟨.hbm, 326, rfl⟩
abbrev main_v209 : Ref sig .tc := ⟨.hbm, 327, rfl⟩
abbrev main_v210 : Ref sig .tc := ⟨.hbm, 328, rfl⟩
abbrev main_v211 : Ref sig .tc := ⟨.hbm, 329, rfl⟩
abbrev main_v212 : Ref sig .tc := ⟨.hbm, 330, rfl⟩
abbrev main_v213 : Ref sig .tc := ⟨.hbm, 331, rfl⟩
abbrev main_cst_31 : Ref sig .tc := ⟨.hbm, 332, rfl⟩
abbrev main_v214 : Ref sig .tc := ⟨.hbm, 333, rfl⟩
abbrev main_v215 : Ref sig .tc := ⟨.hbm, 334, rfl⟩
abbrev main_cst_32 : Ref sig .tc := ⟨.hbm, 335, rfl⟩
abbrev main_v216 : Ref sig .tc := ⟨.hbm, 336, rfl⟩
abbrev main_v217 : Ref sig .tc := ⟨.hbm, 337, rfl⟩
abbrev main_v218 : Ref sig .tc := ⟨.hbm, 338, rfl⟩
abbrev main_v219 : Ref sig .tc := ⟨.hbm, 339, rfl⟩
abbrev main_v220 : Ref sig .tc := ⟨.hbm, 340, rfl⟩
abbrev main_v221 : Ref sig .tc := ⟨.hbm, 341, rfl⟩
abbrev main_v222 : Ref sig .tc := ⟨.hbm, 342, rfl⟩
abbrev main_v223 : Ref sig .tc := ⟨.hbm, 343, rfl⟩
abbrev main_v224 : Ref sig .tc := ⟨.hbm, 344, rfl⟩
abbrev main_v225 : Ref sig .tc := ⟨.hbm, 345, rfl⟩
abbrev main_cst_33 : Ref sig .tc := ⟨.hbm, 346, rfl⟩
abbrev main_v226 : Ref sig .tc := ⟨.hbm, 347, rfl⟩
abbrev main_v227 : Ref sig .tc := ⟨.hbm, 348, rfl⟩
abbrev main_v228 : Ref sig .tc := ⟨.hbm, 349, rfl⟩
abbrev main_v229 : Ref sig .tc := ⟨.hbm, 350, rfl⟩
abbrev main_cst_34 : Ref sig .tc := ⟨.hbm, 351, rfl⟩
abbrev main_v230 : Ref sig .tc := ⟨.hbm, 352, rfl⟩
abbrev main_v231 : Ref sig .tc := ⟨.hbm, 353, rfl⟩
abbrev main_cst_35 : Ref sig .tc := ⟨.hbm, 354, rfl⟩
abbrev main_v232 : Ref sig .tc := ⟨.hbm, 355, rfl⟩
abbrev main_cst_36 : Ref sig .tc := ⟨.hbm, 356, rfl⟩
abbrev main_v233 : Ref sig .tc := ⟨.hbm, 357, rfl⟩
abbrev main_v234 : Ref sig .tc := ⟨.hbm, 358, rfl⟩
abbrev main_cst_37 : Ref sig .tc := ⟨.hbm, 359, rfl⟩
abbrev main_v235 : Ref sig .tc := ⟨.hbm, 360, rfl⟩
abbrev main_v236 : Ref sig .tc := ⟨.hbm, 361, rfl⟩
abbrev main_v237 : Ref sig .tc := ⟨.hbm, 362, rfl⟩
abbrev main_v238 : Ref sig .tc := ⟨.hbm, 363, rfl⟩
abbrev main_cst_38 : Ref sig .tc := ⟨.hbm, 364, rfl⟩
abbrev main_v239 : Ref sig .tc := ⟨.hbm, 365, rfl⟩
abbrev main_v240 : Ref sig .tc := ⟨.hbm, 366, rfl⟩
abbrev main_cst_39 : Ref sig .tc := ⟨.hbm, 367, rfl⟩
abbrev main_v241 : Ref sig .tc := ⟨.hbm, 368, rfl⟩
abbrev main_v242 : Ref sig .tc := ⟨.hbm, 369, rfl⟩
abbrev main_cst_40 : Ref sig .tc := ⟨.hbm, 370, rfl⟩
abbrev main_v243 : Ref sig .tc := ⟨.hbm, 371, rfl⟩
abbrev main_v244 : Ref sig .tc := ⟨.hbm, 372, rfl⟩
abbrev main_v245 : Ref sig .tc := ⟨.hbm, 373, rfl⟩
abbrev main_cst_41 : Ref sig .tc := ⟨.hbm, 374, rfl⟩
abbrev main_v246 : Ref sig .tc := ⟨.hbm, 375, rfl⟩
abbrev main_v247 : Ref sig .tc := ⟨.hbm, 376, rfl⟩
abbrev main_v248 : Ref sig .tc := ⟨.hbm, 377, rfl⟩
abbrev main_v249 : Ref sig .tc := ⟨.hbm, 378, rfl⟩
abbrev main_cst_42 : Ref sig .tc := ⟨.hbm, 379, rfl⟩
abbrev main_v250 : Ref sig .tc := ⟨.hbm, 380, rfl⟩
abbrev main_v251 : Ref sig .tc := ⟨.hbm, 381, rfl⟩
abbrev main_cst_43 : Ref sig .tc := ⟨.hbm, 382, rfl⟩
abbrev main_v252 : Ref sig .tc := ⟨.hbm, 383, rfl⟩
abbrev main_v253 : Ref sig .tc := ⟨.hbm, 384, rfl⟩
abbrev main_cst_44 : Ref sig .tc := ⟨.hbm, 385, rfl⟩
abbrev main_v254 : Ref sig .tc := ⟨.hbm, 386, rfl⟩
abbrev main_v255 : Ref sig .tc := ⟨.hbm, 387, rfl⟩
abbrev main_v256 : Ref sig .tc := ⟨.hbm, 388, rfl⟩
abbrev main_v257 : Ref sig .tc := ⟨.hbm, 389, rfl⟩
abbrev main_v258 : Ref sig .tc := ⟨.hbm, 390, rfl⟩
abbrev main_v259 : Ref sig .tc := ⟨.hbm, 391, rfl⟩
abbrev main_cst_45 : Ref sig .tc := ⟨.hbm, 392, rfl⟩
abbrev main_v260 : Ref sig .tc := ⟨.hbm, 393, rfl⟩
abbrev main_cst_46 : Ref sig .tc := ⟨.hbm, 394, rfl⟩
abbrev main_v261 : Ref sig .tc := ⟨.hbm, 395, rfl⟩
abbrev main_v262 : Ref sig .tc := ⟨.hbm, 396, rfl⟩
abbrev main_cst_47 : Ref sig .tc := ⟨.hbm, 397, rfl⟩
abbrev main_v263 : Ref sig .tc := ⟨.hbm, 398, rfl⟩
abbrev main_v264 : Ref sig .tc := ⟨.hbm, 399, rfl⟩
abbrev main_cst_48 : Ref sig .tc := ⟨.hbm, 400, rfl⟩
abbrev main_v265 : Ref sig .tc := ⟨.hbm, 401, rfl⟩
abbrev main_v266 : Ref sig .tc := ⟨.hbm, 402, rfl⟩
abbrev main_cst_49 : Ref sig .tc := ⟨.hbm, 403, rfl⟩
abbrev main_v267 : Ref sig .tc := ⟨.hbm, 404, rfl⟩
abbrev main_v268 : Ref sig .tc := ⟨.hbm, 405, rfl⟩
abbrev main_cst_50 : Ref sig .tc := ⟨.hbm, 406, rfl⟩
abbrev main_v269 : Ref sig .tc := ⟨.hbm, 407, rfl⟩
abbrev main_v270 : Ref sig .tc := ⟨.hbm, 408, rfl⟩
abbrev main_cst_51 : Ref sig .tc := ⟨.hbm, 409, rfl⟩
abbrev main_v271 : Ref sig .tc := ⟨.hbm, 410, rfl⟩
abbrev main_v272 : Ref sig .tc := ⟨.hbm, 411, rfl⟩
abbrev main_cst_52 : Ref sig .tc := ⟨.hbm, 412, rfl⟩
abbrev main_v273 : Ref sig .tc := ⟨.hbm, 413, rfl⟩
abbrev main_v274 : Ref sig .tc := ⟨.hbm, 414, rfl⟩
abbrev main_v275 : Ref sig .tc := ⟨.hbm, 415, rfl⟩
abbrev main_v276 : Ref sig .tc := ⟨.hbm, 416, rfl⟩
abbrev main_v277 : Ref sig .tc := ⟨.hbm, 417, rfl⟩
abbrev main_v278 : Ref sig .tc := ⟨.hbm, 418, rfl⟩
abbrev main_v279 : Ref sig .tc := ⟨.hbm, 419, rfl⟩
abbrev main_c : Ref sig .tc := ⟨.hbm, 420, rfl⟩
abbrev main_call10_v0 : Ref sig .tc := ⟨.hbm, 421, rfl⟩
abbrev main_v280 : Ref sig .tc := ⟨.hbm, 422, rfl⟩
abbrev main_v281 : Ref sig .tc := ⟨.hbm, 423, rfl⟩
abbrev main_c_53 : Ref sig .tc := ⟨.hbm, 424, rfl⟩
abbrev main_call11_v0 : Ref sig .tc := ⟨.hbm, 425, rfl⟩
abbrev main_v282 : Ref sig .tc := ⟨.hbm, 426, rfl⟩
abbrev main_c_54 : Ref sig .tc := ⟨.hbm, 427, rfl⟩
abbrev main_call12_v0 : Ref sig .tc := ⟨.hbm, 428, rfl⟩
abbrev main_v283 : Ref sig .tc := ⟨.hbm, 429, rfl⟩

abbrev nD : Nat := 1
abbrev τ : Topo := Topo.v7x

variable {F : FTy → Type} [FloatOps F]
-- ==== Rms.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S8192x2048, .bf16⟩
  | .hbm, ⟨5, _⟩ => ⟨S2048x2048, .bf16⟩
  | .hbm, ⟨6, _⟩ => ⟨S8192x2048, .f32⟩
  | .hbm, ⟨7, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Ff2.lean ====
abbrev S8192x8192 : Shape := ⟨2, ![8192, 8192]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S8192x8192, .bf16⟩
  | .hbm, ⟨4, _⟩ => ⟨S8192x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2RefIdeal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Ff1.lean ====
abbrev S8192x2048 : Shape := ⟨2, ![8192, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .bf16⟩
  | .hbm, ⟨3, _⟩ => ⟨S2048x8192, .bf16⟩
  | .hbm, ⟨4, _⟩ => ⟨S2048x8x1024, .bf16⟩
  | .hbm, ⟨5, _⟩ => ⟨S8x2048x1024, .bf16⟩
  | .hbm, ⟨6, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Ff1RefIdeal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Dh.lean ====
abbrev S8192x8192 : Shape := ⟨2, ![8192, 8192]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S8192x2048 : Shape := ⟨2, ![8192, 2048]⟩
abbrev S1024x4096 : Shape := ⟨2, ![1024, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S2048x8192, .f32⟩
  | .hbm, ⟨2, _⟩ => ⟨S8192x8192, .bf16⟩
  | .hbm, ⟨3, _⟩ => ⟨S2048x8192, .bf16⟩
  | .hbm, ⟨4, _⟩ => ⟨S2048x8x1024, .bf16⟩
  | .hbm, ⟨5, _⟩ => ⟨S8x2048x1024, .bf16⟩
  | .hbm, ⟨6, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4x1024x1024, .bf16⟩
  | .local _ .vmem, ⟨3, _⟩ => ⟨S4x1024x1024, .bf16⟩
  | .local _ .vmem, ⟨4, _⟩ => ⟨S1024x1024, .f32⟩
  | .local _ .vmem, ⟨5, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond1 (i : grid0.Coords) : BitVec 1 :=
  let arg2 : BitVec 32 := BitVec.ofNat 32 (i 2).val
  let c0_i32 : BitVec 32 := 0#32
  let v23 : BitVec 1 := Scalar.cmpi .eq arg2 c0_i32
  let v24 : BitVec 32 := Scalar.extui v23
  let c0_i32_16 : BitVec 32 := 0#32
  let v25 : BitVec 1 := Scalar.cmpi .ne v24 c0_i32_16
  v25

def k0_cond2 (i : grid0.Coords) : BitVec 1 :=
  let arg2 : BitVec 32 := BitVec.ofNat 32 (i 2).val
  let c0_i32_17 : BitVec 32 := 0#32
  let v26 : BitVec 1 := Scalar.cmpi .sgt arg2 c0_i32_17
  let v27 : BitVec 32 := Scalar.extui v26
  let c0_i32_18 : BitVec 32 := 0#32
  let v28 : BitVec 1 := Scalar.cmpi .ne v27 c0_i32_18
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S8192x8192 : Shape := ⟨2, ![8192, 8192]⟩
abbrev S2048x8192 : Shape := ⟨2, ![2048, 8192]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S2048x8192, .f32⟩
  | .hbm, ⟨2, _⟩ => ⟨S_, .f32⟩
  | .hbm, ⟨3, _⟩ => ⟨S8192x2048, .f32⟩
  | .hbm, ⟨4, _⟩ => ⟨S8192x8192, .f32⟩
  | .hbm, ⟨5, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AdamWIn.lean ====
abbrev S8x2048x770 : Shape := ⟨3, ![8, 2048, 770]⟩
abbrev S2048x770 : Shape := ⟨2, ![2048, 770]⟩
abbrev S8x256x770 : Shape := ⟨3, ![8, 256, 770]⟩
abbrev S256x770 : Shape := ⟨2, ![256, 770]⟩
abbrev S1x256x770 : Shape := ⟨3, ![1, 256, 770]⟩

abbrev nBuf : Space → Nat
  | .hbm => 9
  | .vmem => 16
  | .smem => 0
  | _ => 0

abbrev bufTy : (tb : Table) → Fin (tcTables nBuf tb) → BufTy
  | .hbm, ⟨0, _⟩ => ⟨S8x2048x770, .f32⟩
  | .hbm, ⟨1, _⟩ => ⟨S2048x770, .f32⟩
  | .hbm, ⟨2, _⟩ => ⟨S2048x770, .f32⟩
  | .hbm, ⟨3, _⟩ => ⟨S2048x770, .f32⟩
  | .hbm, ⟨4, _⟩ => ⟨S8x2048x770, .bf16⟩
  | .hbm, ⟨5, _⟩ => ⟨S2048x770, .f32⟩
  | .hbm, ⟨6, _⟩ => ⟨S2048x770, .f32⟩
  | .hbm, ⟨7, _⟩ => ⟨S2048x770, .f32⟩
  | .hbm, ⟨8, _⟩ => ⟨S2048x770, .f32⟩
  | .local _ .vmem, ⟨0, _⟩ => ⟨S8x256x770, .bf16⟩
  | .local _ .vmem, ⟨1, _⟩ => ⟨S8x256x770, .bf16⟩
  | .local _ .vmem, ⟨2, _⟩ => ⟨S256x770, .f32⟩
  | .local _ .vmem, ⟨3, _⟩ => ⟨S256x770, .f32⟩
  | .local _ .vmem, ⟨4, _⟩ => ⟨S256x770, .f32⟩
  | .local _ .vmem, ⟨5, _⟩ => ⟨S256x770, .f32⟩
  | .local _ .vmem, ⟨6, _⟩ => ⟨S256x770, .f32⟩
  | .local _ .vmem, ⟨7, _⟩ => ⟨S256x770, .f32⟩
  | .local _ .vmem, ⟨8, _⟩ => ⟨S256x770, .f32⟩
  | .local _ .vmem, ⟨9, _⟩ => ⟨S256x770, .f32⟩
  | .local _ .vmem, ⟨10, _⟩ => ⟨S256x770, .f32⟩
  | .local _ .vmem, ⟨11, _⟩ => ⟨S256x770, .f32⟩
  | .local _ .vmem, ⟨12, _⟩ => ⟨S256x770, .f32⟩
  | .local _ .vmem, ⟨13, _⟩ => ⟨S256x770, .f32⟩
  | .local _ .vmem, ⟨14, _⟩ => ⟨S256x770, .f32⟩
  | .local _ .vmem, ⟨15, _⟩ => ⟨S256x770, .f32⟩
  | _, _ => ⟨S8x2048x770, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x770 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x770 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x770 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x770 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x770 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x770 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x770 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x770 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWInRefIdeal.lean ====
abbrev S8x2048x770 : Shape := ⟨3, ![8, 2048, 770]⟩
abbrev S2048x770 : Shape := ⟨2, ![2048, 770]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x770, .f32⟩
  | .hbm, ⟨1, _⟩ => ⟨S2048x770, .f32⟩
  | .hbm, ⟨2, _⟩ => ⟨S2048x770, .f32⟩
  | .hbm, ⟨3, _⟩ => ⟨S2048x770, .f32⟩
  | .hbm, ⟨4, _⟩ => ⟨S_, .f32⟩
  | .hbm, ⟨5, _⟩ => ⟨S2048x770, .f32⟩
  | .hbm, ⟨6, _⟩ => ⟨S_, .f32⟩
  | .hbm, ⟨7, _⟩ => ⟨S2048x770, .f32⟩
  | .hbm, ⟨8, _⟩ => ⟨S2048x770, .f32⟩
  | .hbm, ⟨9, _⟩ => ⟨S_, .f32⟩
  | .hbm, ⟨10, _⟩ => ⟨S2048x770, .f32⟩
  | .hbm, ⟨11, _⟩ => ⟨S2048x770, .f32⟩
  | .hbm, ⟨12, _⟩ => ⟨S2048x770, .f32⟩
  | .hbm, ⟨13, _⟩ => ⟨S_, .f32⟩
  | .hbm, ⟨14, _⟩ => ⟨S2048x770, .f32⟩
  | .hbm, ⟨15, _⟩ => ⟨S2048x770, .f32⟩
  | .hbm, ⟨16, _⟩ => ⟨S2048x770, .f32⟩
  | .hbm, ⟨17, _⟩ => ⟨S_, .f32⟩
  | .hbm, ⟨18, _⟩ => ⟨S2048x770, .f32⟩
  | .hbm, ⟨19, _⟩ => ⟨S2048x770, .f32⟩
  | .hbm, ⟨20, _⟩ => ⟨S2048x770, .f32⟩
  | .hbm, ⟨21, _⟩ => ⟨S_, .f32⟩
  | .hbm, ⟨22, _⟩ => ⟨S2048x770, .f32⟩
  | .hbm, ⟨23, _⟩ => ⟨S2048x770, .f32⟩
  | .hbm, ⟨24, _⟩ => ⟨S_, .f32⟩
  | .hbm, ⟨25, _⟩ => ⟨S2048x770, .f32⟩
  | .hbm, ⟨26, _⟩ => ⟨S2048x770, .f32⟩
  | .hbm, ⟨27, _⟩ => ⟨S2048x770, .f32⟩
  | .hbm, ⟨28, _⟩ => ⟨S_, .f32⟩
  | .hbm, ⟨29, _⟩ => ⟨S2048x770, .f32⟩
  | .hbm, ⟨30, _⟩ => ⟨S2048x770, .f32⟩
  | .hbm, ⟨31, _⟩ => ⟨S2048x770, .f32⟩
  | .hbm, ⟨32, _⟩ => ⟨S_, .f32⟩
  | .hbm, ⟨33, _⟩ => ⟨S2048x770, .f32⟩
  | .hbm, ⟨34, _⟩ => ⟨S2048x770, .f32⟩
  | .hbm, ⟨35, _⟩ => ⟨S2048x770, .f32⟩
  | .hbm, ⟨36, _⟩ => ⟨S_, .f32⟩
  | .hbm, ⟨37, _⟩ => ⟨S2048x770, .f32⟩
  | .hbm, ⟨38, _⟩ => ⟨S2048x770, .f32⟩
  | _, _ => ⟨S8x2048x770, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SumParts.lean ====
abbrev S8x152x128 : Shape := ⟨3, ![8, 152, 128]⟩
abbrev S152x128 : Shape := ⟨2, ![152, 128]⟩
abbrev S1x152x128 : Shape := ⟨3, ![1, 152, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x152x128, .f32⟩
  | .hbm, ⟨1, _⟩ => ⟨S152x128, .f32⟩
  | .local _ .vmem, ⟨0, _⟩ => ⟨S8x152x128, .f32⟩
  | .local _ .vmem, ⟨1, _⟩ => ⟨S152x128, .f32⟩
  | _, _ => ⟨S8x152x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x152x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S152x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumPartsRefIdeal.lean ====
abbrev S8x152x128 : Shape := ⟨3, ![8, 152, 128]⟩
abbrev S_ : Shape := ⟨0, ![]⟩
abbrev S152x128 : Shape := ⟨2, ![152, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x152x128, .f32⟩
  | .hbm, ⟨1, _⟩ => ⟨S_, .f32⟩
  | .hbm, ⟨2, _⟩ => ⟨S152x128, .f32⟩
  | _, _ => ⟨S8x152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ToCols.lean ====
abbrev S8x2048x770 : Shape := ⟨3, ![8, 2048, 770]⟩
abbrev S2048x6144 : Shape := ⟨2, ![2048, 6144]⟩
abbrev S2048x128 : Shape := ⟨2, ![2048, 128]⟩
abbrev S8x512x770 : Shape := ⟨3, ![8, 512, 770]⟩
abbrev S512x6144 : Shape := ⟨2, ![512, 6144]⟩
abbrev S512x128 : Shape := ⟨2, ![512, 128]⟩
abbrev S1x512x770 : Shape := ⟨3, ![1, 512, 770]⟩
abbrev S512x770 : Shape := ⟨2, ![512, 770]⟩
abbrev S1x512x754 : Shape := ⟨3, ![1, 512, 754]⟩
abbrev S512x754 : Shape := ⟨2, ![512, 754]⟩
abbrev S1x512x16 : Shape := ⟨3, ![1, 512, 16]⟩
abbrev S512x16 : Shape := ⟨2, ![512, 16]⟩

abbrev nBuf : Space → Nat
  | .hbm => 4
  | .vmem => 6
  | .smem => 0
  | _ => 0

abbrev bufTy : (tb : Table) → Fin (tcTables nBuf tb) → BufTy
  | .hbm, ⟨0, _⟩ => ⟨S8x2048x770, .f32⟩
  | .hbm, ⟨1, _⟩ => ⟨S8x2048x770, .bf16⟩
  | .hbm, ⟨2, _⟩ => ⟨S2048x6144, .bf16⟩
  | .hbm, ⟨3, _⟩ => ⟨S2048x128, .bf16⟩
  | .local _ .vmem, ⟨0, _⟩ => ⟨S8x512x770, .bf16⟩
  | .local _ .vmem, ⟨1, _⟩ => ⟨S8x512x770, .bf16⟩
  | .local _ .vmem, ⟨2, _⟩ => ⟨S512x6144, .bf16⟩
  | .local _ .vmem, ⟨3, _⟩ => ⟨S512x6144, .bf16⟩
  | .local _ .vmem, ⟨4, _⟩ => ⟨S512x128, .bf16⟩
  | .local _ .vmem, ⟨5, _⟩ => ⟨S512x128, .bf16⟩
  | _, _ => ⟨S8x2048x770, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x770 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ToColsRefIdeal.lean ====
abbrev S8x2048x770 : Shape := ⟨3, ![8, 2048, 770]⟩
abbrev S2048x8x770 : Shape := ⟨3, ![2048, 8, 770]⟩
abbrev S2048x6160 : Shape := ⟨2, ![2048, 6160]⟩
abbrev S2048x6144 : Shape := ⟨2, ![2048, 6144]⟩
abbrev S2048x16 : Shape := ⟨2, ![2048, 16]⟩
abbrev S_ : Shape := ⟨0, ![]⟩
abbrev S2048x128 : Shape := ⟨2, ![2048, 128]⟩

abbrev nBuf : Space → Nat
  | .hbm => 9
  | .vmem => 0
  | .smem => 0
  | _ => 0

abbrev bufTy : (tb : Table) → Fin (tcTables nBuf tb) → BufTy
  | .hbm, ⟨0, _⟩ => ⟨S8x2048x770, .f32⟩
  | .hbm, ⟨1, _⟩ => ⟨S2048x8x770, .f32⟩
  | .hbm, ⟨2, _⟩ => ⟨S2048x6160, .f32⟩
  | .hbm, ⟨3, _⟩ => ⟨S2048x6160, .bf16⟩
  | .hbm, ⟨4, _⟩ => ⟨S2048x6144, .bf16⟩
  | .hbm, ⟨5, _⟩ => ⟨S2048x16, .bf16⟩
  | .hbm, ⟨6, _⟩ => ⟨S_, .i32⟩
  | .hbm, ⟨7, _⟩ => ⟨S_, .bf16⟩
  | .hbm, ⟨8, _⟩ => ⟨S2048x128, .bf16⟩
  | _, _ => ⟨S8x2048x770, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_call0_v0 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ToShards.lean ====
abbrev S2048x6160 : Shape := ⟨2, ![2048, 6160]⟩
abbrev S2048x6144 : Shape := ⟨2, ![2048, 6144]⟩
abbrev S2048x16 : Shape := ⟨2, ![2048, 16]⟩
abbrev S_ : Shape := ⟨0, ![]⟩
abbrev S2048x128 : Shape := ⟨2, ![2048, 128]⟩
abbrev S8x2048x770 : Shape := ⟨3, ![8, 2048, 770]⟩
abbrev S512x6144 : Shape := ⟨2, ![512, 6144]⟩
abbrev S512x128 : Shape := ⟨2, ![512, 128]⟩
abbrev S8x512x770 : Shape := ⟨3, ![8, 512, 770]⟩
abbrev S512x770 : Shape := ⟨2, ![512, 770]⟩
abbrev S1x512x770 : Shape := ⟨3, ![1, 512, 770]⟩
abbrev S512x754 : Shape := ⟨2, ![512, 754]⟩
abbrev S1x512x754 : Shape := ⟨3, ![1, 512, 754]⟩
abbrev S512x16 : Shape := ⟨2, ![512, 16]⟩
abbrev S1x512x16 : Shape := ⟨3, ![1, 512, 16]⟩

abbrev nBuf : Space → Nat
  | .hbm => 8
  | .vmem => 6
  | .smem => 0
  | _ => 0

abbrev bufTy : (tb : Table) → Fin (tcTables nBuf tb) → BufTy
  | .hbm, ⟨0, _⟩ => ⟨S2048x6160, .f32⟩
  | .hbm, ⟨1, _⟩ => ⟨S2048x6160, .bf16⟩
  | .hbm, ⟨2, _⟩ => ⟨S2048x6144, .bf16⟩
  | .hbm, ⟨3, _⟩ => ⟨S2048x16, .bf16⟩
  | .hbm, ⟨4, _⟩ => ⟨S_, .i32⟩
  | .hbm, ⟨5, _⟩ => ⟨S_, .bf16⟩
  | .hbm, ⟨6, _⟩ => ⟨S2048x128, .bf16⟩
  | .hbm, ⟨7, _⟩ => ⟨S8x2048x770, .bf16⟩
  | .local _ .vmem, ⟨0, _⟩ => ⟨S512x6144, .bf16⟩
  | .local _ .vmem, ⟨1, _⟩ => ⟨S512x6144, .bf16⟩
  | .local _ .vmem, ⟨2, _⟩ => ⟨S512x128, .bf16⟩
  | .local _ .vmem, ⟨3, _⟩ => ⟨S512x128, .bf16⟩
  | .local _ .vmem, ⟨4, _⟩ => ⟨S8x512x770, .bf16⟩
  | .local _ .vmem, ⟨5, _⟩ => ⟨S8x512x770, .bf16⟩
  | _, _ => ⟨S2048x6160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x770 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ToShardsRefIdeal.lean ====
abbrev S2048x6160 : Shape := ⟨2, ![2048, 6160]⟩
abbrev S2048x8x770 : Shape := ⟨3, ![2048, 8, 770]⟩
abbrev S8x2048x770 : Shape := ⟨3, ![8, 2048, 770]⟩

abbrev nBuf : Space → Nat
  | .hbm => 4
  | .vmem => 0
  | .smem => 0
  | _ => 0

abbrev bufTy : (tb : Table) → Fin (tcTables nBuf tb) → BufTy
  | .hbm, ⟨0, _⟩ => ⟨S2048x6160, .f32⟩
  | .hbm, ⟨1, _⟩ => ⟨S2048x8x770, .f32⟩
  | .hbm, ⟨2, _⟩ => ⟨S8x2048x770, .f32⟩
  | .hbm, ⟨3, _⟩ => ⟨S8x2048x770, .bf16⟩
  | _, _ => ⟨S2048x6160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== AdamSmallA.lean ====
abbrev S1x2048 : Shape := ⟨2, ![1, 2048]⟩
abbrev S1x512 : Shape := ⟨2, ![1, 512]⟩
abbrev S1x1024 : Shape := ⟨2, ![1, 1024]⟩
abbrev S1x256 : Shape := ⟨2, ![1, 256]⟩

abbrev nBuf : Space → Nat
  | .hbm => 28
  | .vmem => 28
  | .smem => 0
  | _ => 0

abbrev bufTy : (tb : Table) → Fin (tcTables nBuf tb) → BufTy
  | .hbm, ⟨0, _⟩ => ⟨S1x2048, .f32⟩
  | .hbm, ⟨1, _⟩ => ⟨S1x512, .f32⟩
  | .hbm, ⟨2, _⟩ => ⟨S1x1024, .f32⟩
  | .hbm, ⟨3, _⟩ => ⟨S1x256, .f32⟩
  | .hbm, ⟨4, _⟩ => ⟨S1x2048, .f32⟩
  | .hbm, ⟨5, _⟩ => ⟨S1x512, .f32⟩
  | .hbm, ⟨6, _⟩ => ⟨S1x1024, .f32⟩
  | .hbm, ⟨7, _⟩ => ⟨S1x256, .f32⟩
  | .hbm, ⟨8, _⟩ => ⟨S1x2048, .f32⟩
  | .hbm, ⟨9, _⟩ => ⟨S1x512, .f32⟩
  | .hbm, ⟨10, _⟩ => ⟨S1x1024, .f32⟩
  | .hbm, ⟨11, _⟩ => ⟨S1x256, .f32⟩
  | .hbm, ⟨12, _⟩ => ⟨S1x2048, .f32⟩
  | .hbm, ⟨13, _⟩ => ⟨S1x512, .f32⟩
  | .hbm, ⟨14, _⟩ => ⟨S1x1024, .f32⟩
  | .hbm, ⟨15, _⟩ => ⟨S1x256, .f32⟩
  | .hbm, ⟨16, _⟩ => ⟨S1x2048, .f32⟩
  | .hbm, ⟨17, _⟩ => ⟨S1x512, .f32⟩
  | .hbm, ⟨18, _⟩ => ⟨S1x1024, .f32⟩
  | .hbm, ⟨19, _⟩ => ⟨S1x256, .f32⟩
  | .hbm, ⟨20, _⟩ => ⟨S1x2048, .f32⟩
  | .hbm, ⟨21, _⟩ => ⟨S1x512, .f32⟩
  | .hbm, ⟨22, _⟩ => ⟨S1x1024, .f32⟩
  | .hbm, ⟨23, _⟩ => ⟨S1x256, .f32⟩
  | .hbm, ⟨24, _⟩ => ⟨S1x2048, .f32⟩
  | .hbm, ⟨25, _⟩ => ⟨S1x512, .f32⟩
  | .hbm, ⟨26, _⟩ => ⟨S1x1024, .f32⟩
  | .hbm, ⟨27, _⟩ => ⟨S1x256, .f32⟩
  | .local _ .vmem, ⟨0, _⟩ => ⟨S1x2048, .f32⟩
  | .local _ .vmem, ⟨1, _⟩ => ⟨S1x512, .f32⟩
  | .local _ .vmem, ⟨2, _⟩ => ⟨S1x1024, .f32⟩
  | .local _ .vmem, ⟨3, _⟩ => ⟨S1x256, .f32⟩
  | .local _ .vmem, ⟨4, _⟩ => ⟨S1x2048, .f32⟩
  | .local _ .vmem, ⟨5, _⟩ => ⟨S1x512, .f32⟩
  | .local _ .vmem, ⟨6, _⟩ => ⟨S1x1024, .f32⟩
  | .local _ .vmem, ⟨7, _⟩ => ⟨S1x256, .f32⟩
  | .local _ .vmem, ⟨8, _⟩ => ⟨S1x2048, .f32⟩
  | .local _ .vmem, ⟨9, _⟩ => ⟨S1x512, .f32⟩
  | .local _ .vmem, ⟨10, _⟩ => ⟨S1x1024, .f32⟩
  | .local _ .vmem, ⟨11, _⟩ => ⟨S1x256, .f32⟩
  | .local _ .vmem, ⟨12, _⟩ => ⟨S1x2048, .f32⟩
  | .local _ .vmem, ⟨13, _⟩ => ⟨S1x512, .f32⟩
  | .local _ .vmem, ⟨14, _⟩ => ⟨S1x1024, .f32⟩
  | .local _ .vmem, ⟨15, _⟩ => ⟨S1x256, .f32⟩
  | .local _ .vmem, ⟨16, _⟩ => ⟨S1x2048, .f32⟩
  | .local _ .vmem, ⟨17, _⟩ => ⟨S1x512, .f32⟩
  | .local _ .vmem, ⟨18, _⟩ => ⟨S1x1024, .f32⟩
  | .local _ .vmem, ⟨19, _⟩ => ⟨S1x256, .f32⟩
  | .local _ .vmem, ⟨20, _⟩ => ⟨S1x2048, .f32⟩
  | .local _ .vmem, ⟨21, _⟩ => ⟨S1x512, .f32⟩
  | .local _ .vmem, ⟨22, _⟩ => ⟨S1x1024, .f32⟩
  | .local _ .vmem, ⟨23, _⟩ => ⟨S1x256, .f32⟩
  | .local _ .vmem, ⟨24, _⟩ => ⟨S1x2048, .f32⟩
  | .local _ .vmem, ⟨25, _⟩ => ⟨S1x512, .f32⟩
  | .local _ .vmem, ⟨26, _⟩ => ⟨S1x1024, .f32⟩
  | .local _ .vmem, ⟨27, _⟩ => ⟨S1x256, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x2048 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AdamSmallARefIdeal.lean ====
abbrev S1x2048 : Shape := ⟨2, ![1, 2048]⟩
abbrev S1x512 : Shape := ⟨2, ![1, 512]⟩
abbrev S1x1024 : Shape := ⟨2, ![1, 1024]⟩
abbrev S1x256 : Shape := ⟨2, ![1, 256]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x2048, .f32⟩
  | 1 => ⟨S1x512, .f32⟩
  | 2 => ⟨S1x1024, .f32⟩
  | 3 => ⟨S1x256, .f32⟩
  | 4 => ⟨S1x2048, .f32⟩
  | 5 => ⟨S1x512, .f32⟩
  | 6 => ⟨S1x1024, .f32⟩
  | 7 => ⟨S1x256, .f32⟩
  | 8 => ⟨S1x2048, .f32⟩
  | 9 => ⟨S1x512, .f32⟩
  | 10 => ⟨S1x1024, .f32⟩
  | 11 => ⟨S1x256, .f32⟩
  | 12 => ⟨S1x2048, .f32⟩
  | 13 => ⟨S1x512, .f32⟩
  | 14 => ⟨S1x1024, .f32⟩
  | 15 => ⟨S1x256, .f32⟩
  | 16 => ⟨S_, .f32⟩
  | 17 => ⟨S1x2048, .f32⟩
  | 18 => ⟨S1x2048, .f32⟩
  | 19 => ⟨S_, .f32⟩
  | 20 => ⟨S1x2048, .f32⟩
  | 21 => ⟨S1x2048, .f32⟩
  | 22 => ⟨S1x2048, .f32⟩
  | 23 => ⟨S_, .f32⟩
  | 24 => ⟨S1x2048, .f32⟩
  | 25 => ⟨S1x2048, .f32⟩
  | 26 => ⟨S1x2048, .f32⟩
  | 27 => ⟨S_, .f32⟩
  | 28 => ⟨S1x2048, .f32⟩
  | 29 => ⟨S1x2048, .f32⟩
  | 30 => ⟨S1x2048, .f32⟩
  | 31 => ⟨S_, .f32⟩
  | 32 => ⟨S1x2048, .f32⟩
  | 33 => ⟨S1x2048, .f32⟩
  | 34 => ⟨S_, .f32⟩
  | 35 => ⟨S1x2048, .f32⟩
  | 36 => ⟨S1x2048, .f32⟩
  | 37 => ⟨S1x2048, .f32⟩
  | 38 => ⟨S_, .f32⟩
  | 39 => ⟨S1x2048, .f32⟩
  | 40 => ⟨S1x2048, .f32⟩
  | 41 => ⟨S1x2048, .f32⟩
  | 42 => ⟨S_, .f32⟩
  | 43 => ⟨S1x2048, .f32⟩
  | 44 => ⟨S1x2048, .f32⟩
  | 45 => ⟨S1x2048, .f32⟩
  | 46 => ⟨S_, .f32⟩
  | 47 => ⟨S1x2048, .f32⟩
  | 48 => ⟨S1x2048, .f32⟩
  | 49 => ⟨S_, .f32⟩
  | 50 => ⟨S1x512, .f32⟩
  | 51 => ⟨S1x512, .f32⟩
  | 52 => ⟨S_, .f32⟩
  | 53 => ⟨S1x512, .f32⟩
  | 54 => ⟨S1x512, .f32⟩
  | 55 => ⟨S1x512, .f32⟩
  | 56 => ⟨S_, .f32⟩
  | 57 => ⟨S1x512, .f32⟩
  | 58 => ⟨S1x512, .f32⟩
  | 59 => ⟨S1x512, .f32⟩
  | 60 => ⟨S_, .f32⟩
  | 61 => ⟨S1x512, .f32⟩
  | 62 => ⟨S1x512, .f32⟩
  | 63 => ⟨S1x512, .f32⟩
  | 64 => ⟨S_, .f32⟩
  | 65 => ⟨S1x512, .f32⟩
  | 66 => ⟨S1x512, .f32⟩
  | 67 => ⟨S_, .f32⟩
  | 68 => ⟨S1x512, .f32⟩
  | 69 => ⟨S1x512, .f32⟩
  | 70 => ⟨S1x512, .f32⟩
  | 71 => ⟨S_, .f32⟩
  | 72 => ⟨S1x512, .f32⟩
  | 73 => ⟨S1x512, .f32⟩
  | 74 => ⟨S1x512, .f32⟩
  | 75 => ⟨S_, .f32⟩
  | 76 => ⟨S1x512, .f32⟩
  | 77 => ⟨S1x512, .f32⟩
  | 78 => ⟨S1x512, .f32⟩
  | 79 => ⟨S_, .f32⟩
  | 80 => ⟨S1x512, .f32⟩
  | 81 => ⟨S1x512, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S1x256, .f32⟩
  | 117 => ⟨S1x256, .f32⟩
  | 118 => ⟨S_, .f32⟩
  | 119 => ⟨S1x256, .f32⟩
  | 120 => ⟨S1x256, .f32⟩
  | 121 => ⟨S1x256, .f32⟩
  | 122 => ⟨S_, .f32⟩
  | 123 => ⟨S1x256, .f32⟩
  | 124 => ⟨S1x256, .f32⟩
  | 125 => ⟨S1x256, .f32⟩
  | 126 => ⟨S_, .f32⟩
  | 127 => ⟨S1x256, .f32⟩
  | _ => ⟨S1x2048, .f32⟩

abbrev hbmTy0_1 (i : Nat) : BufTy := match i % 128 with
  | 0 => ⟨S1x256, .f32⟩
  | 1 => ⟨S1x256, .f32⟩
  | 2 => ⟨S_, .f32⟩
  | 3 => ⟨S1x256, .f32⟩
  | 4 => ⟨S1x256, .f32⟩
  | 5 => ⟨S_, .f32⟩
  | 6 => ⟨S1x256, .f32⟩
  | 7 => ⟨S1x256, .f32⟩
  | 8 => ⟨S1x256, .f32⟩
  | 9 => ⟨S_, .f32⟩
  | 10 => ⟨S1x256, .f32⟩
  | 11 => ⟨S1x256, .f32⟩
  | 12 => ⟨S1x256, .f32⟩
  | 13 => ⟨S_, .f32⟩
  | 14 => ⟨S1x256, .f32⟩
  | 15 => ⟨S1x256, .f32⟩
  | 16 => ⟨S1x256, .f32⟩
  | 17 => ⟨S_, .f32⟩
  | 18 => ⟨S1x256, .f32⟩
  | 19 => ⟨S1x256, .f32⟩
  | _ => ⟨S1x2048, .f32⟩

abbrev hbmTy (i : Nat) : BufTy := match i / 128 with
  | 0 => hbmTy0_0 i
  | 1 => hbmTy0_1 i
  | _ => ⟨S1x2048, .f32⟩

abbrev bufTy : (tb : Table) → Fin (tcTables nBuf tb) → BufTy
  | .hbm, ⟨i, _⟩ => hbmTy i
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== AdamSmallB.lean ====
abbrev S1x2048 : Shape := ⟨2, ![1, 2048]⟩
abbrev S16x64 : Shape := ⟨2, ![16, 64]⟩
abbrev S128x3 : Shape := ⟨2, ![128, 3]⟩

abbrev nBuf : Space → Nat
  | .hbm => 28
  | .vmem => 28
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S16x64, .f32⟩
  | .hbm, ⟨3, _⟩ => ⟨S128x3, .f32⟩
  | .hbm, ⟨4, _⟩ => ⟨S1x2048, .f32⟩
  | .hbm, ⟨5, _⟩ => ⟨S1x2048, .f32⟩
  | .hbm, ⟨6, _⟩ => ⟨S16x64, .f32⟩
  | .hbm, ⟨7, _⟩ => ⟨S128x3, .f32⟩
  | .hbm, ⟨8, _⟩ => ⟨S1x2048, .f32⟩
  | .hbm, ⟨9, _⟩ => ⟨S1x2048, .f32⟩
  | .hbm, ⟨10, _⟩ => ⟨S16x64, .f32⟩
  | .hbm, ⟨11, _⟩ => ⟨S128x3, .f32⟩
  | .hbm, ⟨12, _⟩ => ⟨S1x2048, .f32⟩
  | .hbm, ⟨13, _⟩ => ⟨S1x2048, .f32⟩
  | .hbm, ⟨14, _⟩ => ⟨S16x64, .f32⟩
  | .hbm, ⟨15, _⟩ => ⟨S128x3, .f32⟩
  | .hbm, ⟨16, _⟩ => ⟨S1x2048, .f32⟩
  | .hbm, ⟨17, _⟩ => ⟨S1x2048, .f32⟩
  | .hbm, ⟨18, _⟩ => ⟨S16x64, .f32⟩
  | .hbm, ⟨19, _⟩ => ⟨S128x3, .f32⟩
  | .hbm, ⟨20, _⟩ => ⟨S1x2048, .f32⟩
  | .hbm, ⟨21, _⟩ => ⟨S1x2048, .f32⟩
  | .hbm, ⟨22, _⟩ => ⟨S16x64, .f32⟩
  | .hbm, ⟨23, _⟩ => ⟨S128x3, .f32⟩
  | .hbm, ⟨24, _⟩ => ⟨S1x2048, .f32⟩
  | .hbm, ⟨25, _⟩ => ⟨S1x2048, .f32⟩
  | .hbm, ⟨26, _⟩ => ⟨S16x64, .f32⟩
  | .hbm, ⟨27, _⟩ => ⟨S128x3, .f32⟩
  | .local _ .vmem, ⟨0, _⟩ => ⟨S1x2048, .f32⟩
  | .local _ .vmem, ⟨1, _⟩ => ⟨S1x2048, .f32⟩
  | .local _ .vmem, ⟨2, _⟩ => ⟨S16x64, .f32⟩
  | .local _ .vmem, ⟨3, _⟩ => ⟨S128x3, .f32⟩
  | .local _ .vmem, ⟨4, _⟩ => ⟨S1x2048, .f32⟩
  | .local _ .vmem, ⟨5, _⟩ => ⟨S1x2048, .f32⟩
  | .local _ .vmem, ⟨6, _⟩ => ⟨S16x64, .f32⟩
  | .local _ .vmem, ⟨7, _⟩ => ⟨S128x3, .f32⟩
  | .local _ .vmem, ⟨8, _⟩ => ⟨S1x2048, .f32⟩
  | .local _ .vmem, ⟨9, _⟩ => ⟨S1x2048, .f32⟩
  | .local _ .vmem, ⟨10, _⟩ => ⟨S16x64, .f32⟩
  | .local _ .vmem, ⟨11, _⟩ => ⟨S128x3, .f32⟩
  | .local _ .vmem, ⟨12, _⟩ => ⟨S1x2048, .f32⟩
  | .local _ .vmem, ⟨13, _⟩ => ⟨S1x2048, .f32⟩
  | .local _ .vmem, ⟨14, _⟩ => ⟨S16x64, .f32⟩
  | .local _ .vmem, ⟨15, _⟩ => ⟨S128x3, .f32⟩
  | .local _ .vmem, ⟨16, _⟩ => ⟨S1x2048, .f32⟩
  | .local _ .vmem, ⟨17, _⟩ => ⟨S1x2048, .f32⟩
  | .local _ .vmem, ⟨18, _⟩ => ⟨S16x64, .f32⟩
  | .local _ .vmem, ⟨19, _⟩ => ⟨S128x3, .f32⟩
  | .local _ .vmem, ⟨20, _⟩ => ⟨S1x2048, .f32⟩
  | .local _ .vmem, ⟨21, _⟩ => ⟨S1x2048, .f32⟩
  | .local _ .vmem, ⟨22, _⟩ => ⟨S16x64, .f32⟩
  | .local _ .vmem, ⟨23, _⟩ => ⟨S128x3, .f32⟩
  | .local _ .vmem, ⟨24, _⟩ => ⟨S1x2048, .f32⟩
  | .local _ .vmem, ⟨25, _⟩ => ⟨S1x2048, .f32⟩
  | .local _ .vmem, ⟨26, _⟩ => ⟨S16x64, .f32⟩
  | .local _ .vmem, ⟨27, _⟩ => ⟨S128x3, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x3 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S16x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x3 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S16x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S128x3 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x2048 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x2048 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S16x64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S128x3 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AdamSmallBRefIdeal.lean ====
abbrev S1x2048 : Shape := ⟨2, ![1, 2048]⟩
abbrev S16x64 : Shape := ⟨2, ![16, 64]⟩
abbrev S128x3 : Shape := ⟨2, ![128, 3]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x2048, .f32⟩
  | 1 => ⟨S1x2048, .f32⟩
  | 2 => ⟨S16x64, .f32⟩
  | 3 => ⟨S128x3, .f32⟩
  | 4 => ⟨S1x2048, .f32⟩
  | 5 => ⟨S1x2048, .f32⟩
  | 6 => ⟨S16x64, .f32⟩
  | 7 => ⟨S128x3, .f32⟩
  | 8 => ⟨S1x2048, .f32⟩
  | 9 => ⟨S1x2048, .f32⟩
  | 10 => ⟨S16x64, .f32⟩
  | 11 => ⟨S128x3, .f32⟩
  | 12 => ⟨S1x2048, .f32⟩
  | 13 => ⟨S1x2048, .f32⟩
  | 14 => ⟨S16x64, .f32⟩
  | 15 => ⟨S128x3, .f32⟩
  | 16 => ⟨S_, .f32⟩
  | 17 => ⟨S1x2048, .f32⟩
  | 18 => ⟨S1x2048, .f32⟩
  | 19 => ⟨S_, .f32⟩
  | 20 => ⟨S1x2048, .f32⟩
  | 21 => ⟨S1x2048, .f32⟩
  | 22 => ⟨S1x2048, .f32⟩
  | 23 => ⟨S_, .f32⟩
  | 24 => ⟨S1x2048, .f32⟩
  | 25 => ⟨S1x2048, .f32⟩
  | 26 => ⟨S1x2048, .f32⟩
  | 27 => ⟨S_, .f32⟩
  | 28 => ⟨S1x2048, .f32⟩
  | 29 => ⟨S1x2048, .f32⟩
  | 30 => ⟨S1x2048, .f32⟩
  | 31 => ⟨S_, .f32⟩
  | 32 => ⟨S1x2048, .f32⟩
  | 33 => ⟨S1x2048, .f32⟩
  | 34 => ⟨S_, .f32⟩
  | 35 => ⟨S1x2048, .f32⟩
  | 36 => ⟨S1x2048, .f32⟩
  | 37 => ⟨S1x2048, .f32⟩
  | 38 => ⟨S_, .f32⟩
  | 39 => ⟨S1x2048, .f32⟩
  | 40 => ⟨S1x2048, .f32⟩
  | 41 => ⟨S1x2048, .f32⟩
  | 42 => ⟨S_, .f32⟩
  | 43 => ⟨S1x2048, .f32⟩
  | 44 => ⟨S1x2048, .f32⟩
  | 45 => ⟨S1x2048, .f32⟩
  | 46 => ⟨S_, .f32⟩
  | 47 => ⟨S1x2048, .f32⟩
  | 48 => ⟨S1x2048, .f32⟩
  | 49 => ⟨S_, .f32⟩
  | 50 => ⟨S1x2048, .f32⟩
  | 51 => ⟨S1x2048, .f32⟩
  | 52 => ⟨S_, .f32⟩
  | 53 => ⟨S1x2048, .f32⟩
  | 54 => ⟨S1x2048, .f32⟩
  | 55 => ⟨S1x2048, .f32⟩
  | 56 => ⟨S_, .f32⟩
  | 57 => ⟨S1x2048, .f32⟩
  | 58 => ⟨S1x2048, .f32⟩
  | 59 => ⟨S1x2048, .f32⟩
  | 60 => ⟨S_, .f32⟩
  | 61 => ⟨S1x2048, .f32⟩
  | 62 => ⟨S1x2048, .f32⟩
  | 63 => ⟨S1x2048, .f32⟩
  | 64 => ⟨S_, .f32⟩
  | 65 => ⟨S1x2048, .f32⟩
  | 66 => ⟨S1x2048, .f32⟩
  | 67 => ⟨S_, .f32⟩
  | 68 => ⟨S1x2048, .f32⟩
  | 69 => ⟨S1x2048, .f32⟩
  | 70 => ⟨S1x2048, .f32⟩
  | 71 => ⟨S_, .f32⟩
  | 72 => ⟨S1x2048, .f32⟩
  | 73 => ⟨S1x2048, .f32⟩
  | 74 => ⟨S1x2048, .f32⟩
  | 75 => ⟨S_, .f32⟩
  | 76 => ⟨S1x2048, .f32⟩
  | 77 => ⟨S1x2048, .f32⟩
  | 78 => ⟨S1x2048, .f32⟩
  | 79 => ⟨S_, .f32⟩
  | 80 => ⟨S1x2048, .f32⟩
  | 81 => ⟨S1x2048, .f32⟩
  | 82 => ⟨S_, .f32⟩
  | 83 => ⟨S16x64, .f32⟩
  | 84 => ⟨S16x64, .f32⟩
  | 85 => ⟨S_, .f32⟩
  | 86 => ⟨S16x64, .f32⟩
  | 87 => ⟨S16x64, .f32⟩
  | 88 => ⟨S16x64, .f32⟩
  | 89 => ⟨S_, .f32⟩
  | 90 => ⟨S16x64, .f32⟩
  | 91 => ⟨S16x64, .f32⟩
  | 92 => ⟨S16x64, .f32⟩
  | 93 => ⟨S_, .f32⟩
  | 94 => ⟨S16x64, .f32⟩
  | 95 => ⟨S16x64, .f32⟩
  | 96 => ⟨S16x64, .f32⟩
  | 97 => ⟨S_, .f32⟩
  | 98 => ⟨S16x64, .f32⟩
  | 99 => ⟨S16x64, .f32⟩
  | 100 => ⟨S_, .f32⟩
  | 101 => ⟨S16x64, .f32⟩
  | 102 => ⟨S16x64, .f32⟩
  | 103 => ⟨S16x64, .f32⟩
  | 104 => ⟨S_, .f32⟩
  | 105 => ⟨S16x64, .f32⟩
  | 106 => ⟨S16x64, .f32⟩
  | 107 => ⟨S16x64, .f32⟩
  | 108 => ⟨S_, .f32⟩
  | 109 => ⟨S16x64, .f32⟩
  | 110 => ⟨S16x64, .f32⟩
  | 111 => ⟨S16x64, .f32⟩
  | 112 => ⟨S_, .f32⟩
  | 113 => ⟨S16x64, .f32⟩
  | 114 => ⟨S16x64, .f32⟩
  | 115 => ⟨S_, .f32⟩
  | 116 => ⟨S128x3, .f32⟩
  | 117 => ⟨S128x3, .f32⟩
  | 118 => ⟨S_, .f32⟩
  | 119 => ⟨S128x3, .f32⟩
  | 120 => ⟨S128x3, .f32⟩
  | 121 => ⟨S128x3, .f32⟩
  | 122 => ⟨S_, .f32⟩
  | 123 => ⟨S128x3, .f32⟩
  | 124 => ⟨S128x3, .f32⟩
  | 125 => ⟨S128x3, .f32⟩
  | 126 => ⟨S_, .f32⟩
  | 127 => ⟨S128x3, .f32⟩
  | _ => ⟨S1x2048, .f32⟩

abbrev hbmTy0_1 (i : Nat) : BufTy := match i % 128 with
  | 0 => ⟨S128x3, .f32⟩
  | 1 => ⟨S128x3, .f32⟩
  | 2 => ⟨S_, .f32⟩
  | 3 => ⟨S128x3, .f32⟩
  | 4 => ⟨S128x3, .f32⟩
  | 5 => ⟨S_, .f32⟩
  | 6 => ⟨S128x3, .f32⟩
  | 7 => ⟨S128x3, .f32⟩
  | 8 => ⟨S128x3, .f32⟩
  | 9 => ⟨S_, .f32⟩
  | 10 => ⟨S128x3, .f32⟩
  | 11 => ⟨S128x3, .f32⟩
  | 12 => ⟨S128x3, .f32⟩
  | 13 => ⟨S_, .f32⟩
  | 14 => ⟨S128x3, .f32⟩
  | 15 => ⟨S128x3, .f32⟩
  | 16 => ⟨S128x3, .f32⟩
  | 17 => ⟨S_, .f32⟩
  | 18 => ⟨S128x3, .f32⟩
  | 19 => ⟨S128x3, .f32⟩
  | _ => ⟨S1x2048, .f32⟩

abbrev hbmTy (i : Nat) : BufTy := match i / 128 with
  | 0 => hbmTy0_0 i
  | 1 => hbmTy0_1 i
  | _ => ⟨S1x2048, .f32⟩

abbrev bufTy : (tb : Table) → Fin (tcTables nBuf tb) → BufTy
  | .hbm, ⟨i, _⟩ => hbmTy i
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Du.lean ====
abbrev S8192x6160 : Shape := ⟨2, ![8192, 6160]⟩
abbrev S2048x6160 : Shape := ⟨2, ![2048, 6160]⟩
abbrev S8x1024x2048 : Shape := ⟨3, ![8, 1024, 2048]⟩
abbrev S1024x2048 : Shape := ⟨2, ![1024, 2048]⟩
abbrev S8x2048x1024 : Shape := ⟨3, ![8, 2048, 1024]⟩
abbrev S2048x1024 : Shape := ⟨2, ![2048, 1024]⟩
abbrev S8192x6144 : Shape := ⟨2, ![8192, 6144]⟩
abbrev S2048x6144 : Shape := ⟨2, ![2048, 6144]⟩
abbrev S8192x16 : Shape := ⟨2, ![8192, 16]⟩
abbrev S_ : Shape := ⟨0, ![]⟩
abbrev S8192x128 : Shape := ⟨2, ![8192, 128]⟩
abbrev S2048x16 : Shape := ⟨2, ![2048, 16]⟩
abbrev S2048x128 : Shape := ⟨2, ![2048, 128]⟩
abbrev S8192x2048 : Shape := ⟨2, ![8192, 2048]⟩
abbrev S1024x3072 : Shape := ⟨2, ![1024, 3072]⟩
abbrev S1024x128 : Shape := ⟨2, ![1024, 128]⟩
abbrev S8x32x2048 : Shape := ⟨3, ![8, 32, 2048]⟩
abbrev S32x2048 : Shape := ⟨2, ![32, 2048]⟩
abbrev S8x64x1024 : Shape := ⟨3, ![8, 64, 1024]⟩
abbrev S64x1024 : Shape := ⟨2, ![64, 1024]⟩
abbrev S1024x1024 : Shape := ⟨2, ![1024, 1024]⟩
abbrev S1x32x2048 : Shape := ⟨3, ![1, 32, 2048]⟩
abbrev S1x64x1024 : Shape := ⟨3, ![1, 64, 1024]⟩

abbrev nBuf : Space → Nat
  | .hbm => 33
  | .vmem => 42
  | .smem => 0
  | _ => 0

abbrev bufTy : (tb : Table) → Fin (tcTables nBuf tb) → BufTy
  | .hbm, ⟨0, _⟩ => ⟨S8192x6160, .f32⟩
  | .hbm, ⟨1, _⟩ => ⟨S2048x6160, .f32⟩
  | .hbm, ⟨2, _⟩ => ⟨S8x1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S8x2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S8192x6160, .bf16⟩
  | .hbm, ⟨11, _⟩ => ⟨S2048x6160, .bf16⟩
  | .hbm, ⟨12, _⟩ => ⟨S8192x6144, .bf16⟩
  | .hbm, ⟨13, _⟩ => ⟨S2048x6144, .bf16⟩
  | .hbm, ⟨14, _⟩ => ⟨S8192x16, .bf16⟩
  | .hbm, ⟨15, _⟩ => ⟨S_, .i32⟩
  | .hbm, ⟨16, _⟩ => ⟨S_, .bf16⟩
  | .hbm, ⟨17, _⟩ => ⟨S8192x128, .bf16⟩
  | .hbm, ⟨18, _⟩ => ⟨S2048x16, .bf16⟩
  | .hbm, ⟨19, _⟩ => ⟨S_, .i32⟩
  | .hbm, ⟨20, _⟩ => ⟨S_, .bf16⟩
  | .hbm, ⟨21, _⟩ => ⟨S2048x128, .bf16⟩
  | .hbm, ⟨22, _⟩ => ⟨S8x1024x2048, .bf16⟩
  | .hbm, ⟨23, _⟩ => ⟨S8x2048x1024, .bf16⟩
  | .hbm, ⟨24, _⟩ => ⟨S8192x2048, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S8x32x2048, .bf16⟩
  | .local _ .vmem, ⟨9, _⟩ => ⟨S8x32x2048, .bf16⟩
  | .local _ .vmem, ⟨10, _⟩ => ⟨S32x2048, .f32⟩
  | .local _ .vmem, ⟨11, _⟩ => ⟨S32x2048, .f32⟩
  | .local _ .vmem, ⟨12, _⟩ => ⟨S32x2048, .f32⟩
  | .local _ .vmem, ⟨13, _⟩ => ⟨S32x2048, .f32⟩
  | .local _ .vmem, ⟨14, _⟩ => ⟨S32x2048, .f32⟩
  | .local _ .vmem, ⟨15, _⟩ => ⟨S32x2048, .f32⟩
  | .local _ .vmem, ⟨16, _⟩ => ⟨S8x64x1024, .bf16⟩
  | .local _ .vmem, ⟨17, _⟩ => ⟨S8x64x1024, .bf16⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S1024x1024, .f32⟩
  | .local _ .vmem, ⟨25, _⟩ => ⟨S1024x1024, .f32⟩
  | .local _ .vmem, ⟨26, _⟩ => ⟨S32x2048, .f32⟩
  | .local _ .vmem, ⟨27, _⟩ => ⟨S32x2048, .f32⟩
  | .local _ .vmem, ⟨28, _⟩ => ⟨S32x2048, .f32⟩
  | .local _ .vmem, ⟨29, _⟩ => ⟨S32x2048, .f32⟩
  | .local _ .vmem, ⟨30, _⟩ => ⟨S32x2048, .f32⟩
  | .local _ .vmem, ⟨31, _⟩ => ⟨S32x2048, .f32⟩
  | .local _ .vmem, ⟨32, _⟩ => ⟨S32x2048, .f32⟩
  | .local _ .vmem, ⟨33, _⟩ => ⟨S32x2048, .f32⟩
  | .local _ .vmem, ⟨34, _⟩ => ⟨S64x1024, .f32⟩
  | .local _ .vmem, ⟨35, _⟩ => ⟨S64x1024, .f32⟩
  | .local _ .vmem, ⟨36, _⟩ => ⟨S64x1024, .f32⟩
  | .local _ .vmem, ⟨37, _⟩ => ⟨S64x1024, .f32⟩
  | .local _ .vmem, ⟨38, _⟩ => ⟨S64x1024, .f32⟩
  | .local _ .vmem, ⟨39, _⟩ => ⟨S64x1024, .f32⟩
  | .local _ .vmem, ⟨40, _⟩ => ⟨S64x1024, .f32⟩
  | .local _ .vmem, ⟨41, _⟩ => ⟨S64x1024, .f32⟩
  | _, _ => ⟨S8192x6160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_call1_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v10_3 : Ref sig .tc := ⟨.hbm, 27, rfl⟩
abbrev main_v10_4 : Ref sig .tc := ⟨.hbm, 28, rfl⟩
abbrev main_v10_5 : Ref sig .tc := ⟨.hbm, 29, rfl⟩
abbrev main_v10_6 : Ref sig .tc := ⟨.hbm, 30, rfl⟩
abbrev main_v10_7 : Ref sig .tc := ⟨.hbm, 31, rfl⟩
abbrev main_v10_8 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨3, ![8, 2, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c0_i32 : BitVec 32 := 0#32
  let c0_i32_1 : BitVec 32 := 0#32
  let c0_i32_2 : BitVec 32 := 0#32
  ![c0_i32.toNat, v3.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c0_i32 : BitVec 32 := 0#32
  let c0_i32_1 : BitVec 32 := 0#32
  ![v3.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c0_i32 : BitVec 32 := 0#32
  let c0_i32_1 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c0_i32 : BitVec 32 := 0#32
  let c0_i32_1 : BitVec 32 := 0#32
  ![v3.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c0_i32 : BitVec 32 := 0#32
  let c0_i32_1 : BitVec 32 := 0#32
  let c0_i32_2 : BitVec 32 := 0#32
  ![c0_i32.toNat, v3.toNat, c0_i32_1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c0_i32 : BitVec 32 := 0#32
  let c0_i32_1 : BitVec 32 := 0#32
  ![v3.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c0_i32 : BitVec 32 := 0#32
  let c0_i32_1 : BitVec 32 := 0#32
  ![v3.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c0_i32 : BitVec 32 := 0#32
  let c0_i32_1 : BitVec 32 := 0#32
  ![v3.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c0_i32 : BitVec 32 := 0#32
  let c0_i32_1 : BitVec 32 := 0#32
  ![v3.toNat, c0_i32.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c0_i32 : BitVec 32 := 0#32
  let c0_i32_1 : BitVec 32 := 0#32
  ![v3.toNat, c0_i32.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c0_i32 : BitVec 32 := 0#32
  let c0_i32_1 : BitVec 32 := 0#32
  ![v3.toNat, c0_i32.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c0_i32 : BitVec 32 := 0#32
  let c0_i32_1 : BitVec 32 := 0#32
  ![v3.toNat, c0_i32.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c0_i32 : BitVec 32 := 0#32
  let c0_i32_1 : BitVec 32 := 0#32
  ![v3.toNat, c0_i32.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c0_i32 : BitVec 32 := 0#32
  let c0_i32_1 : BitVec 32 := 0#32
  ![v3.toNat, c0_i32.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c0_i32 : BitVec 32 := 0#32
  let c0_i32_1 : BitVec 32 := 0#32
  ![v3.toNat, c0_i32.toNat]

def cc0_transform_20 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c2_i32_0 : BitVec 32 := 2#32
  let v2 : BitVec 32 := Scalar.muli v1 c2_i32_0
  let v3 : BitVec 32 := Scalar.addi v2 arg2
  let c0_i32 : BitVec 32 := 0#32
  let c0_i32_1 : BitVec 32 := 0#32
  ![v3.toNat, c0_i32.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S8x32x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S8x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S32x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S32x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S32x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S32x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]

abbrev stage0_18 : Fin 2 → Memref sig .tc .vmem S64x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]

abbrev stage0_19 : Fin 2 → Memref sig .tc .vmem S64x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]

abbrev stage0_20 : Fin 2 → Memref sig .tc .vmem S64x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, true]
-- ==== DuRefIdeal.lean ====
abbrev S8192x6160 : Shape := ⟨2, ![8192, 6160]⟩
abbrev S2048x6160 : Shape := ⟨2, ![2048, 6160]⟩
abbrev S8x1024x2048 : Shape := ⟨3, ![8, 1024, 2048]⟩
abbrev S1024x2048 : Shape := ⟨2, ![1024, 2048]⟩
abbrev S8x2048x1024 : Shape := ⟨3, ![8, 2048, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 84
  | .vmem => 0
  | .smem => 0
  | _ => 0

abbrev bufTy : (tb : Table) → Fin (tcTables nBuf tb) → BufTy
  | .hbm, ⟨0, _⟩ => ⟨S8192x6160, .f32⟩
  | .hbm, ⟨1, _⟩ => ⟨S2048x6160, .f32⟩
  | .hbm, ⟨2, _⟩ => ⟨S8x1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S8x2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S8192x2048, .f32⟩
  | .hbm, ⟨12, _⟩ => ⟨S8192x6160, .f32⟩
  | .hbm, ⟨13, _⟩ => ⟨S8192x2048, .f32⟩
  | .hbm, ⟨14, _⟩ => ⟨S_, .f32⟩
  | .hbm, ⟨15, _⟩ => ⟨S1024x2048, .f32⟩
  | .hbm, ⟨16, _⟩ => ⟨S_, .f32⟩
  | .hbm, ⟨17, _⟩ => ⟨S2048x1024, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S_, .f32⟩
  | .hbm, ⟨22, _⟩ => ⟨S1024x2048, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S_, .f32⟩
  | .hbm, ⟨37, _⟩ => ⟨S1024x2048, .f32⟩
  | .hbm, ⟨38, _⟩ => ⟨S1024x2048, .f32⟩
  | .hbm, ⟨39, _⟩ => ⟨S1024x2048, .f32⟩
  | .hbm, ⟨40, _⟩ => ⟨S_, .f32⟩
  | .hbm, ⟨41, _⟩ => ⟨S1024x2048, .f32⟩
  | .hbm, ⟨42, _⟩ => ⟨S1024x2048, .f32⟩
  | .hbm, ⟨43, _⟩ => ⟨S1024x2048, .f32⟩
  | .hbm, ⟨44, _⟩ => ⟨S_, .f32⟩
  | .hbm, ⟨45, _⟩ => ⟨S1024x2048, .f32⟩
  | .hbm, ⟨46, _⟩ => ⟨S1024x2048, .f32⟩
  | .hbm, ⟨47, _⟩ => ⟨S1024x2048, .f32⟩
  | .hbm, ⟨48, _⟩ => ⟨S_, .f32⟩
  | .hbm, ⟨49, _⟩ => ⟨S1024x2048, .f32⟩
  | .hbm, ⟨50, _⟩ => ⟨S1024x2048, .f32⟩
  | .hbm, ⟨51, _⟩ => ⟨S_, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S_, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S_, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S_, .f32⟩
  | .hbm, ⟨82, _⟩ => ⟨S2048x1024, .f32⟩
  | .hbm, ⟨83, _⟩ => ⟨S2048x1024, .f32⟩
  | _, _ => ⟨S8192x6160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_cst_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_6 : Ref sig .tc := ⟨.hbm, 33, rfl⟩
abbrev main_v16 : Ref sig .tc := ⟨.hbm, 34, rfl⟩
abbrev main_v17 : Ref sig .tc := ⟨.hbm, 35, rfl⟩
abbrev main_cst_7 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_8 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_9 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_10 : Ref sig .tc := ⟨.hbm, 48, rfl⟩
abbrev main_v27 : Ref sig .tc := ⟨.hbm, 49, rfl⟩
abbrev main_v28 : Ref sig .tc := ⟨.hbm, 50, rfl⟩
abbrev main_cst_11 : Ref sig .tc := ⟨.hbm, 51, rfl⟩
abbrev main_v29 : Ref sig .tc := ⟨.hbm, 52, rfl⟩
abbrev main_v30 : Ref sig .tc := ⟨.hbm, 53, rfl⟩
abbrev main_cst_12 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_13 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_14 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_15 : Ref sig .tc := ⟨.hbm, 66, rfl⟩
abbrev main_v40 : Ref sig .tc := ⟨.hbm, 67, rfl⟩
abbrev main_v41 : Ref sig .tc := ⟨.hbm, 68, rfl⟩
abbrev main_cst_16 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_17 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_18 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_19 : Ref sig .tc := ⟨.hbm, 81, rfl⟩
abbrev main_v51 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== Proof.Reals.lean ====
/- Extended reals that are reals. A value claim under a finiteness precondition replaces each argument array by a
   real one; every operation of the two programs then yields a real, and what is left is an equation between reals. -/
module

public import Idealize.ShloMosaic.Lib.Pointwise
public import Idealize.ShloMosaic.Lib.ReduceAll
public import Idealize.ShloMosaic.PureOps.Ideal.Laws

@[expose] public section

noncomputable section

namespace Cert.Reals

open Idealize.ShloMosaic
open scoped BigOperators

/-- A sum of reals, read in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem rsqrt_pos {a : ℝ} (h : 0 < a) : Ideal.rsqrt (a : EReal) = (((Real.sqrt a)⁻¹ : ℝ) : EReal) := by
  rw [Ideal.rsqrt_coe, if_neg (not_lt.mpr h.le), if_neg h.ne']

theorem div_real (a : ℝ) {b : ℝ} (h : b ≠ 0) : Ideal.div (a : EReal) (b : EReal) = ((a / b : ℝ) : EReal) := by
  rw [Ideal.div_coe h, ← EReal.coe_mul, mul_one_div]

/-! The constants of the printed programs. -/

theorem lit_2048 : Ideal.ofBits .f32 0x45000000#32 = ((2048 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul, -EReal.coe_neg]; norm_num

/-- The rational that the float word of `1e-6` denotes. -/
def eps : ℝ := 8796093 / 8796093022208

theorem eps_pos : 0 < eps := by norm_num [eps]

theorem lit_eps : Ideal.ofBits .f32 0x358637BD#32 = ((eps : ℝ) : EReal) := by
  simp [Ideal.ofBits, Ideal.ieee, -EReal.coe_mul, eps]; norm_num

theorem lit_top : Ideal.ofBits .f32 0x7F800000#32 = (⊤ : EReal) := by
  simp [Ideal.ofBits, Ideal.ieee]

/-- An extended real whose absolute value is below `⊤` is a real. -/
theorem real_of_abs {x : EReal} (h : max x (-x) < ⊤) : ∃ r : ℝ, x = (r : EReal) := by
  induction x using EReal.rec with
  | bot => simp at h
  | coe r => exact ⟨r, rfl⟩
  | top => simp at h

/-- An array of reals. -/
def IsReal {ι : Type*} (x : ι → EReal) : Prop := ∃ X : ι → ℝ, x = fun i => (X i : EReal)

theorem isReal_of {ι : Type*} {x : ι → EReal} (h : ∀ i, ∃ r : ℝ, x i = (r : EReal)) : IsReal x :=
  ⟨fun i => (h i).choose, funext fun i => (h i).choose_spec⟩

/-- A printed `jnp.all(jnp.abs(x) < jnp.inf)` that answers one says that `x` is an array of reals. -/
theorem isReal_of_finite {s t u : Shape} {axes : List (Fin s.rank)} [Subsingleton t.Idx] (x : FVec Ideal s .f32) (L : FVec Ideal s .f32)
    (init : IVec u 1) (h : s.ReducesTo axes t) (hu : 0 < u.numel) (j : t.Idx) (hL : ∀ i, L i = (⊤ : EReal))
    (e : Host.reduce IntOp.andi (cmpf .olt (Host.absf x) L) init h hu j = 1#1) : IsReal x := by
  refine isReal_of fun i => real_of_abs ?_
  have := Host.reduce_andi_all _ _ h hu j e i
  change Ideal.cmp .olt (max (x i) (-(x i))) (L i) = 1#1 at this
  rw [hL] at this
  by_contra hn
  simp only [Ideal.cmp, decide_eq_false hn] at this
  exact absurd this (by decide)

theorem andi_left {a b : BitVec 1} (h : IntOp.andi a b = 1#1) : a = 1#1 := by
  revert a b; decide
theorem andi_right {a b : BitVec 1} (h : IntOp.andi a b = 1#1) : b = 1#1 := by
  revert a b; decide

end Cert.Reals

end
-- ==== Proof.NormRow.lean ====
/- One row of a root-mean-square norm and its gradient, over the reals. `L` is the row's length as the programs write
   it (a constant), `X` the row, `D` the cotangent, `G` the gain. -/
module

public import proofs.«01_k».proof.Proof.Reals

@[expose] public section

noncomputable section

namespace Cert.NormRow

open Idealize.ShloMosaic Cert.Reals
open scoped BigOperators

variable {n : Nat} (L : ℝ) (X D G : Fin n → ℝ)

/-- The mean square plus `eps`. -/
def ms : ℝ := (∑ k, X k * X k) / L + eps

/-- Its reciprocal root. -/
def rs : ℝ := (Real.sqrt (ms L X))⁻¹

/-- The gradient as the kernels write it: `r (dyg - xh mean(dyg xh))`. -/
def grad (j : Fin n) : ℝ := rs L X * (D j * G j - X j * rs L X * ((∑ k, D k * G k * (X k * rs L X)) / L))

variable {L}

theorem ms_pos (hL : 0 < L) : 0 < ms L X :=
  add_pos_of_nonneg_of_pos (div_nonneg (Finset.sum_nonneg fun k _ => mul_self_nonneg (X k)) hL.le) eps_pos

theorem rs_sq (hL : 0 < L) : rs L X * rs L X = (ms L X)⁻¹ := by
  unfold rs
  rw [← mul_inv, Real.mul_self_sqrt (ms_pos X hL).le]

theorem ms_ideal (hL : 0 < L) : Ideal.div (∑ k, (X k : EReal) * (X k : EReal)) (L : EReal) + (eps : EReal) = ((ms L X : ℝ) : EReal) := by
  simp only [← EReal.coe_mul, coe_sum, div_real _ hL.ne', ← EReal.coe_add, ms]

theorem rs_ideal (hL : 0 < L) : Ideal.rsqrt (Ideal.div (∑ k, (X k : EReal) * (X k : EReal)) (L : EReal) + (eps : EReal)) = ((rs L X : ℝ) : EReal) := by
  rw [ms_ideal X hL, rsqrt_pos (ms_pos X hL), rs]

/-- The gradient as the kernels compute it, with the row and its cotangent real. -/
theorem grad_ideal (hL : 0 < L) (j : Fin n) (r : EReal) (hr : r = ((rs L X : ℝ) : EReal)) :
    r * ((D j : EReal) * (G j : EReal) - (X j : EReal) * r * Ideal.div (∑ k, (D k : EReal) * (G k : EReal) * ((X k : EReal) * r)) (L : EReal))
      = ((grad L X D G j : ℝ) : EReal) := by
  subst hr
  simp only [← EReal.coe_mul, coe_sum, div_real _ hL.ne', ← EReal.coe_sub, grad]

/-- The gradient as automatic differentiation writes it: the factor's derivative `-1/2 r / ms`, and the square's
    derivative added once for each of its two factors. -/
theorem grad_eq (hL : 0 < L) (j : Fin n) :
    D j * G j * rs L X + X j * ((∑ k, X k * (D k * G k)) * (-(1 / 2) * (rs L X / ms L X)) / L)
        + (∑ k, X k * (D k * G k)) * (-(1 / 2) * (rs L X / ms L X)) / L * X j = grad L X D G j := by
  have e : (∑ k, D k * G k * (X k * rs L X)) = (∑ k, X k * (D k * G k)) * rs L X := by
    rw [Finset.sum_mul]; exact Finset.sum_congr rfl fun k _ => by ring
  unfold grad
  rw [e]
  generalize hs : (∑ k, X k * (D k * G k)) = s
  have h2 := rs_sq X hL
  have : rs L X / ms L X = rs L X * (rs L X * rs L X) := by rw [h2, div_eq_mul_inv]
  rw [this]
  field_simp
  ring

end Cert.NormRow

end
-- ==== Proof.NormValue.lean ====
module
public import proofs.«01_k».proof.Proof.NormRow
public import proofs.«01_k».proof.Proof.Gen.NormIdeal.Value
public import Idealize.ShloMosaic.Lib.Pipeline.ValueKit

@[expose] public section

set_option maxRecDepth 16384

noncomputable section

namespace Cert.NormValue

open Idealize.ShloMosaic Idealize.SL.Sem Cert.Reals Cert.NormRow
open Cert.NormIdeal Cert.NormIdeal.Gen

variable (m : (ℓ : Loc nD τ sig) → Buf (Elt Ideal) ℓ) (c : Dev nD)

theorem idx (t : Fin cfg0.N) : win0_0.index t = ![t.val, 0] ∧ win0_1.index t = ![t.val, 0] ∧ win0_2.index t = ![0, 0] ∧ win0_3.index t = ![t.val, 0]
    ∧ win0_4.index t = ![t.val, 0] ∧ win0_5.index t = ![0, 0] := by
  revert t; decide +kernel

/-- Row `r` of block `t`. -/
def row (t : Fin cfg0.N) (r : Fin 512) : Fin 8192 := ⟨t.val * 512 + r.val, by have := t.isLt; have : cfg0.N = 16 := rfl; omega⟩

variable {m c}

theorem read0 {A : S8192x2048.Idx → EReal} (h : m ((c.tc : Thread nD τ).loc main_arg0) = A) (t : Fin cfg0.N) (r : Fin 512) (k : Fin 2048) :
    iblk m c 0 t (ix2 r k) = A (ix2 (row t r) k) := by
  subst h; blk_ext [iblk, V, idx t, row]
theorem read1 {A : S8192x2048.Idx → EReal} (h : m ((c.tc : Thread nD τ).loc main_arg1) = A) (t : Fin cfg0.N) (r : Fin 512) (k : Fin 2048) :
    iblk m c 1 t (ix2 r k) = A (ix2 (row t r) k) := by
  subst h; blk_ext [iblk, V, idx t, row]
theorem read2 {A : S1x2048.Idx → EReal} (h : m ((c.tc : Thread nD τ).loc main_arg2) = A) (t : Fin cfg0.N) (r : Fin 1) (k : Fin 2048) :
    iblk m c 2 t (ix2 r k) = A (ix2 0 k) := by
  subst h; blk_ext [iblk, V, idx t]
theorem read3 {A : S8192x2048.Idx → EReal} (h : m ((c.tc : Thread nD τ).loc main_arg3) = A) (t : Fin cfg0.N) (r : Fin 512) (k : Fin 2048) :
    iblk m c 3 t (ix2 r k) = A (ix2 (row t r) k) := by
  subst h; blk_ext [iblk, V, idx t, row]

/-- Row `s` of a matrix. -/
def rowOf (X : S8192x2048.Idx → ℝ) (s : Fin 8192) (k : Fin 2048) : ℝ := X (ix2 s k)

variable {D X : S8192x2048.Idx → ℝ} {G : S1x2048.Idx → ℝ}

/-- The residual's gradient plus the norm's. -/
def dx (D X : S8192x2048.Idx → ℝ) (G : S1x2048.Idx → ℝ) (R : S8192x2048.Idx → EReal) (i : S8192x2048.Idx) : EReal :=
  R i + ((grad 2048 (rowOf X (i 0)) (rowOf D (i 0)) (fun k => G (ix2 0 k)) (i 1) : ℝ) : EReal)

/-- The gain's gradient: the sum over the rows. -/
def dg (D X : S8192x2048.Idx → ℝ) (k : Fin 2048) : ℝ := ∑ s : Fin 8192, D (ix2 s k) * (X (ix2 s k) * rs 2048 (rowOf X s))

theorem rsqrt_row (X : S8192x2048.Idx → ℝ) (s : Fin 8192) :
    Ideal.rsqrt (Ideal.div (∑ k, (X (ix2 s k) : EReal) * (X (ix2 s k) : EReal)) ((2048 : ℝ) : EReal) + (eps : EReal))
      = ((rs 2048 (rowOf X s) : ℝ) : EReal) :=
  rs_ideal (rowOf X s) (by norm_num)

/-- What one grid point writes of the first result. -/
theorem block_dx (h0 : m ((c.tc : Thread nD τ).loc main_arg0) = fun i => (D i : EReal)) (h1 : m ((c.tc : Thread nD τ).loc main_arg1) = fun i => (X i : EReal))
    (h2 : m ((c.tc : Thread nD τ).loc main_arg2) = fun i => (G i : EReal)) (t : Fin cfg0.N) (r : Fin 512) (k : Fin 2048) :
    k0_pay5 (iblk m c 1 t) (iblk m c 0 t) (iblk m c 2 t) (iblk m c 3 t) (ix2 r k)
      = dx D X G (m ((c.tc : Thread nD τ).loc main_arg3)) (ix2 (row t r) k) := by
  pointwise [k0_pay5, k0_pay3, k0_pay2]
  simp only [read0 h0, read1 h1, read2 h2, read3 rfl, lit_2048, lit_eps, rsqrt_row]
  exact congrArg (HAdd.hAdd (α := EReal) (β := EReal) _) (grad_ideal (rowOf X _) (rowOf D _) (fun k => G (ix2 0 k)) (by norm_num) k _ rfl)

/-- What one grid point adds to the second result. -/
theorem block_dg (h0 : m ((c.tc : Thread nD τ).loc main_arg0) = fun i => (D i : EReal)) (h1 : m ((c.tc : Thread nD τ).loc main_arg1) = fun i => (X i : EReal))
    (t : Fin cfg0.N) (acc : Vec Ideal S1x2048 .f32) (j : S1x2048.Idx) :
    k0_pay4 (iblk m c 1 t) (iblk m c 0 t) acc j = acc j
      + ((∑ r : Fin 512, D (ix2 (row t r) (j 1)) * (X (ix2 (row t r) (j 1)) * rs 2048 (rowOf X (row t r))) : ℝ) : EReal) := by
  idx_vars j
  pointwise [k0_pay4, k0_pay3, k0_pay2]
  simp only [read0 h0, read1 h1, lit_2048, lit_eps, rsqrt_row]
  simp only [← EReal.coe_mul, coe_sum]

theorem kernel_dx (h0 : m ((c.tc : Thread nD τ).loc main_arg0) = fun i => (D i : EReal)) (h1 : m ((c.tc : Thread nD τ).loc main_arg1) = fun i => (X i : EReal))
    (h2 : m ((c.tc : Thread nD τ).loc main_arg2) = fun i => (G i : EReal)) :
    (dats m 0 c).arrAt 4 cfg0.N = dx D X G (m ((c.tc : Thread nD τ).loc main_arg3)) := by
  refine (dats m 0 c).arrAt_eq_of_covers 4 _ (by decide +kernel) fun t hf y => ?_
  blk_simp
  rw [after0_4]
  have e : k0_pay5 (iblk m c 1 t) (iblk m c 0 t) (iblk m c 2 t) (iblk m c 3 t) y
      = dx D X G (m ((c.tc : Thread nD τ).loc main_arg3)) (((View.whole main_v0_0).slice (win0_4.rect t)).emb y) := by
    idx_vars y
    rw [block_dx h0 h1 h2]
    refine congrArg _ ?_
    blk_ext [idx t, row]
  by_cases h0 : t.val % 16 = 0
  · rw [outsAt0_A m c t h0]; frame_out; exact e
  · rw [outsAt0_B m c t h0]; frame_out; exact e

theorem kernel_dg (h0 : m ((c.tc : Thread nD τ).loc main_arg0) = fun i => (D i : EReal)) (h1 : m ((c.tc : Thread nD τ).loc main_arg1) = fun i => (X i : EReal)) :
    (dats m 0 c).arrAt 5 cfg0.N = fun j : S1x2048.Idx => ((dg D X (j 1) : ℝ) : EReal) := by
  have e : ∀ j : S1x2048.Idx, (outsAt0 m c t0_15.val t0_15.isLt).2 j = ((dg D X (j 1) : ℝ) : EReal) := fun j => by
    rw [Pipeline.eq_sum_fin_of_reset_step_apply_last (fun n h => (outsAt0 m c n h).2) 16 (fun _ => 0) _
      (fun t h j => by rw [outsAt0_A m c t h]; frame_out; rw [block_dg h0 h1]; pointwise [k0_pay1]; rfl)
      (fun t h j => by rw [outsAt0_B m c t h]; frame_out; rw [block_dg h0 h1])
      (le_of_eq N_0) t0_15 rfl j, zero_add, coe_sum]
    refine congrArg _ ?_
    unfold dg
    exact Fin.sum_mul_add_congr fun t r _ => rfl
  refine (dats m 0 c).arrAt_eq_of_after_last 5 t0_15 (by decide +kernel) _ fun j => ?_
  rw [after0_5]
  exact e j

end Cert.NormValue
end
-- ==== Proof.NormRef.lean ====
module
public import proofs.«01_k».proof.Proof.NormValue
public import proofs.«01_k».proof.Proof.Gen.NormRefIdeal.Read

@[expose] public section

set_option maxRecDepth 16384

noncomputable section

namespace Cert.NormRef

open Idealize.ShloMosaic Idealize.SL.Sem Cert.Reals Cert.NormRow Cert.NormValue
open Cert.NormRefIdeal Cert.NormRefIdeal.Gen Cert.NormRefIdeal.Read

variable (D X : S8192x2048.Idx → ℝ) (G : S1x2048.Idx → ℝ)

theorem v6 (s : Fin 8192) : val_main_v6 (F := Ideal) (fun i => (X i : EReal)) (ix2 s 0) = ((ms 2048 (rowOf X s) : ℝ) : EReal) := by
  unfold val_main_v6 val_main_v5 val_main_v4 val_main_v3 val_main_v2 val_main_v1 val_main_v0 val_main_cst val_main_cst_0 val_main_cst_1
  pointwise
  rw [lit_2048, lit_eps]
  exact ms_ideal (rowOf X s) (by norm_num)

theorem v7 (s : Fin 8192) : val_main_v7 (F := Ideal) (fun i => (X i : EReal)) (ix2 s 0) = ((rs 2048 (rowOf X s) : ℝ) : EReal) := by
  unfold val_main_v7
  pointwise [v6]
  rw [rsqrt_pos (ms_pos _ (by norm_num))]
  rfl

theorem v10 (s : Fin 8192) : val_main_v10 (F := Ideal) (fun i => (X i : EReal)) (ix2 s 0)
    = ((-(1 / 2) * (rs 2048 (rowOf X s) / ms 2048 (rowOf X s)) : ℝ) : EReal) := by
  unfold val_main_v10 val_main_v9 val_main_v8 val_main_cst_2
  pointwise [v6, v7]
  rw [lit_neg_half, div_real _ (ms_pos _ (by norm_num)).ne', ← EReal.coe_mul]

theorem v21 (s : Fin 8192) (k : Fin 2048) : val_main_v21 (F := Ideal) (fun i => (D i : EReal)) (fun i => (G i : EReal)) (ix2 s k)
    = ((D (ix2 s k) * G (ix2 0 k) : ℝ) : EReal) := by
  unfold val_main_v21 val_main_v20 val_main_v14 val_main_v13
  pointwise
  rw [← EReal.coe_mul]

theorem v31 (s : Fin 8192) : val_main_v31 (F := Ideal) (fun i => (D i : EReal)) (fun i => (X i : EReal)) (fun i => (G i : EReal)) (ix2 s 0)
    = (((∑ k, X (ix2 s k) * (D (ix2 s k) * G (ix2 0 k))) * (-(1 / 2) * (rs 2048 (rowOf X s) / ms 2048 (rowOf X s))) / 2048 : ℝ) : EReal) := by
  unfold val_main_v31 val_main_v29 val_main_v26 val_main_v25 val_main_v24 val_main_v30 val_main_cst_6 val_main_cst_5
  pointwise [v21, v10]
  simp only [← EReal.coe_mul, coe_sum, lit_2048, div_real _ (show (2048 : ℝ) ≠ 0 by norm_num)]

theorem ref_dx (R : S8192x2048.Idx → EReal) :
    val_main_v38 (F := Ideal) (fun i => (D i : EReal)) (fun i => (X i : EReal)) (fun i => (G i : EReal)) R = dx D X G R := by
  funext i
  idx_vars i
  unfold val_main_v38 val_main_v37 val_main_v36 val_main_v35 val_main_v34 val_main_v33 val_main_v32 val_main_v28 val_main_v27 val_main_cst_7
  pointwise [v21, v7]
  simp only [Fin.sum_univ_one, v31, ← EReal.coe_mul, ← EReal.coe_add]
  rw [add_comm]
  exact congrArg (fun z : ℝ => R (ix2 i0 i1) + (z : EReal)) (grad_eq (rowOf X i0) (rowOf D i0) (fun k => G (ix2 0 k)) (by norm_num) i1)

theorem ref_dg (j : S1x2048.Idx) :
    val_main_v23 (F := Ideal) (fun i => (D i : EReal)) (fun i => (X i : EReal)) j = ((dg D X (j 1) : ℝ) : EReal) := by
  idx_vars j
  unfold val_main_v23 val_main_v22 val_main_v19 val_main_v18 val_main_v17 val_main_v12 val_main_v11 val_main_cst_4 val_main_cst_3
  pointwise [v7]
  simp only [Fin.sum_univ_one, ← EReal.coe_mul, coe_sum]
  refine congrArg _ (Finset.sum_congr rfl fun s _ => ?_)
  ring

end Cert.NormRef
end
-- ==== Proof.NormClaim.lean ====
module
public import proofs.«01_k».proof.Proof.NormRef
public import proofs.«01_k».proof.Defs
public import proofs.«01_k».proof.Proof.Gen.Pre_norm_finite
public import Idealize.ShloMosaic.Lib.Claim

@[expose] public section

set_option maxRecDepth 16384

noncomputable section

namespace Cert.NormClaim

open Idealize.ShloMosaic Idealize.SL.Sem Cert.Reals Cert.NormRow Cert.NormValue

/-- The precondition says that the cotangent, the input and the gain are arrays of reals. -/
theorem reals {D X : FVec Ideal NormIdeal.S8192x2048 .f32} {G : FVec Ideal NormIdeal.S1x2048 .f32} {R : FVec Ideal NormIdeal.S8192x2048 .f32}
    (h : Cert.Pre_norm_finite.fn (F := Ideal) D X G R = fun _ => 1#1) : IsReal D ∧ IsReal X ∧ IsReal G := by
  have h' := congrFun h (fun a => a.elim0)
  have hs : Subsingleton (Cert.Pre_norm_finite.S_).Idx := ⟨fun a b => funext fun i => i.elim0⟩
  have h01 := andi_left h'
  refine ⟨isReal_of_finite _ _ _ _ _ _ (fun i => ?_) (andi_left h01), isReal_of_finite _ _ _ _ _ _ (fun i => ?_) (andi_right h01),
    isReal_of_finite _ _ _ _ _ _ (fun i => ?_) (andi_right h')⟩ <;> exact lit_top

theorem holds : Cert.algebraic_NormIdeal_NormRefIdeal_pre_norm_finite := by
  pair_intro
  · run_from Cert.NormIdeal.Value.run_blocks m g
  have hc : ∀ c : Dev NormIdeal.nD, ∃ (D X : NormIdeal.S8192x2048.Idx → ℝ) (G : NormIdeal.S1x2048.Idx → ℝ),
      m ((c.tc : Thread NormIdeal.nD NormIdeal.τ).loc NormIdeal.main_arg0) = (fun i => (D i : EReal))
      ∧ m ((c.tc : Thread NormIdeal.nD NormIdeal.τ).loc NormIdeal.main_arg1) = (fun i => (X i : EReal))
      ∧ m ((c.tc : Thread NormIdeal.nD NormIdeal.τ).loc NormIdeal.main_arg2) = (fun i => (G i : EReal)) := fun c => by
    obtain ⟨⟨D, hD⟩, ⟨X, hX⟩, ⟨G, hG⟩⟩ := reals (hpre c)
    exact ⟨D, X, G, hD, hX, hG⟩
  run_from Cert.NormRefIdeal.Value.run m' g'
  · obtain ⟨D, X, G, hD, hX, hG⟩ := hc c
    obtain ⟨a0, a1, a2, a3⟩ := hagree c
    rw [NormRefIdeal.Read.val_main_v38_eq, a0, a1, a2, a3, kernel_dx hD hX hG]
    rw [hD, hX, hG]
    exact NormRef.ref_dx D X G _
  · obtain ⟨D, X, G, hD, hX, hG⟩ := hc c
    rw [kernel_dg hD hX]
    refine (NormRefIdeal.Read.val_main_v23_eq _ _).trans ?_
    rw [hD, hX]
    exact funext fun j => NormRef.ref_dg D X j

/-- The reference's frame: it is straight host code and owns no semaphore. -/
theorem ref_frame : Cert.quiescent_NormRefIdeal := fun m ρ _ =>
  (θ_run Cert.NormRefIdeal.defs _ _).mono (fun r h => ⟨fun c => (h c).2.2, sem_eq_zero_of_no_sems (by decide) r.2⟩)
    (Cert.NormRefIdeal.Value.run m ρ)

end Cert.NormClaim
end
-- ==== Proof.LossValue.lean ====
module
public import proofs.«01_k».proof.Proof.NormValue
public import proofs.«01_k».proof.Proof.Gen.LossIdeal.Value

@[expose] public section

set_option maxRecDepth 16384

noncomputable section

namespace Cert.LossValue

open Idealize.ShloMosaic Idealize.SL.Sem Cert.Reals Cert.NormRow
open Cert.LossIdeal Cert.LossIdeal.Gen
open Cert.NormValue (rowOf dg rsqrt_row)

variable (m : (ℓ : Loc nD τ sig) → Buf (Elt Ideal) ℓ) (c : Dev nD)

theorem idx (t : Fin cfg0.N) : win0_0.index t = ![t.val, 0] ∧ win0_1.index t = ![0, 0] ∧ win0_2.index t = ![t.val, 0] ∧ win0_3.index t = ![t.val, 0]
    ∧ win0_4.index t = ![t.val, 0] ∧ win0_5.index t = ![0, 0] ∧ win0_6.index t = ![0, 0] := by
  revert t; decide +kernel

/-- Row `r` of block `t`. -/
def row (t : Fin cfg0.N) (r : Fin 512) : Fin 8192 := ⟨t.val * 512 + r.val, by have := t.isLt; have : cfg0.N = 16 := rfl; omega⟩

theorem lit_half : Ideal.ofBits .f32 0x3F000000#32 = ((1 / 2 : ℝ) : EReal) := by
  simp [Ideal.ofBits, Ideal.ieee, -EReal.coe_mul]; norm_num

theorem lit_inv_2048 : Ideal.ofBits .f32 0x3A000000#32 = ((1 / 2048 : ℝ) : EReal) := by
  simp [Ideal.ofBits, Ideal.ieee, -EReal.coe_mul]; norm_num

variable {m c}

theorem read0 {A : S8192x2048.Idx → EReal} (h : m ((c.tc : Thread nD τ).loc main_arg0) = A) (t : Fin cfg0.N) (r : Fin 512) (k : Fin 2048) :
    iblk m c 0 t (ix2 r k) = A (ix2 (row t r) k) := by
  subst h; blk_ext [iblk, V, idx t, row]
theorem V_gain : V m c main_v0 = shapeCast S1x2048 (m ((c.tc : Thread nD τ).loc main_arg1)) shapeCasts_S2048_S1x2048 := by
  unfold V
  after_results_simp <;> rfl

theorem read1 {A : S2048.Idx → EReal} (h : m ((c.tc : Thread nD τ).loc main_arg1) = A) (t : Fin cfg0.N) (r : Fin 1) (k : Fin 2048) :
    iblk m c 1 t (ix2 r k) = A (ix1 k) := by
  subst h
  have e : iblk m c 1 t (ix2 r k) = V m c main_v0 (ix2 0 k) := by blk_ext [iblk, idx t]
  rw [e, V_gain]
  pointwise
theorem read2 {A : S8192x2048.Idx → EReal} (h : m ((c.tc : Thread nD τ).loc main_arg2) = A) (t : Fin cfg0.N) (r : Fin 512) (k : Fin 2048) :
    iblk m c 2 t (ix2 r k) = A (ix2 (row t r) k) := by
  subst h; blk_ext [iblk, V, idx t, row]

variable {X T : S8192x2048.Idx → ℝ} {G : S2048.Idx → ℝ}

/-- The normed row against its target. -/
def err (X : S8192x2048.Idx → ℝ) (G : S2048.Idx → ℝ) (T : S8192x2048.Idx → ℝ) (i : S8192x2048.Idx) : ℝ :=
  X i * rs 2048 (rowOf X (i 0)) * G (ix1 (i 1)) - T i

/-- The loss's derivative in the normed row. -/
def ct (X : S8192x2048.Idx → ℝ) (G : S2048.Idx → ℝ) (T : S8192x2048.Idx → ℝ) (i : S8192x2048.Idx) : ℝ := err X G T i * (1 / 2048)

/-- The loss: half the sum over the rows of the mean square error. -/
def loss (X : S8192x2048.Idx → ℝ) (G : S2048.Idx → ℝ) (T : S8192x2048.Idx → ℝ) : ℝ :=
  ∑ s : Fin 8192, 1 / 2 * ((∑ k, err X G T (ix2 s k) * err X G T (ix2 s k)) / 2048)

/-- The loss's gradient. -/
def dx (X : S8192x2048.Idx → ℝ) (G : S2048.Idx → ℝ) (T : S8192x2048.Idx → ℝ) (i : S8192x2048.Idx) : ℝ :=
  grad 2048 (rowOf X (i 0)) (rowOf (ct X G T) (i 0)) (fun k => G (ix1 k)) (i 1)

theorem block_err (h0 : m ((c.tc : Thread nD τ).loc main_arg0) = fun i => (X i : EReal)) (h1 : m ((c.tc : Thread nD τ).loc main_arg1) = fun i => (G i : EReal))
    (h2 : m ((c.tc : Thread nD τ).loc main_arg2) = fun i => (T i : EReal)) (t : Fin cfg0.N) (r : Fin 512) (k : Fin 2048) :
    k0_pay9 (iblk m c 0 t) (iblk m c 1 t) (iblk m c 2 t) (ix2 r k) = ((err X G T (ix2 (row t r) k) : ℝ) : EReal) := by
  pointwise [k0_pay9, k0_pay8, k0_pay7, k0_pay6]
  simp only [read0 h0, read1 h1, read2 h2, lit_2048, lit_eps, rsqrt_row]
  simp only [← EReal.coe_mul, ← EReal.coe_sub]
  rfl

theorem block_ct (h0 : m ((c.tc : Thread nD τ).loc main_arg0) = fun i => (X i : EReal)) (h1 : m ((c.tc : Thread nD τ).loc main_arg1) = fun i => (G i : EReal))
    (h2 : m ((c.tc : Thread nD τ).loc main_arg2) = fun i => (T i : EReal)) (t : Fin cfg0.N) (r : Fin 512) (k : Fin 2048) :
    k0_pay11 (iblk m c 0 t) (iblk m c 1 t) (iblk m c 2 t) (ix2 r k) = ((ct X G T (ix2 (row t r) k) : ℝ) : EReal) := by
  pointwise [k0_pay11, block_err h0 h1 h2]
  rw [lit_inv_2048, ← EReal.coe_mul]
  rfl

/-- What one grid point writes of the first result. -/
theorem block_dx (h0 : m ((c.tc : Thread nD τ).loc main_arg0) = fun i => (X i : EReal)) (h1 : m ((c.tc : Thread nD τ).loc main_arg1) = fun i => (G i : EReal))
    (h2 : m ((c.tc : Thread nD τ).loc main_arg2) = fun i => (T i : EReal)) (t : Fin cfg0.N) (r : Fin 512) (k : Fin 2048) :
    k0_pay2 (k0_pay6 (iblk m c 1 t)) (k0_pay7 (iblk m c 0 t)) (k0_pay8 (iblk m c 0 t)) (k0_pay11 (iblk m c 0 t) (iblk m c 1 t) (iblk m c 2 t)) (ix2 r k)
      = ((dx X G T (ix2 (row t r) k) : ℝ) : EReal) := by
  pointwise [k0_pay2, block_ct h0 h1 h2, k0_pay8, k0_pay7, k0_pay6]
  simp only [read0 h0, read1 h1, lit_2048, lit_eps, rsqrt_row]
  exact grad_ideal (rowOf X _) (rowOf (ct X G T) _) (fun k => G (ix1 k)) (by norm_num) k _ rfl

/-- What one grid point adds to the loss. -/
theorem block_loss (h0 : m ((c.tc : Thread nD τ).loc main_arg0) = fun i => (X i : EReal)) (h1 : m ((c.tc : Thread nD τ).loc main_arg1) = fun i => (G i : EReal))
    (h2 : m ((c.tc : Thread nD τ).loc main_arg2) = fun i => (T i : EReal)) (t : Fin cfg0.N) (acc : Vec Ideal S8x128 .f32) (j : S8x128.Idx) :
    k0_pay10 (iblk m c 0 t) (iblk m c 1 t) (iblk m c 2 t) acc j = acc j
      + ((∑ r : Fin 512, 1 / 2 * ((∑ k, err X G T (ix2 (row t r) k) * err X G T (ix2 (row t r) k)) / 2048) : ℝ) : EReal) := by
  idx_vars j
  pointwise [k0_pay10, block_err h0 h1 h2]
  simp only [lit_half, lit_2048]
  simp only [← EReal.coe_mul, coe_sum, div_real _ (show (2048 : ℝ) ≠ 0 by norm_num), Fin.sum_univ_one, ← Finset.mul_sum]

/-- What one grid point adds to the gain's gradient. -/
theorem block_dg (h0 : m ((c.tc : Thread nD τ).loc main_arg0) = fun i => (X i : EReal)) (h1 : m ((c.tc : Thread nD τ).loc main_arg1) = fun i => (G i : EReal))
    (h2 : m ((c.tc : Thread nD τ).loc main_arg2) = fun i => (T i : EReal)) (t : Fin cfg0.N) (acc : Vec Ideal S1x2048 .f32) (j : S1x2048.Idx) :
    k0_pay1 (k0_pay8 (iblk m c 0 t)) (k0_pay11 (iblk m c 0 t) (iblk m c 1 t) (iblk m c 2 t)) acc j = acc j
      + ((∑ r : Fin 512, ct X G T (ix2 (row t r) (j 1)) * (X (ix2 (row t r) (j 1)) * rs 2048 (rowOf X (row t r))) : ℝ) : EReal) := by
  idx_vars j
  pointwise [k0_pay1, block_ct h0 h1 h2, k0_pay8, k0_pay7]
  simp only [read0 h0, lit_2048, lit_eps, rsqrt_row]
  simp only [← EReal.coe_mul, coe_sum]

theorem kernel_dx (h0 : m ((c.tc : Thread nD τ).loc main_arg0) = fun i => (X i : EReal)) (h1 : m ((c.tc : Thread nD τ).loc main_arg1) = fun i => (G i : EReal))
    (h2 : m ((c.tc : Thread nD τ).loc main_arg2) = fun i => (T i : EReal)) :
    (dats m 0 c).arrAt 3 cfg0.N = fun i : S8192x2048.Idx => ((dx X G T i : ℝ) : EReal) := by
  refine (dats m 0 c).arrAt_eq_of_covers 3 _ (by decide +kernel) fun t hf y => ?_
  blk_simp
  rw [after0_3]
  have e : k0_pay2 (k0_pay6 (iblk m c 1 t)) (k0_pay7 (iblk m c 0 t)) (k0_pay8 (iblk m c 0 t)) (k0_pay11 (iblk m c 0 t) (iblk m c 1 t) (iblk m c 2 t)) y
      = ((dx X G T (((View.whole main_v1_0).slice (win0_3.rect t)).emb y) : ℝ) : EReal) := by
    idx_vars y
    rw [block_dx h0 h1 h2]
    refine congrArg (fun i => ((dx X G T i : ℝ) : EReal)) ?_
    blk_ext [idx t, row]
  by_cases h0 : t.val % 16 = 0
  · rw [outsAt0_A m c t h0]; frame_out; exact e
  · rw [outsAt0_B m c t h0]; frame_out; exact e

theorem kernel_dxb (h0 : m ((c.tc : Thread nD τ).loc main_arg0) = fun i => (X i : EReal)) (h1 : m ((c.tc : Thread nD τ).loc main_arg1) = fun i => (G i : EReal))
    (h2 : m ((c.tc : Thread nD τ).loc main_arg2) = fun i => (T i : EReal)) :
    (dats m 0 c).arrAt 4 cfg0.N = fun i : S8192x2048.Idx => ((dx X G T i : ℝ) : EReal) := by
  refine (dats m 0 c).arrAt_eq_of_covers 4 _ (by decide +kernel) fun t hf y => ?_
  blk_simp
  rw [after0_4]
  have e : k0_pay3 (k0_pay6 (iblk m c 1 t)) (k0_pay7 (iblk m c 0 t)) (k0_pay8 (iblk m c 0 t)) (k0_pay11 (iblk m c 0 t) (iblk m c 1 t) (iblk m c 2 t)) y
      = ((dx X G T (((View.whole main_v1_1).slice (win0_4.rect t)).emb y) : ℝ) : EReal) := by
    idx_vars y
    refine (block_dx h0 h1 h2 t y0 y1).trans (congrArg (fun i => ((dx X G T i : ℝ) : EReal)) ?_)
    blk_ext [idx t, row]
  by_cases h0 : t.val % 16 = 0
  · rw [outsAt0_A m c t h0]; frame_out; exact e
  · rw [outsAt0_B m c t h0]; frame_out; exact e

/-- The last grid point. -/
def tLast : Fin cfg0.N := ⟨15, by decide +kernel⟩

theorem kernel_loss (h0 : m ((c.tc : Thread nD τ).loc main_arg0) = fun i => (X i : EReal)) (h1 : m ((c.tc : Thread nD τ).loc main_arg1) = fun i => (G i : EReal))
    (h2 : m ((c.tc : Thread nD τ).loc main_arg2) = fun i => (T i : EReal)) :
    (dats m 0 c).arrAt 5 cfg0.N = fun _ : S8x128.Idx => ((loss X G T : ℝ) : EReal) := by
  have e : ∀ j : S8x128.Idx, (outsAt0 m c tLast.val tLast.isLt).2.2.1 j = ((loss X G T : ℝ) : EReal) := fun j => by
    rw [Pipeline.eq_sum_fin_of_reset_step_apply_last (fun n h => (outsAt0 m c n h).2.2.1) 16 (fun _ => 0) _
      (fun t h j => by rw [outsAt0_A m c t h]; frame_out; rw [block_loss h0 h1 h2]; pointwise [k0_pay4]; rfl)
      (fun t h j => by rw [outsAt0_B m c t h]; frame_out; rw [block_loss h0 h1 h2])
      (le_of_eq N_0) tLast rfl j, zero_add, coe_sum]
    refine congrArg _ ?_
    unfold loss
    exact Fin.sum_mul_add_congr fun t r _ => rfl
  refine (dats m 0 c).arrAt_eq_of_after_last 5 tLast (by decide +kernel) _ fun j => ?_
  rw [after0_5]
  exact e j

theorem kernel_dg (h0 : m ((c.tc : Thread nD τ).loc main_arg0) = fun i => (X i : EReal)) (h1 : m ((c.tc : Thread nD τ).loc main_arg1) = fun i => (G i : EReal))
    (h2 : m ((c.tc : Thread nD τ).loc main_arg2) = fun i => (T i : EReal)) :
    (dats m 0 c).arrAt 6 cfg0.N = fun j : S1x2048.Idx => ((dg (ct X G T) X (j 1) : ℝ) : EReal) := by
  have e : ∀ j : S1x2048.Idx, (outsAt0 m c tLast.val tLast.isLt).2.2.2 j = ((dg (ct X G T) X (j 1) : ℝ) : EReal) := fun j => by
    rw [Pipeline.eq_sum_fin_of_reset_step_apply_last (fun n h => (outsAt0 m c n h).2.2.2) 16 (fun _ => 0) _
      (fun t h j => by rw [outsAt0_A m c t h]; frame_out; rw [block_dg h0 h1 h2]; pointwise [k0_pay5]; rfl)
      (fun t h j => by rw [outsAt0_B m c t h]; frame_out; rw [block_dg h0 h1 h2])
      (le_of_eq N_0) tLast rfl j, zero_add, coe_sum]
    refine congrArg _ ?_
    unfold dg
    exact Fin.sum_mul_add_congr fun t r _ => rfl
  refine (dats m 0 c).arrAt_eq_of_after_last 6 tLast (by decide +kernel) _ fun j => ?_
  rw [after0_6]
  exact e j

end Cert.LossValue
end
-- ==== Proof.LossRef.lean ====
module
public import proofs.«01_k».proof.Proof.LossValue
public import proofs.«01_k».proof.Proof.Gen.LossRefIdeal.Read

@[expose] public section

set_option maxRecDepth 16384

noncomputable section

namespace Cert.LossRef

open Idealize.ShloMosaic Idealize.SL.Sem Cert.Reals Cert.NormRow Cert.LossValue
open Cert.NormValue (rowOf dg)
open Cert.LossRefIdeal Cert.LossRefIdeal.Gen Cert.LossRefIdeal.Read

variable (X T : S8192x2048.Idx → ℝ) (G : S2048.Idx → ℝ)

theorem lit_two : Ideal.ofBits .f32 0x40000000#32 = ((2 : ℝ) : EReal) := by
  simp [Ideal.ofBits, Ideal.ieee, -EReal.coe_mul]; norm_num

theorem v6 (s : Fin 8192) : val_main_v6 (F := Ideal) (fun i => (X i : EReal)) (ix2 s 0) = ((ms 2048 (rowOf X s) : ℝ) : EReal) := by
  unfold val_main_v6 val_main_v5 val_main_v4 val_main_v3 val_main_v2 val_main_v1 val_main_v0 val_main_cst val_main_cst_0 val_main_cst_1
  pointwise
  rw [lit_2048, lit_eps]
  exact ms_ideal (rowOf X s) (by norm_num)

theorem v7 (s : Fin 8192) : val_main_v7 (F := Ideal) (fun i => (X i : EReal)) (ix2 s 0) = ((rs 2048 (rowOf X s) : ℝ) : EReal) := by
  unfold val_main_v7
  pointwise [v6]
  rw [rsqrt_pos (ms_pos _ (by norm_num))]
  rfl

theorem v10 (s : Fin 8192) : val_main_v10 (F := Ideal) (fun i => (X i : EReal)) (ix2 s 0)
    = ((-(1 / 2) * (rs 2048 (rowOf X s) / ms 2048 (rowOf X s)) : ℝ) : EReal) := by
  unfold val_main_v10 val_main_v9 val_main_v8 val_main_cst_2
  pointwise [v6, v7]
  rw [lit_neg_half, div_real _ (ms_pos _ (by norm_num)).ne', ← EReal.coe_mul]

theorem v16 (s : Fin 8192) (k : Fin 2048) : val_main_v16 (F := Ideal) (fun i => (X i : EReal)) (fun i => (G i : EReal)) (fun i => (T i : EReal)) (ix2 s k)
    = ((err X G T (ix2 s k) : ℝ) : EReal) := by
  unfold val_main_v16 val_main_v15 val_main_v14 val_main_v13 val_main_v12 val_main_v11
  pointwise [v7]
  rw [← EReal.coe_mul, ← EReal.coe_mul, ← EReal.coe_sub]
  rfl

theorem v30 (s : Fin 8192) (k : Fin 2048) : val_main_v30 (F := Ideal) (fun i => (X i : EReal)) (fun i => (G i : EReal)) (fun i => (T i : EReal)) (ix2 s k)
    = ((ct X G T (ix2 s k) : ℝ) : EReal) := by
  unfold val_main_v30 val_main_v29 val_main_v28 val_main_v27 val_main_v26 val_main_v25 val_main_v19 val_main_v18 val_main_cst_10 val_main_cst_9
    val_main_cst_8 val_main_cst_3
  pointwise [v16]
  rw [lit_two, lit_half, lit_2048, ← EReal.coe_mul, div_real _ (show (2048 : ℝ) ≠ 0 by norm_num), ← EReal.coe_mul]
  refine congrArg _ ?_
  unfold ct
  ring

theorem v35 (s : Fin 8192) (k : Fin 2048) : val_main_v35 (F := Ideal) (fun i => (X i : EReal)) (fun i => (G i : EReal)) (fun i => (T i : EReal)) (ix2 s k)
    = ((ct X G T (ix2 s k) * G (ix1 k) : ℝ) : EReal) := by
  unfold val_main_v35 val_main_v34 val_main_v13
  pointwise [v30]
  rw [← EReal.coe_mul]

theorem v44 (s : Fin 8192) : val_main_v44 (F := Ideal) (fun i => (X i : EReal)) (fun i => (G i : EReal)) (fun i => (T i : EReal)) (ix2 s 0)
    = (((∑ k, X (ix2 s k) * (ct X G T (ix2 s k) * G (ix1 k))) * (-(1 / 2) * (rs 2048 (rowOf X s) / ms 2048 (rowOf X s))) / 2048 : ℝ) : EReal) := by
  unfold val_main_v44 val_main_v42 val_main_v39 val_main_v38 val_main_v37 val_main_v43 val_main_cst_14 val_main_cst_13
  pointwise [v35, v10]
  simp only [← EReal.coe_mul, coe_sum, lit_2048, div_real _ (show (2048 : ℝ) ≠ 0 by norm_num)]

theorem ref_dx (i : S8192x2048.Idx) :
    val_main_v50 (F := Ideal) (fun i => (X i : EReal)) (fun i => (G i : EReal)) (fun i => (T i : EReal)) i = ((dx X G T i : ℝ) : EReal) := by
  idx_vars i
  unfold val_main_v50 val_main_v49 val_main_v48 val_main_v47 val_main_v46 val_main_v45 val_main_v41 val_main_v40 val_main_cst_15
  pointwise [v35, v7]
  simp only [Fin.sum_univ_one, v44, ← EReal.coe_mul, ← EReal.coe_add]
  exact congrArg _ (grad_eq (rowOf X i0) (rowOf (ct X G T) i0) (fun k => G (ix1 k)) (by norm_num) i1)

theorem ref_dxb (i : S8192x2048.Idx) :
    val_main_v51 (F := Ideal) (fun i => (X i : EReal)) (fun i => (G i : EReal)) (fun i => (T i : EReal)) i = ((dx X G T i : ℝ) : EReal) :=
  ref_dx X T G i

theorem ref_loss (i : S8x128.Idx) :
    val_main_v52 (F := Ideal) (fun i => (X i : EReal)) (fun i => (G i : EReal)) (fun i => (T i : EReal)) i = ((loss X G T : ℝ) : EReal) := by
  idx_vars i
  unfold val_main_v52 val_main_v24 val_main_v23 val_main_v22 val_main_v21 val_main_v20 val_main_v17 val_main_cst_7 val_main_cst_6 val_main_cst_5 val_main_cst_4
  pointwise [v16]
  simp only [lit_half, lit_2048]
  simp only [← EReal.coe_mul, coe_sum, div_real _ (show (2048 : ℝ) ≠ 0 by norm_num)]
  rw [Finset.mul_sum]
  rfl

theorem ref_dg (j : S1x2048.Idx) :
    val_main_v53 (F := Ideal) (fun i => (X i : EReal)) (fun i => (G i : EReal)) (fun i => (T i : EReal)) j = ((dg (ct X G T) X (j 1) : ℝ) : EReal) := by
  idx_vars j
  unfold val_main_v53 val_main_v36 val_main_v33 val_main_v32 val_main_v31 val_main_v12 val_main_v11 val_main_cst_11 val_main_cst_12
  pointwise [v7, v30]
  simp only [Fin.sum_univ_one, ← EReal.coe_mul, coe_sum]
  refine congrArg _ (Finset.sum_congr rfl fun s _ => ?_)
  ring

end Cert.LossRef
end
-- ==== Proof.LossClaim.lean ====
module
public import proofs.«01_k».proof.Proof.LossRef
public import proofs.«01_k».proof.Defs
public import proofs.«01_k».proof.Proof.Gen.Pre_loss_finite
public import Idealize.ShloMosaic.Lib.Claim

@[expose] public section

set_option maxRecDepth 16384

noncomputable section

namespace Cert.LossClaim

open Idealize.ShloMosaic Idealize.SL.Sem Cert.Reals Cert.LossValue

/-- The precondition says that the input, the gain and the target are arrays of reals. -/
theorem reals {X : FVec Ideal LossIdeal.S8192x2048 .f32} {G : FVec Ideal LossIdeal.S2048 .f32} {T : FVec Ideal LossIdeal.S8192x2048 .f32}
    (h : Cert.Pre_loss_finite.fn (F := Ideal) X G T = fun _ => 1#1) : IsReal X ∧ IsReal G ∧ IsReal T := by
  have h' := congrFun h (fun a => a.elim0)
  have hs : Subsingleton (Cert.Pre_loss_finite.S_).Idx := ⟨fun a b => funext fun i => i.elim0⟩
  have h01 := andi_left h'
  refine ⟨isReal_of_finite _ _ _ _ _ _ (fun i => ?_) (andi_left h01), isReal_of_finite _ _ _ _ _ _ (fun i => ?_) (andi_right h01),
    isReal_of_finite _ _ _ _ _ _ (fun i => ?_) (andi_right h')⟩ <;> exact lit_top

theorem holds : Cert.algebraic_LossIdeal_LossRefIdeal_pre_loss_finite := by
  pair_intro
  · run_from Cert.LossIdeal.Value.run_blocks m g
  have hc : ∀ c : Dev LossIdeal.nD, ∃ (X T : LossIdeal.S8192x2048.Idx → ℝ) (G : LossIdeal.S2048.Idx → ℝ),
      m ((c.tc : Thread LossIdeal.nD LossIdeal.τ).loc LossIdeal.main_arg0) = (fun i => (X i : EReal))
      ∧ m ((c.tc : Thread LossIdeal.nD LossIdeal.τ).loc LossIdeal.main_arg1) = (fun i => (G i : EReal))
      ∧ m ((c.tc : Thread LossIdeal.nD LossIdeal.τ).loc LossIdeal.main_arg2) = (fun i => (T i : EReal)) := fun c => by
    obtain ⟨⟨X, hX⟩, ⟨G, hG⟩, ⟨T, hT⟩⟩ := reals (hpre c)
    exact ⟨X, T, G, hX, hG, hT⟩
  run_from Cert.LossRefIdeal.Value.run m' g'
  · obtain ⟨X, T, G, hX, hG, hT⟩ := hc c
    obtain ⟨a0, a1, a2⟩ := hagree c
    rw [LossRefIdeal.Read.val_main_v50_eq, a0, a1, a2, kernel_dx hX hG hT]
    rw [hX, hG, hT]
    exact funext (LossRef.ref_dx X T G)
  · obtain ⟨X, T, G, hX, hG, hT⟩ := hc c
    obtain ⟨a0, a1, a2⟩ := hagree c
    rw [LossRefIdeal.Read.val_main_v51_eq, a0, a1, a2, kernel_dxb hX hG hT]
    rw [hX, hG, hT]
    exact funext (LossRef.ref_dxb X T G)
  · obtain ⟨X, T, G, hX, hG, hT⟩ := hc c
    rw [kernel_loss hX hG hT]
    refine (LossRefIdeal.Read.val_main_v52_eq _ _ _).trans ?_
    rw [hX, hG, hT]
    exact funext (LossRef.ref_loss X T G)
  · obtain ⟨X, T, G, hX, hG, hT⟩ := hc c
    rw [kernel_dg hX hG hT]
    refine (LossRefIdeal.Read.val_main_v53_eq _ _ _).trans ?_
    rw [hX, hG, hT]
    exact funext (LossRef.ref_dg X T G)

/-- The reference's frame: it is straight host code and owns no semaphore. -/
theorem ref_frame : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run m ρ)

end Cert.LossClaim
end
-- ==== Proof.NormDyValue.lean ====
module
public import proofs.«01_k».proof.Proof.NormValue
public import proofs.«01_k».proof.Proof.Gen.NormDyIdeal.Value

@[expose] public section

set_option maxRecDepth 16384

noncomputable section

namespace Cert.NormDyValue

open Idealize.ShloMosaic Idealize.SL.Sem Cert.Reals Cert.NormRow
open Cert.NormDyIdeal Cert.NormDyIdeal.Gen
open Cert.NormValue (rowOf dx dg rsqrt_row)

variable (m : (ℓ : Loc nD τ sig) → Buf (Elt Ideal) ℓ) (c : Dev nD)

theorem idx (t : Fin cfg0.N) : win0_0.index t = ![t.val, 0] ∧ win0_1.index t = ![t.val, 0] ∧ win0_2.index t = ![0, 0] ∧ win0_3.index t = ![t.val, 0]
    ∧ win0_4.index t = ![0, 0] ∧ win0_5.index t = ![t.val, 0] ∧ win0_6.index t = ![t.val, 0] ∧ win0_7.index t = ![0, 0]
    ∧ win0_8.index t = ![t.val, 0] := by
  revert t; decide +kernel

/-- Row `r` of block `t`. -/
def row (t : Fin cfg0.N) (r : Fin 256) : Fin 8192 := ⟨t.val * 256 + r.val, by have := t.isLt; have : cfg0.N = 32 := rfl; omega⟩

variable {m c}

theorem read0 {A : S8192x2048.Idx → EReal} (h : m ((c.tc : Thread nD τ).loc main_arg0) = A) (t : Fin cfg0.N) (r : Fin 256) (k : Fin 2048) :
    iblk m c 0 t (ix2 r k) = A (ix2 (row t r) k) := by
  subst h; blk_ext [iblk, V, idx t, row]
theorem read1 {A : S8192x2048.Idx → EReal} (h : m ((c.tc : Thread nD τ).loc main_arg1) = A) (t : Fin cfg0.N) (r : Fin 256) (k : Fin 2048) :
    iblk m c 1 t (ix2 r k) = A (ix2 (row t r) k) := by
  subst h; blk_ext [iblk, V, idx t, row]
theorem read2 {A : S1x2048.Idx → EReal} (h : m ((c.tc : Thread nD τ).loc main_arg2) = A) (t : Fin cfg0.N) (r : Fin 1) (k : Fin 2048) :
    iblk m c 2 t (ix2 r k) = A (ix2 0 k) := by
  subst h; blk_ext [iblk, V, idx t]
theorem read3 {A : S8192x2048.Idx → EReal} (h : m ((c.tc : Thread nD τ).loc main_arg3) = A) (t : Fin cfg0.N) (r : Fin 256) (k : Fin 2048) :
    iblk m c 3 t (ix2 r k) = A (ix2 (row t r) k) := by
  subst h; blk_ext [iblk, V, idx t, row]
theorem read4 {A : S2048x2048.Idx → EReal} (h : m ((c.tc : Thread nD τ).loc main_arg4) = A) (t : Fin cfg0.N) (r k : Fin 2048) :
    iblk m c 4 t (ix2 r k) = A (ix2 r k) := by
  subst h; blk_ext [iblk, V, idx t]

variable {D X : S8192x2048.Idx → ℝ} {G : S1x2048.Idx → ℝ}

/-- What one grid point writes of the first result. -/
theorem block_dx (h0 : m ((c.tc : Thread nD τ).loc main_arg0) = fun i => (D i : EReal)) (h1 : m ((c.tc : Thread nD τ).loc main_arg1) = fun i => (X i : EReal))
    (h2 : m ((c.tc : Thread nD τ).loc main_arg2) = fun i => (G i : EReal)) (t : Fin cfg0.N) (r : Fin 256) (k : Fin 2048) :
    k0_pay7 (iblk m c 1 t) (iblk m c 0 t) (iblk m c 2 t) (iblk m c 3 t) (ix2 r k)
      = dx D X G (m ((c.tc : Thread nD τ).loc main_arg3)) (ix2 (row t r) k) := by
  pointwise [k0_pay7, k0_pay5, k0_pay4]
  simp only [read0 h0, read1 h1, read2 h2, read3 rfl, lit_2048, lit_eps, rsqrt_row]
  exact congrArg (HAdd.hAdd (α := EReal) (β := EReal) _) (grad_ideal (rowOf X _) (rowOf D _) (fun k => G (ix2 0 k)) (by norm_num) k _ rfl)

/-- The product with the output projection, transposed. -/
def dy (Y : S8192x2048.Idx → EReal) (W : S2048x2048.Idx → EReal) (i : S8192x2048.Idx) : EReal := ∑ k : Fin 2048, Y (ix2 (i 0) k) * W (ix2 (i 1) k)

/-- What one grid point writes of the fourth result. -/
theorem block_dy (h0 : m ((c.tc : Thread nD τ).loc main_arg0) = fun i => (D i : EReal)) (h1 : m ((c.tc : Thread nD τ).loc main_arg1) = fun i => (X i : EReal))
    (h2 : m ((c.tc : Thread nD τ).loc main_arg2) = fun i => (G i : EReal)) (t : Fin cfg0.N) (r : Fin 256) (k : Fin 2048) :
    k0_pay2 (k0_pay7 (iblk m c 1 t) (iblk m c 0 t) (iblk m c 2 t) (iblk m c 3 t)) (iblk m c 4 t) (ix2 r k)
      = dy (dx D X G (m ((c.tc : Thread nD τ).loc main_arg3))) (m ((c.tc : Thread nD τ).loc main_arg4)) (ix2 (row t r) k) := by
  pointwise [k0_pay2, k0_pay1]
  simp only [block_dx h0 h1 h2, read4 rfl]
  rfl

/-- What one grid point adds to the third result. -/
theorem block_dg (h0 : m ((c.tc : Thread nD τ).loc main_arg0) = fun i => (D i : EReal)) (h1 : m ((c.tc : Thread nD τ).loc main_arg1) = fun i => (X i : EReal))
    (t : Fin cfg0.N) (acc : Vec Ideal S1x2048 .f32) (j : S1x2048.Idx) :
    k0_pay6 (iblk m c 1 t) (iblk m c 0 t) acc j = acc j
      + ((∑ r : Fin 256, D (ix2 (row t r) (j 1)) * (X (ix2 (row t r) (j 1)) * rs 2048 (rowOf X (row t r))) : ℝ) : EReal) := by
  idx_vars j
  pointwise [k0_pay6, k0_pay5, k0_pay4]
  simp only [read0 h0, read1 h1, lit_2048, lit_eps, rsqrt_row]
  simp only [← EReal.coe_mul, coe_sum]

theorem kernel_dx (h0 : m ((c.tc : Thread nD τ).loc main_arg0) = fun i => (D i : EReal)) (h1 : m ((c.tc : Thread nD τ).loc main_arg1) = fun i => (X i : EReal))
    (h2 : m ((c.tc : Thread nD τ).loc main_arg2) = fun i => (G i : EReal)) :
    (dats m 0 c).arrAt 5 cfg0.N = dx D X G (m ((c.tc : Thread nD τ).loc main_arg3)) := by
  refine (dats m 0 c).arrAt_eq_of_covers 5 _ (by decide +kernel) fun t hf y => ?_
  blk_simp
  rw [after0_5]
  have e : k0_pay7 (iblk m c 1 t) (iblk m c 0 t) (iblk m c 2 t) (iblk m c 3 t) y
      = dx D X G (m ((c.tc : Thread nD τ).loc main_arg3)) (((View.whole main_v1_0).slice (win0_5.rect t)).emb y) := by
    idx_vars y
    rw [block_dx h0 h1 h2]
    refine congrArg _ ?_
    blk_ext [idx t, row]
  by_cases h0 : t.val % 32 = 0
  · rw [outsAt0_A m c t h0]; frame_out; exact e
  · rw [outsAt0_B m c t h0]; frame_out; exact e

theorem kernel_dxb (h0 : m ((c.tc : Thread nD τ).loc main_arg0) = fun i => (D i : EReal)) (h1 : m ((c.tc : Thread nD τ).loc main_arg1) = fun i => (X i : EReal))
    (h2 : m ((c.tc : Thread nD τ).loc main_arg2) = fun i => (G i : EReal)) :
    (dats m 0 c).arrAt 6 cfg0.N = dx D X G (m ((c.tc : Thread nD τ).loc main_arg3)) := by
  refine (dats m 0 c).arrAt_eq_of_covers 6 _ (by decide +kernel) fun t hf y => ?_
  blk_simp
  rw [after0_6]
  have e : k0_pay1 (k0_pay7 (iblk m c 1 t) (iblk m c 0 t) (iblk m c 2 t) (iblk m c 3 t)) y
      = dx D X G (m ((c.tc : Thread nD τ).loc main_arg3)) (((View.whole main_v1_1).slice (win0_6.rect t)).emb y) := by
    idx_vars y
    refine (block_dx h0 h1 h2 t y0 y1).trans (congrArg _ ?_)
    blk_ext [idx t, row]
  by_cases h0 : t.val % 32 = 0
  · rw [outsAt0_A m c t h0]; frame_out; exact e
  · rw [outsAt0_B m c t h0]; frame_out; exact e

/-- The last grid point. -/
def tLast : Fin cfg0.N := ⟨31, by decide +kernel⟩

theorem kernel_dg (h0 : m ((c.tc : Thread nD τ).loc main_arg0) = fun i => (D i : EReal)) (h1 : m ((c.tc : Thread nD τ).loc main_arg1) = fun i => (X i : EReal)) :
    (dats m 0 c).arrAt 7 cfg0.N = fun j : S1x2048.Idx => ((dg D X (j 1) : ℝ) : EReal) := by
  have e : ∀ j : S1x2048.Idx, (outsAt0 m c tLast.val tLast.isLt).2.2.1 j = ((dg D X (j 1) : ℝ) : EReal) := fun j => by
    rw [Pipeline.eq_sum_fin_of_reset_step_apply_last (fun n h => (outsAt0 m c n h).2.2.1) 32 (fun _ => 0) _
      (fun t h j => by rw [outsAt0_A m c t h]; frame_out; rw [block_dg h0 h1]; pointwise [k0_pay3]; rfl)
      (fun t h j => by rw [outsAt0_B m c t h]; frame_out; rw [block_dg h0 h1])
      (le_of_eq N_0) tLast rfl j, zero_add, coe_sum]
    refine congrArg _ ?_
    unfold dg
    exact Fin.sum_mul_add_congr fun t r _ => rfl
  refine (dats m 0 c).arrAt_eq_of_after_last 7 tLast (by decide +kernel) _ fun j => ?_
  rw [after0_7]
  exact e j

theorem kernel_dy (h0 : m ((c.tc : Thread nD τ).loc main_arg0) = fun i => (D i : EReal)) (h1 : m ((c.tc : Thread nD τ).loc main_arg1) = fun i => (X i : EReal))
    (h2 : m ((c.tc : Thread nD τ).loc main_arg2) = fun i => (G i : EReal)) :
    (dats m 0 c).arrAt 8 cfg0.N = dy (dx D X G (m ((c.tc : Thread nD τ).loc main_arg3))) (m ((c.tc : Thread nD τ).loc main_arg4)) := by
  refine (dats m 0 c).arrAt_eq_of_covers 8 _ (by decide +kernel) fun t hf y => ?_
  blk_simp
  rw [after0_8]
  have e : k0_pay2 (k0_pay7 (iblk m c 1 t) (iblk m c 0 t) (iblk m c 2 t) (iblk m c 3 t)) (iblk m c 4 t) y
      = dy (dx D X G (m ((c.tc : Thread nD τ).loc main_arg3))) (m ((c.tc : Thread nD τ).loc main_arg4))
        (((View.whole main_v1_3).slice (win0_8.rect t)).emb y) := by
    idx_vars y
    rw [block_dy h0 h1 h2]
    refine congrArg _ ?_
    blk_ext [idx t, row]
  by_cases h0 : t.val % 32 = 0
  · rw [outsAt0_A m c t h0]; frame_out; exact e
  · rw [outsAt0_B m c t h0]; frame_out; exact e

end Cert.NormDyValue
end
-- ==== Proof.NormDyClaim.lean ====
module
public import proofs.«01_k».proof.Proof.NormDyValue
public import proofs.«01_k».proof.Proof.NormClaim
public import proofs.«01_k».proof.Proof.Gen.NormDyRefIdeal.Read
public import proofs.«01_k».proof.Proof.Gen.Pre_normdy_finite

@[expose] public section

set_option maxRecDepth 16384

noncomputable section

namespace Cert.NormDyClaim

open Idealize.ShloMosaic Idealize.SL.Sem Cert.Reals Cert.NormDyValue
open Cert.NormValue (dx dg)

/-! The reference computes the first norm's gradient again. -/

theorem ref_norm : @NormDyRefIdeal.Read.val_main_v37 = @NormRefIdeal.Read.val_main_v37 := rfl
theorem ref_gain : @NormDyRefIdeal.Read.val_main_v23 = @NormRefIdeal.Read.val_main_v23 := rfl

theorem ref_dx (D X : NormDyIdeal.S8192x2048.Idx → ℝ) (G : NormDyIdeal.S1x2048.Idx → ℝ) (R : NormDyIdeal.S8192x2048.Idx → EReal) :
    NormDyRefIdeal.Read.val_main_v38 (F := Ideal) (fun i => (D i : EReal)) (fun i => (X i : EReal)) (fun i => (G i : EReal)) R = dx D X G R := by
  rw [← NormRef.ref_dx]
  unfold NormDyRefIdeal.Read.val_main_v38 NormRefIdeal.Read.val_main_v38
  rw [ref_norm]
  exact funext fun i => add_comm (G := EReal) _ _

theorem ref_dy (D X : NormDyIdeal.S8192x2048.Idx → ℝ) (G : NormDyIdeal.S1x2048.Idx → ℝ) (R : NormDyIdeal.S8192x2048.Idx → EReal)
    (W : NormDyIdeal.S2048x2048.Idx → EReal) :
    NormDyRefIdeal.Read.val_main_v41 (F := Ideal) (fun i => (D i : EReal)) (fun i => (X i : EReal)) (fun i => (G i : EReal)) R W
      = dy (dx D X G R) W := by
  funext i
  idx_vars i
  unfold NormDyRefIdeal.Read.val_main_v41 NormDyRefIdeal.Read.val_main_v40
  rw [ref_dx]
  pointwise
  rfl

theorem reals {D X : FVec Ideal NormDyIdeal.S8192x2048 .f32} {G : FVec Ideal NormDyIdeal.S1x2048 .f32} {R : FVec Ideal NormDyIdeal.S8192x2048 .f32}
    {W : FVec Ideal NormDyIdeal.S2048x2048 .f32} (h : Cert.Pre_normdy_finite.fn (F := Ideal) D X G R W = fun _ => 1#1) : IsReal D ∧ IsReal X ∧ IsReal G := by
  have h' := congrFun h (fun a => a.elim0)
  have hs : Subsingleton (Cert.Pre_normdy_finite.S_).Idx := ⟨fun a b => funext fun i => i.elim0⟩
  have h01 := andi_left h'
  refine ⟨isReal_of_finite _ _ _ _ _ _ (fun i => ?_) (andi_left h01), isReal_of_finite _ _ _ _ _ _ (fun i => ?_) (andi_right h01),
    isReal_of_finite _ _ _ _ _ _ (fun i => ?_) (andi_right h')⟩ <;> exact lit_top

set_option maxHeartbeats 2000000 in
theorem holds : Cert.algebraic_NormDyIdeal_NormDyRefIdeal_pre_normdy_finite := by
  pair_intro
  · run_from Cert.NormDyIdeal.Value.run_blocks m g
  have hc : ∀ c : Dev NormDyIdeal.nD, ∃ (D X : NormDyIdeal.S8192x2048.Idx → ℝ) (G : NormDyIdeal.S1x2048.Idx → ℝ),
      m ((c.tc : Thread NormDyIdeal.nD NormDyIdeal.τ).loc NormDyIdeal.main_arg0) = (fun i => (D i : EReal))
      ∧ m ((c.tc : Thread NormDyIdeal.nD NormDyIdeal.τ).loc NormDyIdeal.main_arg1) = (fun i => (X i : EReal))
      ∧ m ((c.tc : Thread NormDyIdeal.nD NormDyIdeal.τ).loc NormDyIdeal.main_arg2) = (fun i => (G i : EReal)) := fun c => by
    obtain ⟨⟨D, hD⟩, ⟨X, hX⟩, ⟨G, hG⟩⟩ := reals (hpre c)
    exact ⟨D, X, G, hD, hX, hG⟩
  run_from Cert.NormDyRefIdeal.Value.run m' g'
  · obtain ⟨D, X, G, hD, hX, hG⟩ := hc c
    obtain ⟨a0, a1, a2, a3, a4⟩ := hagree c
    rw [NormDyRefIdeal.Read.val_main_v38_eq, a0, a1, a2, a3, kernel_dx hD hX hG]
    rw [hD, hX, hG]
    exact ref_dx D X G _
  · obtain ⟨D, X, G, hD, hX, hG⟩ := hc c
    obtain ⟨a0, a1, a2, a3, a4⟩ := hagree c
    rw [NormDyRefIdeal.Read.val_main_v39_eq, a0, a1, a2, a3, kernel_dxb hD hX hG]
    rw [hD, hX, hG]
    exact ref_dx D X G _
  · obtain ⟨D, X, G, hD, hX, hG⟩ := hc c
    rw [kernel_dg hD hX]
    refine (NormDyRefIdeal.Read.val_main_v23_eq _ _).trans ?_
    rw [hD, hX, ref_gain]
    exact funext fun j => NormRef.ref_dg D X j
  · obtain ⟨D, X, G, hD, hX, hG⟩ := hc c
    obtain ⟨a0, a1, a2, a3, a4⟩ := hagree c
    rw [NormDyRefIdeal.Read.val_main_v41_eq, a0, a1, a2, a3, a4, kernel_dy hD hX hG]
    rw [hD, hX, hG]
    exact ref_dy D X G _ _

/-- The reference's frame: it is straight host code and owns no semaphore. -/
theorem ref_frame : Cert.quiescent_NormDyRefIdeal := fun m ρ _ =>
  (θ_run Cert.NormDyRefIdeal.defs _ _).mono (fun r h => ⟨fun c => (h c).2.2.2.2, sem_eq_zero_of_no_sems (by decide) r.2⟩)
    (Cert.NormDyRefIdeal.Value.run m ρ)

end Cert.NormDyClaim
end
-- ==== Proof.Dff2Claim.lean ====
module
public import proofs.«01_k».proof.Proof.Reals
public import proofs.«01_k».proof.Defs
public import proofs.«01_k».proof.Proof.Gen.Dff2Ideal.Value
public import proofs.«01_k».proof.Proof.Gen.Dff2RefIdeal.Run
public import proofs.«01_k».proof.Proof.Gen.Dff2RefIdeal.Read
public import Idealize.ShloMosaic.Lib.Pipeline.ValueKit
public import Idealize.ShloMosaic.Lib.Claim

@[expose] public section

set_option maxRecDepth 16384

noncomputable section

namespace Cert.Dff2Claim

open Idealize.ShloMosaic Idealize.SL.Sem Cert.Reals
open Cert.Dff2Ideal Cert.Dff2Ideal.Gen

variable (m : (ℓ : Loc nD τ sig) → Buf (Elt Ideal) ℓ) (c : Dev nD)

theorem idx (t : Fin cfg0.N) : win0_0.index t = ![t.val / 8, 0] ∧ win0_1.index t = ![t.val % 8, 0] ∧ win0_2.index t = ![t.val / 8, t.val % 8]
    ∧ win0_3.index t = ![t.val / 8, t.val % 8] := by
  revert t; decide +kernel

/-- Row `r` of block row `t / 8`. -/
def row (t : Fin cfg0.N) (r : Fin 1024) : Fin 8192 := ⟨t.val / 8 * 1024 + r.val, by have := t.isLt; have : cfg0.N = 64 := rfl; omega⟩
/-- Column `k` of block column `t % 8`. -/
def col (t : Fin cfg0.N) (k : Fin 1024) : Fin 8192 := ⟨t.val % 8 * 1024 + k.val, by omega⟩

variable {m c}

theorem read0 (t : Fin cfg0.N) (r : Fin 1024) (k : Fin 2048) :
    iblk m c 0 t (ix2 r k) = m ((c.tc : Thread nD τ).loc main_arg0) (ix2 (row t r) k) := by
  blk_ext [iblk, V, idx t, row]
theorem read1 (t : Fin cfg0.N) (r : Fin 1024) (k : Fin 2048) :
    iblk m c 1 t (ix2 r k) = m ((c.tc : Thread nD τ).loc main_arg1) (ix2 (col t r) k) := by
  blk_ext [iblk, V, idx t, col]
theorem read2 (t : Fin cfg0.N) (r k : Fin 1024) :
    iblk m c 2 t (ix2 r k) = m ((c.tc : Thread nD τ).loc main_arg2) (ix2 (row t r) (col t k)) := by
  blk_ext [iblk, V, idx t, row, col]

/-- The gradient of `square (relu a) @ w` in `a`. -/
def da (D W : S8192x2048.Idx → EReal) (A : S8192x8192.Idx → EReal) (i : S8192x8192.Idx) : EReal :=
  (∑ k : Fin 2048, D (ix2 (i 0) k) * W (ix2 (i 1) k)) * (Ideal.ofBits .f32 0x40000000#32 * max (A i) 0)

theorem kernel_da : (dats m 0 c).arrAt 3 cfg0.N
    = da (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  idx_vars y
  pointwise [k0_pay1]
  simp only [read0, read1, read2]
  have e : ((View.whole main_v3).slice (win0_3.rect t)).emb (ix2 y0 y1) = ix2 (row t y0) (col t y1) := by blk_ext [idx t, row, col]
  rw [e]
  rfl

theorem ref_da (D W : S8192x2048.Idx → EReal) (A : S8192x8192.Idx → EReal) : Dff2RefIdeal.Read.val_main_v12 (F := Ideal) D W A = da D W A := by
  funext i
  idx_vars i
  open Dff2RefIdeal.Read in
  unfold val_main_v12 val_main_v11 val_main_v10 val_main_v9 val_main_v8 val_main_v6 val_main_v5 val_main_v2 val_main_v1 val_main_v0
    val_main_call0_v0 val_main_call0_cst val_main_cst val_main_cst_1 val_main_cst_2
  pointwise
  unfold da
  split_ifs with h
  · rfl
  · rw [max_eq_right (not_lt.mp h), mul_zero, mul_zero]

theorem holds : Cert.algebraic_Dff2Ideal_Dff2RefIdeal := by
  pair_intro
  · run_from Cert.Dff2Ideal.Value.run_blocks m g
  run_from Cert.Dff2RefIdeal.Value.run m' g'
  rw [Dff2RefIdeal.Read.val_main_v12_eq, kernel_da]
  exact ref_da _ _ _

/-- The reference's frame: it is straight host code and owns no semaphore. -/
theorem ref_frame : Cert.quiescent_Dff2RefIdeal := fun m ρ _ =>
  (θ_run Cert.Dff2RefIdeal.defs _ _).mono (fun r h => ⟨fun c => (h c).2, sem_eq_zero_of_no_sems (by decide) r.2⟩)
    (Cert.Dff2RefIdeal.Value.run m ρ)

end Cert.Dff2Claim
end
-- ==== Proof.Dw2Claim.lean ====
module
public import proofs.«01_k».proof.Proof.Reals
public import proofs.«01_k».proof.Defs
public import proofs.«01_k».proof.Proof.Gen.Dw2Ideal.Value
public import proofs.«01_k».proof.Proof.Gen.Dw2RefIdeal.Run
public import proofs.«01_k».proof.Proof.Gen.Dw2RefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.Dw2Claim

open Idealize.ShloMosaic Idealize.SL.Sem Cert.Reals
open Cert.Dw2Ideal Cert.Dw2Ideal.Gen

variable (m : (ℓ : Loc nD τ sig) → Buf (Elt Ideal) ℓ) (c : Dev nD)

theorem idx (t : Fin cfg0.N) : win0_0.index t = ![t.val % 2, t.val / 4] ∧ win0_1.index t = ![t.val % 2, t.val / 2 % 2]
    ∧ win0_2.index t = ![t.val / 4, t.val / 2 % 2] := by
  revert t; decide +kernel

theorem odd_of_flush : ∀ t : Fin cfg0.N, (cfg0.win 2).flush t = true → t.val % 2 = 1 := by
  decide +kernel

/-- Row `r` of half `t % 2`. -/
def row (t : Fin cfg0.N) (r : Fin 4096) : Fin 8192 := ⟨t.val % 2 * 4096 + r.val, by omega⟩
/-- Column `k` of block column `t / 4`. -/
def colA (t : Fin cfg0.N) (k : Fin 1024) : Fin 8192 := ⟨t.val / 4 * 1024 + k.val, by have := t.isLt; have : cfg0.N = 32 := rfl; omega⟩
/-- Column `k` of block column `t / 2 % 2`. -/
def colB (t : Fin cfg0.N) (k : Fin 1024) : Fin 2048 := ⟨t.val / 2 % 2 * 1024 + k.val, by omega⟩

variable {m c}

theorem read0 (t : Fin cfg0.N) (r : Fin 4096) (k : Fin 1024) :
    iblk m c 0 t (ix2 r k) = m ((c.tc : Thread nD τ).loc main_arg0) (ix2 (row t r) (colA t k)) := by
  blk_ext [iblk, V, idx t, row, colA]
theorem read1 (t : Fin cfg0.N) (r : Fin 4096) (k : Fin 1024) :
    iblk m c 1 t (ix2 r k) = m ((c.tc : Thread nD τ).loc main_arg1) (ix2 (row t r) (colB t k)) := by
  blk_ext [iblk, V, idx t, row, colB]

/-- The gradient of `square (relu a) @ w` in `w`. -/
def dw (A : S8192x8192.Idx → EReal) (D : S8192x2048.Idx → EReal) (i : S8192x2048.Idx) : EReal :=
  ∑ s : Fin 8192, max (A (ix2 s (i 0))) 0 * max (A (ix2 s (i 0))) 0 * D (ix2 s (i 1))

/-- After an even point the accumulator holds the first half's product. -/
theorem acc_even (t : Fin cfg0.N) (h : t.val % 2 = 0) : (outsAt0 m c t.val t.isLt).2 = k0_pay2 (iblk m c 0 t) (iblk m c 1 t) := by
  rw [outsAt0_A m c t h (by omega)]
  frame_out

theorem kernel_dw : (dats m 0 c).arrAt 2 cfg0.N = dw (m ((c.tc : Thread nD τ).loc main_arg0)) (m ((c.tc : Thread nD τ).loc main_arg1)) := by
  refine (dats m 0 c).arrAt_eq_of_covers 2 _ (by decide +kernel) fun t hf y => ?_
  have h1 := odd_of_flush t hf
  have hp : t.val - 1 < cfg0.N := by have := t.isLt; omega
  blk_simp
  rw [after0_2, outsAt0_B m c t (by omega) h1, acc_even ⟨t.val - 1, hp⟩ (show (t.val - 1) % 2 = 0 by omega)]
  frame_out
  simp only [read_unread_whole]
  idx_vars y
  pointwise [k0_pay3, k0_pay2, k0_pay1]
  simp only [read0, read1]
  have e : ((View.whole main_v2).slice (win0_2.rect t)).emb (ix2 y0 y1) = ix2 (colA t y0) (colB t y1) := by blk_ext [idx t, colA, colB]
  rw [e]
  have r0 : ∀ r, row ⟨t.val - 1, hp⟩ r = Fin.castAdd 4096 r := fun r => Fin.ext (by simp only [row, Fin.val_castAdd]; omega)
  have r1 : ∀ r, row t r = Fin.natAdd 4096 r := fun r => Fin.ext (by simp only [row, Fin.val_natAdd, h1])
  have cA : ∀ k, colA ⟨t.val - 1, hp⟩ k = colA t k := fun k => Fin.ext (by simp only [colA]; omega)
  have cB : ∀ k, colB ⟨t.val - 1, hp⟩ k = colB t k := fun k => Fin.ext (by simp only [colB]; omega)
  simp only [r0, r1, cA, cB]
  unfold dw
  refine Eq.trans ?_ (Fin.sum_univ_add (a := 4096) (b := 4096) (M := EReal) _).symm
  rfl

theorem ref_dw (A : S8192x8192.Idx → EReal) (D : S8192x2048.Idx → EReal) : Dw2RefIdeal.Read.val_main_v6 (F := Ideal) A D = dw A D := by
  funext i
  idx_vars i
  open Dw2RefIdeal.Read in
  unfold val_main_v6 val_main_v5 val_main_v4 val_main_v2 val_main_v1 val_main_call0_v0 val_main_call0_cst
  pointwise
  exact Finset.sum_congr rfl fun s _ => mul_comm (G := EReal) _ _

theorem holds : Cert.algebraic_Dw2Ideal_Dw2RefIdeal := by
  pair_intro
  · run_from Cert.Dw2Ideal.Value.run_blocks m g
  run_from Cert.Dw2RefIdeal.Value.run m' g'
  rw [kernel_dw]
  exact (Dw2RefIdeal.Read.val_main_v6_eq _ _).trans (ref_dw _ _)

/-- The reference's frame: it is straight host code and owns no semaphore. -/
theorem ref_frame : Cert.quiescent_Dw2RefIdeal := fun m ρ _ =>
  (θ_run Cert.Dw2RefIdeal.defs _ _).mono (fun r h => ⟨fun c => (h c).2, sem_eq_zero_of_no_sems (by decide) r.2⟩)
    (Cert.Dw2RefIdeal.Value.run m ρ)

end Cert.Dw2Claim
end
-- ==== Proof.RmsClaim.lean ====
module
public import proofs.«01_k».proof.Proof.Reals
public import proofs.«01_k».proof.Defs
public import proofs.«01_k».proof.Proof.Gen.RmsIdeal.Value
public import proofs.«01_k».proof.Proof.Gen.RmsRefIdeal.Run
public import proofs.«01_k».proof.Proof.Gen.RmsRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.RmsClaim

open Idealize.ShloMosaic Idealize.SL.Sem Cert.Reals
open Cert.RmsIdeal Cert.RmsIdeal.Gen

variable (m : (ℓ : Loc nD τ sig) → Buf (Elt Ideal) ℓ) (c : Dev nD)

theorem idx (t : Fin cfg0.N) : win0_0.index t = ![t.val, 0] ∧ win0_1.index t = ![0, 0] ∧ win0_2.index t = ![t.val, 0] := by
  revert t; decide +kernel

/-- Row `r` of block `t`. -/
def row (t : Fin cfg0.N) (r : Fin 512) : Fin 8192 := ⟨t.val * 512 + r.val, by have := t.isLt; have : cfg0.N = 16 := rfl; omega⟩

variable {m c}

theorem read0 (t : Fin cfg0.N) (r : Fin 512) (k : Fin 2048) :
    iblk m c 0 t (ix2 r k) = m ((c.tc : Thread nD τ).loc main_arg0) (ix2 (row t r) k) := by
  blk_ext [iblk, V, idx t, row]
theorem read1 (t : Fin cfg0.N) (k : Fin 2048) : iblk m c 1 t (ix2 0 k) = m ((c.tc : Thread nD τ).loc main_arg1) (ix2 0 k) := by
  blk_ext [iblk, V, idx t]

/-- The root-mean-square norm of each row, times the gain. -/
def norm (X : S8192x2048.Idx → EReal) (G : S1x2048.Idx → EReal) (i : S8192x2048.Idx) : EReal :=
  X i * Ideal.rsqrt (Ideal.div (∑ k : Fin 2048, X (ix2 (i 0) k) * X (ix2 (i 0) k)) (Ideal.ofBits .f32 0x45000000#32) + Ideal.ofBits .f32 0x358637BD#32)
    * G (ix2 0 (i 1))

theorem kernel_norm : (dats m 0 c).arrAt 2 cfg0.N
    = norm (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  pointwise [k0_pay1]
  simp only [read0, read1]
  have e : ((View.whole main_v0).slice (win0_2.rect t)).emb (ix2 y0 y1) = ix2 (row t y0) y1 := by blk_ext [idx t, row]
  rw [e]
  rfl

theorem ref_norm (X : S8192x2048.Idx → EReal) (G : S1x2048.Idx → EReal) : RmsRefIdeal.Read.val_main_v14 (F := Ideal) X G = norm X G := by
  funext i
  idx_vars i
  open RmsRefIdeal.Read in
  unfold val_main_v14 val_main_v13 val_main_v12 val_main_v11 val_main_v10 val_main_v9 val_main_v8 val_main_v7 val_main_v6 val_main_v5 val_main_v4
    val_main_v3 val_main_v2 val_main_v1 val_main_v0 val_main_cst val_main_cst_0 val_main_cst_1
  pointwise
  rfl

theorem holds : Cert.algebraic_RmsIdeal_RmsRefIdeal := by
  pair_intro
  · run_from Cert.RmsIdeal.Value.run_blocks m g
  run_from Cert.RmsRefIdeal.Value.run m' g'
  rw [kernel_norm]
  exact (RmsRefIdeal.Read.val_main_v14_eq _ _).trans (ref_norm _ _)

/-- The reference's frame: it is straight host code and owns no semaphore. -/
theorem ref_frame : Cert.quiescent_RmsRefIdeal := fun m ρ _ =>
  (θ_run Cert.RmsRefIdeal.defs _ _).mono (fun r h => ⟨fun c => (h c).2, sem_eq_zero_of_no_sems (by decide) r.2⟩)
    (Cert.RmsRefIdeal.Value.run m ρ)

end Cert.RmsClaim
end
-- ==== Proof.OutProjClaim.lean ====
module
public import proofs.«01_k».proof.Proof.Reals
public import proofs.«01_k».proof.Defs
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.OutProjClaim

open Idealize.ShloMosaic Idealize.SL.Sem Cert.Reals
open Cert.OutProjIdeal Cert.OutProjIdeal.Gen

variable (m : (ℓ : Loc nD τ sig) → Buf (Elt Ideal) ℓ) (c : Dev nD)

theorem idx (t : Fin cfg0.N) : win0_0.index t = ![t.val, 0] ∧ win0_1.index t = ![0, 0] ∧ win0_2.index t = ![t.val, 0] ∧ win0_3.index t = ![0, 0]
    ∧ win0_4.index t = ![t.val, 0] ∧ win0_5.index t = ![t.val, 0] := by
  revert t; decide +kernel

/-- Row `r` of block `t`. -/
def row (t : Fin cfg0.N) (r : Fin 512) : Fin 8192 := ⟨t.val * 512 + r.val, by have := t.isLt; have : cfg0.N = 16 := rfl; omega⟩

variable {m c}

theorem read0 (t : Fin cfg0.N) (r : Fin 512) (k : Fin 2048) :
    iblk m c 0 t (ix2 r k) = m ((c.tc : Thread nD τ).loc main_arg0) (ix2 (row t r) k) := by
  blk_ext [iblk, V, idx t, row]
theorem read1 (t : Fin cfg0.N) (r k : Fin 2048) : iblk m c 1 t (ix2 r k) = m ((c.tc : Thread nD τ).loc main_arg1) (ix2 r k) := by
  blk_ext [iblk, V, idx t]
theorem read2 (t : Fin cfg0.N) (r : Fin 512) (k : Fin 2048) :
    iblk m c 2 t (ix2 r k) = m ((c.tc : Thread nD τ).loc main_arg2) (ix2 (row t r) k) := by
  blk_ext [iblk, V, idx t, row]
theorem read3 (t : Fin cfg0.N) (k : Fin 2048) : iblk m c 3 t (ix2 0 k) = m ((c.tc : Thread nD τ).loc main_arg3) (ix2 0 k) := by
  blk_ext [iblk, V, idx t]

/-- The residual: `x + y @ w`. -/
def res (Y : S8192x2048.Idx → EReal) (W : S2048x2048.Idx → EReal) (X : S8192x2048.Idx → EReal) (i : S8192x2048.Idx) : EReal :=
  X i + ∑ k : Fin 2048, Y (ix2 (i 0) k) * W (ix2 k (i 1))

/-- The root-mean-square norm of each row, times the gain. -/
def norm (X : S8192x2048.Idx → EReal) (G : S1x2048.Idx → EReal) (i : S8192x2048.Idx) : EReal :=
  X i * Ideal.rsqrt (Ideal.div (∑ k : Fin 2048, X (ix2 (i 0) k) * X (ix2 (i 0) k)) (Ideal.ofBits .f32 0x45000000#32) + Ideal.ofBits .f32 0x358637BD#32)
    * G (ix2 0 (i 1))

/-- What one grid point stores of the residual. -/
theorem block_res (t : Fin cfg0.N) (r : Fin 512) (k : Fin 2048) : k0_pay1 (iblk m c 2 t) (iblk m c 0 t) (iblk m c 1 t) (ix2 r k)
    = res (m ((c.tc : Thread nD τ).loc main_arg0)) (m ((c.tc : Thread nD τ).loc main_arg1)) (m ((c.tc : Thread nD τ).loc main_arg2)) (ix2 (row t r) k) := by
  pointwise [k0_pay1]
  simp only [read0, read1, read2]
  rfl

theorem kernel_res : (dats m 0 c).arrAt 4 cfg0.N
    = res (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  frame_out
  idx_vars y
  have e : ((View.whole main_v2_0).slice (win0_4.rect t)).emb (ix2 y0 y1) = ix2 (row t y0) y1 := by blk_ext [idx t, row]
  rw [e]
  exact block_res t y0 y1

theorem kernel_norm : (dats m 0 c).arrAt 5 cfg0.N
    = norm (res (m ((c.tc : Thread nD τ).loc main_arg0)) (m ((c.tc : Thread nD τ).loc main_arg1)) (m ((c.tc : Thread nD τ).loc main_arg2)))
        (m ((c.tc : Thread nD τ).loc main_arg3)) := by
  refine (dats m 0 c).arrAt_eq_of_covers 5 _ (by decide +kernel) fun t hf y => ?_
  blk_simp
  rw [after0_5]
  frame_out
  idx_vars y
  pointwise [k0_pay2]
  simp only [block_res, read3]
  have e : ((View.whole main_v2_1).slice (win0_5.rect t)).emb (ix2 y0 y1) = ix2 (row t y0) y1 := by blk_ext [idx t, row]
  rw [e]
  rfl

section
open OutProjRefIdeal.Read
variable (Y : S8192x2048.Idx → EReal) (W : S2048x2048.Idx → EReal) (X : S8192x2048.Idx → EReal) (G : S1x2048.Idx → EReal)

theorem ref_res : val_main_v1 (F := Ideal) Y W X = res Y W X := by
  funext i
  idx_vars i
  unfold val_main_v1 val_main_v0
  pointwise
  rfl

theorem ref_norm : val_main_v16 (F := Ideal) Y W X G = norm (res Y W X) G := by
  funext i
  idx_vars i
  unfold val_main_v16 val_main_v15 val_main_v14 val_main_v13 val_main_v12 val_main_v11 val_main_v10 val_main_v9 val_main_v8 val_main_v7 val_main_v6
    val_main_v5 val_main_v4 val_main_v3 val_main_v2 val_main_cst val_main_cst_0 val_main_cst_1
  rw [ref_res]
  pointwise
  rfl
end

theorem holds : Cert.algebraic_OutProjIdeal_OutProjRefIdeal := by
  pair_intro
  · run_from Cert.OutProjIdeal.Value.run_blocks m g
  run_from Cert.OutProjRefIdeal.Value.run m' g'
  · rw [kernel_res]
    exact (OutProjRefIdeal.Read.val_main_v1_eq _ _ _).trans (ref_res _ _ _)
  · rw [kernel_norm]
    exact (OutProjRefIdeal.Read.val_main_v16_eq _ _ _ _).trans (ref_norm _ _ _ _)

/-- The reference's frame: it is straight host code and owns no semaphore. -/
theorem ref_frame : Cert.quiescent_OutProjRefIdeal := fun m ρ _ =>
  (θ_run Cert.OutProjRefIdeal.defs _ _).mono (fun r h => ⟨fun c => (h c).2.2, sem_eq_zero_of_no_sems (by decide) r.2⟩)
    (Cert.OutProjRefIdeal.Value.run m ρ)

end Cert.OutProjClaim
end
-- ==== Proof.Ff2Claim.lean ====
module
public import proofs.«01_k».proof.Proof.Reals
public import proofs.«01_k».proof.Defs
public import proofs.«01_k».proof.Proof.Gen.Ff2Ideal.Value
public import proofs.«01_k».proof.Proof.Gen.Ff2RefIdeal.Run
public import proofs.«01_k».proof.Proof.Gen.Ff2RefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.Ff2Claim

open Idealize.ShloMosaic Idealize.SL.Sem Cert.Reals
open Cert.Ff2Ideal Cert.Ff2Ideal.Gen

variable (m : (ℓ : Loc nD τ sig) → Buf (Elt Ideal) ℓ) (c : Dev nD)

theorem idx (t : Fin cfg0.N) : win0_0.index t = ![t.val / 8, t.val % 4] ∧ win0_1.index t = ![t.val % 4, t.val / 4 % 2]
    ∧ win0_2.index t = ![t.val / 8, t.val / 4 % 2] ∧ win0_3.index t = ![t.val / 8, t.val / 4 % 2] := by
  revert t; decide +kernel

theorem last_of_flush : ∀ t : Fin cfg0.N, (cfg0.win 3).flush t = true → t.val % 4 = 3 := by
  decide +kernel

/-- Row `r` of block row `t / 8`. -/
def row (t : Fin cfg0.N) (r : Fin 1024) : Fin 8192 := ⟨t.val / 8 * 1024 + r.val, by have := t.isLt; have : cfg0.N = 64 := rfl; omega⟩
/-- Column `k` of block column `t / 4 % 2`. -/
def col (t : Fin cfg0.N) (k : Fin 1024) : Fin 2048 := ⟨t.val / 4 % 2 * 1024 + k.val, by omega⟩
/-- Contracted index `s` of quarter `n % 4`. -/
def mid (n : ℕ) (s : Fin 2048) : Fin 8192 := ⟨n % 4 * 2048 + s.val, by omega⟩

variable {m c}

theorem read0 (t : Fin cfg0.N) (r : Fin 1024) (s : Fin 2048) :
    iblk m c 0 t (ix2 r s) = m ((c.tc : Thread nD τ).loc main_arg0) (ix2 (row t r) (mid t.val s)) := by
  blk_ext [iblk, V, idx t, row, mid]
theorem read1 (t : Fin cfg0.N) (s : Fin 2048) (k : Fin 1024) :
    iblk m c 1 t (ix2 s k) = m ((c.tc : Thread nD τ).loc main_arg1) (ix2 (mid t.val s) (col t k)) := by
  blk_ext [iblk, V, idx t, mid, col]
theorem read2 (t : Fin cfg0.N) (r k : Fin 1024) :
    iblk m c 2 t (ix2 r k) = m ((c.tc : Thread nD τ).loc main_arg2) (ix2 (row t r) (col t k)) := by
  blk_ext [iblk, V, idx t, row, col]

section
variable (A : S8192x8192.Idx → EReal) (W : S8192x2048.Idx → EReal)

/-- One term of `square (relu a) @ w`. -/
def term (r : Fin 8192) (k : Fin 2048) (s : Fin 8192) : EReal := max (A (ix2 r s)) 0 * max (A (ix2 r s)) 0 * W (ix2 s k)

/-- The terms of quarter `n % 4`. -/
def part (r : Fin 8192) (k : Fin 2048) (n : ℕ) : EReal := ∑ s : Fin 2048, term A W r k (mid n s)

/-- `x + square (relu a) @ w`. -/
def ff (X : S8192x2048.Idx → EReal) (i : S8192x2048.Idx) : EReal := X i + ∑ s : Fin 8192, term A W (i 0) (i 1) s

theorem parts (r : Fin 8192) (k : Fin 2048) :
    part A W r k 0 + part A W r k 1 + part A W r k 2 + part A W r k 3 = ∑ s : Fin 8192, term A W r k s := by
  refine Eq.trans (Fin.sum_univ_four (fun t : Fin 4 => part A W r k t.val)).symm ?_
  refine Fin.sum_mul_add_congr fun t s hl => congrArg _ (Fin.ext ?_)
  simp only [mid]
  omega
end

variable {A : S8192x8192.Idx → EReal} {W X : S8192x2048.Idx → EReal}

/-- What a point adds to the block it carries. -/
theorem step (h0 : m ((c.tc : Thread nD τ).loc main_arg0) = A) (h1 : m ((c.tc : Thread nD τ).loc main_arg1) = W) (t : Fin cfg0.N)
    (acc : Vec Ideal S1024x1024 .f32) (r k : Fin 1024) :
    k0_pay1 acc (iblk m c 0 t) (iblk m c 1 t) (ix2 r k) = acc (ix2 r k) + part A W (row t r) (col t k) t.val := by
  subst h0 h1
  pointwise [k0_pay1]
  simp only [read0, read1]
  rfl

theorem first (h0 : m ((c.tc : Thread nD τ).loc main_arg0) = A) (h1 : m ((c.tc : Thread nD τ).loc main_arg1) = W)
    (h2 : m ((c.tc : Thread nD τ).loc main_arg2) = X) (t : Fin cfg0.N) (h : t.val % 4 = 0) (r k : Fin 1024) :
    outsAt0 m c t.val t.isLt (ix2 r k) = X (ix2 (row t r) (col t k)) + part A W (row t r) (col t k) t.val := by
  rw [outsAt0_A m c t h]
  frame_out
  rw [step h0 h1, read2, h2]

theorem later (h0 : m ((c.tc : Thread nD τ).loc main_arg0) = A) (h1 : m ((c.tc : Thread nD τ).loc main_arg1) = W)
    (t : Fin cfg0.N) (h : ¬t.val % 4 = 0) (r k : Fin 1024) : outsAt0 m c t.val t.isLt (ix2 r k)
    = outsAt0 m c (t.val - 1) (Nat.lt_of_le_of_lt (Nat.sub_le _ _) t.isLt) (ix2 r k) + part A W (row t r) (col t k) t.val := by
  rw [outsAt0_B m c t h]
  frame_out
  rw [step h0 h1]

theorem kernel_ff (h0 : m ((c.tc : Thread nD τ).loc main_arg0) = A) (h1 : m ((c.tc : Thread nD τ).loc main_arg1) = W)
    (h2 : m ((c.tc : Thread nD τ).loc main_arg2) = X) : (dats m 0 c).arrAt 3 cfg0.N
    = ff A W X := by
  refine (dats m 0 c).arrAt_eq_of_covers 3 _ (by decide +kernel) fun t hf y => ?_
  have h3 := last_of_flush t hf
  have ht := t.isLt
  blk_simp
  rw [after0_3]
  idx_vars y
  have e : ((View.whole main_v2).slice (win0_3.rect t)).emb (ix2 y0 y1) = ix2 (row t y0) (col t y1) := by blk_ext [idx t, row, col]
  rw [e]
  have back : ∀ d (hd : d < 4) (h : t.val - d < cfg0.N), row ⟨t.val - d, h⟩ y0 = row t y0 ∧ col ⟨t.val - d, h⟩ y1 = col t y1
      ∧ ∀ r k, part A W r k (t.val - d)
        = part A W r k (3 - d) := fun d hd h =>
    ⟨Fin.ext (by simp only [row]; omega), Fin.ext (by simp only [col]; omega), fun r k => by
      unfold part; exact Finset.sum_congr rfl fun s _ => congrArg _ (Fin.ext (by simp only [mid]; omega))⟩
  obtain ⟨r1, c1, p1⟩ := back 1 (by omega) (by omega)
  obtain ⟨r2, c2, p2⟩ := back 2 (by omega) (by omega)
  obtain ⟨r3, c3, p3⟩ := back 3 (by omega) (by omega)
  have p0 := (back 0 (by omega) (by omega)).2.2
  have e1 := later h0 h1 ⟨t.val - 1, by omega⟩ (show ¬(t.val - 1) % 4 = 0 by omega) y0 y1
  have e2 := later h0 h1 ⟨t.val - 2, by omega⟩ (show ¬(t.val - 2) % 4 = 0 by omega) y0 y1
  have e3 := first h0 h1 h2 ⟨t.val - 3, by omega⟩ (show (t.val - 3) % 4 = 0 by omega) y0 y1
  rw [r1, c1] at e1
  rw [r2, c2] at e2
  rw [r3, c3] at e3
  simp only [p1, p2, p3, Nat.sub_sub] at e1 e2 e3
  rw [later h0 h1 t (by omega)]
  refine (congrArg (· + _) (e1.trans (congrArg (· + _) (e2.trans (congrArg (· + _) e3))))).trans ?_
  simp only [Nat.sub_zero] at p0
  rw [p0]
  refine Eq.trans ?_ (congrArg (X (ix2 (row t y0) (col t y1)) + ·) (parts A W (row t y0) (col t y1)))
  simp only [add_assoc]

theorem ref_ff (A : S8192x8192.Idx → EReal) (W X : S8192x2048.Idx → EReal) : Ff2RefIdeal.Read.val_main_v3 (F := Ideal) A W X = ff A W X := by
  funext i
  idx_vars i
  open Ff2RefIdeal.Read in
  unfold val_main_v3 val_main_v2 val_main_v1 val_main_v0 val_main_call0_v0 val_main_call0_cst
  pointwise
  rfl

theorem holds : Cert.algebraic_Ff2Ideal_Ff2RefIdeal := by
  pair_intro
  · run_from Cert.Ff2Ideal.Value.run_blocks m g
  run_from Cert.Ff2RefIdeal.Value.run m' g'
  rw [kernel_ff rfl rfl rfl]
  exact (Ff2RefIdeal.Read.val_main_v3_eq _ _ _).trans (ref_ff _ _ _)

/-- The reference's frame: it is straight host code and owns no semaphore. -/
theorem ref_frame : Cert.quiescent_Ff2RefIdeal := fun m ρ _ =>
  (θ_run Cert.Ff2RefIdeal.defs _ _).mono (fun r h => ⟨fun c => (h c).2, sem_eq_zero_of_no_sems (by decide) r.2⟩)
    (Cert.Ff2RefIdeal.Value.run m ρ)

end Cert.Ff2Claim
end
-- ==== Proof.Ff1Claim.lean ====
module
public import proofs.«01_k».proof.Proof.Reals
public import proofs.«01_k».proof.Defs
public import proofs.«01_k».proof.Proof.Gen.Ff1Ideal.Value
public import proofs.«01_k».proof.Proof.Gen.Ff1RefIdeal.Run
public import proofs.«01_k».proof.Proof.Gen.Ff1RefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.Ff1Claim

open Idealize.ShloMosaic Idealize.SL.Sem Cert.Reals
open Cert.Ff1Ideal Cert.Ff1Ideal.Gen

variable (m : (ℓ : Loc nD τ sig) → Buf (Elt Ideal) ℓ) (c : Dev nD)

theorem idx (t : Fin cfg0.N) : win0_0.index t = ![t.val / 8, 0] ∧ win0_1.index t = ![t.val % 8, 0, 0] ∧ win0_2.index t = ![t.val / 8, t.val % 8] := by
  revert t; decide +kernel

/-- Row `r` of block row `t / 8`. -/
def row (t : Fin cfg0.N) (r : Fin 1024) : Fin 8192 := ⟨t.val / 8 * 1024 + r.val, by have := t.isLt; have : cfg0.N = 64 := rfl; omega⟩
/-- Column `k` of shard `t % 8`. -/
def col (t : Fin cfg0.N) (k : Fin 1024) : Fin 8192 := ⟨t.val % 8 * 1024 + k.val, by omega⟩

variable {m c}

theorem read0 (t : Fin cfg0.N) (r : Fin 1024) (k : Fin 2048) :
    iblk m c 0 t (ix2 r k) = m ((c.tc : Thread nD τ).loc main_arg0) (ix2 (row t r) k) := by
  blk_ext [iblk, V, idx t, row]
/-- The weight's shards, as the host lays them out: column `k` of shard `s` is column `1024 s + k`. -/
theorem shards (s : Fin 8) (r : Fin 2048) (k : Fin 1024) : (V m c main_v3 : S8x2048x1024.Idx → EReal) (ix3 s r k)
    = m ((c.tc : Thread nD τ).loc main_arg1) (ix2 r ⟨s.val * 1024 + k.val, by omega⟩) := by
  have e : (V m c main_v3 : S8x2048x1024.Idx → EReal) = transpose S8x2048x1024 [1, 0, 2] (shapeCast S2048x8x1024
      (truncf (F := Ideal) .bf16 (m ((c.tc : Thread nD τ).loc main_arg1)) bitsLt_bf16_f32)
      shapeCasts_S2048x8192_S2048x8x1024) transposes_S2048x8x1024_S8x2048x1024_1_0_2 := by
    after_results_simp <;> rfl
  rw [e]
  pointwise
theorem read1 (t : Fin cfg0.N) (r : Fin 2048) (k : Fin 1024) :
    iblk m c 1 t (ix3 0 r k) = m ((c.tc : Thread nD τ).loc main_arg1) (ix2 r (col t k)) := by
  have e : iblk m c 1 t (ix3 0 r k) = (V m c main_v3 : S8x2048x1024.Idx → EReal) (ix3 ⟨t.val % 8, by omega⟩ r k) := by
    blk_ext [iblk, idx t]
  rw [e]
  exact shards _ _ _

/-- The plain product `h @ w`. -/
def mm (A : S8192x2048.Idx → EReal) (W : S2048x8192.Idx → EReal) (i : S8192x8192.Idx) : EReal := ∑ k : Fin 2048, A (ix2 (i 0) k) * W (ix2 k (i 1))

theorem kernel_mm : (dats m 0 c).arrAt 2 cfg0.N = mm (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  pointwise [k0_pay1]
  simp only [read0, read1]
  have e : ((View.whole main_v4).slice (win0_2.rect t)).emb (ix2 y0 y1) = ix2 (row t y0) (col t y1) := by blk_ext [idx t, row, col]
  rw [e]
  rfl

theorem ref_mm (A : S8192x2048.Idx → EReal) (W : S2048x8192.Idx → EReal) : Ff1RefIdeal.Read.val_main_v1 (F := Ideal) A W = mm A W := by
  funext i
  idx_vars i
  open Ff1RefIdeal.Read in
  unfold val_main_v1 val_main_v0
  pointwise
  rfl

theorem holds : Cert.algebraic_Ff1Ideal_Ff1RefIdeal := by
  pair_intro
  · run_from Cert.Ff1Ideal.Value.run_blocks m g
  run_from Cert.Ff1RefIdeal.Value.run m' g'
  rw [kernel_mm]
  exact (Ff1RefIdeal.Read.val_main_v1_eq _ _).trans (ref_mm _ _)

/-- The reference's frame: it is straight host code and owns no semaphore. -/
theorem ref_frame : Cert.quiescent_Ff1RefIdeal := fun m ρ _ =>
  (θ_run Cert.Ff1RefIdeal.defs _ _).mono (fun r h => ⟨fun c => (h c).2, sem_eq_zero_of_no_sems (by decide) r.2⟩)
    (Cert.Ff1RefIdeal.Value.run m ρ)

end Cert.Ff1Claim
end
-- ==== Proof.DhClaim.lean ====
module
public import proofs.«01_k».proof.Proof.Reals
public import proofs.«01_k».proof.Defs
public import proofs.«01_k».proof.Proof.Gen.DhIdeal.Value
public import proofs.«01_k».proof.Proof.Gen.DhRefIdeal.Run
public import proofs.«01_k».proof.Proof.Gen.DhRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.DhClaim

open Idealize.ShloMosaic Idealize.SL.Sem Cert.Reals
open Cert.DhIdeal Cert.DhIdeal.Gen

variable (m : (ℓ : Loc nD τ sig) → Buf (Elt Ideal) ℓ) (c : Dev nD)

theorem idx (t : Fin cfg0.N) : win0_0.index t = ![t.val / 4, t.val % 2] ∧ win0_1.index t = ![t.val % 2, t.val / 2 % 2, 0]
    ∧ win0_2.index t = ![t.val / 4, t.val / 2 % 2] := by
  revert t; decide +kernel

theorem last_of_flush : ∀ t : Fin cfg0.N, (cfg0.win 2).flush t = true → t.val % 2 = 1 := by
  decide +kernel

/-- Row `r` of block row `t / 4`. -/
def row (t : Fin cfg0.N) (r : Fin 1024) : Fin 8192 := ⟨t.val / 4 * 1024 + r.val, by have := t.isLt; have : cfg0.N = 32 := rfl; omega⟩
/-- Column `k` of block column `t / 2 % 2`. -/
def col (t : Fin cfg0.N) (k : Fin 1024) : Fin 2048 := ⟨t.val / 2 % 2 * 1024 + k.val, by omega⟩
/-- Contracted index `k` of shard `s` of half `n % 2`. -/
def mid (n : ℕ) (s : Fin 4) (k : Fin 1024) : Fin 8192 := ⟨(n % 2 * 4 + s.val) * 1024 + k.val, by omega⟩

variable {m c}

/-- The weight's shards, as the host lays them out: column `k` of shard `s` is column `1024 s + k`. -/
theorem shards (s : Fin 8) (r : Fin 2048) (k : Fin 1024) : (V m c main_v3 : S8x2048x1024.Idx → EReal) (ix3 s r k)
    = m ((c.tc : Thread nD τ).loc main_arg1) (ix2 r ⟨s.val * 1024 + k.val, by omega⟩) := by
  have e : (V m c main_v3 : S8x2048x1024.Idx → EReal) = transpose S8x2048x1024 [1, 0, 2] (shapeCast S2048x8x1024
      (truncf (F := Ideal) .bf16 (m ((c.tc : Thread nD τ).loc main_arg1)) bitsLt_bf16_f32)
      shapeCasts_S2048x8192_S2048x8x1024) transposes_S2048x8x1024_S8x2048x1024_1_0_2 := by
    after_results_simp <;> rfl
  rw [e]
  pointwise

theorem mid0 (n : ℕ) (x : Fin 1024) (h : n % 2 * 4096 + x.val < 8192) : (⟨n % 2 * 4096 + x.val, h⟩ : Fin 8192) = mid n 0 x :=
  Fin.ext (by simp only [mid, Fin.val_zero]; omega)
theorem mid1 (n : ℕ) (x : Fin 1024) (h : n % 2 * 4096 + (1024 + x.val) < 8192) : (⟨n % 2 * 4096 + (1024 + x.val), h⟩ : Fin 8192) = mid n 1 x :=
  Fin.ext (by simp only [mid, Fin.val_one]; omega)
theorem mid2 (n : ℕ) (x : Fin 1024) (h : n % 2 * 4096 + (2048 + x.val) < 8192) : (⟨n % 2 * 4096 + (2048 + x.val), h⟩ : Fin 8192) = mid n 2 x :=
  Fin.ext (by simp only [mid, Fin.val_two]; omega)
theorem mid3 (n : ℕ) (x : Fin 1024) (h : n % 2 * 4096 + (3072 + x.val) < 8192) : (⟨n % 2 * 4096 + (3072 + x.val), h⟩ : Fin 8192) = mid n 3 x :=
  Fin.ext (by simp only [mid, show ((3 : Fin 4).val) = 3 from rfl]; omega)

theorem read0 (t : Fin cfg0.N) (r : Fin 1024) (k : Fin 4096) : iblk m c 0 t (ix2 r k)
    = m ((c.tc : Thread nD τ).loc main_arg0) (ix2 (row t r) ⟨t.val % 2 * 4096 + k.val, by omega⟩) := by
  blk_ext [iblk, V, idx t, row]
theorem read1 (t : Fin cfg0.N) (s : Fin 4) (r k : Fin 1024) :
    iblk m c 1 t (ix3 s r k) = m ((c.tc : Thread nD τ).loc main_arg1) (ix2 (col t r) (mid t.val s k)) := by
  have e : iblk m c 1 t (ix3 s r k)
      = (V m c main_v3 : S8x2048x1024.Idx → EReal) (ix3 ⟨t.val % 2 * 4 + s.val, by omega⟩ (col t r) k) := by
    blk_ext [iblk, idx t, col]
  rw [e]
  exact shards _ _ _

section
variable (A : S8192x8192.Idx → EReal) (W : S2048x8192.Idx → EReal)

/-- One term of `da @ wᵀ`. -/
def term (r : Fin 8192) (k : Fin 2048) (s : Fin 8192) : EReal := A (ix2 r s) * W (ix2 k s)

/-- The terms of half `n % 2`. -/
def part (r : Fin 8192) (k : Fin 2048) (n : ℕ) : EReal :=
  (∑ s : Fin 1024, term A W r k (mid n 0 s)) + (∑ s : Fin 1024, term A W r k (mid n 1 s)) + (∑ s : Fin 1024, term A W r k (mid n 2 s))
    + ∑ s : Fin 1024, term A W r k (mid n 3 s)

/-- `da @ wᵀ`. -/
def mm (i : S8192x2048.Idx) : EReal := ∑ s : Fin 8192, term A W (i 0) (i 1) s

theorem parts (r : Fin 8192) (k : Fin 2048) : part A W r k 0 + part A W r k 1 = ∑ s : Fin 8192, term A W r k s := by
  have e : (∑ s : Fin 8, ∑ x : Fin 1024, term A W r k ⟨s.val * 1024 + x.val, by omega⟩) = ∑ s : Fin 8192, term A W r k s :=
    Fin.sum_mul_add_congr fun t s hl => congrArg _ (Fin.ext (by simp only []))
  rw [← e, Fin.sum_univ_eight]
  unfold part
  simp only [add_assoc]
  rfl
end

variable {A : S8192x8192.Idx → EReal} {W : S2048x8192.Idx → EReal}

theorem first (h0 : m ((c.tc : Thread nD τ).loc main_arg0) = A) (h1 : m ((c.tc : Thread nD τ).loc main_arg1) = W)
    (t : Fin cfg0.N) (h : t.val % 2 = 0) (r k : Fin 1024) :
    outsAt0 m c t.val t.isLt (ix2 r k) = part A W (row t r) (col t k) t.val := by
  subst h0 h1
  rw [outsAt0_A m c t h (by omega)]
  frame_out
  pointwise [k0_pay2]
  simp only [read0, read1, mid0, mid1, mid2, mid3]
  rfl

theorem later (h0 : m ((c.tc : Thread nD τ).loc main_arg0) = A) (h1 : m ((c.tc : Thread nD τ).loc main_arg1) = W)
    (t : Fin cfg0.N) (h : t.val % 2 = 1) (r k : Fin 1024) : outsAt0 m c t.val t.isLt (ix2 r k)
    = outsAt0 m c (t.val - 1) (Nat.lt_of_le_of_lt (Nat.sub_le _ _) t.isLt) (ix2 r k) + part A W (row t r) (col t k) t.val := by
  subst h0 h1
  rw [outsAt0_B m c t (by omega) h]
  frame_out
  pointwise [k0_pay1, k0_pay2]
  simp only [read0, read1, mid0, mid1, mid2, mid3]
  rfl

theorem kernel_mm (h0 : m ((c.tc : Thread nD τ).loc main_arg0) = A) (h1 : m ((c.tc : Thread nD τ).loc main_arg1) = W) :
    (dats m 0 c).arrAt 2 cfg0.N = mm A W := by
  refine (dats m 0 c).arrAt_eq_of_covers 2 _ (by decide +kernel) fun t hf y => ?_
  have h3 := last_of_flush t hf
  have ht := t.isLt
  blk_simp
  rw [after0_2]
  idx_vars y
  have e : ((View.whole main_v4).slice (win0_2.rect t)).emb (ix2 y0 y1) = ix2 (row t y0) (col t y1) := by blk_ext [idx t, row, col]
  rw [e]
  have e1 := first h0 h1 ⟨t.val - 1, by omega⟩ (show (t.val - 1) % 2 = 0 by omega) y0 y1
  have r1 : row ⟨t.val - 1, by omega⟩ y0 = row t y0 := Fin.ext (by simp only [row]; omega)
  have c1 : col ⟨t.val - 1, by omega⟩ y1 = col t y1 := Fin.ext (by simp only [col]; omega)
  rw [r1, c1] at e1
  have p : ∀ n r k, part A W r k n = part A W r k (n % 2) := fun n r k => by unfold part mid; simp only [Nat.mod_mod]
  rw [later h0 h1 t h3]
  refine (congrArg (· + _) e1).trans ?_
  beta_reduce
  rw [p, p t.val, h3, show (t.val - 1) % 2 = 0 by omega]
  exact parts A W (row t y0) (col t y1)

theorem ref_mm (A : S8192x8192.Idx → EReal) (W : S2048x8192.Idx → EReal) : DhRefIdeal.Read.val_main_v2 (F := Ideal) A W = mm A W := by
  funext i
  idx_vars i
  open DhRefIdeal.Read in
  unfold val_main_v2
  pointwise
  rfl

theorem holds : Cert.algebraic_DhIdeal_DhRefIdeal := by
  pair_intro
  · run_from Cert.DhIdeal.Value.run_blocks m g
  run_from Cert.DhRefIdeal.Value.run m' g'
  rw [kernel_mm rfl rfl]
  exact (DhRefIdeal.Read.val_main_v2_eq _ _).trans (ref_mm _ _)

/-- The reference's frame: it is straight host code and owns no semaphore. -/
theorem ref_frame : Cert.quiescent_DhRefIdeal := fun m ρ _ =>
  (θ_run Cert.DhRefIdeal.defs _ _).mono (fun r h => ⟨fun c => (h c).2, sem_eq_zero_of_no_sems (by decide) r.2⟩)
    (Cert.DhRefIdeal.Value.run m ρ)

end Cert.DhClaim
end
-- ==== Proof.AdamWInClaim.lean ====
module
public import proofs.«01_k».proof.Proof.Reals
public import proofs.«01_k».proof.Defs
public import proofs.«01_k».proof.Proof.Gen.AdamWInIdeal.Value
public import proofs.«01_k».proof.Proof.Gen.AdamWInRefIdeal.Run
public import proofs.«01_k».proof.Proof.Gen.AdamWInRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamWInClaim

open Idealize.ShloMosaic Idealize.SL.Sem Cert.Reals
open Cert.AdamWInIdeal Cert.AdamWInIdeal.Gen

variable (m : (ℓ : Loc nD τ sig) → Buf (Elt Ideal) ℓ) (c : Dev nD)

theorem idx (t : Fin cfg0.N) : win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  revert t; decide +kernel

/-- Row `r` of block `t`. -/
def row (t : Fin cfg0.N) (r : Fin 256) : Fin 2048 := ⟨t.val * 256 + r.val, by have := t.isLt; have : cfg0.N = 8 := rfl; omega⟩

variable {m c}

theorem read0 (t : Fin cfg0.N) (d : Fin 8) (r : Fin 256) (k : Fin 770) :
    iblk m c 0 t (ix3 d r k) = m ((c.tc : Thread nD τ).loc main_arg0) (ix3 d (row t r) k) := by
  blk_ext [iblk, V, idx t, row]
theorem read1 (t : Fin cfg0.N) (r : Fin 256) (k : Fin 770) :
    iblk m c 1 t (ix2 r k) = m ((c.tc : Thread nD τ).loc main_arg1) (ix2 (row t r) k) := by
  blk_ext [iblk, V, idx t, row]
theorem read2 (t : Fin cfg0.N) (r : Fin 256) (k : Fin 770) :
    iblk m c 2 t (ix2 r k) = m ((c.tc : Thread nD τ).loc main_arg2) (ix2 (row t r) k) := by
  blk_ext [iblk, V, idx t, row]
theorem read3 (t : Fin cfg0.N) (r : Fin 256) (k : Fin 770) :
    iblk m c 3 t (ix2 r k) = m ((c.tc : Thread nD τ).loc main_arg3) (ix2 (row t r) k) := by
  blk_ext [iblk, V, idx t, row]

/-- The gradient: the sum of the devices' parts. -/
def grad (P : S8x2048x770.Idx → EReal) (i : S2048x770.Idx) : EReal := ∑ d : Fin 8, P (ix3 d (i 0) (i 1))
/-- The first moment after the step. -/
def mom (g m : EReal) : EReal := Ideal.ofBits .f32 0x3F666666#32 * m + Ideal.ofBits .f32 0x3DCCCCCD#32 * g
/-- The second moment after the step. -/
def sec (g v : EReal) : EReal := Ideal.ofBits .f32 0x3F7FBE77#32 * v + Ideal.ofBits .f32 0x3A83126F#32 * (g * g)
/-- The change of the weight. -/
def step (g w m v : EReal) : EReal := Ideal.ofBits .f32 0xBA83126F#32
  * (Ideal.div (Ideal.div (mom g m) (Ideal.ofBits .f32 0x3F26BD02#32))
      (Ideal.sqrt (Ideal.div (sec g v) (Ideal.ofBits .f32 0x3C231ACC#32)) + Ideal.ofBits .f32 0x322BCC77#32)
    + Ideal.ofBits .f32 0x3C23D70A#32 * w)

section
variable (P : S8x2048x770.Idx → EReal) (W M V : S2048x770.Idx → EReal)
def newM (i : S2048x770.Idx) : EReal := mom (grad P i) (M i)
def newV (i : S2048x770.Idx) : EReal := sec (grad P i) (V i)
def delta (i : S2048x770.Idx) : EReal := step (grad P i) (W i) (M i) (V i)
end

variable {P : S8x2048x770.Idx → EReal} {W M Q : S2048x770.Idx → EReal}

/-- The sum one grid point makes. -/
theorem block_grad (h0 : m ((c.tc : Thread nD τ).loc main_arg0) = P) (t : Fin cfg0.N) (r : Fin 256) (k : Fin 770) :
    k0_pay4 (View.ld (iblk m c 0 t) r0_0) (View.ld (iblk m c 0 t) r0_1) (View.ld (iblk m c 0 t) r0_2) (View.ld (iblk m c 0 t) r0_3)
      (View.ld (iblk m c 0 t) r0_4) (View.ld (iblk m c 0 t) r0_5) (View.ld (iblk m c 0 t) r0_6) (View.ld (iblk m c 0 t) r0_7) (ix2 r k)
    = grad P (ix2 (row t r) k) := by
  subst h0
  pointwise [k0_pay4]
  simp only [read0]
  exact (Fin.sum_univ_eight (M := EReal) (fun d : Fin 8 => m ((c.tc : Thread nD τ).loc main_arg0) (ix3 d (row t r) k))).symm

theorem point_grad (h0 : m ((c.tc : Thread nD τ).loc main_arg0) = P) (t : Fin cfg0.N) (r : Fin 256) (k : Fin 770) :
    k0_pay5 (iblk m c 0 t) (iblk m c 1 t) (iblk m c 2 t) (iblk m c 3 t) (ix2 r k) = grad P (ix2 (row t r) k) := block_grad h0 t r k

theorem kernel_grad (h0 : m ((c.tc : Thread nD τ).loc main_arg0) = P) : (dats m 0 c).arrAt 4 cfg0.N = grad P := by
  refine (dats m 0 c).arrAt_eq_of_covers 4 _ (by decide +kernel) fun t hf y => ?_
  blk_simp
  rw [after0_4]
  frame_out
  idx_vars y
  have e : ((View.whole main_v1_0).slice (win0_4.rect t)).emb (ix2 y0 y1) = ix2 (row t y0) y1 := by blk_ext [idx t, row]
  rw [e]
  exact block_grad h0 t y0 y1

theorem kernel_delta (h0 : m ((c.tc : Thread nD τ).loc main_arg0) = P) (h1 : m ((c.tc : Thread nD τ).loc main_arg1) = W)
    (h2 : m ((c.tc : Thread nD τ).loc main_arg2) = M) (h3 : m ((c.tc : Thread nD τ).loc main_arg3) = Q) :
    (dats m 0 c).arrAt 5 cfg0.N = delta P W M Q := by
  refine (dats m 0 c).arrAt_eq_of_covers 5 _ (by decide +kernel) fun t hf y => ?_
  blk_simp
  rw [after0_5]
  frame_out
  idx_vars y
  have e : ((View.whole main_v1_1).slice (win0_5.rect t)).emb (ix2 y0 y1) = ix2 (row t y0) y1 := by blk_ext [idx t, row]
  rw [e]
  pointwise [k0_pay3, k0_pay1, k0_pay2]
  simp only [point_grad h0, read1, read2, read3, h1, h2, h3]
  rfl

theorem kernel_m (h0 : m ((c.tc : Thread nD τ).loc main_arg0) = P) (h2 : m ((c.tc : Thread nD τ).loc main_arg2) = M) :
    (dats m 0 c).arrAt 6 cfg0.N = newM P M := by
  refine (dats m 0 c).arrAt_eq_of_covers 6 _ (by decide +kernel) fun t hf y => ?_
  blk_simp
  rw [after0_6]
  frame_out
  idx_vars y
  have e : ((View.whole main_v1_2).slice (win0_6.rect t)).emb (ix2 y0 y1) = ix2 (row t y0) y1 := by blk_ext [idx t, row]
  rw [e]
  pointwise [k0_pay1]
  simp only [point_grad h0, read2, h2]
  rfl

theorem kernel_v (h0 : m ((c.tc : Thread nD τ).loc main_arg0) = P) (h3 : m ((c.tc : Thread nD τ).loc main_arg3) = Q) :
    (dats m 0 c).arrAt 7 cfg0.N = newV P Q := by
  refine (dats m 0 c).arrAt_eq_of_covers 7 _ (by decide +kernel) fun t hf y => ?_
  blk_simp
  rw [after0_7]
  frame_out
  idx_vars y
  have e : ((View.whole main_v1_3).slice (win0_7.rect t)).emb (ix2 y0 y1) = ix2 (row t y0) y1 := by blk_ext [idx t, row]
  rw [e]
  pointwise [k0_pay2]
  simp only [point_grad h0, read3, h3]
  rfl

section
open AdamWInRefIdeal.Read
variable (P : S8x2048x770.Idx → EReal) (W M V : S2048x770.Idx → EReal)

theorem ref_grad : val_main_v0 (F := Ideal) P = grad P := by
  funext i
  idx_vars i
  unfold val_main_v0 val_main_cst
  pointwise
  rfl

theorem ref_m : val_main_v5 (F := Ideal) P M = newM P M := by
  funext i
  idx_vars i
  unfold val_main_v5 val_main_v4 val_main_v3 val_main_v2 val_main_v1 val_main_cst_0 val_main_cst_1
  rw [ref_grad]
  pointwise
  rfl

theorem ref_v : val_main_v11 (F := Ideal) P V = newV P V := by
  funext i
  idx_vars i
  unfold val_main_v11 val_main_v10 val_main_v9 val_main_v8 val_main_v7 val_main_v6 val_main_cst_2 val_main_cst_3
  rw [ref_grad]
  pointwise
  rfl

theorem ref_delta : val_main_v24 (F := Ideal) P W M V = delta P W M V := by
  funext i
  idx_vars i
  unfold val_main_v24 val_main_v23 val_main_v22 val_main_v21 val_main_v20 val_main_v19 val_main_v18 val_main_v17 val_main_v16 val_main_v15
    val_main_v14 val_main_v13 val_main_v12 val_main_cst_4 val_main_cst_5 val_main_cst_6 val_main_cst_7 val_main_cst_8
  rw [ref_m, ref_v]
  pointwise
  rfl
end

theorem holds : Cert.algebraic_AdamWInIdeal_AdamWInRefIdeal := by
  intro m g m' g' hpre hagree
  refine ⟨fun c => grad (m ((c.tc : Thread nD τ).loc main_arg0)),
    fun c => delta (m ((c.tc : Thread nD τ).loc main_arg0)) (m ((c.tc : Thread nD τ).loc main_arg1)) (m ((c.tc : Thread nD τ).loc main_arg2))
      (m ((c.tc : Thread nD τ).loc main_arg3)),
    fun c => newM (m ((c.tc : Thread nD τ).loc main_arg0)) (m ((c.tc : Thread nD τ).loc main_arg2)),
    fun c => newV (m ((c.tc : Thread nD τ).loc main_arg0)) (m ((c.tc : Thread nD τ).loc main_arg3)),
    (θ_run _ _ _).mono (fun r h c => ?_) (AdamWInIdeal.Value.run_blocks m g),
    (θ_run _ _ _).mono (fun r h c => ?_) (AdamWInRefIdeal.Value.run m' g')⟩
  · obtain ⟨h0, h1, h2, h3, ha⟩ := h c
    exact ⟨h0.trans (kernel_grad rfl), h1.trans (kernel_delta rfl rfl rfl rfl), h2.trans (kernel_m rfl rfl), h3.trans (kernel_v rfl rfl), ha⟩
  · obtain ⟨h0, h1, h2, h3, ha⟩ := h c
    obtain ⟨a0, a1, a2, a3⟩ := hagree c
    refine ⟨h0.trans ?_, h1.trans ?_, h2.trans ?_, h3.trans ?_, ha⟩
    · rw [AdamWInRefIdeal.Read.val_main_v0_eq, a0]; exact ref_grad _
    · rw [AdamWInRefIdeal.Read.val_main_v24_eq, a0, a1, a2, a3]; exact ref_delta _ _ _ _
    · rw [AdamWInRefIdeal.Read.val_main_v5_eq, a0, a2]; exact ref_m _ _
    · rw [AdamWInRefIdeal.Read.val_main_v11_eq, a0, a3]; exact ref_v _ _

/-- The reference's frame: it is straight host code and owns no semaphore. -/
theorem ref_frame : Cert.quiescent_AdamWInRefIdeal := fun m ρ _ =>
  (θ_run Cert.AdamWInRefIdeal.defs _ _).mono (fun r h => ⟨fun c => (h c).2.2.2.2, sem_eq_zero_of_no_sems (by decide) r.2⟩)
    (Cert.AdamWInRefIdeal.Value.run m ρ)

end Cert.AdamWInClaim
end
-- ==== Proof.SumPartsClaim.lean ====
module
public import proofs.«01_k».proof.Proof.Reals
public import proofs.«01_k».proof.Defs
public import proofs.«01_k».proof.Proof.Gen.SumPartsIdeal.Value
public import proofs.«01_k».proof.Proof.Gen.SumPartsRefIdeal.Run
public import proofs.«01_k».proof.Proof.Gen.SumPartsRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.SumPartsClaim

open Idealize.ShloMosaic Idealize.SL.Sem Cert.Reals
open Cert.SumPartsIdeal Cert.SumPartsIdeal.Gen

variable (m : (ℓ : Loc nD τ sig) → Buf (Elt Ideal) ℓ) (c : Dev nD)

theorem idx (t : Fin cfg0.N) : win0_0.index t = ![0, 0, 0] ∧ win0_1.index t = ![0, 0] := by
  revert t; decide +kernel

variable {m c}

theorem read0 (t : Fin cfg0.N) (d : Fin 8) (r : Fin 152) (k : Fin 128) :
    iblk m c 0 t (ix3 d r k) = m ((c.tc : Thread nD τ).loc main_arg0) (ix3 d r k) := by
  blk_ext [iblk, V, idx t]

/-- The sum of the devices' blocks. -/
def tot (X : S8x152x128.Idx → EReal) (i : S152x128.Idx) : EReal := ∑ d : Fin 8, X (ix3 d (i 0) (i 1))

theorem kernel_tot : (dats m 0 c).arrAt 1 cfg0.N = tot (m ((c.tc : Thread nD τ).loc main_arg0)) := by
  refine (dats m 0 c).arrAt_eq_of_covers 1 _ (by decide +kernel) fun t hf y => ?_
  blk_simp
  rw [after0_1]
  frame_out
  idx_vars y
  pointwise [k0_pay1]
  simp only [read0]
  have e : ((View.whole main_v0).slice (win0_1.rect t)).emb (ix2 y0 y1) = ix2 y0 y1 := by blk_ext [idx t]
  rw [e]
  exact (Fin.sum_univ_eight (M := EReal) (fun d : Fin 8 => m ((c.tc : Thread nD τ).loc main_arg0) (ix3 d y0 y1))).symm

theorem ref_tot (X : S8x152x128.Idx → EReal) : SumPartsRefIdeal.Read.val_main_v0 (F := Ideal) X = tot X := by
  funext i
  idx_vars i
  open SumPartsRefIdeal.Read in
  unfold val_main_v0 val_main_cst
  pointwise
  rfl

theorem holds : Cert.algebraic_SumPartsIdeal_SumPartsRefIdeal := by
  pair_intro
  · run_from Cert.SumPartsIdeal.Value.run_blocks m g
  run_from Cert.SumPartsRefIdeal.Value.run m' g'
  rw [kernel_tot]
  exact (SumPartsRefIdeal.Read.val_main_v0_eq _).trans (ref_tot _)

/-- The reference's frame: it is straight host code and owns no semaphore. -/
theorem ref_frame : Cert.quiescent_SumPartsRefIdeal := fun m ρ _ =>
  (θ_run Cert.SumPartsRefIdeal.defs _ _).mono (fun r h => ⟨fun c => (h c).2, sem_eq_zero_of_no_sems (by decide) r.2⟩)
    (Cert.SumPartsRefIdeal.Value.run m ρ)

end Cert.SumPartsClaim
end
-- ==== Proof.Over.lean ====
module

public import Idealize.ShloMosaic.Lib.Pipeline.FrameBody

@[expose] public section

namespace Cert.Over

open Idealize.ShloMosaic

variable {sig : RefSig} {κ : Kind} {sp : Space} {s : Shape} {e : EltTy} {Val : EltTy → Type}

/-- A buffer that held `x`, after the stores `L` (the last one first). -/
def over (x : s.Idx → Val e) : List (View.Piece Val s e) → s.Idx → Val e
  | [] => x
  | p :: L => p.1.overlay (over x L) p.2

/-- Reading a buffer after the stores `L` gives what it held, overlaid by them. -/
theorem read_writes_over (v : View sig κ sp s e) (f : v.ty.Contents Val) :
    ∀ L : List (View.Piece Val s e), v.read Val (v.writes Val f L) = over (v.read Val f) L
  | [] => by rw [View.writes_nil]; rfl
  | p :: L => by
    funext y
    unfold over
    by_cases hy : y ∈ p.1.set
    · obtain ⟨r, w⟩ := p
      obtain ⟨x, rfl⟩ : ∃ x, r.emb x = y := r.exists_idx_of_mem hy
      rw [View.read_writes_cons_emb]
      exact (r.overlay_emb _ _ x).symm
    · have hy' : y ∉ Finset.univ.map p.1.emb := by rwa [Rect.map_emb_univ]
      rw [View.writes_cons, View.read_slice_write_of_not_mem p.1 _ _ _ hy', read_writes_over v f L]
      exact (p.1.overlay_of_not_mem _ _ hy).symm

end Cert.Over
-- ==== Proof.MixPieces.lean ====
module

public import proofs.«01_k».proof.Proof.Over
public import Idealize.ShloMosaic.Lib.Pointwise

@[expose] public section

noncomputable section

/-! Reading a matrix that is stored block by block, and loading a block of a matrix. -/

namespace Cert.MixPieces

open Idealize.ShloMosaic Cert.Over

variable {R C a b p q : ℕ} {e : EltTy}

theorem emb_ix2 (inb : ∀ x : Fin 2, (![a, b] : Fin 2 → ℕ) x + (![p, q] : Fin 2 → ℕ) x ≤ (⟨2, ![R, C]⟩ : Shape).size x) (r : Fin p) (j : Fin q) (i : Fin R) (k : Fin C)
    (hi : i.val = a + r.val) (hk : k.val = b + j.val) : (Rect.unit (s := ⟨2, ![R, C]⟩) ![a, b] ![p, q] inb).emb (ix2 r j) = ix2 i k := by
  funext x
  apply Fin.ext
  rw [Rect.emb_apply]
  fin_cases x
  · simp [Rect.unit, ix2, hi]
  · simp [Rect.unit, ix2, hk]

theorem not_mem (inb : ∀ x : Fin 2, (![a, b] : Fin 2 → ℕ) x + (![p, q] : Fin 2 → ℕ) x ≤ (⟨2, ![R, C]⟩ : Shape).size x) (i : Fin R) (k : Fin C)
    (h : i.val < a ∨ a + p ≤ i.val ∨ k.val < b ∨ b + q ≤ k.val) : ix2 i k ∉ (Rect.unit (s := ⟨2, ![R, C]⟩) ![a, b] ![p, q] inb).set := by
  intro hm
  obtain ⟨j0, h0, e0⟩ := (LoadRect.mem_set _).mp hm 0
  obtain ⟨j1, h1, e1⟩ := (LoadRect.mem_set _).mp hm 1
  change j0 < p at h0
  change j1 < q at h1
  change i.val = a + 1 * j0 at e0
  change k.val = b + 1 * j1 at e1
  omega

/-- Inside the last block. -/
theorem hit (inb) (w) (L : List (View.Piece (Elt Ideal) ⟨2, ![R, C]⟩ e)) (r : Fin p) (j : Fin q) (i : Fin R) (k : Fin C)
    (hi : i.val = a + r.val) (hk : k.val = b + j.val) :
    View.canon (⟨Rect.unit (s := ⟨2, ![R, C]⟩) ![a, b] ![p, q] inb, w⟩ :: L) (ix2 i k) = w (ix2 r j) := by
  rw [← emb_ix2 inb r j i k hi hk]
  exact View.canon_cons_emb _ w L _

/-- Outside the last block. -/
theorem miss (inb) (w) (L : List (View.Piece (Elt Ideal) ⟨2, ![R, C]⟩ e)) (i : Fin R) (k : Fin C) (h : i.val < a ∨ a + p ≤ i.val ∨ k.val < b ∨ b + q ≤ k.val) :
    View.canon (⟨Rect.unit (s := ⟨2, ![R, C]⟩) ![a, b] ![p, q] inb, w⟩ :: L) (ix2 i k) = View.canon L (ix2 i k) :=
  View.canon_cons_of_not_mem _ L (not_mem inb i k h)

variable {z : (⟨2, ![R, C]⟩ : Shape).Idx → Elt Ideal e}

theorem over_hit (inb) (w) (L : List (View.Piece (Elt Ideal) ⟨2, ![R, C]⟩ e)) (r : Fin p) (j : Fin q) (i : Fin R) (k : Fin C)
    (hi : i.val = a + r.val) (hk : k.val = b + j.val) :
    over z (⟨Rect.unit (s := ⟨2, ![R, C]⟩) ![a, b] ![p, q] inb, w⟩ :: L) (ix2 i k) = w (ix2 r j) := by
  rw [← emb_ix2 inb r j i k hi hk]
  exact Rect.overlay_emb _ _ _ _

theorem over_miss (inb) (w) (L : List (View.Piece (Elt Ideal) ⟨2, ![R, C]⟩ e)) (i : Fin R) (k : Fin C) (h : i.val < a ∨ a + p ≤ i.val ∨ k.val < b ∨ b + q ≤ k.val) :
    over z (⟨Rect.unit (s := ⟨2, ![R, C]⟩) ![a, b] ![p, q] inb, w⟩ :: L) (ix2 i k) = over z L (ix2 i k) :=
  Rect.overlay_of_not_mem _ _ _ (not_mem inb i k h)

/-- Loading a block. -/
theorem ld2 (x : (⟨2, ![R, C]⟩ : Shape).Idx → Elt Ideal e) (inb) (r : Fin p) (j : Fin q) (i : Fin R) (k : Fin C) (hi : i.val = a + r.val) (hk : k.val = b + j.val) :
    View.ld x (Rect.unit (s := ⟨2, ![R, C]⟩) ![a, b] ![p, q] inb) (ix2 r j) = x (ix2 i k) := by
  show x ((Rect.unit (s := ⟨2, ![R, C]⟩) ![a, b] ![p, q] inb).emb (ix2 r j)) = _
  rw [emb_ix2 inb r j i k hi hk]

/-! Arrays that are stored matrix by matrix. -/

variable {N M P Q n m : ℕ} {f : EltTy}

theorem emb3 (inb : ∀ x : Fin 3, (![n, 0, 0] : Fin 3 → ℕ) x + (![1, P, Q] : Fin 3 → ℕ) x ≤ (⟨3, ![N, P, Q]⟩ : Shape).size x) (o : Fin 1) (r : Fin P) (j : Fin Q) (i : Fin N)
    (hi : i.val = n) : (Rect.unit (s := ⟨3, ![N, P, Q]⟩) ![n, 0, 0] ![1, P, Q] inb).emb (ix3 o r j) = ix3 i r j := by
  funext x
  apply Fin.ext
  rw [Rect.emb_apply]
  fin_cases x
  · simp [Rect.unit, ix3, hi]
  · simp [Rect.unit, ix3]
  · simp [Rect.unit, ix3]

theorem not_mem3 (inb : ∀ x : Fin 3, (![n, 0, 0] : Fin 3 → ℕ) x + (![1, P, Q] : Fin 3 → ℕ) x ≤ (⟨3, ![N, P, Q]⟩ : Shape).size x) (r : Fin P) (j : Fin Q) (i : Fin N)
    (h : i.val ≠ n) : ix3 i r j ∉ (Rect.unit (s := ⟨3, ![N, P, Q]⟩) ![n, 0, 0] ![1, P, Q] inb).set := by
  intro hm
  obtain ⟨j0, h0, e0⟩ := (LoadRect.mem_set _).mp hm 0
  change j0 < 1 at h0
  change i.val = n + 1 * j0 at e0
  omega

variable {y : (⟨3, ![N, P, Q]⟩ : Shape).Idx → Elt Ideal f}

theorem over_hit3 (inb) (w) (L : List (View.Piece (Elt Ideal) ⟨3, ![N, P, Q]⟩ f)) (r : Fin P) (j : Fin Q) (i : Fin N) (hi : i.val = n) :
    over y (⟨Rect.unit (s := ⟨3, ![N, P, Q]⟩) ![n, 0, 0] ![1, P, Q] inb, w⟩ :: L) (ix3 i r j) = w (ix3 0 r j) := by
  rw [← emb3 inb 0 r j i hi]
  exact Rect.overlay_emb _ _ _ _

theorem over_miss3 (inb) (w) (L : List (View.Piece (Elt Ideal) ⟨3, ![N, P, Q]⟩ f)) (r : Fin P) (j : Fin Q) (i : Fin N) (h : i.val ≠ n) :
    over y (⟨Rect.unit (s := ⟨3, ![N, P, Q]⟩) ![n, 0, 0] ![1, P, Q] inb, w⟩ :: L) (ix3 i r j) = over y L (ix3 i r j) :=
  Rect.overlay_of_not_mem _ _ _ (not_mem3 inb r j i h)

theorem ld3 (x : (⟨3, ![N, P, Q]⟩ : Shape).Idx → Elt Ideal f) (inb) (o : Fin 1) (r : Fin P) (j : Fin Q) (i : Fin N) (hi : i.val = n) :
    View.ld x (Rect.unit (s := ⟨3, ![N, P, Q]⟩) ![n, 0, 0] ![1, P, Q] inb) (ix3 o r j) = x (ix3 i r j) := by
  show x ((Rect.unit (s := ⟨3, ![N, P, Q]⟩) ![n, 0, 0] ![1, P, Q] inb).emb (ix3 o r j)) = _
  rw [emb3 inb o r j i hi]

theorem emb4 (inb : ∀ x : Fin 4, (![n, m, 0, 0] : Fin 4 → ℕ) x + (![1, 1, P, Q] : Fin 4 → ℕ) x ≤ (⟨4, ![N, M, P, Q]⟩ : Shape).size x) (o o' : Fin 1) (r : Fin P) (j : Fin Q)
    (i : Fin N) (k : Fin M) (hi : i.val = n) (hk : k.val = m) : (Rect.unit (s := ⟨4, ![N, M, P, Q]⟩) ![n, m, 0, 0] ![1, 1, P, Q] inb).emb (ix4 o o' r j) = ix4 i k r j := by
  funext x
  apply Fin.ext
  rw [Rect.emb_apply]
  fin_cases x
  · simp [Rect.unit, ix4, hi]
  · simp [Rect.unit, ix4, hk]
  · simp [Rect.unit, ix4]
  · simp [Rect.unit, ix4]

theorem hit4 (inb) (w) (L : List (View.Piece (Elt Ideal) ⟨4, ![N, M, P, Q]⟩ f)) (r : Fin P) (j : Fin Q) (i : Fin N) (k : Fin M) (hi : i.val = n) (hk : k.val = m) :
    View.canon (⟨Rect.unit (s := ⟨4, ![N, M, P, Q]⟩) ![n, m, 0, 0] ![1, 1, P, Q] inb, w⟩ :: L) (ix4 i k r j) = w (ix4 0 0 r j) := by
  rw [← emb4 inb 0 0 r j i k hi hk]
  exact View.canon_cons_emb _ w L _

theorem miss4 (inb) (w) (L : List (View.Piece (Elt Ideal) ⟨4, ![N, M, P, Q]⟩ f)) (r : Fin P) (j : Fin Q) (i : Fin N) (k : Fin M) (h : i.val ≠ n ∨ k.val ≠ m) :
    View.canon (⟨Rect.unit (s := ⟨4, ![N, M, P, Q]⟩) ![n, m, 0, 0] ![1, 1, P, Q] inb, w⟩ :: L) (ix4 i k r j) = View.canon L (ix4 i k r j) := by
  refine View.canon_cons_of_not_mem _ L fun hm => ?_
  obtain ⟨j0, h0, e0⟩ := (LoadRect.mem_set _).mp hm 0
  obtain ⟨j1, h1, e1⟩ := (LoadRect.mem_set _).mp hm 1
  change j0 < 1 at h0
  change j1 < 1 at h1
  change i.val = n + 1 * j0 at e0
  change k.val = m + 1 * j1 at e1
  omega

theorem ld4 (x : (⟨4, ![N, M, P, Q]⟩ : Shape).Idx → Elt Ideal f) (inb) (o o' : Fin 1) (r : Fin P) (j : Fin Q) (i : Fin N) (k : Fin M) (hi : i.val = n) (hk : k.val = m) :
    View.ld x (Rect.unit (s := ⟨4, ![N, M, P, Q]⟩) ![n, m, 0, 0] ![1, 1, P, Q] inb) (ix4 o o' r j) = x (ix4 i k r j) := by
  show x ((Rect.unit (s := ⟨4, ![N, M, P, Q]⟩) ![n, m, 0, 0] ![1, 1, P, Q] inb).emb (ix4 o o' r j)) = _
  rw [emb4 inb o o' r j i k hi hk]

end Cert.MixPieces

end
-- ==== Proof.ToColsClaim.lean ====
module
public import proofs.«01_k».proof.Proof.Reals
public import proofs.«01_k».proof.Proof.MixPieces
public import proofs.«01_k».proof.Defs
public import proofs.«01_k».proof.Proof.Gen.ToColsIdeal.Value
public import proofs.«01_k».proof.Proof.Gen.ToColsRefIdeal.Run
public import proofs.«01_k».proof.Proof.Gen.ToColsRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.ToColsClaim

open Idealize.ShloMosaic Idealize.SL.Sem Cert.Reals Cert.Over Cert.MixPieces
open Cert.ToColsIdeal Cert.ToColsIdeal.Gen

variable (m : (ℓ : Loc nD τ sig) → Buf (Elt Ideal) ℓ) (c : Dev nD)

theorem idx (t : Fin cfg0.N) : win0_0.index t = ![0, t.val, 0] ∧ win0_1.index t = ![t.val, 0] ∧ win0_2.index t = ![t.val, 0] := by
  revert t; decide +kernel

/-- Row `r` of block `t`. -/
def row (t : Fin cfg0.N) (r : Fin 512) : Fin 2048 := ⟨t.val * 512 + r.val, by have := t.isLt; have : cfg0.N = 4 := rfl; omega⟩

variable {m c}

theorem read0 (t : Fin cfg0.N) (d : Fin 8) (r : Fin 512) (k : Fin 770) :
    iblk m c 0 t (ix3 d r k) = m ((c.tc : Thread nD τ).loc main_arg0) (ix3 d (row t r) k) := by
  blk_ext [iblk, V, idx t, row]

/-- The columns of the shards side by side: column `j` is column `j % 770` of shard `j / 770`. -/
def cols (X : S8x2048x770.Idx → EReal) (i : S2048x6144.Idx) : EReal :=
  X (ix3 ⟨(i 1).val / 770, by have : (i 1).val < 6144 := (i 1).isLt; omega⟩ (i 0) ⟨(i 1).val % 770, by omega⟩)

theorem at_cols (X : S8x2048x770.Idx → EReal) (d : Fin 8) (r : Fin 2048) (k : Fin 770) (j : Fin 6144) (h : j.val = d.val * 770 + k.val) :
    X (ix3 d r k) = cols X (ix2 r j) := by
  have e1 : (⟨j.val / 770, by omega⟩ : Fin 8) = d := Fin.ext (by simp only []; omega)
  have e2 : (⟨j.val % 770, by omega⟩ : Fin 770) = k := Fin.ext (by simp only []; omega)
  show X (ix3 d r k) = X (ix3 ⟨j.val / 770, by omega⟩ r ⟨j.val % 770, by omega⟩)
  rw [e1, e2]

/-- The columns left over: the last sixteen of the last shard, then zeros. -/
def rest (X : S8x2048x770.Idx → EReal) (i : S2048x128.Idx) : EReal :=
  if h : (i 1).val < 16 then X (ix3 7 (i 0) ⟨754 + (i 1).val, by omega⟩) else 0

theorem kernel_cols : (dats m 0 c).arrAt 1 cfg0.N = cols (m ((c.tc : Thread nD τ).loc main_arg0)) := by
  refine (dats m 0 c).arrAt_eq_of_covers 1 _ (by decide +kernel) fun t hf y => ?_
  blk_simp
  rw [after0_1]
  unfold outsAt0 out0_A_1 kernelRun0_A
  dsimp only
  idx_vars y
  have e : ((View.whole main_v1_0).slice (win0_1.rect t)).emb (ix2 y0 y1) = ix2 (row t y0) y1 := by blk_ext [idx t, row]
  rw [e, read_writes_over]
  simp only [kernelRun0_A.sl.r, View.readAt_eq_ld, Memref.IsWhole.read_unread]
  by_cases h7 : 5390 ≤ y1.val
  · refine (over_hit _ _ _ y0 ⟨y1.val - 5390, by omega⟩ y0 y1 (by omega) (by simp only []; omega)).trans ?_
    pointwise [k0_pay1]
    rw [read0]
    exact at_cols _ _ _ _ _ (by simp only [Fin.val_zero, Fin.val_one]; omega)
  rw [over_miss _ _ _ _ _ (by omega)]
  by_cases h6 : 4620 ≤ y1.val
  · refine (over_hit _ _ _ y0 ⟨y1.val - 4620, by omega⟩ y0 y1 (by omega) (by simp only []; omega)).trans ?_
    pointwise [k0_pay10]
    rw [read0]
    exact at_cols _ _ _ _ _ (by simp only [Fin.val_zero, Fin.val_one]; omega)
  rw [over_miss _ _ _ _ _ (by omega)]
  by_cases h5 : 3850 ≤ y1.val
  · refine (over_hit _ _ _ y0 ⟨y1.val - 3850, by omega⟩ y0 y1 (by omega) (by simp only []; omega)).trans ?_
    pointwise [k0_pay9]
    rw [read0]
    exact at_cols _ _ _ _ _ (by simp only [Fin.val_zero, Fin.val_one]; omega)
  rw [over_miss _ _ _ _ _ (by omega)]
  by_cases h4 : 3080 ≤ y1.val
  · refine (over_hit _ _ _ y0 ⟨y1.val - 3080, by omega⟩ y0 y1 (by omega) (by simp only []; omega)).trans ?_
    pointwise [k0_pay8]
    rw [read0]
    exact at_cols _ _ _ _ _ (by simp only [Fin.val_zero, Fin.val_one]; omega)
  rw [over_miss _ _ _ _ _ (by omega)]
  by_cases h3 : 2310 ≤ y1.val
  · refine (over_hit _ _ _ y0 ⟨y1.val - 2310, by omega⟩ y0 y1 (by omega) (by simp only []; omega)).trans ?_
    pointwise [k0_pay7]
    rw [read0]
    exact at_cols _ _ _ _ _ (by simp only [Fin.val_zero, Fin.val_one]; omega)
  rw [over_miss _ _ _ _ _ (by omega)]
  by_cases h2 : 1540 ≤ y1.val
  · refine (over_hit _ _ _ y0 ⟨y1.val - 1540, by omega⟩ y0 y1 (by omega) (by simp only []; omega)).trans ?_
    pointwise [k0_pay6]
    rw [read0]
    exact at_cols _ _ _ _ _ (by simp only [Fin.val_zero, Fin.val_one]; omega)
  rw [over_miss _ _ _ _ _ (by omega)]
  by_cases h1 : 770 ≤ y1.val
  · refine (over_hit _ _ _ y0 ⟨y1.val - 770, by omega⟩ y0 y1 (by omega) (by simp only []; omega)).trans ?_
    pointwise [k0_pay5]
    rw [read0]
    exact at_cols _ _ _ _ _ (by simp only [Fin.val_zero, Fin.val_one]; omega)
  rw [over_miss _ _ _ _ _ (by omega)]
  refine (over_hit _ _ _ y0 ⟨y1.val - 0, by omega⟩ y0 y1 (by omega) (by simp only []; omega)).trans ?_
  pointwise [k0_pay4]
  rw [read0]
  exact at_cols _ _ _ _ _ (by simp only [Fin.val_zero, Fin.val_one]; omega)

theorem kernel_rest : (dats m 0 c).arrAt 2 cfg0.N = rest (m ((c.tc : Thread nD τ).loc main_arg0)) := by
  refine (dats m 0 c).arrAt_eq_of_covers 2 _ (by decide +kernel) fun t hf y => ?_
  blk_simp
  rw [after0_2]
  unfold outsAt0 out0_A_2 kernelRun0_A
  dsimp only
  idx_vars y
  have e : ((View.whole main_v1_1).slice (win0_2.rect t)).emb (ix2 y0 y1) = ix2 (row t y0) y1 := by blk_ext [idx t, row]
  rw [e, read_writes_over]
  simp only [View.readAt_eq_ld, Memref.IsWhole.read_unread]
  by_cases h : y1.val < 16
  · refine (over_hit _ _ _ y0 ⟨y1.val, h⟩ y0 y1 (by omega) (by simp only []; omega)).trans ?_
    pointwise [k0_pay3]
    rw [read0]
    unfold rest
    rw [dif_pos (show (ix2 (row t y0) y1 1).val < 16 from h)]
    rfl
  · rw [over_miss _ _ _ _ _ (by omega)]
    refine (over_hit _ _ _ y0 y1 y0 y1 (by omega) (by omega)).trans ?_
    pointwise [k0_pay2]
    unfold rest
    rw [dif_neg (show ¬(ix2 (row t y0) y1 1).val < 16 from h)]

theorem ref_cols (X : S8x2048x770.Idx → EReal) : ToColsRefIdeal.Read.val_main_v3 (F := Ideal) X = cols X := by
  funext i
  idx_vars i
  open ToColsRefIdeal.Read in
  unfold val_main_v3 val_main_v2 val_main_v1 val_main_v0
  pointwise
  rfl

theorem ref_rest (X : S8x2048x770.Idx → EReal) : ToColsRefIdeal.Read.val_main_v5 (F := Ideal) X = rest X := by
  funext i
  idx_vars i
  open ToColsRefIdeal.Read in
  unfold val_main_v5 val_main_v4 val_main_v2 val_main_v1 val_main_v0 val_main_call0_v0 val_main_c
  pointwise
  by_cases h : i1.val < 16
  · refine (dif_pos h).trans (Eq.trans ?_ (dif_pos h).symm)
    have e1 : (⟨(6144 + i1.val) / 770, by omega⟩ : Fin 8) = 7 := Fin.ext (by show (6144 + i1.val) / 770 = 7; omega)
    have e2 : (⟨(6144 + i1.val) % 770, by omega⟩ : Fin 770) = ⟨754 + i1.val, by omega⟩ := Fin.ext (by simp only []; omega)
    rw [e1, e2]
    rfl
  · refine (dif_neg h).trans (Eq.trans ?_ (dif_neg h).symm)
    simp [FloatOps.sitofp]

theorem holds : Cert.algebraic_ToColsIdeal_ToColsRefIdeal := by
  pair_intro
  · run_from Cert.ToColsIdeal.Value.run_blocks m g
  run_from Cert.ToColsRefIdeal.Value.run m' g'
  · rw [kernel_cols]
    exact (ToColsRefIdeal.Read.val_main_v3_eq _).trans (ref_cols _)
  · rw [kernel_rest]
    exact (ToColsRefIdeal.Read.val_main_v5_eq _).trans (ref_rest _)

/-- The reference's frame: it is straight host code and owns no semaphore. -/
theorem ref_frame : Cert.quiescent_ToColsRefIdeal := fun m ρ _ =>
  (θ_run Cert.ToColsRefIdeal.defs _ _).mono (fun r h => ⟨fun c => (h c).2.2, sem_eq_zero_of_no_sems (by decide) r.2⟩)
    (Cert.ToColsRefIdeal.Value.run m ρ)

end Cert.ToColsClaim
end
-- ==== Proof.ToShardsClaim.lean ====
module
public import proofs.«01_k».proof.Proof.Reals
public import proofs.«01_k».proof.Proof.Over
public import proofs.«01_k».proof.Defs
public import proofs.«01_k».proof.Proof.Gen.ToShardsIdeal.Value
public import proofs.«01_k».proof.Proof.Gen.ToShardsRefIdeal.Run
public import proofs.«01_k».proof.Proof.Gen.ToShardsRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.ToShardsClaim

open Idealize.ShloMosaic Idealize.SL.Sem Cert.Reals Cert.Over
open Cert.ToShardsIdeal Cert.ToShardsIdeal.Gen

variable (m : (ℓ : Loc nD τ sig) → Buf (Elt Ideal) ℓ) (c : Dev nD)

theorem idx (t : Fin cfg0.N) : win0_0.index t = ![t.val, 0] ∧ win0_1.index t = ![t.val, 0] ∧ win0_2.index t = ![0, t.val, 0] := by
  revert t; decide +kernel

/-- Row `r` of block `t`. -/
def row (t : Fin cfg0.N) (r : Fin 512) : Fin 2048 := ⟨t.val * 512 + r.val, by have := t.isLt; have : cfg0.N = 4 := rfl; omega⟩

variable {m c}

theorem read0 (t : Fin cfg0.N) (r : Fin 512) (k : Fin 6144) :
    iblk m c 0 t (ix2 r k) = m ((c.tc : Thread nD τ).loc main_arg0) (ix2 (row t r) ⟨k.val, by omega⟩) := by
  have e : iblk m c 0 t (ix2 r k) = (V m c main_v1 : S2048x6144.Idx → EReal) (ix2 (row t r) k) := by
    blk_ext [iblk, idx t, row]
  have v : (V m c main_v1 : S2048x6144.Idx → EReal) = extractStridedSlice S2048x6144 ![0, 0]
      (truncf (F := Ideal) .bf16 (m ((c.tc : Thread nD τ).loc main_arg0)) bitsLt_bf16_f32) slices_S2048x6160_S2048x6144_0_0 := by
    simp only [V, hostOps0, hostOps0_1, List.flatten_cons, List.flatten_nil, List.cons_append, List.nil_append, List.append_nil]
    after_results_simp <;> rfl
  rw [e, v]
  pointwise

theorem read1 (t : Fin cfg0.N) (r : Fin 512) (k : Fin 128) (h : k.val < 16) :
    iblk m c 1 t (ix2 r k) = m ((c.tc : Thread nD τ).loc main_arg0) (ix2 (row t r) ⟨6144 + k.val, by omega⟩) := by
  have e : iblk m c 1 t (ix2 r k) = (V m c main_v3 : S2048x128.Idx → EReal) (ix2 (row t r) k) := by
    blk_ext [iblk, idx t, row]
  have v : (V m c main_v3 : S2048x128.Idx → EReal) = pad S2048x128 ![0, 0] ![0, 112] ![0, 0] (extractStridedSlice S2048x16 ![0, 6144]
      (truncf (F := Ideal) .bf16 (m ((c.tc : Thread nD τ).loc main_arg0)) bitsLt_bf16_f32) slices_S2048x6160_S2048x16_0_6144)
        (sitofp (F := Ideal) .bf16 (constantI S_ 32 0#32)) pads_S2048x16_S2048x128_000_01120 h_S_ := by
    simp only [V, hostOps0, hostOps0_1, List.flatten_cons, List.flatten_nil, List.cons_append, List.nil_append, List.append_nil]
    after_results_simp <;> rfl
  rw [e, v]
  pointwise
  exact dif_pos h

section
variable {n b q : ℕ} {z : S8x512x770.Idx → Elt Ideal .bf16}

theorem emb_at (inb : ∀ x : Fin 3, (![n, 0, b] : Fin 3 → ℕ) x + (![1, 512, q] : Fin 3 → ℕ) x ≤ S8x512x770.size x) (r : Fin 512) (j : Fin q)
    (d : Fin 8) (k : Fin 770) (hd : d.val = n) (hk : k.val = b + j.val) :
    (Rect.unit (s := S8x512x770) ![n, 0, b] ![1, 512, q] inb).emb (ix3 0 r j) = ix3 d r k := by
  funext x
  apply Fin.ext
  rw [Rect.emb_apply]
  fin_cases x
  · simp [Rect.unit, ix3, hd]
  · simp [Rect.unit, ix3]
  · simp [Rect.unit, ix3, hk]

theorem hit (inb) (w) (L : List (View.Piece (Elt Ideal) S8x512x770 .bf16)) (r : Fin 512) (j : Fin q) (d : Fin 8) (k : Fin 770)
    (hd : d.val = n) (hk : k.val = b + j.val) :
    over z (⟨Rect.unit (s := S8x512x770) ![n, 0, b] ![1, 512, q] inb, w⟩ :: L) (ix3 d r k) = w (ix3 0 r j) := by
  rw [← emb_at inb r j d k hd hk]
  exact Rect.overlay_emb _ _ _ _

theorem miss (inb) (w) (L : List (View.Piece (Elt Ideal) S8x512x770 .bf16)) (r : Fin 512) (d : Fin 8) (k : Fin 770)
    (h : d.val ≠ n ∨ k.val < b ∨ b + q ≤ k.val) :
    over z (⟨Rect.unit (s := S8x512x770) ![n, 0, b] ![1, 512, q] inb, w⟩ :: L) (ix3 d r k) = over z L (ix3 d r k) := by
  refine Rect.overlay_of_not_mem _ _ _ fun hm => ?_
  obtain ⟨j0, h0, e0⟩ := (LoadRect.mem_set _).mp hm 0
  obtain ⟨j2, h2, e2⟩ := (LoadRect.mem_set _).mp hm 2
  change j0 < 1 at h0
  change j2 < q at h2
  change d.val = n + 1 * j0 at e0
  change k.val = b + 1 * j2 at e2
  omega
end

/-- The shards of the columns: column `k` of shard `d` is column `770 d + k`. -/
def shards (X : S2048x6160.Idx → EReal) (i : S8x2048x770.Idx) : EReal :=
  X (ix2 (i 1) ⟨(i 0).val * 770 + (i 2).val, by
    have h0 : (i 0).val < 8 := (i 0).isLt
    have h2 : (i 2).val < 770 := (i 2).isLt
    omega⟩)

theorem at_shards (X : S2048x6160.Idx → EReal) (d : Fin 8) (r : Fin 2048) (k : Fin 770) (j : Fin 6160) (h : j.val = d.val * 770 + k.val) :
    X (ix2 r j) = shards X (ix3 d r k) := by
  have e : j = ⟨d.val * 770 + k.val, by omega⟩ := Fin.ext h
  rw [e]
  rfl

theorem kernel_shards : (dats m 0 c).arrAt 2 cfg0.N = shards (m ((c.tc : Thread nD τ).loc main_arg0)) := by
  refine (dats m 0 c).arrAt_eq_of_covers 2 _ (by decide +kernel) fun t hf y => ?_
  blk_simp
  rw [after0_2]
  unfold outsAt0 out0_A_2 kernelRun0_A
  dsimp only
  idx_vars y
  have e : ((View.whole main_v4).slice (win0_2.rect t)).emb (ix3 y0 y1 y2) = ix3 y0 (row t y1) y2 := by blk_ext [idx t, row]
  rw [e, read_writes_over]
  simp only [kernelRun0_A.sl.r, View.readAt_eq_ld, Memref.IsWhole.read_unread]
  by_cases h7754 : y0.val = 7 ∧ 754 ≤ y2.val
  · refine (hit _ _ _ y1 ⟨y2.val - 754, by omega⟩ y0 y2 (by omega) (by simp only []; omega)).trans ?_
    pointwise [k0_pay4]
    rw [read1 _ _ _ (by simp only []; omega)]
    exact at_shards _ _ _ _ _ (by simp only []; omega)
  rw [miss _ _ _ _ _ _ (by omega)]
  by_cases h7 : y0.val = 7
  · refine (hit _ _ _ y1 ⟨y2.val - 0, by omega⟩ y0 y2 (by omega) (by simp only []; omega)).trans ?_
    pointwise [k0_pay3]
    rw [read0]
    exact at_shards _ _ _ _ _ (by simp only []; omega)
  rw [miss _ _ _ _ _ _ (by omega)]
  by_cases h6 : y0.val = 6
  · refine (hit _ _ _ y1 y2 y0 y2 (by omega) (by omega)).trans ?_
    pointwise [k0_pay2]
    rw [read0]
    exact at_shards _ _ _ _ _ (by simp only []; omega)
  rw [miss _ _ _ _ _ _ (by omega)]
  by_cases h5 : y0.val = 5
  · refine (hit _ _ _ y1 y2 y0 y2 (by omega) (by omega)).trans ?_
    pointwise [k0_pay1, k0_pay10]
    rw [read0]
    exact at_shards _ _ _ _ _ (by simp only []; omega)
  rw [miss _ _ _ _ _ _ (by omega)]
  by_cases h4 : y0.val = 4
  · refine (hit _ _ _ y1 y2 y0 y2 (by omega) (by omega)).trans ?_
    pointwise [k0_pay9]
    rw [read0]
    exact at_shards _ _ _ _ _ (by simp only []; omega)
  rw [miss _ _ _ _ _ _ (by omega)]
  by_cases h3 : y0.val = 3
  · refine (hit _ _ _ y1 y2 y0 y2 (by omega) (by omega)).trans ?_
    pointwise [k0_pay8]
    rw [read0]
    exact at_shards _ _ _ _ _ (by simp only []; omega)
  rw [miss _ _ _ _ _ _ (by omega)]
  by_cases h2 : y0.val = 2
  · refine (hit _ _ _ y1 y2 y0 y2 (by omega) (by omega)).trans ?_
    pointwise [k0_pay7]
    rw [read0]
    exact at_shards _ _ _ _ _ (by simp only []; omega)
  rw [miss _ _ _ _ _ _ (by omega)]
  by_cases h1 : y0.val = 1
  · refine (hit _ _ _ y1 y2 y0 y2 (by omega) (by omega)).trans ?_
    pointwise [k0_pay6]
    rw [read0]
    exact at_shards _ _ _ _ _ (by simp only []; omega)
  rw [miss _ _ _ _ _ _ (by omega)]
  refine (hit _ _ _ y1 y2 y0 y2 (by omega) (by omega)).trans ?_
  pointwise [k0_pay5]
  rw [read0]
  exact at_shards _ _ _ _ _ (by simp only []; omega)

theorem ref_shards (X : S2048x6160.Idx → EReal) : ToShardsRefIdeal.Read.val_main_v2 (F := Ideal) X = shards X := by
  funext i
  idx_vars i
  open ToShardsRefIdeal.Read in
  unfold val_main_v2 val_main_v1 val_main_v0
  pointwise
  rfl

theorem holds : Cert.algebraic_ToShardsIdeal_ToShardsRefIdeal := by
  pair_intro
  · run_from Cert.ToShardsIdeal.Value.run_blocks m g
  run_from Cert.ToShardsRefIdeal.Value.run m' g'
  rw [kernel_shards]
  exact (ToShardsRefIdeal.Read.val_main_v2_eq _).trans (ref_shards _)

/-- The reference's frame: it is straight host code and owns no semaphore. -/
theorem ref_frame : Cert.quiescent_ToShardsRefIdeal := fun m ρ _ =>
  (θ_run Cert.ToShardsRefIdeal.defs _ _).mono (fun r h => ⟨fun c => (h c).2, sem_eq_zero_of_no_sems (by decide) r.2⟩)
    (Cert.ToShardsRefIdeal.Value.run m ρ)

end Cert.ToShardsClaim
end
-- ==== Proof.AdamSmallAClaim.lean ====
module
public import proofs.«01_k».proof.Proof.Reals
public import proofs.«01_k».proof.Defs
public import proofs.«01_k».proof.Proof.Gen.AdamSmallAIdeal.Value
public import proofs.«01_k».proof.Proof.Gen.AdamSmallARefIdeal.Run
public import proofs.«01_k».proof.Proof.Gen.AdamSmallARefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamSmallAClaim

open Idealize.ShloMosaic Idealize.SL.Sem Cert.Reals
open Cert.AdamSmallAIdeal Cert.AdamSmallAIdeal.Gen

variable (m : (ℓ : Loc nD τ sig) → Buf (Elt Ideal) ℓ) (c : Dev nD)

set_option maxHeartbeats 4000000 in
open AdamSmallARefIdeal.Read in
/-- The results named by what the grid's one point leaves; the reference's are the same, entry by entry. -/
theorem holds : Cert.algebraic_AdamSmallAIdeal_AdamSmallARefIdeal := by
  intro m g m' g' hpre hagree
  refine ⟨fun c => (dats m 0 c).arrAt 16 cfg0.N, fun c => (dats m 0 c).arrAt 17 cfg0.N, fun c => (dats m 0 c).arrAt 18 cfg0.N, fun c => (dats m
      0 c).arrAt 19 cfg0.N, fun c => (dats m 0 c).arrAt 20 cfg0.N, fun c => (dats m 0 c).arrAt 21 cfg0.N, fun c => (dats m 0 c).arrAt 22
      cfg0.N, fun c => (dats m 0 c).arrAt 23 cfg0.N, fun c => (dats m 0 c).arrAt 24 cfg0.N, fun c => (dats m 0 c).arrAt 25 cfg0.N, fun c =>
      (dats m 0 c).arrAt 26 cfg0.N, fun c => (dats m 0 c).arrAt 27 cfg0.N,
    AdamSmallAIdeal.Value.run_blocks m g, (θ_run _ _ _).mono (fun r h c => ?_) (AdamSmallARefIdeal.Value.run m' g')⟩
  obtain ⟨h0, h1, h2, h3, h4, h5, h6, h7, h8, h9, h10, h11, ha⟩ := h c
  obtain ⟨a0, a1, a2, a3, a4, a5, a6, a7, a8, a9, a10, a11, a12, a13, a14, a15⟩ := hagree c
  refine ⟨h0.trans ?_, h1.trans ?_, h2.trans ?_, h3.trans ?_, h4.trans ?_, h5.trans ?_, h6.trans ?_, h7.trans ?_, h8.trans ?_, h9.trans ?_,
      h10.trans ?_, h11.trans ?_, ha⟩
  all_goals
    beta_reduce
    first | rw [Value.final16] | rw [Value.final17] | rw [Value.final18] | rw [Value.final19] | rw [Value.final20] | rw [Value.final21] | rw
      [Value.final22] | rw [Value.final23] | rw [Value.final24] | rw [Value.final25] | rw [Value.final26] | rw [Value.final27]
    simp only [a0, a1, a2, a3, a4, a5, a6, a7, a8, a9, a10, a11, a12, a13, a14, a15]
    funext i
    idx_vars i
    pointwise [Value.G16, Value.G17, Value.G18, Value.G19, Value.G20, Value.G21, Value.G22, Value.G23, Value.G24, Value.G25, Value.G26, Value.G27,
      k0_pay1, k0_pay2, k0_pay3, k0_pay4, k0_pay5, k0_pay6, k0_pay7, k0_pay8, k0_pay9, k0_pay10, k0_pay11, k0_pay12]

/-- The reference's frame: it is straight host code and owns no semaphore. -/
theorem ref_frame : Cert.quiescent_AdamSmallARefIdeal := fun m ρ _ =>
  (θ_run Cert.AdamSmallARefIdeal.defs _ _).mono (fun r h => ⟨fun c => (h c).2.2.2.2.2.2.2.2.2.2.2.2, sem_eq_zero_of_no_sems (by decide) r.2⟩)
    (Cert.AdamSmallARefIdeal.Value.run m ρ)

end Cert.AdamSmallAClaim
end
-- ==== Proof.AdamSmallBClaim.lean ====
module
public import proofs.«01_k».proof.Proof.Reals
public import proofs.«01_k».proof.Defs
public import proofs.«01_k».proof.Proof.Gen.AdamSmallBIdeal.Value
public import proofs.«01_k».proof.Proof.Gen.AdamSmallBRefIdeal.Run
public import proofs.«01_k».proof.Proof.Gen.AdamSmallBRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamSmallBClaim

open Idealize.ShloMosaic Idealize.SL.Sem Cert.Reals
open Cert.AdamSmallBIdeal Cert.AdamSmallBIdeal.Gen

variable (m : (ℓ : Loc nD τ sig) → Buf (Elt Ideal) ℓ) (c : Dev nD)

set_option maxHeartbeats 4000000 in
open AdamSmallBRefIdeal.Read in
/-- The results named by what the grid's one point leaves; the reference's are the same, entry by entry. -/
theorem holds : Cert.algebraic_AdamSmallBIdeal_AdamSmallBRefIdeal := by
  intro m g m' g' hpre hagree
  refine ⟨fun c => (dats m 0 c).arrAt 16 cfg0.N, fun c => (dats m 0 c).arrAt 17 cfg0.N, fun c => (dats m 0 c).arrAt 18 cfg0.N, fun c => (dats m
      0 c).arrAt 19 cfg0.N, fun c => (dats m 0 c).arrAt 20 cfg0.N, fun c => (dats m 0 c).arrAt 21 cfg0.N, fun c => (dats m 0 c).arrAt 22
      cfg0.N, fun c => (dats m 0 c).arrAt 23 cfg0.N, fun c => (dats m 0 c).arrAt 24 cfg0.N, fun c => (dats m 0 c).arrAt 25 cfg0.N, fun c =>
      (dats m 0 c).arrAt 26 cfg0.N, fun c => (dats m 0 c).arrAt 27 cfg0.N,
    AdamSmallBIdeal.Value.run_blocks m g, (θ_run _ _ _).mono (fun r h c => ?_) (AdamSmallBRefIdeal.Value.run m' g')⟩
  obtain ⟨h0, h1, h2, h3, h4, h5, h6, h7, h8, h9, h10, h11, ha⟩ := h c
  obtain ⟨a0, a1, a2, a3, a4, a5, a6, a7, a8, a9, a10, a11, a12, a13, a14, a15⟩ := hagree c
  refine ⟨h0.trans ?_, h1.trans ?_, h2.trans ?_, h3.trans ?_, h4.trans ?_, h5.trans ?_, h6.trans ?_, h7.trans ?_, h8.trans ?_, h9.trans ?_,
      h10.trans ?_, h11.trans ?_, ha⟩
  all_goals
    beta_reduce
    first | rw [Value.final16] | rw [Value.final17] | rw [Value.final18] | rw [Value.final19] | rw [Value.final20] | rw [Value.final21] | rw
      [Value.final22] | rw [Value.final23] | rw [Value.final24] | rw [Value.final25] | rw [Value.final26] | rw [Value.final27]
    simp only [a0, a1, a2, a3, a4, a5, a6, a7, a8, a9, a10, a11, a12, a13, a14, a15]
    funext i
    idx_vars i
    pointwise [Value.G16, Value.G17, Value.G18, Value.G19, Value.G20, Value.G21, Value.G22, Value.G23, Value.G24, Value.G25, Value.G26, Value.G27,
      k0_pay1, k0_pay2, k0_pay3, k0_pay4, k0_pay5, k0_pay6, k0_pay7, k0_pay8, k0_pay9, k0_pay10, k0_pay11, k0_pay12]

/-- The reference's frame: it is straight host code and owns no semaphore. -/
theorem ref_frame : Cert.quiescent_AdamSmallBRefIdeal := fun m ρ _ =>
  (θ_run Cert.AdamSmallBRefIdeal.defs _ _).mono (fun r h => ⟨fun c => (h c).2.2.2.2.2.2.2.2.2.2.2.2, sem_eq_zero_of_no_sems (by decide) r.2⟩)
    (Cert.AdamSmallBRefIdeal.Value.run m ρ)

end Cert.AdamSmallBClaim
end
-- ==== Proof.DuClaim.lean ====
module
public import proofs.«01_k».proof.Proof.Reals
public import proofs.«01_k».proof.Defs
public import proofs.«01_k».proof.Proof.Gen.DuIdeal.Value
public import proofs.«01_k».proof.Proof.Gen.DuRefIdeal.Run
public import proofs.«01_k».proof.Proof.Gen.DuRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.DuClaim

open Idealize.ShloMosaic Idealize.SL.Sem Cert.Reals
open Cert.DuIdeal Cert.DuIdeal.Gen

variable (m : (ℓ : Loc nD τ sig) → Buf (Elt Ideal) ℓ) (c : Dev nD)

theorem idx (t : Fin cfg0.N) : win0_0.index t = ![t.val / 4, t.val % 2] ∧ win0_1.index t = ![t.val / 2 % 2, t.val % 2]
    ∧ win0_2.index t = ![t.val / 4, 0] ∧ win0_3.index t = ![t.val / 2 % 2, 0] ∧ win0_12.index t = ![t.val / 4, t.val / 2 % 2] := by
  revert t; decide +kernel

theorem idx_a (t : Fin cfg0.N) : win0_4.index t = ![0, t.val, 0] ∧ win0_5.index t = ![t.val, 0] ∧ win0_6.index t = ![t.val, 0]
    ∧ win0_7.index t = ![t.val, 0] ∧ win0_8.index t = ![0, t.val, 0] ∧ win0_9.index t = ![t.val, 0] ∧ win0_10.index t = ![t.val, 0]
    ∧ win0_11.index t = ![t.val, 0] := by
  revert t; decide +kernel

theorem idx_o (t : Fin cfg0.N) : win0_13.index t = ![t.val, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![t.val, 0]
    ∧ win0_20.index t = ![t.val, 0] := by
  revert t; decide +kernel

theorem last_of_flush : ∀ t : Fin cfg0.N, (cfg0.win 12).flush t = true → t.val % 2 = 1 := by
  decide +kernel

/-- Row `r` of block row `t / 4`. -/
def row (t : Fin cfg0.N) (r : Fin 1024) : Fin 8192 := ⟨t.val / 4 * 1024 + r.val, by have := t.isLt; have : cfg0.N = 32 := rfl; omega⟩
/-- Column `k` of block column `t / 2 % 2`. -/
def col (t : Fin cfg0.N) (k : Fin 1024) : Fin 2048 := ⟨t.val / 2 % 2 * 1024 + k.val, by omega⟩
/-- Contracted index `k` of half `n % 2`. -/
def mid (n : ℕ) (k : Fin 3072) : Fin 6160 := ⟨n % 2 * 3072 + k.val, by omega⟩
/-- Row `r` of the second weight's block `t`. -/
def rowA (t : Fin cfg0.N) (r : Fin 32) : Fin 1024 := ⟨t.val * 32 + r.val, by have := t.isLt; have : cfg0.N = 32 := rfl; omega⟩
/-- Row `r` of the first weight's block `t`. -/
def rowB (t : Fin cfg0.N) (r : Fin 64) : Fin 2048 := ⟨t.val * 64 + r.val, by have := t.isLt; have : cfg0.N = 32 := rfl; omega⟩

variable {m c}

theorem main0 (r : Fin 8192) (k : Fin 6144) : (V m c main_v2 : S8192x6144.Idx → EReal) (ix2 r k)
    = m ((c.tc : Thread nD τ).loc main_arg0) (ix2 r ⟨k.val, by omega⟩) := by
  have v : (V m c main_v2 : S8192x6144.Idx → EReal) = extractStridedSlice S8192x6144 ![0, 0]
      (truncf (F := Ideal) .bf16 (m ((c.tc : Thread nD τ).loc main_arg0)) bitsLt_bf16_f32) slices_S8192x6160_S8192x6144_0_0 := by
    simp only [V, hostOps0, hostOps0_1, hostOps0_2, hostOps0_3, hostOps0_4, List.flatten_cons, List.flatten_nil, List.cons_append, List.nil_append, List.append_nil]
    after_results_simp <;> rfl
  rw [v]
  pointwise

theorem main1 (r : Fin 2048) (k : Fin 6144) : (V m c main_v3 : S2048x6144.Idx → EReal) (ix2 r k)
    = m ((c.tc : Thread nD τ).loc main_arg1) (ix2 r ⟨k.val, by omega⟩) := by
  have v : (V m c main_v3 : S2048x6144.Idx → EReal) = extractStridedSlice S2048x6144 ![0, 0]
      (truncf (F := Ideal) .bf16 (m ((c.tc : Thread nD τ).loc main_arg1)) bitsLt_bf16_f32) slices_S2048x6160_S2048x6144_0_0 := by
    simp only [V, hostOps0, hostOps0_1, hostOps0_2, hostOps0_3, hostOps0_4, List.flatten_cons, List.flatten_nil, List.cons_append, List.nil_append, List.append_nil]
    after_results_simp <;> rfl
  rw [v]
  pointwise

/-- The columns left over of a matrix of 6160 columns, then zeros. -/
def over16 {n : ℕ} (X : (({ rank := 2, size := ![n, 6160] } : Shape)).Idx → EReal) (r : Fin n) (k : Fin 128) : EReal :=
  if h : k.val < 16 then X (ix2 r ⟨6144 + k.val, by omega⟩) else 0

theorem rest0 (r : Fin 8192) (k : Fin 128) : (V m c main_v5 : S8192x128.Idx → EReal) (ix2 r k)
    = over16 (n := 8192) (m ((c.tc : Thread nD τ).loc main_arg0)) r k := by
  have v : (V m c main_v5 : S8192x128.Idx → EReal) = pad S8192x128 ![0, 0] ![0, 112] ![0, 0] (extractStridedSlice S8192x16 ![0, 6144]
      (truncf (F := Ideal) .bf16 (m ((c.tc : Thread nD τ).loc main_arg0)) bitsLt_bf16_f32) slices_S8192x6160_S8192x16_0_6144)
        (sitofp (F := Ideal) .bf16 (constantI S_ 32 0#32)) pads_S8192x16_S8192x128_000_01120 h_S_ := by
    simp only [V, hostOps0, hostOps0_1, hostOps0_2, hostOps0_3, hostOps0_4, List.flatten_cons, List.flatten_nil, List.cons_append, List.nil_append, List.append_nil]
    after_results_simp <;> rfl
  rw [v]
  pointwise
  unfold over16
  by_cases h : k.val < 16
  · refine (dif_pos h).trans ?_
    rw [dif_pos h]
  · refine (dif_neg h).trans (Eq.trans ?_ (dif_neg h).symm)
    simp [FloatOps.sitofp]

theorem rest1 (r : Fin 2048) (k : Fin 128) : (V m c main_v7 : S2048x128.Idx → EReal) (ix2 r k)
    = over16 (n := 2048) (m ((c.tc : Thread nD τ).loc main_arg1)) r k := by
  have v : (V m c main_v7 : S2048x128.Idx → EReal) = pad S2048x128 ![0, 0] ![0, 112] ![0, 0] (extractStridedSlice S2048x16 ![0, 6144]
      (truncf (F := Ideal) .bf16 (m ((c.tc : Thread nD τ).loc main_arg1)) bitsLt_bf16_f32) slices_S2048x6160_S2048x16_0_6144)
        (sitofp (F := Ideal) .bf16 (constantI S_ 32 0#32)) pads_S2048x16_S2048x128_000_01120 h_S_ := by
    simp only [V, hostOps0, hostOps0_1, hostOps0_2, hostOps0_3, hostOps0_4, List.flatten_cons, List.flatten_nil, List.cons_append, List.nil_append, List.append_nil]
    after_results_simp <;> rfl
  rw [v]
  pointwise
  unfold over16
  by_cases h : k.val < 16
  · refine (dif_pos h).trans ?_
    rw [dif_pos h]
  · refine (dif_neg h).trans (Eq.trans ?_ (dif_neg h).symm)
    simp [FloatOps.sitofp]

theorem read0 (t : Fin cfg0.N) (r : Fin 1024) (k : Fin 3072) :
    iblk m c 0 t (ix2 r k) = m ((c.tc : Thread nD τ).loc main_arg0) (ix2 (row t r) (mid t.val k)) := by
  have e : iblk m c 0 t (ix2 r k) = (V m c main_v2 : S8192x6144.Idx → EReal) (ix2 (row t r) ⟨t.val % 2 * 3072 + k.val, by omega⟩) := by
    blk_ext [iblk, idx t, row]
  rw [e, main0]
  rfl
theorem read1 (t : Fin cfg0.N) (r : Fin 1024) (k : Fin 3072) :
    iblk m c 1 t (ix2 r k) = m ((c.tc : Thread nD τ).loc main_arg1) (ix2 (col t r) (mid t.val k)) := by
  have e : iblk m c 1 t (ix2 r k) = (V m c main_v3 : S2048x6144.Idx → EReal) (ix2 (col t r) ⟨t.val % 2 * 3072 + k.val, by omega⟩) := by
    blk_ext [iblk, idx t, col]
  rw [e, main1]
  rfl
theorem read2 (t : Fin cfg0.N) (r : Fin 1024) (k : Fin 128) :
    iblk m c 2 t (ix2 r k) = over16 (n := 8192) (m ((c.tc : Thread nD τ).loc main_arg0)) (row t r) k := by
  have e : iblk m c 2 t (ix2 r k) = (V m c main_v5 : S8192x128.Idx → EReal) (ix2 (row t r) k) := by
    blk_ext [iblk, idx t, row]
  rw [e, rest0]
theorem read3 (t : Fin cfg0.N) (r : Fin 1024) (k : Fin 128) :
    iblk m c 3 t (ix2 r k) = over16 (n := 2048) (m ((c.tc : Thread nD τ).loc main_arg1)) (col t r) k := by
  have e : iblk m c 3 t (ix2 r k) = (V m c main_v7 : S2048x128.Idx → EReal) (ix2 (col t r) k) := by
    blk_ext [iblk, idx t, col]
  rw [e, rest1]

section
variable (A : S8192x6160.Idx → EReal) (W : S2048x6160.Idx → EReal)

/-- One term of `dz @ wᵀ`. -/
def term (r : Fin 8192) (k : Fin 2048) (s : Fin 6160) : EReal := A (ix2 r s) * W (ix2 k s)
/-- The terms of half `n % 2` of the first 6144 columns. -/
def half (r : Fin 8192) (k : Fin 2048) (n : ℕ) : EReal := ∑ s : Fin 3072, term A W r k (mid n s)
/-- The terms of the last 16 columns. -/
def tail (r : Fin 8192) (k : Fin 2048) : EReal := ∑ s : Fin 16, term A W r k ⟨6144 + s.val, by omega⟩
/-- `dz @ wᵀ`. -/
def mm (i : S8192x2048.Idx) : EReal := ∑ s : Fin 6160, term A W (i 0) (i 1) s

theorem parts (r : Fin 8192) (k : Fin 2048) : tail A W r k + half A W r k 0 + half A W r k 1 = ∑ s : Fin 6160, term A W r k s := by
  have e1 : ∑ s : Fin 6160, term A W r k s = (∑ s : Fin 6144, term A W r k ⟨s.val, by omega⟩) + tail A W r k :=
    Fin.sum_univ_add (M := EReal) (a := 6144) (b := 16) (term A W r k)
  have e2 : (∑ s : Fin 6144, term A W r k ⟨s.val, by omega⟩)
      = (∑ s : Fin 3072, term A W r k ⟨s.val, by omega⟩) + ∑ s : Fin 3072, term A W r k ⟨3072 + s.val, by omega⟩ :=
    Fin.sum_univ_add (M := EReal) (a := 3072) (b := 3072) (fun s : Fin 6144 => term A W r k ⟨s.val, by omega⟩)
  have h0 : half A W r k 0 = ∑ s : Fin 3072, term A W r k ⟨s.val, by omega⟩ :=
    Finset.sum_congr rfl fun s _ => congrArg _ (Fin.ext (by simp [mid]))
  have h1 : half A W r k 1 = ∑ s : Fin 3072, term A W r k ⟨3072 + s.val, by omega⟩ :=
    Finset.sum_congr rfl fun s _ => congrArg _ (Fin.ext (by simp [mid]))
  rw [e1, e2, ← h0, ← h1, add_assoc, add_comm]

/-- The padded product is the product of the last 16 columns. -/
theorem padded (r : Fin 8192) (k : Fin 2048) : (∑ s : Fin 128, over16 (n := 8192) A r s * over16 (n := 2048) W k s) = tail A W r k := by
  have e : (∑ s : Fin 128, over16 (n := 8192) A r s * over16 (n := 2048) W k s)
      = (∑ s : Fin 16, over16 (n := 8192) A r ⟨s.val, by omega⟩ * over16 (n := 2048) W k ⟨s.val, by omega⟩)
        + ∑ s : Fin 112, over16 (n := 8192) A r ⟨16 + s.val, by omega⟩ * over16 (n := 2048) W k ⟨16 + s.val, by omega⟩ :=
    Fin.sum_univ_add (M := EReal) (a := 16) (b := 112) (fun s : Fin 128 => over16 (n := 8192) A r s * over16 (n := 2048) W k s)
  have z : (∑ s : Fin 112, over16 (n := 8192) A r ⟨16 + s.val, by omega⟩ * over16 (n := 2048) W k ⟨16 + s.val, by omega⟩) = 0 :=
    Finset.sum_eq_zero fun s _ => by
      have h : over16 (n := 8192) A r ⟨16 + s.val, by omega⟩ = 0 := dif_neg (by simp only []; omega)
      rw [h, zero_mul]
  rw [e, z, add_zero]
  refine Finset.sum_congr rfl fun s _ => ?_
  have ha : over16 (n := 8192) A r ⟨s.val, by omega⟩ = A (ix2 r ⟨6144 + s.val, by omega⟩) := dif_pos s.isLt
  have hw : over16 (n := 2048) W k ⟨s.val, by omega⟩ = W (ix2 k ⟨6144 + s.val, by omega⟩) := dif_pos s.isLt
  rw [ha, hw]
  rfl
end

variable {A : S8192x6160.Idx → EReal} {W : S2048x6160.Idx → EReal}

theorem first (h0 : m ((c.tc : Thread nD τ).loc main_arg0) = A) (h1 : m ((c.tc : Thread nD τ).loc main_arg1) = W)
    (t : Fin cfg0.N) (h : t.val % 2 = 0) (r k : Fin 1024) :
    (outsAt0 m c t.val t.isLt).1 (ix2 r k) = tail A W (row t r) (col t k) + half A W (row t r) (col t k) t.val := by
  subst h0 h1
  rw [outsAt0_A m c t h (by omega)]
  frame_out
  pointwise [k0_pay2, k0_pay1]
  simp only [read0, read1, read2, read3]
  exact congrArg (· + _) (padded _ _ _ _)

theorem later (h0 : m ((c.tc : Thread nD τ).loc main_arg0) = A) (h1 : m ((c.tc : Thread nD τ).loc main_arg1) = W)
    (t : Fin cfg0.N) (h : t.val % 2 = 1) (r k : Fin 1024) : (outsAt0 m c t.val t.isLt).1 (ix2 r k)
    = (outsAt0 m c (t.val - 1) (Nat.lt_of_le_of_lt (Nat.sub_le _ _) t.isLt)).1 (ix2 r k) + half A W (row t r) (col t k) t.val := by
  subst h0 h1
  rw [outsAt0_B m c t (by omega) h]
  frame_out
  pointwise [k0_pay3, k0_pay1]
  simp only [read0, read1]
  rfl

theorem kernel_mm (h0 : m ((c.tc : Thread nD τ).loc main_arg0) = A) (h1 : m ((c.tc : Thread nD τ).loc main_arg1) = W) :
    (dats m 0 c).arrAt 12 cfg0.N = mm A W := by
  refine (dats m 0 c).arrAt_eq_of_covers 12 _ (by decide +kernel) fun t hf y => ?_
  have h3 := last_of_flush t hf
  have ht := t.isLt
  blk_simp
  rw [after0_12]
  idx_vars y
  have e : ((View.whole main_v10_0).slice (win0_12.rect t)).emb (ix2 y0 y1) = ix2 (row t y0) (col t y1) := by blk_ext [idx t, row, col]
  rw [e]
  have e1 := first h0 h1 ⟨t.val - 1, by omega⟩ (show (t.val - 1) % 2 = 0 by omega) y0 y1
  have r1 : row ⟨t.val - 1, by omega⟩ y0 = row t y0 := Fin.ext (by simp only [row]; omega)
  have c1 : col ⟨t.val - 1, by omega⟩ y1 = col t y1 := Fin.ext (by simp only [col]; omega)
  rw [r1, c1] at e1
  have p : ∀ n r k, half A W r k n = half A W r k (n % 2) := fun n r k => by unfold half mid; simp only [Nat.mod_mod]
  rw [later h0 h1 t h3]
  refine (congrArg (· + _) e1).trans ?_
  beta_reduce
  rw [p, p t.val, h3, show (t.val - 1) % 2 = 0 by omega]
  exact parts A W (row t y0) (col t y1)

theorem ref_mm (A : S8192x6160.Idx → EReal) (W : S2048x6160.Idx → EReal) : DuRefIdeal.Read.val_main_v2 (F := Ideal) A W = mm A W := by
  funext i
  idx_vars i
  open DuRefIdeal.Read in
  unfold val_main_v2
  pointwise
  rfl

theorem partsA : (V m c main_v8 : S8x1024x2048.Idx → EReal) = m ((c.tc : Thread nD τ).loc main_arg2) := by
  simp only [V, hostOps0, hostOps0_1, hostOps0_2, hostOps0_3, hostOps0_4, List.flatten_cons, List.flatten_nil, List.cons_append, List.nil_append, List.append_nil]
  after_results_simp <;> rfl

theorem read4 (t : Fin cfg0.N) (d : Fin 8) (r : Fin 32) (k : Fin 2048) :
    iblk m c 4 t (ix3 d r k) = m ((c.tc : Thread nD τ).loc main_arg2) (ix3 d (rowA t r) k) := by
  have e : iblk m c 4 t (ix3 d r k) = (V m c main_v8 : S8x1024x2048.Idx → EReal) (ix3 d (rowA t r) k) := by
    blk_ext [iblk, idx_a t, rowA]
  rw [e, partsA]
theorem read5 (t : Fin cfg0.N) (r : Fin 32) (k : Fin 2048) :
    iblk m c 5 t (ix2 r k) = m ((c.tc : Thread nD τ).loc main_arg3) (ix2 (rowA t r) k) := by
  blk_ext [iblk, V_main_arg3, idx_a t, rowA]
theorem read6 (t : Fin cfg0.N) (r : Fin 32) (k : Fin 2048) :
    iblk m c 6 t (ix2 r k) = m ((c.tc : Thread nD τ).loc main_arg4) (ix2 (rowA t r) k) := by
  blk_ext [iblk, V_main_arg4, idx_a t, rowA]
theorem read7 (t : Fin cfg0.N) (r : Fin 32) (k : Fin 2048) :
    iblk m c 7 t (ix2 r k) = m ((c.tc : Thread nD τ).loc main_arg5) (ix2 (rowA t r) k) := by
  blk_ext [iblk, V_main_arg5, idx_a t, rowA]

theorem partsB : (V m c main_v9 : S8x2048x1024.Idx → EReal) = m ((c.tc : Thread nD τ).loc main_arg6) := by
  simp only [V, hostOps0, hostOps0_1, hostOps0_2, hostOps0_3, hostOps0_4, List.flatten_cons, List.flatten_nil, List.cons_append, List.nil_append, List.append_nil]
  after_results_simp <;> rfl

theorem read8 (t : Fin cfg0.N) (d : Fin 8) (r : Fin 64) (k : Fin 1024) :
    iblk m c 8 t (ix3 d r k) = m ((c.tc : Thread nD τ).loc main_arg6) (ix3 d (rowB t r) k) := by
  have e : iblk m c 8 t (ix3 d r k) = (V m c main_v9 : S8x2048x1024.Idx → EReal) (ix3 d (rowB t r) k) := by
    blk_ext [iblk, idx_a t, rowB]
  rw [e, partsB]
theorem read9 (t : Fin cfg0.N) (r : Fin 64) (k : Fin 1024) :
    iblk m c 9 t (ix2 r k) = m ((c.tc : Thread nD τ).loc main_arg7) (ix2 (rowB t r) k) := by
  blk_ext [iblk, V_main_arg7, idx_a t, rowB]
theorem read10 (t : Fin cfg0.N) (r : Fin 64) (k : Fin 1024) :
    iblk m c 10 t (ix2 r k) = m ((c.tc : Thread nD τ).loc main_arg8) (ix2 (rowB t r) k) := by
  blk_ext [iblk, V_main_arg8, idx_a t, rowB]
theorem read11 (t : Fin cfg0.N) (r : Fin 64) (k : Fin 1024) :
    iblk m c 11 t (ix2 r k) = m ((c.tc : Thread nD τ).loc main_arg9) (ix2 (rowB t r) k) := by
  blk_ext [iblk, V_main_arg9, idx_a t, rowB]

section
open DuRefIdeal.Read

theorem sumA (P : S8x1024x2048.Idx → EReal) (r : Fin 1024) (k : Fin 2048) : P (ix3 0 r k) + P (ix3 1 r k) + P (ix3 2 r k) + P (ix3 3 r k)
    + P (ix3 4 r k) + P (ix3 5 r k) + P (ix3 6 r k) + P (ix3 7 r k) = val_main_v3 (F := Ideal) P (ix2 r k) := by
  refine (Fin.sum_univ_eight (M := EReal) (fun d : Fin 8 => P (ix3 d r k))).symm.trans ?_
  unfold val_main_v3 val_main_cst_0
  pointwise

theorem sumB (P : S8x2048x1024.Idx → EReal) (r : Fin 2048) (k : Fin 1024) : P (ix3 0 r k) + P (ix3 1 r k) + P (ix3 2 r k) + P (ix3 3 r k)
    + P (ix3 4 r k) + P (ix3 5 r k) + P (ix3 6 r k) + P (ix3 7 r k) = val_main_v4 (F := Ideal) P (ix2 r k) := by
  refine (Fin.sum_univ_eight (M := EReal) (fun d : Fin 8 => P (ix3 d r k))).symm.trans ?_
  unfold val_main_v4 val_main_cst_1
  pointwise

set_option maxHeartbeats 8000000 in
/-- The two optimiser steps' eight results are the reference's: each of the two points' bodies does the same to its rows. -/
theorem steps : (dats m 0 c).arrAt 13 cfg0.N = val_main_v3 (F := Ideal) (m ((c.tc : Thread nD τ).loc main_arg2)) ∧
    (dats m 0 c).arrAt 14 cfg0.N = val_main_v28 (F := Ideal) (m ((c.tc : Thread nD τ).loc main_arg2)) (m ((c.tc : Thread nD τ).loc main_arg3)) (m ((c.tc : Thread nD τ).loc main_arg4)) (m ((c.tc : Thread nD τ).loc main_arg5)) ∧
    (dats m 0 c).arrAt 15 cfg0.N = val_main_v9 (F := Ideal) (m ((c.tc : Thread nD τ).loc main_arg2)) (m ((c.tc : Thread nD τ).loc main_arg4)) ∧
    (dats m 0 c).arrAt 16 cfg0.N = val_main_v15 (F := Ideal) (m ((c.tc : Thread nD τ).loc main_arg2)) (m ((c.tc : Thread nD τ).loc main_arg5)) ∧
    (dats m 0 c).arrAt 17 cfg0.N = val_main_v4 (F := Ideal) (m ((c.tc : Thread nD τ).loc main_arg6)) ∧
    (dats m 0 c).arrAt 18 cfg0.N = val_main_v52 (F := Ideal) (m ((c.tc : Thread nD τ).loc main_arg6)) (m ((c.tc : Thread nD τ).loc main_arg7)) (m ((c.tc : Thread nD τ).loc main_arg8)) (m ((c.tc : Thread nD τ).loc main_arg9)) ∧
    (dats m 0 c).arrAt 19 cfg0.N = val_main_v33 (F := Ideal) (m ((c.tc : Thread nD τ).loc main_arg6)) (m ((c.tc : Thread nD τ).loc main_arg8)) ∧
    (dats m 0 c).arrAt 20 cfg0.N = val_main_v39 (F := Ideal) (m ((c.tc : Thread nD τ).loc main_arg6)) (m ((c.tc : Thread nD τ).loc main_arg9)) := by
  refine ⟨(dats m 0 c).arrAt_eq_of_covers 13 _ (by decide +kernel) fun t hf y => ?_,
    (dats m 0 c).arrAt_eq_of_covers 14 _ (by decide +kernel) fun t hf y => ?_,
    (dats m 0 c).arrAt_eq_of_covers 15 _ (by decide +kernel) fun t hf y => ?_,
    (dats m 0 c).arrAt_eq_of_covers 16 _ (by decide +kernel) fun t hf y => ?_,
    (dats m 0 c).arrAt_eq_of_covers 17 _ (by decide +kernel) fun t hf y => ?_,
    (dats m 0 c).arrAt_eq_of_covers 18 _ (by decide +kernel) fun t hf y => ?_,
    (dats m 0 c).arrAt_eq_of_covers 19 _ (by decide +kernel) fun t hf y => ?_,
    (dats m 0 c).arrAt_eq_of_covers 20 _ (by decide +kernel) fun t hf y => ?_⟩
  all_goals
    blk_simp
    idx_vars y
    first
    | rw [after0_13, show ((View.whole main_v10_1).slice (win0_13.rect t)).emb (ix2 y0 y1) = ix2 (rowA t y0) y1 by blk_ext [idx_o t, rowA]]
    | rw [after0_14, show ((View.whole main_v10_2).slice (win0_14.rect t)).emb (ix2 y0 y1) = ix2 (rowA t y0) y1 by blk_ext [idx_o t, rowA]]
    | rw [after0_15, show ((View.whole main_v10_3).slice (win0_15.rect t)).emb (ix2 y0 y1) = ix2 (rowA t y0) y1 by blk_ext [idx_o t, rowA]]
    | rw [after0_16, show ((View.whole main_v10_4).slice (win0_16.rect t)).emb (ix2 y0 y1) = ix2 (rowA t y0) y1 by blk_ext [idx_o t, rowA]]
    | rw [after0_17, show ((View.whole main_v10_5).slice (win0_17.rect t)).emb (ix2 y0 y1) = ix2 (rowB t y0) y1 by blk_ext [idx_o t, rowB]]
    | rw [after0_18, show ((View.whole main_v10_6).slice (win0_18.rect t)).emb (ix2 y0 y1) = ix2 (rowB t y0) y1 by blk_ext [idx_o t, rowB]]
    | rw [after0_19, show ((View.whole main_v10_7).slice (win0_19.rect t)).emb (ix2 y0 y1) = ix2 (rowB t y0) y1 by blk_ext [idx_o t, rowB]]
    | rw [after0_20, show ((View.whole main_v10_8).slice (win0_20.rect t)).emb (ix2 y0 y1) = ix2 (rowB t y0) y1 by blk_ext [idx_o t, rowB]]
    rcases Nat.mod_two_eq_zero_or_one t.val with h | h
  all_goals
    first | rw [outsAt0_A m c t h (by omega)] | rw [outsAt0_B m c t (by omega) h]
    frame_out
    pointwise [k0_pay4, k0_pay5, k0_pay6, k0_pay7, k0_pay8, k0_pay9, k0_pay10, k0_pay11, k0_pay12, k0_pay13, k0_pay14, val_main_cst_2, val_main_v5,
      val_main_v6, val_main_cst_3, val_main_v7, val_main_v8, val_main_v9, val_main_cst_4, val_main_v10, val_main_v11, val_main_v12,
      val_main_cst_5, val_main_v13, val_main_v14, val_main_v15, val_main_cst_6, val_main_v16, val_main_v17, val_main_cst_7, val_main_v18,
      val_main_v19, val_main_v20, val_main_cst_8, val_main_v21, val_main_v22, val_main_v23, val_main_cst_9, val_main_v24, val_main_v25,
      val_main_v26, val_main_cst_10, val_main_v27, val_main_v28, val_main_cst_11, val_main_v29, val_main_v30, val_main_cst_12, val_main_v31,
      val_main_v32, val_main_v33, val_main_cst_13, val_main_v34, val_main_v35, val_main_v36, val_main_cst_14, val_main_v37, val_main_v38,
      val_main_v39, val_main_cst_15, val_main_v40, val_main_v41, val_main_cst_16, val_main_v42, val_main_v43, val_main_v44, val_main_cst_17,
      val_main_v45, val_main_v46, val_main_v47, val_main_cst_18, val_main_v48, val_main_v49, val_main_v50, val_main_cst_19, val_main_v51,
      val_main_v52]
    simp only [read4, read5, read6, read7, read8, read9, read10, read11, sumA, sumB]
end

set_option maxHeartbeats 4000000 in
theorem holds : Cert.algebraic_DuIdeal_DuRefIdeal := by
  intro m g m' g' hpre hagree
  refine ⟨fun c => (dats m 0 c).arrAt 12 cfg0.N, fun c => (dats m 0 c).arrAt 13 cfg0.N, fun c => (dats m 0 c).arrAt 14 cfg0.N, fun c => (dats m 0 c).arrAt 15 cfg0.N, fun c => (dats m 0
      c).arrAt 16 cfg0.N, fun c => (dats m 0 c).arrAt 17 cfg0.N, fun c => (dats m 0 c).arrAt 18 cfg0.N, fun c => (dats m 0 c).arrAt 19 cfg0.N,
      fun c => (dats m 0 c).arrAt 20 cfg0.N,
    DuIdeal.Value.run_blocks m g, (θ_run _ _ _).mono (fun r h c => ?_) (DuRefIdeal.Value.run m' g')⟩
  obtain ⟨h0, h1, h2, h3, h4, h5, h6, h7, h8, ha⟩ := h c
  obtain ⟨a0, a1, a2, a3, a4, a5, a6, a7, a8, a9⟩ := hagree c
  obtain ⟨e1, e2, e3, e4, e5, e6, e7, e8⟩ := steps (m := m) (c := c)
  rw [a0, a1] at h0
  rw [a2] at h1
  rw [a2, a3, a4, a5] at h2
  rw [a2, a4] at h3
  rw [a2, a5] at h4
  rw [a6] at h5
  rw [a6, a7, a8, a9] at h6
  rw [a6, a8] at h7
  rw [a6, a9] at h8
  exact ⟨h0.trans ((ref_mm _ _).trans (kernel_mm rfl rfl).symm), h1.trans e1.symm, h2.trans e2.symm, h3.trans e3.symm, h4.trans e4.symm,
    h5.trans e5.symm, h6.trans e6.symm, h7.trans e7.symm, h8.trans e8.symm, ha⟩

/-- The reference's frame: it is straight host code and owns no semaphore. -/
theorem ref_frame : Cert.quiescent_DuRefIdeal := fun m ρ _ =>
  (θ_run Cert.DuRefIdeal.defs _ _).mono (fun r h => ⟨fun c => (h c).2.2.2.2.2.2.2.2.2, sem_eq_zero_of_no_sems (by decide) r.2⟩)
    (Cert.DuRefIdeal.Value.run m ρ)

end Cert.DuClaim
end
-- ==== Proof.MixFwdFirst.lean ====
module

public import proofs.«01_k».proof.Proof.Over
public import proofs.«01_k».proof.Proof.Gen.MixerIdeal.Launch
public import proofs.«01_k».proof.Proof.Gen.MixerIdeal.Skeleton
public import proofs.«01_k».proof.Proof.Gen.MixerIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MixerFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.MixerIdeal Cert.MixerIdeal.Gen Cert.Over

variable {F : FTy → Type} [FloatOps F]

local notation "𝕄" => MT nD τ sig Unit (Elt F) ℕ (UR sig nD τ) ℕ

/-- The grid point is the first one, as the body tests it. -/
abbrev cond0 (i : grid0.Coords) : Prop := Scalar.cmpi .ne (Scalar.extui (Scalar.cmpi .eq (BitVec.ofNat 32 (i 0).val) 0#32)) 0#32 = 1#1

theorem cond0_iff (t : Fin cfg0.N) : cond0 (grid0.coords t) ↔ t.val = 0 := by
  have ht : t.val < 32 := Nat.lt_of_lt_of_eq t.isLt N_0
  have e0 : (grid0.coords t 0).val = t.val / 1 % 32 := Pipeline.Grid.coords_val t 0 (by decide) rfl
  simp only [cond0, e0]
  word_cmp

-- the run names every piece that the body stores, which makes the definition a large term
set_option maxHeartbeats 4000000 in
/-- The forward body at the first grid point: the inputs' blocks stay, and every other buffer, whatever it held,
    ends with the stores listed. -/
def runFirst (c : Dev nD) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x512 .f32) (harg4 : arg4.IsWhole)
    (arg5 : Memref sig .tc .vmem S256x512 .f32) (harg5 : arg5.IsWhole) (arg6 : Memref sig .tc .vmem S256x1024 .f32) (harg6 : arg6.IsWhole)
    (arg7 : Memref sig .tc .vmem S256x1024 .f32) (harg7 : arg7.IsWhole) (arg8 : Memref sig .tc .vmem S256x128 .f32) (harg8 : arg8.IsWhole)
    (arg9 : Memref sig .tc .vmem S128x512 .bf16) (harg9 : arg9.IsWhole) (arg10 : Memref sig .tc .vmem S1x512 .f32) (harg10 : arg10.IsWhole)
    (arg11 : Memref sig .tc .vmem S8x1024 .f32) (harg11 : arg11.IsWhole) (arg12 : Memref sig .tc .vmem S1x1024 .f32) (harg12 : arg12.IsWhole)
    (arg13 : Memref sig .tc .vmem S1x256 .f32) (harg13 : arg13.IsWhole) (arg14 : Memref sig .tc .vmem S256x2048 .bf16) (harg14 : arg14.IsWhole)
    (arg15 : Memref sig .tc .vmem S4x4x256x128 .f32) (harg15 : arg15.IsWhole) (arg16 : Memref sig .tc .vmem S8x1024 .f32) (harg16 : arg16.IsWhole)
    (arg17 : Memref sig .tc .vmem S4x256x128 .f32) (harg17 : arg17.IsWhole)
    (hc : cond0 i)
    (x1 : Vec F S256x1024 .f32) (x2 : Vec F S256x1024 .f32) (x3 : Vec F S256x1024 .f32) (x4 : Vec F S256x512 .f32) (x5 : Vec F S256x512 .f32)
    (x6 : Vec F S256x1024 .f32) (x7 : Vec F S256x1024 .f32) (x8 : Vec F S256x128 .f32) (x9 : Vec F S128x512 .bf16) (x10 : Vec F S1x512 .f32)
    (x11 : Vec F S8x1024 .f32) (x12 : Vec F S1x1024 .f32) (x13 : Vec F S1x256 .f32) :
    Σ' (L14 : List (View.Piece (Elt F) S256x2048 .bf16)), Σ' (L15 : List (View.Piece (Elt F) S4x4x256x128 .f32)),
    Σ' (L16 : List (View.Piece (Elt F) S8x1024 .f32)),
    { L17 : List (View.Piece (Elt F) S4x256x128 .f32) //
      ∀ (E : Set ℕ) (K : PUnit → sProp 𝕄),
        iprop(
          owns (c : Thread nD τ) arg1 fullShare x1 ∗ owns (c : Thread nD τ) arg2 fullShare x2 ∗ owns (c : Thread nD τ) arg3 fullShare x3 ∗
          owns (c : Thread nD τ) arg4 fullShare x4 ∗ owns (c : Thread nD τ) arg5 fullShare x5 ∗ owns (c : Thread nD τ) arg6 fullShare x6 ∗
          owns (c : Thread nD τ) arg7 fullShare x7 ∗ owns (c : Thread nD τ) arg8 fullShare x8 ∗ owns (c : Thread nD τ) arg9 fullShare x9 ∗
          owns (c : Thread nD τ) arg10 fullShare x10 ∗ owns (c : Thread nD τ) arg11 fullShare x11 ∗ owns (c : Thread nD τ) arg12 fullShare x12 ∗
          owns (c : Thread nD τ) arg13 fullShare x13 ∗ (∃ d, owns (c : Thread nD τ) arg14 fullShare d) ∗
          (∃ d, owns (c : Thread nD τ) arg15 fullShare d) ∗ (∃ d, owns (c : Thread nD τ) arg16 fullShare d) ∗
          (∃ d, owns (c : Thread nD τ) arg17 fullShare d) ∗
          (iprop(owns (c : Thread nD τ) arg1 fullShare x1 ∗ owns (c : Thread nD τ) arg2 fullShare x2 ∗ owns (c : Thread nD τ) arg3 fullShare x3 ∗
            owns (c : Thread nD τ) arg4 fullShare x4 ∗ owns (c : Thread nD τ) arg5 fullShare x5 ∗ owns (c : Thread nD τ) arg6 fullShare x6 ∗
            owns (c : Thread nD τ) arg7 fullShare x7 ∗ owns (c : Thread nD τ) arg8 fullShare x8 ∗ owns (c : Thread nD τ) arg9 fullShare x9 ∗
            owns (c : Thread nD τ) arg10 fullShare x10 ∗ owns (c : Thread nD τ) arg11 fullShare x11 ∗ owns (c : Thread nD τ) arg12 fullShare x12 ∗
            owns (c : Thread nD τ) arg13 fullShare x13 ∗
            (∃ f, arg14.view.loc (c : Thread nD τ) ↦[arg14.view.set]{fullShare} arg14.view.writes (Elt F) f L14) ∗
            (∃ f, arg15.view.loc (c : Thread nD τ) ↦[arg15.view.set]{fullShare} arg15.view.writes (Elt F) f L15) ∗
            (∃ f, arg16.view.loc (c : Thread nD τ) ↦[arg16.view.set]{fullShare} arg16.view.writes (Elt F) f L16) ∗
            (∃ f, arg17.view.loc (c : Thread nD τ) ↦[arg17.view.set]{fullShare} arg17.view.writes (Elt F) f L17)) -∗ K ⟨⟩))
        ⊢ wp frame (wpE (defs₀ (F := F)) Variants.none c none) E
            (cc0_mixer_fwd i arg1 harg1 arg2 harg2 arg3 harg3 arg4 harg4 arg5 harg5 arg6 harg6 arg7 harg7 arg8 harg8 arg9 harg9 arg10 harg10 arg11 harg11
              arg12 harg12 arg13 harg13 arg14 harg14 arg15 harg15 arg16 harg16 arg17 harg17) K } := by
  refine ⟨?_, ?_, ?_, ?_, fun E K => ?run⟩
  case run =>
    simp only [cc0_mixer_fwd_eq_skeleton]; unfold cc0_mixer_fwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
      ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩,
      ⟨%d16, %f16, -, H16⟩, ⟨%d17, %f17, -, H17⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexists _; iexact H15
    isplitl [H16]; · iexists _; iexact H16
    iexists _; iexact H17

end Cert.MixerFwd
-- ==== Proof.MixFwdLater.lean ====
module

public import proofs.«01_k».proof.Proof.MixFwdFirst

@[expose] public section

set_option maxRecDepth 16384

noncomputable section

namespace Cert.MixerFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.MixerIdeal Cert.MixerIdeal.Gen Cert.Over

variable {F : FTy → Type} [FloatOps F]

local notation "𝕄" => MT nD τ sig Unit (Elt F) ℕ (UR sig nD τ) ℕ

-- the run names every piece that the body stores, which makes the definition a large term
set_option maxHeartbeats 4000000 in
/-- The forward body at a later grid point: the inputs' blocks stay, the buffers filled anew end with the stores listed,
    and each buffer carried from the point before ends with what it held overlaid by the stores listed. -/
def runLater (c : Dev nD) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x512 .f32) (harg4 : arg4.IsWhole)
    (arg5 : Memref sig .tc .vmem S256x512 .f32) (harg5 : arg5.IsWhole) (arg6 : Memref sig .tc .vmem S256x1024 .f32) (harg6 : arg6.IsWhole)
    (arg7 : Memref sig .tc .vmem S256x1024 .f32) (harg7 : arg7.IsWhole) (arg8 : Memref sig .tc .vmem S256x128 .f32) (harg8 : arg8.IsWhole)
    (arg9 : Memref sig .tc .vmem S128x512 .bf16) (harg9 : arg9.IsWhole) (arg10 : Memref sig .tc .vmem S1x512 .f32) (harg10 : arg10.IsWhole)
    (arg11 : Memref sig .tc .vmem S8x1024 .f32) (harg11 : arg11.IsWhole) (arg12 : Memref sig .tc .vmem S1x1024 .f32) (harg12 : arg12.IsWhole)
    (arg13 : Memref sig .tc .vmem S1x256 .f32) (harg13 : arg13.IsWhole) (arg14 : Memref sig .tc .vmem S256x2048 .bf16) (harg14 : arg14.IsWhole)
    (arg15 : Memref sig .tc .vmem S4x4x256x128 .f32) (harg15 : arg15.IsWhole) (arg16 : Memref sig .tc .vmem S8x1024 .f32) (harg16 : arg16.IsWhole)
    (arg17 : Memref sig .tc .vmem S4x256x128 .f32) (harg17 : arg17.IsWhole)
    (hc : ¬cond0 i)
    (x1 : Vec F S256x1024 .f32) (x2 : Vec F S256x1024 .f32) (x3 : Vec F S256x1024 .f32) (x4 : Vec F S256x512 .f32) (x5 : Vec F S256x512 .f32)
    (x6 : Vec F S256x1024 .f32) (x7 : Vec F S256x1024 .f32) (x8 : Vec F S256x128 .f32) (x9 : Vec F S128x512 .bf16) (x10 : Vec F S1x512 .f32)
    (x11 : Vec F S8x1024 .f32) (x12 : Vec F S1x1024 .f32) (x13 : Vec F S1x256 .f32) (x16 : Vec F S8x1024 .f32) (x17 : Vec F S4x256x128 .f32) :
    Σ' (L14 : List (View.Piece (Elt F) S256x2048 .bf16)), Σ' (L15 : List (View.Piece (Elt F) S4x4x256x128 .f32)),
    Σ' (L16 : List (View.Piece (Elt F) S8x1024 .f32)),
    { L17 : List (View.Piece (Elt F) S4x256x128 .f32) //
      ∀ (E : Set ℕ) (K : PUnit → sProp 𝕄),
        iprop(
          owns (c : Thread nD τ) arg1 fullShare x1 ∗ owns (c : Thread nD τ) arg2 fullShare x2 ∗ owns (c : Thread nD τ) arg3 fullShare x3 ∗
          owns (c : Thread nD τ) arg4 fullShare x4 ∗ owns (c : Thread nD τ) arg5 fullShare x5 ∗ owns (c : Thread nD τ) arg6 fullShare x6 ∗
          owns (c : Thread nD τ) arg7 fullShare x7 ∗ owns (c : Thread nD τ) arg8 fullShare x8 ∗ owns (c : Thread nD τ) arg9 fullShare x9 ∗
          owns (c : Thread nD τ) arg10 fullShare x10 ∗ owns (c : Thread nD τ) arg11 fullShare x11 ∗ owns (c : Thread nD τ) arg12 fullShare x12 ∗
          owns (c : Thread nD τ) arg13 fullShare x13 ∗ (∃ d, owns (c : Thread nD τ) arg14 fullShare d) ∗
          (∃ d, owns (c : Thread nD τ) arg15 fullShare d) ∗ owns (c : Thread nD τ) arg16 fullShare x16 ∗ owns (c : Thread nD τ) arg17 fullShare x17 ∗
          (iprop(owns (c : Thread nD τ) arg1 fullShare x1 ∗ owns (c : Thread nD τ) arg2 fullShare x2 ∗ owns (c : Thread nD τ) arg3 fullShare x3 ∗
            owns (c : Thread nD τ) arg4 fullShare x4 ∗ owns (c : Thread nD τ) arg5 fullShare x5 ∗ owns (c : Thread nD τ) arg6 fullShare x6 ∗
            owns (c : Thread nD τ) arg7 fullShare x7 ∗ owns (c : Thread nD τ) arg8 fullShare x8 ∗ owns (c : Thread nD τ) arg9 fullShare x9 ∗
            owns (c : Thread nD τ) arg10 fullShare x10 ∗ owns (c : Thread nD τ) arg11 fullShare x11 ∗ owns (c : Thread nD τ) arg12 fullShare x12 ∗
            owns (c : Thread nD τ) arg13 fullShare x13 ∗
            (∃ f, arg14.view.loc (c : Thread nD τ) ↦[arg14.view.set]{fullShare} arg14.view.writes (Elt F) f L14) ∗
            (∃ f, arg15.view.loc (c : Thread nD τ) ↦[arg15.view.set]{fullShare} arg15.view.writes (Elt F) f L15) ∗
            owns (c : Thread nD τ) arg16 fullShare (over x16 L16) ∗ owns (c : Thread nD τ) arg17 fullShare (over x17 L17)) -∗ K ⟨⟩))
        ⊢ wp frame (wpE (defs₀ (F := F)) Variants.none c none) E
            (cc0_mixer_fwd i arg1 harg1 arg2 harg2 arg3 harg3 arg4 harg4 arg5 harg5 arg6 harg6 arg7 harg7 arg8 harg8 arg9 harg9 arg10 harg10 arg11 harg11
              arg12 harg12 arg13 harg13 arg14 harg14 arg15 harg15 arg16 harg16 arg17 harg17) K } := by
  refine ⟨?_, ?_, ?_, ?_, fun E K => ?run⟩
  case run =>
    simp only [cc0_mixer_fwd_eq_skeleton]; unfold cc0_mixer_fwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
      ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩,
      ⟨%f16, %hf16, H16⟩, ⟨%f17, %hf17, H17⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg16.eq_unread hf16
    obtain rfl := harg17.eq_unread hf17
    sl_exec (disch := sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexists _; iexact H15
    isplitl [H16]
    · iexists _; isplitr; swap; · iexact H16
      ipureintro; rw [read_writes_over, harg16.read_unread]
    iexists _; isplitr; swap; · iexact H17
    ipureintro; rw [read_writes_over, harg17.read_unread]

end Cert.MixerFwd
-- ==== Proof.MixFwdPoint.lean ====
module

public import proofs.«01_k».proof.Proof.MixFwdLater

@[expose] public section

set_option maxRecDepth 16384

noncomputable section

namespace Cert.MixerFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.MixerIdeal Cert.MixerIdeal.Gen Cert.Over

variable {F : FTy → Type} [FloatOps F]

local notation "𝕄" => MT nD τ sig Unit (Elt F) ℕ (UR sig nD τ) ℕ

-- what the buffers of each core hold as the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x512 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S8x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x1024 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x256 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S256x2048 .bf16 := win0_13.stage (cfg0.slots t 13)
abbrev hs13 (t : Fin cfg0.N) : (ms13 t).IsWhole := hstage0_13 ((cfg0.slots t 13).cast nbuf0_13)
abbrev ms14 (t : Fin cfg0.N) : Memref sig .tc .vmem S4x4x256x128 .f32 := win0_14.stage (cfg0.slots t 14)
abbrev hs14 (t : Fin cfg0.N) : (ms14 t).IsWhole := hstage0_14 ((cfg0.slots t 14).cast nbuf0_14)
abbrev sc0 : Memref sig .tc .vmem S8x1024 .f32 := Memref.whole cc0_scratch0
abbrev sc1 : Memref sig .tc .vmem S4x256x128 .f32 := Memref.whole cc0_scratch1

/-- What the body leaves in the buffers it stores into. -/
structure Left (F : FTy → Type) where
  y : Vec F S256x2048 .bf16
  sall : Vec F S4x4x256x128 .f32
  carry : Vec F S8x1024 .f32
  s : Vec F S4x256x128 .f32

/-- The forward body's run at the first point. -/
abbrev firstAt (c : Dev nD) (t : Fin cfg0.N) (h : t.val = 0) :=
  runFirst (F := F) c (grid0.coords t)
    (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    (ms9 t) (hs9 t) (ms10 t) (hs10 t) (ms11 t) (hs11 t) (ms12 t) (hs12 t) (ms13 t) (hs13 t) (ms14 t) (hs14 t) sc0 (Memref.isWhole_whole _)
    sc1 (Memref.isWhole_whole _)
    ((cond0_iff t).mpr h)
    (iblk V c 0 t) (iblk V c 1 t) (iblk V c 2 t) (iblk V c 3 t) (iblk V c 4 t) (iblk V c 5 t) (iblk V c 6 t) (iblk V c 7 t) (iblk V c 8 t)
    (iblk V c 9 t) (iblk V c 10 t) (iblk V c 11 t) (iblk V c 12 t)

/-- The forward body's run at a later point, over what the point before left. -/
abbrev laterAt (c : Dev nD) (t : Fin cfg0.N) (h : t.val ≠ 0) (p : Left F) :=
  runLater (F := F) c (grid0.coords t)
    (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    (ms9 t) (hs9 t) (ms10 t) (hs10 t) (ms11 t) (hs11 t) (ms12 t) (hs12 t) (ms13 t) (hs13 t) (ms14 t) (hs14 t) sc0 (Memref.isWhole_whole _)
    sc1 (Memref.isWhole_whole _)
    (fun h' => h ((cond0_iff t).mp h'))
    (iblk V c 0 t) (iblk V c 1 t) (iblk V c 2 t) (iblk V c 3 t) (iblk V c 4 t) (iblk V c 5 t) (iblk V c 6 t) (iblk V c 7 t) (iblk V c 8 t)
    (iblk V c 9 t) (iblk V c 10 t) (iblk V c 11 t) (iblk V c 12 t) p.carry p.s

/-- What the first point leaves. -/
def leftFirst (c : Dev nD) (t : Fin cfg0.N) (h : t.val = 0) : Left F :=
  ⟨View.canon (firstAt V c t h).1, View.canon (firstAt V c t h).2.1, View.canon (firstAt V c t h).2.2.1, View.canon (firstAt V c t h).2.2.2.1⟩

/-- What a later point leaves. -/
def leftLater (c : Dev nD) (t : Fin cfg0.N) (h : t.val ≠ 0) (p : Left F) : Left F :=
  ⟨View.canon (laterAt V c t h p).1, View.canon (laterAt V c t h p).2.1, over p.carry (laterAt V c t h p).2.2.1, over p.s (laterAt V c t h p).2.2.2.1⟩

/-- What the body leaves, point by point. -/
def left (c : Dev nD) : (n : ℕ) → n < cfg0.N → Left F
  | 0, hn => leftFirst V c ⟨0, hn⟩ rfl
  | n + 1, hn => leftLater V c ⟨n + 1, hn⟩ (Nat.succ_ne_zero n) (left c n (Nat.lt_of_succ_lt hn))

theorem left_first (c : Dev nD) (t : Fin cfg0.N) (h : t.val = 0) : left V c t.val t.isLt = leftFirst V c t h := by
  obtain ⟨n, hn⟩ := t
  cases n with
  | zero => rfl
  | succ n => exact absurd h (Nat.succ_ne_zero n)

theorem left_later (c : Dev nD) (t : Fin cfg0.N) (h : t.val ≠ 0) :
    left V c t.val t.isLt = leftLater V c t h (left V c (t.val - 1) (Nat.lt_of_le_of_lt (Nat.sub_le _ _) t.isLt)) := by
  obtain ⟨n, hn⟩ := t
  cases n with
  | zero => exact absurd rfl h
  | succ n => rfl

/-! The stores cover each buffer: at the first point all of them, at a later one those that are filled anew. -/

theorem coverFirst_y (c : Dev nD) (t : Fin cfg0.N) (h : t.val = 0) (y : S256x2048.Idx) :
    ∃ pc ∈ (firstAt V c t h).1, y ∈ pc.1.set :=
  View.cover_of_tiledBy _ ![256, 128] (by sl_kernel_rfl) y
theorem coverFirst_sall (c : Dev nD) (t : Fin cfg0.N) (h : t.val = 0) (y : S4x4x256x128.Idx) :
    ∃ pc ∈ (firstAt V c t h).2.1, y ∈ pc.1.set :=
  View.cover_of_tiledBy _ ![1, 1, 256, 128] (by sl_kernel_rfl) y
theorem coverFirst_carry (c : Dev nD) (t : Fin cfg0.N) (h : t.val = 0) (y : S8x1024.Idx) :
    ∃ pc ∈ (firstAt V c t h).2.2.1, y ∈ pc.1.set :=
  View.cover_of_tiledBy _ ![8, 1024] (by sl_kernel_rfl) y
theorem coverFirst_s (c : Dev nD) (t : Fin cfg0.N) (h : t.val = 0) (y : S4x256x128.Idx) :
    ∃ pc ∈ (firstAt V c t h).2.2.2.1, y ∈ pc.1.set :=
  View.cover_of_tiledBy _ ![1, 256, 128] (by sl_kernel_rfl) y
theorem coverLater_y (c : Dev nD) (t : Fin cfg0.N) (h : t.val ≠ 0) (p : Left F) (y : S256x2048.Idx) :
    ∃ pc ∈ (laterAt V c t h p).1, y ∈ pc.1.set :=
  View.cover_of_tiledBy _ ![256, 128] (by sl_kernel_rfl) y
theorem coverLater_sall (c : Dev nD) (t : Fin cfg0.N) (h : t.val ≠ 0) (p : Left F) (y : S4x4x256x128.Idx) :
    ∃ pc ∈ (laterAt V c t h p).2.1, y ∈ pc.1.set :=
  View.cover_of_tiledBy _ ![1, 1, 256, 128] (by sl_kernel_rfl) y

/-- The invariant between points: before the first point the scratch buffers hold anything, afterwards what the point
    before left. -/
def PhiS (c : Dev nD) : (n : ℕ) → n ≤ cfg0.N → sProp 𝕄
  | 0, _ => Pipeline.ΦA spec0 c
  | n + 1, hn => iprop(iprop(iprop(owns (c : Thread nD τ) sc0 fullShare (left V c n hn).carry ∗ owns (c : Thread nD τ) sc1 fullShare (left V c n hn).s)
      ∗ Pipeline.scopedRestBut (Ix := Unit) (Name := ℕ) (U := UR sig nD τ) (Lvl := ℕ) (Val := Elt F) spec0 c [cc0_scratch0, cc0_scratch1]) ∗ (∃ r, prngReg c r))

theorem PhiS_pos (c : Dev nD) (n : ℕ) (h : n ≤ cfg0.N) (hz : n ≠ 0) :
    PhiS V c n h = iprop(iprop(iprop(owns (c : Thread nD τ) sc0 fullShare (left V c (n - 1) (by omega)).carry
        ∗ owns (c : Thread nD τ) sc1 fullShare (left V c (n - 1) (by omega)).s)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

theorem PhiA_eq (c : Dev nD) : (Pipeline.ΦA spec0 c : sProp 𝕄)
    = iprop(iprop(iprop((∃ d, owns (c : Thread nD τ) sc0 fullShare d) ∗ (∃ d, owns (c : Thread nD τ) sc1 fullShare d))
      ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA
  rw [scopedRest0_split]
  simp only [owns_whole]
  rfl

/-- The proof data of the forward pipeline: the arrays as the region finds them; after the body each input's buffer at its
    block and each output's at what the body leaves. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => (left V c t.val t.isLt).y
    | ⟨14, _⟩ => (left V c t.val t.isLt).sall
    | ⟨_ + 15, h⟩ => absurd h (Nat.not_lt.2 (Nat.le_add_left _ _))
  Φ t := PhiS V c t.val (Nat.le_of_lt_succ t.isLt)
  q := Pipeline.shareOf spec0
  owed _ := 0

theorem A_eq (c : Dev nD) (w : Fin cfg0.W) : (dat V c).A w = V c (Pipeline.arrRef spec0 w) := by
  dsimp only [dat]

theorem PhiS_castSucc (c : Dev nD) (t : Fin cfg0.N) : (dat V c).Φ t.castSucc = PhiS V c t.val (Nat.le_of_lt t.isLt) := by
  dsimp only [dat]; exact Pipeline.Dat.Φ_castSucc (PhiS V c) t

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = iblk V c 10 t := by dsimp only [dat]
theorem after_11 (c : Dev nD) (t : Fin cfg0.N) : (dat V c).after 11 t = iblk V c 11 t := by dsimp only [dat]
theorem after_12 (c : Dev nD) (t : Fin cfg0.N) : (dat V c).after 12 t = iblk V c 12 t := by dsimp only [dat]
theorem after_13 (c : Dev nD) (t : Fin cfg0.N) : (dat V c).after 13 t = (left V c t.val t.isLt).y := by dsimp only [dat]
theorem after_14 (c : Dev nD) (t : Fin cfg0.N) : (dat V c).after 14 t = (left V c t.val t.isLt).sall := by dsimp only [dat]

/-! Each input's buffer holds its block at every point. -/

theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans (by unfold Dat.fetched Dat.blockOf iblk; rw [A_eq]; try rfl)
theorem before_5 (c : Dev nD) (t : Fin cfg0.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans (by unfold Dat.fetched Dat.blockOf iblk; rw [A_eq]; try rfl)
theorem before_6 (c : Dev nD) (t : Fin cfg0.N) (d) : (dat V c).before 6 t d = iblk V c 6 t :=
  ((dat V c).before_in_eq_fetched 6 rfl (fun _ => rfl) (fun _ _ _ => rfl)
    (fun t => by rw [after_6]; unfold Dat.blockOf iblk; rw [A_eq]; try rfl) t d).trans (by unfold Dat.fetched Dat.blockOf iblk; rw [A_eq]; try rfl)
theorem before_7 (c : Dev nD) (t : Fin cfg0.N) (d) : (dat V c).before 7 t d = iblk V c 7 t :=
  ((dat V c).before_in_eq_fetched 7 rfl (fun _ => rfl) (fun _ _ _ => rfl)
    (fun t => by rw [after_7]; unfold Dat.blockOf iblk; rw [A_eq]; try rfl) t d).trans (by unfold Dat.fetched Dat.blockOf iblk; rw [A_eq]; try rfl)
theorem before_8 (c : Dev nD) (t : Fin cfg0.N) (d) : (dat V c).before 8 t d = iblk V c 8 t :=
  ((dat V c).before_in_eq_fetched 8 rfl (fun _ => rfl) (fun _ _ _ => rfl)
    (fun t => by rw [after_8]; unfold Dat.blockOf iblk; rw [A_eq]; try rfl) t d).trans (by unfold Dat.fetched Dat.blockOf iblk; rw [A_eq]; try rfl)
theorem before_9 (c : Dev nD) (t : Fin cfg0.N) (d) : (dat V c).before 9 t d = iblk V c 9 t :=
  ((dat V c).before_in_eq_fetched 9 rfl (fun _ => rfl) (fun _ _ _ => rfl)
    (fun t => by rw [after_9]; unfold Dat.blockOf iblk; rw [A_eq]; try rfl) t d).trans (by unfold Dat.fetched Dat.blockOf iblk; rw [A_eq]; try rfl)
theorem before_10 (c : Dev nD) (t : Fin cfg0.N) (d) : (dat V c).before 10 t d = iblk V c 10 t :=
  ((dat V c).before_in_eq_fetched 10 rfl (fun _ => rfl) (fun _ _ _ => rfl)
    (fun t => by rw [after_10]; unfold Dat.blockOf iblk; rw [A_eq]; try rfl) t d).trans (by unfold Dat.fetched Dat.blockOf iblk; rw [A_eq]; try rfl)
theorem before_11 (c : Dev nD) (t : Fin cfg0.N) (d) : (dat V c).before 11 t d = iblk V c 11 t :=
  ((dat V c).before_in_eq_fetched 11 rfl (fun _ => rfl) (fun _ _ _ => rfl)
    (fun t => by rw [after_11]; unfold Dat.blockOf iblk; rw [A_eq]; try rfl) t d).trans (by unfold Dat.fetched Dat.blockOf iblk; rw [A_eq]; try rfl)
theorem before_12 (c : Dev nD) (t : Fin cfg0.N) (d) : (dat V c).before 12 t d = iblk V c 12 t :=
  ((dat V c).before_in_eq_fetched 12 rfl (fun _ => rfl) (fun _ _ _ => rfl)
    (fun t => by rw [after_12]; unfold Dat.blockOf iblk; rw [A_eq]; try rfl) t d).trans (by unfold Dat.fetched Dat.blockOf iblk; rw [A_eq]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d))
    ∗ (∃ d, owns (c : Thread nD τ) (ms11 t) fullShare ((dat V c).before 11 t d))
    ∗ (∃ d, owns (c : Thread nD τ) (ms12 t) fullShare ((dat V c).before 12 t d))
    ∗ (∃ d, owns (c : Thread nD τ) (ms13 t) fullShare ((dat V c).before 13 t d))
    ∗ (∃ d, owns (c : Thread nD τ) (ms14 t) fullShare ((dat V c).before 14 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t)
    ∗ owns (c : Thread nD τ) (ms10 t) fullShare ((dat V c).after 10 t)
    ∗ owns (c : Thread nD τ) (ms11 t) fullShare ((dat V c).after 11 t)
    ∗ owns (c : Thread nD τ) (ms12 t) fullShare ((dat V c).after 12 t)
    ∗ owns (c : Thread nD τ) (ms13 t) fullShare ((dat V c).after 13 t)
    ∗ owns (c : Thread nD τ) (ms14 t) fullShare ((dat V c).after 14 t))

set_option maxHeartbeats 3200000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9, before_10, before_11, before_12, after_0, after_1, after_2, after_3, after_4, after_5, after_6, after_7, after_8, after_9, after_10, after_11, after_12, after_13, after_14]
  rw [show (dat V c).owesAt () t.succ = (dat V c).owesAt () t.castSucc from rfl]
  rw [show (dat V c).Φ t.succ = iprop(iprop(iprop(owns (c : Thread nD τ) sc0 fullShare (left V c t.val t.isLt).carry
        ∗ owns (c : Thread nD τ) sc1 fullShare (left V c t.val t.isLt).s)
      ∗ Pipeline.scopedRestBut (Ix := Unit) (Name := ℕ) (U := UR sig nD τ) (Lvl := ℕ) (Val := Elt F) spec0 c [cc0_scratch0, cc0_scratch1]) ∗ (∃ r, prngReg c r)) from rfl]
  by_cases h : t.val = 0
  · rw [PhiS_castSucc V c t, show PhiS V c t.val (Nat.le_of_lt t.isLt) = Pipeline.ΦA spec0 c from by
      obtain ⟨n, hn⟩ := t; cases n with | zero => rfl | succ n => exact absurd h (Nat.succ_ne_zero n), PhiA_eq]
    rw [left_first V c t h]
    unfold leftFirst; dsimp only
    iintro ⟨⟨⟨⟨HS0, HS1⟩, Hb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((firstAt V c t h).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [HS0]; · iexact HS0
    isplitl [HS1]; · iexact HS1
    iintro ⟨H0, H1, H2, H3, H4, H5, H6, H7, H8, H9, H10, H11, H12, ⟨%e13, H13⟩, ⟨%e14, H14⟩, ⟨%es0, HS0⟩, ⟨%es1, HS1⟩⟩
    isplitl [HS0 HS1 Hb Hg]
    · isplitl [HS0 HS1 Hb]
      · isplitl [HS0 HS1]
        · isplitl [HS0]
          · unfold owns; iexists _; isplitr; swap; · iexact HS0
            ipureintro; exact View.read_writes_eq_canon _ _ _ (coverFirst_carry V c t h)
          unfold owns; iexists _; isplitr; swap; · iexact HS1
          ipureintro; exact View.read_writes_eq_canon _ _ _ (coverFirst_s V c t h)
        iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr; swap; · iexact H13
      ipureintro; exact View.read_writes_eq_canon _ _ _ (coverFirst_y V c t h)
    unfold owns; iexists _; isplitr; swap; · iexact H14
    ipureintro; exact View.read_writes_eq_canon _ _ _ (coverFirst_sall V c t h)
  · rw [PhiS_castSucc V c t, PhiS_pos V c _ _ h]

    rw [left_later V c t h]
    unfold leftLater; dsimp only
    iintro ⟨⟨⟨⟨HS0, HS1⟩, Hb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((laterAt V c t h (left V c (t.val - 1) (Nat.lt_of_le_of_lt (Nat.sub_le _ _) t.isLt))).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [HS0]; · iexact HS0
    isplitl [HS1]; · iexact HS1
    iintro ⟨H0, H1, H2, H3, H4, H5, H6, H7, H8, H9, H10, H11, H12, ⟨%e13, H13⟩, ⟨%e14, H14⟩, HS0, HS1⟩
    isplitl [HS0 HS1 Hb Hg]
    · isplitl [HS0 HS1 Hb]
      · isplitl [HS0 HS1]
        · isplitl [HS0]
          · iexact HS0
          iexact HS1
        iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr; swap; · iexact H13
      ipureintro; exact View.read_writes_eq_canon _ _ _ (coverLater_y V c t h _)
    unfold owns; iexists _; isplitr; swap; · iexact H14
    ipureintro; exact View.read_writes_eq_canon _ _ _ (coverLater_sall V c t h _)

/-- The body table's row at point `t` is the body there. -/
theorem defs₀_row (t : Fin cfg0.N) : defs₀ (F := F) .tc cfg0.body (cfg0.bodyArgs t (cfg0.slots t)) = bodyAt0 t := by
  unfold defs₀; rw [Defs.onTc_tc]

set_option maxHeartbeats 3200000 in
/-- The body obligation at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

theorem hin (c : Dev nD) : Pipeline.ΦA spec0 c ⊢ (dat V c).Φ 0 := by
  rw [show (dat V c).Φ 0 = Pipeline.ΦA spec0 c from rfl]

/-- After the last point the scratch buffers' contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA_eq]
  iintro ⟨⟨⟨HS0, HS1⟩, Hb⟩, Hg⟩
  isplitl [HS0 HS1 Hb]
  · isplitl [HS0 HS1]
    · isplitl [HS0]; · iexists _; iexact HS0
      iexists _; iexact HS1
    iexact Hb
  iexact Hg

end Cert.MixerFwd
-- ==== Proof.MixBwdFirst.lean ====
module

public import proofs.«01_k».proof.Proof.Over
public import proofs.«01_k».proof.Proof.Gen.MixerIdeal.Launch
public import proofs.«01_k».proof.Proof.Gen.MixerIdeal.Skeleton
public import proofs.«01_k».proof.Proof.Gen.MixerIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MixerBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.MixerIdeal Cert.MixerIdeal.Gen Cert.Over

variable {F : FTy → Type} [FloatOps F]

local notation "𝕄" => MT nD τ sig Unit (Elt F) ℕ (UR sig nD τ) ℕ

/-- The grid point is the first one, as the body tests it. -/
abbrev cond1 (i : grid1.Coords) : Prop := Scalar.cmpi .ne (Scalar.extui (Scalar.cmpi .eq (BitVec.ofNat 32 (i 0).val) 0#32)) 0#32 = 1#1

theorem cond1_iff (t : Fin cfg1.N) : cond1 (grid1.coords t) ↔ t.val = 0 := by
  have ht : t.val < 32 := Nat.lt_of_lt_of_eq t.isLt N_1
  have e0 : (grid1.coords t 0).val = t.val / 1 % 32 := Pipeline.Grid.coords_val t 0 (by decide) rfl
  simp only [cond1, e0]
  word_cmp

-- the run names every piece that the body stores, which makes the definition a large term
set_option maxHeartbeats 4000000 in
/-- The backward body at the first grid point: the inputs' blocks stay, and every other buffer, whatever it held,
    ends with the stores listed. -/
def runFirst (c : Dev nD) (i : grid1.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x512 .f32) (harg4 : arg4.IsWhole)
    (arg5 : Memref sig .tc .vmem S256x512 .f32) (harg5 : arg5.IsWhole) (arg6 : Memref sig .tc .vmem S256x1024 .f32) (harg6 : arg6.IsWhole)
    (arg7 : Memref sig .tc .vmem S256x1024 .f32) (harg7 : arg7.IsWhole) (arg8 : Memref sig .tc .vmem S8x1024 .f32) (harg8 : arg8.IsWhole)
    (arg9 : Memref sig .tc .vmem S8x1024 .f32) (harg9 : arg9.IsWhole) (arg10 : Memref sig .tc .vmem S256x128 .f32) (harg10 : arg10.IsWhole)
    (arg11 : Memref sig .tc .vmem S256x2048 .f32) (harg11 : arg11.IsWhole) (arg12 : Memref sig .tc .vmem S4x4x256x128 .f32) (harg12 : arg12.IsWhole)
    (arg13 : Memref sig .tc .vmem S1x4x256x128 .f32) (harg13 : arg13.IsWhole) (arg14 : Memref sig .tc .vmem S128x512 .bf16) (harg14 : arg14.IsWhole)
    (arg15 : Memref sig .tc .vmem S1x512 .f32) (harg15 : arg15.IsWhole) (arg16 : Memref sig .tc .vmem S8x1024 .f32) (harg16 : arg16.IsWhole)
    (arg17 : Memref sig .tc .vmem S1x1024 .f32) (harg17 : arg17.IsWhole) (arg18 : Memref sig .tc .vmem S1x256 .f32) (harg18 : arg18.IsWhole)
    (arg19 : Memref sig .tc .vmem S256x6144 .bf16) (harg19 : arg19.IsWhole) (arg20 : Memref sig .tc .vmem S256x128 .bf16) (harg20 : arg20.IsWhole)
    (arg21 : Memref sig .tc .vmem S8x1024 .f32) (harg21 : arg21.IsWhole) (arg22 : Memref sig .tc .vmem S1x1024 .f32) (harg22 : arg22.IsWhole)
    (arg23 : Memref sig .tc .vmem S1x256 .f32) (harg23 : arg23.IsWhole) (arg24 : Memref sig .tc .vmem S1x512 .f32) (harg24 : arg24.IsWhole)
    (arg25 : Memref sig .tc .vmem S128x512 .f32) (harg25 : arg25.IsWhole) (arg26 : Memref sig .tc .vmem S8x1024 .f32) (harg26 : arg26.IsWhole)
    (arg27 : Memref sig .tc .vmem S4x256x128 .f32) (harg27 : arg27.IsWhole)
    (hc : cond1 i)
    (x1 : Vec F S256x1024 .f32) (x2 : Vec F S256x1024 .f32) (x3 : Vec F S256x1024 .f32) (x4 : Vec F S256x512 .f32) (x5 : Vec F S256x512 .f32)
    (x6 : Vec F S256x1024 .f32) (x7 : Vec F S256x1024 .f32) (x8 : Vec F S8x1024 .f32) (x9 : Vec F S8x1024 .f32) (x10 : Vec F S256x128 .f32)
    (x11 : Vec F S256x2048 .f32) (x12 : Vec F S4x4x256x128 .f32) (x13 : Vec F S1x4x256x128 .f32) (x14 : Vec F S128x512 .bf16)
    (x15 : Vec F S1x512 .f32) (x16 : Vec F S8x1024 .f32) (x17 : Vec F S1x1024 .f32) (x18 : Vec F S1x256 .f32) :
    Σ' (L19 : List (View.Piece (Elt F) S256x6144 .bf16)), Σ' (L20 : List (View.Piece (Elt F) S256x128 .bf16)),
    Σ' (L21 : List (View.Piece (Elt F) S8x1024 .f32)), Σ' (L22 : List (View.Piece (Elt F) S1x1024 .f32)),
    Σ' (L23 : List (View.Piece (Elt F) S1x256 .f32)), Σ' (L24 : List (View.Piece (Elt F) S1x512 .f32)),
    Σ' (L25 : List (View.Piece (Elt F) S128x512 .f32)), Σ' (L26 : List (View.Piece (Elt F) S8x1024 .f32)),
    { L27 : List (View.Piece (Elt F) S4x256x128 .f32) //
      ∀ (E : Set ℕ) (K : PUnit → sProp 𝕄),
        iprop(
          owns (c : Thread nD τ) arg1 fullShare x1 ∗ owns (c : Thread nD τ) arg2 fullShare x2 ∗ owns (c : Thread nD τ) arg3 fullShare x3 ∗
          owns (c : Thread nD τ) arg4 fullShare x4 ∗ owns (c : Thread nD τ) arg5 fullShare x5 ∗ owns (c : Thread nD τ) arg6 fullShare x6 ∗
          owns (c : Thread nD τ) arg7 fullShare x7 ∗ owns (c : Thread nD τ) arg8 fullShare x8 ∗ owns (c : Thread nD τ) arg9 fullShare x9 ∗
          owns (c : Thread nD τ) arg10 fullShare x10 ∗ owns (c : Thread nD τ) arg11 fullShare x11 ∗ owns (c : Thread nD τ) arg12 fullShare x12 ∗
          owns (c : Thread nD τ) arg13 fullShare x13 ∗ owns (c : Thread nD τ) arg14 fullShare x14 ∗ owns (c : Thread nD τ) arg15 fullShare x15 ∗
          owns (c : Thread nD τ) arg16 fullShare x16 ∗ owns (c : Thread nD τ) arg17 fullShare x17 ∗ owns (c : Thread nD τ) arg18 fullShare x18 ∗
          (∃ d, owns (c : Thread nD τ) arg19 fullShare d) ∗ (∃ d, owns (c : Thread nD τ) arg20 fullShare d) ∗
          (∃ d, owns (c : Thread nD τ) arg21 fullShare d) ∗ (∃ d, owns (c : Thread nD τ) arg22 fullShare d) ∗
          (∃ d, owns (c : Thread nD τ) arg23 fullShare d) ∗ (∃ d, owns (c : Thread nD τ) arg24 fullShare d) ∗
          (∃ d, owns (c : Thread nD τ) arg25 fullShare d) ∗ (∃ d, owns (c : Thread nD τ) arg26 fullShare d) ∗
          (∃ d, owns (c : Thread nD τ) arg27 fullShare d) ∗
          (iprop(owns (c : Thread nD τ) arg1 fullShare x1 ∗ owns (c : Thread nD τ) arg2 fullShare x2 ∗ owns (c : Thread nD τ) arg3 fullShare x3 ∗
            owns (c : Thread nD τ) arg4 fullShare x4 ∗ owns (c : Thread nD τ) arg5 fullShare x5 ∗ owns (c : Thread nD τ) arg6 fullShare x6 ∗
            owns (c : Thread nD τ) arg7 fullShare x7 ∗ owns (c : Thread nD τ) arg8 fullShare x8 ∗ owns (c : Thread nD τ) arg9 fullShare x9 ∗
            owns (c : Thread nD τ) arg10 fullShare x10 ∗ owns (c : Thread nD τ) arg11 fullShare x11 ∗ owns (c : Thread nD τ) arg12 fullShare x12 ∗
            owns (c : Thread nD τ) arg13 fullShare x13 ∗ owns (c : Thread nD τ) arg14 fullShare x14 ∗ owns (c : Thread nD τ) arg15 fullShare x15 ∗
            owns (c : Thread nD τ) arg16 fullShare x16 ∗ owns (c : Thread nD τ) arg17 fullShare x17 ∗ owns (c : Thread nD τ) arg18 fullShare x18 ∗
            (∃ f, arg19.view.loc (c : Thread nD τ) ↦[arg19.view.set]{fullShare} arg19.view.writes (Elt F) f L19) ∗
            (∃ f, arg20.view.loc (c : Thread nD τ) ↦[arg20.view.set]{fullShare} arg20.view.writes (Elt F) f L20) ∗
            (∃ f, arg21.view.loc (c : Thread nD τ) ↦[arg21.view.set]{fullShare} arg21.view.writes (Elt F) f L21) ∗
            (∃ f, arg22.view.loc (c : Thread nD τ) ↦[arg22.view.set]{fullShare} arg22.view.writes (Elt F) f L22) ∗
            (∃ f, arg23.view.loc (c : Thread nD τ) ↦[arg23.view.set]{fullShare} arg23.view.writes (Elt F) f L23) ∗
            (∃ f, arg24.view.loc (c : Thread nD τ) ↦[arg24.view.set]{fullShare} arg24.view.writes (Elt F) f L24) ∗
            (∃ f, arg25.view.loc (c : Thread nD τ) ↦[arg25.view.set]{fullShare} arg25.view.writes (Elt F) f L25) ∗
            (∃ f, arg26.view.loc (c : Thread nD τ) ↦[arg26.view.set]{fullShare} arg26.view.writes (Elt F) f L26) ∗
            (∃ f, arg27.view.loc (c : Thread nD τ) ↦[arg27.view.set]{fullShare} arg27.view.writes (Elt F) f L27)) -∗ K ⟨⟩))
        ⊢ wp frame (wpE (defs₀ (F := F)) Variants.none c none) E
            (cc1_mixer_bwd i arg1 harg1 arg2 harg2 arg3 harg3 arg4 harg4 arg5 harg5 arg6 harg6 arg7 harg7 arg8 harg8 arg9 harg9 arg10 harg10 arg11 harg11
              arg12 harg12 arg13 harg13 arg14 harg14 arg15 harg15 arg16 harg16 arg17 harg17 arg18 harg18 arg19 harg19 arg20 harg20 arg21 harg21
              arg22 harg22 arg23 harg23 arg24 harg24 arg25 harg25 arg26 harg26 arg27 harg27) K } := by
  refine ⟨?_, ?_, ?_, ?_, ?_, ?_, ?_, ?_, ?_, fun E K => ?run⟩
  case run =>
    simp only [cc1_mixer_bwd_eq_skeleton]; unfold cc1_mixer_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
      ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩,
      ⟨%f16, %hf16, H16⟩, ⟨%f17, %hf17, H17⟩, ⟨%f18, %hf18, H18⟩, ⟨%d19, %f19, -, H19⟩, ⟨%d20, %f20, -, H20⟩, ⟨%d21, %f21, -, H21⟩,
      ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    obtain rfl := harg16.eq_unread hf16
    obtain rfl := harg17.eq_unread hf17
    obtain rfl := harg18.eq_unread hf18
    sl_exec (disch := sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    iexists _; iexact H27

end Cert.MixerBwd
-- ==== Proof.MixBwdLater.lean ====
module

public import proofs.«01_k».proof.Proof.MixBwdFirst

@[expose] public section

set_option maxRecDepth 16384

noncomputable section

namespace Cert.MixerBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.MixerIdeal Cert.MixerIdeal.Gen Cert.Over

variable {F : FTy → Type} [FloatOps F]

local notation "𝕄" => MT nD τ sig Unit (Elt F) ℕ (UR sig nD τ) ℕ

-- the run names every piece that the body stores, which makes the definition a large term
set_option maxHeartbeats 4000000 in
/-- The backward body at a later grid point: the inputs' blocks stay, the buffers filled anew end with the stores listed,
    and each buffer carried from the point before ends with what it held overlaid by the stores listed. -/
def runLater (c : Dev nD) (i : grid1.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S256x512 .f32) (harg4 : arg4.IsWhole)
    (arg5 : Memref sig .tc .vmem S256x512 .f32) (harg5 : arg5.IsWhole) (arg6 : Memref sig .tc .vmem S256x1024 .f32) (harg6 : arg6.IsWhole)
    (arg7 : Memref sig .tc .vmem S256x1024 .f32) (harg7 : arg7.IsWhole) (arg8 : Memref sig .tc .vmem S8x1024 .f32) (harg8 : arg8.IsWhole)
    (arg9 : Memref sig .tc .vmem S8x1024 .f32) (harg9 : arg9.IsWhole) (arg10 : Memref sig .tc .vmem S256x128 .f32) (harg10 : arg10.IsWhole)
    (arg11 : Memref sig .tc .vmem S256x2048 .f32) (harg11 : arg11.IsWhole) (arg12 : Memref sig .tc .vmem S4x4x256x128 .f32) (harg12 : arg12.IsWhole)
    (arg13 : Memref sig .tc .vmem S1x4x256x128 .f32) (harg13 : arg13.IsWhole) (arg14 : Memref sig .tc .vmem S128x512 .bf16) (harg14 : arg14.IsWhole)
    (arg15 : Memref sig .tc .vmem S1x512 .f32) (harg15 : arg15.IsWhole) (arg16 : Memref sig .tc .vmem S8x1024 .f32) (harg16 : arg16.IsWhole)
    (arg17 : Memref sig .tc .vmem S1x1024 .f32) (harg17 : arg17.IsWhole) (arg18 : Memref sig .tc .vmem S1x256 .f32) (harg18 : arg18.IsWhole)
    (arg19 : Memref sig .tc .vmem S256x6144 .bf16) (harg19 : arg19.IsWhole) (arg20 : Memref sig .tc .vmem S256x128 .bf16) (harg20 : arg20.IsWhole)
    (arg21 : Memref sig .tc .vmem S8x1024 .f32) (harg21 : arg21.IsWhole) (arg22 : Memref sig .tc .vmem S1x1024 .f32) (harg22 : arg22.IsWhole)
    (arg23 : Memref sig .tc .vmem S1x256 .f32) (harg23 : arg23.IsWhole) (arg24 : Memref sig .tc .vmem S1x512 .f32) (harg24 : arg24.IsWhole)
    (arg25 : Memref sig .tc .vmem S128x512 .f32) (harg25 : arg25.IsWhole) (arg26 : Memref sig .tc .vmem S8x1024 .f32) (harg26 : arg26.IsWhole)
    (arg27 : Memref sig .tc .vmem S4x256x128 .f32) (harg27 : arg27.IsWhole)
    (hc : ¬cond1 i)
    (x1 : Vec F S256x1024 .f32) (x2 : Vec F S256x1024 .f32) (x3 : Vec F S256x1024 .f32) (x4 : Vec F S256x512 .f32) (x5 : Vec F S256x512 .f32)
    (x6 : Vec F S256x1024 .f32) (x7 : Vec F S256x1024 .f32) (x8 : Vec F S8x1024 .f32) (x9 : Vec F S8x1024 .f32) (x10 : Vec F S256x128 .f32)
    (x11 : Vec F S256x2048 .f32) (x12 : Vec F S4x4x256x128 .f32) (x13 : Vec F S1x4x256x128 .f32) (x14 : Vec F S128x512 .bf16)
    (x15 : Vec F S1x512 .f32) (x16 : Vec F S8x1024 .f32) (x17 : Vec F S1x1024 .f32) (x18 : Vec F S1x256 .f32) (x21 : Vec F S8x1024 .f32)
    (x22 : Vec F S1x1024 .f32) (x23 : Vec F S1x256 .f32) (x24 : Vec F S1x512 .f32) (x25 : Vec F S128x512 .f32) (x26 : Vec F S8x1024 .f32)
    (x27 : Vec F S4x256x128 .f32) :
    Σ' (L19 : List (View.Piece (Elt F) S256x6144 .bf16)), Σ' (L20 : List (View.Piece (Elt F) S256x128 .bf16)),
    Σ' (L21 : List (View.Piece (Elt F) S8x1024 .f32)), Σ' (L22 : List (View.Piece (Elt F) S1x1024 .f32)),
    Σ' (L23 : List (View.Piece (Elt F) S1x256 .f32)), Σ' (L24 : List (View.Piece (Elt F) S1x512 .f32)),
    Σ' (L25 : List (View.Piece (Elt F) S128x512 .f32)), Σ' (L26 : List (View.Piece (Elt F) S8x1024 .f32)),
    { L27 : List (View.Piece (Elt F) S4x256x128 .f32) //
      ∀ (E : Set ℕ) (K : PUnit → sProp 𝕄),
        iprop(
          owns (c : Thread nD τ) arg1 fullShare x1 ∗ owns (c : Thread nD τ) arg2 fullShare x2 ∗ owns (c : Thread nD τ) arg3 fullShare x3 ∗
          owns (c : Thread nD τ) arg4 fullShare x4 ∗ owns (c : Thread nD τ) arg5 fullShare x5 ∗ owns (c : Thread nD τ) arg6 fullShare x6 ∗
          owns (c : Thread nD τ) arg7 fullShare x7 ∗ owns (c : Thread nD τ) arg8 fullShare x8 ∗ owns (c : Thread nD τ) arg9 fullShare x9 ∗
          owns (c : Thread nD τ) arg10 fullShare x10 ∗ owns (c : Thread nD τ) arg11 fullShare x11 ∗ owns (c : Thread nD τ) arg12 fullShare x12 ∗
          owns (c : Thread nD τ) arg13 fullShare x13 ∗ owns (c : Thread nD τ) arg14 fullShare x14 ∗ owns (c : Thread nD τ) arg15 fullShare x15 ∗
          owns (c : Thread nD τ) arg16 fullShare x16 ∗ owns (c : Thread nD τ) arg17 fullShare x17 ∗ owns (c : Thread nD τ) arg18 fullShare x18 ∗
          (∃ d, owns (c : Thread nD τ) arg19 fullShare d) ∗ (∃ d, owns (c : Thread nD τ) arg20 fullShare d) ∗
          owns (c : Thread nD τ) arg21 fullShare x21 ∗ owns (c : Thread nD τ) arg22 fullShare x22 ∗ owns (c : Thread nD τ) arg23 fullShare x23 ∗
          owns (c : Thread nD τ) arg24 fullShare x24 ∗ owns (c : Thread nD τ) arg25 fullShare x25 ∗ owns (c : Thread nD τ) arg26 fullShare x26 ∗
          owns (c : Thread nD τ) arg27 fullShare x27 ∗
          (iprop(owns (c : Thread nD τ) arg1 fullShare x1 ∗ owns (c : Thread nD τ) arg2 fullShare x2 ∗ owns (c : Thread nD τ) arg3 fullShare x3 ∗
            owns (c : Thread nD τ) arg4 fullShare x4 ∗ owns (c : Thread nD τ) arg5 fullShare x5 ∗ owns (c : Thread nD τ) arg6 fullShare x6 ∗
            owns (c : Thread nD τ) arg7 fullShare x7 ∗ owns (c : Thread nD τ) arg8 fullShare x8 ∗ owns (c : Thread nD τ) arg9 fullShare x9 ∗
            owns (c : Thread nD τ) arg10 fullShare x10 ∗ owns (c : Thread nD τ) arg11 fullShare x11 ∗ owns (c : Thread nD τ) arg12 fullShare x12 ∗
            owns (c : Thread nD τ) arg13 fullShare x13 ∗ owns (c : Thread nD τ) arg14 fullShare x14 ∗ owns (c : Thread nD τ) arg15 fullShare x15 ∗
            owns (c : Thread nD τ) arg16 fullShare x16 ∗ owns (c : Thread nD τ) arg17 fullShare x17 ∗ owns (c : Thread nD τ) arg18 fullShare x18 ∗
            (∃ f, arg19.view.loc (c : Thread nD τ) ↦[arg19.view.set]{fullShare} arg19.view.writes (Elt F) f L19) ∗
            (∃ f, arg20.view.loc (c : Thread nD τ) ↦[arg20.view.set]{fullShare} arg20.view.writes (Elt F) f L20) ∗
            owns (c : Thread nD τ) arg21 fullShare (over x21 L21) ∗ owns (c : Thread nD τ) arg22 fullShare (over x22 L22) ∗
            owns (c : Thread nD τ) arg23 fullShare (over x23 L23) ∗ owns (c : Thread nD τ) arg24 fullShare (over x24 L24) ∗
            owns (c : Thread nD τ) arg25 fullShare (over x25 L25) ∗ owns (c : Thread nD τ) arg26 fullShare (over x26 L26) ∗
            owns (c : Thread nD τ) arg27 fullShare (over x27 L27)) -∗ K ⟨⟩))
        ⊢ wp frame (wpE (defs₀ (F := F)) Variants.none c none) E
            (cc1_mixer_bwd i arg1 harg1 arg2 harg2 arg3 harg3 arg4 harg4 arg5 harg5 arg6 harg6 arg7 harg7 arg8 harg8 arg9 harg9 arg10 harg10 arg11 harg11
              arg12 harg12 arg13 harg13 arg14 harg14 arg15 harg15 arg16 harg16 arg17 harg17 arg18 harg18 arg19 harg19 arg20 harg20 arg21 harg21
              arg22 harg22 arg23 harg23 arg24 harg24 arg25 harg25 arg26 harg26 arg27 harg27) K } := by
  refine ⟨?_, ?_, ?_, ?_, ?_, ?_, ?_, ?_, ?_, fun E K => ?run⟩
  case run =>
    simp only [cc1_mixer_bwd_eq_skeleton]; unfold cc1_mixer_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
      ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩,
      ⟨%f16, %hf16, H16⟩, ⟨%f17, %hf17, H17⟩, ⟨%f18, %hf18, H18⟩, ⟨%d19, %f19, -, H19⟩, ⟨%d20, %f20, -, H20⟩, ⟨%f21, %hf21, H21⟩, ⟨%f22, %hf22, H22⟩,
      ⟨%f23, %hf23, H23⟩, ⟨%f24, %hf24, H24⟩, ⟨%f25, %hf25, H25⟩, ⟨%f26, %hf26, H26⟩, ⟨%f27, %hf27, H27⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    obtain rfl := harg16.eq_unread hf16
    obtain rfl := harg17.eq_unread hf17
    obtain rfl := harg18.eq_unread hf18
    obtain rfl := harg21.eq_unread hf21
    obtain rfl := harg22.eq_unread hf22
    obtain rfl := harg23.eq_unread hf23
    obtain rfl := harg24.eq_unread hf24
    obtain rfl := harg25.eq_unread hf25
    obtain rfl := harg26.eq_unread hf26
    obtain rfl := harg27.eq_unread hf27
    sl_exec (disch := sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]; · iexists _; iexact H19
    isplitl [H20]; · iexists _; iexact H20
    isplitl [H21]
    · iexists _; isplitr; swap; · iexact H21
      ipureintro; rw [read_writes_over, harg21.read_unread]
    isplitl [H22]
    · iexists _; isplitr; swap; · iexact H22
      ipureintro; rw [read_writes_over, harg22.read_unread]
    isplitl [H23]
    · iexists _; isplitr; swap; · iexact H23
      ipureintro; rw [read_writes_over, harg23.read_unread]
    isplitl [H24]
    · iexists _; isplitr; swap; · iexact H24
      ipureintro; rw [read_writes_over, harg24.read_unread]
    isplitl [H25]
    · iexists _; isplitr; swap; · iexact H25
      ipureintro; rw [read_writes_over, harg25.read_unread]
    isplitl [H26]
    · iexists _; isplitr; swap; · iexact H26
      ipureintro; rw [read_writes_over, harg26.read_unread]
    iexists _; isplitr; swap; · iexact H27
    ipureintro; rw [read_writes_over, harg27.read_unread]

end Cert.MixerBwd
-- ==== Proof.MixBwdPoint.lean ====
module

public import proofs.«01_k».proof.Proof.MixBwdLater

@[expose] public section

set_option maxRecDepth 16384

noncomputable section

namespace Cert.MixerBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.MixerIdeal Cert.MixerIdeal.Gen Cert.Over

variable {F : FTy → Type} [FloatOps F]

local notation "𝕄" => MT nD τ sig Unit (Elt F) ℕ (UR sig nD τ) ℕ

-- what the buffers of each core hold as the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms0 (t : Fin cfg1.N) : Memref sig .tc .vmem S256x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S256x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S256x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S256x512 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S256x512 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S256x1024 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S256x1024 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S8x1024 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S8x1024 .f32 := win1_8.stage (cfg1.slots t 8)
abbrev hs8 (t : Fin cfg1.N) : (ms8 t).IsWhole := hstage1_8 ((cfg1.slots t 8).cast nbuf1_8)
abbrev ms9 (t : Fin cfg1.N) : Memref sig .tc .vmem S256x128 .f32 := win1_9.stage (cfg1.slots t 9)
abbrev hs9 (t : Fin cfg1.N) : (ms9 t).IsWhole := hstage1_9 ((cfg1.slots t 9).cast nbuf1_9)
abbrev ms10 (t : Fin cfg1.N) : Memref sig .tc .vmem S256x2048 .f32 := win1_10.stage (cfg1.slots t 10)
abbrev hs10 (t : Fin cfg1.N) : (ms10 t).IsWhole := hstage1_10 ((cfg1.slots t 10).cast nbuf1_10)
abbrev ms11 (t : Fin cfg1.N) : Memref sig .tc .vmem S4x4x256x128 .f32 := win1_11.stage (cfg1.slots t 11)
abbrev hs11 (t : Fin cfg1.N) : (ms11 t).IsWhole := hstage1_11 ((cfg1.slots t 11).cast nbuf1_11)
abbrev ms12 (t : Fin cfg1.N) : Memref sig .tc .vmem S1x4x256x128 .f32 := win1_12.stage (cfg1.slots t 12)
abbrev hs12 (t : Fin cfg1.N) : (ms12 t).IsWhole := hstage1_12 ((cfg1.slots t 12).cast nbuf1_12)
abbrev ms13 (t : Fin cfg1.N) : Memref sig .tc .vmem S128x512 .bf16 := win1_13.stage (cfg1.slots t 13)
abbrev hs13 (t : Fin cfg1.N) : (ms13 t).IsWhole := hstage1_13 ((cfg1.slots t 13).cast nbuf1_13)
abbrev ms14 (t : Fin cfg1.N) : Memref sig .tc .vmem S1x512 .f32 := win1_14.stage (cfg1.slots t 14)
abbrev hs14 (t : Fin cfg1.N) : (ms14 t).IsWhole := hstage1_14 ((cfg1.slots t 14).cast nbuf1_14)
abbrev ms15 (t : Fin cfg1.N) : Memref sig .tc .vmem S8x1024 .f32 := win1_15.stage (cfg1.slots t 15)
abbrev hs15 (t : Fin cfg1.N) : (ms15 t).IsWhole := hstage1_15 ((cfg1.slots t 15).cast nbuf1_15)
abbrev ms16 (t : Fin cfg1.N) : Memref sig .tc .vmem S1x1024 .f32 := win1_16.stage (cfg1.slots t 16)
abbrev hs16 (t : Fin cfg1.N) : (ms16 t).IsWhole := hstage1_16 ((cfg1.slots t 16).cast nbuf1_16)
abbrev ms17 (t : Fin cfg1.N) : Memref sig .tc .vmem S1x256 .f32 := win1_17.stage (cfg1.slots t 17)
abbrev hs17 (t : Fin cfg1.N) : (ms17 t).IsWhole := hstage1_17 ((cfg1.slots t 17).cast nbuf1_17)
abbrev ms18 (t : Fin cfg1.N) : Memref sig .tc .vmem S256x6144 .bf16 := win1_18.stage (cfg1.slots t 18)
abbrev hs18 (t : Fin cfg1.N) : (ms18 t).IsWhole := hstage1_18 ((cfg1.slots t 18).cast nbuf1_18)
abbrev ms19 (t : Fin cfg1.N) : Memref sig .tc .vmem S256x128 .bf16 := win1_19.stage (cfg1.slots t 19)
abbrev hs19 (t : Fin cfg1.N) : (ms19 t).IsWhole := hstage1_19 ((cfg1.slots t 19).cast nbuf1_19)
abbrev ms20 (t : Fin cfg1.N) : Memref sig .tc .vmem S8x1024 .f32 := win1_20.stage (cfg1.slots t 20)
abbrev hs20 (t : Fin cfg1.N) : (ms20 t).IsWhole := hstage1_20 ((cfg1.slots t 20).cast nbuf1_20)
abbrev ms21 (t : Fin cfg1.N) : Memref sig .tc .vmem S1x1024 .f32 := win1_21.stage (cfg1.slots t 21)
abbrev hs21 (t : Fin cfg1.N) : (ms21 t).IsWhole := hstage1_21 ((cfg1.slots t 21).cast nbuf1_21)
abbrev ms22 (t : Fin cfg1.N) : Memref sig .tc .vmem S1x256 .f32 := win1_22.stage (cfg1.slots t 22)
abbrev hs22 (t : Fin cfg1.N) : (ms22 t).IsWhole := hstage1_22 ((cfg1.slots t 22).cast nbuf1_22)
abbrev ms23 (t : Fin cfg1.N) : Memref sig .tc .vmem S1x512 .f32 := win1_23.stage (cfg1.slots t 23)
abbrev hs23 (t : Fin cfg1.N) : (ms23 t).IsWhole := hstage1_23 ((cfg1.slots t 23).cast nbuf1_23)
abbrev ms24 (t : Fin cfg1.N) : Memref sig .tc .vmem S128x512 .f32 := win1_24.stage (cfg1.slots t 24)
abbrev hs24 (t : Fin cfg1.N) : (ms24 t).IsWhole := hstage1_24 ((cfg1.slots t 24).cast nbuf1_24)
abbrev sc0 : Memref sig .tc .vmem S8x1024 .f32 := Memref.whole cc1_scratch0
abbrev sc1 : Memref sig .tc .vmem S4x256x128 .f32 := Memref.whole cc1_scratch1

/-- What the body leaves in the buffers it stores into. -/
structure Left (F : FTy → Type) where
  dz : Vec F S256x6144 .bf16
  dzal : Vec F S256x128 .bf16
  dcw : Vec F S8x1024 .f32
  dcg : Vec F S1x1024 .f32
  dgg : Vec F S1x256 .f32
  dbg : Vec F S1x512 .f32
  dwgu : Vec F S128x512 .f32
  dcarry : Vec F S8x1024 .f32
  gd : Vec F S4x256x128 .f32

/-- The backward body's run at the first point. -/
abbrev firstAt (c : Dev nD) (t : Fin cfg1.N) (h : t.val = 0) :=
  runFirst (F := F) c (grid1.coords t)
    (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    (ms9 t) (hs9 t) (ms10 t) (hs10 t) (ms11 t) (hs11 t) (ms12 t) (hs12 t) (ms13 t) (hs13 t) (ms14 t) (hs14 t) (ms15 t) (hs15 t) (ms16 t) (hs16 t)
    (ms17 t) (hs17 t) (ms18 t) (hs18 t) (ms19 t) (hs19 t) (ms20 t) (hs20 t) (ms21 t) (hs21 t) (ms22 t) (hs22 t) (ms23 t) (hs23 t) (ms24 t) (hs24 t)
    sc0 (Memref.isWhole_whole _) sc1 (Memref.isWhole_whole _)
    ((cond1_iff t).mpr h)
    (iblk V c 0 t) (iblk V c 1 t) (iblk V c 2 t) (iblk V c 3 t) (iblk V c 4 t) (iblk V c 5 t) (iblk V c 6 t) (iblk V c 7 t) (iblk V c 8 t)
    (iblk V c 9 t) (iblk V c 10 t) (iblk V c 11 t) (iblk V c 12 t) (iblk V c 13 t) (iblk V c 14 t) (iblk V c 15 t) (iblk V c 16 t) (iblk V c 17 t)

/-- The backward body's run at a later point, over what the point before left. -/
abbrev laterAt (c : Dev nD) (t : Fin cfg1.N) (h : t.val ≠ 0) (p : Left F) :=
  runLater (F := F) c (grid1.coords t)
    (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    (ms9 t) (hs9 t) (ms10 t) (hs10 t) (ms11 t) (hs11 t) (ms12 t) (hs12 t) (ms13 t) (hs13 t) (ms14 t) (hs14 t) (ms15 t) (hs15 t) (ms16 t) (hs16 t)
    (ms17 t) (hs17 t) (ms18 t) (hs18 t) (ms19 t) (hs19 t) (ms20 t) (hs20 t) (ms21 t) (hs21 t) (ms22 t) (hs22 t) (ms23 t) (hs23 t) (ms24 t) (hs24 t)
    sc0 (Memref.isWhole_whole _) sc1 (Memref.isWhole_whole _)
    (fun h' => h ((cond1_iff t).mp h'))
    (iblk V c 0 t) (iblk V c 1 t) (iblk V c 2 t) (iblk V c 3 t) (iblk V c 4 t) (iblk V c 5 t) (iblk V c 6 t) (iblk V c 7 t) (iblk V c 8 t)
    (iblk V c 9 t) (iblk V c 10 t) (iblk V c 11 t) (iblk V c 12 t) (iblk V c 13 t) (iblk V c 14 t) (iblk V c 15 t) (iblk V c 16 t) (iblk V c 17 t)
    p.dcw p.dcg p.dgg p.dbg p.dwgu p.dcarry p.gd

/-- What the first point leaves. -/
def leftFirst (c : Dev nD) (t : Fin cfg1.N) (h : t.val = 0) : Left F :=
  ⟨View.canon (firstAt V c t h).1, View.canon (firstAt V c t h).2.1, View.canon (firstAt V c t h).2.2.1, View.canon (firstAt V c t h).2.2.2.1, View.canon (firstAt V c t h).2.2.2.2.1, View.canon (firstAt V c t h).2.2.2.2.2.1, View.canon (firstAt V c t h).2.2.2.2.2.2.1, View.canon (firstAt V c t h).2.2.2.2.2.2.2.1, View.canon (firstAt V c t h).2.2.2.2.2.2.2.2.1⟩

/-- What a later point leaves. -/
def leftLater (c : Dev nD) (t : Fin cfg1.N) (h : t.val ≠ 0) (p : Left F) : Left F :=
  ⟨View.canon (laterAt V c t h p).1, View.canon (laterAt V c t h p).2.1, over p.dcw (laterAt V c t h p).2.2.1, over p.dcg (laterAt V c t h p).2.2.2.1, over p.dgg (laterAt V c t h p).2.2.2.2.1, over p.dbg (laterAt V c t h p).2.2.2.2.2.1, over p.dwgu (laterAt V c t h p).2.2.2.2.2.2.1, over p.dcarry (laterAt V c t h p).2.2.2.2.2.2.2.1, over p.gd (laterAt V c t h p).2.2.2.2.2.2.2.2.1⟩

/-- What the body leaves, point by point. -/
def left (c : Dev nD) : (n : ℕ) → n < cfg1.N → Left F
  | 0, hn => leftFirst V c ⟨0, hn⟩ rfl
  | n + 1, hn => leftLater V c ⟨n + 1, hn⟩ (Nat.succ_ne_zero n) (left c n (Nat.lt_of_succ_lt hn))

theorem left_first (c : Dev nD) (t : Fin cfg1.N) (h : t.val = 0) : left V c t.val t.isLt = leftFirst V c t h := by
  obtain ⟨n, hn⟩ := t
  cases n with
  | zero => rfl
  | succ n => exact absurd h (Nat.succ_ne_zero n)

theorem left_later (c : Dev nD) (t : Fin cfg1.N) (h : t.val ≠ 0) :
    left V c t.val t.isLt = leftLater V c t h (left V c (t.val - 1) (Nat.lt_of_le_of_lt (Nat.sub_le _ _) t.isLt)) := by
  obtain ⟨n, hn⟩ := t
  cases n with
  | zero => exact absurd rfl h
  | succ n => rfl

/-! The stores cover each buffer: at the first point all of them, at a later one those that are filled anew. -/

theorem coverFirst_dz (c : Dev nD) (t : Fin cfg1.N) (h : t.val = 0) (y : S256x6144.Idx) :
    ∃ pc ∈ (firstAt V c t h).1, y ∈ pc.1.set :=
  View.cover_of_tiledBy _ ![256, 128] (by sl_kernel_rfl) y
theorem coverFirst_dzal (c : Dev nD) (t : Fin cfg1.N) (h : t.val = 0) (y : S256x128.Idx) :
    ∃ pc ∈ (firstAt V c t h).2.1, y ∈ pc.1.set :=
  View.cover_of_tiledBy _ ![256, 128] (by sl_kernel_rfl) y
theorem coverFirst_dcw (c : Dev nD) (t : Fin cfg1.N) (h : t.val = 0) (y : S8x1024.Idx) :
    ∃ pc ∈ (firstAt V c t h).2.2.1, y ∈ pc.1.set :=
  View.cover_of_tiledBy _ ![1, 1024] (by sl_kernel_rfl) y
theorem coverFirst_dcg (c : Dev nD) (t : Fin cfg1.N) (h : t.val = 0) (y : S1x1024.Idx) :
    ∃ pc ∈ (firstAt V c t h).2.2.2.1, y ∈ pc.1.set :=
  View.cover_of_tiledBy _ ![1, 128] (by sl_kernel_rfl) y
theorem coverFirst_dgg (c : Dev nD) (t : Fin cfg1.N) (h : t.val = 0) (y : S1x256.Idx) :
    ∃ pc ∈ (firstAt V c t h).2.2.2.2.1, y ∈ pc.1.set :=
  View.cover_of_tiledBy _ ![1, 256] (by sl_kernel_rfl) y
theorem coverFirst_dbg (c : Dev nD) (t : Fin cfg1.N) (h : t.val = 0) (y : S1x512.Idx) :
    ∃ pc ∈ (firstAt V c t h).2.2.2.2.2.1, y ∈ pc.1.set :=
  View.cover_of_tiledBy _ ![1, 512] (by sl_kernel_rfl) y
theorem coverFirst_dwgu (c : Dev nD) (t : Fin cfg1.N) (h : t.val = 0) (y : S128x512.Idx) :
    ∃ pc ∈ (firstAt V c t h).2.2.2.2.2.2.1, y ∈ pc.1.set :=
  View.cover_of_tiledBy _ ![128, 512] (by sl_kernel_rfl) y
theorem coverFirst_dcarry (c : Dev nD) (t : Fin cfg1.N) (h : t.val = 0) (y : S8x1024.Idx) :
    ∃ pc ∈ (firstAt V c t h).2.2.2.2.2.2.2.1, y ∈ pc.1.set :=
  View.cover_of_tiledBy _ ![8, 1024] (by sl_kernel_rfl) y
theorem coverFirst_gd (c : Dev nD) (t : Fin cfg1.N) (h : t.val = 0) (y : S4x256x128.Idx) :
    ∃ pc ∈ (firstAt V c t h).2.2.2.2.2.2.2.2.1, y ∈ pc.1.set :=
  View.cover_of_tiledBy _ ![1, 256, 128] (by sl_kernel_rfl) y
theorem coverLater_dz (c : Dev nD) (t : Fin cfg1.N) (h : t.val ≠ 0) (p : Left F) (y : S256x6144.Idx) :
    ∃ pc ∈ (laterAt V c t h p).1, y ∈ pc.1.set :=
  View.cover_of_tiledBy _ ![256, 128] (by sl_kernel_rfl) y
theorem coverLater_dzal (c : Dev nD) (t : Fin cfg1.N) (h : t.val ≠ 0) (p : Left F) (y : S256x128.Idx) :
    ∃ pc ∈ (laterAt V c t h p).2.1, y ∈ pc.1.set :=
  View.cover_of_tiledBy _ ![256, 128] (by sl_kernel_rfl) y

/-- The invariant between points: before the first point the scratch buffers hold anything, afterwards what the point
    before left. -/
def PhiS (c : Dev nD) : (n : ℕ) → n ≤ cfg1.N → sProp 𝕄
  | 0, _ => Pipeline.ΦA spec1 c
  | n + 1, hn => iprop(iprop(iprop(owns (c : Thread nD τ) sc0 fullShare (left V c n hn).dcarry ∗ owns (c : Thread nD τ) sc1 fullShare (left V c n hn).gd)
      ∗ Pipeline.scopedRestBut (Ix := Unit) (Name := ℕ) (U := UR sig nD τ) (Lvl := ℕ) (Val := Elt F) spec1 c [cc1_scratch0, cc1_scratch1]) ∗ (∃ r, prngReg c r))

theorem PhiS_pos (c : Dev nD) (n : ℕ) (h : n ≤ cfg1.N) (hz : n ≠ 0) :
    PhiS V c n h = iprop(iprop(iprop(owns (c : Thread nD τ) sc0 fullShare (left V c (n - 1) (by omega)).dcarry
        ∗ owns (c : Thread nD τ) sc1 fullShare (left V c (n - 1) (by omega)).gd)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

theorem PhiA_eq (c : Dev nD) : (Pipeline.ΦA spec1 c : sProp 𝕄)
    = iprop(iprop(iprop((∃ d, owns (c : Thread nD τ) sc0 fullShare d) ∗ (∃ d, owns (c : Thread nD τ) sc1 fullShare d))
      ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA
  rw [scopedRest1_split]
  simp only [owns_whole]
  rfl

/-- The proof data of the backward pipeline: the arrays as the region finds them; after the body each input's buffer at its
    block and each output's at what the body leaves. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => iblk V c 17 t
    | ⟨18, _⟩ => (left V c t.val t.isLt).dz
    | ⟨19, _⟩ => (left V c t.val t.isLt).dzal
    | ⟨20, _⟩ => (left V c t.val t.isLt).dcw
    | ⟨21, _⟩ => (left V c t.val t.isLt).dcg
    | ⟨22, _⟩ => (left V c t.val t.isLt).dgg
    | ⟨23, _⟩ => (left V c t.val t.isLt).dbg
    | ⟨24, _⟩ => (left V c t.val t.isLt).dwgu
    | ⟨_ + 25, h⟩ => absurd h (Nat.not_lt.2 (Nat.le_add_left _ _))
  Φ t := PhiS V c t.val (Nat.le_of_lt_succ t.isLt)
  q := Pipeline.shareOf spec1
  owed _ := 0

theorem A_eq (c : Dev nD) (w : Fin cfg1.W) : (dat V c).A w = V c (Pipeline.arrRef spec1 w) := by
  dsimp only [dat]

theorem PhiS_castSucc (c : Dev nD) (t : Fin cfg1.N) : (dat V c).Φ t.castSucc = PhiS V c t.val (Nat.le_of_lt t.isLt) := by
  dsimp only [dat]; exact Pipeline.Dat.Φ_castSucc (PhiS V c) t

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = iblk V c 10 t := by dsimp only [dat]
theorem after_11 (c : Dev nD) (t : Fin cfg1.N) : (dat V c).after 11 t = iblk V c 11 t := by dsimp only [dat]
theorem after_12 (c : Dev nD) (t : Fin cfg1.N) : (dat V c).after 12 t = iblk V c 12 t := by dsimp only [dat]
theorem after_13 (c : Dev nD) (t : Fin cfg1.N) : (dat V c).after 13 t = iblk V c 13 t := by dsimp only [dat]
theorem after_14 (c : Dev nD) (t : Fin cfg1.N) : (dat V c).after 14 t = iblk V c 14 t := by dsimp only [dat]
theorem after_15 (c : Dev nD) (t : Fin cfg1.N) : (dat V c).after 15 t = iblk V c 15 t := by dsimp only [dat]
theorem after_16 (c : Dev nD) (t : Fin cfg1.N) : (dat V c).after 16 t = iblk V c 16 t := by dsimp only [dat]
theorem after_17 (c : Dev nD) (t : Fin cfg1.N) : (dat V c).after 17 t = iblk V c 17 t := by dsimp only [dat]
theorem after_18 (c : Dev nD) (t : Fin cfg1.N) : (dat V c).after 18 t = (left V c t.val t.isLt).dz := by dsimp only [dat]
theorem after_19 (c : Dev nD) (t : Fin cfg1.N) : (dat V c).after 19 t = (left V c t.val t.isLt).dzal := by dsimp only [dat]
theorem after_20 (c : Dev nD) (t : Fin cfg1.N) : (dat V c).after 20 t = (left V c t.val t.isLt).dcw := by dsimp only [dat]
theorem after_21 (c : Dev nD) (t : Fin cfg1.N) : (dat V c).after 21 t = (left V c t.val t.isLt).dcg := by dsimp only [dat]
theorem after_22 (c : Dev nD) (t : Fin cfg1.N) : (dat V c).after 22 t = (left V c t.val t.isLt).dgg := by dsimp only [dat]
theorem after_23 (c : Dev nD) (t : Fin cfg1.N) : (dat V c).after 23 t = (left V c t.val t.isLt).dbg := by dsimp only [dat]
theorem after_24 (c : Dev nD) (t : Fin cfg1.N) : (dat V c).after 24 t = (left V c t.val t.isLt).dwgu := by dsimp only [dat]

/-! Each input's buffer holds its block at every point. -/

theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl)
    (fun t => by rw [after_6]; unfold Dat.blockOf iblk; rw [A_eq]; try rfl) t d).trans (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl)
    (fun t => by rw [after_7]; unfold Dat.blockOf iblk; rw [A_eq]; try rfl) t d).trans (by unfold Dat.fetched Dat.blockOf iblk; rw [A_eq]; try rfl)
theorem before_8 (c : Dev nD) (t : Fin cfg1.N) (d) : (dat V c).before 8 t d = iblk V c 8 t :=
  ((dat V c).before_in_eq_fetched 8 rfl (fun _ => rfl) (fun _ _ _ => rfl)
    (fun t => by rw [after_8]; unfold Dat.blockOf iblk; rw [A_eq]; try rfl) t d).trans (by unfold Dat.fetched Dat.blockOf iblk; rw [A_eq]; try rfl)
theorem before_9 (c : Dev nD) (t : Fin cfg1.N) (d) : (dat V c).before 9 t d = iblk V c 9 t :=
  ((dat V c).before_in_eq_fetched 9 rfl (fun _ => rfl) (fun _ _ _ => rfl)
    (fun t => by rw [after_9]; unfold Dat.blockOf iblk; rw [A_eq]; try rfl) t d).trans (by unfold Dat.fetched Dat.blockOf iblk; rw [A_eq]; try rfl)
theorem before_10 (c : Dev nD) (t : Fin cfg1.N) (d) : (dat V c).before 10 t d = iblk V c 10 t :=
  ((dat V c).before_in_eq_fetched 10 rfl (fun _ => rfl) (fun _ _ _ => rfl)
    (fun t => by rw [after_10]; unfold Dat.blockOf iblk; rw [A_eq]; try rfl) t d).trans (by unfold Dat.fetched Dat.blockOf iblk; rw [A_eq]; try rfl)
theorem before_11 (c : Dev nD) (t : Fin cfg1.N) (d) : (dat V c).before 11 t d = iblk V c 11 t :=
  ((dat V c).before_in_eq_fetched 11 rfl (fun _ => rfl) (fun _ _ _ => rfl)
    (fun t => by rw [after_11]; unfold Dat.blockOf iblk; rw [A_eq]; try rfl) t d).trans (by unfold Dat.fetched Dat.blockOf iblk; rw [A_eq]; try rfl)
theorem before_12 (c : Dev nD) (t : Fin cfg1.N) (d) : (dat V c).before 12 t d = iblk V c 12 t :=
  ((dat V c).before_in_eq_fetched 12 rfl (fun _ => rfl) (fun _ _ _ => rfl)
    (fun t => by rw [after_12]; unfold Dat.blockOf iblk; rw [A_eq]; try rfl) t d).trans (by unfold Dat.fetched Dat.blockOf iblk; rw [A_eq]; try rfl)
theorem before_13 (c : Dev nD) (t : Fin cfg1.N) (d) : (dat V c).before 13 t d = iblk V c 13 t :=
  ((dat V c).before_in_eq_fetched 13 rfl (fun _ => rfl) (fun _ _ _ => rfl)
    (fun t => by rw [after_13]; unfold Dat.blockOf iblk; rw [A_eq]; try rfl) t d).trans (by unfold Dat.fetched Dat.blockOf iblk; rw [A_eq]; try rfl)
theorem before_14 (c : Dev nD) (t : Fin cfg1.N) (d) : (dat V c).before 14 t d = iblk V c 14 t :=
  ((dat V c).before_in_eq_fetched 14 rfl (fun _ => rfl) (fun _ _ _ => rfl)
    (fun t => by rw [after_14]; unfold Dat.blockOf iblk; rw [A_eq]; try rfl) t d).trans (by unfold Dat.fetched Dat.blockOf iblk; rw [A_eq]; try rfl)
theorem before_15 (c : Dev nD) (t : Fin cfg1.N) (d) : (dat V c).before 15 t d = iblk V c 15 t :=
  ((dat V c).before_in_eq_fetched 15 rfl (fun _ => rfl) (fun _ _ _ => rfl)
    (fun t => by rw [after_15]; unfold Dat.blockOf iblk; rw [A_eq]; try rfl) t d).trans (by unfold Dat.fetched Dat.blockOf iblk; rw [A_eq]; try rfl)
theorem before_16 (c : Dev nD) (t : Fin cfg1.N) (d) : (dat V c).before 16 t d = iblk V c 16 t :=
  ((dat V c).before_in_eq_fetched 16 rfl (fun _ => rfl) (fun _ _ _ => rfl)
    (fun t => by rw [after_16]; unfold Dat.blockOf iblk; rw [A_eq]; try rfl) t d).trans (by unfold Dat.fetched Dat.blockOf iblk; rw [A_eq]; try rfl)
theorem before_17 (c : Dev nD) (t : Fin cfg1.N) (d) : (dat V c).before 17 t d = iblk V c 17 t :=
  ((dat V c).before_in_eq_fetched 17 rfl (fun _ => rfl) (fun _ _ _ => rfl)
    (fun t => by rw [after_17]; unfold Dat.blockOf iblk; rw [A_eq]; try rfl) t d).trans (by unfold Dat.fetched Dat.blockOf iblk; rw [A_eq]; try rfl)

/-! An output that is accumulated holds, at a later point, what the point before left. -/

theorem before_20 (c : Dev nD) (t : Fin cfg1.N) (h : t.val ≠ 0) (d) :
    (dat V c).before 20 t d = (left V c (t.val - 1) (Nat.lt_of_le_of_lt (Nat.sub_le _ _) t.isLt)).dcw := by
  have hN : t.val < 32 := lt_of_lt_of_eq t.isLt (show cfg1.N = 32 from N_1)
  rw [Dat.before_out_kept _ 20 rfl t (by omega) (Bool.eq_false_iff.mpr fun h => by have := (flush1_20 _).mp h; dsimp only at this; omega)
    (fun _ => rfl) (fun _ _ => rfl)]
  dsimp only [dat]
theorem before_21 (c : Dev nD) (t : Fin cfg1.N) (h : t.val ≠ 0) (d) :
    (dat V c).before 21 t d = (left V c (t.val - 1) (Nat.lt_of_le_of_lt (Nat.sub_le _ _) t.isLt)).dcg := by
  have hN : t.val < 32 := lt_of_lt_of_eq t.isLt (show cfg1.N = 32 from N_1)
  rw [Dat.before_out_kept _ 21 rfl t (by omega) (Bool.eq_false_iff.mpr fun h => by have := (flush1_21 _).mp h; dsimp only at this; omega)
    (fun _ => rfl) (fun _ _ => rfl)]
  dsimp only [dat]
theorem before_22 (c : Dev nD) (t : Fin cfg1.N) (h : t.val ≠ 0) (d) :
    (dat V c).before 22 t d = (left V c (t.val - 1) (Nat.lt_of_le_of_lt (Nat.sub_le _ _) t.isLt)).dgg := by
  have hN : t.val < 32 := lt_of_lt_of_eq t.isLt (show cfg1.N = 32 from N_1)
  rw [Dat.before_out_kept _ 22 rfl t (by omega) (Bool.eq_false_iff.mpr fun h => by have := (flush1_22 _).mp h; dsimp only at this; omega)
    (fun _ => rfl) (fun _ _ => rfl)]
  dsimp only [dat]
theorem before_23 (c : Dev nD) (t : Fin cfg1.N) (h : t.val ≠ 0) (d) :
    (dat V c).before 23 t d = (left V c (t.val - 1) (Nat.lt_of_le_of_lt (Nat.sub_le _ _) t.isLt)).dbg := by
  have hN : t.val < 32 := lt_of_lt_of_eq t.isLt (show cfg1.N = 32 from N_1)
  rw [Dat.before_out_kept _ 23 rfl t (by omega) (Bool.eq_false_iff.mpr fun h => by have := (flush1_23 _).mp h; dsimp only at this; omega)
    (fun _ => rfl) (fun _ _ => rfl)]
  dsimp only [dat]
theorem before_24 (c : Dev nD) (t : Fin cfg1.N) (h : t.val ≠ 0) (d) :
    (dat V c).before 24 t d = (left V c (t.val - 1) (Nat.lt_of_le_of_lt (Nat.sub_le _ _) t.isLt)).dwgu := by
  have hN : t.val < 32 := lt_of_lt_of_eq t.isLt (show cfg1.N = 32 from N_1)
  rw [Dat.before_out_kept _ 24 rfl t (by omega) (Bool.eq_false_iff.mpr fun h => by have := (flush1_24 _).mp h; dsimp only at this; omega)
    (fun _ => rfl) (fun _ _ => rfl)]
  dsimp only [dat]

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d))
    ∗ (∃ d, owns (c : Thread nD τ) (ms11 t) fullShare ((dat V c).before 11 t d))
    ∗ (∃ d, owns (c : Thread nD τ) (ms12 t) fullShare ((dat V c).before 12 t d))
    ∗ (∃ d, owns (c : Thread nD τ) (ms13 t) fullShare ((dat V c).before 13 t d))
    ∗ (∃ d, owns (c : Thread nD τ) (ms14 t) fullShare ((dat V c).before 14 t d))
    ∗ (∃ d, owns (c : Thread nD τ) (ms15 t) fullShare ((dat V c).before 15 t d))
    ∗ (∃ d, owns (c : Thread nD τ) (ms16 t) fullShare ((dat V c).before 16 t d))
    ∗ (∃ d, owns (c : Thread nD τ) (ms17 t) fullShare ((dat V c).before 17 t d))
    ∗ (∃ d, owns (c : Thread nD τ) (ms18 t) fullShare ((dat V c).before 18 t d))
    ∗ (∃ d, owns (c : Thread nD τ) (ms19 t) fullShare ((dat V c).before 19 t d))
    ∗ (∃ d, owns (c : Thread nD τ) (ms20 t) fullShare ((dat V c).before 20 t d))
    ∗ (∃ d, owns (c : Thread nD τ) (ms21 t) fullShare ((dat V c).before 21 t d))
    ∗ (∃ d, owns (c : Thread nD τ) (ms22 t) fullShare ((dat V c).before 22 t d))
    ∗ (∃ d, owns (c : Thread nD τ) (ms23 t) fullShare ((dat V c).before 23 t d))
    ∗ (∃ d, owns (c : Thread nD τ) (ms24 t) fullShare ((dat V c).before 24 t d)))

/-- and what it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t)
    ∗ owns (c : Thread nD τ) (ms10 t) fullShare ((dat V c).after 10 t)
    ∗ owns (c : Thread nD τ) (ms11 t) fullShare ((dat V c).after 11 t)
    ∗ owns (c : Thread nD τ) (ms12 t) fullShare ((dat V c).after 12 t)
    ∗ owns (c : Thread nD τ) (ms13 t) fullShare ((dat V c).after 13 t)
    ∗ owns (c : Thread nD τ) (ms14 t) fullShare ((dat V c).after 14 t)
    ∗ owns (c : Thread nD τ) (ms15 t) fullShare ((dat V c).after 15 t)
    ∗ owns (c : Thread nD τ) (ms16 t) fullShare ((dat V c).after 16 t)
    ∗ owns (c : Thread nD τ) (ms17 t) fullShare ((dat V c).after 17 t)
    ∗ owns (c : Thread nD τ) (ms18 t) fullShare ((dat V c).after 18 t)
    ∗ owns (c : Thread nD τ) (ms19 t) fullShare ((dat V c).after 19 t)
    ∗ owns (c : Thread nD τ) (ms20 t) fullShare ((dat V c).after 20 t)
    ∗ owns (c : Thread nD τ) (ms21 t) fullShare ((dat V c).after 21 t)
    ∗ owns (c : Thread nD τ) (ms22 t) fullShare ((dat V c).after 22 t)
    ∗ owns (c : Thread nD τ) (ms23 t) fullShare ((dat V c).after 23 t)
    ∗ owns (c : Thread nD τ) (ms24 t) fullShare ((dat V c).after 24 t))

set_option maxHeartbeats 3200000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10, before_11, before_12, before_13, before_14, before_15, before_16, before_17, after_0, after_1, after_2, after_3, after_4, after_5, after_6, after_7, after_8, after_9, after_10, after_11, after_12, after_13, after_14, after_15, after_16, after_17, after_18, after_19, after_20, after_21, after_22, after_23, after_24]
  rw [show (dat V c).owesAt () t.succ = (dat V c).owesAt () t.castSucc from rfl]
  rw [show (dat V c).Φ t.succ = iprop(iprop(iprop(owns (c : Thread nD τ) sc0 fullShare (left V c t.val t.isLt).dcarry
        ∗ owns (c : Thread nD τ) sc1 fullShare (left V c t.val t.isLt).gd)
      ∗ Pipeline.scopedRestBut (Ix := Unit) (Name := ℕ) (U := UR sig nD τ) (Lvl := ℕ) (Val := Elt F) spec1 c [cc1_scratch0, cc1_scratch1]) ∗ (∃ r, prngReg c r)) from rfl]
  by_cases h : t.val = 0
  · rw [PhiS_castSucc V c t, show PhiS V c t.val (Nat.le_of_lt t.isLt) = Pipeline.ΦA spec1 c from by
      obtain ⟨n, hn⟩ := t; cases n with | zero => rfl | succ n => exact absurd h (Nat.succ_ne_zero n), PhiA_eq]
    rw [left_first V c t h]
    unfold leftFirst; dsimp only
    iintro ⟨⟨⟨⟨HS0, HS1⟩, Hb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply ((firstAt V c t h).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [HS0]; · iexact HS0
    isplitl [HS1]; · iexact HS1
    iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%es0, HS0⟩, ⟨%es1, HS1⟩⟩
    isplitl [HS0 HS1 Hb Hg]
    · isplitl [HS0 HS1 Hb]
      · isplitl [HS0 HS1]
        · isplitl [HS0]
          · unfold owns; iexists _; isplitr; swap; · iexact HS0
            ipureintro; exact View.read_writes_eq_canon _ _ _ (coverFirst_dcarry V c t h)
          unfold owns; iexists _; isplitr; swap; · iexact HS1
          ipureintro; exact View.read_writes_eq_canon _ _ _ (coverFirst_gd V c t h)
        iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr; swap; · iexact H18
      ipureintro; exact View.read_writes_eq_canon _ _ _ (coverFirst_dz V c t h)
    isplitl [H19]
    · unfold owns; iexists _; isplitr; swap; · iexact H19
      ipureintro; exact View.read_writes_eq_canon _ _ _ (coverFirst_dzal V c t h)
    isplitl [H20]
    · unfold owns; iexists _; isplitr; swap; · iexact H20
      ipureintro; exact View.read_writes_eq_canon _ _ _ (coverFirst_dcw V c t h)
    isplitl [H21]
    · unfold owns; iexists _; isplitr; swap; · iexact H21
      ipureintro; exact View.read_writes_eq_canon _ _ _ (coverFirst_dcg V c t h)
    isplitl [H22]
    · unfold owns; iexists _; isplitr; swap; · iexact H22
      ipureintro; exact View.read_writes_eq_canon _ _ _ (coverFirst_dgg V c t h)
    isplitl [H23]
    · unfold owns; iexists _; isplitr; swap; · iexact H23
      ipureintro; exact View.read_writes_eq_canon _ _ _ (coverFirst_dbg V c t h)
    unfold owns; iexists _; isplitr; swap; · iexact H24
    ipureintro; exact View.read_writes_eq_canon _ _ _ (coverFirst_dwgu V c t h)
  · rw [PhiS_castSucc V c t, PhiS_pos V c _ _ h]
    simp only [before_20 V c t h, before_21 V c t h, before_22 V c t h, before_23 V c t h, before_24 V c t h]
    rw [left_later V c t h]
    unfold leftLater; dsimp only
    iintro ⟨⟨⟨⟨HS0, HS1⟩, Hb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply ((laterAt V c t h (left V c (t.val - 1) (Nat.lt_of_le_of_lt (Nat.sub_le _ _) t.isLt))).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexact H20
    isplitl [H21]; · iexact H21
    isplitl [H22]; · iexact H22
    isplitl [H23]; · iexact H23
    isplitl [H24]; · iexact H24
    isplitl [HS0]; · iexact HS0
    isplitl [HS1]; · iexact HS1
    iintro ⟨H0, H1, H2, H3, H4, H5, H6, H7, H8, H9, H10, H11, H12, H13, H14, H15, H16, H17, ⟨%e18, H18⟩, ⟨%e19, H19⟩, H20, H21, H22, H23, H24, HS0, HS1⟩
    isplitl [HS0 HS1 Hb Hg]
    · isplitl [HS0 HS1 Hb]
      · isplitl [HS0 HS1]
        · isplitl [HS0]
          · iexact HS0
          iexact HS1
        iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr; swap; · iexact H18
      ipureintro; exact View.read_writes_eq_canon _ _ _ (coverLater_dz V c t h _)
    isplitl [H19]
    · unfold owns; iexists _; isplitr; swap; · iexact H19
      ipureintro; exact View.read_writes_eq_canon _ _ _ (coverLater_dzal V c t h _)
    isplitl [H20]; · iexact H20
    isplitl [H21]; · iexact H21
    isplitl [H22]; · iexact H22
    isplitl [H23]; · iexact H23
    iexact H24

/-- The body table's row at point `t` is the body there. -/
theorem defs₀_row (t : Fin cfg1.N) : defs₀ (F := F) .tc cfg1.body (cfg1.bodyArgs t (cfg1.slots t)) = bodyAt1 t := by
  unfold defs₀; rw [Defs.onTc_tc]

set_option maxHeartbeats 3200000 in
/-- The body obligation at every point. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

theorem hin (c : Dev nD) : Pipeline.ΦA spec1 c ⊢ (dat V c).Φ 0 := by
  rw [show (dat V c).Φ 0 = Pipeline.ΦA spec1 c from rfl]

/-- After the last point the scratch buffers' contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA_eq]
  iintro ⟨⟨⟨HS0, HS1⟩, Hb⟩, Hg⟩
  isplitl [HS0 HS1 Hb]
  · isplitl [HS0 HS1]
    · isplitl [HS0]; · iexists _; iexact HS0
      iexists _; iexact HS1
    iexact Hb
  iexact Hg

end Cert.MixerBwd
-- ==== Proof.MixRun.lean ====
module

public import proofs.«01_k».proof.Proof.MixFwdPoint
public import proofs.«01_k».proof.Proof.MixBwdPoint
public import proofs.«01_k».proof.Proof.Gen.MixerIdeal.Regions
public import Idealize.ShloMosaic.Lib.Pipeline.RegionsLoop
public import Idealize.ShloMosaic.Lib.Pipeline.FrameSuffix

@[expose] public section

set_option maxRecDepth 16384

noncomputable section

namespace Cert.MixerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerIdeal Cert.MixerIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the buffers hold as the forward region is entered. -/
abbrev U6 (c : Dev nD) (b : Ref sig .tc) : Buf (Elt F) ((c : Thread nD τ).loc b) := V6 m c b

/-- What the buffers hold as the forward region ends: its arrays what the pipeline leaves, every other as entered. -/
def W7 (c : Dev nD) : Valuation τ sig (Elt F) :=
  Pipeline.withArrays spec0 c (V6 m c) fun w => (MixerFwd.dat (U6 m) c).arrAt w cfg0.N

theorem W7_arr (c : Dev nD) (w : Fin cfg0.W) :
    W7 m c (Proc.devRef .tc (Pipeline.arrRef spec0 w)) = (MixerFwd.dat (U6 m) c).arrAt w cfg0.N := by
  unfold W7; exact (MixerFwd.dat (U6 m) c).withArrays_arrAt launch₀0.sharedIn _ (MixerFwd.A_eq (U6 m) c) w

theorem W7_of_ne (c : Dev nD) (b : Ref sig .tc) (hb : ∀ w, Pipeline.arrRef spec0 w ≠ b) :
    W7 m c (Proc.devRef .tc b) = V6 m c (Proc.devRef .tc b) := by
  unfold W7; exact Pipeline.withArrays_of_ne spec0 c _ _ b hb

/-- A buffer that is no output of the region keeps what it held. -/
theorem W7_of (c : Dev nD) (r : Ref sig .tc) (h : ∀ w : Fin cfg0.W, Pipeline.arrRef spec0 w = r → (cfg0.win w).isOut = false) :
    W7 m c (Proc.devRef .tc r) = V6 m c (Proc.devRef .tc r) := by
  by_cases hw : ∃ w : Fin cfg0.W, Pipeline.arrRef spec0 w = r
  · obtain ⟨w, rfl⟩ := hw
    exact (W7_arr m c w).trans (((MixerFwd.dat (U6 m) c).arrAt_in w (h w rfl) _).trans (MixerFwd.A_eq (U6 m) c w))
  · exact W7_of_ne m c r fun w e => hw ⟨w, e⟩

/-- What the buffers hold as the backward region is entered. -/
abbrev U7 (c : Dev nD) (b : Ref sig .tc) : Buf (Elt F) ((c : Thread nD τ).loc b) := W7 m c b

/-- What the buffers hold as the backward region ends: its arrays what the pipeline leaves, every other as entered. -/
def W8 (c : Dev nD) : Valuation τ sig (Elt F) :=
  Pipeline.withArrays spec1 c (W7 m c) fun w => (MixerBwd.dat (U7 m) c).arrAt w cfg1.N

theorem W8_arr (c : Dev nD) (w : Fin cfg1.W) :
    W8 m c (Proc.devRef .tc (Pipeline.arrRef spec1 w)) = (MixerBwd.dat (U7 m) c).arrAt w cfg1.N := by
  unfold W8; exact (MixerBwd.dat (U7 m) c).withArrays_arrAt launch₀1.sharedIn _ (MixerBwd.A_eq (U7 m) c) w

theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb

/-- A buffer that is no output of the region keeps what it held. -/
theorem W8_of (c : Dev nD) (r : Ref sig .tc) (h : ∀ w : Fin cfg1.W, Pipeline.arrRef spec1 w = r → (cfg1.win w).isOut = false) :
    W8 m c (Proc.devRef .tc r) = W7 m c (Proc.devRef .tc r) := by
  by_cases hw : ∃ w : Fin cfg1.W, Pipeline.arrRef spec1 w = r
  · obtain ⟨w, rfl⟩ := hw
    exact (W8_arr m c w).trans (((MixerBwd.dat (U7 m) c).arrAt_in w (h w rfl) _).trans (MixerBwd.A_eq (U7 m) c w))
  · exact W8_of_ne m c r fun w e => hw ⟨w, e⟩

/-- What the buffers hold as the backward region ends. -/
abbrev U8 (c : Dev nD) (b : Ref sig .tc) : Buf (Elt F) ((c : Thread nD τ).loc b) := W8 m c b

/-- The two pipelines' proof data. -/
def pdats (p : Fin 2) (c : Dev nD) : Dat τ (Elt F) Unit ℕ (UR sig nD τ) ℕ (cfgs p) c :=
  match p with
  | ⟨0, _⟩ => MixerFwd.dat (U6 m) c
  | ⟨1, _⟩ => MixerBwd.dat (U7 m) c

def L : GSem nD τ sig → Finset Unit := fun _ => ∅
def lv : GSem nD τ sig → Unit → ℕ := fun _ _ => 0

/-- What rides along: the generator register, and nothing owed. -/
abbrev R (c : Dev nD) : sProp 𝕄 := iprop((∃ r, prngReg c r) ∗ ∃ W, owes (c : Thread nD τ) (0 : CellTallies nD τ sig Unit) W)

set_option backward.isDefEq.respectTransparency.types false in
/-- The forward region as a segment: entered and left with every buffer held, the arrays split out and rejoined. -/
def reg0 : Pipeline.RegionSeg (pcfgs (F := F)) adm (pdats m) () defs₀ Variants.none L lv 0 where
  win := launch₀0.win
  block_pos := launch₀0.block_pos
  stage_whole := launch₀0.stage_whole
  K := PEmpty
  osem k := k.elim
  ho := Pipeline.OwnSemFacts.none _
  hbody c := (MixerFwd.body_obligation (U6 m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (U6 m c)
  hentry c := by
    rw [Pipeline.ownSems0_none]
    have hsplit := Pipeline.arrays_of_unscopedBufs_shared (p := 0) (pcfgs (F := F)) adm (pdats m) launch₀0.win launch₀0.sharedIn launch₀0.arr_whole c
      (fun _ _ => rfl) (U6 m c) (MixerFwd.A_eq (U6 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : iprop((∃ r, prngReg c r) ∗ Pipeline.prefHeld (pcfgs (F := F) 0).pre c (fun _ => fullShare) (adm 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact key.trans (MixerFwd.hin (U6 m) c)
  hout c := by
    rw [Pipeline.ownSems0_none]
    have key : (Pipeline.ΦA spec0 c : sProp 𝕄) ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    exact (MixerFwd.hout (U6 m) c).trans key
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m) (fun _ _ => rfl)
      (U6 m c) (U7 m c) ((pdats m 0 c).arrAt · cfg0.N) (fun w => (W7_arr m c w).symm)
      (fun b hb => W7_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward region as a segment: entered and left with every buffer held, the arrays split out and rejoined. -/
def reg1 : Pipeline.RegionSeg (pcfgs (F := F)) adm (pdats m) () defs₀ Variants.none L lv 1 where
  win := launch₀1.win
  block_pos := launch₀1.block_pos
  stage_whole := launch₀1.stage_whole
  K := PEmpty
  osem k := k.elim
  ho := Pipeline.OwnSemFacts.none _
  hbody c := (MixerBwd.body_obligation (U7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (U7 m c)
  hentry c := by
    rw [Pipeline.ownSems0_none]
    have hsplit := Pipeline.arrays_of_unscopedBufs_shared (p := 1) (pcfgs (F := F)) adm (pdats m) launch₀1.win launch₀1.sharedIn launch₀1.arr_whole c
      (fun _ _ => rfl) (U7 m c) (MixerBwd.A_eq (U7 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : iprop((∃ r, prngReg c r) ∗ Pipeline.prefHeld (pcfgs (F := F) 1).pre c (fun _ => fullShare) (adm 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact key.trans (MixerBwd.hin (U7 m) c)
  hout c := by
    rw [Pipeline.ownSems0_none]
    have key : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (MixerBwd.hout (U7 m) c).trans key
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m) (fun _ _ => rfl)
      (U7 m c) (U8 m c) ((pdats m 1 c).arrAt · cfg1.N) (fun w => (W8_arr m c w).symm)
      (fun b hb => W8_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem W8_main_arg0 (c : Dev nD) : W8 m c (Proc.devRef .tc main_arg0) = m ((c : Thread nD τ).loc main_arg0) :=
  (W8_of m c main_arg0 (by decide)).trans <| (W7_of m c main_arg0 (by decide)).trans <| (V6_of m c main_arg0 (by decide)).trans <| (V5_of m c main_arg0 (by decide)).trans <|
    (V4_of m c main_arg0 (by decide)).trans <| (V3_of m c main_arg0 (by decide)).trans <| (V2_of m c main_arg0 (by decide)).trans <| V1_of m c main_arg0 (by decide)
theorem W8_main_arg1 (c : Dev nD) : W8 m c (Proc.devRef .tc main_arg1) = m ((c : Thread nD τ).loc main_arg1) :=
  (W8_of m c main_arg1 (by decide)).trans <| (W7_of m c main_arg1 (by decide)).trans <| (V6_of m c main_arg1 (by decide)).trans <| (V5_of m c main_arg1 (by decide)).trans <|
    (V4_of m c main_arg1 (by decide)).trans <| (V3_of m c main_arg1 (by decide)).trans <| (V2_of m c main_arg1 (by decide)).trans <| V1_of m c main_arg1 (by decide)
theorem W8_main_arg2 (c : Dev nD) : W8 m c (Proc.devRef .tc main_arg2) = m ((c : Thread nD τ).loc main_arg2) :=
  (W8_of m c main_arg2 (by decide)).trans <| (W7_of m c main_arg2 (by decide)).trans <| (V6_of m c main_arg2 (by decide)).trans <| (V5_of m c main_arg2 (by decide)).trans <|
    (V4_of m c main_arg2 (by decide)).trans <| (V3_of m c main_arg2 (by decide)).trans <| (V2_of m c main_arg2 (by decide)).trans <| V1_of m c main_arg2 (by decide)
theorem W8_main_arg3 (c : Dev nD) : W8 m c (Proc.devRef .tc main_arg3) = m ((c : Thread nD τ).loc main_arg3) :=
  (W8_of m c main_arg3 (by decide)).trans <| (W7_of m c main_arg3 (by decide)).trans <| (V6_of m c main_arg3 (by decide)).trans <| (V5_of m c main_arg3 (by decide)).trans <|
    (V4_of m c main_arg3 (by decide)).trans <| (V3_of m c main_arg3 (by decide)).trans <| (V2_of m c main_arg3 (by decide)).trans <| V1_of m c main_arg3 (by decide)
theorem W8_main_arg4 (c : Dev nD) : W8 m c (Proc.devRef .tc main_arg4) = m ((c : Thread nD τ).loc main_arg4) :=
  (W8_of m c main_arg4 (by decide)).trans <| (W7_of m c main_arg4 (by decide)).trans <| (V6_of m c main_arg4 (by decide)).trans <| (V5_of m c main_arg4 (by decide)).trans <|
    (V4_of m c main_arg4 (by decide)).trans <| (V3_of m c main_arg4 (by decide)).trans <| (V2_of m c main_arg4 (by decide)).trans <| V1_of m c main_arg4 (by decide)
theorem W8_main_arg5 (c : Dev nD) : W8 m c (Proc.devRef .tc main_arg5) = m ((c : Thread nD τ).loc main_arg5) :=
  (W8_of m c main_arg5 (by decide)).trans <| (W7_of m c main_arg5 (by decide)).trans <| (V6_of m c main_arg5 (by decide)).trans <| (V5_of m c main_arg5 (by decide)).trans <|
    (V4_of m c main_arg5 (by decide)).trans <| (V3_of m c main_arg5 (by decide)).trans <| (V2_of m c main_arg5 (by decide)).trans <| V1_of m c main_arg5 (by decide)
theorem W8_main_arg6 (c : Dev nD) : W8 m c (Proc.devRef .tc main_arg6) = m ((c : Thread nD τ).loc main_arg6) :=
  (W8_of m c main_arg6 (by decide)).trans <| (W7_of m c main_arg6 (by decide)).trans <| (V6_of m c main_arg6 (by decide)).trans <| (V5_of m c main_arg6 (by decide)).trans <|
    (V4_of m c main_arg6 (by decide)).trans <| (V3_of m c main_arg6 (by decide)).trans <| (V2_of m c main_arg6 (by decide)).trans <| V1_of m c main_arg6 (by decide)

theorem mem_uc (b : Ref sig .tc) (h : ¬(Proc.devRef (τ := τ) .tc b).isScoped = true) : Proc.devRef .tc b ∈ Pipeline.ucRefs τ sig :=
  Finset.mem_filter.mpr ⟨StableHlo.devRef_mem_tcRefs b, h⟩

/-- @main's segments in order. -/
abbrev segs : List (Pipeline.Seg (pcfgs (F := F)) adm (pdats m) () defs₀ Variants.none L lv) :=
  [ .host (seg0 m Variants.none L lv fun _ => R), .host (seg1 m Variants.none L lv fun _ => R), .host (seg2 m Variants.none L lv fun _ => R),
    .host (seg3 m Variants.none L lv fun _ => R), .host (seg4 m Variants.none L lv fun _ => R), .host (seg5 m Variants.none L lv fun _ => R),
    .region (reg0 m), .region (reg1 m) ]

theorem main_run (c : Dev nD) : main (F := F) c = Pipeline.Seg.run (segs m) := (main_chain c).trans (by chain_rfl)

set_option backward.isDefEq.respectTransparency.types false in
/-- Every run ends with each unscoped buffer at what the two regions leave and every counter at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W8 m c b) ∧ r.2.sem = fun _ => 0) :=
  Pipeline.θ_run_regions_kit_sems (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c.tc : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h hz => ⟨h, funext fun g => hz g (.inr (regions_no_unscoped g.2))⟩)

/-- The frame: the arguments end as launched and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ ⟨h, hz⟩ => ⟨fun c =>
    ⟨(h c _ (mem_uc main_arg0 (by decide))).trans (W8_main_arg0 m c),
      (h c _ (mem_uc main_arg1 (by decide))).trans (W8_main_arg1 m c),
      (h c _ (mem_uc main_arg2 (by decide))).trans (W8_main_arg2 m c),
      (h c _ (mem_uc main_arg3 (by decide))).trans (W8_main_arg3 m c),
      (h c _ (mem_uc main_arg4 (by decide))).trans (W8_main_arg4 m c),
      (h c _ (mem_uc main_arg5 (by decide))).trans (W8_main_arg5 m c),
      (h c _ (mem_uc main_arg6 (by decide))).trans (W8_main_arg6 m c)⟩, hz⟩) (run m ρ)

/-- The values: each result ends at what its pipeline leaves in it, each argument as launched. -/
theorem values : θ_run defs (onTc (τ := τ) (main (F := F))) ⟨m, fun _ => 0, ρ⟩ (fun r => ∀ c : Dev nD,
      r.2.mem ((c.tc : Thread nD τ).loc main_v7_0) = (MixerFwd.dat (U6 m) c).arrAt 13 cfg0.N
      ∧ r.2.mem ((c.tc : Thread nD τ).loc main_v8_0) = (MixerBwd.dat (U7 m) c).arrAt 18 cfg1.N
      ∧ r.2.mem ((c.tc : Thread nD τ).loc main_v8_1) = (MixerBwd.dat (U7 m) c).arrAt 19 cfg1.N
      ∧ r.2.mem ((c.tc : Thread nD τ).loc main_v8_2) = (MixerBwd.dat (U7 m) c).arrAt 20 cfg1.N
      ∧ r.2.mem ((c.tc : Thread nD τ).loc main_v8_3) = (MixerBwd.dat (U7 m) c).arrAt 21 cfg1.N
      ∧ r.2.mem ((c.tc : Thread nD τ).loc main_v8_4) = (MixerBwd.dat (U7 m) c).arrAt 22 cfg1.N
      ∧ r.2.mem ((c.tc : Thread nD τ).loc main_v8_5) = (MixerBwd.dat (U7 m) c).arrAt 23 cfg1.N
      ∧ r.2.mem ((c.tc : Thread nD τ).loc main_v8_6) = (MixerBwd.dat (U7 m) c).arrAt 24 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ ⟨h, hz⟩ c =>
    ⟨(h c _ (mem_uc main_v7_0 (by decide))).trans ((W8_of m c main_v7_0 (by decide)).trans (W7_arr m c 13)),
      (h c _ (mem_uc main_v8_0 (by decide))).trans (W8_arr m c 18),
      (h c _ (mem_uc main_v8_1 (by decide))).trans (W8_arr m c 19),
      (h c _ (mem_uc main_v8_2 (by decide))).trans (W8_arr m c 20),
      (h c _ (mem_uc main_v8_3 (by decide))).trans (W8_arr m c 21),
      (h c _ (mem_uc main_v8_4 (by decide))).trans (W8_arr m c 22),
      (h c _ (mem_uc main_v8_5 (by decide))).trans (W8_arr m c 23),
      (h c _ (mem_uc main_v8_6 (by decide))).trans (W8_arr m c 24),
      (h c _ (mem_uc main_arg0 (by decide))).trans (W8_main_arg0 m c),
      (h c _ (mem_uc main_arg1 (by decide))).trans (W8_main_arg1 m c),
      (h c _ (mem_uc main_arg2 (by decide))).trans (W8_main_arg2 m c),
      (h c _ (mem_uc main_arg3 (by decide))).trans (W8_main_arg3 m c),
      (h c _ (mem_uc main_arg4 (by decide))).trans (W8_main_arg4 m c),
      (h c _ (mem_uc main_arg5 (by decide))).trans (W8_main_arg5 m c),
      (h c _ (mem_uc main_arg6 (by decide))).trans (W8_main_arg6 m c)⟩) (run m ρ)

end Cert.MixerRun
-- ==== Proof.MixSpec.lean ====
/- What the mixer's forward and backward pass compute, over the reals. Rows are the 8192 positions; the causal convolution
   has three taps, its output is gated and normed in eight groups of 128 columns; the gated linear attention has four
   heads and chunks of 64 rows. -/
module

public import proofs.«01_k».proof.Proof.NormRow

@[expose] public section

noncomputable section

namespace Cert.MixSpec

open Cert.Reals Cert.NormRow
open scoped BigOperators

/-- The mixer's arguments: the projected input, the gate's weight and bias, the taps, the two gains, the cotangent. -/
structure Args where
  z : Fin 8192 → Fin 6160 → ℝ
  wgu : Fin 16 → Fin 512 → ℝ
  bg : Fin 512 → ℝ
  cw : Fin 1024 → Fin 3 → ℝ
  cg : Fin 1024 → ℝ
  gg : Fin 256 → ℝ
  dy : Fin 8192 → Fin 2048 → ℝ

/-- Column `k` of group `g` of the convolution. -/
def col (g : Fin 8) (k : Fin 128) : Fin 1024 := ⟨128 * g.val + k.val, by omega⟩

/-- The group a column lies in, and its place there. -/
def grp (j : Fin 1024) : Fin 8 := ⟨j.val / 128, by omega⟩
def lane (j : Fin 1024) : Fin 128 := ⟨j.val % 128, by omega⟩

theorem col_grp (j : Fin 1024) : col (grp j) (lane j) = j := Fin.ext (by simp only [col, grp, lane]; omega)
theorem grp_col (g : Fin 8) (k : Fin 128) : grp (col g k) = g := Fin.ext (by simp only [col, grp]; omega)
theorem lane_col (g : Fin 8) (k : Fin 128) : lane (col g k) = k := Fin.ext (by simp only [col, lane]; omega)

namespace Args

variable (A : Args)

def cb (i : Fin 8192) (j : Fin 1024) : ℝ := A.z i ⟨j.val, by omega⟩
def cc (i : Fin 8192) (j : Fin 1024) : ℝ := A.z i ⟨1024 + j.val, by omega⟩
def ch (i : Fin 8192) (j : Fin 1024) : ℝ := A.z i ⟨2048 + j.val, by omega⟩
def dyc (i : Fin 8192) (j : Fin 1024) : ℝ := A.dy i ⟨j.val, by omega⟩

/-- The convolution's input, two rows of zeros before it. -/
def u (n : ℕ) (j : Fin 1024) : ℝ := if h : 2 ≤ n ∧ n < 8194 then A.cc ⟨n - 2, by omega⟩ j * A.ch ⟨n - 2, by omega⟩ j else 0

def conv (i : Fin 8192) (j : Fin 1024) : ℝ := A.u i.val j * A.cw j 0 + A.u (i.val + 1) j * A.cw j 1 + A.u (i.val + 2) j * A.cw j 2

def ypre (i : Fin 8192) (j : Fin 1024) : ℝ := A.cb i j * A.conv i j

/-- The columns of one group. -/
def seg (i : Fin 8192) (g : Fin 8) (k : Fin 128) : ℝ := A.ypre i (col g k)

/-- The normed convolution. -/
def yconv (i : Fin 8192) (g : Fin 8) (k : Fin 128) : ℝ := A.seg i g k * rs 128 (A.seg i g) * A.cg (col g k)

/-- The cotangent of the gated convolution. -/
def dypre (i : Fin 8192) (g : Fin 8) (k : Fin 128) : ℝ :=
  grad 128 (A.seg i g) (fun k => A.dyc i (col g k)) (fun k => A.cg (col g k)) k

def dconv (i : Fin 8192) (j : Fin 1024) : ℝ := A.dypre i (grp j) (lane j) * A.cb i j

/-- The cotangent of the convolution's output, zeros after its last row. -/
def dc (n : ℕ) (j : Fin 1024) : ℝ := if h : n < 8192 then A.dconv ⟨n, h⟩ j else 0

/-- The cotangent of the convolution's input. -/
def du (i : Fin 8192) (j : Fin 1024) : ℝ := A.dc i.val j * A.cw j 2 + A.dc (i.val + 1) j * A.cw j 1 + A.dc (i.val + 2) j * A.cw j 0

def dcb (i : Fin 8192) (j : Fin 1024) : ℝ := A.dypre i (grp j) (lane j) * A.conv i j
def dcc (i : Fin 8192) (j : Fin 1024) : ℝ := A.du i j * A.ch i j
def dch (i : Fin 8192) (j : Fin 1024) : ℝ := A.du i j * A.cc i j

/-- The gradient of tap `k`. -/
def dtap (k : Fin 3) (j : Fin 1024) : ℝ := ∑ i : Fin 8192, A.dconv i j * A.u (i.val + k.val) j

/-- The gradient of the convolution's gain. -/
def dgain (g : Fin 8) (k : Fin 128) : ℝ := ∑ i : Fin 8192, A.dyc i (col g k) * (A.seg i g k * rs 128 (A.seg i g))

end Args

end Cert.MixSpec

end
-- ==== Proof.MixTileConv.lean ====
/- The convolution's part of one tile of the backward pass: the values its body computes, on real blocks. -/
module

public import proofs.«01_k».proof.Proof.MixSpec
public import proofs.«01_k».proof.Proof.Gen.MixerIdeal.Skeleton

@[expose] public section

set_option maxRecDepth 16384

noncomputable section

namespace Cert.MixTile

open Idealize.ShloMosaic Idealize.SL.Sem Cert.Reals Cert.NormRow Cert.MixSpec
open Cert.MixerIdeal Cert.MixerIdeal.Gen

theorem lit_128 : Ideal.ofBits .f32 0x43000000#32 = ((128 : ℝ) : EReal) := by
  simp [Ideal.ofBits, Ideal.ieee, -EReal.coe_mul]; norm_num

/-- Row `r` of tile `T`. -/
def row (T : Fin 32) (r : Fin 256) : Fin 8192 := ⟨256 * T.val + r.val, by omega⟩

variable {A : Args} {T : Fin 32}

/-- The blocks that the convolution reads. -/
structure ConvIn (A : Args) (T : Fin 32) (i : grid1.Coords) (cb cc ch : Vec Ideal S256x1024 .f32) (ccp chp cw : Vec Ideal S8x1024 .f32) (cg : Vec Ideal S1x1024 .f32) : Prop where
  pt : (i 0).val = 31 - T.val
  cb : ∀ r j, cb (ix2 r j) = ((A.cb (row T r) j : ℝ) : EReal)
  cc : ∀ r j, cc (ix2 r j) = ((A.cc (row T r) j : ℝ) : EReal)
  ch : ∀ r j, ch (ix2 r j) = ((A.ch (row T r) j : ℝ) : EReal)
  prev : T ≠ 0 → ∀ (k : Fin 8) j, ccp (ix2 k j) * chp (ix2 k j) = ((A.u (256 * T.val + k.val - 6) j : ℝ) : EReal)
  cw0 : ∀ j, cw (ix2 0 j) = ((A.cw j 0 : ℝ) : EReal)
  cw1 : ∀ j, cw (ix2 1 j) = ((A.cw j 1 : ℝ) : EReal)
  cw2 : ∀ j, cw (ix2 2 j) = ((A.cw j 2 : ℝ) : EReal)
  cg : ∀ j, cg (ix2 0 j) = ((A.cg j : ℝ) : EReal)

section conv

variable {i : grid1.Coords} {cb cc ch : Vec Ideal S256x1024 .f32} {ccp chp cw : Vec Ideal S8x1024 .f32} {cg : Vec Ideal S1x1024 .f32}

theorem u_row (T : Fin 32) (r : Fin 256) (j : Fin 1024) : A.u (256 * T.val + r.val + 2) j = A.cc (row T r) j * A.ch (row T r) j := by
  unfold Args.u
  rw [dif_pos (by omega)]
  rfl

theorem first_tile (i : grid1.Coords) (h : (i 0).val = 31 - T.val) :
    Scalar.cmpi CmpIPredicate.eq (Scalar.subi (31#32) (BitVec.ofNat 32 (i 0).val)) 0#32 = if T = 0 then 1#1 else 0#1 := by
  rw [h]; clear h; revert T; decide +kernel

variable (H : ConvIn A T i cb cc ch ccp chp cw cg)
include H

/-- Row `n` of the tile with the eight rows before it. -/
theorem ext_at (n : Fin 264) (hn : 6 ≤ n.val) (j : Fin 1024) : k1_pay15 i cc ch ccp chp (ix2 n j) = ((A.u (256 * T.val + n.val - 6) j : ℝ) : EReal) := by
  pointwise [k1_pay15, k1_pay14, k1_pay11, k1_pay12]
  rw [first_tile i H.pt]
  by_cases h : n.val < 8
  · rw [dif_pos h]
    by_cases hT : T = 0
    · subst hT
      simp only [if_pos]
      have : A.u (256 * (0 : Fin 32).val + n.val - 6) j = 0 := by
        unfold Args.u; rw [dif_neg]; simp only [Fin.val_zero]; omega
      rw [this]; rfl
    · simp only [if_neg hT]
      exact H.prev hT ⟨n.val, h⟩ j
  · rw [dif_neg h, H.cc, H.ch, ← EReal.coe_mul, ← u_row]
    congr 2
    change 256 * T.val + (n.val - 8) + 2 = _
    omega

theorem uc_at (r : Fin 256) (j : Fin 1024) : k1_pay14 cc ch (ix2 r j) = ((A.u (256 * T.val + r.val + 2) j : ℝ) : EReal) := by
  pointwise [k1_pay14, k1_pay11, k1_pay12]
  rw [H.cc, H.ch, ← EReal.coe_mul, ← u_row]

theorem s1_at (r : Fin 256) (j : Fin 1024) : k1_pay16 i cc ch ccp chp (ix2 r j) = ((A.u (256 * T.val + r.val + 1) j : ℝ) : EReal) := by
  pointwise [k1_pay16]
  rw [ext_at H _ (by simp only; omega)]
  congr 2
  simp only; omega

theorem s2_at (r : Fin 256) (j : Fin 1024) : k1_pay17 i cc ch ccp chp (ix2 r j) = ((A.u (256 * T.val + r.val) j : ℝ) : EReal) := by
  pointwise [k1_pay17]
  rw [ext_at H _ (by simp only; omega)]
  congr 2
  simp only; omega

theorem conv_at (r : Fin 256) (j : Fin 1024) : k1_pay18 i cc ch cw ccp chp (ix2 r j) = ((A.conv (row T r) j : ℝ) : EReal) := by
  pointwise [k1_pay18, k1_pay13]
  rw [s1_at H, s2_at H, uc_at H]
  simp only [H.cw0, H.cw1, H.cw2, ← EReal.coe_mul, ← EReal.coe_add]
  rfl

theorem ypre_at (r : Fin 256) (j : Fin 1024) : k1_pay19 i cb cc ch cw ccp chp (ix2 r j) = ((A.ypre (row T r) j : ℝ) : EReal) := by
  pointwise [k1_pay19, k1_pay10]
  rw [conv_at H, H.cb, ← EReal.coe_mul]
  rfl
end conv

/-! ### The norm of the eight groups and its gradient -/

section groups

variable {y : FVec Ideal S256x1024 .f32} {cg : Vec Ideal S1x1024 .f32} {d : Fin 8 → Vec Ideal S256x128 .f32} {acc : Fin 8 → Vec Ideal S1x128 .f32}

theorem at0 (k : Fin 128) (h : k.val < 1024) : (⟨k.val, h⟩ : Fin 1024) = col 0 k := Fin.ext (by simp [col])
theorem at1 (k : Fin 128) (h : 128 + k.val < 1024) : (⟨128 + k.val, h⟩ : Fin 1024) = col 1 k := rfl
theorem at2 (k : Fin 128) (h : 256 + k.val < 1024) : (⟨256 + k.val, h⟩ : Fin 1024) = col 2 k := rfl
theorem at3 (k : Fin 128) (h : 384 + k.val < 1024) : (⟨384 + k.val, h⟩ : Fin 1024) = col 3 k := rfl
theorem at4 (k : Fin 128) (h : 512 + k.val < 1024) : (⟨512 + k.val, h⟩ : Fin 1024) = col 4 k := rfl
theorem at5 (k : Fin 128) (h : 640 + k.val < 1024) : (⟨640 + k.val, h⟩ : Fin 1024) = col 5 k := rfl
theorem at6 (k : Fin 128) (h : 768 + k.val < 1024) : (⟨768 + k.val, h⟩ : Fin 1024) = col 6 k := rfl
theorem at7 (k : Fin 128) (h : 896 + k.val < 1024) : (⟨896 + k.val, h⟩ : Fin 1024) = col 7 k := rfl

/-- The eight groups' gradients, as the body lays them out. -/
abbrev parts (y : FVec Ideal S256x1024 .f32) (cg : Vec Ideal S1x1024 .f32) (d : Fin 8 → Vec Ideal S256x128 .f32) : Fin 8 → FVec Ideal S256x128 .f32 :=
  ![k1_pay24 y cg (d 0), k1_pay30 cg (k1_pay25 y) (k1_pay26 y) (k1_pay27 y) (d 1), k1_pay35 cg (k1_pay32 y) (k1_pay33 y) (d 2),
    k1_pay41 (k1_pay37 y) (k1_pay40 y cg (d 3)), k1_pay46 y cg (d 4), k1_pay52 cg (k1_pay47 y) (k1_pay48 y) (k1_pay49 y) (d 5),
    k1_pay57 cg (k1_pay54 y) (k1_pay55 y) (d 6), mulf (broadcastTo S256x128 (k1_pay59 y) broadcasts_S256x1_S256x128) (k1_pay62 y cg (d 7))]

/-- What each group adds to the gain's gradient. -/
abbrev gains (y : FVec Ideal S256x1024 .f32) (d : Fin 8 → Vec Ideal S256x128 .f32) (acc : Fin 8 → Vec Ideal S1x128 .f32) : Fin 8 → FVec Ideal S1x128 .f32 :=
  ![k1_pay23 y (d 0) (acc 0), k1_pay29 (k1_pay25 y) (k1_pay27 y) (d 1) (acc 1), k1_pay34 y (d 2) (acc 2), k1_pay39 y (d 3) (acc 3),
    k1_pay45 y (d 4) (acc 4), k1_pay51 (k1_pay47 y) (k1_pay49 y) (d 5) (acc 5), k1_pay56 y (d 6) (acc 6), k1_pay61 y (d 7) (acc 7)]

theorem rs_at (X : Fin 128 → ℝ) : Ideal.rsqrt (Ideal.div (((∑ k, X k * X k : ℝ)) : EReal) ((128 : ℝ) : EReal) + (eps : EReal)) = ((rs 128 X : ℝ) : EReal) := by
  rw [← rs_ideal X (by norm_num)]
  simp only [← EReal.coe_mul, coe_sum]

theorem parts_at (hy : ∀ r j, y (ix2 r j) = ((A.ypre (row T r) j : ℝ) : EReal)) (hg : ∀ j, cg (ix2 0 j) = ((A.cg j : ℝ) : EReal))
    (hd : ∀ g r k, d g (ix2 r k) = ((A.dyc (row T r) (col g k) : ℝ) : EReal)) (g : Fin 8) (r : Fin 256) (k : Fin 128) :
    parts y cg d g (ix2 r k) = ((A.dypre (row T r) g k : ℝ) : EReal) := by
  fin_cases g <;> dsimp only [parts, Matrix.cons_val, Fin.reduceFinMk, Fin.zero_eta, Fin.mk_one] <;>
  · pointwise [k1_pay24, k1_pay22, k1_pay21, k1_pay20, k1_pay30, k1_pay28, k1_pay27, k1_pay26, k1_pay25, k1_pay35, k1_pay33, k1_pay32, k1_pay31, k1_pay41, k1_pay40,
      k1_pay38, k1_pay37, k1_pay36, k1_pay46, k1_pay44, k1_pay43, k1_pay42, k1_pay52, k1_pay50, k1_pay49, k1_pay48, k1_pay47, k1_pay57, k1_pay55, k1_pay54, k1_pay53,
      k1_pay59, k1_pay62, k1_pay60, k1_pay58]
    simp only [at0, at1, at2, at3, at4, at5, at6, at7, hy, hg, hd, lit_128, lit_eps]
    exact grad_ideal (A.seg (row T r) _) (fun k => A.dyc (row T r) (col _ k)) (fun k => A.cg (col _ k)) (by norm_num) k _ (rs_ideal (A.seg (row T r) _) (by norm_num))

theorem gains_at (hy : ∀ r j, y (ix2 r j) = ((A.ypre (row T r) j : ℝ) : EReal))
    (hd : ∀ g r k, d g (ix2 r k) = ((A.dyc (row T r) (col g k) : ℝ) : EReal)) (g : Fin 8) (k : Fin 128) :
    gains y d acc g (ix2 0 k) = acc g (ix2 0 k) + ((∑ r, A.dyc (row T r) (col g k) * (A.seg (row T r) g k * rs 128 (A.seg (row T r) g)) : ℝ) : EReal) := by
  fin_cases g <;> dsimp only [gains, Matrix.cons_val, Fin.reduceFinMk, Fin.zero_eta, Fin.mk_one] <;>
  · pointwise [k1_pay23, k1_pay22, k1_pay21, k1_pay20, k1_pay29, k1_pay28, k1_pay27, k1_pay26, k1_pay25, k1_pay34, k1_pay33, k1_pay32, k1_pay31, k1_pay39,
      k1_pay38, k1_pay37, k1_pay36, k1_pay45, k1_pay44, k1_pay43, k1_pay42, k1_pay51, k1_pay50, k1_pay49, k1_pay48, k1_pay47, k1_pay56, k1_pay55, k1_pay54, k1_pay53,
      k1_pay59, k1_pay61, k1_pay60, k1_pay58]
    simp only [at0, at1, at2, at3, at4, at5, at6, at7, hy, hd, lit_128, lit_eps, ← EReal.coe_mul, coe_sum, rs_at]
    rfl

/-- The groups side by side. -/
theorem side_by_side (f : Fin 8 → Fin 128 → EReal) (j : Fin 1024) :
    (if h0 : j.val < 128 then f 0 ⟨j.val, h0⟩
      else if h1 : j.val - 128 < 128 then f 1 ⟨j.val - 128, h1⟩
      else if h2 : j.val - 128 - 128 < 128 then f 2 ⟨j.val - 128 - 128, h2⟩
      else if h3 : j.val - 128 - 128 - 128 < 128 then f 3 ⟨j.val - 128 - 128 - 128, h3⟩
      else if h4 : j.val - 128 - 128 - 128 - 128 < 128 then f 4 ⟨j.val - 128 - 128 - 128 - 128, h4⟩
      else if h5 : j.val - 128 - 128 - 128 - 128 - 128 < 128 then f 5 ⟨j.val - 128 - 128 - 128 - 128 - 128, h5⟩
      else if h6 : j.val - 128 - 128 - 128 - 128 - 128 - 128 < 128 then f 6 ⟨j.val - 128 - 128 - 128 - 128 - 128 - 128, h6⟩
      else f 7 ⟨j.val - 128 - 128 - 128 - 128 - 128 - 128 - 128, by omega⟩) = f (grp j) (lane j) := by
  have key : ∀ (g : Fin 8) (k : Fin 128), g = grp j → k = lane j → f g k = f (grp j) (lane j) := fun g k h h' => by rw [h, h']
  split_ifs <;> refine key _ _ (Fin.ext ?_) (Fin.ext ?_) <;> simp only [grp, lane, Fin.isValue, Fin.val_zero, Fin.val_one, Fin.val_two, Fin.reduceFinMk] <;> omega

section dconv

variable {i : grid1.Coords} {cb cc ch : Vec Ideal S256x1024 .f32} {ccp chp cw : Vec Ideal S8x1024 .f32} {cg : Vec Ideal S1x1024 .f32}

/-- The gated convolution of the tile. -/
abbrev yT (i : grid1.Coords) (cb cc ch : Vec Ideal S256x1024 .f32) (ccp chp cw : Vec Ideal S8x1024 .f32) := k1_pay19 i cb cc ch cw ccp chp

/-- A value that the body computes from the eight groups' gradients (the last one as its two factors). -/
abbrev ofParts {β : Type} (f : FVec Ideal S256x128 .f32 → FVec Ideal S256x128 .f32 → FVec Ideal S256x128 .f32 → FVec Ideal S256x128 .f32 → FVec Ideal S256x128 .f32
      → FVec Ideal S256x128 .f32 → FVec Ideal S256x128 .f32 → FVec Ideal S256x1 .f32 → FVec Ideal S256x128 .f32 → β)
    (y : FVec Ideal S256x1024 .f32) (cg : Vec Ideal S1x1024 .f32) (d : Fin 8 → Vec Ideal S256x128 .f32) : β :=
  f (k1_pay24 y cg (d 0)) (k1_pay30 cg (k1_pay25 y) (k1_pay26 y) (k1_pay27 y) (d 1)) (k1_pay35 cg (k1_pay32 y) (k1_pay33 y) (d 2))
    (k1_pay41 (k1_pay37 y) (k1_pay40 y cg (d 3))) (k1_pay46 y cg (d 4)) (k1_pay52 cg (k1_pay47 y) (k1_pay48 y) (k1_pay49 y) (d 5))
    (k1_pay57 cg (k1_pay54 y) (k1_pay55 y) (d 6)) (k1_pay59 y) (k1_pay62 y cg (d 7))

variable (H : ConvIn A T i cb cc ch ccp chp cw cg)
variable {d : Fin 8 → Vec Ideal S256x128 .f32} (hd : ∀ g r k, d g (ix2 r k) = ((A.dyc (row T r) (col g k) : ℝ) : EReal))
include H hd

theorem dypre_at (r : Fin 256) (j : Fin 1024) :
    ofParts k1_pay63 (yT i cb cc ch ccp chp cw) cg d (ix2 r j) = ((A.dypre (row T r) (grp j) (lane j) : ℝ) : EReal) := by
  have h := parts_at (ypre_at H) H.cg hd
  rw [← h, ← side_by_side (fun g k => parts (yT i cb cc ch ccp chp cw) cg d g (ix2 r k)) j]
  simp only [parts, Matrix.cons_val]
  pointwise [k1_pay63]

theorem dconv_at (r : Fin 256) (j : Fin 1024) :
    ofParts (k1_pay64 (k1_pay10 cb)) (yT i cb cc ch ccp chp cw) cg d (ix2 r j) = ((A.dconv (row T r) j : ℝ) : EReal) := by
  change ofParts k1_pay63 (yT i cb cc ch ccp chp cw) cg d (ix2 r j) * k1_pay10 cb (ix2 r j) = _
  rw [dypre_at H hd]
  pointwise [k1_pay10]
  rw [H.cb, ← EReal.coe_mul]
  rfl

theorem dcb_at (r : Fin 256) (j : Fin 1024) :
    ofParts (k1_pay65 (k1_pay18 i cc ch cw ccp chp)) (yT i cb cc ch ccp chp cw) cg d (ix2 r j) = ((A.dcb (row T r) j : ℝ) : EReal) := by
  change ofParts k1_pay63 (yT i cb cc ch ccp chp cw) cg d (ix2 r j) * k1_pay18 i cc ch cw ccp chp (ix2 r j) = _
  rw [dypre_at H hd, conv_at H, ← EReal.coe_mul]
  rfl

/-- What the tile adds to the gradient of the tap with the input shifted twice, once, and not at all. -/
theorem tap0_at (acc : Vec Ideal S1x1024 .f32) (j : Fin 1024) :
    ofParts (k1_pay66 (k1_pay10 cb) (k1_pay17 i cc ch ccp chp)) (yT i cb cc ch ccp chp cw) cg d acc (ix2 0 j)
      = acc (ix2 0 j) + ((∑ r, A.dconv (row T r) j * A.u (256 * T.val + r.val) j : ℝ) : EReal) := by
  have h := dconv_at H hd
  unfold ofParts at h ⊢
  pointwise [k1_pay66]
  simp only [h, s2_at H, ← EReal.coe_mul, coe_sum]

theorem tap1_at (acc : Vec Ideal S1x1024 .f32) (j : Fin 1024) :
    ofParts (k1_pay67 (k1_pay10 cb) (k1_pay16 i cc ch ccp chp)) (yT i cb cc ch ccp chp cw) cg d acc (ix2 0 j)
      = acc (ix2 0 j) + ((∑ r, A.dconv (row T r) j * A.u (256 * T.val + r.val + 1) j : ℝ) : EReal) := by
  have h := dconv_at H hd
  unfold ofParts at h ⊢
  pointwise [k1_pay67]
  simp only [h, s1_at H, ← EReal.coe_mul, coe_sum]

theorem tap2_at (acc : Vec Ideal S1x1024 .f32) (j : Fin 1024) :
    ofParts (k1_pay68 (k1_pay10 cb) (k1_pay14 cc ch)) (yT i cb cc ch ccp chp cw) cg d acc (ix2 0 j)
      = acc (ix2 0 j) + ((∑ r, A.dconv (row T r) j * A.u (256 * T.val + r.val + 2) j : ℝ) : EReal) := by
  have h := dconv_at H hd
  unfold ofParts at h ⊢
  pointwise [k1_pay68]
  simp only [h, uc_at H, ← EReal.coe_mul, coe_sum]

/-- What the tile leaves for the one before it. -/
theorem carry_at (k : Fin 8) (j : Fin 1024) :
    k1_pay73 (ofParts (k1_pay72 (k1_pay10 cb)) (yT i cb cc ch ccp chp cw) cg d) (ix2 k j) = ((A.dc (256 * T.val + k.val) j : ℝ) : EReal) := by
  have h := dconv_at H hd
  unfold ofParts at h ⊢
  pointwise [k1_pay73, k1_pay72]
  simp only [h]
  unfold Args.dc
  rw [dif_pos (by omega)]
  rfl

variable {carry : Vec Ideal S8x1024 .f32} (hc : ∀ (k : Fin 8) j, carry (ix2 k j) = ((A.dc (256 * (T.val + 1) + k.val) j : ℝ) : EReal))
include hc

/-- The rows of the tile with the eight rows after it. -/
theorem below_at (n : Fin 264) (j : Fin 1024) :
    ofParts (k1_pay69 (k1_pay10 cb)) (yT i cb cc ch ccp chp cw) cg d carry (ix2 n j) = ((A.dc (256 * T.val + n.val) j : ℝ) : EReal) := by
  have h := dconv_at H hd
  unfold ofParts at h ⊢
  pointwise [k1_pay69]
  split_ifs with hn h0
  · rw [h]
    unfold Args.dc
    rw [dif_pos (by omega)]
    rfl
  · rw [hc]
    congr 2
    simp only
    omega
  · exact absurd rfl h0

theorem next1_at (r : Fin 256) (j : Fin 1024) :
    ofParts (k1_pay70 (k1_pay10 cb)) (yT i cb cc ch ccp chp cw) cg d carry (ix2 r j) = ((A.dc (256 * T.val + r.val + 1) j : ℝ) : EReal) := by
  have h := below_at H hd hc
  unfold ofParts at h ⊢
  pointwise [k1_pay70]
  rw [h]
  congr 2
  simp only
  omega

theorem next2_at (r : Fin 256) (j : Fin 1024) :
    ofParts (k1_pay71 (k1_pay10 cb)) (yT i cb cc ch ccp chp cw) cg d carry (ix2 r j) = ((A.dc (256 * T.val + r.val + 2) j : ℝ) : EReal) := by
  have h := below_at H hd hc
  unfold ofParts at h ⊢
  pointwise [k1_pay71]
  rw [h]
  congr 2
  simp only
  omega

theorem du_at (r : Fin 256) (j : Fin 1024) :
    k1_pay74 (k1_pay13 cw) (ofParts (k1_pay64 (k1_pay10 cb)) (yT i cb cc ch ccp chp cw) cg d) (ofParts (k1_pay70 (k1_pay10 cb)) (yT i cb cc ch ccp chp cw) cg d carry)
      (ofParts (k1_pay71 (k1_pay10 cb)) (yT i cb cc ch ccp chp cw) cg d carry) (ix2 r j) = ((A.du (row T r) j : ℝ) : EReal) := by
  have h := dconv_at H hd
  have h1 := next1_at H hd hc
  have h2 := next2_at H hd hc
  unfold ofParts at h h1 h2 ⊢
  pointwise [k1_pay74, k1_pay13]
  simp only [h, h1, h2, H.cw0, H.cw1, H.cw2, ← EReal.coe_mul, ← EReal.coe_add]
  congr 1
  unfold Args.du
  have : A.dc (row T r).val j = A.dconv (row T r) j := dif_pos (row T r).isLt
  rw [this]
  rfl

theorem dcc_at (r : Fin 256) (j : Fin 1024) :
    k1_pay75 (k1_pay12 ch) (k1_pay13 cw) (ofParts (k1_pay64 (k1_pay10 cb)) (yT i cb cc ch ccp chp cw) cg d)
      (ofParts (k1_pay70 (k1_pay10 cb)) (yT i cb cc ch ccp chp cw) cg d carry)
      (ofParts (k1_pay71 (k1_pay10 cb)) (yT i cb cc ch ccp chp cw) cg d carry) (ix2 r j) = ((A.dcc (row T r) j : ℝ) : EReal) := by
  change k1_pay74 _ _ _ _ (ix2 r j) * k1_pay12 ch (ix2 r j) = _
  rw [du_at H hd hc]
  pointwise [k1_pay12]
  rw [H.ch, ← EReal.coe_mul]
  rfl

theorem dch_at (r : Fin 256) (j : Fin 1024) :
    k1_pay76 (k1_pay11 cc) (k1_pay13 cw) (ofParts (k1_pay64 (k1_pay10 cb)) (yT i cb cc ch ccp chp cw) cg d)
      (ofParts (k1_pay70 (k1_pay10 cb)) (yT i cb cc ch ccp chp cw) cg d carry)
      (ofParts (k1_pay71 (k1_pay10 cb)) (yT i cb cc ch ccp chp cw) cg d carry) (ix2 r j) = ((A.dch (row T r) j : ℝ) : EReal) := by
  change k1_pay74 _ _ _ _ (ix2 r j) * k1_pay11 cc (ix2 r j) = _
  rw [du_at H hd hc]
  pointwise [k1_pay11]
  rw [H.cc, ← EReal.coe_mul]
  rfl

end dconv

end groups

end Cert.MixTile

end
-- ==== Proof.MixRefConv.lean ====
/- The reference's convolution, forward and backward, read as the real numbers of `MixSpec`. -/
module

public import proofs.«01_k».proof.Proof.MixTileConv
public import proofs.«01_k».proof.Proof.Gen.MixerRefIdeal.Read

@[expose] public section

set_option maxRecDepth 16384

noncomputable section

namespace Cert.MixRef

open Idealize.ShloMosaic Cert.MixTile Cert.Reals Cert.NormRow Cert.MixSpec Cert.MixerRefIdeal Cert.MixerRefIdeal.Read
open scoped BigOperators

/-- The reference's arguments hold the reals of `A`. -/
structure In (A : Args) (x0 : FVec Ideal S8192x6160 .f32) (x1 : FVec Ideal S16x512 .f32) (x2 : FVec Ideal S1x512 .f32) (x3 : FVec Ideal S1024x3 .f32)
    (x4 : FVec Ideal S1x1024 .f32) (x5 : FVec Ideal S1x256 .f32) (x6 : FVec Ideal S8192x2048 .f32) : Prop where
  z : ∀ i j, x0 (ix2 i j) = ((A.z i j : ℝ) : EReal)
  wgu : ∀ i j, x1 (ix2 i j) = ((A.wgu i j : ℝ) : EReal)
  bg : ∀ j, x2 (ix2 0 j) = ((A.bg j : ℝ) : EReal)
  cw : ∀ i j, x3 (ix2 i j) = ((A.cw i j : ℝ) : EReal)
  cg : ∀ j, x4 (ix2 0 j) = ((A.cg j : ℝ) : EReal)
  gg : ∀ j, x5 (ix2 0 j) = ((A.gg j : ℝ) : EReal)
  dy : ∀ i j, x6 (ix2 i j) = ((A.dy i j : ℝ) : EReal)

variable {A : Args} {x0 : FVec Ideal S8192x6160 .f32} {x1 : FVec Ideal S16x512 .f32} {x2 : FVec Ideal S1x512 .f32} {x3 : FVec Ideal S1024x3 .f32}
  {x4 : FVec Ideal S1x1024 .f32} {x5 : FVec Ideal S1x256 .f32} {x6 : FVec Ideal S8192x2048 .f32}
variable (H : In A x0 x1 x2 x3 x4 x5 x6)
include H

theorem cb_at (i : Fin 8192) (j : Fin 1024) : val_main_v0 (F := Ideal) x0 (ix2 i j) = ((A.cb i j : ℝ) : EReal) := by
  pointwise [val_main_v0]
  exact H.z _ _
theorem cc_at (i : Fin 8192) (j : Fin 1024) : val_main_v1 (F := Ideal) x0 (ix2 i j) = ((A.cc i j : ℝ) : EReal) := by
  pointwise [val_main_v1]
  exact H.z _ _
theorem ch_at (i : Fin 8192) (j : Fin 1024) : val_main_v2 (F := Ideal) x0 (ix2 i j) = ((A.ch i j : ℝ) : EReal) := by
  pointwise [val_main_v2]
  exact H.z _ _
theorem dyc_at (i : Fin 8192) (j : Fin 1024) : val_main_v119 (F := Ideal) x6 (ix2 i j) = ((A.dyc i j : ℝ) : EReal) := by
  pointwise [val_main_v119]
  exact H.dy _ _

theorem u_at (n : Fin 8194) (j : Fin 1024) : val_main_v10 (F := Ideal) x0 (ix2 n j) = ((A.u n.val j : ℝ) : EReal) := by
  have hn := n.isLt
  pointwise [val_main_v10, val_main_v8, val_main_v9, val_main_cst]
  simp only [cc_at H, ch_at H, ← EReal.coe_mul]
  unfold Args.u
  by_cases h : n.val < 2
  · rw [dif_pos h, dif_neg (by omega), EReal.coe_zero]
  · rw [dif_neg h, dif_pos ⟨by omega, hn⟩]

theorem conv_at (i : Fin 8192) (j : Fin 1024) : val_main_v33 (F := Ideal) x0 x3 (ix2 i j) = ((A.conv i j : ℝ) : EReal) := by
  pointwise [val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16, val_main_v15,
    val_main_v14, val_main_v13, val_main_v12, val_main_cst_1]
  simp only [u_at H, H.cw, ← EReal.coe_mul, ← EReal.coe_add, add_comm 1 i.val, add_comm 2 i.val]
  rfl

theorem seg_at (i : Fin 8192) (g : Fin 8) (k : Fin 128) : val_main_v35 (F := Ideal) x0 x3 (ix3 i g k) = ((A.seg i g k : ℝ) : EReal) := by
  pointwise [val_main_v35, val_main_v34]
  simp only [cb_at H, conv_at H, ← EReal.coe_mul, mul_comm g.val 128]
  rfl

theorem ms_at (i : Fin 8192) (g : Fin 8) (o : Fin 1) : val_main_v42 (F := Ideal) x0 x3 (ix3 i g o) = ((ms 128 (A.seg i g) : ℝ) : EReal) := by
  pointwise [val_main_v42, val_main_v41, val_main_v40, val_main_v39, val_main_v38, val_main_v37, val_main_v36, val_main_cst_2, val_main_cst_3,
    val_main_cst_4]
  simp only [seg_at H, lit_128, lit_eps]
  exact ms_ideal _ (by norm_num)

theorem rs_at (i : Fin 8192) (g : Fin 8) (o : Fin 1) : val_main_v43 (F := Ideal) x0 x3 (ix3 i g o) = ((rs 128 (A.seg i g) : ℝ) : EReal) := by
  pointwise [val_main_v43]
  rw [ms_at H, rsqrt_pos (ms_pos _ (by norm_num)), rs]

theorem yn_at (i : Fin 8192) (g : Fin 8) (k : Fin 128) :
    val_main_v49 (F := Ideal) x0 x3 (ix2 i (col g k)) = ((A.seg i g k * rs 128 (A.seg i g) : ℝ) : EReal) := by
  rw [show col g k = ⟨g.val * 128 + k.val, by have := (col g k).isLt; simp only [col] at this; omega⟩ from Fin.ext (by simp only [col]; omega)]
  pointwise [val_main_v49, val_main_v48, val_main_v47]
  rw [seg_at H, rs_at H, ← EReal.coe_mul]

theorem yconv_at (i : Fin 8192) (g : Fin 8) (k : Fin 128) : val_main_v53 (F := Ideal) x0 x3 x4 (ix2 i (col g k)) = ((A.yconv i g k : ℝ) : EReal) := by
  pointwise [val_main_v53, val_main_v52, val_main_v51, val_main_v50]
  rw [yn_at H, H.cg, ← EReal.coe_mul]
  rfl

theorem dgain_at (g : Fin 8) (k : Fin 128) : val_main_v206 (F := Ideal) x0 x3 x6 (ix2 0 (col g k)) = ((A.dgain g k : ℝ) : EReal) := by
  pointwise [val_main_v206, val_main_v205, val_main_v202, val_main_v201, val_main_v200, val_main_cst_28, val_main_cst_29]
  rw [Fin.sum_univ_one]
  simp only [yn_at H, dyc_at H, ← EReal.coe_mul, coe_sum]
  exact congrArg _ (Finset.sum_congr rfl fun _ _ => mul_comm _ _)

theorem g_at (i : Fin 8192) (g : Fin 8) (k : Fin 128) :
    val_main_v207 (F := Ideal) x4 x6 (ix3 i g k) = ((A.dyc i (col g k) * A.cg (col g k) : ℝ) : EReal) := by
  pointwise [val_main_v207, val_main_v204, val_main_v203, val_main_v51, val_main_v50]
  simp only [dyc_at H, H.cg, mul_comm g.val 128, ← EReal.coe_mul]
  rfl

theorem slope_at (i : Fin 8192) (g : Fin 8) (k : Fin 128) : val_main_v217 (F := Ideal) x0 x3 x4 x6 (ix3 i g k) =
    (((∑ k, A.seg i g k * (A.dyc i (col g k) * A.cg (col g k))) * (-(1 / 2) * (rs 128 (A.seg i g) / ms 128 (A.seg i g))) / 128 : ℝ) : EReal) := by
  pointwise [val_main_v217, val_main_v216, val_main_v215, val_main_v214, val_main_v213, val_main_v210, val_main_v209, val_main_v208, val_main_v46,
    val_main_v45, val_main_v44, val_main_cst_5, val_main_cst_30, val_main_cst_31, val_main_cst_32]
  simp only [seg_at H, g_at H, ms_at H, rs_at H, lit_128, lit_neg_half, ← EReal.coe_mul, coe_sum]
  refine (Fin.sum_univ_one (M := EReal) _).trans ?_
  rw [div_real _ (ms_pos (A.seg i g) (by norm_num : (0:ℝ) < 128)).ne', ← EReal.coe_mul, ← EReal.coe_mul, div_real _ (by norm_num : (128:ℝ) ≠ 0)]

theorem dypre_at (i : Fin 8192) (g : Fin 8) (k : Fin 128) : val_main_v221 (F := Ideal) x0 x3 x4 x6 (ix3 i g k) = ((A.dypre i g k : ℝ) : EReal) := by
  pointwise [val_main_v221, val_main_v220, val_main_v219, val_main_v218, val_main_v212, val_main_v211]
  simp only [seg_at H, g_at H, rs_at H, slope_at H, ← EReal.coe_mul, ← EReal.coe_add]
  exact congrArg _ (grad_eq (A.seg i g) (fun k => A.dyc i (col g k)) (fun k => A.cg (col g k)) (by norm_num : (0 : ℝ) < 128) k)

theorem dyp_at (i : Fin 8192) (j : Fin 1024) : val_main_v222 (F := Ideal) x0 x3 x4 x6 (ix2 i j) = ((A.dypre i (grp j) (lane j) : ℝ) : EReal) := by
  pointwise [val_main_v222]
  exact dypre_at H _ _ _

theorem dconv_at (i : Fin 8192) (j : Fin 1024) : val_main_v223 (F := Ideal) x0 x3 x4 x6 (ix2 i j) = ((A.dconv i j : ℝ) : EReal) := by
  pointwise [val_main_v223]
  rw [cb_at H, dyp_at H, ← EReal.coe_mul, mul_comm]
  rfl

theorem dcb_at (i : Fin 8192) (j : Fin 1024) : val_main_v224 (F := Ideal) x0 x3 x4 x6 (ix2 i j) = ((A.dcb i j : ℝ) : EReal) := by
  pointwise [val_main_v224]
  rw [conv_at H, dyp_at H, ← EReal.coe_mul]
  rfl

theorem du_at (i : Fin 8192) (j : Fin 1024) : val_main_v257 (F := Ideal) x0 x3 x4 x6 (ix2 i j) = ((A.du i j : ℝ) : EReal) := by
  pointwise [val_main_v257, val_main_v255, val_main_v244, val_main_v254, val_main_v243, val_main_v233, val_main_v229, val_main_v238, val_main_v249,
    val_main_v228, val_main_v237, val_main_v248, val_main_v30, val_main_v29, val_main_v28, val_main_v23, val_main_v22, val_main_v21, val_main_v15,
    val_main_v14, val_main_v13, val_main_cst_36, val_main_cst_40, val_main_cst_44]
  simp only [dconv_at H, H.cw, ← EReal.coe_mul]
  unfold Args.du Args.dc
  have hi := i.isLt
  rw [dif_pos hi, EReal.coe_add, EReal.coe_add]
  refine congrArg₂ (HAdd.hAdd (α := EReal) (β := EReal)) (congrArg₂ (HAdd.hAdd (α := EReal) (β := EReal)) rfl ?_) ?_
  · by_cases h : i.val + 1 < 8192
    · rw [dif_pos h, dif_pos (by omega)]
      exact congrArg (fun n => ((A.dconv n j * A.cw j 1 : ℝ) : EReal)) (Fin.ext (by simp only; omega))
    · rw [dif_neg h, dif_neg (by omega), zero_mul, EReal.coe_zero]
  · by_cases h : i.val + 2 < 8192
    · rw [dif_pos h, dif_pos (by omega)]
      exact congrArg (fun n => ((A.dconv n j * A.cw j 0 : ℝ) : EReal)) (Fin.ext (by simp only; omega))
    · rw [dif_neg h, dif_neg (by omega), zero_mul, EReal.coe_zero]

theorem dcc_at (i : Fin 8192) (j : Fin 1024) : val_main_v259 (F := Ideal) x0 x3 x4 x6 (ix2 i j) = ((A.dcc i j : ℝ) : EReal) := by
  pointwise [val_main_v259]
  rw [du_at H, ch_at H, ← EReal.coe_mul]
  rfl

theorem dch_at (i : Fin 8192) (j : Fin 1024) : val_main_v258 (F := Ideal) x0 x3 x4 x6 (ix2 i j) = ((A.dch i j : ℝ) : EReal) := by
  pointwise [val_main_v258]
  rw [du_at H, cc_at H, ← EReal.coe_mul, mul_comm]
  rfl

theorem dtap_at (j : Fin 1024) (k : Fin 3) : val_main_v253 (F := Ideal) x0 x3 x4 x6 (ix2 j k) = ((A.dtap k j : ℝ) : EReal) := by
  pointwise [val_main_v253, val_main_v252, val_main_v242, val_main_v241, val_main_v232, val_main_v231, val_main_v230, val_main_v227, val_main_v226,
    val_main_v225, val_main_v240, val_main_v239, val_main_v236, val_main_v235, val_main_v234, val_main_v251, val_main_v250, val_main_v247,
    val_main_v246, val_main_v245, val_main_v27, val_main_v20, val_main_v12, val_main_cst_33, val_main_cst_34, val_main_cst_35, val_main_cst_37, val_main_cst_38, val_main_cst_39, val_main_cst_41, val_main_cst_42, val_main_cst_43]
  have f : ∀ o : ℕ, o ≤ 2 → ∀ e : ∀ x : Fin 8192, o + x.val < 8194, (∑ _x : Fin 1, ∑ x : Fin 8192,
      val_main_v10 (F := Ideal) x0 (ix2 ⟨o + x.val, e x⟩ j) * val_main_v223 (F := Ideal) x0 x3 x4 x6 (ix2 x j))
        = ((∑ x : Fin 8192, A.dconv x j * A.u (x.val + o) j : ℝ) : EReal) := fun o ho e => by
    rw [Fin.sum_univ_one]
    simp only [u_at H, dconv_at H, ← EReal.coe_mul, coe_sum, add_comm o]
    exact congrArg _ (Finset.sum_congr rfl fun _ _ => mul_comm _ _)
  have f0 := f 0 (by omega) (fun x => by have := x.isLt; omega)
  simp only [Nat.zero_add] at f0
  have f1 := f 1 (by omega) (fun x => by have := x.isLt; omega)
  have f2 := f 2 (by omega) (fun x => by have := x.isLt; omega)
  rw [f0, f1, f2]
  unfold Args.dtap
  match k with
  | 0 => simp
  | 1 => simp
  | 2 => simp

theorem dtap_pad (k : Fin 8) (j : Fin 1024) :
    val_main_v282 (F := Ideal) x0 x3 x4 x6 (ix2 k j) = (((if h : k.val < 3 then A.dtap ⟨k.val, h⟩ j else 0) : ℝ) : EReal) := by
  pointwise [val_main_v282, val_main_v281, val_main_call11_v0, val_main_c_53]
  simp only [dtap_at H]
  split_ifs with h
  · rfl
  · show (((0#32 : BitVec 32).toInt : ℝ) : EReal) = ((0 : ℝ) : EReal)
    simp

omit H in
theorem y_conv (i : Fin 8192) (j : Fin 1024) : val_main_v275 (F := Ideal) x0 x1 x2 x3 x4 x5 (ix2 i ⟨j.val, by omega⟩) = val_main_v53 (F := Ideal) x0 x3 x4 (ix2 i j) := by
  pointwise [val_main_v275, val_main_v118]

/-! The columns of the projected input's gradient, each part read from where it was computed. -/

omit H in
theorem dz_cb (i : Fin 8192) (j : Fin 1024) : val_main_v277 (F := Ideal) x0 x1 x2 x3 x4 x5 x6 (ix2 i ⟨j.val, by have := j.isLt; omega⟩) =
    val_main_v224 (F := Ideal) x0 x3 x4 x6 (ix2 i j) := by
  have hj := j.isLt
  pointwise [val_main_v277, val_main_v276, val_main_v274, val_main_v273, val_main_v272, val_main_v271, val_main_v270, val_main_v269, val_main_v268, val_main_v267, val_main_v266, val_main_v265, val_main_v264, val_main_v263, val_main_v262, val_main_v261, val_main_v260, val_main_cst_45, val_main_cst_46, val_main_cst_47, val_main_cst_48, val_main_cst_49, val_main_cst_50, val_main_cst_51, val_main_cst_52]
  split_ifs <;> first | (exfalso; omega) | (rename_i h; exact h.1.elim) | simp only [zero_add, add_zero]

omit H in
theorem dz_cc (i : Fin 8192) (j : Fin 1024) : val_main_v277 (F := Ideal) x0 x1 x2 x3 x4 x5 x6 (ix2 i ⟨1024 + j.val, by have := j.isLt; omega⟩) =
    val_main_v259 (F := Ideal) x0 x3 x4 x6 (ix2 i j) := by
  have hj := j.isLt
  pointwise [val_main_v277, val_main_v276, val_main_v274, val_main_v273, val_main_v272, val_main_v271, val_main_v270, val_main_v269, val_main_v268, val_main_v267, val_main_v266, val_main_v265, val_main_v264, val_main_v263, val_main_v262, val_main_v261, val_main_v260, val_main_cst_45, val_main_cst_46, val_main_cst_47, val_main_cst_48, val_main_cst_49, val_main_cst_50, val_main_cst_51, val_main_cst_52]
  split_ifs <;> first | (exfalso; omega) | simp only [zero_add, add_zero]

omit H in
theorem dz_ch (i : Fin 8192) (j : Fin 1024) : val_main_v277 (F := Ideal) x0 x1 x2 x3 x4 x5 x6 (ix2 i ⟨2048 + j.val, by have := j.isLt; omega⟩) =
    val_main_v258 (F := Ideal) x0 x3 x4 x6 (ix2 i j) := by
  have hj := j.isLt
  pointwise [val_main_v277, val_main_v276, val_main_v274, val_main_v273, val_main_v272, val_main_v271, val_main_v270, val_main_v269, val_main_v268, val_main_v267, val_main_v266, val_main_v265, val_main_v264, val_main_v263, val_main_v262, val_main_v261, val_main_v260, val_main_cst_45, val_main_cst_46, val_main_cst_47, val_main_cst_48, val_main_cst_49, val_main_cst_50, val_main_cst_51, val_main_cst_52]
  split_ifs <;> first | (exfalso; omega) | simp only [zero_add, add_zero]

omit H in
theorem dz_q (i : Fin 8192) (j : Fin 512) : val_main_v277 (F := Ideal) x0 x1 x2 x3 x4 x5 x6 (ix2 i ⟨3072 + j.val, by have := j.isLt; omega⟩) =
    val_main_v189 (F := Ideal) x0 x1 x2 x5 x6 (ix2 i j) := by
  have hj := j.isLt
  pointwise [val_main_v277, val_main_v276, val_main_v274, val_main_v273, val_main_v272, val_main_v271, val_main_v270, val_main_v269, val_main_v268, val_main_v267, val_main_v266, val_main_v265, val_main_v264, val_main_v263, val_main_v262, val_main_v261, val_main_v260, val_main_cst_45, val_main_cst_46, val_main_cst_47, val_main_cst_48, val_main_cst_49, val_main_cst_50, val_main_cst_51, val_main_cst_52]
  split_ifs <;> first | (exfalso; omega) | simp only [zero_add, add_zero]

omit H in
theorem dz_k (i : Fin 8192) (j : Fin 512) : val_main_v277 (F := Ideal) x0 x1 x2 x3 x4 x5 x6 (ix2 i ⟨3584 + j.val, by have := j.isLt; omega⟩) =
    val_main_v186 (F := Ideal) x0 x1 x2 x5 x6 (ix2 i j) := by
  have hj := j.isLt
  pointwise [val_main_v277, val_main_v276, val_main_v274, val_main_v273, val_main_v272, val_main_v271, val_main_v270, val_main_v269, val_main_v268, val_main_v267, val_main_v266, val_main_v265, val_main_v264, val_main_v263, val_main_v262, val_main_v261, val_main_v260, val_main_cst_45, val_main_cst_46, val_main_cst_47, val_main_cst_48, val_main_cst_49, val_main_cst_50, val_main_cst_51, val_main_cst_52]
  split_ifs <;> first | (exfalso; omega) | simp only [zero_add, add_zero]

omit H in
theorem dz_v (i : Fin 8192) (j : Fin 1024) : val_main_v277 (F := Ideal) x0 x1 x2 x3 x4 x5 x6 (ix2 i ⟨4096 + j.val, by have := j.isLt; omega⟩) =
    val_main_v185 (F := Ideal) x0 x1 x2 x5 x6 (ix2 i j) := by
  have hj := j.isLt
  pointwise [val_main_v277, val_main_v276, val_main_v274, val_main_v273, val_main_v272, val_main_v271, val_main_v270, val_main_v269, val_main_v268, val_main_v267, val_main_v266, val_main_v265, val_main_v264, val_main_v263, val_main_v262, val_main_v261, val_main_v260, val_main_cst_45, val_main_cst_46, val_main_cst_47, val_main_cst_48, val_main_cst_49, val_main_cst_50, val_main_cst_51, val_main_cst_52]
  split_ifs <;> first | (exfalso; omega) | simp only [zero_add, add_zero]

omit H in
theorem dz_og (i : Fin 8192) (j : Fin 1024) : val_main_v277 (F := Ideal) x0 x1 x2 x3 x4 x5 x6 (ix2 i ⟨5120 + j.val, by have := j.isLt; omega⟩) =
    val_main_v125 (F := Ideal) x0 x1 x2 x5 x6 (ix2 i j) := by
  have hj := j.isLt
  pointwise [val_main_v277, val_main_v276, val_main_v274, val_main_v273, val_main_v272, val_main_v271, val_main_v270, val_main_v269, val_main_v268, val_main_v267, val_main_v266, val_main_v265, val_main_v264, val_main_v263, val_main_v262, val_main_v261, val_main_v260, val_main_cst_45, val_main_cst_46, val_main_cst_47, val_main_cst_48, val_main_cst_49, val_main_cst_50, val_main_cst_51, val_main_cst_52]
  split_ifs <;> first | (exfalso; omega) | simp only [zero_add, add_zero]

end Cert.MixRef

end
-- ==== Proof.MixLoads.lean ====
module

public import proofs.«01_k».proof.Proof.MixTileConv
public import proofs.«01_k».proof.Proof.MixRun
public import Idealize.ShloMosaic.Lib.Pipeline.ValueKit

@[expose] public section

set_option maxRecDepth 16384

noncomputable section

/-! What one run of the backward body computes, as a function of what it loads.  The same at the first point of the grid
(where the accumulators, the carried rows and the carried gradient are zeros) and at the later ones. -/

namespace Cert.MixLoads

open Idealize.ShloMosaic Idealize.SL.Sem Cert.MixTile
open Cert.MixerIdeal Cert.MixerIdeal.Gen Cert.MixerBwd

/-- What one run of the backward body loads: the operands, the saved states by chunk and head, what is carried, and the accumulators. -/
structure Loads where
  i : grid1.Coords
  cb : Vec Ideal S256x1024 .f32
  cc : Vec Ideal S256x1024 .f32
  ch : Vec Ideal S256x1024 .f32
  ccp : Vec Ideal S8x1024 .f32
  chp : Vec Ideal S8x1024 .f32
  cw : Vec Ideal S8x1024 .f32
  cg : Vec Ideal S1x1024 .f32
  dyc : Fin 8 → Vec Ideal S256x128 .f32
  q : Vec Ideal S256x512 .f32
  k : Vec Ideal S256x512 .f32
  v : Vec Ideal S256x1024 .f32
  og : Fin 4 → Vec Ideal S256x256 .f32
  al : Vec Ideal S256x128 .f32
  wgu : Vec Ideal S128x512 .bf16
  bg : Vec Ideal S1x512 .f32
  gg : Vec Ideal S1x256 .f32
  dyg : Fin 4 → Vec Ideal S256x256 .f32
  sall : Fin 4 → Fin 4 → Vec Ideal S1x1x256x128 .f32
  sprev : Fin 4 → Vec Ideal S1x1x256x128 .f32
  carry : Vec Ideal S8x1024 .f32
  gd : Fin 4 → Vec Ideal S1x256x128 .f32
  acw : Fin 3 → Vec Ideal S1x1024 .f32
  acg : Fin 8 → Vec Ideal S1x128 .f32
  agg : Vec Ideal S1x256 .f32
  abg : Vec Ideal S1x512 .f32
  awgu : Vec Ideal S128x512 .f32

namespace Loads

variable (x : Loads)

abbrev y := yT x.i x.cb x.cc x.ch x.ccp x.chp x.cw
abbrev qs := k1_pay90 (F := Ideal) (k1_pay88 x.q) k1_pay89
abbrev vb := k1_pay91 (F := Ideal) x.v
abbrev exp_e := k1_pay84 (F := Ideal) k1_pay78 x.al x.wgu x.bg
abbrev dec := k1_pay85 (F := Ideal) k1_pay78 x.al x.wgu x.bg
abbrev kdec := k1_pay87 (F := Ideal) k1_pay78 x.al x.wgu x.bg x.k

/-! The saved states: chunk, head. -/

abbrev s00 := k1_pay92 (F := Ideal) (x.sall 0 0)
abbrev s01 := k1_pay93 (F := Ideal) (x.sall 0 1)
abbrev s02 := k1_pay94 (F := Ideal) (x.sall 0 2)
abbrev s03 := k1_pay95 (F := Ideal) (x.sall 0 3)
abbrev s10 := k1_pay96 (F := Ideal) (x.sall 1 0)
abbrev s11 := k1_pay97 (F := Ideal) (x.sall 1 1)
abbrev s12 := k1_pay98 (F := Ideal) (x.sall 1 2)
abbrev s13 := k1_pay99 (F := Ideal) (x.sall 1 3)
abbrev s20 := k1_pay100 (F := Ideal) (x.sall 2 0)
abbrev s21 := k1_pay101 (F := Ideal) (x.sall 2 1)
abbrev s22 := k1_pay102 (F := Ideal) (x.sall 2 2)
abbrev s23 := k1_pay103 (F := Ideal) (x.sall 2 3)
abbrev s30 := k1_pay104 (F := Ideal) (x.sall 3 0)
abbrev s31 := k1_pay105 (F := Ideal) (x.sall 3 1)
abbrev s32 := k1_pay106 (F := Ideal) (x.sall 3 2)
abbrev s33 := k1_pay107 (F := Ideal) (x.sall 3 3)

/-! The gradients of the output before its norm, by head. -/

abbrev do0 := k1_pay116 (F := Ideal) x.gg (k1_pay109 x.qs x.s00 x.s10 x.s20 x.s30) (k1_pay110 x.qs x.s00 x.s10 x.s20 x.s30) (k1_pay113 (x.og 0)) (x.dyg 0)
abbrev do1 := k1_pay126 (F := Ideal) x.gg (k1_pay118 x.qs x.s01 x.s11 x.s21 x.s31) (k1_pay119 x.qs x.s01 x.s11 x.s21 x.s31) (k1_pay122 (x.og 1)) (x.dyg 1)
abbrev do2 := k1_pay135 (F := Ideal) x.gg (k1_pay128 x.qs x.s02 x.s12 x.s22 x.s32) (k1_pay129 x.qs x.s02 x.s12 x.s22 x.s32) (x.og 2) (x.dyg 2)
abbrev do3 := k1_pay145 (F := Ideal) x.gg (k1_pay136 x.qs x.s03 x.s13 x.s23 x.s33) (k1_pay137 x.qs x.s03 x.s13 x.s23 x.s33) (x.og 3) (x.dyg 3)

/-! The gradients of the states, chunk by chunk from the last: what a chunk adds, what comes carried from the chunk after it. -/

abbrev own33 := k1_pay168 (F := Ideal) x.qs x.do3
abbrev gl3 := k1_pay169 (F := Ideal) (x.gd 3)
abbrev g30 := k1_pay170 (F := Ideal) x.qs x.do0 (x.gd 0)
abbrev g31 := k1_pay171 (F := Ideal) x.qs x.do1 (x.gd 1)
abbrev g32 := k1_pay172 (F := Ideal) x.qs x.do2 (x.gd 2)
abbrev g33 := k1_pay173 (F := Ideal) x.own33 x.gl3
abbrev own20 := k1_pay164 (F := Ideal) x.qs x.do0
abbrev own21 := k1_pay165 (F := Ideal) x.qs x.do1
abbrev own22 := k1_pay166 (F := Ideal) x.qs x.do2
abbrev own23 := k1_pay167 (F := Ideal) x.qs x.do3
abbrev own10 := k1_pay158 (F := Ideal) x.qs x.do0
abbrev own11 := k1_pay159 (F := Ideal) x.qs x.do1
abbrev own12 := k1_pay162 (F := Ideal) (k1_pay160 x.do2) (k1_pay161 x.qs) (constant S256x128 FTy.f32 0#32)
abbrev own13 := k1_pay163 (F := Ideal) x.qs x.do3
abbrev own00 := k1_pay154 (F := Ideal) x.qs x.do0
abbrev own01 := k1_pay155 (F := Ideal) x.qs x.do1
abbrev own02 := k1_pay156 (F := Ideal) x.qs x.do2
abbrev own03 := k1_pay157 (F := Ideal) x.qs x.do3
abbrev c30 := k1_pay178 (F := Ideal) x.dec x.g30
abbrev c31 := k1_pay179 (F := Ideal) x.dec x.g31
abbrev c32 := k1_pay180 (F := Ideal) x.dec x.g32
abbrev c33 := k1_pay181 (F := Ideal) x.dec x.own33 x.gl3
abbrev g20 := k1_pay187 (F := Ideal) x.own20 x.c30
abbrev g21 := k1_pay188 (F := Ideal) x.own21 x.c31
abbrev g22 := k1_pay189 (F := Ideal) x.own22 x.c32
abbrev g23 := k1_pay190 (F := Ideal) x.own23 x.c33
abbrev c20 := k1_pay195 (F := Ideal) x.dec x.own20 x.c30
abbrev c21 := k1_pay196 (F := Ideal) x.dec x.own21 x.c31
abbrev c22 := k1_pay197 (F := Ideal) x.dec x.own22 x.c32
abbrev c23 := k1_pay198 (F := Ideal) x.dec x.own23 x.c33
abbrev g10 := k1_pay208 (F := Ideal) x.own10 x.c20
abbrev g11 := k1_pay209 (F := Ideal) x.own11 x.c21
abbrev g12 := k1_pay210 (F := Ideal) x.own12 x.c22
abbrev g13 := k1_pay211 (F := Ideal) x.own13 x.c23
abbrev c10 := k1_pay216 (F := Ideal) x.dec x.own10 x.c20
abbrev c11 := k1_pay217 (F := Ideal) x.dec x.own11 x.c21
abbrev c12 := k1_pay218 (F := Ideal) x.dec x.own12 x.c22
abbrev c13 := k1_pay219 (F := Ideal) x.dec x.own13 x.c23
abbrev g00 := k1_pay229 (F := Ideal) x.own00 x.c10
abbrev g01 := k1_pay230 (F := Ideal) x.own01 x.c11
abbrev g02 := k1_pay231 (F := Ideal) x.own02 x.c12
abbrev g03 := k1_pay232 (F := Ideal) x.own03 x.c13
abbrev c00 := k1_pay237 (F := Ideal) x.dec x.own00 x.c10
abbrev c01 := k1_pay238 (F := Ideal) x.dec x.own01 x.c11
abbrev c02 := k1_pay239 (F := Ideal) x.dec x.own02 x.c12
abbrev c03 := k1_pay240 (F := Ideal) x.dec x.own03 x.c13

/-! The same gradients as the products take them. -/

abbrev b30 := k1_pay183 (F := Ideal) x.g30
abbrev b31 := k1_pay184 (F := Ideal) x.g31
abbrev b32 := k1_pay185 (F := Ideal) x.g32
abbrev b33 := k1_pay186 (F := Ideal) x.g33
abbrev b20 := k1_pay204 (F := Ideal) x.g20
abbrev b21 := k1_pay205 (F := Ideal) x.g21
abbrev b22 := k1_pay206 (F := Ideal) x.g22
abbrev b23 := k1_pay207 (F := Ideal) x.g23
abbrev b10 := k1_pay225 (F := Ideal) x.g10
abbrev b11 := k1_pay226 (F := Ideal) x.g11
abbrev b12 := k1_pay227 (F := Ideal) x.g12
abbrev b13 := k1_pay228 (F := Ideal) x.g13
abbrev b00 := k1_pay246 (F := Ideal) x.g00
abbrev b01 := k1_pay247 (F := Ideal) x.g01
abbrev b02 := k1_pay248 (F := Ideal) x.g02
abbrev b03 := k1_pay249 (F := Ideal) x.g03

/-! The parts of the gradient of the decayed keys, head by head, and of the decays, chunk by chunk. -/

abbrev dk0 := k1_pay255 (F := Ideal) x.vb x.b30 x.b20 x.b10 x.b00
abbrev dk1 := k1_pay259 (F := Ideal) x.vb x.b31 x.b21 (k1_pay257 x.vb x.b01) (k1_pay258 x.vb x.b11)
abbrev dk2 := k1_pay261 (F := Ideal) x.vb x.b32 x.b22 x.b12 x.b02
abbrev dk3 := k1_pay263 (F := Ideal) x.vb x.b03
abbrev dk4 := k1_pay264 (F := Ideal) x.vb
abbrev dd3 := k1_pay182 (F := Ideal) x.dec x.own33 x.gl3 x.g30 x.g31 x.g32 (x.sall 2 0) (x.sall 2 1) (x.sall 2 2) (x.sall 2 3)
abbrev dd2 := k1_pay203 (F := Ideal) (k1_pay194 x.dec) (k1_pay199 x.dec x.own20 x.c30 (x.sall 1 0)) (k1_pay200 x.dec x.own21 x.c31 (x.sall 1 1))
  (k1_pay201 x.dec x.own22 x.c32 (x.sall 1 2)) (k1_pay202 x.own23 x.c33 (x.sall 1 3))
abbrev dd1 := k1_pay224 (F := Ideal) x.g12 x.g13 (k1_pay213 x.dec) (k1_pay214 x.dec) (k1_pay215 x.dec) (k1_pay220 (x.sall 0 2)) (k1_pay221 (x.sall 0 3))
  (k1_pay222 x.dec x.own10 x.c20 (x.sall 0 0)) (k1_pay223 x.own11 x.c21 (x.sall 0 1))
/-- Whether the run is at the first tile of rows. -/
abbrev isFirst := Scalar.cmpi .eq (Scalar.subi 31#32 (BitVec.ofNat 32 (x.i 0).val)) 0#32
abbrev dd0 := k1_pay245 (F := Ideal) x.isFirst x.g00 x.g01 x.g02 x.g03 (k1_pay233 x.dec) (k1_pay234 x.dec) (k1_pay235 x.dec) (k1_pay236 x.dec)
  (k1_pay241 x.isFirst (x.sprev 0)) (k1_pay242 x.isFirst (x.sprev 1)) (k1_pay243 (x.sprev 2)) k1_pay244 (x.sprev 3)

/-- A value that the body computes from the gradients of the decayed keys and of the decays. -/
abbrev ofDecay {β : Type} (f : FVec Ideal S256x256 .bf16 → FVec Ideal S256x512 .f32 → FVec Ideal S256x512 .f32 → FVec Ideal S256x1024 .bf16 → FVec Ideal S64x512 .f32
    → FVec Ideal S256x128 .bf16 → FVec Ideal S64x512 .f32 → FVec Ideal S256x128 .bf16 → FVec Ideal S64x512 .f32 → FVec Ideal S256x128 .bf16 → FVec Ideal S64x512 .f32
    → FVec Ideal S256x128 .f32 → FVec Ideal S256x128 .f32 → FVec Ideal S256x128 .f32 → FVec Ideal S64x128 .f32 → FVec Ideal S64x256 .bf16 → β) : β :=
  f (k1_pay80 k1_pay79) (k1_pay82 x.al x.wgu x.bg) (k1_pay86 k1_pay78 x.al x.wgu x.bg x.k) x.vb x.dd3 x.b33 x.dd2 x.b23 x.dd1 x.b13 x.dd0 x.dk0 x.dk1 x.dk2 x.dk3 x.dk4
abbrev dpre := x.ofDecay (k1_pay269 (F := Ideal))

/-! What is stored, the last store first. -/

def dz : List (View.Piece (Elt Ideal) S256x6144 .bf16) :=
  [⟨Rect.unit ![0, 3584] ![256, 512] inb_S256x6144_S256x512_0_3584, k1_pay266 x.exp_e x.vb x.b33 x.b23 x.b13 x.dk0 x.dk1 x.dk2 x.dk3 x.dk4⟩,
   ⟨Rect.unit ![0, 4864] ![256, 256] inb_S256x6144_S256x256_0_4864, k1_pay262 x.kdec x.b33 x.b23 x.b13 x.b03⟩,
   ⟨Rect.unit ![0, 4608] ![256, 256] inb_S256x6144_S256x256_0_4608, k1_pay260 x.kdec x.b32 x.b22 x.b12 x.b02⟩,
   ⟨Rect.unit ![0, 4352] ![256, 256] inb_S256x6144_S256x256_0_4352, k1_pay256 x.kdec x.b31 x.b21 x.b11 x.b01⟩,
   ⟨Rect.unit ![0, 4096] ![256, 256] inb_S256x6144_S256x256_0_4096, k1_pay254 x.kdec x.b30 x.b20 x.b10 x.b00⟩,
   ⟨Rect.unit ![0, 3456] ![256, 128] inb_S256x6144_S256x128_0_3456, k1_pay153 x.s03 x.s13 x.s23 x.s33 x.do3⟩,
   ⟨Rect.unit ![0, 3328] ![256, 128] inb_S256x6144_S256x128_0_3328, k1_pay152 x.s32 x.do2 (k1_pay149 x.s02 x.do2) (k1_pay150 x.s12 x.do2) (k1_pay151 x.s22 x.do2)⟩,
   ⟨Rect.unit ![0, 3200] ![256, 128] inb_S256x6144_S256x128_0_3200, k1_pay148 x.s01 x.s11 x.s21 x.s31 x.do1⟩,
   ⟨Rect.unit ![0, 3072] ![256, 128] inb_S256x6144_S256x128_0_3072, k1_pay147 x.s00 x.s10 x.s20 x.s30 x.do0⟩,
   ⟨Rect.unit ![0, 5888] ![256, 256] inb_S256x6144_S256x256_0_5888, k1_pay144 x.gg (k1_pay136 x.qs x.s03 x.s13 x.s23 x.s33) (k1_pay137 x.qs x.s03 x.s13 x.s23 x.s33) (x.og 3) (x.dyg 3)⟩,
   ⟨Rect.unit ![0, 5632] ![256, 256] inb_S256x6144_S256x256_0_5632, k1_pay134 x.gg (k1_pay129 x.qs x.s02 x.s12 x.s22 x.s32) (x.og 2) (x.dyg 2)⟩,
   ⟨Rect.unit ![0, 5376] ![256, 256] inb_S256x6144_S256x256_0_5376, k1_pay125 x.gg (k1_pay120 (x.og 1)) (k1_pay121 (x.og 1)) (k1_pay124 x.qs x.s01 x.s11 x.s21 x.s31 (x.dyg 1))⟩,
   ⟨Rect.unit ![0, 5120] ![256, 256] inb_S256x6144_S256x256_0_5120, k1_pay115 x.qs x.gg x.s00 x.s10 x.s20 x.s30 (x.og 0) (x.dyg 0)⟩,
   ⟨Rect.unit ![0, 2048] ![256, 1024] inb_S256x6144_S256x1024_0_2048, k1_pay76 (k1_pay11 x.cc) (k1_pay13 x.cw) (ofParts (k1_pay64 (k1_pay10 x.cb)) x.y x.cg x.dyc) (ofParts (k1_pay70 (k1_pay10 x.cb)) x.y x.cg x.dyc x.carry) (ofParts (k1_pay71 (k1_pay10 x.cb)) x.y x.cg x.dyc x.carry)⟩,
   ⟨Rect.unit ![0, 1024] ![256, 1024] inb_S256x6144_S256x1024_0_1024, k1_pay75 (k1_pay12 x.ch) (k1_pay13 x.cw) (ofParts (k1_pay64 (k1_pay10 x.cb)) x.y x.cg x.dyc) (ofParts (k1_pay70 (k1_pay10 x.cb)) x.y x.cg x.dyc x.carry) (ofParts (k1_pay71 (k1_pay10 x.cb)) x.y x.cg x.dyc x.carry)⟩,
   ⟨Rect.unit ![0, 0] ![256, 1024] inb_S256x6144_S256x1024_0_0, ofParts (k1_pay65 (k1_pay18 x.i x.cc x.ch x.cw x.ccp x.chp)) x.y x.cg x.dyc⟩]
def dzal : List (View.Piece (Elt Ideal) S256x128 .bf16) := [⟨Rect.unit ![0, 0] ![256, 128] inb_S256x128_S256x128_0_0, k1_pay2 x.dpre x.wgu⟩]
def dcw : List (View.Piece (Elt Ideal) S8x1024 .f32) :=
  [⟨Rect.unit ![2, 0] ![1, 1024] inb_S8x1024_S1x1024_2_0, ofParts (k1_pay68 (k1_pay10 x.cb) (k1_pay14 x.cc x.ch)) x.y x.cg x.dyc (x.acw 2)⟩,
   ⟨Rect.unit ![1, 0] ![1, 1024] inb_S8x1024_S1x1024_1_0, ofParts (k1_pay67 (k1_pay10 x.cb) (k1_pay16 x.i x.cc x.ch x.ccp x.chp)) x.y x.cg x.dyc (x.acw 1)⟩,
   ⟨Rect.unit ![0, 0] ![1, 1024] inb_S8x1024_S1x1024_0_0, ofParts (k1_pay66 (k1_pay10 x.cb) (k1_pay17 x.i x.cc x.ch x.ccp x.chp)) x.y x.cg x.dyc (x.acw 0)⟩]
def dcg : List (View.Piece (Elt Ideal) S1x1024 .f32) :=
  [⟨Rect.unit ![0, 896] ![1, 128] inb_S1x1024_S1x128_0_896, gains x.y x.dyc x.acg 7⟩,
   ⟨Rect.unit ![0, 768] ![1, 128] inb_S1x1024_S1x128_0_768, gains x.y x.dyc x.acg 6⟩,
   ⟨Rect.unit ![0, 640] ![1, 128] inb_S1x1024_S1x128_0_640, gains x.y x.dyc x.acg 5⟩,
   ⟨Rect.unit ![0, 512] ![1, 128] inb_S1x1024_S1x128_0_512, gains x.y x.dyc x.acg 4⟩,
   ⟨Rect.unit ![0, 384] ![1, 128] inb_S1x1024_S1x128_0_384, gains x.y x.dyc x.acg 3⟩,
   ⟨Rect.unit ![0, 256] ![1, 128] inb_S1x1024_S1x128_0_256, gains x.y x.dyc x.acg 2⟩,
   ⟨Rect.unit ![0, 128] ![1, 128] inb_S1x1024_S1x128_0_128, gains x.y x.dyc x.acg 1⟩,
   ⟨Rect.unit ![0, 0] ![1, 128] inb_S1x1024_S1x128_0_0, gains x.y x.dyc x.acg 0⟩]
def dgg : List (View.Piece (Elt Ideal) S1x256 .f32) :=
  [⟨Rect.unit ![0, 0] ![1, 256] inb_S1x256_S1x256_0_0, k1_pay146 (k1_pay143 (k1_pay133 (k1_pay123 x.qs x.s01 x.s11 x.s21 x.s31 (k1_pay114 x.qs x.s00 x.s10 x.s20 x.s30 (x.og 0) (x.dyg 0)) (x.og 1) (x.dyg 1))
    (k1_pay129 x.qs x.s02 x.s12 x.s22 x.s32) (x.og 2) (x.dyg 2)) (k1_pay136 x.qs x.s03 x.s13 x.s23 x.s33) (k1_pay137 x.qs x.s03 x.s13 x.s23 x.s33) (x.og 3) (x.dyg 3)) x.agg⟩]
def dbg : List (View.Piece (Elt Ideal) S1x512 .f32) := [⟨Rect.unit ![0, 0] ![1, 512] inb_S1x512_S1x512_0_0, x.ofDecay (k1_pay268 (F := Ideal)) x.abg⟩]
def dwgu : List (View.Piece (Elt Ideal) S128x512 .f32) :=
  [⟨Rect.unit ![0, 0] ![128, 512] inb_S128x512_S128x512_0_0, k1_pay1 (k1_pay81 x.al) x.dpre (k1_pay270 x.awgu) (constant S128x512 FTy.f32 0#32)⟩]
def dcarry : List (View.Piece (Elt Ideal) S8x1024 .f32) :=
  [⟨Rect.unit ![0, 0] ![8, 1024] inb_S8x1024_S8x1024_0_0, k1_pay73 (ofParts (k1_pay72 (k1_pay10 x.cb)) x.y x.cg x.dyc)⟩]
def gdl : List (View.Piece (Elt Ideal) S4x256x128 .f32) :=
  [⟨Rect.unit ![3, 0, 0] ![1, 256, 128] inb_S4x256x128_S1x256x128_3_0_0, k1_pay253 x.c03⟩,
   ⟨Rect.unit ![2, 0, 0] ![1, 256, 128] inb_S4x256x128_S1x256x128_2_0_0, k1_pay252 x.c02⟩,
   ⟨Rect.unit ![1, 0, 0] ![1, 256, 128] inb_S4x256x128_S1x256x128_1_0_0, k1_pay251 x.c01⟩,
   ⟨Rect.unit ![0, 0, 0] ![1, 256, 128] inb_S4x256x128_S1x256x128_0_0_0, k1_pay250 x.c00⟩]

end Loads

variable (V : (c : Dev nD) → (b : Ref sig .tc) → Buf (Elt Ideal) (c.tc.loc b))

/-- What the run at a point loads, when the buffers that pass from point to point hold `p`. -/
def loads (c : Dev nD) (t : Fin cfg1.N) (p : Left Ideal) : Loads where
  i := grid1.coords t
  cb := View.ld (iblk V c 0 t) (Rect.unit ![0, 0] ![256, 1024] inb_S256x1024_S256x1024_0_0)
  cc := View.ld (iblk V c 1 t) (Rect.unit ![0, 0] ![256, 1024] inb_S256x1024_S256x1024_0_0)
  ch := View.ld (iblk V c 2 t) (Rect.unit ![0, 0] ![256, 1024] inb_S256x1024_S256x1024_0_0)
  ccp := View.ld (iblk V c 7 t) (Rect.unit ![0, 0] ![8, 1024] inb_S8x1024_S8x1024_0_0)
  chp := View.ld (iblk V c 8 t) (Rect.unit ![0, 0] ![8, 1024] inb_S8x1024_S8x1024_0_0)
  cw := View.ld (iblk V c 15 t) (Rect.unit ![0, 0] ![8, 1024] inb_S8x1024_S8x1024_0_0)
  cg := View.ld (iblk V c 16 t) (Rect.unit ![0, 0] ![1, 1024] inb_S1x1024_S1x1024_0_0)
  dyc := ![View.ld (iblk V c 10 t) (Rect.unit ![0, 0] ![256, 128] inb_S256x2048_S256x128_0_0), View.ld (iblk V c 10 t) (Rect.unit ![0, 128] ![256, 128] inb_S256x2048_S256x128_0_128), View.ld (iblk V c 10 t) (Rect.unit ![0, 256] ![256, 128] inb_S256x2048_S256x128_0_256), View.ld (iblk V c 10 t) (Rect.unit ![0, 384] ![256, 128] inb_S256x2048_S256x128_0_384), View.ld (iblk V c 10 t) (Rect.unit ![0, 512] ![256, 128] inb_S256x2048_S256x128_0_512), View.ld (iblk V c 10 t) (Rect.unit ![0, 640] ![256, 128] inb_S256x2048_S256x128_0_640), View.ld (iblk V c 10 t) (Rect.unit ![0, 768] ![256, 128] inb_S256x2048_S256x128_0_768), View.ld (iblk V c 10 t) (Rect.unit ![0, 896] ![256, 128] inb_S256x2048_S256x128_0_896)]
  q := View.ld (iblk V c 3 t) (Rect.unit ![0, 0] ![256, 512] inb_S256x512_S256x512_0_0)
  k := View.ld (iblk V c 4 t) (Rect.unit ![0, 0] ![256, 512] inb_S256x512_S256x512_0_0)
  v := View.ld (iblk V c 5 t) (Rect.unit ![0, 0] ![256, 1024] inb_S256x1024_S256x1024_0_0)
  og := ![View.ld (iblk V c 6 t) (Rect.unit ![0, 0] ![256, 256] inb_S256x1024_S256x256_0_0), View.ld (iblk V c 6 t) (Rect.unit ![0, 256] ![256, 256] inb_S256x1024_S256x256_0_256), View.ld (iblk V c 6 t) (Rect.unit ![0, 512] ![256, 256] inb_S256x1024_S256x256_0_512), View.ld (iblk V c 6 t) (Rect.unit ![0, 768] ![256, 256] inb_S256x1024_S256x256_0_768)]
  al := View.ld (iblk V c 9 t) (Rect.unit ![0, 0] ![256, 128] inb_S256x128_S256x128_0_0)
  wgu := View.ld (iblk V c 13 t) (Rect.unit ![0, 0] ![128, 512] inb_S128x512_S128x512_0_0)
  bg := View.ld (iblk V c 14 t) (Rect.unit ![0, 0] ![1, 512] inb_S1x512_S1x512_0_0)
  gg := View.ld (iblk V c 17 t) (Rect.unit ![0, 0] ![1, 256] inb_S1x256_S1x256_0_0)
  dyg := ![View.ld (iblk V c 10 t) (Rect.unit ![0, 1024] ![256, 256] inb_S256x2048_S256x256_0_1024), View.ld (iblk V c 10 t) (Rect.unit ![0, 1280] ![256, 256] inb_S256x2048_S256x256_0_1280), View.ld (iblk V c 10 t) (Rect.unit ![0, 1536] ![256, 256] inb_S256x2048_S256x256_0_1536), View.ld (iblk V c 10 t) (Rect.unit ![0, 1792] ![256, 256] inb_S256x2048_S256x256_0_1792)]
  sall := ![![View.ld (iblk V c 11 t) (Rect.unit ![0, 0, 0, 0] ![1, 1, 256, 128] inb_S4x4x256x128_S1x1x256x128_0_0_0_0), View.ld (iblk V c 11 t) (Rect.unit ![0, 1, 0, 0] ![1, 1, 256, 128] inb_S4x4x256x128_S1x1x256x128_0_1_0_0), View.ld (iblk V c 11 t) (Rect.unit ![0, 2, 0, 0] ![1, 1, 256, 128] inb_S4x4x256x128_S1x1x256x128_0_2_0_0), View.ld (iblk V c 11 t) (Rect.unit ![0, 3, 0, 0] ![1, 1, 256, 128] inb_S4x4x256x128_S1x1x256x128_0_3_0_0)], ![View.ld (iblk V c 11 t) (Rect.unit ![1, 0, 0, 0] ![1, 1, 256, 128] inb_S4x4x256x128_S1x1x256x128_1_0_0_0), View.ld (iblk V c 11 t) (Rect.unit ![1, 1, 0, 0] ![1, 1, 256, 128] inb_S4x4x256x128_S1x1x256x128_1_1_0_0), View.ld (iblk V c 11 t) (Rect.unit ![1, 2, 0, 0] ![1, 1, 256, 128] inb_S4x4x256x128_S1x1x256x128_1_2_0_0), View.ld (iblk V c 11 t) (Rect.unit ![1, 3, 0, 0] ![1, 1, 256, 128] inb_S4x4x256x128_S1x1x256x128_1_3_0_0)], ![View.ld (iblk V c 11 t) (Rect.unit ![2, 0, 0, 0] ![1, 1, 256, 128] inb_S4x4x256x128_S1x1x256x128_2_0_0_0), View.ld (iblk V c 11 t) (Rect.unit ![2, 1, 0, 0] ![1, 1, 256, 128] inb_S4x4x256x128_S1x1x256x128_2_1_0_0), View.ld (iblk V c 11 t) (Rect.unit ![2, 2, 0, 0] ![1, 1, 256, 128] inb_S4x4x256x128_S1x1x256x128_2_2_0_0), View.ld (iblk V c 11 t) (Rect.unit ![2, 3, 0, 0] ![1, 1, 256, 128] inb_S4x4x256x128_S1x1x256x128_2_3_0_0)], ![View.ld (iblk V c 11 t) (Rect.unit ![3, 0, 0, 0] ![1, 1, 256, 128] inb_S4x4x256x128_S1x1x256x128_3_0_0_0), View.ld (iblk V c 11 t) (Rect.unit ![3, 1, 0, 0] ![1, 1, 256, 128] inb_S4x4x256x128_S1x1x256x128_3_1_0_0), View.ld (iblk V c 11 t) (Rect.unit ![3, 2, 0, 0] ![1, 1, 256, 128] inb_S4x4x256x128_S1x1x256x128_3_2_0_0), View.ld (iblk V c 11 t) (Rect.unit ![3, 3, 0, 0] ![1, 1, 256, 128] inb_S4x4x256x128_S1x1x256x128_3_3_0_0)]]
  sprev := ![View.ld (iblk V c 12 t) (Rect.unit ![0, 0, 0, 0] ![1, 1, 256, 128] inb_S1x4x256x128_S1x1x256x128_0_0_0_0), View.ld (iblk V c 12 t) (Rect.unit ![0, 1, 0, 0] ![1, 1, 256, 128] inb_S1x4x256x128_S1x1x256x128_0_1_0_0), View.ld (iblk V c 12 t) (Rect.unit ![0, 2, 0, 0] ![1, 1, 256, 128] inb_S1x4x256x128_S1x1x256x128_0_2_0_0), View.ld (iblk V c 12 t) (Rect.unit ![0, 3, 0, 0] ![1, 1, 256, 128] inb_S1x4x256x128_S1x1x256x128_0_3_0_0)]
  carry := View.ld (p.dcarry) (Rect.unit ![0, 0] ![8, 1024] inb_S8x1024_S8x1024_0_0)
  gd := ![View.ld (p.gd) (Rect.unit ![0, 0, 0] ![1, 256, 128] inb_S4x256x128_S1x256x128_0_0_0), View.ld (p.gd) (Rect.unit ![1, 0, 0] ![1, 256, 128] inb_S4x256x128_S1x256x128_1_0_0), View.ld (p.gd) (Rect.unit ![2, 0, 0] ![1, 256, 128] inb_S4x256x128_S1x256x128_2_0_0), View.ld (p.gd) (Rect.unit ![3, 0, 0] ![1, 256, 128] inb_S4x256x128_S1x256x128_3_0_0)]
  acw := ![View.ld (p.dcw) (Rect.unit ![0, 0] ![1, 1024] inb_S8x1024_S1x1024_0_0), View.ld (p.dcw) (Rect.unit ![1, 0] ![1, 1024] inb_S8x1024_S1x1024_1_0), View.ld (p.dcw) (Rect.unit ![2, 0] ![1, 1024] inb_S8x1024_S1x1024_2_0)]
  acg := ![View.ld (p.dcg) (Rect.unit ![0, 0] ![1, 128] inb_S1x1024_S1x128_0_0), View.ld (p.dcg) (Rect.unit ![0, 128] ![1, 128] inb_S1x1024_S1x128_0_128), View.ld (p.dcg) (Rect.unit ![0, 256] ![1, 128] inb_S1x1024_S1x128_0_256), View.ld (p.dcg) (Rect.unit ![0, 384] ![1, 128] inb_S1x1024_S1x128_0_384), View.ld (p.dcg) (Rect.unit ![0, 512] ![1, 128] inb_S1x1024_S1x128_0_512), View.ld (p.dcg) (Rect.unit ![0, 640] ![1, 128] inb_S1x1024_S1x128_0_640), View.ld (p.dcg) (Rect.unit ![0, 768] ![1, 128] inb_S1x1024_S1x128_0_768), View.ld (p.dcg) (Rect.unit ![0, 896] ![1, 128] inb_S1x1024_S1x128_0_896)]
  agg := View.ld (p.dgg) (Rect.unit ![0, 0] ![1, 256] inb_S1x256_S1x256_0_0)
  abg := View.ld (p.dbg) (Rect.unit ![0, 0] ![1, 512] inb_S1x512_S1x512_0_0)
  awgu := View.ld (p.dwgu) (Rect.unit ![0, 0] ![128, 512] inb_S128x512_S128x512_0_0)

/-- What the first point puts into the buffers that pass from point to point before it loads them: zeros. -/
def zeros (c : Dev nD) (t : Fin cfg1.N) (h : t.val = 0) : Left Ideal :=
  { leftFirst V c t h with dcw := k1_pay5 (F := Ideal), dcg := k1_pay6 (F := Ideal), dgg := k1_pay7 (F := Ideal), dbg := k1_pay8 (F := Ideal), dwgu := k1_pay9 (F := Ideal), dcarry := k1_pay3 (F := Ideal), gd := k1_pay4 (F := Ideal) }

set_option maxHeartbeats 4000000 in
/-- What a later point stores. -/
theorem laterAt_eq (c : Dev nD) (t : Fin cfg1.N) (h : t.val ≠ 0) (p : Left Ideal) :
    (laterAt V c t h p).1 = (loads V c t p).dz ∧
    (laterAt V c t h p).2.1 = (loads V c t p).dzal ∧
    (laterAt V c t h p).2.2.1 = (loads V c t p).dcw ∧
    (laterAt V c t h p).2.2.2.1 = (loads V c t p).dcg ∧
    (laterAt V c t h p).2.2.2.2.1 = (loads V c t p).dgg ∧
    (laterAt V c t h p).2.2.2.2.2.1 = (loads V c t p).dbg ∧
    (laterAt V c t h p).2.2.2.2.2.2.1 = (loads V c t p).dwgu ∧
    (laterAt V c t h p).2.2.2.2.2.2.2.1 = (loads V c t p).dcarry ∧
    (laterAt V c t h p).2.2.2.2.2.2.2.2.1 = (loads V c t p).gdl := by
  have hs0 : (View.whole cc1_scratch0).read (Elt Ideal) ((Memref.isWhole_whole _ : sc0.IsWhole).unread p.dcarry) = p.dcarry := Memref.IsWhole.read_unread _ _
  have hs1 : (View.whole cc1_scratch1).read (Elt Ideal) ((Memref.isWhole_whole _ : sc1.IsWhole).unread p.gd) = p.gd := Memref.IsWhole.read_unread _ _
  unfold laterAt runLater
  dsimp only
  simp only [runLater.sl.cst_317, runLater.sl.cst_484, runLater.sl.r, runLater.sl.r_1, runLater.sl.r_2, runLater.sl.r_3, runLater.sl.r_4, runLater.sl.r_5, runLater.sl.r_6,
    runLater.sl.r_7, runLater.sl.r_8, runLater.sl.r_9, runLater.sl.r_10, runLater.sl.r_11, runLater.sl.r_12, runLater.sl.r_13, runLater.sl.r_14, runLater.sl.r_15,
    runLater.sl.r_16, runLater.sl.r_17, runLater.sl.r_18, runLater.sl.r_19, runLater.sl.r_20, runLater.sl.r_21, runLater.sl.r_22, runLater.sl.r_23, runLater.sl.r_24,
    runLater.sl.r_25, runLater.sl.r_26, runLater.sl.r_27, runLater.sl.r_28, runLater.sl.r_29, runLater.sl.r_30, runLater.sl.r_31, runLater.sl.r_32, runLater.sl.r_33,
    runLater.sl.r_34, runLater.sl.r_35, runLater.sl.r_36, runLater.sl.r_37, runLater.sl.r_38, runLater.sl.r_39, runLater.sl.r_40, runLater.sl.r_41, runLater.sl.r_42,
    runLater.sl.r_43, runLater.sl.r_44, runLater.sl.r_45, runLater.sl.r_46, runLater.sl.r_47, runLater.sl.r_48, runLater.sl.r_49, runLater.sl.r_50, runLater.sl.r_51,
    runLater.sl.r_52, runLater.sl.r_53, runLater.sl.r_54, runLater.sl.r_55, runLater.sl.r_56, runLater.sl.r_57, runLater.sl.r_58, runLater.sl.r_59, runLater.sl.r_60,
    runLater.sl.r_61, runLater.sl.r_62, runLater.sl.r_63, runLater.sl.r_64, runLater.sl.r_65, runLater.sl.r_66, runLater.sl.r_67, runLater.sl.r_68, runLater.sl.r_69,
    runLater.sl.r_70, runLater.sl.r_71, runLater.sl.r_72, runLater.sl.r_73, runLater.sl.r_74, runLater.sl.r_75, runLater.sl.r_76, runLater.sl.r_77, runLater.sl.r_78,
    runLater.sl.r_79, runLater.sl.r_80, runLater.sl.r_81, runLater.sl.r_82, runLater.sl.r_83, runLater.sl.r_84, runLater.sl.r_85, runLater.sl.r_86, runLater.sl.r_87,
    runLater.sl.r_88, runLater.sl.r_89, runLater.sl.r_90, runLater.sl.r_91, runLater.sl.r_92, runLater.sl.r_93, runLater.sl.r_94, runLater.sl.r_95, runLater.sl.r_96,
    runLater.sl.r_97, runLater.sl.r_98, runLater.sl.r_99, runLater.sl.r_100, runLater.sl.r_101, runLater.sl.r_102, runLater.sl.r_103, runLater.sl.r_104, runLater.sl.r_105,
    runLater.sl.r_106, runLater.sl.r_107, runLater.sl.r_108, runLater.sl.r_109, runLater.sl.r_110, runLater.sl.r_111, runLater.sl.r_112, runLater.sl.r_113, runLater.sl.r_114,
    runLater.sl.r_115, runLater.sl.r_116, runLater.sl.r_117, runLater.sl.r_118, runLater.sl.r_119, runLater.sl.r_120, runLater.sl.r_121, runLater.sl.r_122, runLater.sl.r_123,
    runLater.sl.r_124, runLater.sl.r_125, runLater.sl.r_126, runLater.sl.r_127, runLater.sl.r_128, runLater.sl.r_129, runLater.sl.r_130, runLater.sl.r_131, runLater.sl.r_132,
    runLater.sl.r_133, runLater.sl.r_134, runLater.sl.r_135, runLater.sl.r_136, runLater.sl.r_137, runLater.sl.r_138, runLater.sl.r_139, runLater.sl.r_140, runLater.sl.r_141,
    runLater.sl.r_142, runLater.sl.r_143, runLater.sl.r_144, runLater.sl.r_145, runLater.sl.r_146, runLater.sl.r_147, runLater.sl.r_148, runLater.sl.r_149, runLater.sl.r_150,
    runLater.sl.r_151, runLater.sl.r_152, runLater.sl.r_153, runLater.sl.r_154, runLater.sl.r_155, runLater.sl.r_156, runLater.sl.r_157, runLater.sl.r_158, runLater.sl.r_159,
    runLater.sl.r_160, runLater.sl.r_161, runLater.sl.r_162, runLater.sl.r_163, runLater.sl.r_164, runLater.sl.r_165, runLater.sl.r_166, runLater.sl.r_167, runLater.sl.r_168,
    runLater.sl.r_169, runLater.sl.r_170, runLater.sl.r_171, runLater.sl.r_172, runLater.sl.r_173, runLater.sl.r_174, runLater.sl.r_175, runLater.sl.r_176, runLater.sl.r_177,
    runLater.sl.r_178, runLater.sl.r_179, runLater.sl.r_180, runLater.sl.r_181, runLater.sl.r_182, runLater.sl.r_183, runLater.sl.r_184, runLater.sl.r_185, runLater.sl.r_186,
    runLater.sl.r_187, runLater.sl.r_188, runLater.sl.r_189, runLater.sl.v0, runLater.sl.v1, runLater.sl.v2, runLater.sl.v3, runLater.sl.v4, runLater.sl.v83, runLater.sl.v115,
    runLater.sl.v147, runLater.sl.v179, runLater.sl.v211, runLater.sl.v243, runLater.sl.v275, runLater.sl.v307, runLater.sl.v314, View.readAt_eq_ld,
    Memref.IsWhole.read_unread, hs0, hs1]
  refine ⟨?_, ?_, ?_, ?_, ?_, ?_, ?_, ?_, ?_⟩ <;> sl_kernel_rfl

section

variable {sig : RefSig} {κ : Kind} {sp : Space} {e : EltTy} {S : Shape}

/-- A load of a buffer that one store has filled reads what was stored. -/
theorem read_filled (v : View sig κ sp S e) {off : Fin S.rank → ℕ} (inb : ∀ a, off a + S.size a ≤ S.size a) (x : S.Idx → Elt Ideal e) (r : Rect S)
    (h : ∀ a, off a = 0) : v.readCov [(⟨Rect.unit off S.size inb, x⟩ : View.Piece (Elt Ideal) S e)] r.toLoadRect = View.ld x r := by
  have hc : View.canon [(⟨Rect.unit off S.size inb, x⟩ : View.Piece (Elt Ideal) S e)] = x := View.canon_cons_unit_lit' inb x [] h
  rw [View.readCov_eq_canon_ld, hc]
  intro y
  refine ⟨_, List.mem_singleton.mpr rfl, ?_⟩
  show y ∈ (Rect.unit off S.size inb).set
  rw [LoadRect.mem_set]
  exact fun a => ⟨(y a).val, (y a).isLt, by simp [Rect.unit, h]⟩

/-- A load of one row does not see a store into another. -/
theorem skip_row (v : View sig κ sp S8x1024 e) (a b : ℕ) (inb) (inb') (x) (L : List (View.Piece (Elt Ideal) S8x1024 e)) (h : a < b) :
    v.readCov (⟨Rect.unit ![a, 0] ![1, 1024] inb, x⟩ :: L) (Rect.unit (s := S8x1024) ![b, 0] ![1, 1024] inb').toLoadRect
      = v.readCov L (Rect.unit (s := S8x1024) ![b, 0] ![1, 1024] inb').toLoadRect := by
  apply View.readCov_cons_of_disjoint
  refine Finset.disjoint_left.mpr fun y h1 h2 => ?_
  obtain ⟨j1, k1, e1⟩ := (LoadRect.mem_set _).mp h1 0
  obtain ⟨j2, k2, e2⟩ := (LoadRect.mem_set _).mp h2 0
  simp [Rect.unit] at k1 k2 e1 e2
  omega

/-- A load of one group of columns does not see a store into an earlier one. -/
theorem skip_col (v : View sig κ sp S1x1024 e) (a b : ℕ) (inb) (inb') (x) (L : List (View.Piece (Elt Ideal) S1x1024 e)) (h : a + 128 ≤ b) :
    v.readCov (⟨Rect.unit ![0, a] ![1, 128] inb, x⟩ :: L) (Rect.unit (s := S1x1024) ![0, b] ![1, 128] inb').toLoadRect
      = v.readCov L (Rect.unit (s := S1x1024) ![0, b] ![1, 128] inb').toLoadRect := by
  apply View.readCov_cons_of_disjoint
  refine Finset.disjoint_left.mpr fun y h1 h2 => ?_
  obtain ⟨j1, k1, e1⟩ := (LoadRect.mem_set _).mp h1 1
  obtain ⟨j2, k2, e2⟩ := (LoadRect.mem_set _).mp h2 1
  simp [Rect.unit] at k1 k2 e1 e2
  omega

end

theorem fill2 : ∀ a : Fin 2, (![0, 0] : Fin 2 → ℕ) a = 0 := by decide
theorem fill3 : ∀ a : Fin 3, (![0, 0, 0] : Fin 3 → ℕ) a = 0 := by decide

set_option maxHeartbeats 4000000 in
/-- What the first point stores: zeros, then as a later point that holds them. -/
theorem firstAt_eq (c : Dev nD) (t : Fin cfg1.N) (h : t.val = 0) :
    (firstAt V c t h).1 = (loads V c t (zeros V c t h)).dz ∧
    (firstAt V c t h).2.1 = (loads V c t (zeros V c t h)).dzal ∧
    (firstAt V c t h).2.2.1 = (loads V c t (zeros V c t h)).dcw ++ [⟨Rect.unit ![0, 0] S8x1024.size inb_S8x1024_S8x1024_0_0, k1_pay5 (F := Ideal)⟩] ∧
    (firstAt V c t h).2.2.2.1 = (loads V c t (zeros V c t h)).dcg ++ [⟨Rect.unit ![0, 0] S1x1024.size inb_S1x1024_S1x1024_0_0, k1_pay6 (F := Ideal)⟩] ∧
    (firstAt V c t h).2.2.2.2.1 = (loads V c t (zeros V c t h)).dgg ++ [⟨Rect.unit ![0, 0] S1x256.size inb_S1x256_S1x256_0_0, k1_pay7 (F := Ideal)⟩] ∧
    (firstAt V c t h).2.2.2.2.2.1 = (loads V c t (zeros V c t h)).dbg ++ [⟨Rect.unit ![0, 0] S1x512.size inb_S1x512_S1x512_0_0, k1_pay8 (F := Ideal)⟩] ∧
    (firstAt V c t h).2.2.2.2.2.2.1 = (loads V c t (zeros V c t h)).dwgu ++ [⟨Rect.unit ![0, 0] S128x512.size inb_S128x512_S128x512_0_0, k1_pay9 (F := Ideal)⟩] ∧
    (firstAt V c t h).2.2.2.2.2.2.2.1 = (loads V c t (zeros V c t h)).dcarry ++ [⟨Rect.unit ![0, 0] S8x1024.size inb_S8x1024_S8x1024_0_0, k1_pay3 (F := Ideal)⟩] ∧
    (firstAt V c t h).2.2.2.2.2.2.2.2.1 = (loads V c t (zeros V c t h)).gdl ++ [⟨Rect.unit ![0, 0, 0] S4x256x128.size inb_S4x256x128_S4x256x128_0_0_0, k1_pay4 (F := Ideal)⟩] := by
  have f0 := fun (k : Kind) (sp : Space) (v : View sig k sp S128x512 .f32) inb x r => read_filled (off := ![0, 0]) v inb x r fill2
  have f1 := fun (k : Kind) (sp : Space) (v : View sig k sp S1x1024 .f32) inb x r => read_filled (off := ![0, 0]) v inb x r fill2
  have f2 := fun (k : Kind) (sp : Space) (v : View sig k sp S1x256 .f32) inb x r => read_filled (off := ![0, 0]) v inb x r fill2
  have f3 := fun (k : Kind) (sp : Space) (v : View sig k sp S1x512 .f32) inb x r => read_filled (off := ![0, 0]) v inb x r fill2
  have f4 := fun (k : Kind) (sp : Space) (v : View sig k sp S4x256x128 .f32) inb x r => read_filled (off := ![0, 0, 0]) v inb x r fill3
  have f5 := fun (k : Kind) (sp : Space) (v : View sig k sp S8x1024 .f32) inb x r => read_filled (off := ![0, 0]) v inb x r fill2
  unfold firstAt runFirst
  dsimp only
  simp (disch := decide) only [runFirst.sl.H21_1, runFirst.sl.H21_2, runFirst.sl.H21_3, runFirst.sl.H22_1, runFirst.sl.H22_2, runFirst.sl.H22_3, runFirst.sl.H22_4, runFirst.sl.H22_5, runFirst.sl.H22_6,
    runFirst.sl.H22_7, runFirst.sl.H22_8, runFirst.sl.H23_1, runFirst.sl.H24_1, runFirst.sl.H25_1, runFirst.sl.H26_1, runFirst.sl.H27_1, runFirst.sl.cst_317,
    runFirst.sl.cst_484, runFirst.sl.r, runFirst.sl.r_1, runFirst.sl.r_2, runFirst.sl.r_3, runFirst.sl.r_4, runFirst.sl.r_5, runFirst.sl.r_6, runFirst.sl.r_7, runFirst.sl.r_8,
    runFirst.sl.r_9, runFirst.sl.r_10, runFirst.sl.r_11, runFirst.sl.r_12, runFirst.sl.r_13, runFirst.sl.r_14, runFirst.sl.r_15, runFirst.sl.r_16, runFirst.sl.r_17,
    runFirst.sl.r_18, runFirst.sl.r_19, runFirst.sl.r_20, runFirst.sl.r_21, runFirst.sl.r_22, runFirst.sl.r_23, runFirst.sl.r_24, runFirst.sl.r_25, runFirst.sl.r_26,
    runFirst.sl.r_27, runFirst.sl.r_28, runFirst.sl.r_29, runFirst.sl.r_30, runFirst.sl.r_31, runFirst.sl.r_32, runFirst.sl.r_33, runFirst.sl.r_34, runFirst.sl.r_35,
    runFirst.sl.r_36, runFirst.sl.r_37, runFirst.sl.r_38, runFirst.sl.r_39, runFirst.sl.r_40, runFirst.sl.r_41, runFirst.sl.r_42, runFirst.sl.r_43, runFirst.sl.r_44,
    runFirst.sl.r_45, runFirst.sl.r_46, runFirst.sl.r_47, runFirst.sl.r_48, runFirst.sl.r_49, runFirst.sl.r_50, runFirst.sl.r_51, runFirst.sl.r_52, runFirst.sl.r_53,
    runFirst.sl.r_54, runFirst.sl.r_55, runFirst.sl.r_56, runFirst.sl.r_57, runFirst.sl.r_58, runFirst.sl.r_59, runFirst.sl.r_60, runFirst.sl.r_61, runFirst.sl.r_62,
    runFirst.sl.r_63, runFirst.sl.r_64, runFirst.sl.r_65, runFirst.sl.r_66, runFirst.sl.r_67, runFirst.sl.r_68, runFirst.sl.r_69, runFirst.sl.r_70, runFirst.sl.r_71,
    runFirst.sl.r_72, runFirst.sl.r_73, runFirst.sl.r_74, runFirst.sl.r_75, runFirst.sl.r_76, runFirst.sl.r_77, runFirst.sl.r_78, runFirst.sl.r_79, runFirst.sl.r_80,
    runFirst.sl.r_81, runFirst.sl.r_82, runFirst.sl.r_83, runFirst.sl.r_84, runFirst.sl.r_85, runFirst.sl.r_86, runFirst.sl.r_87, runFirst.sl.r_88, runFirst.sl.r_89,
    runFirst.sl.r_90, runFirst.sl.r_91, runFirst.sl.r_92, runFirst.sl.r_93, runFirst.sl.r_94, runFirst.sl.r_95, runFirst.sl.r_96, runFirst.sl.r_97, runFirst.sl.r_98,
    runFirst.sl.r_99, runFirst.sl.r_100, runFirst.sl.r_101, runFirst.sl.r_102, runFirst.sl.r_103, runFirst.sl.r_104, runFirst.sl.r_105, runFirst.sl.r_106, runFirst.sl.r_107,
    runFirst.sl.r_108, runFirst.sl.r_109, runFirst.sl.r_110, runFirst.sl.r_111, runFirst.sl.r_112, runFirst.sl.r_113, runFirst.sl.r_114, runFirst.sl.r_115, runFirst.sl.r_116,
    runFirst.sl.r_117, runFirst.sl.r_118, runFirst.sl.r_119, runFirst.sl.r_120, runFirst.sl.r_121, runFirst.sl.r_122, runFirst.sl.r_123, runFirst.sl.r_124, runFirst.sl.r_125,
    runFirst.sl.r_126, runFirst.sl.r_127, runFirst.sl.r_128, runFirst.sl.r_129, runFirst.sl.r_130, runFirst.sl.r_131, runFirst.sl.r_132, runFirst.sl.r_133, runFirst.sl.r_134,
    runFirst.sl.r_135, runFirst.sl.r_136, runFirst.sl.r_137, runFirst.sl.r_138, runFirst.sl.r_139, runFirst.sl.r_140, runFirst.sl.r_141, runFirst.sl.r_142, runFirst.sl.r_143,
    runFirst.sl.r_144, runFirst.sl.r_145, runFirst.sl.r_146, runFirst.sl.r_147, runFirst.sl.r_148, runFirst.sl.r_149, runFirst.sl.r_150, runFirst.sl.r_151, runFirst.sl.r_152,
    runFirst.sl.r_153, runFirst.sl.r_154, runFirst.sl.r_155, runFirst.sl.r_156, runFirst.sl.r_157, runFirst.sl.r_158, runFirst.sl.r_159, runFirst.sl.r_160, runFirst.sl.r_161,
    runFirst.sl.r_162, runFirst.sl.r_163, runFirst.sl.r_164, runFirst.sl.r_165, runFirst.sl.r_166, runFirst.sl.r_167, runFirst.sl.r_168, runFirst.sl.r_169, runFirst.sl.r_170,
    runFirst.sl.r_171, runFirst.sl.r_172, runFirst.sl.r_173, runFirst.sl.r_174, runFirst.sl.r_175, runFirst.sl.r_176, runFirst.sl.r_177, runFirst.sl.r_178, runFirst.sl.r_179,
    runFirst.sl.r_180, runFirst.sl.r_181, runFirst.sl.r_182, runFirst.sl.r_183, runFirst.sl.r_184, runFirst.sl.r_185, runFirst.sl.r_186, runFirst.sl.r_187, runFirst.sl.r_188,
    runFirst.sl.r_189, runFirst.sl.v0, runFirst.sl.v1, runFirst.sl.v2, runFirst.sl.v3, runFirst.sl.v4, runFirst.sl.v51, runFirst.sl.v83, runFirst.sl.v115, runFirst.sl.v147,
    runFirst.sl.v179, runFirst.sl.v211, runFirst.sl.v243, runFirst.sl.v275, runFirst.sl.v300, runFirst.sl.v307, runFirst.sl.v314, runFirst.sl.v321, runFirst.sl.v688,
    runFirst.sl.v792, runFirst.sl.v794, runFirst.sl.v796, runFirst.sl.v798, runFirst.sl.v1113, runFirst.sl.v1120, View.readAt_eq_ld, Memref.IsWhole.read_unread, skip_row,
    skip_col, f0, f1, f2, f3, f4, f5]
  refine ⟨?_, ?_, ?_, ?_, ?_, ?_, ?_, ?_, ?_⟩ <;> sl_kernel_rfl

end Cert.MixLoads

end
-- ==== Proof.MixStep.lean ====
module

public import proofs.«01_k».proof.Proof.MixLoads

@[expose] public section

set_option maxRecDepth 16384

noncomputable section

/-! Every point of the backward grid alike: what it finds in the buffers that pass from point to point (zeros at the first), and what it leaves. -/

namespace Cert.MixStep

open Idealize.ShloMosaic Idealize.ShloMosaic.TcCoe Idealize.SL.Sem Cert.MixLoads Cert.Over
open Cert.MixerIdeal Cert.MixerIdeal.Gen Cert.MixerBwd

/-- Stores over a buffer that one store has filled. -/
theorem canon_filled {S : Shape} {e : EltTy} {off : Fin S.rank → ℕ} (inb : ∀ a, off a + S.size a ≤ S.size a) (x : S.Idx → Elt Ideal e) (h : ∀ a, off a = 0) :
    ∀ L : List (View.Piece (Elt Ideal) S e), View.canon (L ++ [(⟨Rect.unit off S.size inb, x⟩ : View.Piece (Elt Ideal) S e)]) = over x L
  | [] => View.canon_cons_unit_lit' inb x [] h
  | p :: L => by
    rw [List.cons_append, View.canon_cons, canon_filled inb x h L]
    rfl

variable (V : (c : Dev nD) → (b : Ref sig .tc) → Buf (Elt Ideal) (c.tc.loc b)) (c : Dev nD) (t : Fin cfg1.N)

/-- What the buffers that pass from point to point hold when a point loads them. -/
def prev : Left Ideal := if h : t.val = 0 then zeros V c t h else left V c (t.val - 1) (Nat.lt_of_le_of_lt (Nat.sub_le _ _) t.isLt)

theorem prev_first (h : t.val = 0) : prev V c t = zeros V c t h := dif_pos h
theorem prev_later (h : t.val ≠ 0) : prev V c t = left V c (t.val - 1) (Nat.lt_of_le_of_lt (Nat.sub_le _ _) t.isLt) := dif_neg h

/-- What a point leaves. -/
theorem left_eq : left V c t.val t.isLt =
    { dz := View.canon (loads V c t (prev V c t)).dz
      dzal := View.canon (loads V c t (prev V c t)).dzal
      dcw := over (prev V c t).dcw (loads V c t (prev V c t)).dcw
      dcg := over (prev V c t).dcg (loads V c t (prev V c t)).dcg
      dgg := over (prev V c t).dgg (loads V c t (prev V c t)).dgg
      dbg := over (prev V c t).dbg (loads V c t (prev V c t)).dbg
      dwgu := over (prev V c t).dwgu (loads V c t (prev V c t)).dwgu
      dcarry := over (prev V c t).dcarry (loads V c t (prev V c t)).dcarry
      gd := over (prev V c t).gd (loads V c t (prev V c t)).gdl } := by
  by_cases h : t.val = 0
  · rw [left_first V c t h, prev_first V c t h]
    obtain ⟨h1, h2, h3, h4, h5, h6, h7, h8, h9⟩ := firstAt_eq V c t h
    unfold leftFirst
    simp only [Left.mk.injEq]
    exact ⟨congrArg View.canon h1, congrArg View.canon h2, (congrArg View.canon h3).trans (canon_filled _ _ fill2 _), (congrArg View.canon h4).trans (canon_filled _ _ fill2 _),
      (congrArg View.canon h5).trans (canon_filled _ _ fill2 _), (congrArg View.canon h6).trans (canon_filled _ _ fill2 _),
      (congrArg View.canon h7).trans (canon_filled _ _ fill2 _), (congrArg View.canon h8).trans (canon_filled _ _ fill2 _), (congrArg View.canon h9).trans (canon_filled _ _ fill3 _)⟩
  · rw [left_later V c t h, prev_later V c t h]
    obtain ⟨h1, h2, h3, h4, h5, h6, h7, h8, h9⟩ := laterAt_eq V c t h (left V c (t.val - 1) (Nat.lt_of_le_of_lt (Nat.sub_le _ _) t.isLt))
    unfold leftLater
    simp only [Left.mk.injEq]
    exact ⟨congrArg View.canon h1, congrArg View.canon h2, congrArg (over _) h3, congrArg (over _) h4, congrArg (over _) h5, congrArg (over _) h6, congrArg (over _) h7,
      congrArg (over _) h8, congrArg (over _) h9⟩

end Cert.MixStep

end
-- ==== Proof.MixBlocks.lean ====
/- The mixer's arguments as real arrays, the host's preparation of them, and the blocks that the two bodies read. -/
module

public import proofs.«01_k».proof.Proof.MixRun
public import proofs.«01_k».proof.Proof.MixTileConv
public import Idealize.ShloMosaic.Lib.Pointwise
public import Idealize.ShloMosaic.Lib.Pipeline.ValueKit

@[expose] public section

set_option maxRecDepth 16384

noncomputable section

namespace Cert.MixBlocks

open Idealize.ShloMosaic Idealize.ShloMosaic.TcCoe Idealize.SL.Sem Cert.Reals Cert.NormRow Cert.MixSpec Cert.MixTile
open Cert.MixerIdeal Cert.MixerIdeal.Gen Cert.MixerRun

variable {m : (ℓ : Loc nD τ sig) → Buf (Elt Ideal) ℓ} {c : Dev nD} {A : Args}

/-- The device's arguments are the real arrays `A`. -/
structure Holds (m : (ℓ : Loc nD τ sig) → Buf (Elt Ideal) ℓ) (c : Dev nD) (A : Args) : Prop where
  z : ∀ i j, (m ((c.tc : Thread nD τ).loc main_arg0) : S8192x6160.Idx → EReal) (ix2 i j) = ((A.z i j : ℝ) : EReal)
  wgu : ∀ i j, (m ((c.tc : Thread nD τ).loc main_arg1) : S16x512.Idx → EReal) (ix2 i j) = ((A.wgu i j : ℝ) : EReal)
  bg : ∀ j, (m ((c.tc : Thread nD τ).loc main_arg2) : S1x512.Idx → EReal) (ix2 0 j) = ((A.bg j : ℝ) : EReal)
  cw : ∀ i j, (m ((c.tc : Thread nD τ).loc main_arg3) : S1024x3.Idx → EReal) (ix2 i j) = ((A.cw i j : ℝ) : EReal)
  cg : ∀ j, (m ((c.tc : Thread nD τ).loc main_arg4) : S1x1024.Idx → EReal) (ix2 0 j) = ((A.cg j : ℝ) : EReal)
  gg : ∀ j, (m ((c.tc : Thread nD τ).loc main_arg5) : S1x256.Idx → EReal) (ix2 0 j) = ((A.gg j : ℝ) : EReal)
  dy : ∀ i j, (m ((c.tc : Thread nD τ).loc main_arg6) : S8192x2048.Idx → EReal) (ix2 i j) = ((A.dy i j : ℝ) : EReal)

/-! ### What the host hands to the two calls -/

theorem V6_z : (V6 m c main_v0 : S8192x6144.Idx → EReal) = extractStridedSlice S8192x6144 ![0, 0] (m ((c.tc : Thread nD τ).loc main_arg0)) slices_S8192x6160_S8192x6144_0_0 := by
  after_results_simp <;> rfl

theorem z_at (H : Holds m c A) (i : Fin 8192) (j : Fin 6144) : (V6 m c main_v0 : S8192x6144.Idx → EReal) (ix2 i j) = ((A.z i ⟨j.val, by omega⟩ : ℝ) : EReal) := by
  rw [V6_z]
  pointwise
  exact H.z _ _

theorem word_zero : (FloatOps.sitofp FTy.f32 0#32 : Ideal .f32) = ((0 : ℝ) : EReal) := by
  simp [FloatOps.sitofp]

theorem V6_taps : (V6 m c main_v6 : S8x1024.Idx → EReal)
    = pad S8x1024 ![0, 0] ![5, 0] ![0, 0] (transpose S3x1024 [1, 0] (m ((c.tc : Thread nD τ).loc main_arg3)) transposes_S1024x3_S3x1024_1_0)
        (sitofp (F := Ideal) FTy.f32 (constantI S_ 32 0#32)) pads_S3x1024_S8x1024_050_000 h_S_ := by
  after_results_simp <;> rfl

theorem V6_al : (V6 m c main_v2 : S8192x128.Idx → EReal)
    = pad S8192x128 ![0, 0] ![0, 112] ![0, 0] (extractStridedSlice S8192x16 ![0, 6144] (m ((c.tc : Thread nD τ).loc main_arg0)) slices_S8192x6160_S8192x16_0_6144)
        (sitofp (F := Ideal) FTy.f32 (constantI S_ 32 0#32)) pads_S8192x16_S8192x128_000_01120 h_S_ := by
  after_results_simp <;> rfl

theorem V6_wgu : (V6 m c main_v4 : S128x512.Idx → EReal)
    = pad S128x512 ![0, 0] ![112, 0] ![0, 0] (m ((c.tc : Thread nD τ).loc main_arg1) : S16x512.Idx → EReal)
        (sitofp (F := Ideal) FTy.f32 (constantI S_ 32 0#32)) pads_S16x512_S128x512_01120_000 h_S_ := by
  after_results_simp <;> rfl

theorem taps_at (H : Holds m c A) (k : Fin 3) (j : Fin 1024) :
    (V6 m c main_v6 : S8x1024.Idx → EReal) (ix2 ⟨k.val, by omega⟩ j) = ((A.cw j k : ℝ) : EReal) := by
  rw [V6_taps]
  pointwise
  exact H.cw _ _

/-- The low-rank gate's input and weight, zeros past the sixteenth. -/
def _root_.Cert.MixSpec.Args.al (A : Args) (i : Fin 8192) (k : Fin 128) : ℝ := if h : k.val < 16 then A.z i ⟨6144 + k.val, by omega⟩ else 0
def _root_.Cert.MixSpec.Args.wg (A : Args) (k : Fin 128) (j : Fin 512) : ℝ := if h : k.val < 16 then A.wgu ⟨k.val, h⟩ j else 0

theorem al_at (H : Holds m c A) (i : Fin 8192) (k : Fin 128) : (V6 m c main_v2 : S8192x128.Idx → EReal) (ix2 i k) = ((A.al i k : ℝ) : EReal) := by
  rw [V6_al]
  pointwise
  unfold Args.al
  split_ifs with h
  · exact H.z _ _
  · exact word_zero

theorem pad_rows (x : S16x512.Idx → EReal) (z : S_.Idx → EReal) (k : Fin 128) (j : Fin 512) :
    pad S128x512 ![0, 0] ![112, 0] ![0, 0] x z pads_S16x512_S128x512_01120_000 h_S_ (ix2 k j) = if h : k.val < 16 then x (ix2 ⟨k.val, h⟩ j) else z (Shape.Idx.first h_S_) := by
  pointwise

theorem wgu_at (H : Holds m c A) (k : Fin 128) (j : Fin 512) : (V6 m c main_v4 : S128x512.Idx → EReal) (ix2 k j) = ((A.wg k j : ℝ) : EReal) := by
  rw [V6_wgu]
  refine (pad_rows _ _ k j).trans ?_
  unfold Args.wg
  split_ifs with h
  · exact H.wgu _ _
  · exact word_zero

/-! ### The blocks of the backward pass -/

/-- The tile that point `t` of the backward grid works on: the last one first. -/
def tile (t : Fin cfg1.N) : Fin 32 := ⟨31 - t.val, by omega⟩

theorem idxB (t : Fin cfg1.N) : win1_0.index t = ![31 - t.val, 0] ∧ win1_1.index t = ![31 - t.val, 1] ∧ win1_2.index t = ![31 - t.val, 2]
    ∧ win1_3.index t = ![31 - t.val, 6] ∧ win1_4.index t = ![31 - t.val, 7] ∧ win1_5.index t = ![31 - t.val, 4] ∧ win1_6.index t = ![31 - t.val, 5]
    ∧ win1_7.index t = ![(31 - t.val) * 32 - 1, 1] ∧ win1_8.index t = ![(31 - t.val) * 32 - 1, 2] ∧ win1_9.index t = ![31 - t.val, 0]
    ∧ win1_10.index t = ![31 - t.val, 0] ∧ win1_11.index t = ![31 - t.val, 0, 0, 0] ∧ win1_12.index t = ![(31 - t.val) * 4 - 1, 0, 0, 0]
    ∧ win1_13.index t = ![0, 0] ∧ win1_14.index t = ![0, 0] ∧ win1_15.index t = ![0, 0] ∧ win1_16.index t = ![0, 0] ∧ win1_17.index t = ![0, 0] := by
  revert t; decide +kernel

theorem ptB (t : Fin cfg1.N) : (grid1.coords t 0).val = 31 - (tile t).val := by
  revert t; decide +kernel

/-- The attention's parts of the projected input. -/
def _root_.Cert.MixSpec.Args.zq (A : Args) (i : Fin 8192) (j : Fin 512) : ℝ := A.z i ⟨3072 + j.val, by omega⟩
def _root_.Cert.MixSpec.Args.zk (A : Args) (i : Fin 8192) (j : Fin 512) : ℝ := A.z i ⟨3584 + j.val, by omega⟩
def _root_.Cert.MixSpec.Args.zv (A : Args) (i : Fin 8192) (j : Fin 1024) : ℝ := A.z i ⟨4096 + j.val, by omega⟩
def _root_.Cert.MixSpec.Args.zo (A : Args) (i : Fin 8192) (j : Fin 1024) : ℝ := A.z i ⟨5120 + j.val, by omega⟩

/-- The four inputs that the host made hold in the backward region what it made, and so do the arguments. -/
theorem W7_z : W7 m c (Proc.devRef .tc main_v0) = V6 m c (Proc.devRef .tc main_v0) := W7_of m c main_v0 (by decide)
theorem W7_al : W7 m c (Proc.devRef .tc main_v2) = V6 m c (Proc.devRef .tc main_v2) := W7_of m c main_v2 (by decide)
theorem W7_wgu : W7 m c (Proc.devRef .tc main_v4) = V6 m c (Proc.devRef .tc main_v4) := W7_of m c main_v4 (by decide)
theorem W7_taps : W7 m c (Proc.devRef .tc main_v6) = V6 m c (Proc.devRef .tc main_v6) := W7_of m c main_v6 (by decide)
theorem V6_arg (b : Ref sig .tc) (h1 : b ∉ hostOps0_W) (h2 : b ∉ hostOps0_1_W) (h3 : b ∉ hostOps0_2_W) (h4 : b ∉ hostOps0_3_W) (h5 : b ∉ hostOps0_4_W)
    (h6 : b ∉ hostOps0_5_W) : V6 m c (Proc.devRef .tc b) = m ((c.tc : Thread nD τ).loc b) :=
  (V6_of m c b h6).trans <| (V5_of m c b h5).trans <| (V4_of m c b h4).trans <| (V3_of m c b h3).trans <| (V2_of m c b h2).trans <| V1_of m c b h1
theorem V6_bg : V6 m c (Proc.devRef .tc main_arg2) = m ((c.tc : Thread nD τ).loc main_arg2) := V6_arg main_arg2 (by decide) (by decide) (by decide) (by decide) (by decide) (by decide)
theorem V6_cg : V6 m c (Proc.devRef .tc main_arg4) = m ((c.tc : Thread nD τ).loc main_arg4) := V6_arg main_arg4 (by decide) (by decide) (by decide) (by decide) (by decide) (by decide)
theorem V6_gg : V6 m c (Proc.devRef .tc main_arg5) = m ((c.tc : Thread nD τ).loc main_arg5) := V6_arg main_arg5 (by decide) (by decide) (by decide) (by decide) (by decide) (by decide)
theorem V6_dy : V6 m c (Proc.devRef .tc main_arg6) = m ((c.tc : Thread nD τ).loc main_arg6) := V6_arg main_arg6 (by decide) (by decide) (by decide) (by decide) (by decide) (by decide)
theorem W7_bg : W7 m c (Proc.devRef .tc main_arg2) = m ((c.tc : Thread nD τ).loc main_arg2) := (W7_of m c main_arg2 (by decide)).trans V6_bg
theorem W7_cg : W7 m c (Proc.devRef .tc main_arg4) = m ((c.tc : Thread nD τ).loc main_arg4) := (W7_of m c main_arg4 (by decide)).trans V6_cg
theorem W7_gg : W7 m c (Proc.devRef .tc main_arg5) = m ((c.tc : Thread nD τ).loc main_arg5) := (W7_of m c main_arg5 (by decide)).trans V6_gg
theorem W7_dy : W7 m c (Proc.devRef .tc main_arg6) = m ((c.tc : Thread nD τ).loc main_arg6) := (W7_of m c main_arg6 (by decide)).trans V6_dy

theorem readB0 (H : Holds m c A) (t : Fin cfg1.N) (r : Fin 256) (j : Fin 1024) :
    (MixerBwd.iblk (U7 m) c 0 t : S256x1024.Idx → EReal) (ix2 r j) = ((A.cb (row (tile t) r) j : ℝ) : EReal) := by
  have e : (MixerBwd.iblk (U7 m) c 0 t : S256x1024.Idx → EReal) (ix2 r j) = (U7 m c main_v0 : S8192x6144.Idx → EReal) (ix2 (row (tile t) r) ⟨j.val, by omega⟩) := by
    blk_ext [MixerBwd.iblk, U7, idxB t, row, tile]
  rw [e]
  exact (congrFun W7_z _).trans (z_at H _ _)

theorem readB1 (H : Holds m c A) (t : Fin cfg1.N) (r : Fin 256) (j : Fin 1024) :
    (MixerBwd.iblk (U7 m) c 1 t : S256x1024.Idx → EReal) (ix2 r j) = ((A.cc (row (tile t) r) j : ℝ) : EReal) := by
  have e : (MixerBwd.iblk (U7 m) c 1 t : S256x1024.Idx → EReal) (ix2 r j) = (U7 m c main_v0 : S8192x6144.Idx → EReal) (ix2 (row (tile t) r) ⟨1024 + j.val, by omega⟩) := by
    blk_ext [MixerBwd.iblk, U7, idxB t, row, tile]
  rw [e]
  exact (congrFun W7_z _).trans (z_at H _ _)

theorem readB2 (H : Holds m c A) (t : Fin cfg1.N) (r : Fin 256) (j : Fin 1024) :
    (MixerBwd.iblk (U7 m) c 2 t : S256x1024.Idx → EReal) (ix2 r j) = ((A.ch (row (tile t) r) j : ℝ) : EReal) := by
  have e : (MixerBwd.iblk (U7 m) c 2 t : S256x1024.Idx → EReal) (ix2 r j) = (U7 m c main_v0 : S8192x6144.Idx → EReal) (ix2 (row (tile t) r) ⟨2048 + j.val, by omega⟩) := by
    blk_ext [MixerBwd.iblk, U7, idxB t, row, tile]
  rw [e]
  exact (congrFun W7_z _).trans (z_at H _ _)

theorem readB3 (H : Holds m c A) (t : Fin cfg1.N) (r : Fin 256) (j : Fin 512) :
    (MixerBwd.iblk (U7 m) c 3 t : S256x512.Idx → EReal) (ix2 r j) = ((A.zq (row (tile t) r) j : ℝ) : EReal) := by
  have e : (MixerBwd.iblk (U7 m) c 3 t : S256x512.Idx → EReal) (ix2 r j) = (U7 m c main_v0 : S8192x6144.Idx → EReal) (ix2 (row (tile t) r) ⟨3072 + j.val, by omega⟩) := by
    blk_ext [MixerBwd.iblk, U7, idxB t, row, tile]
  rw [e]
  exact (congrFun W7_z _).trans (z_at H _ _)

theorem readB4 (H : Holds m c A) (t : Fin cfg1.N) (r : Fin 256) (j : Fin 512) :
    (MixerBwd.iblk (U7 m) c 4 t : S256x512.Idx → EReal) (ix2 r j) = ((A.zk (row (tile t) r) j : ℝ) : EReal) := by
  have e : (MixerBwd.iblk (U7 m) c 4 t : S256x512.Idx → EReal) (ix2 r j) = (U7 m c main_v0 : S8192x6144.Idx → EReal) (ix2 (row (tile t) r) ⟨3584 + j.val, by omega⟩) := by
    blk_ext [MixerBwd.iblk, U7, idxB t, row, tile]
  rw [e]
  exact (congrFun W7_z _).trans (z_at H _ _)

theorem readB5 (H : Holds m c A) (t : Fin cfg1.N) (r : Fin 256) (j : Fin 1024) :
    (MixerBwd.iblk (U7 m) c 5 t : S256x1024.Idx → EReal) (ix2 r j) = ((A.zv (row (tile t) r) j : ℝ) : EReal) := by
  have e : (MixerBwd.iblk (U7 m) c 5 t : S256x1024.Idx → EReal) (ix2 r j) = (U7 m c main_v0 : S8192x6144.Idx → EReal) (ix2 (row (tile t) r) ⟨4096 + j.val, by omega⟩) := by
    blk_ext [MixerBwd.iblk, U7, idxB t, row, tile]
  rw [e]
  exact (congrFun W7_z _).trans (z_at H _ _)

theorem readB6 (H : Holds m c A) (t : Fin cfg1.N) (r : Fin 256) (j : Fin 1024) :
    (MixerBwd.iblk (U7 m) c 6 t : S256x1024.Idx → EReal) (ix2 r j) = ((A.zo (row (tile t) r) j : ℝ) : EReal) := by
  have e : (MixerBwd.iblk (U7 m) c 6 t : S256x1024.Idx → EReal) (ix2 r j) = (U7 m c main_v0 : S8192x6144.Idx → EReal) (ix2 (row (tile t) r) ⟨5120 + j.val, by omega⟩) := by
    blk_ext [MixerBwd.iblk, U7, idxB t, row, tile]
  rw [e]
  exact (congrFun W7_z _).trans (z_at H _ _)

theorem readB9 (H : Holds m c A) (t : Fin cfg1.N) (r : Fin 256) (j : Fin 128) :
    (MixerBwd.iblk (U7 m) c 9 t : S256x128.Idx → EReal) (ix2 r j) = ((A.al (row (tile t) r) j : ℝ) : EReal) := by
  have e : (MixerBwd.iblk (U7 m) c 9 t : S256x128.Idx → EReal) (ix2 r j) = (U7 m c main_v2 : S8192x128.Idx → EReal) (ix2 (row (tile t) r) j) := by
    blk_ext [MixerBwd.iblk, U7, idxB t, row, tile]
  rw [e]
  exact (congrFun W7_al _).trans (al_at H _ _)

theorem readB13 (H : Holds m c A) (t : Fin cfg1.N) (r : Fin 128) (j : Fin 512) :
    (MixerBwd.iblk (U7 m) c 13 t : S128x512.Idx → EReal) (ix2 r j) = ((A.wg r j : ℝ) : EReal) := by
  have e : (MixerBwd.iblk (U7 m) c 13 t : S128x512.Idx → EReal) (ix2 r j) = (U7 m c main_v4 : S128x512.Idx → EReal) (ix2 r j) := by
    blk_ext [MixerBwd.iblk, U7, idxB t, row, tile]
  rw [e]
  exact (congrFun W7_wgu _).trans (wgu_at H _ _)

theorem readB14 (H : Holds m c A) (t : Fin cfg1.N) (r : Fin 1) (j : Fin 512) :
    (MixerBwd.iblk (U7 m) c 14 t : S1x512.Idx → EReal) (ix2 r j) = ((A.bg j : ℝ) : EReal) := by
  have e : (MixerBwd.iblk (U7 m) c 14 t : S1x512.Idx → EReal) (ix2 r j) = (U7 m c main_arg2 : S1x512.Idx → EReal) (ix2 0 j) := by
    blk_ext [MixerBwd.iblk, U7, idxB t, row, tile]
  rw [e]
  exact (congrFun W7_bg _).trans (H.bg _)

theorem readB16 (H : Holds m c A) (t : Fin cfg1.N) (r : Fin 1) (j : Fin 1024) :
    (MixerBwd.iblk (U7 m) c 16 t : S1x1024.Idx → EReal) (ix2 r j) = ((A.cg j : ℝ) : EReal) := by
  have e : (MixerBwd.iblk (U7 m) c 16 t : S1x1024.Idx → EReal) (ix2 r j) = (U7 m c main_arg4 : S1x1024.Idx → EReal) (ix2 0 j) := by
    blk_ext [MixerBwd.iblk, U7, idxB t, row, tile]
  rw [e]
  exact (congrFun W7_cg _).trans (H.cg _)

theorem readB17 (H : Holds m c A) (t : Fin cfg1.N) (r : Fin 1) (j : Fin 256) :
    (MixerBwd.iblk (U7 m) c 17 t : S1x256.Idx → EReal) (ix2 r j) = ((A.gg j : ℝ) : EReal) := by
  have e : (MixerBwd.iblk (U7 m) c 17 t : S1x256.Idx → EReal) (ix2 r j) = (U7 m c main_arg5 : S1x256.Idx → EReal) (ix2 0 j) := by
    blk_ext [MixerBwd.iblk, U7, idxB t, row, tile]
  rw [e]
  exact (congrFun W7_gg _).trans (H.gg _)

theorem readB10 (H : Holds m c A) (t : Fin cfg1.N) (r : Fin 256) (j : Fin 2048) :
    (MixerBwd.iblk (U7 m) c 10 t : S256x2048.Idx → EReal) (ix2 r j) = ((A.dy (row (tile t) r) j : ℝ) : EReal) := by
  have e : (MixerBwd.iblk (U7 m) c 10 t : S256x2048.Idx → EReal) (ix2 r j) = (U7 m c main_arg6 : S8192x2048.Idx → EReal) (ix2 (row (tile t) r) j) := by
    blk_ext [MixerBwd.iblk, U7, idxB t, row, tile]
  rw [e]
  exact (congrFun W7_dy _).trans (H.dy _ _)

theorem readB15 (H : Holds m c A) (t : Fin cfg1.N) (k : Fin 3) (j : Fin 1024) :
    (MixerBwd.iblk (U7 m) c 15 t : S8x1024.Idx → EReal) (ix2 ⟨k.val, by omega⟩ j) = ((A.cw j k : ℝ) : EReal) := by
  have e : (MixerBwd.iblk (U7 m) c 15 t : S8x1024.Idx → EReal) (ix2 ⟨k.val, by omega⟩ j) = (U7 m c main_v6 : S8x1024.Idx → EReal) (ix2 ⟨k.val, by omega⟩ j) := by
    blk_ext [MixerBwd.iblk, U7, idxB t]
  rw [e]
  exact (congrFun W7_taps _).trans (taps_at H _ _)

theorem readB7 (H : Holds m c A) (t : Fin cfg1.N) (ht : tile t ≠ 0) (k : Fin 8) (j : Fin 1024) :
    (MixerBwd.iblk (U7 m) c 7 t : S8x1024.Idx → EReal) (ix2 k j) = ((A.cc ⟨256 * (tile t).val + k.val - 8, by omega⟩ j : ℝ) : EReal) := by
  have hp : 0 < 31 - t.val := by
    rcases Nat.eq_zero_or_pos (31 - t.val) with h | h
    · exact absurd (Fin.ext h) ht
    · exact h
  have e : (MixerBwd.iblk (U7 m) c 7 t : S8x1024.Idx → EReal) (ix2 k j)
      = (U7 m c main_v0 : S8192x6144.Idx → EReal) (ix2 ⟨256 * (tile t).val + k.val - 8, by omega⟩ ⟨1024 + j.val, by omega⟩) := by
    blk_ext [MixerBwd.iblk, U7, idxB t, tile]
  rw [e]
  exact (congrFun W7_z _).trans (z_at H _ _)

theorem readB8 (H : Holds m c A) (t : Fin cfg1.N) (ht : tile t ≠ 0) (k : Fin 8) (j : Fin 1024) :
    (MixerBwd.iblk (U7 m) c 8 t : S8x1024.Idx → EReal) (ix2 k j) = ((A.ch ⟨256 * (tile t).val + k.val - 8, by omega⟩ j : ℝ) : EReal) := by
  have hp : 0 < 31 - t.val := by
    rcases Nat.eq_zero_or_pos (31 - t.val) with h | h
    · exact absurd (Fin.ext h) ht
    · exact h
  have e : (MixerBwd.iblk (U7 m) c 8 t : S8x1024.Idx → EReal) (ix2 k j)
      = (U7 m c main_v0 : S8192x6144.Idx → EReal) (ix2 ⟨256 * (tile t).val + k.val - 8, by omega⟩ ⟨2048 + j.val, by omega⟩) := by
    blk_ext [MixerBwd.iblk, U7, idxB t, tile]
  rw [e]
  exact (congrFun W7_z _).trans (z_at H _ _)

/-! ### The blocks of the forward pass -/

/-- The tile that point `t` of the forward grid works on. -/
def ftile (t : Fin cfg0.N) : Fin 32 := ⟨t.val, t.isLt⟩

theorem idxF (t : Fin cfg0.N) : win0_0.index t = ![t.val, 0] ∧ win0_1.index t = ![t.val, 1] ∧ win0_2.index t = ![t.val, 2]
    ∧ win0_3.index t = ![t.val, 6] ∧ win0_4.index t = ![t.val, 7] ∧ win0_5.index t = ![t.val, 4] ∧ win0_6.index t = ![t.val, 5]
    ∧ win0_7.index t = ![t.val, 0] ∧ win0_8.index t = ![0, 0] ∧ win0_9.index t = ![0, 0] ∧ win0_10.index t = ![0, 0] ∧ win0_11.index t = ![0, 0]
    ∧ win0_12.index t = ![0, 0] := by
  revert t; decide +kernel

theorem readF0 (H : Holds m c A) (t : Fin cfg0.N) (r : Fin 256) (j : Fin 1024) :
    (MixerFwd.iblk (U6 m) c 0 t : S256x1024.Idx → EReal) (ix2 r j) = ((A.cb (row (ftile t) r) j : ℝ) : EReal) := by
  have e : (MixerFwd.iblk (U6 m) c 0 t : S256x1024.Idx → EReal) (ix2 r j) = (U6 m c main_v0 : S8192x6144.Idx → EReal) (ix2 (row (ftile t) r) ⟨j.val, by omega⟩) := by
    blk_ext [MixerFwd.iblk, U6, idxF t, row, ftile]
  rw [e]
  exact z_at H _ _

theorem readF1 (H : Holds m c A) (t : Fin cfg0.N) (r : Fin 256) (j : Fin 1024) :
    (MixerFwd.iblk (U6 m) c 1 t : S256x1024.Idx → EReal) (ix2 r j) = ((A.cc (row (ftile t) r) j : ℝ) : EReal) := by
  have e : (MixerFwd.iblk (U6 m) c 1 t : S256x1024.Idx → EReal) (ix2 r j) = (U6 m c main_v0 : S8192x6144.Idx → EReal) (ix2 (row (ftile t) r) ⟨1024 + j.val, by omega⟩) := by
    blk_ext [MixerFwd.iblk, U6, idxF t, row, ftile]
  rw [e]
  exact z_at H _ _

theorem readF2 (H : Holds m c A) (t : Fin cfg0.N) (r : Fin 256) (j : Fin 1024) :
    (MixerFwd.iblk (U6 m) c 2 t : S256x1024.Idx → EReal) (ix2 r j) = ((A.ch (row (ftile t) r) j : ℝ) : EReal) := by
  have e : (MixerFwd.iblk (U6 m) c 2 t : S256x1024.Idx → EReal) (ix2 r j) = (U6 m c main_v0 : S8192x6144.Idx → EReal) (ix2 (row (ftile t) r) ⟨2048 + j.val, by omega⟩) := by
    blk_ext [MixerFwd.iblk, U6, idxF t, row, ftile]
  rw [e]
  exact z_at H _ _

theorem readF3 (H : Holds m c A) (t : Fin cfg0.N) (r : Fin 256) (j : Fin 512) :
    (MixerFwd.iblk (U6 m) c 3 t : S256x512.Idx → EReal) (ix2 r j) = ((A.zq (row (ftile t) r) j : ℝ) : EReal) := by
  have e : (MixerFwd.iblk (U6 m) c 3 t : S256x512.Idx → EReal) (ix2 r j) = (U6 m c main_v0 : S8192x6144.Idx → EReal) (ix2 (row (ftile t) r) ⟨3072 + j.val, by omega⟩) := by
    blk_ext [MixerFwd.iblk, U6, idxF t, row, ftile]
  rw [e]
  exact z_at H _ _

theorem readF4 (H : Holds m c A) (t : Fin cfg0.N) (r : Fin 256) (j : Fin 512) :
    (MixerFwd.iblk (U6 m) c 4 t : S256x512.Idx → EReal) (ix2 r j) = ((A.zk (row (ftile t) r) j : ℝ) : EReal) := by
  have e : (MixerFwd.iblk (U6 m) c 4 t : S256x512.Idx → EReal) (ix2 r j) = (U6 m c main_v0 : S8192x6144.Idx → EReal) (ix2 (row (ftile t) r) ⟨3584 + j.val, by omega⟩) := by
    blk_ext [MixerFwd.iblk, U6, idxF t, row, ftile]
  rw [e]
  exact z_at H _ _

theorem readF5 (H : Holds m c A) (t : Fin cfg0.N) (r : Fin 256) (j : Fin 1024) :
    (MixerFwd.iblk (U6 m) c 5 t : S256x1024.Idx → EReal) (ix2 r j) = ((A.zv (row (ftile t) r) j : ℝ) : EReal) := by
  have e : (MixerFwd.iblk (U6 m) c 5 t : S256x1024.Idx → EReal) (ix2 r j) = (U6 m c main_v0 : S8192x6144.Idx → EReal) (ix2 (row (ftile t) r) ⟨4096 + j.val, by omega⟩) := by
    blk_ext [MixerFwd.iblk, U6, idxF t, row, ftile]
  rw [e]
  exact z_at H _ _

theorem readF6 (H : Holds m c A) (t : Fin cfg0.N) (r : Fin 256) (j : Fin 1024) :
    (MixerFwd.iblk (U6 m) c 6 t : S256x1024.Idx → EReal) (ix2 r j) = ((A.zo (row (ftile t) r) j : ℝ) : EReal) := by
  have e : (MixerFwd.iblk (U6 m) c 6 t : S256x1024.Idx → EReal) (ix2 r j) = (U6 m c main_v0 : S8192x6144.Idx → EReal) (ix2 (row (ftile t) r) ⟨5120 + j.val, by omega⟩) := by
    blk_ext [MixerFwd.iblk, U6, idxF t, row, ftile]
  rw [e]
  exact z_at H _ _

theorem readF7 (H : Holds m c A) (t : Fin cfg0.N) (r : Fin 256) (j : Fin 128) :
    (MixerFwd.iblk (U6 m) c 7 t : S256x128.Idx → EReal) (ix2 r j) = ((A.al (row (ftile t) r) j : ℝ) : EReal) := by
  have e : (MixerFwd.iblk (U6 m) c 7 t : S256x128.Idx → EReal) (ix2 r j) = (U6 m c main_v2 : S8192x128.Idx → EReal) (ix2 (row (ftile t) r) j) := by
    blk_ext [MixerFwd.iblk, U6, idxF t, row, ftile]
  rw [e]
  exact al_at H _ _

theorem readF8 (H : Holds m c A) (t : Fin cfg0.N) (r : Fin 128) (j : Fin 512) :
    (MixerFwd.iblk (U6 m) c 8 t : S128x512.Idx → EReal) (ix2 r j) = ((A.wg r j : ℝ) : EReal) := by
  have e : (MixerFwd.iblk (U6 m) c 8 t : S128x512.Idx → EReal) (ix2 r j) = (U6 m c main_v4 : S128x512.Idx → EReal) (ix2 r j) := by
    blk_ext [MixerFwd.iblk, U6, idxF t, row, ftile]
  rw [e]
  exact wgu_at H _ _

theorem readF9 (H : Holds m c A) (t : Fin cfg0.N) (r : Fin 1) (j : Fin 512) :
    (MixerFwd.iblk (U6 m) c 9 t : S1x512.Idx → EReal) (ix2 r j) = ((A.bg j : ℝ) : EReal) := by
  have e : (MixerFwd.iblk (U6 m) c 9 t : S1x512.Idx → EReal) (ix2 r j) = (U6 m c main_arg2 : S1x512.Idx → EReal) (ix2 0 j) := by
    blk_ext [MixerFwd.iblk, U6, idxF t, row, ftile]
  rw [e]
  exact (congrFun V6_bg _).trans (H.bg _)

theorem readF11 (H : Holds m c A) (t : Fin cfg0.N) (r : Fin 1) (j : Fin 1024) :
    (MixerFwd.iblk (U6 m) c 11 t : S1x1024.Idx → EReal) (ix2 r j) = ((A.cg j : ℝ) : EReal) := by
  have e : (MixerFwd.iblk (U6 m) c 11 t : S1x1024.Idx → EReal) (ix2 r j) = (U6 m c main_arg4 : S1x1024.Idx → EReal) (ix2 0 j) := by
    blk_ext [MixerFwd.iblk, U6, idxF t, row, ftile]
  rw [e]
  exact (congrFun V6_cg _).trans (H.cg _)

theorem readF12 (H : Holds m c A) (t : Fin cfg0.N) (r : Fin 1) (j : Fin 256) :
    (MixerFwd.iblk (U6 m) c 12 t : S1x256.Idx → EReal) (ix2 r j) = ((A.gg j : ℝ) : EReal) := by
  have e : (MixerFwd.iblk (U6 m) c 12 t : S1x256.Idx → EReal) (ix2 r j) = (U6 m c main_arg5 : S1x256.Idx → EReal) (ix2 0 j) := by
    blk_ext [MixerFwd.iblk, U6, idxF t, row, ftile]
  rw [e]
  exact (congrFun V6_gg _).trans (H.gg _)

theorem readF10 (H : Holds m c A) (t : Fin cfg0.N) (k : Fin 3) (j : Fin 1024) :
    (MixerFwd.iblk (U6 m) c 10 t : S8x1024.Idx → EReal) (ix2 ⟨k.val, by omega⟩ j) = ((A.cw j k : ℝ) : EReal) := by
  have e : (MixerFwd.iblk (U6 m) c 10 t : S8x1024.Idx → EReal) (ix2 ⟨k.val, by omega⟩ j) = (U6 m c main_v6 : S8x1024.Idx → EReal) (ix2 ⟨k.val, by omega⟩ j) := by
    blk_ext [MixerFwd.iblk, U6, idxF t]
  rw [e]
  exact taps_at H _ _

end Cert.MixBlocks
end
-- ==== Proof.MixArr.lean ====
module

public import proofs.«01_k».proof.Proof.MixBlocks

@[expose] public section

set_option maxRecDepth 16384

noncomputable section

/-! The backward region's results, in what the points of its grid leave. -/

namespace Cert.MixArr

open Idealize.ShloMosaic Idealize.ShloMosaic.TcCoe Idealize.SL.Sem Cert.MixSpec Cert.MixTile Cert.MixBlocks
open Cert.MixerIdeal Cert.MixerIdeal.Gen Cert.MixerBwd

variable (V : (c : Dev nD) → (b : Ref sig .tc) → Buf (Elt Ideal) (c.tc.loc b)) (c : Dev nD)

/-- The point that does a row, and the row's place in its tile. -/
def pt (i : Fin 8192) : Fin cfg1.N := ⟨31 - i.val / 256, by have : cfg1.N = 32 := N_1; omega⟩
def pl (i : Fin 8192) : Fin 256 := ⟨i.val % 256, by omega⟩

theorem row_pt (i : Fin 8192) : row (tile (pt i)) (pl i) = i := Fin.ext (by simp only [row, tile, pt, pl]; omega)
theorem pt_row (t : Fin cfg1.N) (r : Fin 256) : pt (row (tile t) r) = t :=
  Fin.ext (by have h : t.val < 32 := t.isLt; simp only [row, tile, pt]; omega)
theorem pl_row (t : Fin cfg1.N) (r : Fin 256) : pl (row (tile t) r) = r := Fin.ext (by simp only [row, tile, pl]; omega)

theorem idxO (t : Fin cfg1.N) : win1_18.index t = ![31 - t.val, 0] ∧ win1_19.index t = ![31 - t.val, 0] := by
  revert t; decide +kernel

theorem arr_dz : (dat V c).arrAt 18 cfg1.N = fun y : S8192x6144.Idx => (left V c (pt (y 0)).val (pt (y 0)).isLt).dz (ix2 (pl (y 0)) (y 1)) := by
  refine (dat V c).arrAt_eq_of_covers 18 _ (by decide +kernel) fun t hf y => ?_
  blk_simp
  rw [after_18]
  idx_vars y
  have e : ((View.whole main_v8_0).slice (win1_18.rect t)).emb (ix2 y0 y1) = (ix2 (row (tile t) y0) y1 : S8192x6144.Idx) := by
    blk_ext [idxO t, row, tile]
  show _ = (fun y : S8192x6144.Idx => (left V c (pt (y 0)).val (pt (y 0)).isLt).dz (ix2 (pl (y 0)) (y 1))) (((View.whole main_v8_0).slice (win1_18.rect t)).emb (ix2 y0 y1))
  rw [e]
  show _ = (left V c (pt (row (tile t) y0)).val (pt (row (tile t) y0)).isLt).dz (ix2 (pl (row (tile t) y0)) y1)
  rw [pt_row, pl_row]

theorem arr_dzal : (dat V c).arrAt 19 cfg1.N = fun y : S8192x128.Idx => (left V c (pt (y 0)).val (pt (y 0)).isLt).dzal (ix2 (pl (y 0)) (y 1)) := by
  refine (dat V c).arrAt_eq_of_covers 19 _ (by decide +kernel) fun t hf y => ?_
  blk_simp
  rw [after_19]
  idx_vars y
  have e : ((View.whole main_v8_1).slice (win1_19.rect t)).emb (ix2 y0 y1) = (ix2 (row (tile t) y0) y1 : S8192x128.Idx) := by
    blk_ext [idxO t, row, tile]
  show _ = (fun y : S8192x128.Idx => (left V c (pt (y 0)).val (pt (y 0)).isLt).dzal (ix2 (pl (y 0)) (y 1))) (((View.whole main_v8_1).slice (win1_19.rect t)).emb (ix2 y0 y1))
  rw [e]
  show _ = (left V c (pt (row (tile t) y0)).val (pt (row (tile t) y0)).isLt).dzal (ix2 (pl (row (tile t) y0)) y1)
  rw [pt_row, pl_row]

/-- The last point. -/
def tLast : Fin cfg1.N := ⟨31, by decide +kernel⟩

theorem arr_dcw : (dat V c).arrAt 20 cfg1.N = (left V c tLast.val tLast.isLt).dcw :=
  (dat V c).arrAt_eq_of_after_last 20 tLast (by decide +kernel) _ fun j => by rw [after_20]; rfl
theorem arr_dcg : (dat V c).arrAt 21 cfg1.N = (left V c tLast.val tLast.isLt).dcg :=
  (dat V c).arrAt_eq_of_after_last 21 tLast (by decide +kernel) _ fun j => by rw [after_21]; rfl
theorem arr_dgg : (dat V c).arrAt 22 cfg1.N = (left V c tLast.val tLast.isLt).dgg :=
  (dat V c).arrAt_eq_of_after_last 22 tLast (by decide +kernel) _ fun j => by rw [after_22]; rfl
theorem arr_dbg : (dat V c).arrAt 23 cfg1.N = (left V c tLast.val tLast.isLt).dbg :=
  (dat V c).arrAt_eq_of_after_last 23 tLast (by decide +kernel) _ fun j => by rw [after_23]; rfl
theorem arr_dwgu : (dat V c).arrAt 24 cfg1.N = (left V c tLast.val tLast.isLt).dwgu :=
  (dat V c).arrAt_eq_of_after_last 24 tLast (by decide +kernel) _ fun j => by rw [after_24]; rfl

end Cert.MixArr

end
-- ==== Proof.MixConvBwd.lean ====
module

public import proofs.«01_k».proof.Proof.MixStep
public import proofs.«01_k».proof.Proof.MixPieces
public import proofs.«01_k».proof.Proof.MixArr

@[expose] public section

set_option maxRecDepth 16384

noncomputable section

/-! The convolution's gradients that the backward region leaves: in the projected input's first 3072 columns, the taps and the gain. -/

namespace Cert.MixConvBwd

open Idealize.ShloMosaic Idealize.ShloMosaic.TcCoe Idealize.SL.Sem Cert.Reals Cert.NormRow Cert.MixSpec Cert.MixTile Cert.MixLoads Cert.MixStep Cert.MixBlocks Cert.MixArr Cert.MixPieces Cert.Over
open Cert.MixerIdeal Cert.MixerIdeal.Gen Cert.MixerBwd Cert.MixerRun

variable {m : (ℓ : Loc nD τ sig) → Buf (Elt Ideal) ℓ} {c : Dev nD} {A : Args}

/-- A whole load reads its buffer. -/
theorem ld_all {R C : ℕ} {e : EltTy} (x : (⟨2, ![R, C]⟩ : Shape).Idx → Elt Ideal e) (inb) (r : Fin R) (j : Fin C) :
    View.ld x (Rect.unit (s := ⟨2, ![R, C]⟩) ![0, 0] ![R, C] inb) (ix2 r j) = x (ix2 r j) :=
  ld2 x inb r j r j (by omega) (by omega)

/-- The gradient of the projected input, its first 3072 columns. -/
def _root_.Cert.MixSpec.Args.dzc (A : Args) (i : Fin 8192) (j : Fin 3072) : ℝ :=
  if h0 : j.val < 1024 then A.dcb i ⟨j.val, h0⟩ else if h1 : j.val < 2048 then A.dcc i ⟨j.val - 1024, by omega⟩ else A.dch i ⟨j.val - 2048, by omega⟩

/-- What a tile adds to the taps' gradient. -/
def tapT (A : Args) (T : Fin 32) (k : Fin 8) (j : Fin 1024) : ℝ := if k.val < 3 then ∑ r, A.dconv (row T r) j * A.u (256 * T.val + r.val + k.val) j else 0

/-- What a tile adds to the gain's gradient. -/
def gainT (A : Args) (T : Fin 32) (g : Fin 8) (k : Fin 128) : ℝ := ∑ r, A.dyc (row T r) (col g k) * (A.seg (row T r) g k * rs 128 (A.seg (row T r) g))

/-! The pieces a point stores, of what it loads. -/
section pieces
variable {x : Loads} {T : Fin 32} (hi : ConvIn A T x.i x.cb x.cc x.ch x.ccp x.chp x.cw x.cg)
  (hd : ∀ g r k, x.dyc g (ix2 r k) = ((A.dyc (row T r) (col g k) : ℝ) : EReal))
include hi hd

theorem dz_at (hc : ∀ k j, x.carry (ix2 k j) = ((A.dc (256 * (T.val + 1) + k.val) j : ℝ) : EReal)) (r : Fin 256) (j : Fin 3072) :
    View.canon x.dz (ix2 r ⟨j.val, by omega⟩) = ((A.dzc (row T r) j : ℝ) : EReal) := by
  unfold Loads.dz Args.dzc
  split_ifs with h0 h1
  · repeat (refine (miss _ _ _ _ _ (by dsimp only; omega)).trans ?_)
    refine (hit _ _ _ r ⟨j.val, h0⟩ _ _ ?_ ?_).trans (dcb_at hi hd r _)
    · omega
    · dsimp only; omega
  · repeat (refine (miss _ _ _ _ _ (by dsimp only; omega)).trans ?_)
    refine (hit _ _ _ r ⟨j.val - 1024, by omega⟩ _ _ ?_ ?_).trans (dcc_at hi hd hc r _)
    · omega
    · dsimp only; omega
  · repeat (refine (miss _ _ _ _ _ (by dsimp only; omega)).trans ?_)
    refine (hit _ _ _ r ⟨j.val - 2048, by omega⟩ _ _ ?_ ?_).trans (dch_at hi hd hc r _)
    · omega
    · dsimp only; omega

theorem dcarry_at (z) (k : Fin 8) (j : Fin 1024) : over z x.dcarry (ix2 k j) = ((A.dc (256 * T.val + k.val) j : ℝ) : EReal) := by
  unfold Loads.dcarry
  refine (over_hit _ _ _ k j k j ?_ ?_).trans (carry_at hi hd k j) <;> omega

theorem dcw_over (z : Vec Ideal S8x1024 .f32) (hz : ∀ k j, x.acw k (ix2 0 j) = z (ix2 ⟨k.val, by omega⟩ j)) (k : Fin 8) (j : Fin 1024) :
    over z x.dcw (ix2 k j) = z (ix2 k j) + ((tapT A T k j : ℝ) : EReal) := by
  unfold Loads.dcw tapT
  by_cases h2 : k = 2
  · subst h2
    rw [if_pos (by decide)]
    refine (over_hit _ _ _ 0 j 2 j ?_ ?_).trans ((tap2_at hi hd _ j).trans (congrArg (fun x => x + _) (hz 2 j)))
    · rfl
    · omega
  by_cases h1 : k = 1
  · subst h1
    rw [if_pos (by decide)]
    refine (over_miss _ _ _ _ _ ?_).trans ((over_hit _ _ _ 0 j 1 j ?_ ?_).trans ((tap1_at hi hd _ j).trans (congrArg (fun x => x + _) (hz 1 j))))
    · exact Or.inl (by decide)
    · rfl
    · omega
  by_cases h0 : k = 0
  · subst h0
    rw [if_pos (by decide)]
    refine (over_miss _ _ _ _ _ ?_).trans ((over_miss _ _ _ _ _ ?_).trans ((over_hit _ _ _ 0 j 0 j ?_ ?_).trans ((tap0_at hi hd _ j).trans (congrArg (fun x => x + _) (hz 0 j)))))
    · exact Or.inl (by decide)
    · exact Or.inl (by decide)
    · rfl
    · omega
  · have hk : ¬ k.val < 3 := fun h => by
      have : k = 0 ∨ k = 1 ∨ k = 2 := by omega
      tauto
    rw [if_neg hk, EReal.coe_zero, add_zero (M := EReal)]
    refine (over_miss _ _ _ _ _ ?_).trans ((over_miss _ _ _ _ _ ?_).trans (over_miss _ _ _ _ _ ?_)) <;> omega

omit hi in
theorem dcg_over (hy : ∀ r j, x.y (ix2 r j) = ((A.ypre (row T r) j : ℝ) : EReal)) (z : Vec Ideal S1x1024 .f32)
    (hz : ∀ g k, x.acg g (ix2 0 k) = z (ix2 0 (col g k))) (g : Fin 8) (k : Fin 128) :
    over z x.dcg (ix2 0 (col g k)) = z (ix2 0 (col g k)) + ((gainT A T g k : ℝ) : EReal) := by
  have h := (gains_at (acc := x.acg) hy hd g k).trans (congrArg (fun x => x + _) (hz g k))
  refine Eq.trans ?_ h
  unfold Loads.dcg
  fin_cases g <;>
  · repeat (refine (over_miss _ _ _ _ _ (by simp only [col]; omega)).trans ?_)
    refine over_hit _ _ _ 0 k _ _ ?_ ?_ <;> rfl

end pieces

variable (H : Holds m c A)
include H

/-- What a point loads for the convolution. -/
theorem conv_in (t : Fin cfg1.N) (p : Left Ideal) :
    ConvIn A (tile t) (loads (U7 m) c t p).i (loads (U7 m) c t p).cb (loads (U7 m) c t p).cc (loads (U7 m) c t p).ch (loads (U7 m) c t p).ccp (loads (U7 m) c t p).chp
      (loads (U7 m) c t p).cw (loads (U7 m) c t p).cg where
  pt := ptB t
  cb r j := (ld_all _ _ r j).trans (readB0 H t r j)
  cc r j := (ld_all _ _ r j).trans (readB1 H t r j)
  ch r j := (ld_all _ _ r j).trans (readB2 H t r j)
  prev ht k j := by
    have h0 : 0 < (tile t).val := Nat.pos_of_ne_zero fun h => ht (Fin.ext h)
    have e : A.u (256 * (tile t).val + k.val - 6) j = A.cc ⟨256 * (tile t).val + k.val - 8, by omega⟩ j * A.ch ⟨256 * (tile t).val + k.val - 8, by omega⟩ j := by
      unfold Args.u
      rw [dif_pos (by omega)]
      have : 256 * (tile t).val + k.val - 6 - 2 = 256 * (tile t).val + k.val - 8 := by omega
      simp only [this]
    rw [e, EReal.coe_mul]
    exact congrArg₂ (HMul.hMul (α := EReal) (β := EReal)) ((ld_all _ _ k j).trans (readB7 H t ht k j)) ((ld_all _ _ k j).trans (readB8 H t ht k j))
  cw0 j := (ld_all _ _ 0 j).trans (readB15 H t 0 j)
  cw1 j := (ld_all _ _ 1 j).trans (readB15 H t 1 j)
  cw2 j := (ld_all _ _ 2 j).trans (readB15 H t 2 j)
  cg j := (ld_all _ _ 0 j).trans (readB16 H t 0 j)

theorem conv_dy (t : Fin cfg1.N) (p : Left Ideal) (g : Fin 8) (r : Fin 256) (k : Fin 128) :
    (loads (U7 m) c t p).dyc g (ix2 r k) = ((A.dyc (row (tile t) r) (col g k) : ℝ) : EReal) := by
  refine Eq.trans ?_ (readB10 H t r ⟨128 * g.val + k.val, by omega⟩)
  fin_cases g
  · have e : (loads (U7 m) c t p).dyc 0 = View.ld (iblk (U7 m) c 10 t) (Rect.unit ![0, 0] ![256, 128] inb_S256x2048_S256x128_0_0) := by sl_kernel_rfl
    exact (congrFun e _).trans (ld2 (iblk (U7 m) c 10 t) inb_S256x2048_S256x128_0_0 r k r _ (Nat.zero_add _).symm rfl)
  · have e : (loads (U7 m) c t p).dyc 1 = View.ld (iblk (U7 m) c 10 t) (Rect.unit ![0, 128] ![256, 128] inb_S256x2048_S256x128_0_128) := by sl_kernel_rfl
    exact (congrFun e _).trans (ld2 (iblk (U7 m) c 10 t) inb_S256x2048_S256x128_0_128 r k r _ (Nat.zero_add _).symm rfl)
  · have e : (loads (U7 m) c t p).dyc 2 = View.ld (iblk (U7 m) c 10 t) (Rect.unit ![0, 256] ![256, 128] inb_S256x2048_S256x128_0_256) := by sl_kernel_rfl
    exact (congrFun e _).trans (ld2 (iblk (U7 m) c 10 t) inb_S256x2048_S256x128_0_256 r k r _ (Nat.zero_add _).symm rfl)
  · have e : (loads (U7 m) c t p).dyc 3 = View.ld (iblk (U7 m) c 10 t) (Rect.unit ![0, 384] ![256, 128] inb_S256x2048_S256x128_0_384) := by sl_kernel_rfl
    exact (congrFun e _).trans (ld2 (iblk (U7 m) c 10 t) inb_S256x2048_S256x128_0_384 r k r _ (Nat.zero_add _).symm rfl)
  · have e : (loads (U7 m) c t p).dyc 4 = View.ld (iblk (U7 m) c 10 t) (Rect.unit ![0, 512] ![256, 128] inb_S256x2048_S256x128_0_512) := by sl_kernel_rfl
    exact (congrFun e _).trans (ld2 (iblk (U7 m) c 10 t) inb_S256x2048_S256x128_0_512 r k r _ (Nat.zero_add _).symm rfl)
  · have e : (loads (U7 m) c t p).dyc 5 = View.ld (iblk (U7 m) c 10 t) (Rect.unit ![0, 640] ![256, 128] inb_S256x2048_S256x128_0_640) := by sl_kernel_rfl
    exact (congrFun e _).trans (ld2 (iblk (U7 m) c 10 t) inb_S256x2048_S256x128_0_640 r k r _ (Nat.zero_add _).symm rfl)
  · have e : (loads (U7 m) c t p).dyc 6 = View.ld (iblk (U7 m) c 10 t) (Rect.unit ![0, 768] ![256, 128] inb_S256x2048_S256x128_0_768) := by sl_kernel_rfl
    exact (congrFun e _).trans (ld2 (iblk (U7 m) c 10 t) inb_S256x2048_S256x128_0_768 r k r _ (Nat.zero_add _).symm rfl)
  · have e : (loads (U7 m) c t p).dyc 7 = View.ld (iblk (U7 m) c 10 t) (Rect.unit ![0, 896] ![256, 128] inb_S256x2048_S256x128_0_896) := by sl_kernel_rfl
    exact (congrFun e _).trans (ld2 (iblk (U7 m) c 10 t) inb_S256x2048_S256x128_0_896 r k r _ (Nat.zero_add _).symm rfl)

theorem acw_in (t : Fin cfg1.N) (p : Left Ideal) (k : Fin 3) (j : Fin 1024) : (loads (U7 m) c t p).acw k (ix2 0 j) = p.dcw (ix2 ⟨k.val, by omega⟩ j) := by
  fin_cases k
  · have e : (loads (U7 m) c t p).acw 0 = View.ld p.dcw (Rect.unit ![0, 0] ![1, 1024] inb_S8x1024_S1x1024_0_0) := by sl_kernel_rfl
    exact (congrFun e _).trans (ld2 p.dcw inb_S8x1024_S1x1024_0_0 0 j _ j rfl (Nat.zero_add _).symm)
  · have e : (loads (U7 m) c t p).acw 1 = View.ld p.dcw (Rect.unit ![1, 0] ![1, 1024] inb_S8x1024_S1x1024_1_0) := by sl_kernel_rfl
    exact (congrFun e _).trans (ld2 p.dcw inb_S8x1024_S1x1024_1_0 0 j _ j rfl (Nat.zero_add _).symm)
  · have e : (loads (U7 m) c t p).acw 2 = View.ld p.dcw (Rect.unit ![2, 0] ![1, 1024] inb_S8x1024_S1x1024_2_0) := by sl_kernel_rfl
    exact (congrFun e _).trans (ld2 p.dcw inb_S8x1024_S1x1024_2_0 0 j _ j rfl (Nat.zero_add _).symm)

theorem acg_in (t : Fin cfg1.N) (p : Left Ideal) (g : Fin 8) (k : Fin 128) : (loads (U7 m) c t p).acg g (ix2 0 k) = p.dcg (ix2 0 (col g k)) := by
  fin_cases g
  · have e : (loads (U7 m) c t p).acg 0 = View.ld p.dcg (Rect.unit ![0, 0] ![1, 128] inb_S1x1024_S1x128_0_0) := by sl_kernel_rfl
    exact (congrFun e _).trans (ld2 p.dcg inb_S1x1024_S1x128_0_0 0 k 0 _ rfl rfl)
  · have e : (loads (U7 m) c t p).acg 1 = View.ld p.dcg (Rect.unit ![0, 128] ![1, 128] inb_S1x1024_S1x128_0_128) := by sl_kernel_rfl
    exact (congrFun e _).trans (ld2 p.dcg inb_S1x1024_S1x128_0_128 0 k 0 _ rfl rfl)
  · have e : (loads (U7 m) c t p).acg 2 = View.ld p.dcg (Rect.unit ![0, 256] ![1, 128] inb_S1x1024_S1x128_0_256) := by sl_kernel_rfl
    exact (congrFun e _).trans (ld2 p.dcg inb_S1x1024_S1x128_0_256 0 k 0 _ rfl rfl)
  · have e : (loads (U7 m) c t p).acg 3 = View.ld p.dcg (Rect.unit ![0, 384] ![1, 128] inb_S1x1024_S1x128_0_384) := by sl_kernel_rfl
    exact (congrFun e _).trans (ld2 p.dcg inb_S1x1024_S1x128_0_384 0 k 0 _ rfl rfl)
  · have e : (loads (U7 m) c t p).acg 4 = View.ld p.dcg (Rect.unit ![0, 512] ![1, 128] inb_S1x1024_S1x128_0_512) := by sl_kernel_rfl
    exact (congrFun e _).trans (ld2 p.dcg inb_S1x1024_S1x128_0_512 0 k 0 _ rfl rfl)
  · have e : (loads (U7 m) c t p).acg 5 = View.ld p.dcg (Rect.unit ![0, 640] ![1, 128] inb_S1x1024_S1x128_0_640) := by sl_kernel_rfl
    exact (congrFun e _).trans (ld2 p.dcg inb_S1x1024_S1x128_0_640 0 k 0 _ rfl rfl)
  · have e : (loads (U7 m) c t p).acg 6 = View.ld p.dcg (Rect.unit ![0, 768] ![1, 128] inb_S1x1024_S1x128_0_768) := by sl_kernel_rfl
    exact (congrFun e _).trans (ld2 p.dcg inb_S1x1024_S1x128_0_768 0 k 0 _ rfl rfl)
  · have e : (loads (U7 m) c t p).acg 7 = View.ld p.dcg (Rect.unit ![0, 896] ![1, 128] inb_S1x1024_S1x128_0_896) := by sl_kernel_rfl
    exact (congrFun e _).trans (ld2 p.dcg inb_S1x1024_S1x128_0_896 0 k 0 _ rfl rfl)

/-- What is carried into a point from the tile below. -/
def Carried (A : Args) (t : Fin cfg1.N) (p : Left Ideal) : Prop := ∀ (k : Fin 8) (j : Fin 1024), p.dcarry (ix2 k j) = ((A.dc (256 * ((tile t).val + 1) + k.val) j : ℝ) : EReal)

theorem carry_in {t : Fin cfg1.N} {p : Left Ideal} (hp : Carried A t p) (k : Fin 8) (j : Fin 1024) :
    (loads (U7 m) c t p).carry (ix2 k j) = ((A.dc (256 * ((tile t).val + 1) + k.val) j : ℝ) : EReal) :=
  (ld_all _ _ k j).trans (hp k j)

attribute [local irreducible] loads Loads.dz Loads.dcw Loads.dcg Loads.dcarry

theorem carried (t : Fin cfg1.N) : Carried A t (prev (U7 m) c t) := fun k j => by
  by_cases h : t.val = 0
  · have : tile t = 31 := Fin.ext (by simp [tile, h])
    rw [prev_first _ _ _ h]
    unfold Args.dc
    rw [dif_neg (by rw [this]; omega)]
    show k1_pay3 (F := Ideal) (ix2 k j) = _
    pointwise [k1_pay3]
    simp [Ideal.ofBits, Ideal.ieee]
  · have hN : t.val < 32 := t.isLt
    rw [prev_later _ _ _ h]
    let s : Fin cfg1.N := ⟨t.val - 1, Nat.lt_of_le_of_lt (Nat.sub_le _ _) t.isLt⟩
    have es : (tile s).val = (tile t).val + 1 := by simp only [tile, s]; omega
    rw [← es, show left (U7 m) c (t.val - 1) _ = _ from left_eq (U7 m) c s]
    exact dcarry_at (x := loads (U7 m) c s (prev (U7 m) c s)) (conv_in H s _) (conv_dy H s _) _ k j

theorem dz_conv (i : Fin 8192) (j : Fin 3072) :
    (left (U7 m) c (pt i).val (pt i).isLt).dz (ix2 (pl i) ⟨j.val, by omega⟩) = ((A.dzc i j : ℝ) : EReal) := by
  have h := dz_at (x := loads (U7 m) c (pt i) (prev (U7 m) c (pt i))) (conv_in H (pt i) (prev (U7 m) c (pt i))) (conv_dy H (pt i) _) (carry_in H (carried H (pt i))) (pl i) j
  rw [row_pt] at h
  rw [left_eq]
  exact h

theorem dcw_step (t : Fin cfg1.N) (k : Fin 8) (j : Fin 1024) :
    (left (U7 m) c t.val t.isLt).dcw (ix2 k j) = (prev (U7 m) c t).dcw (ix2 k j) + ((tapT A (tile t) k j : ℝ) : EReal) := by
  rw [left_eq]
  exact dcw_over (x := loads (U7 m) c t (prev (U7 m) c t)) (conv_in H t _) (conv_dy H t _) _ (acw_in H t _) k j

theorem dcg_step (t : Fin cfg1.N) (g : Fin 8) (k : Fin 128) :
    (left (U7 m) c t.val t.isLt).dcg (ix2 0 (col g k)) = (prev (U7 m) c t).dcg (ix2 0 (col g k)) + ((gainT A (tile t) g k : ℝ) : EReal) := by
  rw [left_eq]
  exact dcg_over (x := loads (U7 m) c t (prev (U7 m) c t)) (conv_dy H t _) (ypre_at (conv_in H t _)) _ (acg_in H t _) g k

omit H in
/-- A sum over the tiles, the lowest last. -/
theorem sum_tiles (g : Fin 8192 → ℝ) : ∑ p : Fin cfg1.N, ∑ r, g (row (tile p) r) = ∑ i, g i := by
  rw [← Fintype.sum_prod_type' (fun (p : Fin cfg1.N) r => g (row (tile p) r))]
  exact Fintype.sum_bijective (fun x : Fin cfg1.N × Fin 256 => row (tile x.1) x.2)
    ⟨fun x y h => Prod.ext ((pt_row x.1 x.2).symm.trans ((congrArg pt h).trans (pt_row y.1 y.2))) ((pl_row x.1 x.2).symm.trans ((congrArg pl h).trans (pl_row y.1 y.2))),
      fun i => ⟨(pt i, pl i), row_pt i⟩⟩ _ _ fun x => rfl

/-- The taps' gradient, on eight rows. -/
theorem dcw_at (k : Fin 8) (j : Fin 1024) :
    (left (U7 m) c tLast.val tLast.isLt).dcw (ix2 k j) = ((if h : k.val < 3 then A.dtap ⟨k.val, h⟩ j else 0 : ℝ) : EReal) := by
  have e := Pipeline.eq_sum_fin_of_reset_step_apply_last (fun n h => fun i : Fin 8 × Fin 1024 => (left (U7 m) c n h).dcw (ix2 i.1 i.2)) 32 (fun _ => 0)
    (fun t i => ((tapT A (tile t) i.1 i.2 : ℝ) : EReal))
    (fun t h i => by
      have h0 : t.val = 0 := by have : t.val < 32 := t.isLt; omega
      refine (dcw_step H t i.1 i.2).trans (congrArg (fun x => x + _) ?_)
      rw [prev_first _ _ _ h0]
      show k1_pay5 (F := Ideal) (ix2 i.1 i.2) = 0
      pointwise [k1_pay5]
      try simp [Ideal.ofBits, Ideal.ieee])
    (fun t h i => by
      have h0 : t.val ≠ 0 := fun e => h (by rw [e])
      refine (dcw_step H t i.1 i.2).trans (congrArg (fun x => x + _) ?_)
      rw [prev_later _ _ _ h0])
    (le_of_eq N_1) tLast rfl (k, j)
  refine e.trans ?_
  rw [zero_add, coe_sum]
  refine congrArg _ ?_
  unfold tapT
  split_ifs with h
  · exact sum_tiles fun i => A.dconv i j * A.u (i.val + k.val) j
  · simp

/-- The gain's gradient. -/
theorem dcg_at (g : Fin 8) (k : Fin 128) :
    (left (U7 m) c tLast.val tLast.isLt).dcg (ix2 0 (col g k)) = ((A.dgain g k : ℝ) : EReal) := by
  have e := Pipeline.eq_sum_fin_of_reset_step_apply_last (fun n h => fun i : Fin 8 × Fin 128 => (left (U7 m) c n h).dcg (ix2 0 (col i.1 i.2))) 32 (fun _ => 0)
    (fun t i => ((gainT A (tile t) i.1 i.2 : ℝ) : EReal))
    (fun t h i => by
      have h0 : t.val = 0 := by have : t.val < 32 := t.isLt; omega
      refine (dcg_step H t i.1 i.2).trans (congrArg (fun x => x + _) ?_)
      rw [prev_first _ _ _ h0]
      show k1_pay6 (F := Ideal) (ix2 0 (col i.1 i.2)) = 0
      pointwise [k1_pay6]
      try simp [Ideal.ofBits, Ideal.ieee])
    (fun t h i => by
      have h0 : t.val ≠ 0 := fun e => h (by rw [e])
      refine (dcg_step H t i.1 i.2).trans (congrArg (fun x => x + _) ?_)
      rw [prev_later _ _ _ h0])
    (le_of_eq N_1) tLast rfl (g, k)
  refine e.trans ?_
  rw [zero_add, coe_sum]
  exact congrArg _ (sum_tiles fun i => A.dyc i (col g k) * (A.seg i g k * rs 128 (A.seg i g)))

end Cert.MixConvBwd

end
-- ==== Proof.MixFwdLoads.lean ====
module

public import proofs.«01_k».proof.Proof.MixStep

@[expose] public section

set_option maxRecDepth 16384

noncomputable section

/-! What one run of the forward body computes, as a function of what it loads.  The same at the first point of the grid
(where the carried rows and the carried state are zeros) and at the later ones. -/

namespace Cert.MixFwd

open Idealize.ShloMosaic Idealize.SL.Sem Cert.MixLoads Cert.MixStep Cert.Over
open Cert.MixerIdeal Cert.MixerIdeal.Gen Cert.MixerFwd

/-- What one run of the forward body loads: the operands, the carried rows and the carried state. -/
structure Loads where
  cb : Vec Ideal S256x1024 .f32
  cc : Vec Ideal S256x1024 .f32
  ch : Vec Ideal S256x1024 .f32
  q : Vec Ideal S256x512 .f32
  k : Vec Ideal S256x512 .f32
  v : Vec Ideal S256x1024 .f32
  og : Fin 4 → Vec Ideal S256x256 .f32
  al : Vec Ideal S256x128 .f32
  wgu : Vec Ideal S128x512 .bf16
  bg : Vec Ideal S1x512 .f32
  cw : Vec Ideal S8x1024 .f32
  cg : Vec Ideal S1x1024 .f32
  gg : Vec Ideal S1x256 .f32
  carry : Vec Ideal S8x1024 .f32
  st : Fin 4 → Vec Ideal S1x256x128 .f32

namespace Loads

variable (x : Loads)

/-! The decays, the decayed keys and the states after each chunk: chunk, head. -/

abbrev qs := k0_pay23 (F := Ideal) x.q
abbrev la := k0_pay20 (F := Ideal) (iota Kind.tc S256x256 32 [0] iota_S256x256_d0_w32) (iota Kind.tc S256x256 32 [1] iota_S256x256_d1_w32) k0_pay18 k0_pay19 x.al x.wgu x.bg
abbrev dec := k0_pay21 (F := Ideal) x.la
abbrev kdec := k0_pay22 (F := Ideal) x.la x.k
abbrev vb := k0_pay24 (F := Ideal) x.v
abbrev kv00 := k0_pay25 (F := Ideal) x.la x.k x.v
abbrev kv01 := k0_pay26 (F := Ideal) x.la x.k x.v
abbrev kv02 := k0_pay27 (F := Ideal) x.la x.k x.v
abbrev kv03 := k0_pay28 (F := Ideal) x.la x.k x.v
abbrev kv10 := k0_pay29 (F := Ideal) x.la x.k x.v
abbrev kv11 := k0_pay30 (F := Ideal) x.la x.k x.v
abbrev kv12 := k0_pay31 (F := Ideal) x.la x.k x.v
abbrev kv13 := k0_pay32 (F := Ideal) x.la x.k x.v
abbrev kv20 := k0_pay35 (F := Ideal) (k0_pay33 x.v) (k0_pay34 x.la x.k)
abbrev kv21 := k0_pay36 (F := Ideal) x.kdec x.vb
abbrev kv22 := k0_pay37 (F := Ideal) x.kdec x.vb
abbrev kv23 := k0_pay38 (F := Ideal) x.kdec x.vb
abbrev kv30 := k0_pay39 (F := Ideal) x.kdec x.vb
abbrev kv31 := k0_pay40 (F := Ideal) x.kdec x.vb
abbrev kv32 := k0_pay41 (F := Ideal) x.kdec x.vb
abbrev kv33 := k0_pay42 (F := Ideal) x.kdec x.vb
abbrev p2 := k0_pay43 (F := Ideal) (x.st 2)
abbrev p3 := k0_pay44 (F := Ideal) (x.st 3)
abbrev d2 := k0_pay47 (F := Ideal) x.dec
abbrev s00 := k0_pay45 (F := Ideal) x.dec x.kv00 (x.st 0)
abbrev s01 := k0_pay46 (F := Ideal) x.dec x.kv01 (x.st 1)
abbrev s02 := k0_pay48 (F := Ideal) x.kv02 x.p2 x.d2
abbrev s03 := k0_pay49 (F := Ideal) x.dec x.kv03 x.p3
abbrev s10 := k0_pay54 (F := Ideal) x.dec x.kv10 x.s00
abbrev s11 := k0_pay55 (F := Ideal) x.dec x.kv11 x.s01
abbrev s12 := k0_pay56 (F := Ideal) x.dec x.kv02 x.kv12 x.p2 x.d2
abbrev s13 := k0_pay57 (F := Ideal) x.dec x.kv03 x.kv13 x.p3
abbrev s20 := k0_pay62 (F := Ideal) x.dec x.kv20 x.s10
abbrev s21 := k0_pay63 (F := Ideal) x.dec x.kv21 x.s11
abbrev s22 := k0_pay64 (F := Ideal) x.dec x.kv22 x.s12
abbrev s23 := k0_pay65 (F := Ideal) x.dec x.kv23 x.s13
abbrev s30 := k0_pay70 (F := Ideal) x.dec x.kv30 x.s20
abbrev s31 := k0_pay71 (F := Ideal) x.dec x.kv31 x.s21
abbrev s32 := k0_pay72 (F := Ideal) x.dec x.kv32 x.s22
abbrev s33 := k0_pay73 (F := Ideal) x.dec x.kv33 x.s23
abbrev yp := k0_pay6 (F := Ideal) x.cc x.ch x.carry x.cw x.cb

/-! What is stored, the last store first. -/

def y : List (View.Piece (Elt Ideal) S256x2048 .bf16) :=
  [⟨Rect.unit ![0, 1792] ![256, 256] inb_S256x2048_S256x256_0_1792, k0_pay1 x.gg (k0_pay89 x.qs x.s03 x.s13 x.s23 x.s33) (k0_pay90 x.qs x.s03 x.s13 x.s23 x.s33) (x.og 3)⟩,
   ⟨Rect.unit ![0, 1536] ![256, 256] inb_S256x2048_S256x256_0_1536, k0_pay88 x.qs x.gg x.s12 x.s22 x.s32 (k0_pay86 x.qs) (k0_pay87 x.s02) (x.og 2)⟩,
   ⟨Rect.unit ![0, 1280] ![256, 256] inb_S256x2048_S256x256_0_1280, k0_pay85 x.qs x.gg x.s01 x.s11 x.s21 x.s31 (x.og 1)⟩,
   ⟨Rect.unit ![0, 1024] ![256, 256] inb_S256x2048_S256x256_0_1024, k0_pay84 x.gg (k0_pay82 x.qs x.s00 x.s10 x.s20 x.s30) (k0_pay83 x.qs x.s00 x.s10 x.s20 x.s30) (x.og 0)⟩,
   ⟨Rect.unit ![0, 896] ![256, 128] inb_S256x2048_S256x128_0_896, k0_pay17 x.yp x.cg⟩,
   ⟨Rect.unit ![0, 768] ![256, 128] inb_S256x2048_S256x128_0_768, k0_pay16 x.yp x.cg⟩,
   ⟨Rect.unit ![0, 640] ![256, 128] inb_S256x2048_S256x128_0_640, k0_pay15 x.cg (k0_pay14 x.yp)⟩,
   ⟨Rect.unit ![0, 512] ![256, 128] inb_S256x2048_S256x128_0_512, k0_pay13 x.yp x.cg⟩,
   ⟨Rect.unit ![0, 384] ![256, 128] inb_S256x2048_S256x128_0_384, k0_pay12 x.yp x.cg⟩,
   ⟨Rect.unit ![0, 256] ![256, 128] inb_S256x2048_S256x128_0_256, k0_pay11 x.yp x.cg⟩,
   ⟨Rect.unit ![0, 128] ![256, 128] inb_S256x2048_S256x128_0_128, k0_pay10 x.yp x.cg⟩,
   ⟨Rect.unit ![0, 0] ![256, 128] inb_S256x2048_S256x128_0_0, k0_pay9 x.cg (k0_pay7 x.cc x.ch x.carry x.cw x.cb) (k0_pay8 x.cc x.ch x.carry x.cw x.cb)⟩]
def sall : List (View.Piece (Elt Ideal) S4x4x256x128 .f32) :=
  [⟨Rect.unit ![3, 3, 0, 0] ![1, 1, 256, 128] inb_S4x4x256x128_S1x1x256x128_3_3_0_0, k0_pay77 x.s33⟩,
   ⟨Rect.unit ![3, 2, 0, 0] ![1, 1, 256, 128] inb_S4x4x256x128_S1x1x256x128_3_2_0_0, k0_pay76 x.dec x.kv32 x.s22⟩,
   ⟨Rect.unit ![3, 1, 0, 0] ![1, 1, 256, 128] inb_S4x4x256x128_S1x1x256x128_3_1_0_0, k0_pay75 x.dec x.kv31 x.s21⟩,
   ⟨Rect.unit ![3, 0, 0, 0] ![1, 1, 256, 128] inb_S4x4x256x128_S1x1x256x128_3_0_0_0, k0_pay74 x.dec x.kv30 x.s20⟩,
   ⟨Rect.unit ![2, 3, 0, 0] ![1, 1, 256, 128] inb_S4x4x256x128_S1x1x256x128_2_3_0_0, k0_pay69 x.s23⟩,
   ⟨Rect.unit ![2, 2, 0, 0] ![1, 1, 256, 128] inb_S4x4x256x128_S1x1x256x128_2_2_0_0, k0_pay68 x.s22⟩,
   ⟨Rect.unit ![2, 1, 0, 0] ![1, 1, 256, 128] inb_S4x4x256x128_S1x1x256x128_2_1_0_0, k0_pay67 x.dec x.kv21 x.s11⟩,
   ⟨Rect.unit ![2, 0, 0, 0] ![1, 1, 256, 128] inb_S4x4x256x128_S1x1x256x128_2_0_0_0, k0_pay66 x.dec x.kv20 x.s10⟩,
   ⟨Rect.unit ![1, 3, 0, 0] ![1, 1, 256, 128] inb_S4x4x256x128_S1x1x256x128_1_3_0_0, k0_pay61 x.s13⟩,
   ⟨Rect.unit ![1, 2, 0, 0] ![1, 1, 256, 128] inb_S4x4x256x128_S1x1x256x128_1_2_0_0, k0_pay60 x.s12⟩,
   ⟨Rect.unit ![1, 1, 0, 0] ![1, 1, 256, 128] inb_S4x4x256x128_S1x1x256x128_1_1_0_0, k0_pay59 x.s11⟩,
   ⟨Rect.unit ![1, 0, 0, 0] ![1, 1, 256, 128] inb_S4x4x256x128_S1x1x256x128_1_0_0_0, k0_pay58 x.s10⟩,
   ⟨Rect.unit ![0, 3, 0, 0] ![1, 1, 256, 128] inb_S4x4x256x128_S1x1x256x128_0_3_0_0, k0_pay53 x.dec x.kv03 x.p3⟩,
   ⟨Rect.unit ![0, 2, 0, 0] ![1, 1, 256, 128] inb_S4x4x256x128_S1x1x256x128_0_2_0_0, k0_pay52 x.kv02 x.p2 x.d2⟩,
   ⟨Rect.unit ![0, 1, 0, 0] ![1, 1, 256, 128] inb_S4x4x256x128_S1x1x256x128_0_1_0_0, k0_pay51 x.s01⟩,
   ⟨Rect.unit ![0, 0, 0, 0] ![1, 1, 256, 128] inb_S4x4x256x128_S1x1x256x128_0_0_0_0, k0_pay50 x.s00⟩]
def carryl : List (View.Piece (Elt Ideal) S8x1024 .f32) := [⟨Rect.unit ![0, 0] ![8, 1024] inb_S8x1024_S8x1024_0_0, k0_pay5 x.cc x.ch⟩]
def sl : List (View.Piece (Elt Ideal) S4x256x128 .f32) :=
  [⟨Rect.unit ![3, 0, 0] ![1, 256, 128] inb_S4x256x128_S1x256x128_3_0_0, k0_pay81 x.s33⟩,
   ⟨Rect.unit ![2, 0, 0] ![1, 256, 128] inb_S4x256x128_S1x256x128_2_0_0, k0_pay80 x.s32⟩,
   ⟨Rect.unit ![1, 0, 0] ![1, 256, 128] inb_S4x256x128_S1x256x128_1_0_0, k0_pay79 x.s31⟩,
   ⟨Rect.unit ![0, 0, 0] ![1, 256, 128] inb_S4x256x128_S1x256x128_0_0_0, k0_pay78 x.s30⟩]

end Loads

variable (V : (c : Dev nD) → (b : Ref sig .tc) → Buf (Elt Ideal) (c.tc.loc b))

/-- What the run at a point loads, when the buffers that pass from point to point hold `p`. -/
def loads (c : Dev nD) (t : Fin cfg0.N) (p : Left Ideal) : Loads where
  cb := View.ld (iblk V c 0 t) (Rect.unit ![0, 0] ![256, 1024] inb_S256x1024_S256x1024_0_0)
  cc := View.ld (iblk V c 1 t) (Rect.unit ![0, 0] ![256, 1024] inb_S256x1024_S256x1024_0_0)
  ch := View.ld (iblk V c 2 t) (Rect.unit ![0, 0] ![256, 1024] inb_S256x1024_S256x1024_0_0)
  q := View.ld (iblk V c 3 t) (Rect.unit ![0, 0] ![256, 512] inb_S256x512_S256x512_0_0)
  k := View.ld (iblk V c 4 t) (Rect.unit ![0, 0] ![256, 512] inb_S256x512_S256x512_0_0)
  v := View.ld (iblk V c 5 t) (Rect.unit ![0, 0] ![256, 1024] inb_S256x1024_S256x1024_0_0)
  og := ![View.ld (iblk V c 6 t) (Rect.unit ![0, 0] ![256, 256] inb_S256x1024_S256x256_0_0), View.ld (iblk V c 6 t) (Rect.unit ![0, 256] ![256, 256] inb_S256x1024_S256x256_0_256), View.ld (iblk V c 6 t) (Rect.unit ![0, 512] ![256, 256] inb_S256x1024_S256x256_0_512), View.ld (iblk V c 6 t) (Rect.unit ![0, 768] ![256, 256] inb_S256x1024_S256x256_0_768)]
  al := View.ld (iblk V c 7 t) (Rect.unit ![0, 0] ![256, 128] inb_S256x128_S256x128_0_0)
  wgu := View.ld (iblk V c 8 t) (Rect.unit ![0, 0] ![128, 512] inb_S128x512_S128x512_0_0)
  bg := View.ld (iblk V c 9 t) (Rect.unit ![0, 0] ![1, 512] inb_S1x512_S1x512_0_0)
  cw := View.ld (iblk V c 10 t) (Rect.unit ![0, 0] ![8, 1024] inb_S8x1024_S8x1024_0_0)
  cg := View.ld (iblk V c 11 t) (Rect.unit ![0, 0] ![1, 1024] inb_S1x1024_S1x1024_0_0)
  gg := View.ld (iblk V c 12 t) (Rect.unit ![0, 0] ![1, 256] inb_S1x256_S1x256_0_0)
  carry := View.ld (p.carry) (Rect.unit ![0, 0] ![8, 1024] inb_S8x1024_S8x1024_0_0)
  st := ![View.ld (p.s) (Rect.unit ![0, 0, 0] ![1, 256, 128] inb_S4x256x128_S1x256x128_0_0_0), View.ld (p.s) (Rect.unit ![1, 0, 0] ![1, 256, 128] inb_S4x256x128_S1x256x128_1_0_0), View.ld (p.s) (Rect.unit ![2, 0, 0] ![1, 256, 128] inb_S4x256x128_S1x256x128_2_0_0), View.ld (p.s) (Rect.unit ![3, 0, 0] ![1, 256, 128] inb_S4x256x128_S1x256x128_3_0_0)]

/-- What the first point puts into the buffers that pass from point to point before it loads them: zeros. -/
def zeros (c : Dev nD) (t : Fin cfg0.N) (h : t.val = 0) : Left Ideal :=
  { leftFirst V c t h with carry := k0_pay2 (F := Ideal), s := k0_pay3 (F := Ideal) }

set_option maxHeartbeats 4000000 in
/-- What a later point stores. -/
theorem laterAt_eq (c : Dev nD) (t : Fin cfg0.N) (h : t.val ≠ 0) (p : Left Ideal) :
    (laterAt V c t h p).1 = (loads V c t p).y ∧
    (laterAt V c t h p).2.1 = (loads V c t p).sall ∧
    (laterAt V c t h p).2.2.1 = (loads V c t p).carryl ∧
    (laterAt V c t h p).2.2.2.1 = (loads V c t p).sl := by
  have hs0 : (View.whole cc0_scratch0).read (Elt Ideal) ((Memref.isWhole_whole _ : sc0.IsWhole).unread p.carry) = p.carry := Memref.IsWhole.read_unread _ _
  have hs1 : (View.whole cc0_scratch1).read (Elt Ideal) ((Memref.isWhole_whole _ : sc1.IsWhole).unread p.s) = p.s := Memref.IsWhole.read_unread _ _

  unfold laterAt runLater
  dsimp only
  simp only [runLater.sl.r, runLater.sl.r_1, runLater.sl.r_2, runLater.sl.r_3, runLater.sl.r_4, runLater.sl.r_5, runLater.sl.r_6, runLater.sl.r_7, runLater.sl.r_8, runLater.sl.r_9,
    runLater.sl.r_10, runLater.sl.r_11, runLater.sl.r_12, runLater.sl.r_13, runLater.sl.r_14, runLater.sl.r_15, runLater.sl.r_16, runLater.sl.r_17, runLater.sl.r_18,
    runLater.sl.r_19, runLater.sl.r_20, runLater.sl.r_21, runLater.sl.r_22, runLater.sl.r_23, runLater.sl.r_24, runLater.sl.r_25, runLater.sl.r_26, runLater.sl.r_27,
    runLater.sl.r_28, runLater.sl.r_29, runLater.sl.r_30, runLater.sl.r_31, runLater.sl.r_32, runLater.sl.r_33, runLater.sl.r_34, runLater.sl.r_35, runLater.sl.r_36,
    runLater.sl.r_37, runLater.sl.r_38, runLater.sl.r_39, runLater.sl.r_40, runLater.sl.r_41, runLater.sl.r_42, runLater.sl.r_43, runLater.sl.r_44, runLater.sl.r_45,
    runLater.sl.r_46, runLater.sl.r_47, runLater.sl.r_48, runLater.sl.r_49, runLater.sl.r_50, runLater.sl.r_51, runLater.sl.r_52, runLater.sl.r_53, runLater.sl.r_54,
    runLater.sl.v0, runLater.sl.v1, runLater.sl.v2, runLater.sl.v163, runLater.sl.v164, View.readAt_eq_ld, Memref.IsWhole.read_unread, hs0, hs1]
  refine ⟨?_, ?_, ?_, ?_⟩ <;> sl_kernel_rfl

set_option maxHeartbeats 4000000 in
/-- What the first point stores: zeros, then as a later point that holds them. -/
theorem firstAt_eq (c : Dev nD) (t : Fin cfg0.N) (h : t.val = 0) :
    (firstAt V c t h).1 = (loads V c t (zeros V c t h)).y ∧
    (firstAt V c t h).2.1 = (loads V c t (zeros V c t h)).sall ∧
    (firstAt V c t h).2.2.1 = (loads V c t (zeros V c t h)).carryl ++ [⟨Rect.unit ![0, 0] S8x1024.size inb_S8x1024_S8x1024_0_0, k0_pay2 (F := Ideal)⟩] ∧
    (firstAt V c t h).2.2.2.1 = (loads V c t (zeros V c t h)).sl ++ [⟨Rect.unit ![0, 0, 0] S4x256x128.size inb_S4x256x128_S4x256x128_0_0_0, k0_pay3 (F := Ideal)⟩] := by
  have f0 := fun (k : Kind) (sp : Space) (v : View sig k sp S8x1024 .f32) inb x r => read_filled (off := ![0, 0]) v inb x r fill2
  have f1 := fun (k : Kind) (sp : Space) (v : View sig k sp S4x256x128 .f32) inb x r => read_filled (off := ![0, 0, 0]) v inb x r fill3
  unfold firstAt runFirst
  dsimp only
  simp only [runFirst.sl.H16_1, runFirst.sl.H17_1, runFirst.sl.r, runFirst.sl.r_1, runFirst.sl.r_2, runFirst.sl.r_3, runFirst.sl.r_4, runFirst.sl.r_5, runFirst.sl.r_6, runFirst.sl.r_7,
    runFirst.sl.r_8, runFirst.sl.r_9, runFirst.sl.r_10, runFirst.sl.r_11, runFirst.sl.r_12, runFirst.sl.r_13, runFirst.sl.r_14, runFirst.sl.r_15, runFirst.sl.r_16,
    runFirst.sl.r_17, runFirst.sl.r_18, runFirst.sl.r_19, runFirst.sl.r_20, runFirst.sl.r_21, runFirst.sl.r_22, runFirst.sl.r_23, runFirst.sl.r_24, runFirst.sl.r_25,
    runFirst.sl.r_26, runFirst.sl.r_27, runFirst.sl.r_28, runFirst.sl.r_29, runFirst.sl.r_30, runFirst.sl.r_31, runFirst.sl.r_32, runFirst.sl.r_33, runFirst.sl.r_34,
    runFirst.sl.r_35, runFirst.sl.r_36, runFirst.sl.r_37, runFirst.sl.r_38, runFirst.sl.r_39, runFirst.sl.r_40, runFirst.sl.r_41, runFirst.sl.r_42, runFirst.sl.r_43,
    runFirst.sl.r_44, runFirst.sl.r_45, runFirst.sl.r_46, runFirst.sl.r_47, runFirst.sl.r_48, runFirst.sl.r_49, runFirst.sl.r_50, runFirst.sl.r_51, runFirst.sl.r_52,
    runFirst.sl.r_53, runFirst.sl.r_54, runFirst.sl.v0, runFirst.sl.v1, runFirst.sl.v2, runFirst.sl.v8, runFirst.sl.v163, runFirst.sl.v164, runFirst.sl.v277, runFirst.sl.v279,
    runFirst.sl.v281, runFirst.sl.v283, View.readAt_eq_ld, Memref.IsWhole.read_unread, f0, f1]
  refine ⟨?_, ?_, ?_, ?_⟩ <;> sl_kernel_rfl

variable (c : Dev nD) (t : Fin cfg0.N)

/-- What the buffers that pass from point to point hold when a point loads them. -/
def prev : Left Ideal := if h : t.val = 0 then zeros V c t h else left V c (t.val - 1) (Nat.lt_of_le_of_lt (Nat.sub_le _ _) t.isLt)

theorem prev_first (h : t.val = 0) : prev V c t = zeros V c t h := dif_pos h
theorem prev_later (h : t.val ≠ 0) : prev V c t = left V c (t.val - 1) (Nat.lt_of_le_of_lt (Nat.sub_le _ _) t.isLt) := dif_neg h

/-- What a point leaves. -/
theorem left_eq : left V c t.val t.isLt =
    { y := View.canon (loads V c t (prev V c t)).y
      sall := View.canon (loads V c t (prev V c t)).sall
      carry := over (prev V c t).carry (loads V c t (prev V c t)).carryl
      s := over (prev V c t).s (loads V c t (prev V c t)).sl } := by
  by_cases h : t.val = 0
  · rw [left_first V c t h, prev_first V c t h]
    obtain ⟨h1, h2, h3, h4⟩ := firstAt_eq V c t h
    unfold leftFirst
    simp only [Left.mk.injEq]
    exact ⟨congrArg View.canon h1, congrArg View.canon h2, (congrArg View.canon h3).trans (canon_filled _ _ fill2 _), (congrArg View.canon h4).trans (canon_filled _ _ fill3 _)⟩
  · rw [left_later V c t h, prev_later V c t h]
    obtain ⟨h1, h2, h3, h4⟩ := laterAt_eq V c t h (left V c (t.val - 1) (Nat.lt_of_le_of_lt (Nat.sub_le _ _) t.isLt))
    unfold leftLater
    simp only [Left.mk.injEq]
    exact ⟨congrArg View.canon h1, congrArg View.canon h2, congrArg (over _) h3, congrArg (over _) h4⟩

end Cert.MixFwd

end
-- ==== Proof.MixMask.lean ====
/- The comparisons of row numbers of a tile of 256 rows: whether two rows are in the same chunk of 64, and which is the later one. -/
module

public import Idealize.ShloMosaic.Lib.Pointwise

@[expose] public section

namespace Cert.MixGla

open Idealize.ShloMosaic

theorem shr_at (r : Fin 256) : IntOp.shrui ArithUnit.vector (BitVec.ofNat 32 r.val) 6#32 = BitVec.ofNat 32 (r.val / 64) := by
  revert r; decide +kernel

theorem same_at (r c : Fin 256) : IntOp.cmpi CmpIPredicate.eq (IntOp.shrui ArithUnit.vector (BitVec.ofNat 32 r.val) 6#32) (IntOp.shrui ArithUnit.vector (BitVec.ofNat 32 c.val) 6#32)
    = if c.val / 64 = r.val / 64 then 1#1 else 0#1 := by
  rw [shr_at, shr_at]
  have h : ∀ a b : Fin 4, IntOp.cmpi CmpIPredicate.eq (BitVec.ofNat 32 a.val) (BitVec.ofNat 32 b.val) = if b.val = a.val then 1#1 else 0#1 := by decide +kernel
  exact h ⟨r.val / 64, by omega⟩ ⟨c.val / 64, by omega⟩

theorem sgt_at (r c : Fin 256) : IntOp.cmpi CmpIPredicate.sgt (BitVec.ofNat 32 r.val) (BitVec.ofNat 32 c.val) = if c.val < r.val then 1#1 else 0#1 := by
  revert r c; decide +kernel

theorem slt_at (r c : Fin 256) : IntOp.cmpi CmpIPredicate.slt (BitVec.ofNat 32 r.val) (BitVec.ofNat 32 c.val) = if r.val < c.val then 1#1 else 0#1 :=
  sgt_at c r

end Cert.MixGla
-- ==== Proof.MixGla.lean ====
/- The gated linear attention of the mixer, over the reals: four heads, chunks of 64 rows, a state per head that is
   decayed by the product of a chunk's gates and grows by the chunk's keys and values; and its gradients. -/
module

public import proofs.«01_k».proof.Proof.MixBlocks
public import proofs.«01_k».proof.Proof.MixMask

@[expose] public section

noncomputable section

namespace Cert.MixGla

open Cert.Reals Cert.NormRow Cert.MixSpec Cert.MixTile
open scoped BigOperators

/-- Row `a` of chunk `n`. -/
def cr (n : ℕ) (a : Fin 64) : Fin 8192 := ⟨(64 * n + a.val) % 8192, Nat.mod_lt _ (by norm_num)⟩

/-- Column `k` of head `h` of the keys, and column `v` of head `h` of the values. -/
def kc (h : Fin 4) (k : Fin 128) : Fin 512 := ⟨128 * h.val + k.val, by omega⟩
def vcol (h : Fin 4) (v : Fin 256) : Fin 1024 := ⟨256 * h.val + v.val, by omega⟩

/-- The head a key's column lies in and its place there, and the same of a value's column. -/
def kh (d : Fin 512) : Fin 4 := ⟨d.val / 128, by omega⟩
def kl (d : Fin 512) : Fin 128 := ⟨d.val % 128, by omega⟩
def vh (d : Fin 1024) : Fin 4 := ⟨d.val / 256, by omega⟩
def vl (d : Fin 1024) : Fin 256 := ⟨d.val % 256, by omega⟩

theorem kc_kh (d : Fin 512) : kc (kh d) (kl d) = d := Fin.ext (by simp only [kc, kh, kl]; omega)
theorem vcol_vh (d : Fin 1024) : vcol (vh d) (vl d) = d := Fin.ext (by simp only [vcol, vh, vl]; omega)
theorem kh_kc (h : Fin 4) (k : Fin 128) : kh (kc h k) = h := Fin.ext (by simp only [kc, kh]; omega)
theorem kl_kc (h : Fin 4) (k : Fin 128) : kl (kc h k) = k := Fin.ext (by simp only [kc, kl]; omega)
theorem vh_vcol (h : Fin 4) (v : Fin 256) : vh (vcol h v) = h := Fin.ext (by simp only [vcol, vh]; omega)
theorem vl_vcol (h : Fin 4) (v : Fin 256) : vl (vcol h v) = v := Fin.ext (by simp only [vcol, vl]; omega)

/-- The row of a tile is a row of one of its four chunks. -/
theorem row_cr (T : Fin 32) (m : Fin 4) (a : Fin 64) (hr : 64 * m.val + a.val < 256) : row T ⟨64 * m.val + a.val, hr⟩ = cr (4 * T.val + m.val) a :=
  Fin.ext (by simp only [row, cr]; omega)

/-- The factor of the queries, the logistic function and its logarithm. -/
def sc : ℝ := 11863283 / 134217728
def sgm (x : ℝ) : ℝ := (1 + Real.exp (-x))⁻¹
def lsg (x : ℝ) : ℝ := -Real.log (1 + Real.exp (-x))

end Cert.MixGla

namespace Cert.MixSpec.Args

open Cert.Reals Cert.NormRow Cert.MixGla
open scoped BigOperators

variable (A : Args)

/-- The gate before its nonlinearity, and the gate's logarithm. -/
def pre (i : Fin 8192) (d : Fin 512) : ℝ := (∑ k : Fin 128, A.al i k * A.wg k d) + A.bg d
def la (i : Fin 8192) (d : Fin 512) : ℝ := lsg (A.pre i d) * (1 / 16)

/-- The gates of the rows of a chunk after a row, and of all its rows. -/
def er (i : Fin 8192) (d : Fin 512) : ℝ := ∑ b : Fin 64, if i.val % 64 < b.val then A.la (cr (i.val / 64) b) d else 0
def tot (n : ℕ) (d : Fin 512) : ℝ := ∑ b : Fin 64, A.la (cr n b) d
def dec (n : ℕ) (d : Fin 512) : ℝ := Real.exp (A.tot n d)

/-- The keys decayed to the end of their chunk. -/
def ke (i : Fin 8192) (d : Fin 512) : ℝ := A.zk i d * Real.exp (A.er i d)

/-- What a chunk adds to the state, and the state before chunk `n`. -/
def kv (n : ℕ) (h : Fin 4) (v : Fin 256) (k : Fin 128) : ℝ := ∑ a : Fin 64, A.zv (cr n a) (vcol h v) * A.ke (cr n a) (kc h k)
def st : ℕ → Fin 4 → Fin 256 → Fin 128 → ℝ
  | 0, _, _, _ => 0
  | n + 1, h, v, k => st n h v k * A.dec n (kc h k) + A.kv n h v k

def qs (i : Fin 8192) (d : Fin 512) : ℝ := A.zq i d * sc

/-- The attention, its gate, and its output. -/
def o (i : Fin 8192) (h : Fin 4) (v : Fin 256) : ℝ := ∑ k : Fin 128, A.qs i (kc h k) * A.st (i.val / 64 + 1) h v k
def ogate (i : Fin 8192) (h : Fin 4) (v : Fin 256) : ℝ := A.zo i (vcol h v) * sgm (A.zo i (vcol h v))
def ygla (i : Fin 8192) (h : Fin 4) (v : Fin 256) : ℝ := A.o i h v * rs 256 (A.o i h) * A.gg v * A.ogate i h v

/-- The cotangent of the attention's output. -/
def dyg (i : Fin 8192) (d : Fin 1024) : ℝ := A.dy i ⟨1024 + d.val, by omega⟩

/-- The gradients of the output gate and of the norm's gain. -/
def dog (i : Fin 8192) (h : Fin 4) (v : Fin 256) : ℝ :=
  A.dyg i (vcol h v) * (A.o i h v * rs 256 (A.o i h) * A.gg v) * (sgm (A.zo i (vcol h v)) * (1 + A.zo i (vcol h v) * (1 - sgm (A.zo i (vcol h v)))))
def dgg (v : Fin 256) : ℝ := ∑ i : Fin 8192, ∑ h : Fin 4, A.dyg i (vcol h v) * A.ogate i h v * (A.o i h v * rs 256 (A.o i h))

/-- The cotangent of the attention. -/
def dO (i : Fin 8192) (h : Fin 4) (v : Fin 256) : ℝ := grad 256 (A.o i h) (fun v => A.dyg i (vcol h v) * A.ogate i h v) A.gg v

def dq (i : Fin 8192) (h : Fin 4) (k : Fin 128) : ℝ := (∑ v : Fin 256, A.dO i h v * A.st (i.val / 64 + 1) h v k) * sc

/-- What a chunk's own rows add to the state's cotangent; the cotangent from the `r` last chunks; the cotangent of the state after chunk `n`. -/
def own (n : ℕ) (h : Fin 4) (v : Fin 256) (k : Fin 128) : ℝ := ∑ a : Fin 64, A.dO (cr n a) h v * A.qs (cr n a) (kc h k)
def back : ℕ → Fin 4 → Fin 256 → Fin 128 → ℝ
  | 0, _, _, _ => 0
  | r + 1, h, v, k => (A.own (127 - r) h v k + back r h v k) * A.dec (127 - r) (kc h k)
def G (n : ℕ) (h : Fin 4) (v : Fin 256) (k : Fin 128) : ℝ := A.own n h v k + A.back (127 - n) h v k

/-- The gradients of the values, the decayed keys, the keys, the chunks' decay, and the gate. -/
def dv (i : Fin 8192) (h : Fin 4) (v : Fin 256) : ℝ := ∑ k : Fin 128, A.ke i (kc h k) * A.G (i.val / 64) h v k
def dke (i : Fin 8192) (h : Fin 4) (k : Fin 128) : ℝ := ∑ v : Fin 256, A.zv i (vcol h v) * A.G (i.val / 64) h v k
def dk (i : Fin 8192) (h : Fin 4) (k : Fin 128) : ℝ := A.dke i h k * Real.exp (A.er i (kc h k))
def ddec (n : ℕ) (h : Fin 4) (k : Fin 128) : ℝ := (∑ v : Fin 256, A.G n h v k * A.st n h v k) * A.dec n (kc h k)
def dla (i : Fin 8192) (h : Fin 4) (k : Fin 128) : ℝ :=
  (∑ b : Fin 64, if b.val < i.val % 64 then A.dke (cr (i.val / 64) b) h k * A.ke (cr (i.val / 64) b) (kc h k) else 0) + A.ddec (i.val / 64) h k
def dpre (i : Fin 8192) (d : Fin 512) : ℝ := A.dla i (kh d) (kl d) * (1 / 16) * sgm (-A.pre i d)

/-- The gradients of the gate's bias, weight and input. -/
def dbg (d : Fin 512) : ℝ := ∑ i : Fin 8192, A.dpre i d
def dwgu (k : Fin 128) (d : Fin 512) : ℝ := ∑ i : Fin 8192, A.al i k * A.dpre i d
def dal (i : Fin 8192) (k : Fin 128) : ℝ := ∑ d : Fin 512, A.dpre i d * A.wg k d

end Cert.MixSpec.Args

namespace Cert.MixGla

open Idealize.ShloMosaic Cert.Reals Cert.NormRow Cert.MixSpec Cert.MixTile
open scoped BigOperators

theorem lit_sc : Ideal.ofBits .f32 0x3DB504F3#32 = ((sc : ℝ) : EReal) := by
  simp [Ideal.ofBits, Ideal.ieee, sc, -EReal.coe_mul]; norm_num
theorem lit_16th : Ideal.ofBits .f32 0x3D800000#32 = ((1 / 16 : ℝ) : EReal) := by
  simp [Ideal.ofBits, Ideal.ieee, -EReal.coe_mul]; norm_num
theorem lit_256 : Ideal.ofBits .f32 0x43800000#32 = ((256 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee, -EReal.coe_mul]

/-- The logistic function's logarithm, from the smaller of an argument and zero. -/
theorem lsg_eq (x : ℝ) : min x 0 - Real.log (1 + Real.exp (0 - max x (-x))) = lsg x := by
  unfold lsg
  rcases le_total 0 x with h | h
  · rw [min_eq_right h, max_eq_left (by linarith)]; ring_nf
  · rw [min_eq_left h, max_eq_right (by linarith)]
    have e : 1 + Real.exp (-x) = Real.exp (-x) * (1 + Real.exp (0 - -x)) := by
      rw [mul_add, mul_one, ← Real.exp_add]; simp [add_comm]
    rw [e, Real.log_mul (Real.exp_pos _).ne' (by positivity), Real.log_exp]
    ring

theorem coe_max (a b : ℝ) : max (a : EReal) (b : EReal) = ((max a b : ℝ) : EReal) := (Monotone.map_max EReal.coe_strictMono.monotone).symm
theorem coe_min (a b : ℝ) : min (a : EReal) (b : EReal) = ((min a b : ℝ) : EReal) := (Monotone.map_min EReal.coe_strictMono.monotone).symm

theorem lsg_ideal (x : ℝ) : min (x : EReal) ((0 : ℝ) : EReal) - Ideal.log1p (Ideal.exp (((0 : ℝ) : EReal) - max (x : EReal) (-(x : EReal)))) = ((lsg x : ℝ) : EReal) := by
  have h : Ideal.log1p (Ideal.exp (((0 : ℝ) : EReal) - max (x : EReal) (-(x : EReal)))) = ((Real.log (1 + Real.exp (0 - max x (-x))) : ℝ) : EReal) := by
    rw [← EReal.coe_neg, coe_max, ← EReal.coe_sub, Ideal.exp_coe]
    unfold Ideal.log1p
    rw [← EReal.coe_one, ← EReal.coe_add, Ideal.log_coe, if_neg (by have := Real.exp_pos (0 - max x (-x)); linarith)]
  rw [h, coe_min, ← EReal.coe_sub, lsg_eq]

/-- A sum over the rows of a tile that are in chunk `m` of it. -/
theorem sum_chunk (m : Fin 4) (f : Fin 256 → ℝ) : (∑ c : Fin 256, if c.val / 64 = m.val then f c else 0) = ∑ b : Fin 64, f ⟨64 * m.val + b.val, by omega⟩ := by
  rw [← Finset.sum_filter]
  refine Finset.sum_bij' (fun c _ => (⟨c.val % 64, by omega⟩ : Fin 64)) (fun b _ => ⟨64 * m.val + b.val, by omega⟩) ?_ ?_ ?_ ?_ ?_
  · intros; exact Finset.mem_univ _
  · intro b _; simp only [Finset.mem_filter, Finset.mem_univ, true_and]; omega
  · intro c hc; simp only [Finset.mem_filter, Finset.mem_univ, true_and] at hc; apply Fin.ext; simp only; omega
  · intro b _; apply Fin.ext; simp only; omega
  · intro c hc; simp only [Finset.mem_filter, Finset.mem_univ, true_and] at hc; congr 1; apply Fin.ext; simp only; omega

/-! ### The masks -/

theorem after_mask (r c : Fin 256) : Scalar.select (IntOp.andi
      (IntOp.cmpi CmpIPredicate.eq (IntOp.shrui ArithUnit.vector (BitVec.ofNat 32 r.val) 6#32) (IntOp.shrui ArithUnit.vector (BitVec.ofNat 32 c.val) 6#32))
      (IntOp.cmpi CmpIPredicate.sgt (BitVec.ofNat 32 c.val) (BitVec.ofNat 32 r.val))) (1 : EReal) 0
    = ((if c.val / 64 = r.val / 64 ∧ r.val < c.val then 1 else 0 : ℝ) : EReal) := by
  rw [same_at, sgt_at]
  by_cases h1 : c.val / 64 = r.val / 64 <;> by_cases h2 : r.val < c.val <;> simp [h1, h2, Scalar.select, IntOp.andi]

theorem before_mask (r c : Fin 256) : Scalar.select (IntOp.andi
      (IntOp.cmpi CmpIPredicate.eq (IntOp.shrui ArithUnit.vector (BitVec.ofNat 32 r.val) 6#32) (IntOp.shrui ArithUnit.vector (BitVec.ofNat 32 c.val) 6#32))
      (IntOp.cmpi CmpIPredicate.slt (BitVec.ofNat 32 c.val) (BitVec.ofNat 32 r.val))) (1 : EReal) 0
    = ((if c.val / 64 = r.val / 64 ∧ c.val < r.val then 1 else 0 : ℝ) : EReal) := by
  rw [same_at, slt_at]
  by_cases h1 : c.val / 64 = r.val / 64 <;> by_cases h2 : c.val < r.val <;> simp [h1, h2, Scalar.select, IntOp.andi]

theorem same_mask (r c : Fin 256) : Scalar.select
      (IntOp.cmpi CmpIPredicate.eq (IntOp.shrui ArithUnit.vector (BitVec.ofNat 32 r.val) 6#32) (IntOp.shrui ArithUnit.vector (BitVec.ofNat 32 c.val) 6#32)) (1 : EReal) 0
    = ((if c.val / 64 = r.val / 64 then 1 else 0 : ℝ) : EReal) := by
  rw [same_at]
  by_cases h1 : c.val / 64 = r.val / 64 <;> simp [h1, Scalar.select]

/-- A masked sum of a number that is taken in three parts, of which the last two are zero. -/
theorem three_parts (M L : Fin 256 → ℝ) (m l : Fin 256 → EReal) (hm : ∀ c, m c = ((M c : ℝ) : EReal)) (hl : ∀ c, l c = ((L c : ℝ) : EReal)) :
    (∑ c, m c * l c) + (∑ c, m c * (l c - l c)) + (∑ c, m c * (l c - l c - (l c - l c))) = ((∑ c, M c * L c : ℝ) : EReal) := by
  simp only [hm, hl, ← EReal.coe_sub, ← EReal.coe_mul, coe_sum, ← EReal.coe_add]
  simp

variable (A : Args) (T : Fin 32)

theorem chunk_row (r : Fin 256) (b : Fin 64) (h : 64 * (r.val / 64) + b.val < 256) : row T ⟨64 * (r.val / 64) + b.val, h⟩ = cr ((row T r).val / 64) b :=
  Fin.ext (by simp only [row, cr]; omega)

theorem er_tile (r : Fin 256) (d : Fin 512) :
    (∑ c : Fin 256, (if c.val / 64 = r.val / 64 ∧ r.val < c.val then 1 else 0 : ℝ) * A.la (row T c) d) = A.er (row T r) d := by
  have e : ∀ c : Fin 256, (if c.val / 64 = r.val / 64 ∧ r.val < c.val then 1 else 0 : ℝ) * A.la (row T c) d
      = if c.val / 64 = (⟨r.val / 64, by omega⟩ : Fin 4).val then (if r.val < c.val then A.la (row T c) d else 0) else 0 := fun c => by
    by_cases h1 : c.val / 64 = r.val / 64 <;> by_cases h2 : r.val < c.val <;> simp [h1, h2]
  rw [Finset.sum_congr rfl fun c _ => e c, sum_chunk]
  refine Finset.sum_congr rfl fun b _ => ?_
  rw [chunk_row]
  refine if_congr ?_ rfl rfl
  simp only [row]
  omega

theorem tot_tile (r : Fin 256) (d : Fin 512) :
    (∑ c : Fin 256, (if c.val / 64 = r.val / 64 then 1 else 0 : ℝ) * A.la (row T c) d) = A.tot ((row T r).val / 64) d := by
  have e : ∀ c : Fin 256, (if c.val / 64 = r.val / 64 then 1 else 0 : ℝ) * A.la (row T c) d
      = if c.val / 64 = (⟨r.val / 64, by omega⟩ : Fin 4).val then A.la (row T c) d else 0 := fun c => by
    by_cases h1 : c.val / 64 = r.val / 64 <;> simp [h1]
  rw [Finset.sum_congr rfl fun c _ => e c, sum_chunk]
  exact Finset.sum_congr rfl fun b _ => by rw [chunk_row]

theorem before_tile (r : Fin 256) (f : Fin 8192 → ℝ) :
    (∑ c : Fin 256, (if c.val / 64 = r.val / 64 ∧ c.val < r.val then 1 else 0 : ℝ) * f (row T c))
      = ∑ b : Fin 64, if b.val < (row T r).val % 64 then f (cr ((row T r).val / 64) b) else 0 := by
  have e : ∀ c : Fin 256, (if c.val / 64 = r.val / 64 ∧ c.val < r.val then 1 else 0 : ℝ) * f (row T c)
      = if c.val / 64 = (⟨r.val / 64, by omega⟩ : Fin 4).val then (if c.val < r.val then f (row T c) else 0) else 0 := fun c => by
    by_cases h1 : c.val / 64 = r.val / 64 <;> by_cases h2 : c.val < r.val <;> simp [h1, h2]
  rw [Finset.sum_congr rfl fun c _ => e c, sum_chunk]
  refine Finset.sum_congr rfl fun b _ => ?_
  rw [chunk_row]
  refine if_congr ?_ rfl rfl
  simp only [row]
  omega

variable {A T}

/-- The attention of a tile: the queries of each chunk with the state after the chunk. -/
theorem four_chunks {q : (⟨2, ![256, 512]⟩ : Shape).Idx → EReal} {s0 s1 s2 s3 : (⟨2, ![256, 128]⟩ : Shape).Idx → EReal} (h : Fin 4)
    (hq : ∀ r d, q (ix2 r d) = ((A.qs (row T r) d : ℝ) : EReal))
    (h0 : ∀ v k, s0 (ix2 v k) = ((A.st (4 * T.val + 0 + 1) h v k : ℝ) : EReal)) (h1 : ∀ v k, s1 (ix2 v k) = ((A.st (4 * T.val + 1 + 1) h v k : ℝ) : EReal))
    (h2 : ∀ v k, s2 (ix2 v k) = ((A.st (4 * T.val + 2 + 1) h v k : ℝ) : EReal)) (h3 : ∀ v k, s3 (ix2 v k) = ((A.st (4 * T.val + 3 + 1) h v k : ℝ) : EReal))
    (c : Fin 128 → Fin 512) (hc : ∀ k, (c k).val = 128 * h.val + k.val) (r v : Fin 256) :
    (if h : r.val < 64 then ∑ k : Fin 128, q (ix2 r (c k)) * s0 (ix2 v k)
      else if h : r.val - 64 < 64 then ∑ k : Fin 128, q (ix2 ⟨64 + (r.val - 64), by omega⟩ (c k)) * s1 (ix2 v k)
      else if h : r.val - 64 - 64 < 64 then ∑ k : Fin 128, q (ix2 ⟨128 + (r.val - 64 - 64), by omega⟩ (c k)) * s2 (ix2 v k)
      else ∑ k : Fin 128, q (ix2 ⟨192 + (r.val - 64 - 64 - 64), by omega⟩ (c k)) * s3 (ix2 v k)) = ((A.o (row T r) h v : ℝ) : EReal) := by
  have hr : (row T r).val = 256 * T.val + r.val := rfl
  have e : ∀ (n : ℕ) (i : Fin 256) (s : (⟨2, ![256, 128]⟩ : Shape).Idx → EReal), i = r → (row T r).val / 64 + 1 = n → (∀ v k, s (ix2 v k) = ((A.st n h v k : ℝ) : EReal)) →
      (∑ k : Fin 128, q (ix2 i (c k)) * s (ix2 v k)) = ((A.o (row T r) h v : ℝ) : EReal) := fun n i s hi hn hs => by
    subst hi hn
    have hc' : ∀ k, c k = kc h k := fun k => Fin.ext (hc k)
    simp only [hq, hs, hc', ← EReal.coe_mul, coe_sum]
    rfl
  split_ifs with g0 g1 g2
  · exact e _ _ _ rfl (by omega) h0
  · exact e _ _ _ (Fin.ext (by simp only; omega)) (by omega) h1
  · exact e _ _ _ (Fin.ext (by simp only; omega)) (by omega) h2
  · exact e _ _ _ (Fin.ext (by simp only; omega)) (by omega) h3

theorem lgs_ideal (x : ℝ) : Ideal.logistic (x : EReal) = ((sgm x : ℝ) : EReal) := Ideal.logistic_coe x

/-- The normed and gated attention. -/
theorem gated (i : Fin 8192) (h : Fin 4) (v : Fin 256) :
    ((A.o i h v : ℝ) : EReal) * Ideal.rsqrt (Ideal.div (∑ v : Fin 256, ((A.o i h v : ℝ) : EReal) * ((A.o i h v : ℝ) : EReal)) (Ideal.ofBits .f32 0x43800000#32) + Ideal.ofBits .f32 0x358637BD#32)
        * ((A.gg v : ℝ) : EReal) * (((A.zo i (vcol h v) : ℝ) : EReal) * Ideal.logistic ((A.zo i (vcol h v) : ℝ) : EReal)) = ((A.ygla i h v : ℝ) : EReal) := by
  rw [lit_256, lit_eps, (rs_ideal (A.o i h) (by norm_num) : _ = ((rs 256 (A.o i h) : ℝ) : EReal)), lgs_ideal]
  simp only [← EReal.coe_mul]
  rfl

end Cert.MixGla

end
-- ==== Proof.MixConvFwd.lean ====
module

public import proofs.«01_k».proof.Proof.MixFwdLoads
public import proofs.«01_k».proof.Proof.MixConvBwd
public import proofs.«01_k».proof.Proof.MixGla

@[expose] public section

set_option maxRecDepth 16384

noncomputable section

/-! What the forward region loads, and the normed convolution it leaves. -/

namespace Cert.MixConvFwd

open Idealize.ShloMosaic Idealize.ShloMosaic.TcCoe Idealize.SL.Sem Cert.Reals Cert.NormRow Cert.MixSpec Cert.MixTile Cert.MixFwd Cert.MixBlocks Cert.MixPieces Cert.Over Cert.MixConvBwd Cert.MixGla
open Cert.MixerIdeal Cert.MixerIdeal.Gen Cert.MixerFwd Cert.MixerRun

/-- What a run of the forward body loads at tile `T`, but for what is carried. -/
structure FIn (A : Args) (T : Fin 32) (x : Loads) : Prop where
  cb : ∀ r j, x.cb (ix2 r j) = ((A.cb (row T r) j : ℝ) : EReal)
  cc : ∀ r j, x.cc (ix2 r j) = ((A.cc (row T r) j : ℝ) : EReal)
  ch : ∀ r j, x.ch (ix2 r j) = ((A.ch (row T r) j : ℝ) : EReal)
  q : ∀ r j, x.q (ix2 r j) = ((A.zq (row T r) j : ℝ) : EReal)
  k : ∀ r j, x.k (ix2 r j) = ((A.zk (row T r) j : ℝ) : EReal)
  v : ∀ r j, x.v (ix2 r j) = ((A.zv (row T r) j : ℝ) : EReal)
  og : ∀ h r v, x.og h (ix2 r v) = ((A.zo (row T r) (vcol h v) : ℝ) : EReal)
  al : ∀ r j, x.al (ix2 r j) = ((A.al (row T r) j : ℝ) : EReal)
  wgu : ∀ r j, (x.wgu : S128x512.Idx → EReal) (ix2 r j) = ((A.wg r j : ℝ) : EReal)
  bg : ∀ j, x.bg (ix2 0 j) = ((A.bg j : ℝ) : EReal)
  cw0 : ∀ j, x.cw (ix2 0 j) = ((A.cw j 0 : ℝ) : EReal)
  cw1 : ∀ j, x.cw (ix2 1 j) = ((A.cw j 1 : ℝ) : EReal)
  cw2 : ∀ j, x.cw (ix2 2 j) = ((A.cw j 2 : ℝ) : EReal)
  cg : ∀ j, x.cg (ix2 0 j) = ((A.cg j : ℝ) : EReal)
  gg : ∀ j, x.gg (ix2 0 j) = ((A.gg j : ℝ) : EReal)

section pieces
variable {A : Args} {T : Fin 32} {x : Loads} (H : FIn A T x)
include H

/-- The last rows carried to the next tile. -/
theorem carry_over (z) (k : Fin 8) (j : Fin 1024) : over z x.carryl (ix2 k j) = ((A.u (256 * T.val + 250 + k.val) j : ℝ) : EReal) := by
  unfold Loads.carryl
  refine (over_hit _ _ _ k j k j ?_ ?_).trans ?_
  · omega
  · omega
  pointwise [k0_pay5, k0_pay4]
  rw [H.cc, H.ch, ← EReal.coe_mul, ← u_row]
  refine congrArg (fun n => ((A.u n j : ℝ) : EReal)) ?_
  simp only
  omega

variable (hc : ∀ (k : Fin 8) (j : Fin 1024), 6 ≤ k.val → x.carry (ix2 k j) = ((A.u (256 * T.val + k.val - 6) j : ℝ) : EReal))
include hc

theorem ypre_fwd (r : Fin 256) (j : Fin 1024) : x.yp (ix2 r j) = ((A.ypre (row T r) j : ℝ) : EReal) := by
  have hu : ∀ r j, x.cc (ix2 r j) * x.ch (ix2 r j) = ((A.u (256 * T.val + r.val + 2) j : ℝ) : EReal) := fun r j => by
    rw [H.cc, H.ch, ← EReal.coe_mul, ← u_row]
  have he : ∀ (n : Fin 264) (hn : 6 ≤ n.val), (if h : n.val < 8 then x.carry (ix2 ⟨n.val, h⟩ j) else x.cc (ix2 ⟨n.val - 8, by omega⟩ j) * x.ch (ix2 ⟨n.val - 8, by omega⟩ j))
      = ((A.u (256 * T.val + n.val - 6) j : ℝ) : EReal) := fun n hn => by
    split_ifs with h
    · exact hc ⟨n.val, h⟩ j hn
    · rw [hu]
      refine congrArg (fun n => ((A.u n j : ℝ) : EReal)) ?_
      simp only
      omega
  pointwise [k0_pay6, k0_pay4]
  rw [he ⟨(8 + r.val + 264 - 2) % 264, by omega⟩ (by simp only; omega), he ⟨(8 + r.val + 264 - 1) % 264, by omega⟩ (by simp only; omega), hu, H.cb, H.cw0, H.cw1, H.cw2,
    show 256 * T.val + (8 + r.val + 264 - 2) % 264 - 6 = 256 * T.val + r.val by omega, show 256 * T.val + (8 + r.val + 264 - 1) % 264 - 6 = 256 * T.val + r.val + 1 by omega]
  simp only [← EReal.coe_mul, ← EReal.coe_add]
  rfl

/-- The normed convolution of a tile. -/
theorem yconv_at (r : Fin 256) (g : Fin 8) (k : Fin 128) : View.canon x.y (ix2 r ⟨(col g k).val, by omega⟩) = ((A.yconv (row T r) g k : ℝ) : EReal) := by
  have hy := ypre_fwd H hc
  unfold Loads.y
  fin_cases g <;>
  · repeat (refine (miss _ _ _ _ _ (by simp only [col]; omega)).trans ?_)
    refine (hit _ _ _ r k _ _ ?_ ?_).trans ?_
    · exact (Nat.zero_add _).symm
    · rfl
    pointwise [k0_pay9, k0_pay8, k0_pay7, k0_pay10, k0_pay11, k0_pay12, k0_pay13, k0_pay14, k0_pay15, k0_pay16, k0_pay17]
    simp only [at0, at1, at2, at3, at4, at5, at6, at7, hy, H.cg, lit_128, lit_eps, ← EReal.coe_mul, coe_sum, rs_at]
    rfl

end pieces

variable {m : (ℓ : Loc nD τ sig) → Buf (Elt Ideal) ℓ} {c : Dev nD} {A : Args} (H : Holds m c A)
include H

theorem og_in (t : Fin cfg0.N) (p : Left Ideal) (h : Fin 4) (r v : Fin 256) : (loads (U6 m) c t p).og h (ix2 r v) = ((A.zo (row (ftile t) r) (vcol h v) : ℝ) : EReal) := by
  refine Eq.trans ?_ (readF6 H t r (vcol h v))
  fin_cases h
  · have e : (loads (U6 m) c t p).og 0 = View.ld (iblk (U6 m) c 6 t) (Rect.unit ![0, 0] ![256, 256] inb_S256x1024_S256x256_0_0) := by sl_kernel_rfl
    exact (congrFun e _).trans (ld2 (iblk (U6 m) c 6 t) inb_S256x1024_S256x256_0_0 r v r _ (Nat.zero_add _).symm rfl)
  · have e : (loads (U6 m) c t p).og 1 = View.ld (iblk (U6 m) c 6 t) (Rect.unit ![0, 256] ![256, 256] inb_S256x1024_S256x256_0_256) := by sl_kernel_rfl
    exact (congrFun e _).trans (ld2 (iblk (U6 m) c 6 t) inb_S256x1024_S256x256_0_256 r v r _ (Nat.zero_add _).symm rfl)
  · have e : (loads (U6 m) c t p).og 2 = View.ld (iblk (U6 m) c 6 t) (Rect.unit ![0, 512] ![256, 256] inb_S256x1024_S256x256_0_512) := by sl_kernel_rfl
    exact (congrFun e _).trans (ld2 (iblk (U6 m) c 6 t) inb_S256x1024_S256x256_0_512 r v r _ (Nat.zero_add _).symm rfl)
  · have e : (loads (U6 m) c t p).og 3 = View.ld (iblk (U6 m) c 6 t) (Rect.unit ![0, 768] ![256, 256] inb_S256x1024_S256x256_0_768) := by sl_kernel_rfl
    exact (congrFun e _).trans (ld2 (iblk (U6 m) c 6 t) inb_S256x1024_S256x256_0_768 r v r _ (Nat.zero_add _).symm rfl)

set_option maxHeartbeats 4000000 in
theorem fwd_in (t : Fin cfg0.N) (p : Left Ideal) : FIn A (ftile t) (loads (U6 m) c t p) where
  cb r j := (ld_all _ _ r j).trans (readF0 H t r j)
  cc r j := (ld_all _ _ r j).trans (readF1 H t r j)
  ch r j := (ld_all _ _ r j).trans (readF2 H t r j)
  q r j := (ld_all _ _ r j).trans (readF3 H t r j)
  k r j := (ld_all _ _ r j).trans (readF4 H t r j)
  v r j := (ld_all _ _ r j).trans (readF5 H t r j)
  og := og_in H t p
  al r j := (ld_all _ _ r j).trans (readF7 H t r j)
  wgu r j := (ld_all _ _ r j).trans (readF8 H t r j)
  bg j := (ld_all _ _ 0 j).trans (readF9 H t 0 j)
  cw0 j := (ld_all _ _ 0 j).trans (readF10 H t 0 j)
  cw1 j := (ld_all _ _ 1 j).trans (readF10 H t 1 j)
  cw2 j := (ld_all _ _ 2 j).trans (readF10 H t 2 j)
  cg j := (ld_all _ _ 0 j).trans (readF11 H t 0 j)
  gg j := (ld_all _ _ 0 j).trans (readF12 H t 0 j)

theorem rows_in (t : Fin cfg0.N) (k : Fin 8) (j : Fin 1024) (hk : 6 ≤ k.val) :
    (loads (U6 m) c t (prev (U6 m) c t)).carry (ix2 k j) = ((A.u (256 * (ftile t).val + k.val - 6) j : ℝ) : EReal) := by
  refine (ld_all _ _ k j).trans ?_
  by_cases h : t.val = 0
  · rw [prev_first _ _ _ h]
    show k0_pay2 (F := Ideal) (ix2 k j) = _
    pointwise [k0_pay2]
    unfold Args.u
    rw [dif_neg (by simp only [ftile]; omega)]
    simp [Ideal.ofBits, Ideal.ieee]
  · rw [prev_later _ _ _ h]
    let s : Fin cfg0.N := ⟨t.val - 1, Nat.lt_of_le_of_lt (Nat.sub_le _ _) t.isLt⟩
    rw [show left (U6 m) c (t.val - 1) _ = _ from left_eq (U6 m) c s]
    refine (carry_over (x := loads (U6 m) c s (prev (U6 m) c s)) (fwd_in H s _) _ k j).trans ?_
    refine congrArg (fun n => ((A.u n j : ℝ) : EReal)) ?_
    simp only [ftile, s]
    omega

omit H in
/-- The point that does a row. -/
def fpt (i : Fin 8192) : Fin cfg0.N := ⟨i.val / 256, by have : cfg0.N = 32 := N_0; omega⟩

omit H in
theorem row_fpt (i : Fin 8192) : row (ftile (fpt i)) (MixArr.pl i) = i := Fin.ext (by simp only [row, ftile, fpt, MixArr.pl]; omega)
omit H in
theorem fpt_row (t : Fin cfg0.N) (r : Fin 256) : fpt (row (ftile t) r) = t :=
  Fin.ext (by have h : t.val < 32 := t.isLt; simp only [row, ftile, fpt]; omega)
omit H in
theorem pl_frow (t : Fin cfg0.N) (r : Fin 256) : MixArr.pl (row (ftile t) r) = r := Fin.ext (by simp only [row, ftile, MixArr.pl]; omega)

omit H in
theorem idxO (t : Fin cfg0.N) : win0_13.index t = ![t.val, 0] := by revert t; decide +kernel

omit H in
theorem arr_y (V : (c : Dev nD) → (b : Ref sig .tc) → Buf (Elt Ideal) (c.tc.loc b)) (c : Dev nD) :
    (dat V c).arrAt 13 cfg0.N = fun y : S8192x2048.Idx => (left V c (fpt (y 0)).val (fpt (y 0)).isLt).y (ix2 (MixArr.pl (y 0)) (y 1)) := by
  refine (dat V c).arrAt_eq_of_covers 13 _ (by decide +kernel) fun t hf y => ?_
  blk_simp
  rw [after_13]
  idx_vars y
  have e : ((View.whole main_v7_0).slice (win0_13.rect t)).emb (ix2 y0 y1) = (ix2 (row (ftile t) y0) y1 : S8192x2048.Idx) := by
    blk_ext [idxO t, row, ftile]
  show _ = (fun y : S8192x2048.Idx => (left V c (fpt (y 0)).val (fpt (y 0)).isLt).y (ix2 (MixArr.pl (y 0)) (y 1))) (((View.whole main_v7_0).slice (win0_13.rect t)).emb (ix2 y0 y1))
  rw [e]
  show _ = (left V c (fpt (row (ftile t) y0)).val (fpt (row (ftile t) y0)).isLt).y (ix2 (MixArr.pl (row (ftile t) y0)) y1)
  rw [fpt_row, pl_frow]

theorem y_conv (i : Fin 8192) (g : Fin 8) (k : Fin 128) :
    (left (U6 m) c (fpt i).val (fpt i).isLt).y (ix2 (MixArr.pl i) ⟨(col g k).val, by omega⟩) = ((A.yconv i g k : ℝ) : EReal) := by
  have h := yconv_at (x := loads (U6 m) c (fpt i) (prev (U6 m) c (fpt i))) (fwd_in H (fpt i) _) (fun k j hk => rows_in H (fpt i) k j hk) (MixArr.pl i) g k
  rw [row_fpt] at h
  rw [left_eq]
  exact h

end Cert.MixConvFwd

end
-- ==== Proof.MixGlaSum.lean ====
/- The attention's recurrences in closed form: running sums of the gates, the state as a sum over the chunks before,
   its cotangent as a sum over the chunks after, and the gates' gradients as running sums. -/
module

public import proofs.«01_k».proof.Proof.MixGla

@[expose] public section

noncomputable section

namespace Cert.MixSpec.Args

variable (A : Args)

/-- The gates of a chunk up to a row, and of the chunks up to a chunk. -/
def cum (n : ℕ) (a : Fin 64) (d : Fin 512) : ℝ := ∑ b : Fin 64, if b.val ≤ a.val then A.la (Cert.MixGla.cr n b) d else 0
def tt (n : ℕ) (d : Fin 512) : ℝ := ∑ m ∈ Finset.range (n + 1), A.tot m d

end Cert.MixSpec.Args

namespace Cert.MixGla

open Cert.MixSpec
open scoped BigOperators

/-- A masked sum over the chunks is a sum over the chunks before. -/
theorem fin_range (n : ℕ) (hn : n ≤ 128) (f : ℕ → ℝ) : (∑ m : Fin 128, if m.val < n then f m.val else 0) = ∑ m ∈ Finset.range n, f m := by
  rw [Fin.sum_univ_eq_sum_range (fun m => if m < n then f m else 0) 128, ← Finset.sum_filter]
  refine Finset.sum_congr (Finset.ext fun m => ?_) fun _ _ => rfl
  rw [Finset.mem_filter, Finset.mem_range, Finset.mem_range]
  omega

variable (A : Args)

theorem cr_div (n : ℕ) (hn : n < 128) (a : Fin 64) : (cr n a).val / 64 = n := by simp only [cr]; omega
theorem cr_mod (n : ℕ) (hn : n < 128) (a : Fin 64) : (cr n a).val % 64 = a.val := by simp only [cr]; omega
theorem cr_self (i : Fin 8192) : cr (i.val / 64) ⟨i.val % 64, by omega⟩ = i := Fin.ext (by simp only [cr]; omega)

theorem cum_last (n : ℕ) (d : Fin 512) : A.cum n 63 d = A.tot n d := by
  refine Finset.sum_congr rfl fun b _ => if_pos ?_
  have := b.isLt
  show b.val ≤ 63
  omega

theorem cum_er (n : ℕ) (hn : n < 128) (a : Fin 64) (d : Fin 512) : A.cum n 63 d - A.cum n a d = A.er (cr n a) d := by
  rw [cum_last]
  unfold Args.cum Args.tot Args.er
  rw [← Finset.sum_sub_distrib, cr_div n hn, cr_mod n hn]
  refine Finset.sum_congr rfl fun b _ => ?_
  by_cases h : b.val ≤ a.val
  · rw [if_pos h, if_neg (by omega), sub_self]
  · rw [if_neg h, if_pos (by omega), sub_zero]

theorem tt_fin (n : Fin 128) (d : Fin 512) : (∑ m : Fin 128, if m.val ≤ n.val then A.tot m.val d else 0) = A.tt n.val d := by
  have e := fin_range (n.val + 1) (by omega) (fun m => A.tot m d)
  refine Eq.trans (Finset.sum_congr rfl fun m _ => ?_) e
  simp only [Nat.lt_succ_iff]

theorem tt_succ (n : ℕ) (d : Fin 512) : A.tt (n + 1) d = A.tt n d + A.tot (n + 1) d := Finset.sum_range_succ _ _

variable (h : Fin 4) (v : Fin 256) (k : Fin 128)

/-- The state after chunk `n`: every chunk up to it, decayed by the chunks after. -/
theorem st_closed (n : ℕ) : A.st (n + 1) h v k = ∑ m ∈ Finset.range (n + 1), A.kv m h v k * Real.exp (A.tt n (kc h k) - A.tt m (kc h k)) := by
  induction n with
  | zero => simp [Args.st]
  | succ n ih =>
    rw [Finset.sum_range_succ, sub_self, Real.exp_zero, mul_one, Args.st, ih, Finset.sum_mul]
    refine congrArg (· + _) (Finset.sum_congr rfl fun m _ => ?_)
    rw [Args.dec, mul_assoc, ← Real.exp_add, tt_succ]
    refine congrArg (fun e => _ * Real.exp e) (by ring)

theorem st_fin (n : Fin 128) : (∑ m : Fin 128, A.kv m.val h v k * if m.val ≤ n.val then Real.exp (A.tt n.val (kc h k) - A.tt m.val (kc h k)) else 0)
    = A.st (n.val + 1) h v k := by
  rw [st_closed, ← fin_range (n.val + 1) (by omega)]
  refine Finset.sum_congr rfl fun m _ => ?_
  by_cases hm : m.val ≤ n.val
  · rw [if_pos hm, if_pos (by omega)]
  · rw [if_neg hm, if_neg (by omega), mul_zero]

theorem G_step (r : ℕ) (hr : r + 1 ≤ 127) : A.G (127 - (r + 1)) h v k = A.own (127 - (r + 1)) h v k + A.G (127 - r) h v k * A.dec (127 - r) (kc h k) := by
  unfold Args.G
  rw [show 127 - (127 - (r + 1)) = r + 1 by omega, show 127 - (127 - r) = r by omega]
  rfl

/-- The state's cotangent: every chunk from it on, decayed by the chunks between. -/
theorem G_closed (r : ℕ) (hr : r ≤ 127) :
    A.G (127 - r) h v k = ∑ s ∈ Finset.range (r + 1), A.own (127 - s) h v k * Real.exp (A.tt (127 - s) (kc h k) - A.tt (127 - r) (kc h k)) := by
  induction r with
  | zero => simp [Args.G, Args.back]
  | succ r ih =>
    rw [G_step A h v k r hr, Finset.sum_range_succ, sub_self, Real.exp_zero, mul_one, ih (by omega), Finset.sum_mul, add_comm]
    refine congrArg (· + _) (Finset.sum_congr rfl fun m _ => ?_)
    rw [Args.dec, mul_assoc, ← Real.exp_add]
    have e := tt_succ A (127 - (r + 1)) (kc h k)
    rw [show 127 - (r + 1) + 1 = 127 - r by omega] at e
    rw [e]
    refine congrArg (fun e => _ * Real.exp e) (by ring)

theorem G_fin (n : Fin 128) : (∑ m : Fin 128, A.own m.val h v k * if n.val ≤ m.val then Real.exp (A.tt m.val (kc h k) - A.tt n.val (kc h k)) else 0)
    = A.G n.val h v k := by
  have hn := n.isLt
  have e := G_closed A h v k (127 - n.val) (by omega)
  rw [show 127 - (127 - n.val) = n.val by omega] at e
  rw [e, ← fin_range (127 - n.val + 1) (by omega) (fun s => A.own (127 - s) h v k * Real.exp (A.tt (127 - s) (kc h k) - A.tt n.val (kc h k)))]
  refine (Equiv.sum_comp Fin.revPerm _).symm.trans (Finset.sum_congr rfl fun m _ => ?_)
  have hm := m.isLt
  have hv : (Fin.revPerm m).val = 127 - m.val := by rw [Fin.revPerm_apply, Fin.val_rev]; omega
  rw [hv]
  by_cases hh : n.val ≤ 127 - m.val
  · rw [if_pos hh, if_pos (by omega)]
  · rw [if_neg hh, if_neg (by omega), mul_zero]

/-- The gradient of the exponent of the decay between two chunks. -/
def dE (n m : ℕ) : ℝ := (if m ≤ n then ∑ v : Fin 256, A.own n h v k * A.kv m h v k else 0) * Real.exp (A.tt n (kc h k) - A.tt m (kc h k))

/-- The gradient of a chunk's decay: the chunks from it on against the chunks before it. -/
theorem ddec_fin (c : Fin 128) :
    (∑ n : Fin 128, if c.val ≤ n.val then (∑ m : Fin 128, -dE A h k m.val n.val) + (∑ m : Fin 128, dE A h k n.val m.val) else 0) = A.ddec c.val h k := by
  have e1 : (∑ n : Fin 128, if c.val ≤ n.val then (∑ m : Fin 128, -dE A h k m.val n.val) + (∑ m : Fin 128, dE A h k n.val m.val) else 0)
      = ∑ n : Fin 128, ∑ m : Fin 128, if c.val ≤ n.val ∧ m.val < c.val then dE A h k n.val m.val else 0 := by
    have a1 : (∑ n : Fin 128, if c.val ≤ n.val then (∑ m : Fin 128, -dE A h k m.val n.val) + (∑ m : Fin 128, dE A h k n.val m.val) else 0)
        = (∑ n : Fin 128, ∑ m : Fin 128, if c.val ≤ n.val then dE A h k n.val m.val else 0)
          - ∑ n : Fin 128, ∑ m : Fin 128, if c.val ≤ n.val then dE A h k m.val n.val else 0 := by
      rw [← Finset.sum_sub_distrib]
      refine Finset.sum_congr rfl fun n _ => ?_
      by_cases hc : c.val ≤ n.val
      · simp only [if_pos hc, Finset.sum_neg_distrib]; ring
      · simp only [if_neg hc, Finset.sum_const_zero, sub_zero]
    rw [a1, Finset.sum_comm (f := fun n m : Fin 128 => if c.val ≤ n.val then dE A h k m.val n.val else 0), ← Finset.sum_sub_distrib]
    refine Finset.sum_congr rfl fun n _ => ?_
    rw [← Finset.sum_sub_distrib]
    refine Finset.sum_congr rfl fun m _ => ?_
    by_cases h1 : c.val ≤ n.val <;> by_cases h2 : c.val ≤ m.val
    · rw [if_pos h1, if_pos h2, if_neg (by omega), sub_self]
    · rw [if_pos h1, if_neg h2, if_pos ⟨h1, by omega⟩, sub_zero]
    · rw [if_neg h1, if_pos h2, if_neg (by omega), dE, if_neg (by omega), zero_mul, sub_zero]
    · rw [if_neg h1, if_neg h2, if_neg (by omega), sub_self]
  rw [e1]
  unfold Args.ddec
  rw [Finset.sum_mul]
  have e2 : ∀ v : Fin 256, A.G c.val h v k * A.st c.val h v k * A.dec c.val (kc h k)
      = ∑ n : Fin 128, ∑ m : Fin 128, if c.val ≤ n.val ∧ m.val < c.val then A.own n.val h v k * A.kv m.val h v k * Real.exp (A.tt n.val (kc h k) - A.tt m.val (kc h k)) else 0 := fun v => by
    have s : A.st c.val h v k * A.dec c.val (kc h k) = ∑ m : Fin 128, if m.val < c.val then A.kv m.val h v k * Real.exp (A.tt c.val (kc h k) - A.tt m.val (kc h k)) else 0 := by
      rw [fin_range c.val (by omega) (fun m => A.kv m h v k * Real.exp (A.tt c.val (kc h k) - A.tt m (kc h k)))]
      rcases hc : c.val with _ | c'
      · simp [Args.st]
      · rw [st_closed, Finset.sum_mul]
        refine Finset.sum_congr rfl fun m _ => ?_
        rw [Args.dec, mul_assoc, ← Real.exp_add, tt_succ]
        refine congrArg (fun e => _ * Real.exp e) (by ring)
    rw [mul_assoc, s, ← G_fin, Finset.sum_mul_sum]
    refine Finset.sum_congr rfl fun n _ => Finset.sum_congr rfl fun m _ => ?_
    by_cases h1 : c.val ≤ n.val <;> by_cases h2 : m.val < c.val
    · rw [if_pos h1, if_pos h2, if_pos ⟨h1, h2⟩, mul_mul_mul_comm, ← Real.exp_add]
      exact congrArg (fun e => A.own n.val h v k * A.kv m.val h v k * Real.exp e) (by ring)
    · simp [h2]
    · simp [h1]
    · simp [h1]
  symm
  rw [Finset.sum_congr rfl fun v _ => e2 v, Finset.sum_comm]
  refine Finset.sum_congr rfl fun n _ => ?_
  rw [Finset.sum_comm]
  refine Finset.sum_congr rfl fun m _ => ?_
  by_cases hh : c.val ≤ n.val ∧ m.val < c.val
  · simp only [if_pos hh]
    rw [dE, if_pos (by omega), Finset.sum_mul]
  · simp only [if_neg hh, Finset.sum_const_zero]

/-- The gradient of a gate from the running sum's: the rows from it on, and the whole chunk at the last row. -/
theorem dla_fin (x : Fin 64 → ℝ) (D : ℝ) (a : Fin 64) :
    (∑ b : Fin 64, if a.val ≤ b.val then (-x b + if b.val = 63 then D + ∑ b' : Fin 64, x b' else 0) else 0) = (∑ b : Fin 64, if b.val < a.val then x b else 0) + D := by
  have ha := a.isLt
  have e : ∀ b : Fin 64, (if a.val ≤ b.val then (-x b + if b.val = 63 then D + ∑ b' : Fin 64, x b' else 0) else 0)
      = ((if b.val < a.val then x b else 0) - x b) + if b = (63 : Fin 64) then D + ∑ b' : Fin 64, x b' else 0 := fun b => by
    have hb : (b = (63 : Fin 64)) ↔ b.val = 63 := Fin.ext_iff
    by_cases h1 : a.val ≤ b.val
    · rw [if_pos h1, if_neg (show ¬ b.val < a.val by omega)]
      simp only [hb]; ring
    · rw [if_neg h1, if_pos (show b.val < a.val by omega), if_neg (show ¬ b = (63 : Fin 64) by rw [hb]; omega)]; ring
  rw [Finset.sum_congr rfl fun b _ => e b, Finset.sum_add_distrib, Finset.sum_sub_distrib, Finset.sum_ite_eq' Finset.univ (63 : Fin 64), if_pos (Finset.mem_univ _)]
  ring

end Cert.MixGla

end
-- ==== Proof.MixGlaBwd.lean ====
module

public import proofs.«01_k».proof.Proof.MixConvBwd
public import proofs.«01_k».proof.Proof.MixGlaSum

@[expose] public section

set_option maxRecDepth 16384

noncomputable section

/-! The attention of the backward region: the decays, the outputs and their gradients of one tile, of what a point loads. -/

namespace Cert.MixGlaBwd

open Idealize.ShloMosaic Idealize.ShloMosaic.TcCoe Idealize.SL.Sem Cert.Reals Cert.NormRow Cert.MixSpec Cert.MixTile Cert.MixLoads Cert.MixStep Cert.MixBlocks Cert.MixArr Cert.MixPieces Cert.Over Cert.MixGla
open Cert.MixerIdeal Cert.MixerIdeal.Gen Cert.MixerBwd Cert.MixerRun

/-- What a run of the backward body loads for the attention at tile `T`, but for what is carried. -/
structure BIn (A : Args) (T : Fin 32) (x : Loads) : Prop where
  pt : (x.i 0).val = 31 - T.val
  q : ∀ r j, x.q (ix2 r j) = ((A.zq (row T r) j : ℝ) : EReal)
  k : ∀ r j, x.k (ix2 r j) = ((A.zk (row T r) j : ℝ) : EReal)
  v : ∀ r j, x.v (ix2 r j) = ((A.zv (row T r) j : ℝ) : EReal)
  og : ∀ h r v, x.og h (ix2 r v) = ((A.zo (row T r) (vcol h v) : ℝ) : EReal)
  dyg : ∀ h r v, x.dyg h (ix2 r v) = ((A.dyg (row T r) (vcol h v) : ℝ) : EReal)
  al : ∀ r j, x.al (ix2 r j) = ((A.al (row T r) j : ℝ) : EReal)
  wgu : ∀ r j, (x.wgu : S128x512.Idx → EReal) (ix2 r j) = ((A.wg r j : ℝ) : EReal)
  bg : ∀ j, x.bg (ix2 0 j) = ((A.bg j : ℝ) : EReal)
  gg : ∀ j, x.gg (ix2 0 j) = ((A.gg j : ℝ) : EReal)
  sall : ∀ (n h : Fin 4) v k, x.sall n h (ix4 0 0 v k) = ((A.st (4 * T.val + n.val + 1) h v k : ℝ) : EReal)
  sprev : T ≠ 0 → ∀ (h : Fin 4) v k, x.sprev h (ix4 0 0 v k) = ((A.st (4 * T.val) h v k : ℝ) : EReal)

/-- The gradient of a head's output before the norm, as the body writes it. -/
theorem gate_grad (A : Args) (i : Fin 8192) (h : Fin 4) (v : Fin 256) (r : EReal) (hr : r = ((rs 256 (A.o i h) : ℝ) : EReal)) :
    r * (((A.dyg i (vcol h v) : ℝ) : EReal) * ((A.gg v : ℝ) : EReal) * ((A.ogate i h v : ℝ) : EReal)
        - ((A.o i h v : ℝ) : EReal) * r * Ideal.div (∑ v, ((A.dyg i (vcol h v) : ℝ) : EReal) * ((A.gg v : ℝ) : EReal) * ((A.ogate i h v : ℝ) : EReal) * (((A.o i h v : ℝ) : EReal) * r)) ((256 : ℝ) : EReal))
      = ((A.dO i h v : ℝ) : EReal) := by
  subst hr
  simp only [← EReal.coe_mul, coe_sum, div_real _ (by norm_num : (256 : ℝ) ≠ 0), ← EReal.coe_sub, Args.dO, grad]
  simp only [mul_right_comm _ (A.gg _) (A.ogate _ _ _)]

/-- The body's masks: the later rows of a row's chunk, then the rows of its chunk. -/
theorem mask_after (r c : Fin 256) (n : Fin 512) (hn : n.val = r.val) :
    k1_pay78 (F := Ideal) (ix2 n c) = ((if c.val / 64 = r.val / 64 ∧ r.val < c.val then 1 else 0 : ℝ) : EReal) := by
  pointwise [k1_pay78, k1_pay77]
  have hl : n.val < 256 := by omega
  rw [dif_pos hl]
  simp only [hn]
  exact after_mask r c

theorem mask_same (r c : Fin 256) (n : Fin 512) (hn : n.val = 256 + r.val) :
    k1_pay78 (F := Ideal) (ix2 n c) = ((if c.val / 64 = r.val / 64 then 1 else 0 : ℝ) : EReal) := by
  pointwise [k1_pay78, k1_pay77]
  have hl : ¬ n.val < 256 := by omega
  rw [dif_neg hl]
  simp only [show n.val - 256 = r.val by omega]
  exact same_mask r c

/-- The mask of the earlier rows of a row's chunk. -/
theorem mask_before (r c : Fin 256) :
    k1_pay80 (F := Ideal) k1_pay79 (ix2 r c) = ((if c.val / 64 = r.val / 64 ∧ c.val < r.val then 1 else 0 : ℝ) : EReal) := by
  pointwise [k1_pay80, k1_pay79, k1_pay77]
  exact before_mask r c

section pieces
variable {A : Args} {T : Fin 32} {x : Loads} (H : BIn A T x)
include H

theorem pre_at (r : Fin 256) (d : Fin 512) : k1_pay82 (F := Ideal) x.al x.wgu x.bg (ix2 r d) = ((A.pre (row T r) d : ℝ) : EReal) := by
  pointwise [k1_pay82, k1_pay81]
  simp only [H.al, H.wgu, H.bg, ← EReal.coe_mul, coe_sum, ← EReal.coe_add]
  rfl

theorem la_at (r : Fin 256) (d : Fin 512) (w : EReal) (hw : w = ((A.pre (row T r) d : ℝ) : EReal)) :
    (min w 0 - Ideal.log1p (Ideal.exp (0 - max w (-w)))) * Ideal.ofBits .f32 0x3D800000#32 = ((A.la (row T r) d : ℝ) : EReal) := by
  subst hw
  rw [lit_16th, ← EReal.coe_zero, lsg_ideal, ← EReal.coe_mul]
  rfl

theorem er_at (r : Fin 256) (d : Fin 512) : x.exp_e (ix2 r d) = ((Real.exp (A.er (row T r) d) : ℝ) : EReal) := by
  pointwise [k1_pay84, k1_pay83]
  rw [← Ideal.exp_coe]
  refine congrArg Ideal.exp ?_
  rw [← er_tile A T r d]
  refine three_parts (fun c => _) (fun c => A.la (row T c) d) _ _ (fun c => mask_after r c _ rfl) fun c => ?_
  exact la_at H c d _ (pre_at H c d)

theorem dec_at (r : Fin 256) (d : Fin 512) : x.dec (ix2 r d) = ((A.dec ((row T r).val / 64) d : ℝ) : EReal) := by
  pointwise [k1_pay85, k1_pay83]
  unfold Args.dec
  rw [← Ideal.exp_coe]
  refine congrArg Ideal.exp ?_
  rw [← tot_tile A T r d]
  refine three_parts (fun c => _) (fun c => A.la (row T c) d) _ _ (fun c => mask_same r c _ rfl) fun c => ?_
  exact la_at H c d _ (pre_at H c d)

theorem kf_at (r : Fin 256) (d : Fin 512) : k1_pay86 (F := Ideal) k1_pay78 x.al x.wgu x.bg x.k (ix2 r d) = ((A.ke (row T r) d : ℝ) : EReal) := by
  have e : k1_pay84 (F := Ideal) k1_pay78 x.al x.wgu x.bg (ix2 r d) = _ := er_at H r d
  pointwise [k1_pay86]
  rw [e, H.k, ← EReal.coe_mul]
  rfl

theorem ke_at (r : Fin 256) (d : Fin 512) : x.kdec (ix2 r d) = ((A.ke (row T r) d : ℝ) : EReal) := by
  pointwise [k1_pay87]
  exact kf_at H r d

theorem qs_at (r : Fin 256) (d : Fin 512) : x.qs (ix2 r d) = ((A.qs (row T r) d : ℝ) : EReal) := by
  pointwise [k1_pay90, k1_pay88, k1_pay89]
  rw [H.q, lit_sc, ← EReal.coe_mul]
  rfl

theorem vb_at (r : Fin 256) (d : Fin 1024) : x.vb (ix2 r d) = ((A.zv (row T r) d : ℝ) : EReal) := by
  pointwise [k1_pay91]
  exact H.v _ _

/-- The states that the tile loads. -/
theorem s0_at (v k) : x.s00 (ix2 v k) = ((A.st (4 * T.val + 0 + 1) 0 v k : ℝ) : EReal) ∧ x.s01 (ix2 v k) = ((A.st (4 * T.val + 0 + 1) 1 v k : ℝ) : EReal)
    ∧ x.s02 (ix2 v k) = ((A.st (4 * T.val + 0 + 1) 2 v k : ℝ) : EReal) ∧ x.s03 (ix2 v k) = ((A.st (4 * T.val + 0 + 1) 3 v k : ℝ) : EReal) := by
  refine ⟨?_, ?_, ?_, ?_⟩ <;> pointwise [k1_pay92, k1_pay93, k1_pay94, k1_pay95] <;> exact H.sall 0 _ v k

theorem s1_at (v k) : x.s10 (ix2 v k) = ((A.st (4 * T.val + 1 + 1) 0 v k : ℝ) : EReal) ∧ x.s11 (ix2 v k) = ((A.st (4 * T.val + 1 + 1) 1 v k : ℝ) : EReal)
    ∧ x.s12 (ix2 v k) = ((A.st (4 * T.val + 1 + 1) 2 v k : ℝ) : EReal) ∧ x.s13 (ix2 v k) = ((A.st (4 * T.val + 1 + 1) 3 v k : ℝ) : EReal) := by
  refine ⟨?_, ?_, ?_, ?_⟩ <;> pointwise [k1_pay96, k1_pay97, k1_pay98, k1_pay99] <;> exact H.sall 1 _ v k

theorem s2_at (v k) : x.s20 (ix2 v k) = ((A.st (4 * T.val + 2 + 1) 0 v k : ℝ) : EReal) ∧ x.s21 (ix2 v k) = ((A.st (4 * T.val + 2 + 1) 1 v k : ℝ) : EReal)
    ∧ x.s22 (ix2 v k) = ((A.st (4 * T.val + 2 + 1) 2 v k : ℝ) : EReal) ∧ x.s23 (ix2 v k) = ((A.st (4 * T.val + 2 + 1) 3 v k : ℝ) : EReal) := by
  refine ⟨?_, ?_, ?_, ?_⟩ <;> pointwise [k1_pay100, k1_pay101, k1_pay102, k1_pay103] <;> exact H.sall 2 _ v k

theorem s3_at (v k) : x.s30 (ix2 v k) = ((A.st (4 * T.val + 3 + 1) 0 v k : ℝ) : EReal) ∧ x.s31 (ix2 v k) = ((A.st (4 * T.val + 3 + 1) 1 v k : ℝ) : EReal)
    ∧ x.s32 (ix2 v k) = ((A.st (4 * T.val + 3 + 1) 2 v k : ℝ) : EReal) ∧ x.s33 (ix2 v k) = ((A.st (4 * T.val + 3 + 1) 3 v k : ℝ) : EReal) := by
  refine ⟨?_, ?_, ?_, ?_⟩ <;> pointwise [k1_pay104, k1_pay105, k1_pay106, k1_pay107] <;> exact H.sall 3 _ v k

end pieces

end Cert.MixGlaBwd

end
-- ==== Proof.MixGlaOut.lean ====
module

public import proofs.«01_k».proof.Proof.MixGlaBwd

@[expose] public section

set_option maxRecDepth 16384

noncomputable section

/-! The outputs of the four heads in the backward region, their norms and gates, and the gradients of both. -/

namespace Cert.MixGlaBwd

open Idealize.ShloMosaic Idealize.ShloMosaic.TcCoe Idealize.SL.Sem Cert.Reals Cert.NormRow Cert.MixSpec Cert.MixTile Cert.MixLoads Cert.MixStep Cert.MixBlocks Cert.MixArr Cert.MixPieces Cert.Over Cert.MixGla
open Cert.MixerIdeal Cert.MixerIdeal.Gen Cert.MixerBwd Cert.MixerRun

/-- The reciprocal root mean square of a head's output, as the body writes it. -/
theorem rs_of (A : Args) (i : Fin 8192) (h : Fin 4) :
    Ideal.rsqrt (Ideal.div (∑ v : Fin 256, ((A.o i h v : ℝ) : EReal) * ((A.o i h v : ℝ) : EReal)) (Ideal.ofBits .f32 0x43800000#32) + Ideal.ofBits .f32 0x358637BD#32)
      = ((rs 256 (A.o i h) : ℝ) : EReal) := by
  rw [lit_256, lit_eps]
  exact rs_ideal (A.o i h) (by norm_num)

/-- The gradient of a head's gate, as the body writes it. -/
theorem dog_of (A : Args) (i : Fin 8192) (h : Fin 4) (v : Fin 256) :
    ((A.dyg i (vcol h v) : ℝ) : EReal) * (((A.o i h v : ℝ) : EReal) * ((rs 256 (A.o i h) : ℝ) : EReal)) * ((A.gg v : ℝ) : EReal)
        * (Ideal.logistic ((A.zo i (vcol h v) : ℝ) : EReal) * (1 + ((A.zo i (vcol h v) : ℝ) : EReal) * (1 - Ideal.logistic ((A.zo i (vcol h v) : ℝ) : EReal))))
      = ((A.dog i h v : ℝ) : EReal) := by
  simp only [lgs_ideal, ← EReal.coe_one, ← EReal.coe_mul, ← EReal.coe_sub, ← EReal.coe_add]
  rw [Args.dog]
  congr 1
  ring

/-- What a row adds to the gradient of the norm's gain. -/
def ggT (A : Args) (i : Fin 8192) (h : Fin 4) (v : Fin 256) : ℝ := A.dyg i (vcol h v) * A.ogate i h v * (A.o i h v * rs 256 (A.o i h))

section pieces
variable {A : Args} {T : Fin 32} {x : Loads} (H : BIn A T x)
include H

theorem o0_at (r v : Fin 256) : k1_pay108 (F := Ideal) x.qs x.s00 x.s10 x.s20 x.s30 (ix2 r v) = ((A.o (row T r) 0 v : ℝ) : EReal) := by
  have hO := four_chunks 0 (qs_at H) (fun v k => (s0_at H v k).1) (fun v k => (s1_at H v k).1) (fun v k => (s2_at H v k).1) (fun v k => (s3_at H v k).1) (fun k => ⟨k.val, by omega⟩) (fun k => by simp) r v
  pointwise [k1_pay108]
  exact hO

theorem r0_at (r : Fin 256) : k1_pay109 (F := Ideal) x.qs x.s00 x.s10 x.s20 x.s30 (ix2 r 0) = ((rs 256 (A.o (row T r) 0) : ℝ) : EReal) := by
  pointwise [k1_pay109]
  simp only [o0_at H]
  exact rs_of A _ _

theorem n0_at (r v : Fin 256) : k1_pay110 (F := Ideal) x.qs x.s00 x.s10 x.s20 x.s30 (ix2 r v) = ((A.o (row T r) 0 v : ℝ) : EReal) * ((rs 256 (A.o (row T r) 0) : ℝ) : EReal) := by
  pointwise [k1_pay110]
  exact congrArg₂ (HMul.hMul (α := EReal) (β := EReal)) (o0_at H r v) (r0_at H r)

theorem gate0_at (r v : Fin 256) : k1_pay113 (F := Ideal) (x.og 0) (ix2 r v) = ((A.ogate (row T r) 0 v : ℝ) : EReal) := by
  pointwise [k1_pay113, k1_pay112, k1_pay111]
  rw [H.og, lgs_ideal, ← EReal.coe_mul]
  rfl

theorem o1_at (r v : Fin 256) : k1_pay117 (F := Ideal) x.qs x.s01 x.s11 x.s21 x.s31 (ix2 r v) = ((A.o (row T r) 1 v : ℝ) : EReal) := by
  have hO := four_chunks 1 (qs_at H) (fun v k => (s0_at H v k).2.1) (fun v k => (s1_at H v k).2.1) (fun v k => (s2_at H v k).2.1) (fun v k => (s3_at H v k).2.1) (fun k => ⟨128 + k.val, by omega⟩) (fun k => by simp) r v
  pointwise [k1_pay117]
  exact hO

theorem r1_at (r : Fin 256) : k1_pay118 (F := Ideal) x.qs x.s01 x.s11 x.s21 x.s31 (ix2 r 0) = ((rs 256 (A.o (row T r) 1) : ℝ) : EReal) := by
  pointwise [k1_pay118]
  simp only [o1_at H]
  exact rs_of A _ _

theorem n1_at (r v : Fin 256) : k1_pay119 (F := Ideal) x.qs x.s01 x.s11 x.s21 x.s31 (ix2 r v) = ((A.o (row T r) 1 v : ℝ) : EReal) * ((rs 256 (A.o (row T r) 1) : ℝ) : EReal) := by
  pointwise [k1_pay119]
  exact congrArg₂ (HMul.hMul (α := EReal) (β := EReal)) (o1_at H r v) (r1_at H r)

theorem gate1_at (r v : Fin 256) : k1_pay122 (F := Ideal) (x.og 1) (ix2 r v) = ((A.ogate (row T r) 1 v : ℝ) : EReal) := by
  pointwise [k1_pay122, k1_pay121, k1_pay120]
  rw [H.og, lgs_ideal, ← EReal.coe_mul]
  rfl

theorem o2_at (r v : Fin 256) : k1_pay127 (F := Ideal) x.qs x.s02 x.s12 x.s22 x.s32 (ix2 r v) = ((A.o (row T r) 2 v : ℝ) : EReal) := by
  have hO := four_chunks 2 (qs_at H) (fun v k => (s0_at H v k).2.2.1) (fun v k => (s1_at H v k).2.2.1) (fun v k => (s2_at H v k).2.2.1) (fun v k => (s3_at H v k).2.2.1) (fun k => ⟨256 + k.val, by omega⟩) (fun k => by simp) r v
  pointwise [k1_pay127]
  exact hO

theorem r2_at (r : Fin 256) : k1_pay128 (F := Ideal) x.qs x.s02 x.s12 x.s22 x.s32 (ix2 r 0) = ((rs 256 (A.o (row T r) 2) : ℝ) : EReal) := by
  pointwise [k1_pay128]
  simp only [o2_at H]
  exact rs_of A _ _

theorem n2_at (r v : Fin 256) : k1_pay129 (F := Ideal) x.qs x.s02 x.s12 x.s22 x.s32 (ix2 r v) = ((A.o (row T r) 2 v : ℝ) : EReal) * ((rs 256 (A.o (row T r) 2) : ℝ) : EReal) := by
  pointwise [k1_pay129]
  exact congrArg₂ (HMul.hMul (α := EReal) (β := EReal)) (o2_at H r v) (r2_at H r)

theorem gate2_at (r v : Fin 256) : k1_pay132 (F := Ideal) (x.og 2) (ix2 r v) = ((A.ogate (row T r) 2 v : ℝ) : EReal) := by
  pointwise [k1_pay132, k1_pay131, k1_pay130]
  rw [H.og, lgs_ideal, ← EReal.coe_mul]
  rfl

theorem o3_at (r v : Fin 256) : k1_pay136 (F := Ideal) x.qs x.s03 x.s13 x.s23 x.s33 (ix2 r v) = ((A.o (row T r) 3 v : ℝ) : EReal) := by
  have hO := four_chunks 3 (qs_at H) (fun v k => (s0_at H v k).2.2.2) (fun v k => (s1_at H v k).2.2.2) (fun v k => (s2_at H v k).2.2.2) (fun v k => (s3_at H v k).2.2.2) (fun k => ⟨384 + k.val, by omega⟩) (fun k => by simp) r v
  pointwise [k1_pay136]
  exact hO

theorem r3_at (r : Fin 256) : k1_pay138 (F := Ideal) (k1_pay137 x.qs x.s03 x.s13 x.s23 x.s33) (ix2 r 0) = ((rs 256 (A.o (row T r) 3) : ℝ) : EReal) := by
  pointwise [k1_pay138, k1_pay137]
  simp only [o3_at H]
  exact rs_of A _ _

theorem n3_at (r v : Fin 256) : k1_pay139 (F := Ideal) (k1_pay136 x.qs x.s03 x.s13 x.s23 x.s33) (k1_pay137 x.qs x.s03 x.s13 x.s23 x.s33) (ix2 r v) = ((A.o (row T r) 3 v : ℝ) : EReal) * ((rs 256 (A.o (row T r) 3) : ℝ) : EReal) := by
  pointwise [k1_pay139]
  exact congrArg₂ (HMul.hMul (α := EReal) (β := EReal)) (o3_at H r v) (r3_at H r)

theorem gate3_at (r v : Fin 256) : k1_pay142 (F := Ideal) (x.og 3) (ix2 r v) = ((A.ogate (row T r) 3 v : ℝ) : EReal) := by
  pointwise [k1_pay142, k1_pay141, k1_pay140]
  rw [H.og, lgs_ideal, ← EReal.coe_mul]
  rfl

theorem dog0_at (r v : Fin 256) : k1_pay115 (F := Ideal) x.qs x.gg x.s00 x.s10 x.s20 x.s30 (x.og 0) (x.dyg 0) (ix2 r v) = ((A.dog (row T r) 0 v : ℝ) : EReal) := by
  pointwise [k1_pay115, k1_pay112, k1_pay111]
  simp only [n0_at H, H.og, H.gg, H.dyg]
  exact dog_of A _ _ _

theorem do0_at (r v : Fin 256) : x.do0 (ix2 r v) = ((A.dO (row T r) 0 v : ℝ) : EReal) := by
  pointwise [k1_pay116]
  simp only [n0_at H, r0_at H, H.gg, H.dyg, gate0_at H, lit_256]
  exact gate_grad A _ _ _ _ rfl

theorem dog1_at (r v : Fin 256) : k1_pay125 (F := Ideal) x.gg (k1_pay120 (x.og 1)) (k1_pay121 (x.og 1)) (k1_pay124 x.qs x.s01 x.s11 x.s21 x.s31 (x.dyg 1)) (ix2 r v) = ((A.dog (row T r) 1 v : ℝ) : EReal) := by
  pointwise [k1_pay125, k1_pay124, k1_pay121, k1_pay120]
  simp only [n1_at H, H.og, H.gg, H.dyg]
  exact dog_of A _ _ _

theorem do1_at (r v : Fin 256) : x.do1 (ix2 r v) = ((A.dO (row T r) 1 v : ℝ) : EReal) := by
  pointwise [k1_pay126]
  simp only [n1_at H, r1_at H, H.gg, H.dyg, gate1_at H, lit_256]
  exact gate_grad A _ _ _ _ rfl

theorem dog2_at (r v : Fin 256) : k1_pay134 (F := Ideal) x.gg (k1_pay129 x.qs x.s02 x.s12 x.s22 x.s32) (x.og 2) (x.dyg 2) (ix2 r v) = ((A.dog (row T r) 2 v : ℝ) : EReal) := by
  pointwise [k1_pay134, k1_pay131, k1_pay130]
  simp only [n2_at H, H.og, H.gg, H.dyg]
  exact dog_of A _ _ _

theorem do2_at (r v : Fin 256) : x.do2 (ix2 r v) = ((A.dO (row T r) 2 v : ℝ) : EReal) := by
  pointwise [k1_pay135]
  simp only [n2_at H, r2_at H, H.gg, H.dyg, gate2_at H, lit_256]
  exact gate_grad A _ _ _ _ rfl

theorem dog3_at (r v : Fin 256) : k1_pay144 (F := Ideal) x.gg (k1_pay136 x.qs x.s03 x.s13 x.s23 x.s33) (k1_pay137 x.qs x.s03 x.s13 x.s23 x.s33) (x.og 3) (x.dyg 3) (ix2 r v) = ((A.dog (row T r) 3 v : ℝ) : EReal) := by
  pointwise [k1_pay144, k1_pay141, k1_pay140]
  simp only [n3_at H, H.og, H.gg, H.dyg]
  exact dog_of A _ _ _

theorem do3_at (r v : Fin 256) : x.do3 (ix2 r v) = ((A.dO (row T r) 3 v : ℝ) : EReal) := by
  pointwise [k1_pay145]
  simp only [n3_at H, r3_at H, H.gg, H.dyg, gate3_at H, lit_256]
  exact gate_grad A _ _ _ _ rfl

/-- The gradient of the norm's gain, added over the tile. -/
theorem dgg_at (z : Vec Ideal S1x256 .f32) (v : Fin 256) : over z x.dgg (ix2 0 v) = x.agg (ix2 0 v) + ((∑ r, ∑ h, ggT A (row T r) h v : ℝ) : EReal) := by
  unfold Loads.dgg
  refine (over_hit _ _ _ 0 v _ _ (Nat.zero_add _).symm (Nat.zero_add _).symm).trans ?_
  pointwise [k1_pay146, k1_pay143, k1_pay133, k1_pay123, k1_pay114]
  simp only [n0_at H, n1_at H, n2_at H, n3_at H, gate0_at H, gate1_at H, gate2_at H, gate3_at H, H.dyg, ← EReal.coe_mul, coe_sum, ← EReal.coe_add]
  refine congrArg (fun w : ℝ => x.agg (ix2 0 v) + (w : EReal)) ?_
  rw [Finset.sum_comm, Fin.sum_univ_four]
  simp only [ggT, mul_right_comm _ (Args.ogate _ _ _ _)]

end pieces

end Cert.MixGlaBwd

end
-- ==== Proof.MixGlaG.lean ====
module

public import proofs.«01_k».proof.Proof.MixGlaOut

@[expose] public section

set_option maxRecDepth 16384

noncomputable section

/-! The gradients of the states in the backward region, chunk by chunk from the last, and of the decays. -/

namespace Cert.MixGlaBwd

open Idealize.ShloMosaic Idealize.ShloMosaic.TcCoe Idealize.SL.Sem Cert.Reals Cert.NormRow Cert.MixSpec Cert.MixTile Cert.MixLoads Cert.MixStep Cert.MixBlocks Cert.MixArr Cert.MixPieces Cert.Over Cert.MixGla
open Cert.MixerIdeal Cert.MixerIdeal.Gen Cert.MixerBwd Cert.MixerRun

theorem G_eq (A : Args) (n : ℕ) (h : Fin 4) (v : Fin 256) (k : Fin 128) : A.G n h v k = A.own n h v k + A.back (128 - (n + 1)) h v k := by
  rw [show 128 - (n + 1) = 127 - n by omega]
  rfl

theorem back_eq (A : Args) (n : ℕ) (hn : n ≤ 127) (h : Fin 4) (v : Fin 256) (k : Fin 128) : A.back (128 - n) h v k = A.G n h v k * A.dec n (kc h k) := by
  rw [show 128 - n = (127 - n) + 1 by omega, Args.back, show 127 - (127 - n) = n by omega]
  rfl

section pieces
variable {A : Args} {T : Fin 32} {x : Loads} (H : BIn A T x)
include H

/-- What a chunk's own rows add to its state's gradient. -/
theorem own_of (n h : Fin 4) (i : Fin 64 → Fin 256) (hi : ∀ a, (i a).val = 64 * n.val + a.val) (q : Fin 512) (v : Fin 256) (k : Fin 128) (hq : q.val = 128 * h.val + k.val)
    {d : S256x256.Idx → EReal} (hd : ∀ r v, d (ix2 r v) = ((A.dO (row T r) h v : ℝ) : EReal)) :
    (∑ a, d (ix2 (i a) v) * x.qs (ix2 (i a) q)) = ((A.own (4 * T.val + n.val) h v k : ℝ) : EReal) := by
  obtain rfl : q = kc h k := Fin.ext hq
  have e : ∀ a, row T (i a) = cr (4 * T.val + n.val) a := fun a => Fin.ext (by simp only [row, cr, hi]; omega)
  simp only [qs_at H, hd, e, ← EReal.coe_mul, coe_sum]
  rfl

theorem dec_of (n h : Fin 4) (i : Fin 256) (hi : i.val = 64 * n.val) (q : Fin 512) (k : Fin 128) (hq : q.val = 128 * h.val + k.val) :
    x.dec (ix2 i q) = ((A.dec (4 * T.val + n.val) (kc h k) : ℝ) : EReal) := by
  obtain rfl : q = kc h k := Fin.ext hq
  rw [dec_at H, show (row T i).val / 64 = 4 * T.val + n.val by simp only [row, hi]; omega]

/-- A state's gradient, decayed over its chunk. -/
theorem decayed (n h : Fin 4) (i : Fin 256) (hi : i.val = 64 * n.val) (q : Fin 512) (v : Fin 256) (k : Fin 128) (hq : q.val = 128 * h.val + k.val)
    (g : EReal) (hg : g = ((A.G (4 * T.val + n.val) h v k : ℝ) : EReal)) :
    g * x.dec (ix2 i q) = ((A.back (128 - (4 * T.val + n.val)) h v k : ℝ) : EReal) := by
  rw [hg, dec_of H n h i hi q k hq, ← EReal.coe_mul, back_eq _ _ (by omega)]

/-- The gradient of a chunk's decay. -/
theorem ddec_of (n h : Fin 4) (i : Fin 256) (hi : i.val = 64 * n.val) (q : Fin 512) (k : Fin 128) (hq : q.val = 128 * h.val + k.val)
    (p : Fin 256 → EReal) (hp : ∀ v, p v = ((A.G (4 * T.val + n.val) h v k : ℝ) : EReal) * ((A.st (4 * T.val + n.val) h v k : ℝ) : EReal)) :
    (∑ v, p v) * x.dec (ix2 i q) = ((A.ddec (4 * T.val + n.val) h k : ℝ) : EReal) := by
  simp only [hp, dec_of H n h i hi q k hq, ← EReal.coe_mul, coe_sum]
  rfl

omit H in
/-- A head's column, from its part of the columns. -/
theorem head_col (h : Fin 4) (d : Fin 512) (k : Fin 128) (hd : d.val = 128 * h.val + k.val) : kh d = h ∧ kl d = k := by
  obtain rfl : d = kc h k := Fin.ext hd
  exact ⟨kh_kc h k, kl_kc h k⟩

/-- The state before the tile is zero before the first. -/
theorem before_of (h : Fin 4) (v : Fin 256) (k : Fin 128) (g : EReal) (hg : g = ((A.G (4 * T.val + 0) h v k : ℝ) : EReal)) :
    Scalar.select x.isFirst 0 (g * x.sprev h (ix4 0 0 v k)) = ((A.G (4 * T.val + 0) h v k : ℝ) : EReal) * ((A.st (4 * T.val + 0) h v k : ℝ) : EReal) := by
  by_cases hT : T = 0
  · subst hT
    have e : x.isFirst = 1#1 := by
      show Scalar.cmpi .eq (Scalar.subi 31#32 (BitVec.ofNat 32 (x.i 0).val)) 0#32 = 1#1
      rw [H.pt]; decide
    rw [e, show A.st (4 * (0 : Fin 32).val + 0) h v k = 0 from rfl, EReal.coe_zero, mul_zero]
    rfl
  · have e : x.isFirst = 0#1 := by
      show Scalar.cmpi .eq (Scalar.subi 31#32 (BitVec.ofNat 32 (x.i 0).val)) 0#32 = 0#1
      rw [H.pt]
      clear H hg; revert T; decide
    rw [e, hg]
    exact congrArg (((A.G (4 * T.val + 0) h v k : ℝ) : EReal) * ·) (H.sprev hT h v k)

/-- The state before a later chunk of the tile. -/
theorem sall_of (n : Fin 4) (n' : Fin 4) (hn : n'.val + 1 = n.val) (h : Fin 4) (v : Fin 256) (k : Fin 128) :
    x.sall n' h (ix4 0 0 v k) = ((A.st (4 * T.val + n.val) h v k : ℝ) : EReal) := by
  rw [H.sall, ← hn]
  rfl

variable (hg : ∀ h v k, x.gd h (ix3 0 v k) = ((A.back (128 - (4 * T.val + 3 + 1)) h v k : ℝ) : EReal))

theorem own33_at (v : Fin 256) (k : Fin 128) : x.own33 (ix2 v k) = ((A.own (4 * T.val + 3) 3 v k : ℝ) : EReal) := by
  pointwise [k1_pay168]
  exact own_of H 3 3 (fun a => ⟨192 + a.val, by omega⟩) (fun a => by simp) ⟨384 + k.val, by omega⟩ v k (by simp) (do3_at H)

theorem own20_at (v : Fin 256) (k : Fin 128) : x.own20 (ix2 v k) = ((A.own (4 * T.val + 2) 0 v k : ℝ) : EReal) := by
  pointwise [k1_pay164]
  exact own_of H 2 0 (fun a => ⟨128 + a.val, by omega⟩) (fun a => by simp) ⟨k.val, by omega⟩ v k (by simp) (do0_at H)

theorem own21_at (v : Fin 256) (k : Fin 128) : x.own21 (ix2 v k) = ((A.own (4 * T.val + 2) 1 v k : ℝ) : EReal) := by
  pointwise [k1_pay165]
  exact own_of H 2 1 (fun a => ⟨128 + a.val, by omega⟩) (fun a => by simp) ⟨128 + k.val, by omega⟩ v k (by simp) (do1_at H)

theorem own22_at (v : Fin 256) (k : Fin 128) : x.own22 (ix2 v k) = ((A.own (4 * T.val + 2) 2 v k : ℝ) : EReal) := by
  pointwise [k1_pay166]
  exact own_of H 2 2 (fun a => ⟨128 + a.val, by omega⟩) (fun a => by simp) ⟨256 + k.val, by omega⟩ v k (by simp) (do2_at H)

theorem own23_at (v : Fin 256) (k : Fin 128) : x.own23 (ix2 v k) = ((A.own (4 * T.val + 2) 3 v k : ℝ) : EReal) := by
  pointwise [k1_pay167]
  exact own_of H 2 3 (fun a => ⟨128 + a.val, by omega⟩) (fun a => by simp) ⟨384 + k.val, by omega⟩ v k (by simp) (do3_at H)

theorem own10_at (v : Fin 256) (k : Fin 128) : x.own10 (ix2 v k) = ((A.own (4 * T.val + 1) 0 v k : ℝ) : EReal) := by
  pointwise [k1_pay158]
  exact own_of H 1 0 (fun a => ⟨64 + a.val, by omega⟩) (fun a => by simp) ⟨k.val, by omega⟩ v k (by simp) (do0_at H)

theorem own11_at (v : Fin 256) (k : Fin 128) : x.own11 (ix2 v k) = ((A.own (4 * T.val + 1) 1 v k : ℝ) : EReal) := by
  pointwise [k1_pay159]
  exact own_of H 1 1 (fun a => ⟨64 + a.val, by omega⟩) (fun a => by simp) ⟨128 + k.val, by omega⟩ v k (by simp) (do1_at H)

theorem own12_at (v : Fin 256) (k : Fin 128) : x.own12 (ix2 v k) = ((A.own (4 * T.val + 1) 2 v k : ℝ) : EReal) := by
  pointwise [k1_pay162, k1_pay160, k1_pay161]
  exact own_of H 1 2 (fun a => ⟨64 + a.val, by omega⟩) (fun a => by simp) ⟨256 + k.val, by omega⟩ v k (by simp) (do2_at H)

theorem own13_at (v : Fin 256) (k : Fin 128) : x.own13 (ix2 v k) = ((A.own (4 * T.val + 1) 3 v k : ℝ) : EReal) := by
  pointwise [k1_pay163]
  exact own_of H 1 3 (fun a => ⟨64 + a.val, by omega⟩) (fun a => by simp) ⟨384 + k.val, by omega⟩ v k (by simp) (do3_at H)

theorem own00_at (v : Fin 256) (k : Fin 128) : x.own00 (ix2 v k) = ((A.own (4 * T.val + 0) 0 v k : ℝ) : EReal) := by
  pointwise [k1_pay154]
  exact own_of H 0 0 (fun a => ⟨a.val, by omega⟩) (fun a => by simp) ⟨k.val, by omega⟩ v k (by simp) (do0_at H)

theorem own01_at (v : Fin 256) (k : Fin 128) : x.own01 (ix2 v k) = ((A.own (4 * T.val + 0) 1 v k : ℝ) : EReal) := by
  pointwise [k1_pay155]
  exact own_of H 0 1 (fun a => ⟨a.val, by omega⟩) (fun a => by simp) ⟨128 + k.val, by omega⟩ v k (by simp) (do1_at H)

theorem own02_at (v : Fin 256) (k : Fin 128) : x.own02 (ix2 v k) = ((A.own (4 * T.val + 0) 2 v k : ℝ) : EReal) := by
  pointwise [k1_pay156]
  exact own_of H 0 2 (fun a => ⟨a.val, by omega⟩) (fun a => by simp) ⟨256 + k.val, by omega⟩ v k (by simp) (do2_at H)

theorem own03_at (v : Fin 256) (k : Fin 128) : x.own03 (ix2 v k) = ((A.own (4 * T.val + 0) 3 v k : ℝ) : EReal) := by
  pointwise [k1_pay157]
  exact own_of H 0 3 (fun a => ⟨a.val, by omega⟩) (fun a => by simp) ⟨384 + k.val, by omega⟩ v k (by simp) (do3_at H)

include hg

theorem g30_at (v : Fin 256) (k : Fin 128) : x.g30 (ix2 v k) = ((A.G (4 * T.val + 3) 0 v k : ℝ) : EReal) := by
  pointwise [k1_pay170]
  have e := own_of H 3 0 (fun a => ⟨192 + a.val, by omega⟩) (fun a => by simp) ⟨k.val, by omega⟩ v k (by simp) (do0_at H)
  rw [hg, G_eq, EReal.coe_add]
  exact congrArg (· + _) e

theorem c30_at (v : Fin 256) (k : Fin 128) : x.c30 (ix2 v k) = ((A.back (128 - (4 * T.val + 3)) 0 v k : ℝ) : EReal) := by
  pointwise [k1_pay178, k1_pay174]
  exact decayed H 3 0 _ rfl _ v k (by simp) _ (g30_at H hg v k)

theorem g31_at (v : Fin 256) (k : Fin 128) : x.g31 (ix2 v k) = ((A.G (4 * T.val + 3) 1 v k : ℝ) : EReal) := by
  pointwise [k1_pay171]
  have e := own_of H 3 1 (fun a => ⟨192 + a.val, by omega⟩) (fun a => by simp) ⟨128 + k.val, by omega⟩ v k (by simp) (do1_at H)
  rw [hg, G_eq, EReal.coe_add]
  exact congrArg (· + _) e

theorem c31_at (v : Fin 256) (k : Fin 128) : x.c31 (ix2 v k) = ((A.back (128 - (4 * T.val + 3)) 1 v k : ℝ) : EReal) := by
  pointwise [k1_pay179, k1_pay175]
  exact decayed H 3 1 _ rfl _ v k (by simp) _ (g31_at H hg v k)

theorem g32_at (v : Fin 256) (k : Fin 128) : x.g32 (ix2 v k) = ((A.G (4 * T.val + 3) 2 v k : ℝ) : EReal) := by
  pointwise [k1_pay172]
  have e := own_of H 3 2 (fun a => ⟨192 + a.val, by omega⟩) (fun a => by simp) ⟨256 + k.val, by omega⟩ v k (by simp) (do2_at H)
  rw [hg, G_eq, EReal.coe_add]
  exact congrArg (· + _) e

theorem c32_at (v : Fin 256) (k : Fin 128) : x.c32 (ix2 v k) = ((A.back (128 - (4 * T.val + 3)) 2 v k : ℝ) : EReal) := by
  pointwise [k1_pay180, k1_pay176]
  exact decayed H 3 2 _ rfl _ v k (by simp) _ (g32_at H hg v k)

theorem g33_at (v : Fin 256) (k : Fin 128) : x.g33 (ix2 v k) = ((A.G (4 * T.val + 3) 3 v k : ℝ) : EReal) := by
  pointwise [k1_pay173, k1_pay169]
  rw [hg, own33_at H, ← EReal.coe_add, G_eq]

theorem c33_at (v : Fin 256) (k : Fin 128) : x.c33 (ix2 v k) = ((A.back (128 - (4 * T.val + 3)) 3 v k : ℝ) : EReal) := by
  pointwise [k1_pay181, k1_pay177]
  exact decayed H 3 3 _ rfl _ v k (by simp) _ (g33_at H hg v k)

theorem g20_at (v : Fin 256) (k : Fin 128) : x.g20 (ix2 v k) = ((A.G (4 * T.val + 2) 0 v k : ℝ) : EReal) := by
  pointwise [k1_pay187]
  rw [own20_at H, c30_at H hg, ← EReal.coe_add, G_eq]

theorem c20_at (v : Fin 256) (k : Fin 128) : x.c20 (ix2 v k) = ((A.back (128 - (4 * T.val + 2)) 0 v k : ℝ) : EReal) := by
  pointwise [k1_pay195, k1_pay191]
  exact decayed H 2 0 _ rfl _ v k (by simp) _ (g20_at H hg v k)

theorem g21_at (v : Fin 256) (k : Fin 128) : x.g21 (ix2 v k) = ((A.G (4 * T.val + 2) 1 v k : ℝ) : EReal) := by
  pointwise [k1_pay188]
  rw [own21_at H, c31_at H hg, ← EReal.coe_add, G_eq]

theorem c21_at (v : Fin 256) (k : Fin 128) : x.c21 (ix2 v k) = ((A.back (128 - (4 * T.val + 2)) 1 v k : ℝ) : EReal) := by
  pointwise [k1_pay196, k1_pay192]
  exact decayed H 2 1 _ rfl _ v k (by simp) _ (g21_at H hg v k)

theorem g22_at (v : Fin 256) (k : Fin 128) : x.g22 (ix2 v k) = ((A.G (4 * T.val + 2) 2 v k : ℝ) : EReal) := by
  pointwise [k1_pay189]
  rw [own22_at H, c32_at H hg, ← EReal.coe_add, G_eq]

theorem c22_at (v : Fin 256) (k : Fin 128) : x.c22 (ix2 v k) = ((A.back (128 - (4 * T.val + 2)) 2 v k : ℝ) : EReal) := by
  pointwise [k1_pay197, k1_pay193]
  exact decayed H 2 2 _ rfl _ v k (by simp) _ (g22_at H hg v k)

theorem g23_at (v : Fin 256) (k : Fin 128) : x.g23 (ix2 v k) = ((A.G (4 * T.val + 2) 3 v k : ℝ) : EReal) := by
  pointwise [k1_pay190]
  rw [own23_at H, c33_at H hg, ← EReal.coe_add, G_eq]

theorem c23_at (v : Fin 256) (k : Fin 128) : x.c23 (ix2 v k) = ((A.back (128 - (4 * T.val + 2)) 3 v k : ℝ) : EReal) := by
  pointwise [k1_pay198, k1_pay194]
  exact decayed H 2 3 _ rfl _ v k (by simp) _ (g23_at H hg v k)

theorem g10_at (v : Fin 256) (k : Fin 128) : x.g10 (ix2 v k) = ((A.G (4 * T.val + 1) 0 v k : ℝ) : EReal) := by
  pointwise [k1_pay208]
  rw [own10_at H, c20_at H hg, ← EReal.coe_add, G_eq]

theorem c10_at (v : Fin 256) (k : Fin 128) : x.c10 (ix2 v k) = ((A.back (128 - (4 * T.val + 1)) 0 v k : ℝ) : EReal) := by
  pointwise [k1_pay216, k1_pay212]
  exact decayed H 1 0 _ rfl _ v k (by simp) _ (g10_at H hg v k)

theorem g11_at (v : Fin 256) (k : Fin 128) : x.g11 (ix2 v k) = ((A.G (4 * T.val + 1) 1 v k : ℝ) : EReal) := by
  pointwise [k1_pay209]
  rw [own11_at H, c21_at H hg, ← EReal.coe_add, G_eq]

theorem c11_at (v : Fin 256) (k : Fin 128) : x.c11 (ix2 v k) = ((A.back (128 - (4 * T.val + 1)) 1 v k : ℝ) : EReal) := by
  pointwise [k1_pay217, k1_pay213]
  exact decayed H 1 1 _ rfl _ v k (by simp) _ (g11_at H hg v k)

theorem g12_at (v : Fin 256) (k : Fin 128) : x.g12 (ix2 v k) = ((A.G (4 * T.val + 1) 2 v k : ℝ) : EReal) := by
  pointwise [k1_pay210]
  rw [own12_at H, c22_at H hg, ← EReal.coe_add, G_eq]

theorem c12_at (v : Fin 256) (k : Fin 128) : x.c12 (ix2 v k) = ((A.back (128 - (4 * T.val + 1)) 2 v k : ℝ) : EReal) := by
  pointwise [k1_pay218, k1_pay214]
  exact decayed H 1 2 _ rfl _ v k (by simp) _ (g12_at H hg v k)

theorem g13_at (v : Fin 256) (k : Fin 128) : x.g13 (ix2 v k) = ((A.G (4 * T.val + 1) 3 v k : ℝ) : EReal) := by
  pointwise [k1_pay211]
  rw [own13_at H, c23_at H hg, ← EReal.coe_add, G_eq]

theorem c13_at (v : Fin 256) (k : Fin 128) : x.c13 (ix2 v k) = ((A.back (128 - (4 * T.val + 1)) 3 v k : ℝ) : EReal) := by
  pointwise [k1_pay219, k1_pay215]
  exact decayed H 1 3 _ rfl _ v k (by simp) _ (g13_at H hg v k)

theorem g00_at (v : Fin 256) (k : Fin 128) : x.g00 (ix2 v k) = ((A.G (4 * T.val + 0) 0 v k : ℝ) : EReal) := by
  pointwise [k1_pay229]
  rw [own00_at H, c10_at H hg, ← EReal.coe_add, G_eq]
  rfl

theorem c00_at (v : Fin 256) (k : Fin 128) : x.c00 (ix2 v k) = ((A.back (128 - (4 * T.val + 0)) 0 v k : ℝ) : EReal) := by
  pointwise [k1_pay237, k1_pay233]
  exact decayed H 0 0 _ rfl _ v k (by simp) _ (g00_at H hg v k)

theorem g01_at (v : Fin 256) (k : Fin 128) : x.g01 (ix2 v k) = ((A.G (4 * T.val + 0) 1 v k : ℝ) : EReal) := by
  pointwise [k1_pay230]
  rw [own01_at H, c11_at H hg, ← EReal.coe_add, G_eq]
  rfl

theorem c01_at (v : Fin 256) (k : Fin 128) : x.c01 (ix2 v k) = ((A.back (128 - (4 * T.val + 0)) 1 v k : ℝ) : EReal) := by
  pointwise [k1_pay238, k1_pay234]
  exact decayed H 0 1 _ rfl _ v k (by simp) _ (g01_at H hg v k)

theorem g02_at (v : Fin 256) (k : Fin 128) : x.g02 (ix2 v k) = ((A.G (4 * T.val + 0) 2 v k : ℝ) : EReal) := by
  pointwise [k1_pay231]
  rw [own02_at H, c12_at H hg, ← EReal.coe_add, G_eq]
  rfl

theorem c02_at (v : Fin 256) (k : Fin 128) : x.c02 (ix2 v k) = ((A.back (128 - (4 * T.val + 0)) 2 v k : ℝ) : EReal) := by
  pointwise [k1_pay239, k1_pay235]
  exact decayed H 0 2 _ rfl _ v k (by simp) _ (g02_at H hg v k)

theorem g03_at (v : Fin 256) (k : Fin 128) : x.g03 (ix2 v k) = ((A.G (4 * T.val + 0) 3 v k : ℝ) : EReal) := by
  pointwise [k1_pay232]
  rw [own03_at H, c13_at H hg, ← EReal.coe_add, G_eq]
  rfl

theorem c03_at (v : Fin 256) (k : Fin 128) : x.c03 (ix2 v k) = ((A.back (128 - (4 * T.val + 0)) 3 v k : ℝ) : EReal) := by
  pointwise [k1_pay240, k1_pay236]
  exact decayed H 0 3 _ rfl _ v k (by simp) _ (g03_at H hg v k)

attribute [local irreducible] Args.G Args.st Args.ddec Args.back

theorem dd3_at (a : Fin 64) (d : Fin 512) : x.dd3 (ix2 a d) = ((A.ddec (4 * T.val + 3) (kh d) (kl d) : ℝ) : EReal) := by
  pointwise [k1_pay182, k1_pay174, k1_pay175, k1_pay176, k1_pay177]
  by_cases h0 : d.val < 128
  · rw [dif_pos h0]
    obtain ⟨e1, e2⟩ := head_col 0 d ⟨d.val, by omega⟩ (by simp only [Fin.val_zero, Fin.isValue, show ((1 : Fin 4) : ℕ) = 1 from rfl, show ((2 : Fin 4) : ℕ) = 2 from rfl, show ((3 : Fin 4) : ℕ) = 3 from rfl]; omega)
    have e := ddec_of H 3 0 192 rfl ⟨d.val, by omega⟩ ⟨d.val, by omega⟩ (by simp) _ fun v => congrArg₂ (HMul.hMul (α := EReal) (β := EReal)) (g30_at H hg v ⟨d.val, by omega⟩) (sall_of H 3 2 rfl 0 v ⟨d.val, by omega⟩)
    rw [e1, e2]
    exact e
  rw [dif_neg h0]
  by_cases h1 : d.val - 128 < 128
  · rw [dif_pos h1]
    obtain ⟨e1, e2⟩ := head_col 1 d ⟨d.val - 128, by omega⟩ (by simp only [Fin.val_zero, Fin.isValue, show ((1 : Fin 4) : ℕ) = 1 from rfl, show ((2 : Fin 4) : ℕ) = 2 from rfl, show ((3 : Fin 4) : ℕ) = 3 from rfl]; omega)
    have e := ddec_of H 3 1 192 rfl ⟨128 + (d.val - 128), by omega⟩ ⟨d.val - 128, by omega⟩ (by simp) _ fun v => congrArg₂ (HMul.hMul (α := EReal) (β := EReal)) (g31_at H hg v ⟨d.val - 128, by omega⟩) (sall_of H 3 2 rfl 1 v ⟨d.val - 128, by omega⟩)
    rw [e1, e2]
    exact e
  rw [dif_neg h1]
  by_cases h2 : d.val - 128 - 128 < 128
  · rw [dif_pos h2]
    obtain ⟨e1, e2⟩ := head_col 2 d ⟨d.val - 128 - 128, by omega⟩ (by simp only [Fin.val_zero, Fin.isValue, show ((1 : Fin 4) : ℕ) = 1 from rfl, show ((2 : Fin 4) : ℕ) = 2 from rfl, show ((3 : Fin 4) : ℕ) = 3 from rfl]; omega)
    have e := ddec_of H 3 2 192 rfl ⟨256 + (d.val - 128 - 128), by omega⟩ ⟨d.val - 128 - 128, by omega⟩ (by simp) _ fun v => congrArg₂ (HMul.hMul (α := EReal) (β := EReal)) (g32_at H hg v ⟨d.val - 128 - 128, by omega⟩) (sall_of H 3 2 rfl 2 v ⟨d.val - 128 - 128, by omega⟩)
    rw [e1, e2]
    exact e
  rw [dif_neg h2]
  · obtain ⟨e1, e2⟩ := head_col 3 d ⟨d.val - 128 - 128 - 128, by omega⟩ (by simp only [Fin.val_zero, Fin.isValue, show ((1 : Fin 4) : ℕ) = 1 from rfl, show ((2 : Fin 4) : ℕ) = 2 from rfl, show ((3 : Fin 4) : ℕ) = 3 from rfl]; omega)
    have e := ddec_of H 3 3 192 rfl ⟨384 + (d.val - 128 - 128 - 128), by omega⟩ ⟨d.val - 128 - 128 - 128, by omega⟩ (by simp) _ fun v => congrArg₂ (HMul.hMul (α := EReal) (β := EReal)) (g33_at H hg v ⟨d.val - 128 - 128 - 128, by omega⟩) (sall_of H 3 2 rfl 3 v ⟨d.val - 128 - 128 - 128, by omega⟩)
    rw [e1, e2]
    exact e

theorem dd2_at (a : Fin 64) (d : Fin 512) : x.dd2 (ix2 a d) = ((A.ddec (4 * T.val + 2) (kh d) (kl d) : ℝ) : EReal) := by
  pointwise [k1_pay203, k1_pay194, k1_pay199, k1_pay200, k1_pay201, k1_pay202, k1_pay191, k1_pay192, k1_pay193]
  by_cases h0 : d.val < 128
  · rw [dif_pos h0]
    obtain ⟨e1, e2⟩ := head_col 0 d ⟨d.val, by omega⟩ (by simp only [Fin.val_zero, Fin.isValue, show ((1 : Fin 4) : ℕ) = 1 from rfl, show ((2 : Fin 4) : ℕ) = 2 from rfl, show ((3 : Fin 4) : ℕ) = 3 from rfl]; omega)
    have e := ddec_of H 2 0 128 rfl ⟨d.val, by omega⟩ ⟨d.val, by omega⟩ (by simp) _ fun v => congrArg₂ (HMul.hMul (α := EReal) (β := EReal)) (g20_at H hg v ⟨d.val, by omega⟩) (sall_of H 2 1 rfl 0 v ⟨d.val, by omega⟩)
    rw [e1, e2]
    exact e
  rw [dif_neg h0]
  by_cases h1 : d.val - 128 < 128
  · rw [dif_pos h1]
    obtain ⟨e1, e2⟩ := head_col 1 d ⟨d.val - 128, by omega⟩ (by simp only [Fin.val_zero, Fin.isValue, show ((1 : Fin 4) : ℕ) = 1 from rfl, show ((2 : Fin 4) : ℕ) = 2 from rfl, show ((3 : Fin 4) : ℕ) = 3 from rfl]; omega)
    have e := ddec_of H 2 1 128 rfl ⟨128 + (d.val - 128), by omega⟩ ⟨d.val - 128, by omega⟩ (by simp) _ fun v => congrArg₂ (HMul.hMul (α := EReal) (β := EReal)) (g21_at H hg v ⟨d.val - 128, by omega⟩) (sall_of H 2 1 rfl 1 v ⟨d.val - 128, by omega⟩)
    rw [e1, e2]
    exact e
  rw [dif_neg h1]
  by_cases h2 : d.val - 128 - 128 < 128
  · rw [dif_pos h2]
    obtain ⟨e1, e2⟩ := head_col 2 d ⟨d.val - 128 - 128, by omega⟩ (by simp only [Fin.val_zero, Fin.isValue, show ((1 : Fin 4) : ℕ) = 1 from rfl, show ((2 : Fin 4) : ℕ) = 2 from rfl, show ((3 : Fin 4) : ℕ) = 3 from rfl]; omega)
    have e := ddec_of H 2 2 128 rfl ⟨256 + (d.val - 128 - 128), by omega⟩ ⟨d.val - 128 - 128, by omega⟩ (by simp) _ fun v => congrArg₂ (HMul.hMul (α := EReal) (β := EReal)) (g22_at H hg v ⟨d.val - 128 - 128, by omega⟩) (sall_of H 2 1 rfl 2 v ⟨d.val - 128 - 128, by omega⟩)
    rw [e1, e2]
    exact e
  rw [dif_neg h2]
  · obtain ⟨e1, e2⟩ := head_col 3 d ⟨d.val - 128 - 128 - 128, by omega⟩ (by simp only [Fin.val_zero, Fin.isValue, show ((1 : Fin 4) : ℕ) = 1 from rfl, show ((2 : Fin 4) : ℕ) = 2 from rfl, show ((3 : Fin 4) : ℕ) = 3 from rfl]; omega)
    have e := ddec_of H 2 3 128 rfl ⟨384 + (d.val - 128 - 128 - 128), by omega⟩ ⟨d.val - 128 - 128 - 128, by omega⟩ (by simp) _ fun v => congrArg₂ (HMul.hMul (α := EReal) (β := EReal)) (g23_at H hg v ⟨d.val - 128 - 128 - 128, by omega⟩) (sall_of H 2 1 rfl 3 v ⟨d.val - 128 - 128 - 128, by omega⟩)
    rw [e1, e2]
    exact e

theorem dd1_at (a : Fin 64) (d : Fin 512) : x.dd1 (ix2 a d) = ((A.ddec (4 * T.val + 1) (kh d) (kl d) : ℝ) : EReal) := by
  pointwise [k1_pay224, k1_pay213, k1_pay214, k1_pay215, k1_pay220, k1_pay221, k1_pay222, k1_pay223, k1_pay212]
  by_cases h0 : d.val < 128
  · rw [dif_pos h0]
    obtain ⟨e1, e2⟩ := head_col 0 d ⟨d.val, by omega⟩ (by simp only [Fin.val_zero, Fin.isValue, show ((1 : Fin 4) : ℕ) = 1 from rfl, show ((2 : Fin 4) : ℕ) = 2 from rfl, show ((3 : Fin 4) : ℕ) = 3 from rfl]; omega)
    have e := ddec_of H 1 0 64 rfl ⟨d.val, by omega⟩ ⟨d.val, by omega⟩ (by simp) _ fun v => congrArg₂ (HMul.hMul (α := EReal) (β := EReal)) (g10_at H hg v ⟨d.val, by omega⟩) (sall_of H 1 0 rfl 0 v ⟨d.val, by omega⟩)
    rw [e1, e2]
    exact e
  rw [dif_neg h0]
  by_cases h1 : d.val - 128 < 128
  · rw [dif_pos h1]
    obtain ⟨e1, e2⟩ := head_col 1 d ⟨d.val - 128, by omega⟩ (by simp only [Fin.val_zero, Fin.isValue, show ((1 : Fin 4) : ℕ) = 1 from rfl, show ((2 : Fin 4) : ℕ) = 2 from rfl, show ((3 : Fin 4) : ℕ) = 3 from rfl]; omega)
    have e := ddec_of H 1 1 64 rfl ⟨128 + (d.val - 128), by omega⟩ ⟨d.val - 128, by omega⟩ (by simp) _ fun v => congrArg₂ (HMul.hMul (α := EReal) (β := EReal)) (g11_at H hg v ⟨d.val - 128, by omega⟩) (sall_of H 1 0 rfl 1 v ⟨d.val - 128, by omega⟩)
    rw [e1, e2]
    exact e
  rw [dif_neg h1]
  by_cases h2 : d.val - 128 - 128 < 128
  · rw [dif_pos h2]
    obtain ⟨e1, e2⟩ := head_col 2 d ⟨d.val - 128 - 128, by omega⟩ (by simp only [Fin.val_zero, Fin.isValue, show ((1 : Fin 4) : ℕ) = 1 from rfl, show ((2 : Fin 4) : ℕ) = 2 from rfl, show ((3 : Fin 4) : ℕ) = 3 from rfl]; omega)
    have e := ddec_of H 1 2 64 rfl ⟨256 + (d.val - 128 - 128), by omega⟩ ⟨d.val - 128 - 128, by omega⟩ (by simp) _ fun v => congrArg₂ (HMul.hMul (α := EReal) (β := EReal)) (g12_at H hg v ⟨d.val - 128 - 128, by omega⟩) (sall_of H 1 0 rfl 2 v ⟨d.val - 128 - 128, by omega⟩)
    rw [e1, e2]
    exact e
  rw [dif_neg h2]
  · obtain ⟨e1, e2⟩ := head_col 3 d ⟨d.val - 128 - 128 - 128, by omega⟩ (by simp only [Fin.val_zero, Fin.isValue, show ((1 : Fin 4) : ℕ) = 1 from rfl, show ((2 : Fin 4) : ℕ) = 2 from rfl, show ((3 : Fin 4) : ℕ) = 3 from rfl]; omega)
    have e := ddec_of H 1 3 64 rfl ⟨384 + (d.val - 128 - 128 - 128), by omega⟩ ⟨d.val - 128 - 128 - 128, by omega⟩ (by simp) _ fun v => congrArg₂ (HMul.hMul (α := EReal) (β := EReal)) (g13_at H hg v ⟨d.val - 128 - 128 - 128, by omega⟩) (sall_of H 1 0 rfl 3 v ⟨d.val - 128 - 128 - 128, by omega⟩)
    rw [e1, e2]
    exact e

theorem dd0_at (a : Fin 64) (d : Fin 512) : x.dd0 (ix2 a d) = ((A.ddec (4 * T.val + 0) (kh d) (kl d) : ℝ) : EReal) := by
  pointwise [k1_pay245, k1_pay233, k1_pay234, k1_pay235, k1_pay236, k1_pay241, k1_pay242, k1_pay243, k1_pay244]
  by_cases h0 : d.val < 128
  · rw [dif_pos h0]
    obtain ⟨e1, e2⟩ := head_col 0 d ⟨d.val, by omega⟩ (by simp only [Fin.val_zero, Fin.isValue, show ((1 : Fin 4) : ℕ) = 1 from rfl, show ((2 : Fin 4) : ℕ) = 2 from rfl, show ((3 : Fin 4) : ℕ) = 3 from rfl]; omega)
    have e := ddec_of H 0 0 0 rfl ⟨d.val, by omega⟩ ⟨d.val, by omega⟩ (by simp) _ fun v => before_of H 0 v ⟨d.val, by omega⟩ _ (g00_at H hg v ⟨d.val, by omega⟩)
    rw [e1, e2]
    exact e
  rw [dif_neg h0]
  by_cases h1 : d.val - 128 < 128
  · rw [dif_pos h1]
    obtain ⟨e1, e2⟩ := head_col 1 d ⟨d.val - 128, by omega⟩ (by simp only [Fin.val_zero, Fin.isValue, show ((1 : Fin 4) : ℕ) = 1 from rfl, show ((2 : Fin 4) : ℕ) = 2 from rfl, show ((3 : Fin 4) : ℕ) = 3 from rfl]; omega)
    have e := ddec_of H 0 1 0 rfl ⟨128 + (d.val - 128), by omega⟩ ⟨d.val - 128, by omega⟩ (by simp) _ fun v => before_of H 1 v ⟨d.val - 128, by omega⟩ _ (g01_at H hg v ⟨d.val - 128, by omega⟩)
    rw [e1, e2]
    exact e
  rw [dif_neg h1]
  by_cases h2 : d.val - 128 - 128 < 128
  · rw [dif_pos h2]
    obtain ⟨e1, e2⟩ := head_col 2 d ⟨d.val - 128 - 128, by omega⟩ (by simp only [Fin.val_zero, Fin.isValue, show ((1 : Fin 4) : ℕ) = 1 from rfl, show ((2 : Fin 4) : ℕ) = 2 from rfl, show ((3 : Fin 4) : ℕ) = 3 from rfl]; omega)
    have e := ddec_of H 0 2 0 rfl ⟨256 + (d.val - 128 - 128), by omega⟩ ⟨d.val - 128 - 128, by omega⟩ (by simp) _ fun v => before_of H 2 v ⟨d.val - 128 - 128, by omega⟩ _ (g02_at H hg v ⟨d.val - 128 - 128, by omega⟩)
    rw [e1, e2]
    exact e
  rw [dif_neg h2]
  · obtain ⟨e1, e2⟩ := head_col 3 d ⟨d.val - 128 - 128 - 128, by omega⟩ (by simp only [Fin.val_zero, Fin.isValue, show ((1 : Fin 4) : ℕ) = 1 from rfl, show ((2 : Fin 4) : ℕ) = 2 from rfl, show ((3 : Fin 4) : ℕ) = 3 from rfl]; omega)
    have e := ddec_of H 0 3 0 rfl ⟨384 + (d.val - 128 - 128 - 128), by omega⟩ ⟨d.val - 128 - 128 - 128, by omega⟩ (by simp) _ fun v => before_of H 3 v ⟨d.val - 128 - 128 - 128, by omega⟩ _ (g03_at H hg v ⟨d.val - 128 - 128 - 128, by omega⟩)
    rw [e1, e2]
    exact e

end pieces

end Cert.MixGlaBwd

end
-- ==== Proof.MixGlaDz.lean ====
module

public import proofs.«01_k».proof.Proof.MixGlaG

@[expose] public section

set_option maxRecDepth 16384

noncomputable section

/-! The gradients of queries, keys, values and gates that the backward region stores. -/

namespace Cert.MixGlaBwd

open Idealize.ShloMosaic Idealize.ShloMosaic.TcCoe Idealize.SL.Sem Cert.Reals Cert.NormRow Cert.MixSpec Cert.MixTile Cert.MixLoads Cert.MixStep Cert.MixBlocks Cert.MixArr Cert.MixPieces Cert.Over Cert.MixGla
open Cert.MixerIdeal Cert.MixerIdeal.Gen Cert.MixerBwd Cert.MixerRun

section pieces
variable {A : Args} {T : Fin 32} {x : Loads} (H : BIn A T x)

/-- A row of the tile in chunk `n`. -/
theorem chunk_of (T : Fin 32) (n : Fin 4) (r : Fin 256) (hn : r.val / 64 = n.val) : (row T r).val / 64 = 4 * T.val + n.val := by
  simp only [row]; omega

/-- A row's query gradient. -/
theorem dq_of (n h : Fin 4) (i r : Fin 256) (hi : i = r) (hn : r.val / 64 = n.val) (k : Fin 128) {d : S256x256.Idx → EReal} {s : S256x128.Idx → EReal}
    (hd : ∀ r v, d (ix2 r v) = ((A.dO (row T r) h v : ℝ) : EReal)) (hs : ∀ v k, s (ix2 v k) = ((A.st (4 * T.val + n.val + 1) h v k : ℝ) : EReal)) :
    (∑ v, d (ix2 i v) * s (ix2 v k)) * Ideal.ofBits .f32 0x3DB504F3#32 = ((A.dq (row T r) h k : ℝ) : EReal) := by
  subst hi
  rw [← chunk_of T n i hn] at hs
  simp only [hd, hs, lit_sc, ← EReal.coe_mul, coe_sum]
  rfl

include H

/-- A row's value gradient. -/
theorem dv_of (n h : Fin 4) (i r : Fin 256) (hi : i = r) (hn : r.val / 64 = n.val) (v : Fin 256) (c : Fin 128 → Fin 512) (hc : ∀ k, (c k).val = 128 * h.val + k.val) {g : S256x128.Idx → EReal}
    (hg : ∀ v k, g (ix2 v k) = ((A.G (4 * T.val + n.val) h v k : ℝ) : EReal)) :
    (∑ k, x.kdec (ix2 i (c k)) * g (ix2 v k)) = ((A.dv (row T r) h v : ℝ) : EReal) := by
  subst hi
  rw [← chunk_of T n i hn] at hg
  have hc' : ∀ k, c k = kc h k := fun k => Fin.ext (hc k)
  simp only [ke_at H, hg, hc', ← EReal.coe_mul, coe_sum]
  rfl

/-- A row's gradient of the decayed key. -/
theorem dke_of (n h : Fin 4) (i r : Fin 256) (hi : i = r) (hn : r.val / 64 = n.val) (k : Fin 128) (c : Fin 256 → Fin 1024) (hc : ∀ v, (c v).val = 256 * h.val + v.val) {g : S256x128.Idx → EReal}
    (hg : ∀ v k, g (ix2 v k) = ((A.G (4 * T.val + n.val) h v k : ℝ) : EReal)) :
    (∑ v, x.vb (ix2 i (c v)) * g (ix2 v k)) = ((A.dke (row T r) h k : ℝ) : EReal) := by
  subst hi
  rw [← chunk_of T n i hn] at hg
  have hc' : ∀ v, c v = vcol h v := fun v => Fin.ext (hc v)
  simp only [vb_at H, hg, hc', ← EReal.coe_mul, coe_sum]
  rfl

variable (hg : ∀ h v k, x.gd h (ix3 0 v k) = ((A.back (128 - (4 * T.val + 3 + 1)) h v k : ℝ) : EReal))

theorem dq0_at (r : Fin 256) (k : Fin 128) : k1_pay147 (F := Ideal) x.s00 x.s10 x.s20 x.s30 x.do0 (ix2 r k) = ((A.dq (row T r) 0 k : ℝ) : EReal) := by
  pointwise [k1_pay147]
  by_cases c0 : r.val < 64
  · rw [dif_pos c0]
    exact dq_of 0 0 r r rfl (by simp only [Fin.val_zero, Fin.val_one, Fin.val_two, show ((3 : Fin 4) : ℕ) = 3 from rfl]; omega) k (do0_at H) fun v k => (s0_at H v k).1
  rw [dif_neg c0]
  by_cases c1 : r.val - 64 < 64
  · rw [dif_pos c1]
    exact dq_of 1 0 ⟨64 + (r.val - 64), by omega⟩ r (Fin.ext (by simp only; omega)) (by simp only [Fin.val_zero, Fin.val_one, Fin.val_two, show ((3 : Fin 4) : ℕ) = 3 from rfl]; omega) k (do0_at H) fun v k => (s1_at H v k).1
  rw [dif_neg c1]
  by_cases c2 : r.val - 64 - 64 < 64
  · rw [dif_pos c2]
    exact dq_of 2 0 ⟨128 + (r.val - 64 - 64), by omega⟩ r (Fin.ext (by simp only; omega)) (by simp only [Fin.val_zero, Fin.val_one, Fin.val_two, show ((3 : Fin 4) : ℕ) = 3 from rfl]; omega) k (do0_at H) fun v k => (s2_at H v k).1
  rw [dif_neg c2]
  · exact dq_of 3 0 ⟨192 + (r.val - 64 - 64 - 64), by omega⟩ r (Fin.ext (by simp only; omega)) (by simp only [Fin.val_zero, Fin.val_one, Fin.val_two, show ((3 : Fin 4) : ℕ) = 3 from rfl]; omega) k (do0_at H) fun v k => (s3_at H v k).1

theorem dq1_at (r : Fin 256) (k : Fin 128) : k1_pay148 (F := Ideal) x.s01 x.s11 x.s21 x.s31 x.do1 (ix2 r k) = ((A.dq (row T r) 1 k : ℝ) : EReal) := by
  pointwise [k1_pay148]
  by_cases c0 : r.val < 64
  · rw [dif_pos c0]
    exact dq_of 0 1 r r rfl (by simp only [Fin.val_zero, Fin.val_one, Fin.val_two, show ((3 : Fin 4) : ℕ) = 3 from rfl]; omega) k (do1_at H) fun v k => (s0_at H v k).2.1
  rw [dif_neg c0]
  by_cases c1 : r.val - 64 < 64
  · rw [dif_pos c1]
    exact dq_of 1 1 ⟨64 + (r.val - 64), by omega⟩ r (Fin.ext (by simp only; omega)) (by simp only [Fin.val_zero, Fin.val_one, Fin.val_two, show ((3 : Fin 4) : ℕ) = 3 from rfl]; omega) k (do1_at H) fun v k => (s1_at H v k).2.1
  rw [dif_neg c1]
  by_cases c2 : r.val - 64 - 64 < 64
  · rw [dif_pos c2]
    exact dq_of 2 1 ⟨128 + (r.val - 64 - 64), by omega⟩ r (Fin.ext (by simp only; omega)) (by simp only [Fin.val_zero, Fin.val_one, Fin.val_two, show ((3 : Fin 4) : ℕ) = 3 from rfl]; omega) k (do1_at H) fun v k => (s2_at H v k).2.1
  rw [dif_neg c2]
  · exact dq_of 3 1 ⟨192 + (r.val - 64 - 64 - 64), by omega⟩ r (Fin.ext (by simp only; omega)) (by simp only [Fin.val_zero, Fin.val_one, Fin.val_two, show ((3 : Fin 4) : ℕ) = 3 from rfl]; omega) k (do1_at H) fun v k => (s3_at H v k).2.1

theorem dq2_at (r : Fin 256) (k : Fin 128) : k1_pay152 (F := Ideal) x.s32 x.do2 (k1_pay149 x.s02 x.do2) (k1_pay150 x.s12 x.do2) (k1_pay151 x.s22 x.do2) (ix2 r k) = ((A.dq (row T r) 2 k : ℝ) : EReal) := by
  pointwise [k1_pay152, k1_pay149, k1_pay150, k1_pay151]
  by_cases c0 : r.val < 64
  · rw [dif_pos c0]
    exact dq_of 0 2 r r rfl (by simp only [Fin.val_zero, Fin.val_one, Fin.val_two, show ((3 : Fin 4) : ℕ) = 3 from rfl]; omega) k (do2_at H) fun v k => (s0_at H v k).2.2.1
  rw [dif_neg c0]
  by_cases c1 : r.val - 64 < 64
  · rw [dif_pos c1]
    exact dq_of 1 2 ⟨64 + (r.val - 64), by omega⟩ r (Fin.ext (by simp only; omega)) (by simp only [Fin.val_zero, Fin.val_one, Fin.val_two, show ((3 : Fin 4) : ℕ) = 3 from rfl]; omega) k (do2_at H) fun v k => (s1_at H v k).2.2.1
  rw [dif_neg c1]
  by_cases c2 : r.val - 64 - 64 < 64
  · rw [dif_pos c2]
    exact dq_of 2 2 ⟨128 + (r.val - 64 - 64), by omega⟩ r (Fin.ext (by simp only; omega)) (by simp only [Fin.val_zero, Fin.val_one, Fin.val_two, show ((3 : Fin 4) : ℕ) = 3 from rfl]; omega) k (do2_at H) fun v k => (s2_at H v k).2.2.1
  rw [dif_neg c2]
  · exact dq_of 3 2 ⟨192 + (r.val - 64 - 64 - 64), by omega⟩ r (Fin.ext (by simp only; omega)) (by simp only [Fin.val_zero, Fin.val_one, Fin.val_two, show ((3 : Fin 4) : ℕ) = 3 from rfl]; omega) k (do2_at H) fun v k => (s3_at H v k).2.2.1

theorem dq3_at (r : Fin 256) (k : Fin 128) : k1_pay153 (F := Ideal) x.s03 x.s13 x.s23 x.s33 x.do3 (ix2 r k) = ((A.dq (row T r) 3 k : ℝ) : EReal) := by
  pointwise [k1_pay153]
  by_cases c0 : r.val < 64
  · rw [dif_pos c0]
    exact dq_of 0 3 r r rfl (by simp only [Fin.val_zero, Fin.val_one, Fin.val_two, show ((3 : Fin 4) : ℕ) = 3 from rfl]; omega) k (do3_at H) fun v k => (s0_at H v k).2.2.2
  rw [dif_neg c0]
  by_cases c1 : r.val - 64 < 64
  · rw [dif_pos c1]
    exact dq_of 1 3 ⟨64 + (r.val - 64), by omega⟩ r (Fin.ext (by simp only; omega)) (by simp only [Fin.val_zero, Fin.val_one, Fin.val_two, show ((3 : Fin 4) : ℕ) = 3 from rfl]; omega) k (do3_at H) fun v k => (s1_at H v k).2.2.2
  rw [dif_neg c1]
  by_cases c2 : r.val - 64 - 64 < 64
  · rw [dif_pos c2]
    exact dq_of 2 3 ⟨128 + (r.val - 64 - 64), by omega⟩ r (Fin.ext (by simp only; omega)) (by simp only [Fin.val_zero, Fin.val_one, Fin.val_two, show ((3 : Fin 4) : ℕ) = 3 from rfl]; omega) k (do3_at H) fun v k => (s2_at H v k).2.2.2
  rw [dif_neg c2]
  · exact dq_of 3 3 ⟨192 + (r.val - 64 - 64 - 64), by omega⟩ r (Fin.ext (by simp only; omega)) (by simp only [Fin.val_zero, Fin.val_one, Fin.val_two, show ((3 : Fin 4) : ℕ) = 3 from rfl]; omega) k (do3_at H) fun v k => (s3_at H v k).2.2.2

include hg

attribute [local irreducible] Args.G Args.st Args.back Args.dke Args.dv

theorem b00_at (v : Fin 256) (k : Fin 128) : x.b00 (ix2 v k) = ((A.G (4 * T.val + 0) 0 v k : ℝ) : EReal) := by
  pointwise [k1_pay246]
  exact g00_at H hg v k

theorem b01_at (v : Fin 256) (k : Fin 128) : x.b01 (ix2 v k) = ((A.G (4 * T.val + 0) 1 v k : ℝ) : EReal) := by
  pointwise [k1_pay247]
  exact g01_at H hg v k

theorem b02_at (v : Fin 256) (k : Fin 128) : x.b02 (ix2 v k) = ((A.G (4 * T.val + 0) 2 v k : ℝ) : EReal) := by
  pointwise [k1_pay248]
  exact g02_at H hg v k

theorem b03_at (v : Fin 256) (k : Fin 128) : x.b03 (ix2 v k) = ((A.G (4 * T.val + 0) 3 v k : ℝ) : EReal) := by
  pointwise [k1_pay249]
  exact g03_at H hg v k

theorem b10_at (v : Fin 256) (k : Fin 128) : x.b10 (ix2 v k) = ((A.G (4 * T.val + 1) 0 v k : ℝ) : EReal) := by
  pointwise [k1_pay225]
  exact g10_at H hg v k

theorem b11_at (v : Fin 256) (k : Fin 128) : x.b11 (ix2 v k) = ((A.G (4 * T.val + 1) 1 v k : ℝ) : EReal) := by
  pointwise [k1_pay226]
  exact g11_at H hg v k

theorem b12_at (v : Fin 256) (k : Fin 128) : x.b12 (ix2 v k) = ((A.G (4 * T.val + 1) 2 v k : ℝ) : EReal) := by
  pointwise [k1_pay227]
  exact g12_at H hg v k

theorem b13_at (v : Fin 256) (k : Fin 128) : x.b13 (ix2 v k) = ((A.G (4 * T.val + 1) 3 v k : ℝ) : EReal) := by
  pointwise [k1_pay228]
  exact g13_at H hg v k

theorem b20_at (v : Fin 256) (k : Fin 128) : x.b20 (ix2 v k) = ((A.G (4 * T.val + 2) 0 v k : ℝ) : EReal) := by
  pointwise [k1_pay204]
  exact g20_at H hg v k

theorem b21_at (v : Fin 256) (k : Fin 128) : x.b21 (ix2 v k) = ((A.G (4 * T.val + 2) 1 v k : ℝ) : EReal) := by
  pointwise [k1_pay205]
  exact g21_at H hg v k

theorem b22_at (v : Fin 256) (k : Fin 128) : x.b22 (ix2 v k) = ((A.G (4 * T.val + 2) 2 v k : ℝ) : EReal) := by
  pointwise [k1_pay206]
  exact g22_at H hg v k

theorem b23_at (v : Fin 256) (k : Fin 128) : x.b23 (ix2 v k) = ((A.G (4 * T.val + 2) 3 v k : ℝ) : EReal) := by
  pointwise [k1_pay207]
  exact g23_at H hg v k

theorem b30_at (v : Fin 256) (k : Fin 128) : x.b30 (ix2 v k) = ((A.G (4 * T.val + 3) 0 v k : ℝ) : EReal) := by
  pointwise [k1_pay183]
  exact g30_at H hg v k

theorem b31_at (v : Fin 256) (k : Fin 128) : x.b31 (ix2 v k) = ((A.G (4 * T.val + 3) 1 v k : ℝ) : EReal) := by
  pointwise [k1_pay184]
  exact g31_at H hg v k

theorem b32_at (v : Fin 256) (k : Fin 128) : x.b32 (ix2 v k) = ((A.G (4 * T.val + 3) 2 v k : ℝ) : EReal) := by
  pointwise [k1_pay185]
  exact g32_at H hg v k

theorem b33_at (v : Fin 256) (k : Fin 128) : x.b33 (ix2 v k) = ((A.G (4 * T.val + 3) 3 v k : ℝ) : EReal) := by
  pointwise [k1_pay186]
  exact g33_at H hg v k

theorem dv0_at (r v : Fin 256) : k1_pay254 (F := Ideal) x.kdec x.b30 x.b20 x.b10 x.b00 (ix2 r v) = ((A.dv (row T r) 0 v : ℝ) : EReal) := by
  pointwise [k1_pay254]
  by_cases c0 : r.val < 64
  · rw [dif_pos c0]
    exact dv_of H 0 0 r r rfl (by simp only [Fin.val_zero, Fin.val_one, Fin.val_two, show ((3 : Fin 4) : ℕ) = 3 from rfl]; omega) v (fun k => ⟨k.val, by omega⟩) (fun k => by simp) (b00_at H hg)
  rw [dif_neg c0]
  by_cases c1 : r.val - 64 < 64
  · rw [dif_pos c1]
    exact dv_of H 1 0 ⟨64 + (r.val - 64), by omega⟩ r (Fin.ext (by simp only; omega)) (by simp only [Fin.val_zero, Fin.val_one, Fin.val_two, show ((3 : Fin 4) : ℕ) = 3 from rfl]; omega) v (fun k => ⟨k.val, by omega⟩) (fun k => by simp) (b10_at H hg)
  rw [dif_neg c1]
  by_cases c2 : r.val - 64 - 64 < 64
  · rw [dif_pos c2]
    exact dv_of H 2 0 ⟨128 + (r.val - 64 - 64), by omega⟩ r (Fin.ext (by simp only; omega)) (by simp only [Fin.val_zero, Fin.val_one, Fin.val_two, show ((3 : Fin 4) : ℕ) = 3 from rfl]; omega) v (fun k => ⟨k.val, by omega⟩) (fun k => by simp) (b20_at H hg)
  rw [dif_neg c2]
  · exact dv_of H 3 0 ⟨192 + (r.val - 64 - 64 - 64), by omega⟩ r (Fin.ext (by simp only; omega)) (by simp only [Fin.val_zero, Fin.val_one, Fin.val_two, show ((3 : Fin 4) : ℕ) = 3 from rfl]; omega) v (fun k => ⟨k.val, by omega⟩) (fun k => by simp) (b30_at H hg)

theorem dv1_at (r v : Fin 256) : k1_pay256 (F := Ideal) x.kdec x.b31 x.b21 x.b11 x.b01 (ix2 r v) = ((A.dv (row T r) 1 v : ℝ) : EReal) := by
  pointwise [k1_pay256]
  by_cases c0 : r.val < 64
  · rw [dif_pos c0]
    exact dv_of H 0 1 r r rfl (by simp only [Fin.val_zero, Fin.val_one, Fin.val_two, show ((3 : Fin 4) : ℕ) = 3 from rfl]; omega) v (fun k => ⟨128 + k.val, by omega⟩) (fun k => by simp) (b01_at H hg)
  rw [dif_neg c0]
  by_cases c1 : r.val - 64 < 64
  · rw [dif_pos c1]
    exact dv_of H 1 1 ⟨64 + (r.val - 64), by omega⟩ r (Fin.ext (by simp only; omega)) (by simp only [Fin.val_zero, Fin.val_one, Fin.val_two, show ((3 : Fin 4) : ℕ) = 3 from rfl]; omega) v (fun k => ⟨128 + k.val, by omega⟩) (fun k => by simp) (b11_at H hg)
  rw [dif_neg c1]
  by_cases c2 : r.val - 64 - 64 < 64
  · rw [dif_pos c2]
    exact dv_of H 2 1 ⟨128 + (r.val - 64 - 64), by omega⟩ r (Fin.ext (by simp only; omega)) (by simp only [Fin.val_zero, Fin.val_one, Fin.val_two, show ((3 : Fin 4) : ℕ) = 3 from rfl]; omega) v (fun k => ⟨128 + k.val, by omega⟩) (fun k => by simp) (b21_at H hg)
  rw [dif_neg c2]
  · exact dv_of H 3 1 ⟨192 + (r.val - 64 - 64 - 64), by omega⟩ r (Fin.ext (by simp only; omega)) (by simp only [Fin.val_zero, Fin.val_one, Fin.val_two, show ((3 : Fin 4) : ℕ) = 3 from rfl]; omega) v (fun k => ⟨128 + k.val, by omega⟩) (fun k => by simp) (b31_at H hg)

theorem dv2_at (r v : Fin 256) : k1_pay260 (F := Ideal) x.kdec x.b32 x.b22 x.b12 x.b02 (ix2 r v) = ((A.dv (row T r) 2 v : ℝ) : EReal) := by
  pointwise [k1_pay260]
  by_cases c0 : r.val < 64
  · rw [dif_pos c0]
    exact dv_of H 0 2 r r rfl (by simp only [Fin.val_zero, Fin.val_one, Fin.val_two, show ((3 : Fin 4) : ℕ) = 3 from rfl]; omega) v (fun k => ⟨256 + k.val, by omega⟩) (fun k => by simp) (b02_at H hg)
  rw [dif_neg c0]
  by_cases c1 : r.val - 64 < 64
  · rw [dif_pos c1]
    exact dv_of H 1 2 ⟨64 + (r.val - 64), by omega⟩ r (Fin.ext (by simp only; omega)) (by simp only [Fin.val_zero, Fin.val_one, Fin.val_two, show ((3 : Fin 4) : ℕ) = 3 from rfl]; omega) v (fun k => ⟨256 + k.val, by omega⟩) (fun k => by simp) (b12_at H hg)
  rw [dif_neg c1]
  by_cases c2 : r.val - 64 - 64 < 64
  · rw [dif_pos c2]
    exact dv_of H 2 2 ⟨128 + (r.val - 64 - 64), by omega⟩ r (Fin.ext (by simp only; omega)) (by simp only [Fin.val_zero, Fin.val_one, Fin.val_two, show ((3 : Fin 4) : ℕ) = 3 from rfl]; omega) v (fun k => ⟨256 + k.val, by omega⟩) (fun k => by simp) (b22_at H hg)
  rw [dif_neg c2]
  · exact dv_of H 3 2 ⟨192 + (r.val - 64 - 64 - 64), by omega⟩ r (Fin.ext (by simp only; omega)) (by simp only [Fin.val_zero, Fin.val_one, Fin.val_two, show ((3 : Fin 4) : ℕ) = 3 from rfl]; omega) v (fun k => ⟨256 + k.val, by omega⟩) (fun k => by simp) (b32_at H hg)

theorem dv3_at (r v : Fin 256) : k1_pay262 (F := Ideal) x.kdec x.b33 x.b23 x.b13 x.b03 (ix2 r v) = ((A.dv (row T r) 3 v : ℝ) : EReal) := by
  pointwise [k1_pay262]
  by_cases c0 : r.val < 64
  · rw [dif_pos c0]
    exact dv_of H 0 3 r r rfl (by simp only [Fin.val_zero, Fin.val_one, Fin.val_two, show ((3 : Fin 4) : ℕ) = 3 from rfl]; omega) v (fun k => ⟨384 + k.val, by omega⟩) (fun k => by simp) (b03_at H hg)
  rw [dif_neg c0]
  by_cases c1 : r.val - 64 < 64
  · rw [dif_pos c1]
    exact dv_of H 1 3 ⟨64 + (r.val - 64), by omega⟩ r (Fin.ext (by simp only; omega)) (by simp only [Fin.val_zero, Fin.val_one, Fin.val_two, show ((3 : Fin 4) : ℕ) = 3 from rfl]; omega) v (fun k => ⟨384 + k.val, by omega⟩) (fun k => by simp) (b13_at H hg)
  rw [dif_neg c1]
  by_cases c2 : r.val - 64 - 64 < 64
  · rw [dif_pos c2]
    exact dv_of H 2 3 ⟨128 + (r.val - 64 - 64), by omega⟩ r (Fin.ext (by simp only; omega)) (by simp only [Fin.val_zero, Fin.val_one, Fin.val_two, show ((3 : Fin 4) : ℕ) = 3 from rfl]; omega) v (fun k => ⟨384 + k.val, by omega⟩) (fun k => by simp) (b23_at H hg)
  rw [dif_neg c2]
  · exact dv_of H 3 3 ⟨192 + (r.val - 64 - 64 - 64), by omega⟩ r (Fin.ext (by simp only; omega)) (by simp only [Fin.val_zero, Fin.val_one, Fin.val_two, show ((3 : Fin 4) : ℕ) = 3 from rfl]; omega) v (fun k => ⟨384 + k.val, by omega⟩) (fun k => by simp) (b33_at H hg)

theorem dk0_at (r : Fin 256) (k : Fin 128) : x.dk0 (ix2 r k) = ((A.dke (row T r) 0 k : ℝ) : EReal) := by
  pointwise [k1_pay255]
  by_cases c0 : r.val < 64
  · rw [dif_pos c0]
    exact dke_of H 0 0 r r rfl (by simp only [Fin.val_zero, Fin.val_one, Fin.val_two, show ((3 : Fin 4) : ℕ) = 3 from rfl]; omega) k (fun v => ⟨v.val, by omega⟩) (fun v => by simp) (b00_at H hg)
  rw [dif_neg c0]
  by_cases c1 : r.val - 64 < 64
  · rw [dif_pos c1]
    exact dke_of H 1 0 ⟨64 + (r.val - 64), by omega⟩ r (Fin.ext (by simp only; omega)) (by simp only [Fin.val_zero, Fin.val_one, Fin.val_two, show ((3 : Fin 4) : ℕ) = 3 from rfl]; omega) k (fun v => ⟨v.val, by omega⟩) (fun v => by simp) (b10_at H hg)
  rw [dif_neg c1]
  by_cases c2 : r.val - 64 - 64 < 64
  · rw [dif_pos c2]
    exact dke_of H 2 0 ⟨128 + (r.val - 64 - 64), by omega⟩ r (Fin.ext (by simp only; omega)) (by simp only [Fin.val_zero, Fin.val_one, Fin.val_two, show ((3 : Fin 4) : ℕ) = 3 from rfl]; omega) k (fun v => ⟨v.val, by omega⟩) (fun v => by simp) (b20_at H hg)
  rw [dif_neg c2]
  · exact dke_of H 3 0 ⟨192 + (r.val - 64 - 64 - 64), by omega⟩ r (Fin.ext (by simp only; omega)) (by simp only [Fin.val_zero, Fin.val_one, Fin.val_two, show ((3 : Fin 4) : ℕ) = 3 from rfl]; omega) k (fun v => ⟨v.val, by omega⟩) (fun v => by simp) (b30_at H hg)

theorem dk1_at (r : Fin 256) (k : Fin 128) : x.dk1 (ix2 r k) = ((A.dke (row T r) 1 k : ℝ) : EReal) := by
  pointwise [k1_pay259, k1_pay257, k1_pay258]
  by_cases c0 : r.val < 64
  · rw [dif_pos c0]
    exact dke_of H 0 1 r r rfl (by simp only [Fin.val_zero, Fin.val_one, Fin.val_two, show ((3 : Fin 4) : ℕ) = 3 from rfl]; omega) k (fun v => ⟨256 + v.val, by omega⟩) (fun v => by simp) (b01_at H hg)
  rw [dif_neg c0]
  by_cases c1 : r.val - 64 < 64
  · rw [dif_pos c1]
    exact dke_of H 1 1 ⟨64 + (r.val - 64), by omega⟩ r (Fin.ext (by simp only; omega)) (by simp only [Fin.val_zero, Fin.val_one, Fin.val_two, show ((3 : Fin 4) : ℕ) = 3 from rfl]; omega) k (fun v => ⟨256 + v.val, by omega⟩) (fun v => by simp) (b11_at H hg)
  rw [dif_neg c1]
  by_cases c2 : r.val - 64 - 64 < 64
  · rw [dif_pos c2]
    exact dke_of H 2 1 ⟨128 + (r.val - 64 - 64), by omega⟩ r (Fin.ext (by simp only; omega)) (by simp only [Fin.val_zero, Fin.val_one, Fin.val_two, show ((3 : Fin 4) : ℕ) = 3 from rfl]; omega) k (fun v => ⟨256 + v.val, by omega⟩) (fun v => by simp) (b21_at H hg)
  rw [dif_neg c2]
  · exact dke_of H 3 1 ⟨192 + (r.val - 64 - 64 - 64), by omega⟩ r (Fin.ext (by simp only; omega)) (by simp only [Fin.val_zero, Fin.val_one, Fin.val_two, show ((3 : Fin 4) : ℕ) = 3 from rfl]; omega) k (fun v => ⟨256 + v.val, by omega⟩) (fun v => by simp) (b31_at H hg)

theorem dk2_at (r : Fin 256) (k : Fin 128) : x.dk2 (ix2 r k) = ((A.dke (row T r) 2 k : ℝ) : EReal) := by
  pointwise [k1_pay261]
  by_cases c0 : r.val < 64
  · rw [dif_pos c0]
    exact dke_of H 0 2 r r rfl (by simp only [Fin.val_zero, Fin.val_one, Fin.val_two, show ((3 : Fin 4) : ℕ) = 3 from rfl]; omega) k (fun v => ⟨512 + v.val, by omega⟩) (fun v => by simp) (b02_at H hg)
  rw [dif_neg c0]
  by_cases c1 : r.val - 64 < 64
  · rw [dif_pos c1]
    exact dke_of H 1 2 ⟨64 + (r.val - 64), by omega⟩ r (Fin.ext (by simp only; omega)) (by simp only [Fin.val_zero, Fin.val_one, Fin.val_two, show ((3 : Fin 4) : ℕ) = 3 from rfl]; omega) k (fun v => ⟨512 + v.val, by omega⟩) (fun v => by simp) (b12_at H hg)
  rw [dif_neg c1]
  by_cases c2 : r.val - 64 - 64 < 64
  · rw [dif_pos c2]
    exact dke_of H 2 2 ⟨128 + (r.val - 64 - 64), by omega⟩ r (Fin.ext (by simp only; omega)) (by simp only [Fin.val_zero, Fin.val_one, Fin.val_two, show ((3 : Fin 4) : ℕ) = 3 from rfl]; omega) k (fun v => ⟨512 + v.val, by omega⟩) (fun v => by simp) (b22_at H hg)
  rw [dif_neg c2]
  · exact dke_of H 3 2 ⟨192 + (r.val - 64 - 64 - 64), by omega⟩ r (Fin.ext (by simp only; omega)) (by simp only [Fin.val_zero, Fin.val_one, Fin.val_two, show ((3 : Fin 4) : ℕ) = 3 from rfl]; omega) k (fun v => ⟨512 + v.val, by omega⟩) (fun v => by simp) (b32_at H hg)

/-- The decayed key's gradient. -/
theorem dke_at (r : Fin 256) (d : Fin 512) : k1_pay265 (F := Ideal) x.vb x.b33 x.b23 x.b13 x.dk0 x.dk1 x.dk2 x.dk3 x.dk4 (ix2 r d) = ((A.dke (row T r) (kh d) (kl d) : ℝ) : EReal) := by
  pointwise [k1_pay265, k1_pay263, k1_pay264]
  by_cases d0 : d.val < 128
  · rw [dif_pos d0]
    have e := head_col 0 d ⟨d.val, by omega⟩ (by simp only [Fin.val_zero, Fin.val_one, Fin.val_two, show ((3 : Fin 4) : ℕ) = 3 from rfl]; omega)
    rw [e.1, e.2]
    exact dk0_at H hg r ⟨d.val, by omega⟩
  rw [dif_neg d0]
  by_cases d1 : d.val - 128 < 128
  · rw [dif_pos d1]
    have e := head_col 1 d ⟨d.val - 128, by omega⟩ (by simp only [Fin.val_zero, Fin.val_one, Fin.val_two, show ((3 : Fin 4) : ℕ) = 3 from rfl]; omega)
    rw [e.1, e.2]
    exact dk1_at H hg r ⟨d.val - 128, by omega⟩
  rw [dif_neg d1]
  by_cases d2 : d.val - 128 - 128 < 128
  · rw [dif_pos d2]
    have e := head_col 2 d ⟨d.val - 128 - 128, by omega⟩ (by simp only [Fin.val_zero, Fin.val_one, Fin.val_two, show ((3 : Fin 4) : ℕ) = 3 from rfl]; omega)
    rw [e.1, e.2]
    exact dk2_at H hg r ⟨d.val - 128 - 128, by omega⟩
  rw [dif_neg d2]
  have e := head_col 3 d ⟨d.val - 128 - 128 - 128, by omega⟩ (by simp only [Fin.val_zero, Fin.val_one, Fin.val_two, show ((3 : Fin 4) : ℕ) = 3 from rfl]; omega)
  rw [e.1, e.2]
  by_cases c0 : r.val < 64
  · rw [dif_pos c0]
    exact dke_of H 0 3 r r rfl (by simp only [Fin.val_zero, Fin.val_one, Fin.val_two, show ((3 : Fin 4) : ℕ) = 3 from rfl]; omega) ⟨d.val - 128 - 128 - 128, by omega⟩ (fun v => ⟨768 + v.val, by omega⟩) (fun v => by simp) (b03_at H hg)
  rw [dif_neg c0]
  by_cases c1 : r.val - 64 < 64
  · rw [dif_pos c1]
    exact dke_of H 1 3 ⟨64 + (r.val - 64), by omega⟩ r (Fin.ext (by simp only; omega)) (by simp only [Fin.val_zero, Fin.val_one, Fin.val_two, show ((3 : Fin 4) : ℕ) = 3 from rfl]; omega) ⟨d.val - 128 - 128 - 128, by omega⟩ (fun v => ⟨768 + v.val, by omega⟩) (fun v => by simp) (b13_at H hg)
  rw [dif_neg c1]
  by_cases c2 : r.val - 64 - 64 < 64
  · rw [dif_pos c2]
    exact dke_of H 2 3 ⟨128 + (r.val - 64 - 64), by omega⟩ r (Fin.ext (by simp only; omega)) (by simp only [Fin.val_zero, Fin.val_one, Fin.val_two, show ((3 : Fin 4) : ℕ) = 3 from rfl]; omega) ⟨d.val - 128 - 128 - 128, by omega⟩ (fun v => ⟨768 + v.val, by omega⟩) (fun v => by simp) (b23_at H hg)
  rw [dif_neg c2]
  · exact dke_of H 3 3 ⟨192 + (r.val - 64 - 64 - 64), by omega⟩ r (Fin.ext (by simp only; omega)) (by simp only [Fin.val_zero, Fin.val_one, Fin.val_two, show ((3 : Fin 4) : ℕ) = 3 from rfl]; omega) ⟨d.val - 128 - 128 - 128, by omega⟩ (fun v => ⟨768 + v.val, by omega⟩) (fun v => by simp) (b33_at H hg)

/-- The key's gradient. -/
theorem dk_at (r : Fin 256) (d : Fin 512) : k1_pay266 (F := Ideal) x.exp_e x.vb x.b33 x.b23 x.b13 x.dk0 x.dk1 x.dk2 x.dk3 x.dk4 (ix2 r d) = ((A.dk (row T r) (kh d) (kl d) : ℝ) : EReal) := by
  pointwise [k1_pay266]
  rw [dke_at H hg, er_at H, ← EReal.coe_mul, Args.dk, kc_kh]

/-- The gradients of the chunks' decays, each at its chunk's rows. -/
theorem dd_at (r : Fin 256) (d : Fin 512) :
    (if h : r.val < 64 then x.dd0 (ix2 ⟨r.val, h⟩ d) else if h : r.val - 64 < 64 then x.dd1 (ix2 ⟨r.val - 64, h⟩ d) else if h : r.val - 64 - 64 < 64 then x.dd2 (ix2 ⟨r.val - 64 - 64, h⟩ d)
      else x.dd3 (ix2 ⟨r.val - 64 - 64 - 64, by omega⟩ d)) = ((A.ddec ((row T r).val / 64) (kh d) (kl d) : ℝ) : EReal) := by
  by_cases c0 : r.val < 64
  · rw [dif_pos c0, chunk_of T 0 r (by simp only [Fin.val_zero, Fin.val_one, Fin.val_two, show ((3 : Fin 4) : ℕ) = 3 from rfl]; omega)]
    exact dd0_at H hg _ d
  rw [dif_neg c0]
  by_cases c1 : r.val - 64 < 64
  · rw [dif_pos c1, chunk_of T 1 r (by simp only [Fin.val_zero, Fin.val_one, Fin.val_two, show ((3 : Fin 4) : ℕ) = 3 from rfl]; omega)]
    exact dd1_at H hg _ d
  rw [dif_neg c1]
  by_cases c2 : r.val - 64 - 64 < 64
  · rw [dif_pos c2, chunk_of T 2 r (by simp only [Fin.val_zero, Fin.val_one, Fin.val_two, show ((3 : Fin 4) : ℕ) = 3 from rfl]; omega)]
    exact dd2_at H hg _ d
  rw [dif_neg c2]
  · rw [chunk_of T 3 r (by simp only [Fin.val_zero, Fin.val_one, Fin.val_two, show ((3 : Fin 4) : ℕ) = 3 from rfl]; omega)]
    exact dd3_at H hg _ d

/-- The gradient of the gates before their activation. -/
theorem dpre_at (r : Fin 256) (d : Fin 512) : x.ofDecay (k1_pay267 (F := Ideal)) (ix2 r d) = ((A.dpre (row T r) d : ℝ) : EReal) := by
  have e := dd_at H hg r d
  have e3 := three_parts (fun c => (if c.val / 64 = r.val / 64 ∧ c.val < r.val then 1 else 0 : ℝ)) (fun c => A.dke (row T c) (kh d) (kl d) * A.ke (row T c) d) _ _ (fun c => mask_before r c)
    (fun c => (congrArg₂ (HMul.hMul (α := EReal) (β := EReal)) (dke_at H hg c d) (kf_at H c d)).trans (EReal.coe_mul _ _).symm)
  rw [before_tile T r fun c => A.dke c (kh d) (kl d) * A.ke c d] at e3
  pointwise [k1_pay267]
  rw [e3, e, pre_at H, lit_16th, zero_sub, ← EReal.coe_neg, lgs_ideal, ← EReal.coe_add, ← EReal.coe_mul, ← EReal.coe_mul]
  simp only [Args.dpre, Args.dla, kc_kh]

end pieces

end Cert.MixGlaBwd

end
-- ==== Proof.MixGlaTile.lean ====
module

public import proofs.«01_k».proof.Proof.MixGlaDz

@[expose] public section

set_option maxRecDepth 16384

noncomputable section

/-! What the backward region stores for the attention at one tile, as reals. -/

namespace Cert.MixGlaBwd

open Idealize.ShloMosaic Idealize.ShloMosaic.TcCoe Idealize.SL.Sem Cert.Reals Cert.NormRow Cert.MixSpec Cert.MixTile Cert.MixLoads Cert.MixStep Cert.MixBlocks Cert.MixArr Cert.MixPieces Cert.Over Cert.MixGla
open Cert.MixerIdeal Cert.MixerIdeal.Gen Cert.MixerBwd Cert.MixerRun

section pieces
variable {A : Args} {T : Fin 32} {x : Loads} (H : BIn A T x)
include H
variable (hg : ∀ h v k, x.gd h (ix3 0 v k) = ((A.back (128 - (4 * T.val + 3 + 1)) h v k : ℝ) : EReal))
include hg

/-- The keys. -/
theorem dzk_at (r : Fin 256) (d : Fin 512) :
    View.canon x.dz (ix2 r ⟨3584 + d.val, by omega⟩) = ((A.dk (row T r) (kh d) (kl d) : ℝ) : EReal) := by
  unfold Loads.dz
  repeat (refine (miss _ _ _ _ _ (by dsimp only; omega)).trans ?_)
  exact (hit _ _ _ r d _ _ (Nat.zero_add _).symm rfl).trans (dk_at H hg r d)

/-- The values. -/
theorem dzv_at (r : Fin 256) (h : Fin 4) (v : Fin 256) :
    View.canon x.dz (ix2 r ⟨4096 + (vcol h v).val, by omega⟩) = ((A.dv (row T r) h v : ℝ) : EReal) := by
  unfold Loads.dz
  fin_cases h
  · repeat (refine (miss _ _ _ _ _ (by simp only [kc, vcol]; omega)).trans ?_)
    exact (hit _ _ _ r v _ _ (Nat.zero_add _).symm (by simp only [kc, vcol]; omega)).trans (dv0_at H hg r v)
  · repeat (refine (miss _ _ _ _ _ (by simp only [kc, vcol]; omega)).trans ?_)
    exact (hit _ _ _ r v _ _ (Nat.zero_add _).symm (by simp only [kc, vcol]; omega)).trans (dv1_at H hg r v)
  · repeat (refine (miss _ _ _ _ _ (by simp only [kc, vcol]; omega)).trans ?_)
    exact (hit _ _ _ r v _ _ (Nat.zero_add _).symm (by simp only [kc, vcol]; omega)).trans (dv2_at H hg r v)
  · repeat (refine (miss _ _ _ _ _ (by simp only [kc, vcol]; omega)).trans ?_)
    exact (hit _ _ _ r v _ _ (Nat.zero_add _).symm (by simp only [kc, vcol]; omega)).trans (dv3_at H hg r v)

/-- The gate's gradient, as the products take it. -/
theorem dpreb_at (r : Fin 256) (d : Fin 512) : x.dpre (ix2 r d) = ((A.dpre (row T r) d : ℝ) : EReal) := by
  refine Eq.trans ?_ (dpre_at H hg r d)
  pointwise [k1_pay269]

/-- The gradient of the gate's input. -/
theorem dzal_at (r : Fin 256) (k : Fin 128) : View.canon x.dzal (ix2 r k) = ((A.dal (row T r) k : ℝ) : EReal) := by
  unfold Loads.dzal
  refine (hit _ _ _ r k _ _ (Nat.zero_add _).symm (Nat.zero_add _).symm).trans ?_
  pointwise [k1_pay2]
  simp only [dpreb_at H hg, H.wgu, ← EReal.coe_mul, coe_sum]
  rfl

/-- The gradient of the gate's bias, added over the tile. -/
theorem dbg_at (z : Vec Ideal S1x512 .f32) (d : Fin 512) : over z x.dbg (ix2 0 d) = x.abg (ix2 0 d) + ((∑ r, A.dpre (row T r) d : ℝ) : EReal) := by
  unfold Loads.dbg
  refine (over_hit _ _ _ 0 d _ _ (Nat.zero_add _).symm (Nat.zero_add _).symm).trans ?_
  pointwise [k1_pay268]
  simp only [dpre_at H hg, coe_sum]

/-- The gradient of the gate's weight, added over the tile. -/
theorem dwgu_at (z : Vec Ideal S128x512 .f32) (k : Fin 128) (d : Fin 512) :
    over z x.dwgu (ix2 k d) = x.awgu (ix2 k d) + ((∑ r, A.al (row T r) k * A.dpre (row T r) d : ℝ) : EReal) := by
  unfold Loads.dwgu
  refine (over_hit _ _ _ k d _ _ (Nat.zero_add _).symm (Nat.zero_add _).symm).trans ?_
  pointwise [k1_pay1, k1_pay81, k1_pay270]
  simp only [dpreb_at H hg, H.al, ← EReal.coe_mul, coe_sum]
  try simp

/-- The states' gradient that the tile hands to the one below. -/
theorem gd_at (z : Vec Ideal S4x256x128 .f32) (h : Fin 4) (v : Fin 256) (k : Fin 128) :
    over z x.gdl (ix3 h v k) = ((A.back (128 - 4 * T.val) h v k : ℝ) : EReal) := by
  unfold Loads.gdl
  fin_cases h
  · refine (over_miss3 _ _ _ v k (0 : Fin 4) (by decide)).trans ?_
    refine (over_miss3 _ _ _ v k (0 : Fin 4) (by decide)).trans ?_
    refine (over_miss3 _ _ _ v k (0 : Fin 4) (by decide)).trans ?_
    refine (over_hit3 _ _ _ v k (0 : Fin 4) rfl).trans ?_
    pointwise [k1_pay250]
    exact c00_at H hg v k
  · refine (over_miss3 _ _ _ v k (1 : Fin 4) (by decide)).trans ?_
    refine (over_miss3 _ _ _ v k (1 : Fin 4) (by decide)).trans ?_
    refine (over_hit3 _ _ _ v k (1 : Fin 4) rfl).trans ?_
    pointwise [k1_pay251]
    exact c01_at H hg v k
  · refine (over_miss3 _ _ _ v k (2 : Fin 4) (by decide)).trans ?_
    refine (over_hit3 _ _ _ v k (2 : Fin 4) rfl).trans ?_
    pointwise [k1_pay252]
    exact c02_at H hg v k
  · refine (over_hit3 _ _ _ v k (3 : Fin 4) rfl).trans ?_
    pointwise [k1_pay253]
    exact c03_at H hg v k

omit hg in
/-- The queries. -/
theorem dzq_at (r : Fin 256) (h : Fin 4) (k : Fin 128) :
    View.canon x.dz (ix2 r ⟨3072 + (kc h k).val, by omega⟩) = ((A.dq (row T r) h k : ℝ) : EReal) := by
  unfold Loads.dz
  fin_cases h
  · repeat (refine (miss _ _ _ _ _ (by simp only [kc, vcol]; omega)).trans ?_)
    exact (hit _ _ _ r k _ _ (Nat.zero_add _).symm (by simp only [kc, vcol]; omega)).trans (dq0_at H r k)
  · repeat (refine (miss _ _ _ _ _ (by simp only [kc, vcol]; omega)).trans ?_)
    exact (hit _ _ _ r k _ _ (Nat.zero_add _).symm (by simp only [kc, vcol]; omega)).trans (dq1_at H r k)
  · repeat (refine (miss _ _ _ _ _ (by simp only [kc, vcol]; omega)).trans ?_)
    exact (hit _ _ _ r k _ _ (Nat.zero_add _).symm (by simp only [kc, vcol]; omega)).trans (dq2_at H r k)
  · repeat (refine (miss _ _ _ _ _ (by simp only [kc, vcol]; omega)).trans ?_)
    exact (hit _ _ _ r k _ _ (Nat.zero_add _).symm (by simp only [kc, vcol]; omega)).trans (dq3_at H r k)

omit hg in
/-- The output gate. -/
theorem dzo_at (r : Fin 256) (h : Fin 4) (v : Fin 256) :
    View.canon x.dz (ix2 r ⟨5120 + (vcol h v).val, by omega⟩) = ((A.dog (row T r) h v : ℝ) : EReal) := by
  unfold Loads.dz
  fin_cases h
  · repeat (refine (miss _ _ _ _ _ (by simp only [kc, vcol]; omega)).trans ?_)
    exact (hit _ _ _ r v _ _ (Nat.zero_add _).symm (by simp only [kc, vcol]; omega)).trans (dog0_at H r v)
  · repeat (refine (miss _ _ _ _ _ (by simp only [kc, vcol]; omega)).trans ?_)
    exact (hit _ _ _ r v _ _ (Nat.zero_add _).symm (by simp only [kc, vcol]; omega)).trans (dog1_at H r v)
  · repeat (refine (miss _ _ _ _ _ (by simp only [kc, vcol]; omega)).trans ?_)
    exact (hit _ _ _ r v _ _ (Nat.zero_add _).symm (by simp only [kc, vcol]; omega)).trans (dog2_at H r v)
  · repeat (refine (miss _ _ _ _ _ (by simp only [kc, vcol]; omega)).trans ?_)
    exact (hit _ _ _ r v _ _ (Nat.zero_add _).symm (by simp only [kc, vcol]; omega)).trans (dog3_at H r v)

end pieces

end Cert.MixGlaBwd

end
-- ==== Proof.MixGlaFwd.lean ====
module

public import proofs.«01_k».proof.Proof.MixConvFwd

@[expose] public section

set_option maxRecDepth 16384

noncomputable section

/-! The attention of the forward region: the decays, the states and the gated output of one tile. -/

namespace Cert.MixGlaFwd

open Idealize.ShloMosaic Idealize.ShloMosaic.TcCoe Idealize.SL.Sem Cert.Reals Cert.NormRow Cert.MixSpec Cert.MixTile Cert.MixFwd Cert.MixBlocks Cert.MixPieces Cert.Over Cert.MixConvFwd Cert.MixGla
open Cert.MixerIdeal Cert.MixerIdeal.Gen Cert.MixerFwd Cert.MixerRun

section pieces
variable {A : Args} {T : Fin 32} {x : Loads} (H : FIn A T x)
include H

theorem pre_at (r : Fin 256) (d : Fin 512) :
    (∑ k : Fin 128, x.al (ix2 r k) * (x.wgu : S128x512.Idx → EReal) (ix2 k d)) + x.bg (ix2 0 d) = ((A.pre (row T r) d : ℝ) : EReal) := by
  simp only [H.al, H.wgu, H.bg, ← EReal.coe_mul, coe_sum, ← EReal.coe_add]
  rfl

theorem er_at (n : Fin 512) (r : Fin 256) (hn : n.val = r.val) (d : Fin 512) : x.la (ix2 n d) = ((A.er (row T r) d : ℝ) : EReal) := by
  pointwise [k0_pay20, k0_pay18, k0_pay19]
  have hl : n.val < 256 := by omega
  simp only [dif_pos hl]
  simp only [hn]
  rw [← er_tile A T r d]
  refine three_parts (fun c => _) (fun c => A.la (row T c) d) _ _ (fun c => after_mask r c) fun c => ?_
  rw [pre_at H, lit_16th]
  refine (congrArg (· * ((1 / 16 : ℝ) : EReal)) (lsg_ideal (A.pre (row T c) d))).trans ?_
  rw [← EReal.coe_mul]
  rfl

theorem tot_at (n : Fin 512) (r : Fin 256) (hn : n.val = 256 + r.val) (d : Fin 512) : x.la (ix2 n d) = ((A.tot ((row T r).val / 64) d : ℝ) : EReal) := by
  pointwise [k0_pay20, k0_pay18, k0_pay19]
  have hl : ¬ n.val < 256 := by omega
  simp only [dif_neg hl, show n.val - 256 = r.val by omega]
  rw [← tot_tile A T r d]
  refine three_parts (fun c => _) (fun c => A.la (row T c) d) _ _ (fun c => same_mask r c) fun c => ?_
  rw [pre_at H, lit_16th]
  refine (congrArg (· * ((1 / 16 : ℝ) : EReal)) (lsg_ideal (A.pre (row T c) d))).trans ?_
  rw [← EReal.coe_mul]
  rfl

theorem dec_at (r : Fin 256) (d : Fin 512) : x.dec (ix2 r d) = ((A.dec ((row T r).val / 64) d : ℝ) : EReal) := by
  pointwise [k0_pay21]
  rw [tot_at H _ r rfl, Ideal.exp_coe]
  rfl

theorem ke_at (r : Fin 256) (d : Fin 512) : x.kdec (ix2 r d) = ((A.ke (row T r) d : ℝ) : EReal) := by
  pointwise [k0_pay22]
  rw [er_at H _ r rfl, Ideal.exp_coe, H.k, ← EReal.coe_mul]
  rfl

theorem qs_at (r : Fin 256) (d : Fin 512) : x.qs (ix2 r d) = ((A.qs (row T r) d : ℝ) : EReal) := by
  pointwise [k0_pay23]
  rw [H.q, lit_sc, ← EReal.coe_mul]
  rfl

theorem vb_at (r : Fin 256) (d : Fin 1024) : x.vb (ix2 r d) = ((A.zv (row T r) d : ℝ) : EReal) := by
  pointwise [k0_pay24]
  exact H.v _ _

/-- What a chunk of the tile adds to the state. -/
theorem kv_at (m : Fin 4) (h : Fin 4) (v : Fin 256) (k : Fin 128) (i : Fin 64 → Fin 256) (p : Fin 1024) (q : Fin 512) (hi : ∀ a, (i a).val = 64 * m.val + a.val)
    (hp : p.val = 256 * h.val + v.val) (hq : q.val = 128 * h.val + k.val) :
    (∑ a, x.vb (ix2 (i a) p) * x.kdec (ix2 (i a) q)) = ((A.kv (4 * T.val + m.val) h v k : ℝ) : EReal) := by
  obtain rfl : p = vcol h v := Fin.ext hp
  obtain rfl : q = kc h k := Fin.ext hq
  have e : ∀ a, row T (i a) = cr (4 * T.val + m.val) a := fun a => Fin.ext (by simp only [row, cr, hi]; omega)
  simp only [vb_at H, ke_at H, e, ← EReal.coe_mul, coe_sum]
  rfl

/-- One step of the state. -/
theorem step_at (m : Fin 4) (h : Fin 4) (v : Fin 256) (k : Fin 128) (s e : EReal) (i : Fin 256) (q : Fin 512) (hi : i.val = 64 * m.val) (hq : q.val = 128 * h.val + k.val)
    (hs : s = ((A.st (4 * T.val + m.val) h v k : ℝ) : EReal)) (he : e = ((A.kv (4 * T.val + m.val) h v k : ℝ) : EReal)) :
    s * x.dec (ix2 i q) + e = ((A.st (4 * T.val + m.val + 1) h v k : ℝ) : EReal) := by
  obtain rfl : q = kc h k := Fin.ext hq
  rw [hs, he, dec_at H, show (row T i).val / 64 = 4 * T.val + m.val by simp only [row, hi]; omega, ← EReal.coe_mul, ← EReal.coe_add]
  rfl

end pieces

end Cert.MixGlaFwd

end
-- ==== Proof.MixGlaSt.lean ====
module

public import proofs.«01_k».proof.Proof.MixGlaFwd

@[expose] public section

set_option maxRecDepth 16384

noncomputable section

/-! The attention of the forward region: the decays, the states and the gated output of one tile. -/

namespace Cert.MixGlaFwd

open Idealize.ShloMosaic Idealize.ShloMosaic.TcCoe Idealize.SL.Sem Cert.Reals Cert.NormRow Cert.MixSpec Cert.MixTile Cert.MixFwd Cert.MixBlocks Cert.MixPieces Cert.Over Cert.MixConvFwd Cert.MixGla
open Cert.MixerIdeal Cert.MixerIdeal.Gen Cert.MixerFwd Cert.MixerRun

section pieces
variable {A : Args} {T : Fin 32} {x : Loads} (H : FIn A T x)
include H
variable (hs : ∀ h v k, x.st h (ix3 0 v k) = ((A.st (4 * T.val) h v k : ℝ) : EReal))
include hs

set_option maxHeartbeats 1000000 in
theorem s0_at (v : Fin 256) (k : Fin 128) : x.s00 (ix2 v k) = ((A.st (4 * T.val + 0 + 1) 0 v k : ℝ) : EReal) ∧ x.s01 (ix2 v k) = ((A.st (4 * T.val + 0 + 1) 1 v k : ℝ) : EReal) ∧ x.s02 (ix2 v k) = ((A.st (4 * T.val + 0 + 1) 2 v k : ℝ) : EReal) ∧ x.s03 (ix2 v k) = ((A.st (4 * T.val + 0 + 1) 3 v k : ℝ) : EReal) := by
  refine ⟨?_, ?_, ?_, ?_⟩
  · have e := kv_at H 0 0 v k (fun a => ⟨a.val, by omega⟩) ⟨v.val, by omega⟩ ⟨k.val, by omega⟩ (fun a => by simp) (by simp) (by simp)
    pointwise [k0_pay45, k0_pay25]
    exact step_at H 0 0 v k _ _ ⟨0, by omega⟩ ⟨k.val, by omega⟩ (by simp) (by simp) (hs 0 v k) e
  · have e := kv_at H 0 1 v k (fun a => ⟨a.val, by omega⟩) ⟨256 + v.val, by omega⟩ ⟨128 + k.val, by omega⟩ (fun a => by simp) (by simp) (by simp)
    pointwise [k0_pay46, k0_pay26]
    exact step_at H 0 1 v k _ _ ⟨0, by omega⟩ ⟨128 + k.val, by omega⟩ (by simp) (by simp) (hs 1 v k) e
  · have e := kv_at H 0 2 v k (fun a => ⟨a.val, by omega⟩) ⟨512 + v.val, by omega⟩ ⟨256 + k.val, by omega⟩ (fun a => by simp) (by simp) (by simp)
    pointwise [k0_pay48, k0_pay47, k0_pay43, k0_pay27]
    exact step_at H 0 2 v k _ _ ⟨0, by omega⟩ ⟨256 + k.val, by omega⟩ (by simp) (by simp) (hs 2 v k) e
  · have e := kv_at H 0 3 v k (fun a => ⟨a.val, by omega⟩) ⟨768 + v.val, by omega⟩ ⟨384 + k.val, by omega⟩ (fun a => by simp) (by simp) (by simp)
    pointwise [k0_pay49, k0_pay44, k0_pay28]
    exact step_at H 0 3 v k _ _ ⟨0, by omega⟩ ⟨384 + k.val, by omega⟩ (by simp) (by simp) (hs 3 v k) e

set_option maxHeartbeats 1000000 in
theorem s1_at (v : Fin 256) (k : Fin 128) : x.s10 (ix2 v k) = ((A.st (4 * T.val + 1 + 1) 0 v k : ℝ) : EReal) ∧ x.s11 (ix2 v k) = ((A.st (4 * T.val + 1 + 1) 1 v k : ℝ) : EReal) ∧ x.s12 (ix2 v k) = ((A.st (4 * T.val + 1 + 1) 2 v k : ℝ) : EReal) ∧ x.s13 (ix2 v k) = ((A.st (4 * T.val + 1 + 1) 3 v k : ℝ) : EReal) := by
  obtain ⟨p0, p1, p2, p3⟩ := s0_at H hs v k
  refine ⟨?_, ?_, ?_, ?_⟩
  · have e := kv_at H 1 0 v k (fun a => ⟨64 + a.val, by omega⟩) ⟨v.val, by omega⟩ ⟨k.val, by omega⟩ (fun a => by simp) (by simp) (by simp)
    pointwise [k0_pay54, k0_pay29]
    exact step_at H 1 0 v k _ _ ⟨64, by omega⟩ ⟨k.val, by omega⟩ (by simp) (by simp) p0 e
  · have e := kv_at H 1 1 v k (fun a => ⟨64 + a.val, by omega⟩) ⟨256 + v.val, by omega⟩ ⟨128 + k.val, by omega⟩ (fun a => by simp) (by simp) (by simp)
    pointwise [k0_pay55, k0_pay30]
    exact step_at H 1 1 v k _ _ ⟨64, by omega⟩ ⟨128 + k.val, by omega⟩ (by simp) (by simp) p1 e
  · have e := kv_at H 1 2 v k (fun a => ⟨64 + a.val, by omega⟩) ⟨512 + v.val, by omega⟩ ⟨256 + k.val, by omega⟩ (fun a => by simp) (by simp) (by simp)
    pointwise [k0_pay56, k0_pay31]
    exact step_at H 1 2 v k _ _ ⟨64, by omega⟩ ⟨256 + k.val, by omega⟩ (by simp) (by simp) p2 e
  · have e := kv_at H 1 3 v k (fun a => ⟨64 + a.val, by omega⟩) ⟨768 + v.val, by omega⟩ ⟨384 + k.val, by omega⟩ (fun a => by simp) (by simp) (by simp)
    pointwise [k0_pay57, k0_pay32]
    exact step_at H 1 3 v k _ _ ⟨64, by omega⟩ ⟨384 + k.val, by omega⟩ (by simp) (by simp) p3 e

set_option maxHeartbeats 1000000 in
theorem s2_at (v : Fin 256) (k : Fin 128) : x.s20 (ix2 v k) = ((A.st (4 * T.val + 2 + 1) 0 v k : ℝ) : EReal) ∧ x.s21 (ix2 v k) = ((A.st (4 * T.val + 2 + 1) 1 v k : ℝ) : EReal) ∧ x.s22 (ix2 v k) = ((A.st (4 * T.val + 2 + 1) 2 v k : ℝ) : EReal) ∧ x.s23 (ix2 v k) = ((A.st (4 * T.val + 2 + 1) 3 v k : ℝ) : EReal) := by
  obtain ⟨p0, p1, p2, p3⟩ := s1_at H hs v k
  refine ⟨?_, ?_, ?_, ?_⟩
  · have e := kv_at H 2 0 v k (fun a => ⟨128 + a.val, by omega⟩) ⟨v.val, by omega⟩ ⟨k.val, by omega⟩ (fun a => by simp) (by simp) (by simp)
    pointwise [k0_pay62, k0_pay35, k0_pay33, k0_pay34]
    exact step_at H 2 0 v k _ _ ⟨128, by omega⟩ ⟨k.val, by omega⟩ (by simp) (by simp) p0 e
  · have e := kv_at H 2 1 v k (fun a => ⟨128 + a.val, by omega⟩) ⟨256 + v.val, by omega⟩ ⟨128 + k.val, by omega⟩ (fun a => by simp) (by simp) (by simp)
    pointwise [k0_pay63, k0_pay36]
    exact step_at H 2 1 v k _ _ ⟨128, by omega⟩ ⟨128 + k.val, by omega⟩ (by simp) (by simp) p1 e
  · have e := kv_at H 2 2 v k (fun a => ⟨128 + a.val, by omega⟩) ⟨512 + v.val, by omega⟩ ⟨256 + k.val, by omega⟩ (fun a => by simp) (by simp) (by simp)
    pointwise [k0_pay64, k0_pay37]
    exact step_at H 2 2 v k _ _ ⟨128, by omega⟩ ⟨256 + k.val, by omega⟩ (by simp) (by simp) p2 e
  · have e := kv_at H 2 3 v k (fun a => ⟨128 + a.val, by omega⟩) ⟨768 + v.val, by omega⟩ ⟨384 + k.val, by omega⟩ (fun a => by simp) (by simp) (by simp)
    pointwise [k0_pay65, k0_pay38]
    exact step_at H 2 3 v k _ _ ⟨128, by omega⟩ ⟨384 + k.val, by omega⟩ (by simp) (by simp) p3 e

set_option maxHeartbeats 1000000 in
theorem s3_at (v : Fin 256) (k : Fin 128) : x.s30 (ix2 v k) = ((A.st (4 * T.val + 3 + 1) 0 v k : ℝ) : EReal) ∧ x.s31 (ix2 v k) = ((A.st (4 * T.val + 3 + 1) 1 v k : ℝ) : EReal) ∧ x.s32 (ix2 v k) = ((A.st (4 * T.val + 3 + 1) 2 v k : ℝ) : EReal) ∧ x.s33 (ix2 v k) = ((A.st (4 * T.val + 3 + 1) 3 v k : ℝ) : EReal) := by
  obtain ⟨p0, p1, p2, p3⟩ := s2_at H hs v k
  refine ⟨?_, ?_, ?_, ?_⟩
  · have e := kv_at H 3 0 v k (fun a => ⟨192 + a.val, by omega⟩) ⟨v.val, by omega⟩ ⟨k.val, by omega⟩ (fun a => by simp) (by simp) (by simp)
    pointwise [k0_pay70, k0_pay39]
    exact step_at H 3 0 v k _ _ ⟨192, by omega⟩ ⟨k.val, by omega⟩ (by simp) (by simp) p0 e
  · have e := kv_at H 3 1 v k (fun a => ⟨192 + a.val, by omega⟩) ⟨256 + v.val, by omega⟩ ⟨128 + k.val, by omega⟩ (fun a => by simp) (by simp) (by simp)
    pointwise [k0_pay71, k0_pay40]
    exact step_at H 3 1 v k _ _ ⟨192, by omega⟩ ⟨128 + k.val, by omega⟩ (by simp) (by simp) p1 e
  · have e := kv_at H 3 2 v k (fun a => ⟨192 + a.val, by omega⟩) ⟨512 + v.val, by omega⟩ ⟨256 + k.val, by omega⟩ (fun a => by simp) (by simp) (by simp)
    pointwise [k0_pay72, k0_pay41]
    exact step_at H 3 2 v k _ _ ⟨192, by omega⟩ ⟨256 + k.val, by omega⟩ (by simp) (by simp) p2 e
  · have e := kv_at H 3 3 v k (fun a => ⟨192 + a.val, by omega⟩) ⟨768 + v.val, by omega⟩ ⟨384 + k.val, by omega⟩ (fun a => by simp) (by simp) (by simp)
    pointwise [k0_pay73, k0_pay42]
    exact step_at H 3 3 v k _ _ ⟨192, by omega⟩ ⟨384 + k.val, by omega⟩ (by simp) (by simp) p3 e

end pieces

end Cert.MixGlaFwd

end
-- ==== Proof.MixGlaY.lean ====
module

public import proofs.«01_k».proof.Proof.MixGlaSt

@[expose] public section

set_option maxRecDepth 16384

noncomputable section

/-! The gated output of the attention of one tile, and the states that it keeps. -/

namespace Cert.MixGlaFwd

open Idealize.ShloMosaic Idealize.ShloMosaic.TcCoe Idealize.SL.Sem Cert.Reals Cert.NormRow Cert.MixSpec Cert.MixTile Cert.MixFwd Cert.MixBlocks Cert.MixPieces Cert.Over Cert.MixConvFwd Cert.MixGla
open Cert.MixerIdeal Cert.MixerIdeal.Gen Cert.MixerFwd Cert.MixerRun

section pieces
variable {A : Args} {T : Fin 32} {x : Loads} (H : FIn A T x)
include H
variable (hs : ∀ h v k, x.st h (ix3 0 v k) = ((A.st (4 * T.val) h v k : ℝ) : EReal))
include hs

theorem y0_at (r v : Fin 256) : k0_pay84 (F := Ideal) x.gg (k0_pay82 x.qs x.s00 x.s10 x.s20 x.s30) (k0_pay83 x.qs x.s00 x.s10 x.s20 x.s30) (x.og 0) (ix2 r v) = ((A.ygla (row T r) 0 v : ℝ) : EReal) := by
  have hO := fun r v : Fin 256 => four_chunks 0 (qs_at H) (fun v k => (s0_at H hs v k).1) (fun v k => (s1_at H hs v k).1) (fun v k => (s2_at H hs v k).1) (fun v k => (s3_at H hs v k).1) (fun k => ⟨k.val, by omega⟩) (fun k => by simp) r v
  pointwise [k0_pay84, k0_pay83, k0_pay82]
  simp only [hO, H.gg, H.og]
  exact gated _ _ _

theorem y1_at (r v : Fin 256) : k0_pay85 (F := Ideal) x.qs x.gg x.s01 x.s11 x.s21 x.s31 (x.og 1) (ix2 r v) = ((A.ygla (row T r) 1 v : ℝ) : EReal) := by
  have hO := fun r v : Fin 256 => four_chunks 1 (qs_at H) (fun v k => (s0_at H hs v k).2.1) (fun v k => (s1_at H hs v k).2.1) (fun v k => (s2_at H hs v k).2.1) (fun v k => (s3_at H hs v k).2.1) (fun k => ⟨128 + k.val, by omega⟩) (fun k => by simp) r v
  pointwise [k0_pay85]
  simp only [hO, H.gg, H.og]
  exact gated _ _ _

theorem y2_at (r v : Fin 256) : k0_pay88 (F := Ideal) x.qs x.gg x.s12 x.s22 x.s32 (k0_pay86 x.qs) (k0_pay87 x.s02) (x.og 2) (ix2 r v) = ((A.ygla (row T r) 2 v : ℝ) : EReal) := by
  have hO := fun r v : Fin 256 => four_chunks 2 (qs_at H) (fun v k => (s0_at H hs v k).2.2.1) (fun v k => (s1_at H hs v k).2.2.1) (fun v k => (s2_at H hs v k).2.2.1) (fun v k => (s3_at H hs v k).2.2.1) (fun k => ⟨256 + k.val, by omega⟩) (fun k => by simp) r v
  pointwise [k0_pay88, k0_pay86, k0_pay87]
  simp only [hO, H.gg, H.og]
  exact gated _ _ _

theorem y3_at (r v : Fin 256) : k0_pay1 (F := Ideal) x.gg (k0_pay89 x.qs x.s03 x.s13 x.s23 x.s33) (k0_pay90 x.qs x.s03 x.s13 x.s23 x.s33) (x.og 3) (ix2 r v) = ((A.ygla (row T r) 3 v : ℝ) : EReal) := by
  have hO := fun r v : Fin 256 => four_chunks 3 (qs_at H) (fun v k => (s0_at H hs v k).2.2.2) (fun v k => (s1_at H hs v k).2.2.2) (fun v k => (s2_at H hs v k).2.2.2) (fun v k => (s3_at H hs v k).2.2.2) (fun k => ⟨384 + k.val, by omega⟩) (fun k => by simp) r v
  pointwise [k0_pay1, k0_pay90, k0_pay89]
  simp only [hO, H.gg, H.og]
  exact gated _ _ _

/-- The gated output of a tile. -/
theorem ygla_at (r : Fin 256) (h : Fin 4) (v : Fin 256) : View.canon x.y (ix2 r ⟨1024 + (vcol h v).val, by omega⟩) = ((A.ygla (row T r) h v : ℝ) : EReal) := by
  unfold Loads.y
  fin_cases h
  · repeat (refine (miss _ _ _ _ _ (by simp only [vcol]; omega)).trans ?_)
    refine (hit _ _ _ r v _ _ (Nat.zero_add _).symm (by simp only [vcol]; omega)).trans (y0_at H hs r v)
  · repeat (refine (miss _ _ _ _ _ (by simp only [vcol]; omega)).trans ?_)
    refine (hit _ _ _ r v _ _ (Nat.zero_add _).symm (by simp only [vcol]; omega)).trans (y1_at H hs r v)
  · repeat (refine (miss _ _ _ _ _ (by simp only [vcol]; omega)).trans ?_)
    refine (hit _ _ _ r v _ _ (Nat.zero_add _).symm (by simp only [vcol]; omega)).trans (y2_at H hs r v)
  · refine (hit _ _ _ r v _ _ (Nat.zero_add _).symm (by simp only [vcol]; omega)).trans (y3_at H hs r v)

/-- The state carried to the next tile. -/
theorem sl_at (z) (h : Fin 4) (v : Fin 256) (k : Fin 128) : over z x.sl (ix3 h v k) = ((A.st (4 * T.val + 3 + 1) h v k : ℝ) : EReal) := by
  obtain ⟨p0, p1, p2, p3⟩ := s3_at H hs v k
  unfold Loads.sl
  fin_cases h
  · repeat (refine (over_miss3 _ _ _ _ _ _ (by decide)).trans ?_)
    refine (over_hit3 _ _ _ v k (0 : Fin 4) rfl).trans ?_
    pointwise [k0_pay78]
    exact p0
  · repeat (refine (over_miss3 _ _ _ _ _ _ (by decide)).trans ?_)
    refine (over_hit3 _ _ _ v k (1 : Fin 4) rfl).trans ?_
    pointwise [k0_pay79]
    exact p1
  · refine (over_miss3 _ _ _ _ _ _ (by decide)).trans ?_
    refine (over_hit3 _ _ _ v k (2 : Fin 4) rfl).trans ?_
    pointwise [k0_pay80]
    exact p2
  · refine (over_hit3 _ _ _ v k (3 : Fin 4) rfl).trans ?_
    pointwise [k0_pay81]
    exact p3

set_option maxHeartbeats 1000000 in
/-- The states that the backward pass reads. -/
theorem sall_at (n h : Fin 4) (v : Fin 256) (k : Fin 128) : View.canon x.sall (ix4 n h v k) = ((A.st (4 * T.val + n.val + 1) h v k : ℝ) : EReal) := by
  obtain ⟨p00, p01, p02, p03⟩ := s0_at H hs v k
  obtain ⟨p10, p11, p12, p13⟩ := s1_at H hs v k
  obtain ⟨p20, p21, p22, p23⟩ := s2_at H hs v k
  obtain ⟨p30, p31, p32, p33⟩ := s3_at H hs v k
  unfold Loads.sall
  fin_cases n <;> fin_cases h
  · repeat (refine (miss4 _ _ _ _ _ _ _ (by decide)).trans ?_)
    refine (hit4 _ _ _ v k (0 : Fin 4) (0 : Fin 4) rfl rfl).trans ?_
    pointwise [k0_pay50]
    exact p00
  · repeat (refine (miss4 _ _ _ _ _ _ _ (by decide)).trans ?_)
    refine (hit4 _ _ _ v k (0 : Fin 4) (1 : Fin 4) rfl rfl).trans ?_
    pointwise [k0_pay51]
    exact p01
  · repeat (refine (miss4 _ _ _ _ _ _ _ (by decide)).trans ?_)
    refine (hit4 _ _ _ v k (0 : Fin 4) (2 : Fin 4) rfl rfl).trans ?_
    pointwise [k0_pay52]
    exact p02
  · repeat (refine (miss4 _ _ _ _ _ _ _ (by decide)).trans ?_)
    refine (hit4 _ _ _ v k (0 : Fin 4) (3 : Fin 4) rfl rfl).trans ?_
    pointwise [k0_pay53]
    exact p03
  · repeat (refine (miss4 _ _ _ _ _ _ _ (by decide)).trans ?_)
    refine (hit4 _ _ _ v k (1 : Fin 4) (0 : Fin 4) rfl rfl).trans ?_
    pointwise [k0_pay58]
    exact p10
  · repeat (refine (miss4 _ _ _ _ _ _ _ (by decide)).trans ?_)
    refine (hit4 _ _ _ v k (1 : Fin 4) (1 : Fin 4) rfl rfl).trans ?_
    pointwise [k0_pay59]
    exact p11
  · repeat (refine (miss4 _ _ _ _ _ _ _ (by decide)).trans ?_)
    refine (hit4 _ _ _ v k (1 : Fin 4) (2 : Fin 4) rfl rfl).trans ?_
    pointwise [k0_pay60]
    exact p12
  · repeat (refine (miss4 _ _ _ _ _ _ _ (by decide)).trans ?_)
    refine (hit4 _ _ _ v k (1 : Fin 4) (3 : Fin 4) rfl rfl).trans ?_
    pointwise [k0_pay61]
    exact p13
  · repeat (refine (miss4 _ _ _ _ _ _ _ (by decide)).trans ?_)
    refine (hit4 _ _ _ v k (2 : Fin 4) (0 : Fin 4) rfl rfl).trans ?_
    pointwise [k0_pay66]
    exact p20
  · repeat (refine (miss4 _ _ _ _ _ _ _ (by decide)).trans ?_)
    refine (hit4 _ _ _ v k (2 : Fin 4) (1 : Fin 4) rfl rfl).trans ?_
    pointwise [k0_pay67]
    exact p21
  · repeat (refine (miss4 _ _ _ _ _ _ _ (by decide)).trans ?_)
    refine (hit4 _ _ _ v k (2 : Fin 4) (2 : Fin 4) rfl rfl).trans ?_
    pointwise [k0_pay68]
    exact p22
  · repeat (refine (miss4 _ _ _ _ _ _ _ (by decide)).trans ?_)
    refine (hit4 _ _ _ v k (2 : Fin 4) (3 : Fin 4) rfl rfl).trans ?_
    pointwise [k0_pay69]
    exact p23
  · repeat (refine (miss4 _ _ _ _ _ _ _ (by decide)).trans ?_)
    refine (hit4 _ _ _ v k (3 : Fin 4) (0 : Fin 4) rfl rfl).trans ?_
    pointwise [k0_pay74]
    exact p30
  · repeat (refine (miss4 _ _ _ _ _ _ _ (by decide)).trans ?_)
    refine (hit4 _ _ _ v k (3 : Fin 4) (1 : Fin 4) rfl rfl).trans ?_
    pointwise [k0_pay75]
    exact p31
  · repeat (refine (miss4 _ _ _ _ _ _ _ (by decide)).trans ?_)
    refine (hit4 _ _ _ v k (3 : Fin 4) (2 : Fin 4) rfl rfl).trans ?_
    pointwise [k0_pay76]
    exact p32
  · refine (hit4 _ _ _ v k (3 : Fin 4) (3 : Fin 4) rfl rfl).trans ?_
    pointwise [k0_pay77]
    exact p33

end pieces

end Cert.MixGlaFwd

end
-- ==== Proof.MixGlaArr.lean ====
module

public import proofs.«01_k».proof.Proof.MixGlaY

@[expose] public section

set_option maxRecDepth 16384

noncomputable section

/-! The attention's output and the states that the forward region leaves, and what the backward region reads of them. -/

namespace Cert.MixGlaFwd

open Idealize.ShloMosaic Idealize.ShloMosaic.TcCoe Idealize.SL.Sem Cert.Reals Cert.NormRow Cert.MixSpec Cert.MixTile Cert.MixFwd Cert.MixBlocks Cert.MixPieces Cert.Over Cert.MixConvFwd Cert.MixGla
open Cert.MixerIdeal Cert.MixerIdeal.Gen Cert.MixerFwd Cert.MixerRun

variable {m : (ℓ : Loc nD τ sig) → Buf (Elt Ideal) ℓ} {c : Dev nD} {A : Args}

theorem st_zero (A : Args) (h : Fin 4) (v : Fin 256) (k : Fin 128) : A.st (4 * 0) h v k = 0 := rfl

theorem st_ld (t : Fin cfg0.N) (p : Left Ideal) (h : Fin 4) (v : Fin 256) (k : Fin 128) : (loads (U6 m) c t p).st h (ix3 0 v k) = p.s (ix3 h v k) := by
  fin_cases h
  · exact ld3 p.s inb_S4x256x128_S1x256x128_0_0_0 0 v k (0 : Fin 4) rfl
  · exact ld3 p.s inb_S4x256x128_S1x256x128_1_0_0 0 v k (1 : Fin 4) rfl
  · exact ld3 p.s inb_S4x256x128_S1x256x128_2_0_0 0 v k (2 : Fin 4) rfl
  · exact ld3 p.s inb_S4x256x128_S1x256x128_3_0_0 0 v k (3 : Fin 4) rfl

attribute [local irreducible] Args.st Loads.sall Loads.y Loads.sl loads

variable (H : Holds m c A)
include H

/-- A point finds the state before its tile. -/
theorem state_before (n : ℕ) (hn : n < cfg0.N) (h : Fin 4) (v : Fin 256) (k : Fin 128) :
    (prev (U6 m) c ⟨n, hn⟩).s (ix3 h v k) = ((A.st (4 * n) h v k : ℝ) : EReal) := by
  induction n generalizing h v k with
  | zero =>
    rw [prev_first _ _ _ rfl]
    rw [st_zero]
    show k0_pay3 (F := Ideal) (ix3 h v k) = ((0 : ℝ) : EReal)
    pointwise [k0_pay3]
    rfl
  | succ n ih =>
    have hl : n < cfg0.N := by omega
    rw [prev_later _ _ _ (Nat.succ_ne_zero n)]
    rw [show left (U6 m) c (n + 1 - 1) _ = _ from left_eq (U6 m) c ⟨n, hl⟩]
    have e := sl_at (x := loads (U6 m) c ⟨n, hl⟩ (prev (U6 m) c ⟨n, hl⟩)) (fwd_in H ⟨n, hl⟩ _) (fun h v k => (st_ld _ _ h v k).trans (ih hl h v k)) (prev (U6 m) c ⟨n, hl⟩).s h v k
    rw [show 4 * (ftile ⟨n, hl⟩).val + 3 + 1 = 4 * (n + 1) by simp only [ftile]; omega] at e
    exact e

theorem state_in (t : Fin cfg0.N) (h : Fin 4) (v : Fin 256) (k : Fin 128) :
    (loads (U6 m) c t (prev (U6 m) c t)).st h (ix3 0 v k) = ((A.st (4 * (ftile t).val) h v k : ℝ) : EReal) :=
  (st_ld _ _ h v k).trans (state_before H t.val t.isLt h v k)

theorem y_gla (i : Fin 8192) (h : Fin 4) (v : Fin 256) :
    (left (U6 m) c (fpt i).val (fpt i).isLt).y (ix2 (MixArr.pl i) ⟨1024 + (vcol h v).val, by omega⟩) = ((A.ygla i h v : ℝ) : EReal) := by
  have e := ygla_at (x := loads (U6 m) c (fpt i) (prev (U6 m) c (fpt i))) (fwd_in H (fpt i) _) (state_in H (fpt i)) (MixArr.pl i) h v
  rw [row_fpt] at e
  rw [left_eq]
  exact e

theorem left_sall (t : Fin cfg0.N) (n h : Fin 4) (v : Fin 256) (k : Fin 128) :
    (left (U6 m) c t.val t.isLt).sall (ix4 n h v k) = ((A.st (4 * t.val + n.val + 1) h v k : ℝ) : EReal) := by
  have e := sall_at (x := loads (U6 m) c t (prev (U6 m) c t)) (fwd_in H t _) (state_in H t) n h v k
  rw [show (ftile t).val = t.val from rfl] at e
  have e2 : (left (U6 m) c t.val t.isLt).sall = View.canon (loads (U6 m) c t (prev (U6 m) c t)).sall := by
    rw [left_eq]
  exact (congrFun e2 _).trans e

omit H in
theorem idxS (t : Fin cfg0.N) : win0_14.index t = ![t.val, 0, 0, 0] := by revert t; decide +kernel

omit H in
/-- The point that keeps a chunk's state, and the chunk's place in its tile. -/
def spt (n : Fin 128) : Fin cfg0.N := ⟨n.val / 4, by have : cfg0.N = 32 := N_0; omega⟩
omit H in
def spl (n : Fin 128) : Fin 4 := ⟨n.val % 4, by omega⟩

omit H in
theorem arr_sall (V : (c : Dev nD) → (b : Ref sig .tc) → Buf (Elt Ideal) (c.tc.loc b)) (c : Dev nD) :
    (dat V c).arrAt 14 cfg0.N = fun y : S128x4x256x128.Idx => (left V c (spt (y 0)).val (spt (y 0)).isLt).sall (ix4 (spl (y 0)) (y 1) (y 2) (y 3)) := by
  refine (dat V c).arrAt_eq_of_covers 14 _ (by decide +kernel) fun t hf y => ?_
  blk_simp
  rw [after_14]
  idx_vars y
  have ht : t.val < 32 := t.isLt
  have e : ((View.whole main_v7_1).slice (win0_14.rect t)).emb (ix4 y0 y1 y2 y3) = (ix4 ⟨4 * t.val + y0.val, by omega⟩ y1 y2 y3 : S128x4x256x128.Idx) := by
    blk_ext [idxS t]
  show _ = (fun y : S128x4x256x128.Idx => (left V c (spt (y 0)).val (spt (y 0)).isLt).sall (ix4 (spl (y 0)) (y 1) (y 2) (y 3))) (((View.whole main_v7_1).slice (win0_14.rect t)).emb (ix4 y0 y1 y2 y3))
  rw [e]
  show _ = (left V c (spt ⟨4 * t.val + y0.val, by omega⟩).val (spt ⟨4 * t.val + y0.val, by omega⟩).isLt).sall (ix4 (spl ⟨4 * t.val + y0.val, by omega⟩) y1 y2 y3)
  have e1 : spt ⟨4 * t.val + y0.val, by omega⟩ = t := Fin.ext (by simp only [spt]; omega)
  have e2 : spl ⟨4 * t.val + y0.val, by omega⟩ = y0 := Fin.ext (by simp only [spl]; omega)
  rw [e1, e2]

/-- The array of states that the backward region reads. -/
theorem states (n : Fin 128) (h : Fin 4) (v : Fin 256) (k : Fin 128) :
    (U7 m c main_v7_1 : S128x4x256x128.Idx → EReal) (ix4 n h v k) = ((A.st (n.val + 1) h v k : ℝ) : EReal) := by
  have e : (U7 m c main_v7_1 : S128x4x256x128.Idx → EReal) = (dat (U6 m) c).arrAt 14 cfg0.N := W7_arr m c 14
  rw [e, arr_sall]
  refine (left_sall H (spt n) (spl n) h v k).trans ?_
  have e3 : 4 * (spt n).val + (spl n).val + 1 = n.val + 1 := by simp only [spt, spl]; omega
  rw [e3]

theorem readB11 (t : Fin cfg1.N) (n h : Fin 4) (v : Fin 256) (k : Fin 128) :
    (MixerBwd.iblk (U7 m) c 11 t : S4x4x256x128.Idx → EReal) (ix4 n h v k) = ((A.st (4 * (tile t).val + n.val + 1) h v k : ℝ) : EReal) := by
  have e : (MixerBwd.iblk (U7 m) c 11 t : S4x4x256x128.Idx → EReal) (ix4 n h v k) = (U7 m c main_v7_1 : S128x4x256x128.Idx → EReal) (ix4 ⟨4 * (tile t).val + n.val, by omega⟩ h v k) := by
    blk_ext [MixerBwd.iblk, idxB t, tile]
  rw [e]
  exact states H _ h v k

theorem readB12 (t : Fin cfg1.N) (ht : tile t ≠ 0) (o : Fin 1) (h : Fin 4) (v : Fin 256) (k : Fin 128) :
    (MixerBwd.iblk (U7 m) c 12 t : S1x4x256x128.Idx → EReal) (ix4 o h v k) = ((A.st (4 * (tile t).val) h v k : ℝ) : EReal) := by
  have hp : 0 < 31 - t.val := by
    rcases Nat.eq_zero_or_pos (31 - t.val) with h | h
    · exact absurd (Fin.ext h) ht
    · exact h
  have e : (MixerBwd.iblk (U7 m) c 12 t : S1x4x256x128.Idx → EReal) (ix4 o h v k) = (U7 m c main_v7_1 : S128x4x256x128.Idx → EReal) (ix4 ⟨4 * (tile t).val - 1, by omega⟩ h v k) := by
    blk_ext [MixerBwd.iblk, idxB t, tile]
  rw [e]
  refine (states H _ h v k).trans ?_
  have e3 : 4 * (tile t).val - 1 + 1 = 4 * (tile t).val := by simp only [tile]; omega
  simp only [e3]

end Cert.MixGlaFwd

end
-- ==== Proof.MixGlaBack.lean ====
module

public import proofs.«01_k».proof.Proof.MixGlaTile
public import proofs.«01_k».proof.Proof.MixGlaArr

@[expose] public section

set_option maxRecDepth 16384

noncomputable section

/-! The attention's gradients that the backward region leaves. -/

namespace Cert.MixGlaBwd

open Idealize.ShloMosaic Idealize.ShloMosaic.TcCoe Idealize.SL.Sem Cert.Reals Cert.NormRow Cert.MixSpec Cert.MixTile Cert.MixLoads Cert.MixStep Cert.MixBlocks Cert.MixArr Cert.MixPieces Cert.Over Cert.MixGla
open Cert.MixConvBwd (ld_all)
open Cert.MixerIdeal Cert.MixerIdeal.Gen Cert.MixerBwd Cert.MixerRun

variable {m : (ℓ : Loc nD τ sig) → Buf (Elt Ideal) ℓ} {c : Dev nD} {A : Args}

theorem og_ld (t : Fin cfg1.N) (p : Left Ideal) (h : Fin 4) (r v : Fin 256) :
    (loads (U7 m) c t p).og h (ix2 r v) = (iblk (U7 m) c 6 t : S256x1024.Idx → EReal) (ix2 r (vcol h v)) := by
  fin_cases h
  · have e : (loads (U7 m) c t p).og 0 = View.ld (iblk (U7 m) c 6 t) (Rect.unit ![0, 0] ![256, 256] inb_S256x1024_S256x256_0_0) := by sl_kernel_rfl
    exact (congrFun e _).trans (ld2 (iblk (U7 m) c 6 t) inb_S256x1024_S256x256_0_0 r v r _ (Nat.zero_add _).symm rfl)
  · have e : (loads (U7 m) c t p).og 1 = View.ld (iblk (U7 m) c 6 t) (Rect.unit ![0, 256] ![256, 256] inb_S256x1024_S256x256_0_256) := by sl_kernel_rfl
    exact (congrFun e _).trans (ld2 (iblk (U7 m) c 6 t) inb_S256x1024_S256x256_0_256 r v r _ (Nat.zero_add _).symm rfl)
  · have e : (loads (U7 m) c t p).og 2 = View.ld (iblk (U7 m) c 6 t) (Rect.unit ![0, 512] ![256, 256] inb_S256x1024_S256x256_0_512) := by sl_kernel_rfl
    exact (congrFun e _).trans (ld2 (iblk (U7 m) c 6 t) inb_S256x1024_S256x256_0_512 r v r _ (Nat.zero_add _).symm rfl)
  · have e : (loads (U7 m) c t p).og 3 = View.ld (iblk (U7 m) c 6 t) (Rect.unit ![0, 768] ![256, 256] inb_S256x1024_S256x256_0_768) := by sl_kernel_rfl
    exact (congrFun e _).trans (ld2 (iblk (U7 m) c 6 t) inb_S256x1024_S256x256_0_768 r v r _ (Nat.zero_add _).symm rfl)

theorem dyg_ld (t : Fin cfg1.N) (p : Left Ideal) (h : Fin 4) (r v : Fin 256) :
    (loads (U7 m) c t p).dyg h (ix2 r v) = (iblk (U7 m) c 10 t : S256x2048.Idx → EReal) (ix2 r ⟨1024 + (vcol h v).val, by omega⟩) := by
  fin_cases h
  · have e : (loads (U7 m) c t p).dyg 0 = View.ld (iblk (U7 m) c 10 t) (Rect.unit ![0, 1024] ![256, 256] inb_S256x2048_S256x256_0_1024) := by sl_kernel_rfl
    exact (congrFun e _).trans (ld2 (iblk (U7 m) c 10 t) inb_S256x2048_S256x256_0_1024 r v r _ (Nat.zero_add _).symm (by simp only [vcol]; omega))
  · have e : (loads (U7 m) c t p).dyg 1 = View.ld (iblk (U7 m) c 10 t) (Rect.unit ![0, 1280] ![256, 256] inb_S256x2048_S256x256_0_1280) := by sl_kernel_rfl
    exact (congrFun e _).trans (ld2 (iblk (U7 m) c 10 t) inb_S256x2048_S256x256_0_1280 r v r _ (Nat.zero_add _).symm (by simp only [vcol]; omega))
  · have e : (loads (U7 m) c t p).dyg 2 = View.ld (iblk (U7 m) c 10 t) (Rect.unit ![0, 1536] ![256, 256] inb_S256x2048_S256x256_0_1536) := by sl_kernel_rfl
    exact (congrFun e _).trans (ld2 (iblk (U7 m) c 10 t) inb_S256x2048_S256x256_0_1536 r v r _ (Nat.zero_add _).symm (by simp only [vcol]; omega))
  · have e : (loads (U7 m) c t p).dyg 3 = View.ld (iblk (U7 m) c 10 t) (Rect.unit ![0, 1792] ![256, 256] inb_S256x2048_S256x256_0_1792) := by sl_kernel_rfl
    exact (congrFun e _).trans (ld2 (iblk (U7 m) c 10 t) inb_S256x2048_S256x256_0_1792 r v r _ (Nat.zero_add _).symm (by simp only [vcol]; omega))

theorem sall_ld (t : Fin cfg1.N) (p : Left Ideal) (n h : Fin 4) (v : Fin 256) (k : Fin 128) :
    (loads (U7 m) c t p).sall n h (ix4 0 0 v k) = (iblk (U7 m) c 11 t : S4x4x256x128.Idx → EReal) (ix4 n h v k) := by
  fin_cases n <;> fin_cases h
  · exact ld4 (iblk (U7 m) c 11 t) inb_S4x4x256x128_S1x1x256x128_0_0_0_0 0 0 v k (0 : Fin 4) (0 : Fin 4) rfl rfl
  · exact ld4 (iblk (U7 m) c 11 t) inb_S4x4x256x128_S1x1x256x128_0_1_0_0 0 0 v k (0 : Fin 4) (1 : Fin 4) rfl rfl
  · exact ld4 (iblk (U7 m) c 11 t) inb_S4x4x256x128_S1x1x256x128_0_2_0_0 0 0 v k (0 : Fin 4) (2 : Fin 4) rfl rfl
  · exact ld4 (iblk (U7 m) c 11 t) inb_S4x4x256x128_S1x1x256x128_0_3_0_0 0 0 v k (0 : Fin 4) (3 : Fin 4) rfl rfl
  · exact ld4 (iblk (U7 m) c 11 t) inb_S4x4x256x128_S1x1x256x128_1_0_0_0 0 0 v k (1 : Fin 4) (0 : Fin 4) rfl rfl
  · exact ld4 (iblk (U7 m) c 11 t) inb_S4x4x256x128_S1x1x256x128_1_1_0_0 0 0 v k (1 : Fin 4) (1 : Fin 4) rfl rfl
  · exact ld4 (iblk (U7 m) c 11 t) inb_S4x4x256x128_S1x1x256x128_1_2_0_0 0 0 v k (1 : Fin 4) (2 : Fin 4) rfl rfl
  · exact ld4 (iblk (U7 m) c 11 t) inb_S4x4x256x128_S1x1x256x128_1_3_0_0 0 0 v k (1 : Fin 4) (3 : Fin 4) rfl rfl
  · exact ld4 (iblk (U7 m) c 11 t) inb_S4x4x256x128_S1x1x256x128_2_0_0_0 0 0 v k (2 : Fin 4) (0 : Fin 4) rfl rfl
  · exact ld4 (iblk (U7 m) c 11 t) inb_S4x4x256x128_S1x1x256x128_2_1_0_0 0 0 v k (2 : Fin 4) (1 : Fin 4) rfl rfl
  · exact ld4 (iblk (U7 m) c 11 t) inb_S4x4x256x128_S1x1x256x128_2_2_0_0 0 0 v k (2 : Fin 4) (2 : Fin 4) rfl rfl
  · exact ld4 (iblk (U7 m) c 11 t) inb_S4x4x256x128_S1x1x256x128_2_3_0_0 0 0 v k (2 : Fin 4) (3 : Fin 4) rfl rfl
  · exact ld4 (iblk (U7 m) c 11 t) inb_S4x4x256x128_S1x1x256x128_3_0_0_0 0 0 v k (3 : Fin 4) (0 : Fin 4) rfl rfl
  · exact ld4 (iblk (U7 m) c 11 t) inb_S4x4x256x128_S1x1x256x128_3_1_0_0 0 0 v k (3 : Fin 4) (1 : Fin 4) rfl rfl
  · exact ld4 (iblk (U7 m) c 11 t) inb_S4x4x256x128_S1x1x256x128_3_2_0_0 0 0 v k (3 : Fin 4) (2 : Fin 4) rfl rfl
  · exact ld4 (iblk (U7 m) c 11 t) inb_S4x4x256x128_S1x1x256x128_3_3_0_0 0 0 v k (3 : Fin 4) (3 : Fin 4) rfl rfl

theorem sprev_ld (t : Fin cfg1.N) (p : Left Ideal) (h : Fin 4) (v : Fin 256) (k : Fin 128) :
    (loads (U7 m) c t p).sprev h (ix4 0 0 v k) = (iblk (U7 m) c 12 t : S1x4x256x128.Idx → EReal) (ix4 0 h v k) := by
  fin_cases h
  · exact ld4 (iblk (U7 m) c 12 t) inb_S1x4x256x128_S1x1x256x128_0_0_0_0 0 0 v k (0 : Fin 1) (0 : Fin 4) rfl rfl
  · exact ld4 (iblk (U7 m) c 12 t) inb_S1x4x256x128_S1x1x256x128_0_1_0_0 0 0 v k (0 : Fin 1) (1 : Fin 4) rfl rfl
  · exact ld4 (iblk (U7 m) c 12 t) inb_S1x4x256x128_S1x1x256x128_0_2_0_0 0 0 v k (0 : Fin 1) (2 : Fin 4) rfl rfl
  · exact ld4 (iblk (U7 m) c 12 t) inb_S1x4x256x128_S1x1x256x128_0_3_0_0 0 0 v k (0 : Fin 1) (3 : Fin 4) rfl rfl

theorem gd_ld (t : Fin cfg1.N) (p : Left Ideal) (h : Fin 4) (v : Fin 256) (k : Fin 128) : (loads (U7 m) c t p).gd h (ix3 0 v k) = p.gd (ix3 h v k) := by
  fin_cases h
  · exact ld3 p.gd inb_S4x256x128_S1x256x128_0_0_0 0 v k (0 : Fin 4) rfl
  · exact ld3 p.gd inb_S4x256x128_S1x256x128_1_0_0 0 v k (1 : Fin 4) rfl
  · exact ld3 p.gd inb_S4x256x128_S1x256x128_2_0_0 0 v k (2 : Fin 4) rfl
  · exact ld3 p.gd inb_S4x256x128_S1x256x128_3_0_0 0 v k (3 : Fin 4) rfl

theorem agg_ld (t : Fin cfg1.N) (p : Left Ideal) (v : Fin 256) : (loads (U7 m) c t p).agg (ix2 0 v) = p.dgg (ix2 0 v) := ld_all _ _ 0 v
theorem abg_ld (t : Fin cfg1.N) (p : Left Ideal) (d : Fin 512) : (loads (U7 m) c t p).abg (ix2 0 d) = p.dbg (ix2 0 d) := ld_all _ _ 0 d
theorem awgu_ld (t : Fin cfg1.N) (p : Left Ideal) (k : Fin 128) (d : Fin 512) : (loads (U7 m) c t p).awgu (ix2 k d) = p.dwgu (ix2 k d) := ld_all _ _ k d

variable (H : Holds m c A)
include H

/-- What a point loads for the attention. -/
theorem bin_in (t : Fin cfg1.N) (p : Left Ideal) : BIn A (tile t) (loads (U7 m) c t p) where
  pt := ptB t
  q r j := (ld_all _ _ r j).trans (readB3 H t r j)
  k r j := (ld_all _ _ r j).trans (readB4 H t r j)
  v r j := (ld_all _ _ r j).trans (readB5 H t r j)
  og h r v := (og_ld t p h r v).trans (readB6 H t r (vcol h v))
  dyg h r v := (dyg_ld t p h r v).trans (readB10 H t r _)
  al r j := (ld_all _ _ r j).trans (readB9 H t r j)
  wgu r j := (ld_all _ _ r j).trans (readB13 H t r j)
  bg j := (ld_all _ _ 0 j).trans (readB14 H t 0 j)
  gg j := (ld_all _ _ 0 j).trans (readB17 H t 0 j)
  sall n h v k := (sall_ld t p n h v k).trans (MixGlaFwd.readB11 H t n h v k)
  sprev ht h v k := (sprev_ld t p h v k).trans (MixGlaFwd.readB12 H t ht 0 h v k)

attribute [local irreducible] loads Loads.dz Loads.dzal Loads.dgg Loads.dbg Loads.dwgu Loads.gdl Args.back Args.G Args.st

/-- The states' gradient that a point finds: that of the tile above. -/
theorem back_before (n : ℕ) (hn : n < cfg1.N) (h : Fin 4) (v : Fin 256) (k : Fin 128) :
    (prev (U7 m) c ⟨n, hn⟩).gd (ix3 h v k) = ((A.back (4 * n) h v k : ℝ) : EReal) := by
  induction n generalizing h v k with
  | zero =>
    rw [prev_first _ _ _ rfl]
    have e : A.back (4 * 0) h v k = 0 := by unfold Args.back; rfl
    rw [e]
    show k1_pay4 (F := Ideal) (ix3 h v k) = ((0 : ℝ) : EReal)
    pointwise [k1_pay4]
    rfl
  | succ n ih =>
    have hl : n < cfg1.N := by omega
    have hN : n + 1 < 32 := hn
    rw [prev_later _ _ _ (Nat.succ_ne_zero n)]
    rw [show left (U7 m) c (n + 1 - 1) _ = _ from left_eq (U7 m) c ⟨n, hl⟩]
    have e := gd_at (x := loads (U7 m) c ⟨n, hl⟩ (prev (U7 m) c ⟨n, hl⟩)) (bin_in H ⟨n, hl⟩ _) (fun h v k => by
      rw [gd_ld, ih hl]
      have e2 : 128 - (4 * (tile ⟨n, hl⟩).val + 3 + 1) = 4 * n := by simp only [tile]; omega
      rw [e2]) (prev (U7 m) c ⟨n, hl⟩).gd h v k
    have e3 : 128 - 4 * (tile ⟨n, hl⟩).val = 4 * (n + 1) := by simp only [tile]; omega
    rw [e3] at e
    exact e

theorem gd_in (t : Fin cfg1.N) (h : Fin 4) (v : Fin 256) (k : Fin 128) :
    (loads (U7 m) c t (prev (U7 m) c t)).gd h (ix3 0 v k) = ((A.back (128 - (4 * (tile t).val + 3 + 1)) h v k : ℝ) : EReal) := by
  have hN : t.val < 32 := t.isLt
  have e2 : 128 - (4 * (tile t).val + 3 + 1) = 4 * t.val := by simp only [tile]; omega
  rw [gd_ld, e2]
  exact back_before H t.val t.isLt h v k

/-- The queries. -/
theorem dz_q (i : Fin 8192) (h : Fin 4) (k : Fin 128) :
    (left (U7 m) c (pt i).val (pt i).isLt).dz (ix2 (pl i) ⟨3072 + (kc h k).val, by omega⟩) = ((A.dq i h k : ℝ) : EReal) := by
  have e := dzq_at (x := loads (U7 m) c (pt i) (prev (U7 m) c (pt i))) (bin_in H (pt i) _) (pl i) h k
  rw [row_pt] at e
  rw [left_eq]
  exact e

/-- The keys. -/
theorem dz_k (i : Fin 8192) (d : Fin 512) :
    (left (U7 m) c (pt i).val (pt i).isLt).dz (ix2 (pl i) ⟨3584 + d.val, by omega⟩) = ((A.dk i (kh d) (kl d) : ℝ) : EReal) := by
  have e := dzk_at (x := loads (U7 m) c (pt i) (prev (U7 m) c (pt i))) (bin_in H (pt i) _) (gd_in H (pt i)) (pl i) d
  rw [row_pt] at e
  rw [left_eq]
  exact e

/-- The values. -/
theorem dz_v (i : Fin 8192) (h : Fin 4) (v : Fin 256) :
    (left (U7 m) c (pt i).val (pt i).isLt).dz (ix2 (pl i) ⟨4096 + (vcol h v).val, by omega⟩) = ((A.dv i h v : ℝ) : EReal) := by
  have e := dzv_at (x := loads (U7 m) c (pt i) (prev (U7 m) c (pt i))) (bin_in H (pt i) _) (gd_in H (pt i)) (pl i) h v
  rw [row_pt] at e
  rw [left_eq]
  exact e

/-- The output gate. -/
theorem dz_o (i : Fin 8192) (h : Fin 4) (v : Fin 256) :
    (left (U7 m) c (pt i).val (pt i).isLt).dz (ix2 (pl i) ⟨5120 + (vcol h v).val, by omega⟩) = ((A.dog i h v : ℝ) : EReal) := by
  have e := dzo_at (x := loads (U7 m) c (pt i) (prev (U7 m) c (pt i))) (bin_in H (pt i) _) (pl i) h v
  rw [row_pt] at e
  rw [left_eq]
  exact e

/-- The gate's input. -/
theorem dal_at (i : Fin 8192) (k : Fin 128) :
    (left (U7 m) c (pt i).val (pt i).isLt).dzal (ix2 (pl i) k) = ((A.dal i k : ℝ) : EReal) := by
  have e := dzal_at (x := loads (U7 m) c (pt i) (prev (U7 m) c (pt i))) (bin_in H (pt i) _) (gd_in H (pt i)) (pl i) k
  rw [row_pt] at e
  rw [left_eq]
  exact e

theorem dgg_step (t : Fin cfg1.N) (v : Fin 256) :
    (left (U7 m) c t.val t.isLt).dgg (ix2 0 v) = (prev (U7 m) c t).dgg (ix2 0 v) + ((∑ r, ∑ h, ggT A (row (tile t) r) h v : ℝ) : EReal) := by
  rw [left_eq]
  exact (dgg_at (x := loads (U7 m) c t (prev (U7 m) c t)) (bin_in H t _) _ v).trans (congrArg (fun w => w + _) (agg_ld t _ v))

/-- The norm's gain. -/
theorem dgg_all (v : Fin 256) : (left (U7 m) c tLast.val tLast.isLt).dgg (ix2 0 v) = ((A.dgg v : ℝ) : EReal) := by
  have e := Pipeline.eq_sum_fin_of_reset_step_apply_last (fun n h => fun _ : Unit => (left (U7 m) c n h).dgg (ix2 0 v)) 32 (fun _ => 0)
    (fun t _ => ((∑ r, ∑ h, ggT A (row (tile t) r) h v : ℝ) : EReal))
    (fun t h _ => by
      have h0 : t.val = 0 := by have : t.val < 32 := t.isLt; omega
      refine (dgg_step H t v).trans (congrArg (fun x => x + _) ?_)
      rw [prev_first _ _ _ h0]
      show k1_pay7 (F := Ideal) (ix2 0 v) = 0
      pointwise [k1_pay7]
      try simp [Ideal.ofBits, Ideal.ieee])
    (fun t h _ => by
      have h0 : t.val ≠ 0 := fun e => h (by rw [e])
      refine (dgg_step H t v).trans (congrArg (fun x => x + _) ?_)
      rw [prev_later _ _ _ h0])
    (le_of_eq N_1) tLast rfl ()
  refine e.trans ?_
  rw [zero_add, coe_sum]
  exact congrArg _ (MixConvBwd.sum_tiles fun i => ∑ h, ggT A i h v)

theorem dbg_step (t : Fin cfg1.N) (d : Fin 512) :
    (left (U7 m) c t.val t.isLt).dbg (ix2 0 d) = (prev (U7 m) c t).dbg (ix2 0 d) + ((∑ r, A.dpre (row (tile t) r) d : ℝ) : EReal) := by
  rw [left_eq]
  exact (dbg_at (x := loads (U7 m) c t (prev (U7 m) c t)) (bin_in H t _) (gd_in H t) _ d).trans (congrArg (fun w => w + _) (abg_ld t _ d))

/-- The gate's bias. -/
theorem dbg_all (d : Fin 512) : (left (U7 m) c tLast.val tLast.isLt).dbg (ix2 0 d) = ((A.dbg d : ℝ) : EReal) := by
  have e := Pipeline.eq_sum_fin_of_reset_step_apply_last (fun n h => fun _ : Unit => (left (U7 m) c n h).dbg (ix2 0 d)) 32 (fun _ => 0)
    (fun t _ => ((∑ r, A.dpre (row (tile t) r) d : ℝ) : EReal))
    (fun t h _ => by
      have h0 : t.val = 0 := by have : t.val < 32 := t.isLt; omega
      refine (dbg_step H t d).trans (congrArg (fun x => x + _) ?_)
      rw [prev_first _ _ _ h0]
      show k1_pay8 (F := Ideal) (ix2 0 d) = 0
      pointwise [k1_pay8]
      try simp [Ideal.ofBits, Ideal.ieee])
    (fun t h _ => by
      have h0 : t.val ≠ 0 := fun e => h (by rw [e])
      refine (dbg_step H t d).trans (congrArg (fun x => x + _) ?_)
      rw [prev_later _ _ _ h0])
    (le_of_eq N_1) tLast rfl ()
  refine e.trans ?_
  rw [zero_add, coe_sum]
  exact congrArg _ (MixConvBwd.sum_tiles fun i => A.dpre i d)

theorem dwgu_step (t : Fin cfg1.N) (k : Fin 128) (d : Fin 512) :
    (left (U7 m) c t.val t.isLt).dwgu (ix2 k d) = (prev (U7 m) c t).dwgu (ix2 k d) + ((∑ r, A.al (row (tile t) r) k * A.dpre (row (tile t) r) d : ℝ) : EReal) := by
  rw [left_eq]
  exact (dwgu_at (x := loads (U7 m) c t (prev (U7 m) c t)) (bin_in H t _) (gd_in H t) _ k d).trans (congrArg (fun w => w + _) (awgu_ld t _ k d))

/-- The gate's weight. -/
theorem dwgu_all (k : Fin 128) (d : Fin 512) : (left (U7 m) c tLast.val tLast.isLt).dwgu (ix2 k d) = ((A.dwgu k d : ℝ) : EReal) := by
  have e := Pipeline.eq_sum_fin_of_reset_step_apply_last (fun n h => fun _ : Unit => (left (U7 m) c n h).dwgu (ix2 k d)) 32 (fun _ => 0)
    (fun t _ => ((∑ r, A.al (row (tile t) r) k * A.dpre (row (tile t) r) d : ℝ) : EReal))
    (fun t h _ => by
      have h0 : t.val = 0 := by have : t.val < 32 := t.isLt; omega
      refine (dwgu_step H t k d).trans (congrArg (fun x => x + _) ?_)
      rw [prev_first _ _ _ h0]
      show k1_pay9 (F := Ideal) (ix2 k d) = 0
      pointwise [k1_pay9]
      try simp [Ideal.ofBits, Ideal.ieee])
    (fun t h _ => by
      have h0 : t.val ≠ 0 := fun e => h (by rw [e])
      refine (dwgu_step H t k d).trans (congrArg (fun x => x + _) ?_)
      rw [prev_later _ _ _ h0])
    (le_of_eq N_1) tLast rfl ()
  refine e.trans ?_
  rw [zero_add, coe_sum]
  exact congrArg _ (MixConvBwd.sum_tiles fun i => A.al i k * A.dpre i d)

end Cert.MixGlaBwd

end
-- ==== Proof.MixCum.lean ====
/- The host's running sums along one axis, forward and backward, as sums over the entries up to or from an entry. -/
module

public import proofs.«01_k».proof.Proof.MixRefConv

@[expose] public section

set_option maxRecDepth 16384

noncomputable section

namespace Cert.MixCum

open Idealize.ShloMosaic
open scoped BigOperators

theorem fold_sum {M : ℕ} (f : Fin M → EReal) : (List.finRange M).foldl (fun r n => r + f n) 0 = ∑ n, f n := by
  rw [Fin.sum_univ_def, List.sum_eq_foldl, List.foldl_map]

/-- The entries a window padded below reaches are those up to its place. -/
theorem upto {N : ℕ} (a : Fin N) (y : Fin N → EReal) (g : Fin N → EReal)
    (hg : ∀ w : Fin N, g w = if h : N - 1 ≤ a.val + w.val ∧ a.val + w.val - (N - 1) < N then y ⟨a.val + w.val - (N - 1), h.2⟩ else 0) :
    ∑ w, g w = ∑ b : Fin N, if b.val ≤ a.val then y b else 0 := by
  have ha := a.isLt
  rw [← Finset.sum_filter, Finset.sum_congr rfl fun w _ => hg w, Finset.sum_dite, Finset.sum_const_zero, add_zero]
  refine Finset.sum_bij' (fun w _ => (⟨a.val + w.1.val - (N - 1), (Finset.mem_filter.1 w.2).2.2⟩ : Fin N))
    (fun b hb => ⟨⟨b.val + (N - 1) - a.val, by have := b.isLt; have := (Finset.mem_filter.1 hb).2; omega⟩, by
      rw [Finset.mem_filter]; have := b.isLt; exact ⟨Finset.mem_univ _, by simp only; omega⟩⟩) ?_ ?_ ?_ ?_ ?_
  · intro w _
    have := (Finset.mem_filter.1 w.2).2
    have := w.1.isLt
    rw [Finset.mem_filter]
    exact ⟨Finset.mem_univ _, by simp only; omega⟩
  · intro b _; exact Finset.mem_attach _ _
  · intro w _
    have := (Finset.mem_filter.1 w.2).2
    apply Subtype.ext; apply Fin.ext; simp only; omega
  · intro b hb
    have := (Finset.mem_filter.1 hb).2
    apply Fin.ext; simp only; omega
  · intro w _; rfl

/-- The entries a window padded above reaches are those from its place. -/
theorem from_on {N : ℕ} (a : Fin N) (y : Fin N → EReal) (g : Fin N → EReal)
    (hg : ∀ w : Fin N, g w = if h : a.val + w.val < N then y ⟨a.val + w.val, h⟩ else 0) :
    ∑ w, g w = ∑ b : Fin N, if a.val ≤ b.val then y b else 0 := by
  have ha := a.isLt
  rw [← Finset.sum_filter, Finset.sum_congr rfl fun w _ => hg w, Finset.sum_dite, Finset.sum_const_zero, add_zero]
  refine Finset.sum_bij' (fun w _ => (⟨a.val + w.1.val, (Finset.mem_filter.1 w.2).2⟩ : Fin N))
    (fun b hb => ⟨⟨b.val - a.val, by have := b.isLt; omega⟩, by
      rw [Finset.mem_filter]; have := b.isLt; have := (Finset.mem_filter.1 hb).2; exact ⟨Finset.mem_univ _, by simp only; omega⟩⟩) ?_ ?_ ?_ ?_ ?_
  · intro w _
    rw [Finset.mem_filter]
    exact ⟨Finset.mem_univ _, by simp only; omega⟩
  · intro b _; exact Finset.mem_attach _ _
  · intro w _
    apply Subtype.ext; apply Fin.ext; simp only; omega
  · intro b hb
    have := (Finset.mem_filter.1 hb).2
    apply Fin.ext; simp only; omega
  · intro w _; rfl

abbrev C4 : Shape := ⟨4, ![128, 64, 4, 128]⟩
abbrev C3 : Shape := ⟨3, ![128, 4, 128]⟩

/-- A window sum is the sum over the window. -/
theorem window {s t u : Shape} (window strides lo hi : Fin s.rank → ℕ) (x : FVec Ideal s .f32) (init : FVec Ideal u .f32) (h : s.ReduceWindows window strides lo hi t)
    (hu : 0 < u.numel) (h0 : init (Shape.Idx.first hu) = 0) (j : t.Idx) :
    Host.reduceWindowAdd window strides lo hi x init h hu j = ∑ w : (⟨s.rank, window⟩ : Shape).Idx,
      (if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else 0) := by
  refine ((Equiv.sum_comp (⟨s.rank, window⟩ : Shape).rowMajor.symm _).symm.trans ?_).symm
  change _ = Ideal.hostReduceWindowAdd window strides lo hi h x (init (Shape.Idx.first hu)) j
  rw [h0, Ideal.hostReduceWindowAdd, Host.reduceWindow]
  refine (fold_sum fun n => if hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
    then x (fun a => ⟨(j (a.cast h.1.symm)).val * strides a + ((⟨s.rank, window⟩ : Shape).rowMajor.symm n a).val - lo a, (hin a).2⟩) else 0).symm.trans ?_
  refine congrArg (fun F => List.foldl F 0 (List.finRange _)) (funext fun r => funext fun n => ?_)
  refine congrArg (r + ·) ?_
  split
  · rfl
  · rfl

variable (x : FVec Ideal C4 .f32) (x' : FVec Ideal C3 .f32) (init : FVec Ideal ⟨0, ![]⟩ .f32) (hu : 0 < (⟨0, ![]⟩ : Shape).numel) (h0 : init (Shape.Idx.first hu) = 0)
  (n : Fin 128) (a : Fin 64) (e : Fin 4) (k : Fin 128)
include h0

theorem rows_upto (h : C4.ReduceWindows ![1, 64, 1, 1] ![1, 1, 1, 1] ![0, 63, 0, 0] ![0, 0, 0, 0] C4) :
    Host.reduceWindowAdd ![1, 64, 1, 1] ![1, 1, 1, 1] ![0, 63, 0, 0] ![0, 0, 0, 0] x init h hu (ix4 n a e k)
      = ∑ b : Fin 64, if b.val ≤ a.val then x (ix4 n b e k) else 0 := by
  rw [window _ _ _ _ x init h hu h0]
  refine (sum_idx4 _).trans ((Fintype.sum_unique _).trans ?_)
  refine upto a (fun b => x (ix4 n b e k)) _ fun w => ?_
  refine (Fintype.sum_unique _).trans ((Fintype.sum_unique _).trans ?_)
  have hn := n.isLt
  have he := e.isLt
  have hk := k.isLt
  split
  · next hin =>
    have h1 : 63 ≤ a.val * 1 + w.val ∧ a.val * 1 + w.val - 63 < 64 := hin 1
    rw [dif_pos ⟨by omega, by omega⟩]
    refine congrArg x (funext fun b => Fin.ext ?_)
    match b with
    | ⟨0, _⟩ => show n.val * 1 + 0 - 0 = n.val; omega
    | ⟨1, _⟩ => show a.val * 1 + w.val - 63 = a.val + w.val - 63; omega
    | ⟨2, _⟩ => show e.val * 1 + 0 - 0 = e.val; omega
    | ⟨3, _⟩ => show k.val * 1 + 0 - 0 = k.val; omega
  · next hin =>
    rw [dif_neg fun hle => hin fun b => by
      match b with
      | ⟨0, _⟩ => show 0 ≤ n.val * 1 + 0 ∧ n.val * 1 + 0 - 0 < 128; omega
      | ⟨1, _⟩ => show 63 ≤ a.val * 1 + w.val ∧ a.val * 1 + w.val - 63 < 64; omega
      | ⟨2, _⟩ => show 0 ≤ e.val * 1 + 0 ∧ e.val * 1 + 0 - 0 < 4; omega
      | ⟨3, _⟩ => show 0 ≤ k.val * 1 + 0 ∧ k.val * 1 + 0 - 0 < 128; omega]

theorem rows_from (h : C4.ReduceWindows ![1, 64, 1, 1] ![1, 1, 1, 1] ![0, 0, 0, 0] ![0, 63, 0, 0] C4) :
    Host.reduceWindowAdd ![1, 64, 1, 1] ![1, 1, 1, 1] ![0, 0, 0, 0] ![0, 63, 0, 0] x init h hu (ix4 n a e k)
      = ∑ b : Fin 64, if a.val ≤ b.val then x (ix4 n b e k) else 0 := by
  rw [window _ _ _ _ x init h hu h0]
  refine (sum_idx4 _).trans ((Fintype.sum_unique _).trans ?_)
  refine from_on a (fun b => x (ix4 n b e k)) _ fun w => ?_
  refine (Fintype.sum_unique _).trans ((Fintype.sum_unique _).trans ?_)
  have hn := n.isLt
  have he := e.isLt
  have hk := k.isLt
  split
  · next hin =>
    have h1 : 0 ≤ a.val * 1 + w.val ∧ a.val * 1 + w.val - 0 < 64 := hin 1
    rw [dif_pos (by omega)]
    refine congrArg x (funext fun b => Fin.ext ?_)
    match b with
    | ⟨0, _⟩ => show n.val * 1 + 0 - 0 = n.val; omega
    | ⟨1, _⟩ => show a.val * 1 + w.val - 0 = a.val + w.val; omega
    | ⟨2, _⟩ => show e.val * 1 + 0 - 0 = e.val; omega
    | ⟨3, _⟩ => show k.val * 1 + 0 - 0 = k.val; omega
  · next hin =>
    rw [dif_neg fun hle => hin fun b => by
      match b with
      | ⟨0, _⟩ => show 0 ≤ n.val * 1 + 0 ∧ n.val * 1 + 0 - 0 < 128; omega
      | ⟨1, _⟩ => show 0 ≤ a.val * 1 + w.val ∧ a.val * 1 + w.val - 0 < 64; omega
      | ⟨2, _⟩ => show 0 ≤ e.val * 1 + 0 ∧ e.val * 1 + 0 - 0 < 4; omega
      | ⟨3, _⟩ => show 0 ≤ k.val * 1 + 0 ∧ k.val * 1 + 0 - 0 < 128; omega]

theorem chunks_upto (h : C3.ReduceWindows ![128, 1, 1] ![1, 1, 1] ![127, 0, 0] ![0, 0, 0] C3) :
    Host.reduceWindowAdd ![128, 1, 1] ![1, 1, 1] ![127, 0, 0] ![0, 0, 0] x' init h hu (ix3 n e k)
      = ∑ m : Fin 128, if m.val ≤ n.val then x' (ix3 m e k) else 0 := by
  rw [window _ _ _ _ x' init h hu h0]
  refine (sum_idx3 _).trans ?_
  refine upto n (fun m => x' (ix3 m e k)) _ fun w => ?_
  refine (Fintype.sum_unique _).trans ((Fintype.sum_unique _).trans ?_)
  have hn := n.isLt
  have he := e.isLt
  have hk := k.isLt
  split
  · next hin =>
    have h1 : 127 ≤ n.val * 1 + w.val ∧ n.val * 1 + w.val - 127 < 128 := hin 0
    rw [dif_pos ⟨by omega, by omega⟩]
    refine congrArg x' (funext fun b => Fin.ext ?_)
    match b with
    | ⟨0, _⟩ => show n.val * 1 + w.val - 127 = n.val + w.val - 127; omega
    | ⟨1, _⟩ => show e.val * 1 + 0 - 0 = e.val; omega
    | ⟨2, _⟩ => show k.val * 1 + 0 - 0 = k.val; omega
  · next hin =>
    rw [dif_neg fun hle => hin fun b => by
      match b with
      | ⟨0, _⟩ => show 127 ≤ n.val * 1 + w.val ∧ n.val * 1 + w.val - 127 < 128; omega
      | ⟨1, _⟩ => show 0 ≤ e.val * 1 + 0 ∧ e.val * 1 + 0 - 0 < 4; omega
      | ⟨2, _⟩ => show 0 ≤ k.val * 1 + 0 ∧ k.val * 1 + 0 - 0 < 128; omega]

theorem chunks_from (h : C3.ReduceWindows ![128, 1, 1] ![1, 1, 1] ![0, 0, 0] ![127, 0, 0] C3) :
    Host.reduceWindowAdd ![128, 1, 1] ![1, 1, 1] ![0, 0, 0] ![127, 0, 0] x' init h hu (ix3 n e k)
      = ∑ m : Fin 128, if n.val ≤ m.val then x' (ix3 m e k) else 0 := by
  rw [window _ _ _ _ x' init h hu h0]
  refine (sum_idx3 _).trans ?_
  refine from_on n (fun m => x' (ix3 m e k)) _ fun w => ?_
  refine (Fintype.sum_unique _).trans ((Fintype.sum_unique _).trans ?_)
  have hn := n.isLt
  have he := e.isLt
  have hk := k.isLt
  split
  · next hin =>
    have h1 : 0 ≤ n.val * 1 + w.val ∧ n.val * 1 + w.val - 0 < 128 := hin 0
    rw [dif_pos (by omega)]
    refine congrArg x' (funext fun b => Fin.ext ?_)
    match b with
    | ⟨0, _⟩ => show n.val * 1 + w.val - 0 = n.val + w.val; omega
    | ⟨1, _⟩ => show e.val * 1 + 0 - 0 = e.val; omega
    | ⟨2, _⟩ => show k.val * 1 + 0 - 0 = k.val; omega
  · next hin =>
    rw [dif_neg fun hle => hin fun b => by
      match b with
      | ⟨0, _⟩ => show 0 ≤ n.val * 1 + w.val ∧ n.val * 1 + w.val - 0 < 128; omega
      | ⟨1, _⟩ => show 0 ≤ e.val * 1 + 0 ∧ e.val * 1 + 0 - 0 < 4; omega
      | ⟨2, _⟩ => show 0 ≤ k.val * 1 + 0 ∧ k.val * 1 + 0 - 0 < 128; omega]

end Cert.MixCum

end
-- ==== Proof.MixRefGla.lean ====
/- The reference's attention, read as the real numbers of `MixGla`. -/
module

public import proofs.«01_k».proof.Proof.MixCum
public import proofs.«01_k».proof.Proof.MixGlaSum

@[expose] public section

set_option maxRecDepth 16384

noncomputable section

namespace Cert.MixGla

open Idealize.ShloMosaic Cert.Reals Cert.NormRow Cert.MixSpec
open scoped BigOperators

theorem ite_coe (p : Prop) [Decidable p] (x : ℝ) : (if p then ((x : ℝ) : EReal) else 0) = ((if p then x else 0 : ℝ) : EReal) := by
  split <;> simp

/-- The logistic function's logarithm, as minus a softplus. -/
theorem lsg_soft (p : ℝ) : -(if -(p : EReal) ≠ -(p : EReal) then -(p : EReal) else max (-(p : EReal)) 0 + Ideal.log1p (Ideal.exp (-FloatOps.absf (F := Ideal) (φ := .f32) (-(p : EReal)))))
    = ((lsg p : ℝ) : EReal) := by
  rw [if_neg (by simp)]
  change -(max (-(p : EReal)) ((0 : ℝ) : EReal) + Ideal.log1p (Ideal.exp (-max (-(p : EReal)) (- -(p : EReal))))) = _
  unfold Ideal.log1p
  rw [← EReal.coe_neg, ← EReal.coe_neg, coe_max, coe_max, ← EReal.coe_neg, Ideal.exp_coe, ← EReal.coe_one, ← EReal.coe_add, Ideal.log_coe,
    if_neg (by have := Real.exp_pos (-max (-p) (- -p)); linarith), ← EReal.coe_add, ← EReal.coe_neg, ← lsg_eq p]
  refine congrArg _ ?_
  rw [neg_neg, max_comm (-p) p, zero_sub]
  rcases le_total 0 p with h | h
  · rw [min_eq_right h, max_eq_right (by linarith)]; ring
  · rw [min_eq_left h, max_eq_left (by linarith)]; ring

theorem lit_bot : Ideal.ofBits .f32 0xFF800000#32 = (⊥ : EReal) := by
  simp [Ideal.ofBits, Ideal.ieee]
theorem lit_16 : Ideal.ofBits .f32 1098907648#32 = ((16 : ℝ) : EReal) := by
  simp [Ideal.ofBits, Ideal.ieee, -EReal.coe_mul]; norm_num

theorem sge_sel (n m : Fin 128) (x y : EReal) :
    Scalar.select (IntOp.cmpi CmpIPredicate.sge (BitVec.ofNat 32 n.val) (BitVec.ofNat 32 m.val)) x y = if m.val ≤ n.val then x else y := by
  have e : IntOp.cmpi CmpIPredicate.sge (BitVec.ofNat 32 n.val) (BitVec.ofNat 32 m.val) = if m.val ≤ n.val then 1#1 else 0#1 := by
    revert n m; decide +kernel
  rw [e]
  split <;> rfl

end Cert.MixGla

namespace Cert.MixRef

open Idealize.ShloMosaic Cert.MixTile Cert.Reals Cert.NormRow Cert.MixSpec Cert.MixGla Cert.MixerRefIdeal Cert.MixerRefIdeal.Read
open scoped BigOperators

variable {A : Args} {x0 : FVec Ideal S8192x6160 .f32} {x1 : FVec Ideal S16x512 .f32} {x2 : FVec Ideal S1x512 .f32} {x3 : FVec Ideal S1024x3 .f32}
  {x4 : FVec Ideal S1x1024 .f32} {x5 : FVec Ideal S1x256 .f32} {x6 : FVec Ideal S8192x2048 .f32}
variable (H : In A x0 x1 x2 x3 x4 x5 x6)
include H

theorem pre_at (i : Fin 8192) (d : Fin 512) : val_main_v58 (F := Ideal) x0 x1 x2 (ix2 i d) = ((A.pre i d : ℝ) : EReal) := by
  pointwise [val_main_v58, val_main_v57, val_main_v56, val_main_v55, val_main_v54, val_main_v7]
  simp only [H.z, H.wgu, H.bg, ← EReal.coe_mul, coe_sum, ← EReal.coe_add]
  refine congrArg _ (congrArg (· + _) ?_)
  have e : ∀ k : Fin 128, A.al i k * A.wg k d = if h : k.val < 16 then A.z i ⟨6144 + k.val, by omega⟩ * A.wgu ⟨k.val, h⟩ d else 0 := fun k => by
    unfold Args.al Args.wg
    by_cases h : k.val < 16
    · simp [h]
    · simp [h]
  rw [Finset.sum_congr rfl fun k _ => e k, Fin.sum_univ_add (a := 16) (b := 112) (f := fun k : Fin (16 + 112) => if h : k.val < 16 then A.z i ⟨6144 + k.val, by omega⟩ * A.wgu ⟨k.val, h⟩ d else 0)]
  simp

theorem lsg_at (i : Fin 8192) (d : Fin 512) : val_main_v61 (F := Ideal) x0 x1 x2 (ix2 i d) = ((A.la i d : ℝ) : EReal) := by
  pointwise [val_main_v61, val_main_v60, val_main_cst_6, val_main_v59_0, val_main_call0_v1_0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_v0, val_main_call0_call0_cst]
  rw [pre_at H, lit_16, lsg_soft, div_real _ (by norm_num)]
  refine congrArg _ ?_
  unfold Args.la; ring

theorem la_at (n : Fin 128) (a : Fin 64) (h : Fin 4) (k : Fin 128) : val_main_v67 (F := Ideal) x0 x1 x2 (ix4 n a h k) = ((A.la (cr n.val a) (kc h k) : ℝ) : EReal) := by
  pointwise [val_main_v67]
  refine (lsg_at H _ _).trans ?_
  refine congrArg _ (congrArg₂ A.la (Fin.ext ?_) (Fin.ext ?_))
  · simp only [cr]; omega
  · simp only [kc]; omega

theorem cum_at (n : Fin 128) (a : Fin 64) (h : Fin 4) (k : Fin 128) : val_main_v68 (F := Ideal) x0 x1 x2 (ix4 n a h k) = ((A.cum n.val a (kc h k) : ℝ) : EReal) := by
  unfold val_main_v68
  refine (MixCum.rows_upto _ _ _ (by pointwise [val_main_call1_call0_v0, val_main_call1_call0_cst]) n a h k _).trans ?_
  simp only [la_at H, ite_coe, coe_sum]
  rfl

theorem zk_at (n : Fin 128) (a : Fin 64) (h : Fin 4) (k : Fin 128) : val_main_v65 (F := Ideal) x0 (ix4 n a h k) = ((A.zk (cr n.val a) (kc h k) : ℝ) : EReal) := by
  pointwise [val_main_v65, val_main_v4]
  refine (H.z _ _).trans (congrArg _ ?_)
  unfold Args.zk
  exact congrArg₂ A.z (Fin.ext (by simp only [cr]; omega)) (Fin.ext (by simp only [kc]; omega))

theorem zv_at (n : Fin 128) (a : Fin 64) (h : Fin 4) (v : Fin 256) : val_main_v66 (F := Ideal) x0 (ix4 n a h v) = ((A.zv (cr n.val a) (vcol h v) : ℝ) : EReal) := by
  pointwise [val_main_v66, val_main_v5]
  refine (H.z _ _).trans (congrArg _ ?_)
  unfold Args.zv
  exact congrArg₂ A.z (Fin.ext (by simp only [cr]; omega)) (Fin.ext (by simp only [vcol]; omega))

theorem qs_at (n : Fin 128) (a : Fin 64) (h : Fin 4) (k : Fin 128) : val_main_v64 (F := Ideal) x0 (ix4 n a h k) = ((A.qs (cr n.val a) (kc h k) : ℝ) : EReal) := by
  pointwise [val_main_v64, val_main_v63, val_main_v62, val_main_cst_7, val_main_v3]
  rw [H.z, lit_sc, ← EReal.coe_mul]
  refine congrArg _ (congrArg (· * sc) ?_)
  unfold Args.zq
  exact congrArg₂ A.z (Fin.ext (by simp only [cr]; omega)) (Fin.ext (by simp only [kc]; omega))

theorem eer_at (n : Fin 128) (a : Fin 64) (h : Fin 4) (k : Fin 128) : val_main_v72 (F := Ideal) x0 x1 x2 (ix4 n a h k) = ((Real.exp (A.er (cr n.val a) (kc h k)) : ℝ) : EReal) := by
  pointwise [val_main_v72, val_main_v71, val_main_v70, val_main_v69]
  rw [cum_at H, cum_at H, ← EReal.coe_sub, cum_er A n.val n.isLt, Ideal.exp_coe]

theorem ke_at (n : Fin 128) (a : Fin 64) (h : Fin 4) (k : Fin 128) : val_main_v73 (F := Ideal) x0 x1 x2 (ix4 n a h k) = ((A.ke (cr n.val a) (kc h k) : ℝ) : EReal) := by
  pointwise [val_main_v73]
  rw [zk_at H, eer_at H, ← EReal.coe_mul]
  rfl

theorem kv_at (n : Fin 128) (h : Fin 4) (k : Fin 128) (v : Fin 256) : val_main_v74 (F := Ideal) x0 x1 x2 (ix4 n h k v) = ((A.kv n.val h v k : ℝ) : EReal) := by
  pointwise [val_main_v74]
  simp only [ke_at H, zv_at H, ← EReal.coe_mul, coe_sum]
  unfold Args.kv
  exact congrArg _ (Finset.sum_congr rfl fun a _ => mul_comm _ _)

theorem tt_at (n : Fin 128) (h : Fin 4) (k : Fin 128) : val_main_v76 (F := Ideal) x0 x1 x2 (ix3 n h k) = ((A.tt n.val (kc h k) : ℝ) : EReal) := by
  unfold val_main_v76
  refine (MixCum.chunks_upto _ _ _ (by pointwise [val_main_call2_call0_v0, val_main_call2_call0_cst]) n h k _).trans ?_
  have e : ∀ m : Fin 128, val_main_v75 (F := Ideal) x0 x1 x2 (ix3 m h k) = ((A.tot m.val (kc h k) : ℝ) : EReal) := fun m => by
    pointwise [val_main_v75, val_main_v69]
    rw [← cum_last]
    exact cum_at H m 63 h k
  simp only [e, ite_coe, coe_sum, tt_fin]

theorem dcy_at (n m : Fin 128) (h : Fin 4) (k : Fin 128) : val_main_v91 (F := Ideal) x0 x1 x2 (ix4 n m h k)
    = ((if m.val ≤ n.val then Real.exp (A.tt n.val (kc h k) - A.tt m.val (kc h k)) else 0 : ℝ) : EReal) := by
  pointwise [val_main_v91, val_main_v90_0, val_main_v90_1, val_main_v89, val_main_v88, val_main_v87, val_main_v86, val_main_v85, val_main_v84, val_main_v83, val_main_v82, val_main_v81, val_main_v80, val_main_v79, val_main_v78, val_main_v77, val_main_call3_v0, val_main_call3_v2, val_main_cst_8]
  rw [sge_sel, tt_at H, tt_at H, ← EReal.coe_sub]
  by_cases e : m.val ≤ n.val
  · rw [if_pos e, if_pos e]
    exact Ideal.exp_coe _
  · rw [if_neg e, if_neg e]
    change Ideal.exp (Ideal.ofBits .f32 0xFF800000#32) = _
    rw [lit_bot, Ideal.exp_bot, EReal.coe_zero]

theorem st_at (n : Fin 128) (h : Fin 4) (k : Fin 128) (v : Fin 256) : val_main_v93 (F := Ideal) x0 x1 x2 (ix4 n h k v) = ((A.st (n.val + 1) h v k : ℝ) : EReal) := by
  pointwise [val_main_v93, val_main_v92]
  simp only [kv_at H, dcy_at H, ← EReal.coe_mul, coe_sum]
  rw [st_fin]

theorem o_at (i : Fin 8192) (h : Fin 4) (v : Fin 256) : val_main_v96 (F := Ideal) x0 x1 x2 (ix3 i h v) = ((A.o i h v : ℝ) : EReal) := by
  pointwise [val_main_v96, val_main_v95, val_main_v94]
  simp only [st_at H, qs_at H, ← EReal.coe_mul, coe_sum]
  unfold Args.o
  refine congrArg _ (Finset.sum_congr rfl fun k _ => ?_)
  rw [mul_comm]
  refine congrArg (· * _) (congrArg₂ A.qs ?_ rfl)
  refine Eq.trans ?_ (cr_self i)
  exact congrArg₂ cr rfl (Fin.ext (by first | rfl | (simp only; omega)))

theorem oms_at (i : Fin 8192) (h : Fin 4) (t : Fin 1) : val_main_v103 (F := Ideal) x0 x1 x2 (ix3 i h t) = ((ms 256 (A.o i h) : ℝ) : EReal) := by
  pointwise [val_main_v103, val_main_v102, val_main_v101, val_main_v100, val_main_v99, val_main_v98, val_main_v97, val_main_cst_9, val_main_cst_10, val_main_cst_11]
  simp only [o_at H, lit_256, lit_eps]
  exact ms_ideal _ (by norm_num)

theorem ors_at (i : Fin 8192) (h : Fin 4) (t : Fin 1) : val_main_v104 (F := Ideal) x0 x1 x2 (ix3 i h t) = ((rs 256 (A.o i h) : ℝ) : EReal) := by
  pointwise [val_main_v104]
  rw [oms_at H, rsqrt_pos (ms_pos _ (by norm_num)), rs]

theorem zo_at (i : Fin 8192) (h : Fin 4) (v : Fin 256) : val_main_v114 (F := Ideal) x0 (ix3 i h v) = ((A.zo i (vcol h v) : ℝ) : EReal) := by
  pointwise [val_main_v114, val_main_v6]
  refine (H.z _ _).trans (congrArg _ ?_)
  unfold Args.zo
  exact congrArg₂ A.z rfl (Fin.ext (by simp only [vcol]; omega))

theorem sig_at (i : Fin 8192) (h : Fin 4) (v : Fin 256) : val_main_v115_2 (F := Ideal) x0 (ix3 i h v) = ((sgm (A.zo i (vcol h v)) : ℝ) : EReal) := by
  pointwise [val_main_v115_2, val_main_call4_v4, val_main_call4_v3, val_main_call4_v2, val_main_call4_v1, val_main_call4_v0, val_main_call4_cst, val_main_call4_cst_0]
  rw [zo_at H, ← EReal.coe_neg, Ideal.exp_coe, ← EReal.coe_one, ← EReal.coe_add, div_real _ (by have := Real.exp_pos (-A.zo i (vcol h v)); linarith)]
  refine congrArg _ ?_
  unfold sgm; rw [one_div]

theorem gate_at (i : Fin 8192) (h : Fin 4) (v : Fin 256) : val_main_v115_0 (F := Ideal) x0 (ix3 i h v) = ((A.ogate i h v : ℝ) : EReal) := by
  pointwise [val_main_v115_0]
  rw [zo_at H, sig_at H, ← EReal.coe_mul]
  rfl

theorem y_at (i : Fin 8192) (h : Fin 4) (v : Fin 256) : val_main_v117 (F := Ideal) x0 x1 x2 x5 (ix2 i (vcol h v)) = ((A.ygla i h v : ℝ) : EReal) := by
  rw [show vcol h v = ⟨h.val * 256 + v.val, by have := (vcol h v).isLt; simp only [vcol] at this; omega⟩ from Fin.ext (by simp only [vcol]; omega)]
  pointwise [val_main_v117, val_main_v116, val_main_v113, val_main_v112, val_main_v111, val_main_v110, val_main_v109, val_main_v108]
  rw [o_at H, ors_at H, H.gg, gate_at H, ← EReal.coe_mul, ← EReal.coe_mul, ← EReal.coe_mul]
  rfl

end Cert.MixRef

end
-- ==== Proof.MixRefGlaBwd.lean ====
/- The gradients of the reference's attention, read as the real numbers of `MixGla`. -/
module

public import proofs.«01_k».proof.Proof.MixRefGla

@[expose] public section

set_option maxRecDepth 16384

noncomputable section

namespace Cert.MixGla

open Idealize.ShloMosaic Cert.Reals Cert.NormRow Cert.MixSpec
open scoped BigOperators

/-- A sum over the first two of three axes. -/
theorem red01 {a b c : ℕ} (h : (⟨3, ![a, b, c]⟩ : Shape).ReducesTo [0, 1] ⟨1, ![c]⟩) (x : (⟨3, ![a, b, c]⟩ : Shape).Idx → EReal) (v : Fin c) :
    Ideal.hostReduceAdd h x 0 (ix1 v) = ∑ i : Fin a, ∑ j : Fin b, x (ix3 i j v) := by
  unfold Ideal.hostReduceAdd
  rw [zero_add, Finset.sum_filter, sum_idx3]
  refine Finset.sum_congr rfl fun i _ => Finset.sum_congr rfl fun j _ => ?_
  have e : ∀ k : Fin c, h.drop (ix3 i j k) = ix1 v ↔ k = v := fun k => by
    have e1 : h.drop (ix3 i j k) = ix1 k := by
      funext d
      match d with
      | ⟨0, _⟩ => rfl
    rw [e1]
    exact ⟨fun q => congrFun q 0, fun q => by rw [q]⟩
  simp only [e, Finset.sum_ite_eq', Finset.mem_univ, if_true]

theorem lit_inf : Ideal.ofBits .f32 0x7F800000#32 = ⊤ := by
  simp [Ideal.ofBits, Ideal.ieee]

end Cert.MixGla

namespace Cert.MixRef

open Idealize.ShloMosaic Cert.MixTile Cert.Reals Cert.NormRow Cert.MixSpec Cert.MixGla Cert.MixerRefIdeal Cert.MixerRefIdeal.Read
open scoped BigOperators

variable {A : Args} {x0 : FVec Ideal S8192x6160 .f32} {x1 : FVec Ideal S16x512 .f32} {x2 : FVec Ideal S1x512 .f32} {x3 : FVec Ideal S1024x3 .f32}
  {x4 : FVec Ideal S1x1024 .f32} {x5 : FVec Ideal S1x256 .f32} {x6 : FVec Ideal S8192x2048 .f32}
variable (H : In A x0 x1 x2 x3 x4 x5 x6)
include H

theorem vcol_lit (h : Fin 4) (v : Fin 256) : vcol h v = ⟨h.val * 256 + v.val, by omega⟩ := Fin.ext (by simp only [vcol]; omega)
theorem kc_lit (h : Fin 4) (k : Fin 128) : kc h k = ⟨h.val * 128 + k.val, by omega⟩ := Fin.ext (by simp only [kc]; omega)

theorem dyg_at (i : Fin 8192) (h : Fin 4) (v : Fin 256) : val_main_v121 (F := Ideal) x6 (ix3 i h v) = ((A.dyg i (vcol h v) : ℝ) : EReal) := by
  pointwise [val_main_v121, val_main_v120]
  refine (H.dy _ _).trans (congrArg _ ?_)
  unfold Args.dyg
  exact congrArg₂ A.dy rfl (Fin.ext (by simp only [vcol]; omega))

theorem on_at (i : Fin 8192) (h : Fin 4) (v : Fin 256) : val_main_v109 (F := Ideal) x0 x1 x2 (ix3 i h v) = ((A.o i h v * rs 256 (A.o i h) : ℝ) : EReal) := by
  pointwise [val_main_v109, val_main_v108]
  rw [o_at H, ors_at H, ← EReal.coe_mul]

theorem don_at (i : Fin 8192) (h : Fin 4) (v : Fin 256) : val_main_v123 (F := Ideal) x0 x6 (ix3 i h v) = ((A.dyg i (vcol h v) * A.ogate i h v : ℝ) : EReal) := by
  pointwise [val_main_v123]
  rw [dyg_at H, gate_at H, ← EReal.coe_mul]

theorem dog_at (i : Fin 8192) (h : Fin 4) (v : Fin 256) : val_main_v125 (F := Ideal) x0 x1 x2 x5 x6 (ix2 i (vcol h v)) = ((A.dog i h v : ℝ) : EReal) := by
  rw [vcol_lit H]
  pointwise [val_main_v125, val_main_v124, val_main_call5_v2, val_main_call5_v1, val_main_call5_v0, val_main_v122, val_main_v113, val_main_v112, val_main_v111, val_main_v110,
    val_main_v115_1, val_main_call4_v7, val_main_call4_v6, val_main_call4_cst_1]
  rw [on_at H, H.gg, dyg_at H, zo_at H, sig_at H, ← EReal.coe_one]
  simp only [← EReal.coe_mul, ← EReal.coe_sub, ← EReal.coe_add]
  refine congrArg _ ?_
  unfold Args.dog; ring

theorem dgg_at (v : Fin 256) : val_main_v132 (F := Ideal) x0 x1 x2 x6 (ix2 0 v) = ((A.dgg v : ℝ) : EReal) := by
  pointwise [val_main_v132, val_main_v131, val_main_v128, val_main_v127, val_main_v126, val_main_cst_14, val_main_cst_13]
  refine (red01 _ _ v).trans ?_
  refine (Fintype.sum_unique _).trans ((Fintype.sum_unique _).trans ?_)
  pointwise
  refine (red01 _ _ v).trans ?_
  have e : ∀ (i : Fin 8192) (h : Fin 4), mulf (F := Ideal) (φ := .f32) (s := S8192x4x256) (val_main_v109 (F := Ideal) x0 x1 x2) (val_main_v123 (F := Ideal) x0 x6) (ix3 i h v)
      = ((A.dyg i (vcol h v) * A.ogate i h v * (A.o i h v * rs 256 (A.o i h)) : ℝ) : EReal) := fun i h => by
    change val_main_v109 (F := Ideal) x0 x1 x2 (ix3 i h v) * val_main_v123 (F := Ideal) x0 x6 (ix3 i h v) = _
    rw [on_at H, don_at H, ← EReal.coe_mul, mul_comm]
  simp only [e, coe_sum]
  rfl

theorem dO_at (i : Fin 8192) (h : Fin 4) (v : Fin 256) : val_main_v146 (F := Ideal) x0 x1 x2 x5 x6 (ix3 i h v) = ((A.dO i h v : ℝ) : EReal) := by
  pointwise [val_main_v146, val_main_v145, val_main_v144, val_main_v143, val_main_v142, val_main_v141, val_main_v140, val_main_v139, val_main_v138, val_main_v137, val_main_v136, val_main_v135, val_main_v134, val_main_v133, val_main_v130, val_main_v129, val_main_v111, val_main_v110, val_main_cst_15, val_main_cst_16, val_main_cst_17, val_main_v107, val_main_v106, val_main_v105, val_main_cst_12]
  simp only [ors_at H, oms_at H, o_at H, don_at H, H.gg, lit_256, lit_neg_half, div_real _ (ms_pos (L := 256) (A.o i h) (by norm_num)).ne', ← EReal.coe_mul, coe_sum,
    div_real _ (show (256 : ℝ) ≠ 0 by norm_num), Fin.sum_univ_one, ← EReal.coe_add]
  refine congrArg _ ((grad_eq (L := 256) (A.o i h) (fun v => A.dyg i (vcol h v) * A.ogate i h v) A.gg (by norm_num) v))

theorem dOc_at (n : Fin 128) (h : Fin 4) (v : Fin 256) (a : Fin 64) : val_main_v148 (F := Ideal) x0 x1 x2 x5 x6 (ix4 n h v a) = ((A.dO (cr n.val a) h v : ℝ) : EReal) := by
  pointwise [val_main_v148, val_main_v147]
  refine (dO_at H _ h v).trans (congrArg _ (congrArg (fun i => A.dO i h v) (Fin.ext ?_)))
  simp only [cr]; omega

theorem dq_at (i : Fin 8192) (h : Fin 4) (k : Fin 128) : val_main_v189 (F := Ideal) x0 x1 x2 x5 x6 (ix2 i (kc h k)) = ((A.dq i h k : ℝ) : EReal) := by
  rw [kc_lit H]
  pointwise [val_main_v189, val_main_v188, val_main_v187, val_main_v150, val_main_v149, val_main_cst_24]
  simp only [dOc_at H, st_at H, lit_sc, ← EReal.coe_mul, coe_sum]
  rw [cr_self]
  rfl

theorem own_at (n : Fin 128) (h : Fin 4) (k : Fin 128) (v : Fin 256) : val_main_v152 (F := Ideal) x0 x1 x2 x5 x6 (ix4 n h k v) = ((A.own n.val h v k : ℝ) : EReal) := by
  pointwise [val_main_v152, val_main_v151]
  simp only [dOc_at H, qs_at H, ← EReal.coe_mul, coe_sum]
  rfl

theorem G_at (n : Fin 128) (h : Fin 4) (k : Fin 128) (v : Fin 256) : val_main_v157 (F := Ideal) x0 x1 x2 x5 x6 (ix4 n h k v) = ((A.G n.val h v k : ℝ) : EReal) := by
  pointwise [val_main_v157, val_main_v156, val_main_v153]
  simp only [own_at H, dcy_at H, ← EReal.coe_mul, coe_sum]
  rw [G_fin]

theorem dv_at (i : Fin 8192) (h : Fin 4) (v : Fin 256) : val_main_v185 (F := Ideal) x0 x1 x2 x5 x6 (ix2 i (vcol h v)) = ((A.dv i h v : ℝ) : EReal) := by
  rw [vcol_lit H]
  pointwise [val_main_v185, val_main_v171, val_main_v170]
  simp only [G_at H, ke_at H, ← EReal.coe_mul, coe_sum]
  rw [cr_self]
  exact congrArg _ (Finset.sum_congr rfl fun k _ => mul_comm _ _)

theorem dke_at (n : Fin 128) (a : Fin 64) (h : Fin 4) (k : Fin 128) : val_main_v173 (F := Ideal) x0 x1 x2 x5 x6 (ix4 n a h k) = ((A.dke (cr n.val a) h k : ℝ) : EReal) := by
  pointwise [val_main_v173, val_main_v172]
  simp only [G_at H, zv_at H, ← EReal.coe_mul, coe_sum]
  unfold Args.dke
  rw [cr_div n.val n.isLt]
  exact congrArg _ (Finset.sum_congr rfl fun v _ => mul_comm _ _)

theorem dk_at (i : Fin 8192) (h : Fin 4) (k : Fin 128) : val_main_v186 (F := Ideal) x0 x1 x2 x5 x6 (ix2 i (kc h k)) = ((A.dk i h k : ℝ) : EReal) := by
  rw [kc_lit H]
  pointwise [val_main_v186, val_main_v175]
  rw [dke_at H, eer_at H, cr_self, ← EReal.coe_mul]
  rfl

theorem dE_at (n m : Fin 128) (h : Fin 4) (k : Fin 128) : val_main_v159 (F := Ideal) x0 x1 x2 x5 x6 (ix4 n m h k) = ((dE A h k n.val m.val : ℝ) : EReal) := by
  pointwise [val_main_v159, val_main_v158, val_main_v155, val_main_v154, val_main_v153, val_main_v90_1, val_main_v84, val_main_v83, val_main_v82, val_main_v81, val_main_v80, val_main_v79, val_main_v78, val_main_v77]
  simp only [own_at H, kv_at H, dcy_at H, ← EReal.coe_mul, coe_sum]
  rw [sge_sel, show val_main_call6_v0 (F := Ideal) (ix4 n m h k) = 0 by pointwise [val_main_call6_v0, val_main_call6_cst], ite_coe, dE]
  refine congrArg _ ?_
  by_cases e : m.val ≤ n.val
  · simp only [if_pos e]
  · simp only [if_neg e, zero_mul]

theorem ddec_at (n : Fin 128) (h : Fin 4) (k : Fin 128) : val_main_v168 (F := Ideal) x0 x1 x2 x5 x6 (ix3 n h k) = ((A.ddec n.val h k : ℝ) : EReal) := by
  unfold val_main_v168
  refine (MixCum.chunks_from _ _ _ (by pointwise [val_main_call7_call0_v0, val_main_call7_call0_cst]) n h k _).trans ?_
  have e : ∀ m : Fin 128, val_main_v167 (F := Ideal) x0 x1 x2 x5 x6 (ix3 m h k) = (((∑ l : Fin 128, -dE A h k l.val m.val) + (∑ l : Fin 128, dE A h k m.val l.val) : ℝ) : EReal) := fun m => by
    pointwise [val_main_v167, val_main_v166, val_main_v165, val_main_v164, val_main_v163, val_main_v162, val_main_v161, val_main_v160, val_main_cst_18, val_main_cst_19, val_main_cst_20, val_main_cst_21]
    simp only [dE_at H, ← EReal.coe_neg, coe_sum, ← EReal.coe_add, Finset.sum_const, Finset.card_univ, Fintype.card_fin, one_smul]
  simp only [e, ite_coe, coe_sum, ddec_fin]

theorem dlac_at (n : Fin 128) (a : Fin 64) (h : Fin 4) (k : Fin 128) : val_main_v182 (F := Ideal) x0 x1 x2 x5 x6 (ix4 n a h k)
    = ((-(A.dke (cr n.val a) h k * A.ke (cr n.val a) (kc h k)) + if a.val = 63 then A.ddec n.val h k + ∑ b : Fin 64, A.dke (cr n.val b) h k * A.ke (cr n.val b) (kc h k) else 0 : ℝ) : EReal) := by
  have e : ∀ b : Fin 64, val_main_v65 (F := Ideal) x0 (ix4 n b h k) * val_main_v173 (F := Ideal) x0 x1 x2 x5 x6 (ix4 n b h k) * val_main_v72 (F := Ideal) x0 x1 x2 (ix4 n b h k)
      = ((A.dke (cr n.val b) h k * A.ke (cr n.val b) (kc h k) : ℝ) : EReal) := fun b => by
    rw [zk_at H, dke_at H, eer_at H, ← EReal.coe_mul, ← EReal.coe_mul]
    refine congrArg _ ?_
    unfold Args.ke; ring
  pointwise [val_main_v182, val_main_v181, val_main_v180, val_main_v179, val_main_v178, val_main_v177, val_main_v176, val_main_v174, val_main_v169, val_main_cst_22, val_main_cst_23]
  simp only [e, ddec_at H, coe_sum, ← EReal.coe_add, ← EReal.coe_neg]
  have ha := a.isLt
  by_cases h1 : a.val = 63
  · rw [dif_pos ⟨by omega, by omega⟩, if_pos h1, ← EReal.coe_add]
  · rw [dif_neg (by omega), if_neg h1, ← EReal.coe_zero, ← EReal.coe_add]

theorem dla_at (i : Fin 8192) (d : Fin 512) : val_main_v184 (F := Ideal) x0 x1 x2 x5 x6 (ix2 i d) = ((A.dla i (kh d) (kl d) : ℝ) : EReal) := by
  pointwise [val_main_v184]
  unfold val_main_v183
  refine (MixCum.rows_from _ _ _ (by pointwise [val_main_call8_call0_v0, val_main_call8_call0_cst]) _ _ (kh d) (kl d) _).trans ?_
  simp only [dlac_at H, ite_coe, coe_sum]
  exact congrArg _ (dla_fin (fun b => A.dke (cr (i.val / 64) b) (kh d) (kl d) * A.ke (cr (i.val / 64) b) (kc (kh d) (kl d))) (A.ddec (i.val / 64) (kh d) (kl d)) ⟨i.val % 64, by omega⟩)

theorem soft_at (i : Fin 8192) (d : Fin 512) : val_main_v59_1 (F := Ideal) x0 x1 x2 (ix2 i d) = ((sgm (-A.pre i d) : ℝ) : EReal) := by
  have e : val_main_call0_v1_0 (F := Ideal) x0 x1 x2 (ix2 i d) = ((-lsg (A.pre i d) : ℝ) : EReal) := by
    pointwise [val_main_call0_v1_0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_v0, val_main_call0_call0_cst]
    rw [pre_at H]
    have q := lsg_soft (A.pre i d)
    rw [neg_eq_iff_eq_neg] at q
    exact q.trans (EReal.coe_neg _).symm
  pointwise [val_main_v59_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_call0_cst_0, val_main_call0_call0_cst_1, val_main_call0_call0_cst_2, val_main_call0_call0_cst_3, val_main_call0_v0]
  rw [e, pre_at H, lit_inf, ← EReal.coe_neg, if_neg (EReal.coe_ne_top _), if_neg (EReal.coe_ne_top _), ← EReal.coe_sub, Ideal.exp_coe]
  refine congrArg _ ?_
  have hp := Real.exp_pos (-A.pre i d)
  have h1 : Real.exp (A.pre i d) = (Real.exp (-A.pre i d))⁻¹ := by rw [Real.exp_neg, inv_inv]
  unfold sgm lsg
  rw [neg_neg, neg_neg, sub_eq_add_neg, Real.exp_add, Real.exp_neg (Real.log _), Real.exp_log (by linarith), h1]
  field_simp
  try ring

theorem dpre_at (i : Fin 8192) (d : Fin 512) : val_main_v192 (F := Ideal) x0 x1 x2 x5 x6 (ix2 i d) = ((A.dpre i d : ℝ) : EReal) := by
  pointwise [val_main_v192, val_main_call9_v1, val_main_call9_v0, val_main_v191, val_main_v190, val_main_cst_25]
  have e : Ideal.div ((A.dla i (kh d) (kl d) : ℝ) : EReal) ((16 : ℝ) : EReal) = ((A.dla i (kh d) (kl d) / 16 : ℝ) : EReal) := div_real _ (by norm_num)
  rw [dla_at H, soft_at H, lit_16, e, ← EReal.coe_neg, ← EReal.coe_mul, ← EReal.coe_neg]
  refine congrArg _ ?_
  have q : A.dpre i d = A.dla i (kh d) (kl d) * (1 / 16) * sgm (-A.pre i d) := by rw [Args.dpre]
  rw [q]
  generalize A.dla i (kh d) (kl d) = y
  generalize sgm (-A.pre i d) = w
  ring

theorem dbg_at (d : Fin 512) : val_main_v196 (F := Ideal) x0 x1 x2 x5 x6 (ix2 0 d) = ((A.dbg d : ℝ) : EReal) := by
  pointwise [val_main_v196, val_main_v195, val_main_v194, val_main_v193, val_main_cst_26, val_main_cst_27]
  simp only [dpre_at H, coe_sum, Finset.sum_const, Finset.card_univ, Fintype.card_fin, one_smul]
  rw [Args.dbg]

theorem dwgu_at (k : Fin 16) (d : Fin 512) : val_main_v198 (F := Ideal) x0 x1 x2 x5 x6 (ix2 k d) = ((A.dwgu ⟨k.val, by omega⟩ d : ℝ) : EReal) := by
  pointwise [val_main_v198, val_main_v197, val_main_v7]
  simp only [dpre_at H, H.z, ← EReal.coe_mul, coe_sum]
  rw [Args.dwgu]
  refine congrArg _ (Finset.sum_congr rfl fun i _ => ?_)
  rw [mul_comm]
  unfold Args.al
  rw [dif_pos k.isLt]

theorem dwgu_pad (k : Fin 128) (d : Fin 512) : val_main_v283 (F := Ideal) x0 x1 x2 x5 x6 (ix2 k d) = ((A.dwgu k d : ℝ) : EReal) := by
  pointwise [val_main_v283, val_main_call12_v0, val_main_c_54]
  simp only [dwgu_at H]
  split_ifs with h
  · rfl
  · rw [Args.dwgu, Finset.sum_eq_zero fun i _ => by rw [Args.al, dif_neg h, zero_mul]]
    show (((0#32 : BitVec 32).toInt : ℝ) : EReal) = ((0 : ℝ) : EReal)
    simp

theorem dal_at (i : Fin 8192) (k : Fin 16) : val_main_v274 (F := Ideal) x0 x1 x2 x3 x4 x5 x6 (ix2 i ⟨6144 + k.val, by omega⟩) = ((A.dal i ⟨k.val, by omega⟩ : ℝ) : EReal) := by
  have hk := k.isLt
  have e : val_main_v199 (F := Ideal) x0 x1 x2 x5 x6 (ix2 i k) = ((A.dal i ⟨k.val, by omega⟩ : ℝ) : EReal) := by
    pointwise [val_main_v199]
    simp only [dpre_at H, H.wgu, ← EReal.coe_mul, coe_sum]
    rw [Args.dal]
    refine congrArg _ (Finset.sum_congr rfl fun d _ => ?_)
    unfold Args.wg
    rw [dif_pos k.isLt]
  refine Eq.trans ?_ e
  pointwise [val_main_v274, val_main_v273, val_main_v272, val_main_v271, val_main_v270, val_main_v269, val_main_v268, val_main_v267, val_main_v266, val_main_v265, val_main_v264, val_main_v263, val_main_v262, val_main_v261, val_main_v260, val_main_cst_45, val_main_cst_46, val_main_cst_47, val_main_cst_48, val_main_cst_49, val_main_cst_50, val_main_cst_51, val_main_cst_52]
  split_ifs <;> first | (exfalso; omega) | (rename_i h; exact h.1.elim) | simp only [zero_add, add_zero]

theorem dal_pad (i : Fin 8192) (k : Fin 128) : val_main_v280 (F := Ideal) x0 x1 x2 x3 x4 x5 x6 (ix2 i k) = ((A.dal i k : ℝ) : EReal) := by
  pointwise [val_main_v280, val_main_v279, val_main_v278, val_main_call10_v0, val_main_c]
  split_ifs with h
  · exact dal_at H i ⟨k.val, h⟩
  · rw [Args.dal, Finset.sum_eq_zero fun d _ => by rw [Args.wg, dif_neg h, mul_zero]]
    show (((0#32 : BitVec 32).toInt : ℝ) : EReal) = ((0 : ℝ) : EReal)
    simp

theorem y_gla (i : Fin 8192) (h : Fin 4) (v : Fin 256) :
    val_main_v275 (F := Ideal) x0 x1 x2 x3 x4 x5 (ix2 i ⟨1024 + (vcol h v).val, by have := (vcol h v).isLt; omega⟩) = ((A.ygla i h v : ℝ) : EReal) := by
  refine Eq.trans ?_ (y_at H i h v)
  pointwise [val_main_v275, val_main_v118]

end Cert.MixRef

end
-- ==== Proof.MixClaim.lean ====
/- The mixer's value claim: under the precondition the arguments hold reals; then each result of the kernel and of the
   reference is the same real number. -/
module

public import proofs.«01_k».proof.Proof.MixRefConv
public import proofs.«01_k».proof.Proof.MixConvBwd
public import proofs.«01_k».proof.Proof.MixConvFwd
public import proofs.«01_k».proof.Proof.MixGlaBack
public import proofs.«01_k».proof.Proof.MixRefGlaBwd
public import proofs.«01_k».proof.Proof.NormClaim
public import proofs.«01_k».proof.Proof.Gen.MixerRefIdeal.Run
public import proofs.«01_k».proof.Proof.Gen.Pre_mixer_finite

@[expose] public section

set_option maxRecDepth 16384

noncomputable section

namespace Cert.MixClaim

open Idealize.ShloMosaic Idealize.SL.Sem Cert.Reals Cert.MixSpec Cert.MixerIdeal Cert.MixerIdeal.Gen Cert.MixerRun
open Cert.MixBlocks (Holds)

/-- What the precondition says: each argument is an array of reals. -/
theorem reals {x0 : FVec Ideal S8192x6160 .f32} {x1 : FVec Ideal S16x512 .f32} {x2 : FVec Ideal S1x512 .f32} {x3 : FVec Ideal S1024x3 .f32}
    {x4 : FVec Ideal S1x1024 .f32} {x5 : FVec Ideal S1x256 .f32} {x6 : FVec Ideal S8192x2048 .f32}
    (h : Cert.Pre_mixer_finite.fn (F := Ideal) x0 x1 x2 x3 x4 x5 x6 = fun _ => 1#1) :
    IsReal x0 ∧ IsReal x1 ∧ IsReal x2 ∧ IsReal x3 ∧ IsReal x4 ∧ IsReal x5 ∧ IsReal x6 := by
  have h' := congrFun h (fun a => a.elim0)
  have hs : Subsingleton (Cert.Pre_mixer_finite.S_).Idx := ⟨fun a b => funext fun i => i.elim0⟩
  have h5 := andi_left h'
  have h4 := andi_left h5
  have h3 := andi_left h4
  have h2 := andi_left h3
  have h1 := andi_left h2
  exact ⟨isReal_of_finite _ _ _ _ _ _ (fun i => lit_top) (andi_left h1), isReal_of_finite _ _ _ _ _ _ (fun i => lit_top) (andi_right h1),
    isReal_of_finite _ _ _ _ _ _ (fun i => lit_top) (andi_right h2), isReal_of_finite _ _ _ _ _ _ (fun i => lit_top) (andi_right h3),
    isReal_of_finite _ _ _ _ _ _ (fun i => lit_top) (andi_right h4), isReal_of_finite _ _ _ _ _ _ (fun i => lit_top) (andi_right h5),
    isReal_of_finite _ _ _ _ _ _ (fun i => lit_top) (andi_right h')⟩

/-- The arguments' reals. -/
theorem holds_of {m : (ℓ : Loc nD τ sig) → Buf (Elt Ideal) ℓ} (h : Cert.Pre_MixerIdeal_mixer_finite m) (c : Dev nD) : ∃ A : Args, Holds m c A := by
  obtain ⟨⟨X0, h0⟩, ⟨X1, h1⟩, ⟨X2, h2⟩, ⟨X3, h3⟩, ⟨X4, h4⟩, ⟨X5, h5⟩, ⟨X6, h6⟩⟩ := reals (h c)
  exact ⟨⟨fun i j => X0 (ix2 i j), fun i j => X1 (ix2 i j), fun j => X2 (ix2 0 j), fun i j => X3 (ix2 i j), fun j => X4 (ix2 0 j),
    fun j => X5 (ix2 0 j), fun i j => X6 (ix2 i j)⟩, ⟨fun i j => congrFun h0 _, fun i j => congrFun h1 _, fun j => congrFun h2 _, fun i j => congrFun h3 _,
    fun j => congrFun h4 _, fun j => congrFun h5 _, fun i j => congrFun h6 _⟩⟩

/-- The reference's arguments hold the same reals. -/
theorem ref_in {m : (ℓ : Loc nD τ sig) → Buf (Elt Ideal) ℓ} {m' : (ℓ : Loc MixerRefIdeal.nD MixerRefIdeal.τ MixerRefIdeal.sig) → Buf (Elt Ideal) ℓ} {c : Dev nD}
    {A : Args} (H : Holds m c A)
    (h : m' ((c.tc : Thread MixerRefIdeal.nD MixerRefIdeal.τ).loc MixerRefIdeal.main_arg0) = m ((c.tc : Thread nD τ).loc main_arg0)
      ∧ m' ((c.tc : Thread MixerRefIdeal.nD MixerRefIdeal.τ).loc MixerRefIdeal.main_arg1) = m ((c.tc : Thread nD τ).loc main_arg1)
      ∧ m' ((c.tc : Thread MixerRefIdeal.nD MixerRefIdeal.τ).loc MixerRefIdeal.main_arg2) = m ((c.tc : Thread nD τ).loc main_arg2)
      ∧ m' ((c.tc : Thread MixerRefIdeal.nD MixerRefIdeal.τ).loc MixerRefIdeal.main_arg3) = m ((c.tc : Thread nD τ).loc main_arg3)
      ∧ m' ((c.tc : Thread MixerRefIdeal.nD MixerRefIdeal.τ).loc MixerRefIdeal.main_arg4) = m ((c.tc : Thread nD τ).loc main_arg4)
      ∧ m' ((c.tc : Thread MixerRefIdeal.nD MixerRefIdeal.τ).loc MixerRefIdeal.main_arg5) = m ((c.tc : Thread nD τ).loc main_arg5)
      ∧ m' ((c.tc : Thread MixerRefIdeal.nD MixerRefIdeal.τ).loc MixerRefIdeal.main_arg6) = m ((c.tc : Thread nD τ).loc main_arg6)) :
    MixRef.In A (StableHlo.launchContents m' c (Proc.devRef .tc MixerRefIdeal.main_arg0)) (StableHlo.launchContents m' c (Proc.devRef .tc MixerRefIdeal.main_arg1))
      (StableHlo.launchContents m' c (Proc.devRef .tc MixerRefIdeal.main_arg2)) (StableHlo.launchContents m' c (Proc.devRef .tc MixerRefIdeal.main_arg3))
      (StableHlo.launchContents m' c (Proc.devRef .tc MixerRefIdeal.main_arg4)) (StableHlo.launchContents m' c (Proc.devRef .tc MixerRefIdeal.main_arg5))
      (StableHlo.launchContents m' c (Proc.devRef .tc MixerRefIdeal.main_arg6)) := by
  obtain ⟨a0, a1, a2, a3, a4, a5, a6⟩ := h
  exact ⟨fun i j => (congrFun a0 _).trans (H.z i j), fun i j => (congrFun a1 _).trans (H.wgu i j), fun j => (congrFun a2 _).trans (H.bg j),
    fun i j => (congrFun a3 _).trans (H.cw i j), fun j => (congrFun a4 _).trans (H.cg j), fun j => (congrFun a5 _).trans (H.gg j),
    fun i j => (congrFun a6 _).trans (H.dy i j)⟩

section Columns

variable {x0 : FVec Ideal S8192x6160 .f32} {x1 : FVec Ideal S16x512 .f32} {x2 : FVec Ideal S1x512 .f32} {x3 : FVec Ideal S1024x3 .f32}
  {x4 : FVec Ideal S1x1024 .f32} {x5 : FVec Ideal S1x256 .f32} {x6 : FVec Ideal S8192x2048 .f32}
  {m : (ℓ : Loc nD τ sig) → Buf (Elt Ideal) ℓ} {c : Dev nD} {A : Args}

/-- The projected input's gradient: its columns are the convolution's three parts, then the attention's queries, keys, values and output gate. -/
theorem dz_same (R : MixRef.In A x0 x1 x2 x3 x4 x5 x6) (H : Holds m c A) (i : Fin 8192) (j : Fin 6144) :
    MixerRefIdeal.Read.val_main_v277 (F := Ideal) x0 x1 x2 x3 x4 x5 x6 (ix2 i j)
      = (MixerBwd.left (U7 m) c (MixArr.pt i).val (MixArr.pt i).isLt).dz (ix2 (MixArr.pl i) j) := by
  have hj := j.isLt
  by_cases h0 : j.val < 3072
  · refine Eq.trans ?_ (MixConvBwd.dz_conv H i ⟨j.val, h0⟩).symm
    unfold Args.dzc
    split_ifs with g0 g1
    · exact (MixRef.dz_cb i ⟨j.val, g0⟩).trans (MixRef.dcb_at R i ⟨j.val, g0⟩)
    · dsimp only at g0 g1
      obtain ⟨d, hd, rfl⟩ : ∃ (d : Fin 1024) (hd : 1024 + d.val < 6144), j = ⟨1024 + d.val, hd⟩ := ⟨⟨j.val - 1024, by omega⟩, by simp only; omega, Fin.ext (by simp only; omega)⟩
      refine ((MixRef.dz_cc i d).trans (MixRef.dcc_at R i _)).trans ?_
      simp only [Nat.add_sub_cancel_left]
    · dsimp only at g0 g1
      obtain ⟨d, hd, rfl⟩ : ∃ (d : Fin 1024) (hd : 2048 + d.val < 6144), j = ⟨2048 + d.val, hd⟩ := ⟨⟨j.val - 2048, by omega⟩, by simp only; omega, Fin.ext (by simp only; omega)⟩
      refine ((MixRef.dz_ch i d).trans (MixRef.dch_at R i _)).trans ?_
      simp only [Nat.add_sub_cancel_left]
  by_cases h1 : j.val < 3584
  · obtain ⟨d, hd, rfl⟩ : ∃ (d : Fin 512) (hd : 3072 + d.val < 6144), j = ⟨3072 + d.val, hd⟩ := ⟨⟨j.val - 3072, by omega⟩, by simp only; omega, Fin.ext (by simp only; omega)⟩
    have f := MixRef.dq_at R i (MixGla.kh d) (MixGla.kl d)
    have e := MixGlaBwd.dz_q H i (MixGla.kh d) (MixGla.kl d)
    rw [MixGla.kc_kh] at f
    simp only [MixGla.kc_kh] at e
    exact (MixRef.dz_q i d).trans (f.trans e.symm)
  by_cases h2 : j.val < 4096
  · obtain ⟨d, hd, rfl⟩ : ∃ (d : Fin 512) (hd : 3584 + d.val < 6144), j = ⟨3584 + d.val, hd⟩ := ⟨⟨j.val - 3584, by omega⟩, by simp only; omega, Fin.ext (by simp only; omega)⟩
    have f := MixRef.dk_at R i (MixGla.kh d) (MixGla.kl d)
    rw [MixGla.kc_kh] at f
    exact (MixRef.dz_k i d).trans (f.trans (MixGlaBwd.dz_k H i d).symm)
  by_cases h3 : j.val < 5120
  · obtain ⟨d, hd, rfl⟩ : ∃ (d : Fin 1024) (hd : 4096 + d.val < 6144), j = ⟨4096 + d.val, hd⟩ := ⟨⟨j.val - 4096, by omega⟩, by simp only; omega, Fin.ext (by simp only; omega)⟩
    have f := MixRef.dv_at R i (MixGla.vh d) (MixGla.vl d)
    have e := MixGlaBwd.dz_v H i (MixGla.vh d) (MixGla.vl d)
    rw [MixGla.vcol_vh] at f
    simp only [MixGla.vcol_vh] at e
    exact (MixRef.dz_v i d).trans (f.trans e.symm)
  · obtain ⟨d, hd, rfl⟩ : ∃ (d : Fin 1024) (hd : 5120 + d.val < 6144), j = ⟨5120 + d.val, hd⟩ := ⟨⟨j.val - 5120, by omega⟩, by simp only; omega, Fin.ext (by simp only; omega)⟩
    have f := MixRef.dog_at R i (MixGla.vh d) (MixGla.vl d)
    have e := MixGlaBwd.dz_o H i (MixGla.vh d) (MixGla.vl d)
    rw [MixGla.vcol_vh] at f
    simp only [MixGla.vcol_vh] at e
    exact (MixRef.dz_og i d).trans (f.trans e.symm)

end Columns

set_option maxHeartbeats 2000000 in
theorem holds : Cert.algebraic_MixerIdeal_MixerRefIdeal_pre_mixer_finite := by
  intro m g m' g' hpre hagree
  refine ⟨fun c => (MixerFwd.dat (U6 m) c).arrAt 13 cfg0.N, fun c => (MixerBwd.dat (U7 m) c).arrAt 18 cfg1.N, fun c => (MixerBwd.dat (U7 m) c).arrAt 19 cfg1.N,
    fun c => (MixerBwd.dat (U7 m) c).arrAt 20 cfg1.N, fun c => (MixerBwd.dat (U7 m) c).arrAt 21 cfg1.N, fun c => (MixerBwd.dat (U7 m) c).arrAt 22 cfg1.N,
    fun c => (MixerBwd.dat (U7 m) c).arrAt 23 cfg1.N, fun c => (MixerBwd.dat (U7 m) c).arrAt 24 cfg1.N,
    (θ_run _ _ _).mono (fun r h c => ?_) (MixerRun.values m g), (θ_run _ _ _).mono (fun r h c => ?_) (MixerRefIdeal.Value.run m' g')⟩
  · exact h c
  · obtain ⟨h0, h1, h2, h3, h4, h5, h6, h7, ha⟩ := h c
    obtain ⟨A, H⟩ := holds_of hpre c
    have R := ref_in H (hagree c)
    refine ⟨funext fun i => ?_, funext fun i => ?_, funext fun i => ?_, funext fun i => ?_, funext fun i => ?_, funext fun i => ?_, funext fun i => ?_, funext fun i => ?_, ha⟩
    · refine (congrFun h0 i).trans ?_
      beta_reduce
      rw [MixerRefIdeal.Read.val_main_v275_eq, MixConvFwd.arr_y]
      idx_vars i
      by_cases hj : i1.val < 1024
      · have e := MixConvFwd.y_conv H i0 (grp ⟨i1.val, hj⟩) (lane ⟨i1.val, hj⟩)
        have f := (MixRef.y_conv (x1 := StableHlo.launchContents m' c (Proc.devRef .tc MixerRefIdeal.main_arg1)) (x2 := StableHlo.launchContents m' c (Proc.devRef .tc MixerRefIdeal.main_arg2)) (x5 := StableHlo.launchContents m' c (Proc.devRef .tc MixerRefIdeal.main_arg5)) i0 ⟨i1.val, hj⟩).trans ((col_grp ⟨i1.val, hj⟩) ▸ MixRef.yconv_at R i0 (grp ⟨i1.val, hj⟩) (lane ⟨i1.val, hj⟩))
        simp only [col_grp] at e f
        exact f.trans e.symm
      · have hi := i1.isLt
        have e := MixGlaFwd.y_gla H i0 (MixGla.vh ⟨i1.val - 1024, by omega⟩) (MixGla.vl ⟨i1.val - 1024, by omega⟩)
        have f := MixRef.y_gla R i0 (MixGla.vh ⟨i1.val - 1024, by omega⟩) (MixGla.vl ⟨i1.val - 1024, by omega⟩)
        have q : (⟨1024 + (MixGla.vcol (MixGla.vh ⟨i1.val - 1024, by omega⟩) (MixGla.vl ⟨i1.val - 1024, by omega⟩)).val,
            by have := (MixGla.vcol (MixGla.vh ⟨i1.val - 1024, by omega⟩) (MixGla.vl ⟨i1.val - 1024, by omega⟩)).isLt; omega⟩ : Fin 2048) = i1 := Fin.ext (by have hq := congrArg Fin.val (MixGla.vcol_vh ⟨i1.val - 1024, by omega⟩); dsimp only at hq ⊢; omega)
        rw [q] at e f
        exact f.trans e.symm
    · refine (congrFun h1 i).trans ?_
      beta_reduce
      rw [MixerRefIdeal.Read.val_main_v277_eq, MixArr.arr_dz]
      idx_vars i
      exact dz_same R H i0 i1
    · refine (congrFun h2 i).trans ?_
      beta_reduce
      rw [MixerRefIdeal.Read.val_main_v280_eq, MixArr.arr_dzal]
      idx_vars i
      exact (MixRef.dal_pad R i0 i1).trans (MixGlaBwd.dal_at H i0 i1).symm
    · refine (congrFun h3 i).trans ?_
      beta_reduce
      rw [MixerRefIdeal.Read.val_main_v282_eq, MixArr.arr_dcw]
      idx_vars i
      exact (MixRef.dtap_pad R i0 i1).trans (MixConvBwd.dcw_at H i0 i1).symm
    · refine (congrFun h4 i).trans ?_
      beta_reduce
      rw [MixerRefIdeal.Read.val_main_v206_eq, MixArr.arr_dcg]
      idx_vars i
      have e := MixConvBwd.dcg_at H (grp i1) (lane i1)
      have f := MixRef.dgain_at R (grp i1) (lane i1)
      rw [col_grp] at e f
      rw [show i0 = 0 from Subsingleton.elim _ _]
      exact f.trans e.symm
    · refine (congrFun h5 i).trans ?_
      beta_reduce
      rw [MixerRefIdeal.Read.val_main_v132_eq, MixArr.arr_dgg]
      idx_vars i
      rw [show i0 = 0 from Subsingleton.elim _ _]
      exact (MixRef.dgg_at R i1).trans (MixGlaBwd.dgg_all H i1).symm
    · refine (congrFun h6 i).trans ?_
      beta_reduce
      rw [MixerRefIdeal.Read.val_main_v196_eq, MixArr.arr_dbg]
      idx_vars i
      rw [show i0 = 0 from Subsingleton.elim _ _]
      exact (MixRef.dbg_at R i1).trans (MixGlaBwd.dbg_all H i1).symm
    · refine (congrFun h7 i).trans ?_
      beta_reduce
      rw [MixerRefIdeal.Read.val_main_v283_eq, MixArr.arr_dwgu]
      idx_vars i
      exact (MixRef.dwgu_pad R i0 i1).trans (MixGlaBwd.dwgu_all H i0 i1).symm

/-- The reference's frame: it is straight host code and owns no semaphore. -/
theorem ref_frame : Cert.quiescent_MixerRefIdeal := fun m ρ _ =>
  (θ_run Cert.MixerRefIdeal.defs _ _).mono (fun r h => ⟨fun c => (h c).2.2.2.2.2.2.2.2, sem_eq_zero_of_no_sems (by decide) r.2⟩)
    (Cert.MixerRefIdeal.Value.run m ρ)

end Cert.MixClaim

end
-- ==== Proof.lean ====
module

public import proofs.«01_k».proof.Defs
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.Pre_norm_finite
public import proofs.«01_k».proof.Proof.Gen.Pre_loss_finite
public import proofs.«01_k».proof.Proof.Gen.Pre_normdy_finite
public import proofs.«01_k».proof.Proof.Gen.NormIdeal.Value
public import proofs.«01_k».proof.Proof.Gen.NormRefIdeal.Run
public import proofs.«01_k».proof.Proof.Gen.NormRefIdeal.Read
public import proofs.«01_k».proof.Proof.Gen.LossIdeal.Value
public import proofs.«01_k».proof.Proof.Gen.LossRefIdeal.Run
public import proofs.«01_k».proof.Proof.Gen.LossRefIdeal.Read
public import proofs.«01_k».proof.Proof.Gen.NormDyIdeal.Value
public import proofs.«01_k».proof.Proof.Gen.NormDyRefIdeal.Run
public import proofs.«01_k».proof.Proof.Gen.NormDyRefIdeal.Read
public import proofs.«01_k».proof.Proof.Gen.Dff2Ideal.Value
public import proofs.«01_k».proof.Proof.Gen.Dff2RefIdeal.Run
public import proofs.«01_k».proof.Proof.Gen.Dff2RefIdeal.Read
public import proofs.«01_k».proof.Proof.Gen.Dw2Ideal.Value
public import proofs.«01_k».proof.Proof.Gen.Dw2RefIdeal.Run
public import proofs.«01_k».proof.Proof.Gen.Dw2RefIdeal.Read
public import proofs.«01_k».proof.Proof.Gen.Loss.Frame
public import proofs.«01_k».proof.Proof.Gen.NormDy.Frame
public import proofs.«01_k».proof.Proof.Gen.Dff2.Frame
public import proofs.«01_k».proof.Proof.Gen.Dw2.Frame
public import proofs.«01_k».proof.Proof.Gen.Mixer
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Regions
public import proofs.«01_k».proof.Proof.Gen.MixerRefIdeal.Run
public import proofs.«01_k».proof.Proof.Gen.MixerRefIdeal.Read
public import proofs.«01_k».proof.Proof.Gen.Pre_mixer_finite
public import proofs.«01_k».proof.Proof.Gen.Rms.Frame
public import proofs.«01_k».proof.Proof.Gen.RmsIdeal.Frame
public import proofs.«01_k».proof.Proof.Gen.RmsIdeal.Value
public import proofs.«01_k».proof.Proof.Gen.RmsRefIdeal.Run
public import proofs.«01_k».proof.Proof.Gen.RmsRefIdeal.Read
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.Ff2.Frame
public import proofs.«01_k».proof.Proof.Gen.Ff2Ideal.Frame
public import proofs.«01_k».proof.Proof.Gen.Ff2Ideal.Value
public import proofs.«01_k».proof.Proof.Gen.Ff2RefIdeal.Run
public import proofs.«01_k».proof.Proof.Gen.Ff2RefIdeal.Read
public import proofs.«01_k».proof.Proof.Gen.Ff1.Frame
public import proofs.«01_k».proof.Proof.Gen.Ff1Ideal.Frame
public import proofs.«01_k».proof.Proof.Gen.Ff1Ideal.Value
public import proofs.«01_k».proof.Proof.Gen.Ff1RefIdeal.Run
public import proofs.«01_k».proof.Proof.Gen.Ff1RefIdeal.Read
public import proofs.«01_k».proof.Proof.Gen.Dh.Frame
public import proofs.«01_k».proof.Proof.Gen.DhIdeal.Frame
public import proofs.«01_k».proof.Proof.Gen.DhIdeal.Value
public import proofs.«01_k».proof.Proof.Gen.DhRefIdeal.Run
public import proofs.«01_k».proof.Proof.Gen.DhRefIdeal.Read
public import proofs.«01_k».proof.Proof.Gen.AdamWIn.Frame
public import proofs.«01_k».proof.Proof.Gen.AdamWInIdeal.Frame
public import proofs.«01_k».proof.Proof.Gen.AdamWInIdeal.Value
public import proofs.«01_k».proof.Proof.Gen.AdamWInRefIdeal.Run
public import proofs.«01_k».proof.Proof.Gen.AdamWInRefIdeal.Read
public import proofs.«01_k».proof.Proof.Gen.SumParts.Frame
public import proofs.«01_k».proof.Proof.Gen.SumPartsIdeal.Frame
public import proofs.«01_k».proof.Proof.Gen.SumPartsIdeal.Value
public import proofs.«01_k».proof.Proof.Gen.SumPartsRefIdeal.Run
public import proofs.«01_k».proof.Proof.Gen.SumPartsRefIdeal.Read
public import proofs.«01_k».proof.Proof.Gen.ToCols.Frame
public import proofs.«01_k».proof.Proof.Gen.ToColsIdeal.Frame
public import proofs.«01_k».proof.Proof.Gen.ToColsIdeal.Value
public import proofs.«01_k».proof.Proof.Gen.ToColsRefIdeal.Run
public import proofs.«01_k».proof.Proof.Gen.ToColsRefIdeal.Read
public import proofs.«01_k».proof.Proof.Gen.ToShards.Frame
public import proofs.«01_k».proof.Proof.Gen.ToShardsIdeal.Frame
public import proofs.«01_k».proof.Proof.Gen.ToShardsIdeal.Value
public import proofs.«01_k».proof.Proof.Gen.ToShardsRefIdeal.Run
public import proofs.«01_k».proof.Proof.Gen.ToShardsRefIdeal.Read
public import proofs.«01_k».proof.Proof.Gen.AdamSmallA.Frame
public import proofs.«01_k».proof.Proof.Gen.AdamSmallAIdeal.Frame
public import proofs.«01_k».proof.Proof.Gen.AdamSmallAIdeal.Value
public import proofs.«01_k».proof.Proof.Gen.AdamSmallARefIdeal.Run
public import proofs.«01_k».proof.Proof.Gen.AdamSmallARefIdeal.Read
public import proofs.«01_k».proof.Proof.Gen.AdamSmallB.Frame
public import proofs.«01_k».proof.Proof.Gen.AdamSmallBIdeal.Frame
public import proofs.«01_k».proof.Proof.Gen.AdamSmallBIdeal.Value
public import proofs.«01_k».proof.Proof.Gen.AdamSmallBRefIdeal.Run
public import proofs.«01_k».proof.Proof.Gen.AdamSmallBRefIdeal.Read
public import proofs.«01_k».proof.Proof.Gen.Du.Frame
public import proofs.«01_k».proof.Proof.Gen.DuIdeal.Frame
public import proofs.«01_k».proof.Proof.Gen.DuIdeal.Value
public import proofs.«01_k».proof.Proof.Gen.DuRefIdeal.Run
public import proofs.«01_k».proof.Proof.Gen.DuRefIdeal.Read
public import proofs.«01_k».proof.Proof.NormClaim
public import proofs.«01_k».proof.Proof.LossClaim
public import proofs.«01_k».proof.Proof.NormDyClaim
public import proofs.«01_k».proof.Proof.Dff2Claim
public import proofs.«01_k».proof.Proof.Dw2Claim
public import proofs.«01_k».proof.Proof.RmsClaim
public import proofs.«01_k».proof.Proof.OutProjClaim
public import proofs.«01_k».proof.Proof.Ff2Claim
public import proofs.«01_k».proof.Proof.Ff1Claim
public import proofs.«01_k».proof.Proof.DhClaim
public import proofs.«01_k».proof.Proof.AdamWInClaim
public import proofs.«01_k».proof.Proof.SumPartsClaim
public import proofs.«01_k».proof.Proof.ToColsClaim
public import proofs.«01_k».proof.Proof.ToShardsClaim
public import proofs.«01_k».proof.Proof.AdamSmallAClaim
public import proofs.«01_k».proof.Proof.AdamSmallBClaim
public import proofs.«01_k».proof.Proof.DuClaim
public import proofs.«01_k».proof.Proof.MixRun
public import proofs.«01_k».proof.Proof.MixClaim
public import Idealize.ShloMosaic.Adequacy
public import Idealize.ShloMosaic.Init

@[expose] public section

noncomputable section

-- Each frame also says that every semaphore counter ends at zero.

namespace Cert.Proof

open Idealize.ShloMosaic Idealize.SL.Sem

/-- The mixer's frame at machine words, of the ideal reading's text. -/
def MixerFrame : Prop := ∀ (m : (ℓ : Loc Cert.MixerIdeal.nD Cert.MixerIdeal.τ Cert.MixerIdeal.sig) → Buf (Elt Bits) ℓ) (g : Dev Cert.MixerIdeal.nD → PrngReg), True →
    θ_run (Cert.MixerIdeal.defs (F := Bits)) (onTc (τ := Cert.MixerIdeal.τ) (Cert.MixerIdeal.main (F := Bits))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ r.2.sem = fun _ => 0)

/-- The printed mixer program and its ideal reading have one text, so their frames at machine words are one statement. -/
theorem mixer_text : Cert.quiescent_Mixer (hMixer := Cert.Mixer.Gen.facts) = MixerFrame := by sl_kernel_rfl

theorem mixer_frame : Cert.quiescent_Mixer (hMixer := Cert.Mixer.Gen.facts) :=
  mixer_text.mpr fun m ρ _ => Cert.MixerRun.frame (F := Bits) m ρ

theorem claim : Cert.Claim := ⟨Cert.Norm.Gen.facts, Cert.NormIdeal.Gen.facts, Cert.NormRefIdeal.Gen.facts,
  Cert.Loss.Gen.facts, Cert.LossIdeal.Gen.facts, Cert.LossRefIdeal.Gen.facts,
  Cert.NormDy.Gen.facts, Cert.NormDyIdeal.Gen.facts, Cert.NormDyRefIdeal.Gen.facts,
  Cert.Dff2.Gen.facts, Cert.Dff2Ideal.Gen.facts, Cert.Dff2RefIdeal.Gen.facts,
  Cert.Dw2.Gen.facts, Cert.Dw2Ideal.Gen.facts, Cert.Dw2RefIdeal.Gen.facts,
  Cert.Mixer.Gen.facts, Cert.MixerIdeal.Gen.facts, Cert.MixerRefIdeal.Gen.facts,
  Cert.Rms.Gen.facts, Cert.RmsIdeal.Gen.facts, Cert.RmsRefIdeal.Gen.facts,
  Cert.OutProj.Gen.facts, Cert.OutProjIdeal.Gen.facts, Cert.OutProjRefIdeal.Gen.facts,
  Cert.Ff2.Gen.facts, Cert.Ff2Ideal.Gen.facts, Cert.Ff2RefIdeal.Gen.facts,
  Cert.Ff1.Gen.facts, Cert.Ff1Ideal.Gen.facts, Cert.Ff1RefIdeal.Gen.facts,
  Cert.Dh.Gen.facts, Cert.DhIdeal.Gen.facts, Cert.DhRefIdeal.Gen.facts,
  Cert.AdamWIn.Gen.facts, Cert.AdamWInIdeal.Gen.facts, Cert.AdamWInRefIdeal.Gen.facts,
  Cert.SumParts.Gen.facts, Cert.SumPartsIdeal.Gen.facts, Cert.SumPartsRefIdeal.Gen.facts,
  Cert.ToCols.Gen.facts, Cert.ToColsIdeal.Gen.facts, Cert.ToColsRefIdeal.Gen.facts,
  Cert.ToShards.Gen.facts, Cert.ToShardsIdeal.Gen.facts, Cert.ToShardsRefIdeal.Gen.facts,
  Cert.AdamSmallA.Gen.facts, Cert.AdamSmallAIdeal.Gen.facts, Cert.AdamSmallARefIdeal.Gen.facts,
  Cert.AdamSmallB.Gen.facts, Cert.AdamSmallBIdeal.Gen.facts, Cert.AdamSmallBRefIdeal.Gen.facts,
  Cert.Du.Gen.facts, Cert.DuIdeal.Gen.facts, Cert.DuRefIdeal.Gen.facts,
  Cert.Pre_norm_finite.Gen.facts, Cert.Pre_loss_finite.Gen.facts, Cert.Pre_normdy_finite.Gen.facts, Cert.Pre_mixer_finite.Gen.facts,
  fun m ρ _ => Cert.Norm.Gen.frame m ρ, fun m ρ _ => Cert.NormIdeal.Gen.frame m ρ, fun m ρ _ => Cert.NormIdeal.Gen.frame m ρ, NormClaim.ref_frame, fun m ρ _ => NormClaim.ref_frame m ρ trivial,
  fun m ρ _ => Cert.Loss.Gen.frame m ρ, fun m ρ _ => Cert.LossIdeal.Gen.frame m ρ, fun m ρ _ => Cert.LossIdeal.Gen.frame m ρ, LossClaim.ref_frame, fun m ρ _ => LossClaim.ref_frame m ρ trivial,
  fun m ρ _ => Cert.NormDy.Gen.frame m ρ, fun m ρ _ => Cert.NormDyIdeal.Gen.frame m ρ, fun m ρ _ => Cert.NormDyIdeal.Gen.frame m ρ, NormDyClaim.ref_frame, fun m ρ _ => NormDyClaim.ref_frame m ρ trivial,
  fun m ρ _ => Cert.Dff2.Gen.frame m ρ, fun m ρ _ => Cert.Dff2Ideal.Gen.frame m ρ, Dff2Claim.ref_frame,
  fun m ρ _ => Cert.Dw2.Gen.frame m ρ, fun m ρ _ => Cert.Dw2Ideal.Gen.frame m ρ, Dw2Claim.ref_frame,
  mixer_frame, fun m ρ _ => Cert.MixerRun.frame m ρ, fun m ρ _ => Cert.MixerRun.frame m ρ, MixClaim.ref_frame, fun m ρ _ => MixClaim.ref_frame m ρ trivial,
  fun m ρ _ => Cert.Rms.Gen.frame m ρ, fun m ρ _ => Cert.RmsIdeal.Gen.frame m ρ, RmsClaim.ref_frame,
  fun m ρ _ => Cert.OutProj.Gen.frame m ρ, fun m ρ _ => Cert.OutProjIdeal.Gen.frame m ρ, OutProjClaim.ref_frame,
  fun m ρ _ => Cert.Ff2.Gen.frame m ρ, fun m ρ _ => Cert.Ff2Ideal.Gen.frame m ρ, Ff2Claim.ref_frame,
  fun m ρ _ => Cert.Ff1.Gen.frame m ρ, fun m ρ _ => Cert.Ff1Ideal.Gen.frame m ρ, Ff1Claim.ref_frame,
  fun m ρ _ => Cert.Dh.Gen.frame m ρ, fun m ρ _ => Cert.DhIdeal.Gen.frame m ρ, DhClaim.ref_frame,
  fun m ρ _ => Cert.AdamWIn.Gen.frame m ρ, fun m ρ _ => Cert.AdamWInIdeal.Gen.frame m ρ, AdamWInClaim.ref_frame,
  fun m ρ _ => Cert.SumParts.Gen.frame m ρ, fun m ρ _ => Cert.SumPartsIdeal.Gen.frame m ρ, SumPartsClaim.ref_frame,
  fun m ρ _ => Cert.ToCols.Gen.frame m ρ, fun m ρ _ => Cert.ToColsIdeal.Gen.frame m ρ, ToColsClaim.ref_frame,
  fun m ρ _ => Cert.ToShards.Gen.frame m ρ, fun m ρ _ => Cert.ToShardsIdeal.Gen.frame m ρ, ToShardsClaim.ref_frame,
  fun m ρ _ => Cert.AdamSmallA.Gen.frame m ρ, fun m ρ _ => Cert.AdamSmallAIdeal.Gen.frame m ρ, AdamSmallAClaim.ref_frame,
  fun m ρ _ => Cert.AdamSmallB.Gen.frame m ρ, fun m ρ _ => Cert.AdamSmallBIdeal.Gen.frame m ρ, AdamSmallBClaim.ref_frame,
  fun m ρ _ => Cert.Du.Gen.frame m ρ, fun m ρ _ => Cert.DuIdeal.Gen.frame m ρ, DuClaim.ref_frame,
  trivial, NormClaim.holds,
  trivial, LossClaim.holds,
  trivial, NormDyClaim.holds,
  trivial, Dff2Claim.holds,
  trivial, Dw2Claim.holds,
  trivial, MixClaim.holds,
  trivial, RmsClaim.holds,
  trivial, OutProjClaim.holds,
  trivial, Ff2Claim.holds,
  trivial, Ff1Claim.holds,
  trivial, DhClaim.holds,
  trivial, AdamWInClaim.holds,
  trivial, SumPartsClaim.holds,
  trivial, ToColsClaim.holds,
  trivial, ToShardsClaim.holds,
  trivial, AdamSmallAClaim.holds,
  trivial, AdamSmallBClaim.holds,
  trivial, DuClaim.holds⟩

end Cert.Proof

end
